-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x12288 : Shape := ⟨3, ![2, 1024, 12288]⟩
abbrev S2x1024 : Shape := ⟨2, ![2, 1024]⟩
abbrev S256x12288 : Shape := ⟨2, ![256, 12288]⟩
abbrev S256 : Shape := ⟨1, ![256]⟩
abbrev S2x1024x8 : Shape := ⟨3, ![2, 1024, 8]⟩
abbrev S2048x12288 : Shape := ⟨2, ![2048, 12288]⟩
abbrev S1x256 : Shape := ⟨2, ![1, 256]⟩
abbrev S2x8x1024 : Shape := ⟨3, ![2, 8, 1024]⟩
abbrev S2048x256 : Shape := ⟨2, ![2048, 256]⟩
abbrev S256x128 : Shape := ⟨2, ![256, 128]⟩
abbrev S4x256x128 : Shape := ⟨3, ![4, 256, 128]⟩
abbrev S48 : Shape := ⟨1, ![48]⟩
abbrev S12 : Shape := ⟨1, ![12]⟩
abbrev S3 : Shape := ⟨1, ![3]⟩
abbrev S4 : Shape := ⟨1, ![4]⟩
abbrev S16 : Shape := ⟨1, ![16]⟩
abbrev S1 : Shape := ⟨1, ![1]⟩
abbrev S_ : Shape := ⟨0, ![]⟩
abbrev S512x1024 : Shape := ⟨2, ![512, 1024]⟩
abbrev S256x1024 : Shape := ⟨2, ![256, 1024]⟩
abbrev S1x128 : Shape := ⟨2, ![1, 128]⟩
abbrev S128x128 : Shape := ⟨2, ![128, 128]⟩
abbrev S256x256 : Shape := ⟨2, ![256, 256]⟩
abbrev S64x128 : Shape := ⟨2, ![64, 128]⟩
abbrev S1x1x128 : Shape := ⟨3, ![1, 1, 128]⟩
abbrev S64 : Shape := ⟨1, ![64]⟩
abbrev S64x1 : Shape := ⟨2, ![64, 1]⟩
abbrev S1x256x128 : Shape := ⟨3, ![1, 256, 128]⟩
abbrev S128 : Shape := ⟨1, ![128]⟩
abbrev S128x256 : Shape := ⟨2, ![128, 256]⟩

abbrev nBuf : Space → Nat
  | .hbm => 13
  | .vmem => 15
  | .smem => 0
  | _ => 0

abbrev bufTy : (tb : Table) → Fin (tcTables nBuf tb) → BufTy
  | .hbm, ⟨0, _⟩ => ⟨S2x1024x12288, .fp8e4m3⟩
  | .hbm, ⟨1, _⟩ => ⟨S2x1024, .f32⟩
  | .hbm, ⟨2, _⟩ => ⟨S256x12288, .i8⟩
  | .hbm, ⟨3, _⟩ => ⟨S256, .f32⟩
  | .hbm, ⟨4, _⟩ => ⟨S2x1024x8, .i32⟩
  | .hbm, ⟨5, _⟩ => ⟨S2048x12288, .fp8e4m3⟩
  | .hbm, ⟨6, _⟩ => ⟨S1x256, .f32⟩
  | .hbm, ⟨7, _⟩ => ⟨S2x8x1024, .i32⟩
  | .hbm, ⟨8, _⟩ => ⟨S2x1024, .f32⟩
  | .hbm, ⟨9, _⟩ => ⟨S2x1024, .f32⟩
  | .hbm, ⟨10, _⟩ => ⟨S1x256, .f32⟩
  | .hbm, ⟨11, _⟩ => ⟨S2x1024, .f32⟩
  | .hbm, ⟨12, _⟩ => ⟨S2048x256, .f32⟩
  | .local _ .vmem, ⟨0, _⟩ => ⟨S2048x12288, .fp8e4m3⟩
  | .local _ .vmem, ⟨1, _⟩ => ⟨S256x12288, .i8⟩
  | .local _ .vmem, ⟨2, _⟩ => ⟨S2x1024, .f32⟩
  | .local _ .vmem, ⟨3, _⟩ => ⟨S1x256, .f32⟩
  | .local _ .vmem, ⟨4, _⟩ => ⟨S2x8x1024, .i32⟩
  | .local _ .vmem, ⟨5, _⟩ => ⟨S256x128, .f32⟩
  | .local _ .vmem, ⟨6, _⟩ => ⟨S256x128, .f32⟩
  | .local _ .vmem, ⟨7, _⟩ => ⟨S4x256x128, .f32⟩
  | .local _ .vmem, ⟨8, _⟩ => ⟨S256x128, .f32⟩
  | .local _ .vmem, ⟨9, _⟩ => ⟨S256x128, .f32⟩
  | .local _ .vmem, ⟨10, _⟩ => ⟨S2048x256, .f32⟩
  | .local _ .vmem, ⟨11, _⟩ => ⟨S2x1024, .f32⟩
  | .local _ .vmem, ⟨12, _⟩ => ⟨S2x1024, .f32⟩
  | .local _ .vmem, ⟨13, _⟩ => ⟨S1x256, .f32⟩
  | .local _ .vmem, ⟨14, _⟩ => ⟨S2x1024, .f32⟩
  | _, _ => ⟨S2x1024x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_0 : BitVec 32 := 0#32
  c0_i32_0
def k0_mult3 : BitVec 32 :=
  let c0_i32_2 : BitVec 32 := 0#32
  c0_i32_2
def k0_mult4 : BitVec 32 :=
  let c0_i32_7 : BitVec 32 := 0#32
  c0_i32_7
def k0_mult5 : BitVec 32 :=
  let c1024_i32 : BitVec 32 := 1024#32
  c1024_i32
def k0_mult6 : BitVec 32 :=
  let c1024_i32_9 : BitVec 32 := 1024#32
  c1024_i32_9
def k0_mult7 : BitVec 32 :=
  let c0_i32_13 : BitVec 32 := 0#32
  c0_i32_13
def k0_mult8 : BitVec 32 :=
  let c2048_i32 : BitVec 32 := 2048#32
  c2048_i32
def k0_mult9 : BitVec 32 :=
  let c2048_i32_15 : BitVec 32 := 2048#32
  c2048_i32_15
def k0_mult10 : BitVec 32 :=
  let c0_i32_19 : BitVec 32 := 0#32
  c0_i32_19
def k0_mult11 : BitVec 32 :=
  let c3072_i32 : BitVec 32 := 3072#32
  c3072_i32
def k0_mult12 : BitVec 32 :=
  let c3072_i32_20 : BitVec 32 := 3072#32
  c3072_i32_20
def k0_mult13 : BitVec 32 :=
  let c0_i32_24 : BitVec 32 := 0#32
  c0_i32_24
def k0_mult14 : BitVec 32 :=
  let c4096_i32 : BitVec 32 := 4096#32
  c4096_i32
def k0_mult15 : BitVec 32 :=
  let c4096_i32_25 : BitVec 32 := 4096#32
  c4096_i32_25
def k0_mult16 : BitVec 32 :=
  let c0_i32_29 : BitVec 32 := 0#32
  c0_i32_29
def k0_mult17 : BitVec 32 :=
  let c5120_i32 : BitVec 32 := 5120#32
  c5120_i32
def k0_mult18 : BitVec 32 :=
  let c5120_i32_30 : BitVec 32 := 5120#32
  c5120_i32_30
def k0_mult19 : BitVec 32 :=
  let c0_i32_34 : BitVec 32 := 0#32
  c0_i32_34
def k0_mult20 : BitVec 32 :=
  let c6144_i32 : BitVec 32 := 6144#32
  c6144_i32
def k0_mult21 : BitVec 32 :=
  let c6144_i32_35 : BitVec 32 := 6144#32
  c6144_i32_35
def k0_mult22 : BitVec 32 :=
  let c0_i32_39 : BitVec 32 := 0#32
  c0_i32_39
def k0_mult23 : BitVec 32 :=
  let c7168_i32 : BitVec 32 := 7168#32
  c7168_i32
def k0_mult24 : BitVec 32 :=
  let c7168_i32_40 : BitVec 32 := 7168#32
  c7168_i32_40
def k0_mult25 : BitVec 32 :=
  let c0_i32_44 : BitVec 32 := 0#32
  c0_i32_44
def k0_mult26 : BitVec 32 :=
  let c8192_i32 : BitVec 32 := 8192#32
  c8192_i32
def k0_mult27 : BitVec 32 :=
  let c8192_i32_45 : BitVec 32 := 8192#32
  c8192_i32_45
def k0_mult28 : BitVec 32 :=
  let c0_i32_49 : BitVec 32 := 0#32
  c0_i32_49
def k0_mult29 : BitVec 32 :=
  let c9216_i32 : BitVec 32 := 9216#32
  c9216_i32
def k0_mult30 : BitVec 32 :=
  let c9216_i32_50 : BitVec 32 := 9216#32
  c9216_i32_50
def k0_mult31 : BitVec 32 :=
  let c0_i32_54 : BitVec 32 := 0#32
  c0_i32_54
def k0_mult32 : BitVec 32 :=
  let c10240_i32 : BitVec 32 := 10240#32
  c10240_i32
def k0_mult33 : BitVec 32 :=
  let c10240_i32_55 : BitVec 32 := 10240#32
  c10240_i32_55
def k0_mult34 : BitVec 32 :=
  let c0_i32_59 : BitVec 32 := 0#32
  c0_i32_59
def k0_mult35 : BitVec 32 :=
  let c11264_i32 : BitVec 32 := 11264#32
  c11264_i32
def k0_mult36 : BitVec 32 :=
  let c11264_i32_60 : BitVec 32 := 11264#32
  c11264_i32_60
@[reducible] def k0_t1_loop : Scf.Loop 32 :=
  let c0_i32_64 : BitVec 32 := 0#32
  let c12_i32 : BitVec 32 := 12#32
  let v138 : BitVec 32 := Scalar.addi c0_i32_64 c12_i32
  let c1_i32_65 : BitVec 32 := 1#32
  ⟨c0_i32_64, v138, c1_i32_65⟩
def k0_mult37 : BitVec 32 :=
  let c512_i32 : BitVec 32 := 512#32
  c512_i32
def k0_mult38 (k0_t1 : Fin k0_t1_loop.trips) : BitVec 32 :=
  let c0_i32_79 : BitVec 32 := 0#32
  let c0_i32_64 : BitVec 32 := 0#32
  let c1_i32_65 : BitVec 32 := 1#32
  let arg30 : BitVec 32 := Scf.iv c0_i32_64 c1_i32_65 k0_t1
  let c1_i32_78 : BitVec 32 := 1#32
  let v141 : BitVec 32 := Scalar.muli arg30 c1_i32_78
  let v142 : BitVec 32 := Scalar.addi c0_i32_79 v141
  let c1024_i32_80 : BitVec 32 := 1024#32
  let v144 : BitVec 32 := Scalar.muli v142 c1024_i32_80
  v144
def k0_off1 (k0_t1 : Fin k0_t1_loop.trips) : Fin 1 → Nat :=
  let c12_i32_81 : BitVec 32 := 12#32
  let c0_i32_79 : BitVec 32 := 0#32
  let c0_i32_64 : BitVec 32 := 0#32
  let c1_i32_65 : BitVec 32 := 1#32
  let arg30 : BitVec 32 := Scf.iv c0_i32_64 c1_i32_65 k0_t1
  let c1_i32_78 : BitVec 32 := 1#32
  let v141 : BitVec 32 := Scalar.muli arg30 c1_i32_78
  let v142 : BitVec 32 := Scalar.addi c0_i32_79 v141
  let v146 : BitVec 32 := Scalar.addi c12_i32_81 v142
  ![v146.toNat]
def k0_off2 (k0_t1 : Fin k0_t1_loop.trips) : Fin 2 → Nat :=
  let c512_i32 : BitVec 32 := 512#32
  let v143 : BitVec 32 := c512_i32
  let c0_i32_79 : BitVec 32 := 0#32
  let c0_i32_64 : BitVec 32 := 0#32
  let c1_i32_65 : BitVec 32 := 1#32
  let arg30 : BitVec 32 := Scf.iv c0_i32_64 c1_i32_65 k0_t1
  let c1_i32_78 : BitVec 32 := 1#32
  let v141 : BitVec 32 := Scalar.muli arg30 c1_i32_78
  let v142 : BitVec 32 := Scalar.addi c0_i32_79 v141
  let c1024_i32_80 : BitVec 32 := 1024#32
  let v144 : BitVec 32 := Scalar.muli v142 c1024_i32_80
  let v145 : BitVec 32 := v144
  ![512, v145.toNat]
@[reducible] def k0_t2_loop : Scf.Loop 32 :=
  let c0_i32_67 : BitVec 32 := 0#32
  let c12_i32_68 : BitVec 32 := 12#32
  let v139 : BitVec 32 := Scalar.addi c0_i32_67 c12_i32_68
  let c1_i32_69 : BitVec 32 := 1#32
  ⟨c0_i32_67, v139, c1_i32_69⟩
def k0_mult39 : BitVec 32 :=
  let c1024_i32_80 : BitVec 32 := 1024#32
  c1024_i32_80
def k0_mult40 (k0_t2 : Fin k0_t2_loop.trips) : BitVec 32 :=
  let c0_i32_79 : BitVec 32 := 0#32
  let c0_i32_67 : BitVec 32 := 0#32
  let c1_i32_69 : BitVec 32 := 1#32
  let arg30 : BitVec 32 := Scf.iv c0_i32_67 c1_i32_69 k0_t2
  let c1_i32_78 : BitVec 32 := 1#32
  let v141 : BitVec 32 := Scalar.muli arg30 c1_i32_78
  let v142 : BitVec 32 := Scalar.addi c0_i32_79 v141
  let c1024_i32_81 : BitVec 32 := 1024#32
  let v144 : BitVec 32 := Scalar.muli v142 c1024_i32_81
  v144
def k0_off3 (k0_t2 : Fin k0_t2_loop.trips) : Fin 1 → Nat :=
  let c24_i32 : BitVec 32 := 24#32
  let c0_i32_79 : BitVec 32 := 0#32
  let c0_i32_67 : BitVec 32 := 0#32
  let c1_i32_69 : BitVec 32 := 1#32
  let arg30 : BitVec 32 := Scf.iv c0_i32_67 c1_i32_69 k0_t2
  let c1_i32_78 : BitVec 32 := 1#32
  let v141 : BitVec 32 := Scalar.muli arg30 c1_i32_78
  let v142 : BitVec 32 := Scalar.addi c0_i32_79 v141
  let v146 : BitVec 32 := Scalar.addi c24_i32 v142
  ![v146.toNat]
def k0_off4 (k0_t2 : Fin k0_t2_loop.trips) : Fin 2 → Nat :=
  let c1024_i32_80 : BitVec 32 := 1024#32
  let v143 : BitVec 32 := c1024_i32_80
  let c0_i32_79 : BitVec 32 := 0#32
  let c0_i32_67 : BitVec 32 := 0#32
  let c1_i32_69 : BitVec 32 := 1#32
  let arg30 : BitVec 32 := Scf.iv c0_i32_67 c1_i32_69 k0_t2
  let c1_i32_78 : BitVec 32 := 1#32
  let v141 : BitVec 32 := Scalar.muli arg30 c1_i32_78
  let v142 : BitVec 32 := Scalar.addi c0_i32_79 v141
  let c1024_i32_81 : BitVec 32 := 1024#32
  let v144 : BitVec 32 := Scalar.muli v142 c1024_i32_81
  let v145 : BitVec 32 := v144
  ![1024, v145.toNat]
@[reducible] def k0_t3_loop : Scf.Loop 32 :=
  let c0_i32_71 : BitVec 32 := 0#32
  let c12_i32_72 : BitVec 32 := 12#32
  let v140 : BitVec 32 := Scalar.addi c0_i32_71 c12_i32_72
  let c1_i32_73 : BitVec 32 := 1#32
  ⟨c0_i32_71, v140, c1_i32_73⟩
def k0_mult41 : BitVec 32 :=
  let c1536_i32 : BitVec 32 := 1536#32
  c1536_i32
def k0_mult42 (k0_t3 : Fin k0_t3_loop.trips) : BitVec 32 :=
  let c0_i32_79 : BitVec 32 := 0#32
  let c0_i32_71 : BitVec 32 := 0#32
  let c1_i32_73 : BitVec 32 := 1#32
  let arg30 : BitVec 32 := Scf.iv c0_i32_71 c1_i32_73 k0_t3
  let c1_i32_78 : BitVec 32 := 1#32
  let v141 : BitVec 32 := Scalar.muli arg30 c1_i32_78
  let v142 : BitVec 32 := Scalar.addi c0_i32_79 v141
  let c1024_i32_80 : BitVec 32 := 1024#32
  let v144 : BitVec 32 := Scalar.muli v142 c1024_i32_80
  v144
def k0_off5 (k0_t3 : Fin k0_t3_loop.trips) : Fin 1 → Nat :=
  let c36_i32 : BitVec 32 := 36#32
  let c0_i32_79 : BitVec 32 := 0#32
  let c0_i32_71 : BitVec 32 := 0#32
  let c1_i32_73 : BitVec 32 := 1#32
  let arg30 : BitVec 32 := Scf.iv c0_i32_71 c1_i32_73 k0_t3
  let c1_i32_78 : BitVec 32 := 1#32
  let v141 : BitVec 32 := Scalar.muli arg30 c1_i32_78
  let v142 : BitVec 32 := Scalar.addi c0_i32_79 v141
  let v146 : BitVec 32 := Scalar.addi c36_i32 v142
  ![v146.toNat]
def k0_off6 (k0_t3 : Fin k0_t3_loop.trips) : Fin 2 → Nat :=
  let c1536_i32 : BitVec 32 := 1536#32
  let v143 : BitVec 32 := c1536_i32
  let c0_i32_79 : BitVec 32 := 0#32
  let c0_i32_71 : BitVec 32 := 0#32
  let c1_i32_73 : BitVec 32 := 1#32
  let arg30 : BitVec 32 := Scf.iv c0_i32_71 c1_i32_73 k0_t3
  let c1_i32_78 : BitVec 32 := 1#32
  let v141 : BitVec 32 := Scalar.muli arg30 c1_i32_78
  let v142 : BitVec 32 := Scalar.addi c0_i32_79 v141
  let c1024_i32_80 : BitVec 32 := 1024#32
  let v144 : BitVec 32 := Scalar.muli v142 c1024_i32_80
  let v145 : BitVec 32 := v144
  ![1536, v145.toNat]
def k0_mult43 : BitVec 32 :=
  let c0_i32_86_r0 : BitVec 32 := 0#32
  c0_i32_86_r0
def k0_mult44 : BitVec 32 :=
  let c0_i32_87_r0 : BitVec 32 := 0#32
  c0_i32_87_r0
def k0_mult45 : BitVec 32 :=
  let c0_i32_89_r0 : BitVec 32 := 0#32
  c0_i32_89_r0
def k0_mult46 : BitVec 32 :=
  let c0_i32_93_r0 : BitVec 32 := 0#32
  c0_i32_93_r0
def k0_mult47 : BitVec 32 :=
  let c0_i32_94_r0 : BitVec 32 := 0#32
  c0_i32_94_r0
def k0_mult48 : BitVec 32 :=
  let c256_i32_r0 : BitVec 32 := 256#32
  c256_i32_r0
def k0_mult49 : BitVec 32 :=
  let c0_i32_95_r0 : BitVec 32 := 0#32
  c0_i32_95_r0
@[reducible] def k0_t4_loop : Scf.Loop 32 :=
  let c0_i32_96_r0 : BitVec 32 := 0#32
  let c4_i32_97_r0 : BitVec 32 := 4#32
  let v188_r0 : BitVec 32 := Scalar.addi c0_i32_96_r0 c4_i32_97_r0
  let c1_i32_98_r0 : BitVec 32 := 1#32
  ⟨c0_i32_96_r0, v188_r0, c1_i32_98_r0⟩
def k0_mult50 : BitVec 32 :=
  let c0_i32_510_r0 : BitVec 32 := 0#32
  c0_i32_510_r0
def k0_mult51 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_511_r0 : BitVec 32 := 256#32
  let v1005_r0 : BitVec 32 := Scalar.muli v1003_r0 c256_i32_511_r0
  v1005_r0
def k0_off7 (k0_t4 : Fin k0_t4_loop.trips) (c1_i32_509_r0 : BitVec 32) : Fin 2 → Nat :=
  let c0_i32_510_r0 : BitVec 32 := 0#32
  let v1004_r0 : BitVec 32 := c0_i32_510_r0
  let v1007_r0 : Index := Scalar.indexCast v1004_r0
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_511_r0 : BitVec 32 := 256#32
  let v1005_r0 : BitVec 32 := Scalar.muli v1003_r0 c256_i32_511_r0
  let v1006_r0 : BitVec 32 := v1005_r0
  let v1008_r0 : Index := Scalar.indexCast v1006_r0
  ![0, v1008_r0.toNat]
def k0_mult52 : BitVec 32 :=
  let c256_i32_512_r0 : BitVec 32 := 256#32
  c256_i32_512_r0
def k0_mult53 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_513_r0 : BitVec 32 := 256#32
  let v1012_r0 : BitVec 32 := Scalar.muli v1003_r0 c256_i32_513_r0
  v1012_r0
def k0_off8 (k0_t4 : Fin k0_t4_loop.trips) (c1_i32_509_r0 : BitVec 32) : Fin 2 → Nat :=
  let c256_i32_512_r0 : BitVec 32 := 256#32
  let v1011_r0 : BitVec 32 := c256_i32_512_r0
  let v1014_r0 : Index := Scalar.indexCast v1011_r0
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_513_r0 : BitVec 32 := 256#32
  let v1012_r0 : BitVec 32 := Scalar.muli v1003_r0 c256_i32_513_r0
  let v1013_r0 : BitVec 32 := v1012_r0
  let v1015_r0 : Index := Scalar.indexCast v1013_r0
  ![256, v1015_r0.toNat]
def k0_mult54 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let c0_i32_515_r0 : BitVec 32 := 0#32
  let v1019_r0 : BitVec 32 := Scalar.addi v1018_r0 c0_i32_515_r0
  let c256_i32_516_r0 : BitVec 32 := 256#32
  let v1020_r0 : BitVec 32 := Scalar.muli v1019_r0 c256_i32_516_r0
  v1020_r0
def k0_off9 (k0_t4 : Fin k0_t4_loop.trips) (c0_i32_515_r0 : BitVec 32) : Fin 2 → Nat :=
  let c0_517_r0 : Index := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let v1019_r0 : BitVec 32 := Scalar.addi v1018_r0 c0_i32_515_r0
  let c256_i32_516_r0 : BitVec 32 := 256#32
  let v1020_r0 : BitVec 32 := Scalar.muli v1019_r0 c256_i32_516_r0
  let v1021_r0 : BitVec 32 := v1020_r0
  let v1022_r0 : Index := Scalar.indexCast v1021_r0
  ![0, v1022_r0.toNat]
def k0_mult55 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c64_i32_901_r0 : BitVec 32 := 64#32
  let v1803_r0 : BitVec 32 := Scalar.muli v1001_r0 c64_i32_901_r0
  v1803_r0
def k0_off10 (k0_t4 : Fin k0_t4_loop.trips) : Fin 2 → Nat :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c64_i32_901_r0 : BitVec 32 := 64#32
  let v1803_r0 : BitVec 32 := Scalar.muli v1001_r0 c64_i32_901_r0
  let v1804_r0 : BitVec 32 := v1803_r0
  let v1809_r0 : Index := Scalar.indexCast v1804_r0
  let c0_903_r0 : Index := 0#32
  ![v1809_r0.toNat, 0]
def k0_mult56 : BitVec 32 :=
  let c0_i32_906_r0 : BitVec 32 := 0#32
  c0_i32_906_r0
def k0_mult57 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_904_r0 : BitVec 32 := 12#32
  let v1813_r0 : BitVec 32 := Scalar.muli v1001_r0 c12_i32_904_r0
  let c2_i32_905_r0 : BitVec 32 := 2#32
  let v1814_r0 : BitVec 32 := Scalar.addi v1813_r0 c2_i32_905_r0
  let c256_i32_907_r0 : BitVec 32 := 256#32
  let v1816_r0 : BitVec 32 := Scalar.muli v1814_r0 c256_i32_907_r0
  v1816_r0
def k0_mult58 : BitVec 32 :=
  let c256_i32_908_r0 : BitVec 32 := 256#32
  c256_i32_908_r0
def k0_mult59 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_904_r0 : BitVec 32 := 12#32
  let v1813_r0 : BitVec 32 := Scalar.muli v1001_r0 c12_i32_904_r0
  let c2_i32_905_r0 : BitVec 32 := 2#32
  let v1814_r0 : BitVec 32 := Scalar.addi v1813_r0 c2_i32_905_r0
  let c256_i32_909_r0 : BitVec 32 := 256#32
  let v1823_r0 : BitVec 32 := Scalar.muli v1814_r0 c256_i32_909_r0
  v1823_r0
def k0_mult60 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_910_r0 : BitVec 32 := 12#32
  let v1829_r0 : BitVec 32 := Scalar.muli v1001_r0 c12_i32_910_r0
  let c1_i32_911_r0 : BitVec 32 := 1#32
  let v1830_r0 : BitVec 32 := Scalar.addi v1829_r0 c1_i32_911_r0
  let c256_i32_912_r0 : BitVec 32 := 256#32
  let v1831_r0 : BitVec 32 := Scalar.muli v1830_r0 c256_i32_912_r0
  v1831_r0
def k0_mult61 : BitVec 32 :=
  let c0_i32_916_r0 : BitVec 32 := 0#32
  c0_i32_916_r0
def k0_mult62 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_914_r0 : BitVec 32 := 12#32
  let v1836_r0 : BitVec 32 := Scalar.muli v1001_r0 c12_i32_914_r0
  let c3_i32_915_r0 : BitVec 32 := 3#32
  let v1837_r0 : BitVec 32 := Scalar.addi v1836_r0 c3_i32_915_r0
  let c256_i32_917_r0 : BitVec 32 := 256#32
  let v1839_r0 : BitVec 32 := Scalar.muli v1837_r0 c256_i32_917_r0
  v1839_r0
def k0_mult63 : BitVec 32 :=
  let c256_i32_918_r0 : BitVec 32 := 256#32
  c256_i32_918_r0
def k0_mult64 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_914_r0 : BitVec 32 := 12#32
  let v1836_r0 : BitVec 32 := Scalar.muli v1001_r0 c12_i32_914_r0
  let c3_i32_915_r0 : BitVec 32 := 3#32
  let v1837_r0 : BitVec 32 := Scalar.addi v1836_r0 c3_i32_915_r0
  let c256_i32_919_r0 : BitVec 32 := 256#32
  let v1846_r0 : BitVec 32 := Scalar.muli v1837_r0 c256_i32_919_r0
  v1846_r0
def k0_mult65 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_920_r0 : BitVec 32 := 12#32
  let v1852_r0 : BitVec 32 := Scalar.muli v1001_r0 c12_i32_920_r0
  let c2_i32_921_r0 : BitVec 32 := 2#32
  let v1853_r0 : BitVec 32 := Scalar.addi v1852_r0 c2_i32_921_r0
  let c256_i32_922_r0 : BitVec 32 := 256#32
  let v1854_r0 : BitVec 32 := Scalar.muli v1853_r0 c256_i32_922_r0
  v1854_r0
def k0_mult66 : BitVec 32 :=
  let c0_i32_928_r0 : BitVec 32 := 0#32
  c0_i32_928_r0
def k0_mult67 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let c1_i32_927_r0 : BitVec 32 := 1#32
  let v1862_r0 : BitVec 32 := Scalar.addi v1861_r0 c1_i32_927_r0
  let c1024_i32_929_r0 : BitVec 32 := 1024#32
  let v1864_r0 : BitVec 32 := Scalar.muli v1862_r0 c1024_i32_929_r0
  v1864_r0
def k0_off11 (k0_t4 : Fin k0_t4_loop.trips) (c1_i32_927_r0 : BitVec 32) : Fin 1 → Nat :=
  let c0_i32_930_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let v1862_r0 : BitVec 32 := Scalar.addi v1861_r0 c1_i32_927_r0
  let v1866_r0 : BitVec 32 := Scalar.addi c0_i32_930_r0 v1862_r0
  ![v1866_r0.toNat]
def k0_off12 (k0_t4 : Fin k0_t4_loop.trips) (c1_i32_927_r0 : BitVec 32) : Fin 2 → Nat :=
  let c0_i32_928_r0 : BitVec 32 := 0#32
  let v1863_r0 : BitVec 32 := c0_i32_928_r0
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let v1862_r0 : BitVec 32 := Scalar.addi v1861_r0 c1_i32_927_r0
  let c1024_i32_929_r0 : BitVec 32 := 1024#32
  let v1864_r0 : BitVec 32 := Scalar.muli v1862_r0 c1024_i32_929_r0
  let v1865_r0 : BitVec 32 := v1864_r0
  ![0, v1865_r0.toNat]
def k0_mult68 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let c1_i32_927_r0 : BitVec 32 := 1#32
  let v1862_r0 : BitVec 32 := Scalar.addi v1861_r0 c1_i32_927_r0
  let c1024_i32_931_r0 : BitVec 32 := 1024#32
  let v1871_r0 : BitVec 32 := Scalar.muli v1862_r0 c1024_i32_931_r0
  v1871_r0
def k0_off13 (k0_t4 : Fin k0_t4_loop.trips) (c1_i32_927_r0 : BitVec 32) : Fin 1 → Nat :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let v1862_r0 : BitVec 32 := Scalar.addi v1861_r0 c1_i32_927_r0
  ![v1862_r0.toNat]
def k0_off14 (k0_t4 : Fin k0_t4_loop.trips) (c1_i32_927_r0 : BitVec 32) : Fin 2 → Nat :=
  let c0_i32_932_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_926_r0 : BitVec 32 := 3#32
  let v1861_r0 : BitVec 32 := Scalar.muli v1001_r0 c3_i32_926_r0
  let v1862_r0 : BitVec 32 := Scalar.addi v1861_r0 c1_i32_927_r0
  let c1024_i32_931_r0 : BitVec 32 := 1024#32
  let v1871_r0 : BitVec 32 := Scalar.muli v1862_r0 c1024_i32_931_r0
  let v1872_r0 : BitVec 32 := v1871_r0
  ![0, v1872_r0.toNat]
def k0_mult69 : BitVec 32 :=
  let c0_i32_934_r0 : BitVec 32 := 0#32
  c0_i32_934_r0
def k0_mult70 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_924_r0 : BitVec 32 := 12#32
  let v1859_r0 : BitVec 32 := Scalar.muli v1001_r0 c12_i32_924_r0
  let c4_i32_925_r0 : BitVec 32 := 4#32
  let v1860_r0 : BitVec 32 := Scalar.addi v1859_r0 c4_i32_925_r0
  let c256_i32_935_r0 : BitVec 32 := 256#32
  let v1878_r0 : BitVec 32 := Scalar.muli v1860_r0 c256_i32_935_r0
  v1878_r0
def k0_mult71 : BitVec 32 :=
  let c256_i32_936_r0 : BitVec 32 := 256#32
  c256_i32_936_r0
def k0_mult72 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_924_r0 : BitVec 32 := 12#32
  let v1859_r0 : BitVec 32 := Scalar.muli v1001_r0 c12_i32_924_r0
  let c4_i32_925_r0 : BitVec 32 := 4#32
  let v1860_r0 : BitVec 32 := Scalar.addi v1859_r0 c4_i32_925_r0
  let c256_i32_937_r0 : BitVec 32 := 256#32
  let v1885_r0 : BitVec 32 := Scalar.muli v1860_r0 c256_i32_937_r0
  v1885_r0
def k0_mult73 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_938_r0 : BitVec 32 := 12#32
  let v1891_r0 : BitVec 32 := Scalar.muli v1001_r0 c12_i32_938_r0
  let c3_i32_939_r0 : BitVec 32 := 3#32
  let v1892_r0 : BitVec 32 := Scalar.addi v1891_r0 c3_i32_939_r0
  let c256_i32_940_r0 : BitVec 32 := 256#32
  let v1893_r0 : BitVec 32 := Scalar.muli v1892_r0 c256_i32_940_r0
  v1893_r0
def k0_mult74 : BitVec 32 :=
  let c0_i32_944_r0 : BitVec 32 := 0#32
  c0_i32_944_r0
def k0_mult75 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_942_r0 : BitVec 32 := 12#32
  let v1898_r0 : BitVec 32 := Scalar.muli v1001_r0 c12_i32_942_r0
  let c5_i32_943_r0 : BitVec 32 := 5#32
  let v1899_r0 : BitVec 32 := Scalar.addi v1898_r0 c5_i32_943_r0
  let c256_i32_945_r0 : BitVec 32 := 256#32
  let v1901_r0 : BitVec 32 := Scalar.muli v1899_r0 c256_i32_945_r0
  v1901_r0
def k0_mult76 : BitVec 32 :=
  let c256_i32_946_r0 : BitVec 32 := 256#32
  c256_i32_946_r0
def k0_mult77 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_942_r0 : BitVec 32 := 12#32
  let v1898_r0 : BitVec 32 := Scalar.muli v1001_r0 c12_i32_942_r0
  let c5_i32_943_r0 : BitVec 32 := 5#32
  let v1899_r0 : BitVec 32 := Scalar.addi v1898_r0 c5_i32_943_r0
  let c256_i32_947_r0 : BitVec 32 := 256#32
  let v1908_r0 : BitVec 32 := Scalar.muli v1899_r0 c256_i32_947_r0
  v1908_r0
def k0_mult78 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_948_r0 : BitVec 32 := 12#32
  let v1914_r0 : BitVec 32 := Scalar.muli v1001_r0 c12_i32_948_r0
  let c4_i32_949_r0 : BitVec 32 := 4#32
  let v1915_r0 : BitVec 32 := Scalar.addi v1914_r0 c4_i32_949_r0
  let c256_i32_950_r0 : BitVec 32 := 256#32
  let v1916_r0 : BitVec 32 := Scalar.muli v1915_r0 c256_i32_950_r0
  v1916_r0
def k0_mult79 : BitVec 32 :=
  let c0_i32_954_r0 : BitVec 32 := 0#32
  c0_i32_954_r0
def k0_mult80 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_952_r0 : BitVec 32 := 12#32
  let v1921_r0 : BitVec 32 := Scalar.muli v1001_r0 c12_i32_952_r0
  let c6_i32_953_r0 : BitVec 32 := 6#32
  let v1922_r0 : BitVec 32 := Scalar.addi v1921_r0 c6_i32_953_r0
  let c256_i32_955_r0 : BitVec 32 := 256#32
  let v1924_r0 : BitVec 32 := Scalar.muli v1922_r0 c256_i32_955_r0
  v1924_r0
def k0_mult81 : BitVec 32 :=
  let c256_i32_956_r0 : BitVec 32 := 256#32
  c256_i32_956_r0
def k0_mult82 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_952_r0 : BitVec 32 := 12#32
  let v1921_r0 : BitVec 32 := Scalar.muli v1001_r0 c12_i32_952_r0
  let c6_i32_953_r0 : BitVec 32 := 6#32
  let v1922_r0 : BitVec 32 := Scalar.addi v1921_r0 c6_i32_953_r0
  let c256_i32_957_r0 : BitVec 32 := 256#32
  let v1931_r0 : BitVec 32 := Scalar.muli v1922_r0 c256_i32_957_r0
  v1931_r0
def k0_mult83 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_958_r0 : BitVec 32 := 12#32
  let v1937_r0 : BitVec 32 := Scalar.muli v1001_r0 c12_i32_958_r0
  let c5_i32_959_r0 : BitVec 32 := 5#32
  let v1938_r0 : BitVec 32 := Scalar.addi v1937_r0 c5_i32_959_r0
  let c256_i32_960_r0 : BitVec 32 := 256#32
  let v1939_r0 : BitVec 32 := Scalar.muli v1938_r0 c256_i32_960_r0
  v1939_r0
def k0_mult84 : BitVec 32 :=
  let c0_i32_964_r0 : BitVec 32 := 0#32
  c0_i32_964_r0
def k0_mult85 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_962_r0 : BitVec 32 := 12#32
  let v1944_r0 : BitVec 32 := Scalar.muli v1001_r0 c12_i32_962_r0
  let c7_i32_963_r0 : BitVec 32 := 7#32
  let v1945_r0 : BitVec 32 := Scalar.addi v1944_r0 c7_i32_963_r0
  let c256_i32_965_r0 : BitVec 32 := 256#32
  let v1947_r0 : BitVec 32 := Scalar.muli v1945_r0 c256_i32_965_r0
  v1947_r0
def k0_mult86 : BitVec 32 :=
  let c256_i32_966_r0 : BitVec 32 := 256#32
  c256_i32_966_r0
def k0_mult87 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_962_r0 : BitVec 32 := 12#32
  let v1944_r0 : BitVec 32 := Scalar.muli v1001_r0 c12_i32_962_r0
  let c7_i32_963_r0 : BitVec 32 := 7#32
  let v1945_r0 : BitVec 32 := Scalar.addi v1944_r0 c7_i32_963_r0
  let c256_i32_967_r0 : BitVec 32 := 256#32
  let v1954_r0 : BitVec 32 := Scalar.muli v1945_r0 c256_i32_967_r0
  v1954_r0
def k0_mult88 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_968_r0 : BitVec 32 := 12#32
  let v1960_r0 : BitVec 32 := Scalar.muli v1001_r0 c12_i32_968_r0
  let c6_i32_969_r0 : BitVec 32 := 6#32
  let v1961_r0 : BitVec 32 := Scalar.addi v1960_r0 c6_i32_969_r0
  let c256_i32_970_r0 : BitVec 32 := 256#32
  let v1962_r0 : BitVec 32 := Scalar.muli v1961_r0 c256_i32_970_r0
  v1962_r0
def k0_mult89 : BitVec 32 :=
  let c0_i32_976_r0 : BitVec 32 := 0#32
  c0_i32_976_r0
def k0_mult90 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_974_r0 : BitVec 32 := 3#32
  let v1969_r0 : BitVec 32 := Scalar.muli v1001_r0 c3_i32_974_r0
  let c2_i32_975_r0 : BitVec 32 := 2#32
  let v1970_r0 : BitVec 32 := Scalar.addi v1969_r0 c2_i32_975_r0
  let c1024_i32_977_r0 : BitVec 32 := 1024#32
  let v1972_r0 : BitVec 32 := Scalar.muli v1970_r0 c1024_i32_977_r0
  v1972_r0
def k0_mult91 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_974_r0 : BitVec 32 := 3#32
  let v1969_r0 : BitVec 32 := Scalar.muli v1001_r0 c3_i32_974_r0
  let c2_i32_975_r0 : BitVec 32 := 2#32
  let v1970_r0 : BitVec 32 := Scalar.addi v1969_r0 c2_i32_975_r0
  let c1024_i32_979_r0 : BitVec 32 := 1024#32
  let v1979_r0 : BitVec 32 := Scalar.muli v1970_r0 c1024_i32_979_r0
  v1979_r0
def k0_mult92 : BitVec 32 :=
  let c0_i32_982_r0 : BitVec 32 := 0#32
  c0_i32_982_r0
def k0_mult93 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_972_r0 : BitVec 32 := 12#32
  let v1967_r0 : BitVec 32 := Scalar.muli v1001_r0 c12_i32_972_r0
  let c8_i32_973_r0 : BitVec 32 := 8#32
  let v1968_r0 : BitVec 32 := Scalar.addi v1967_r0 c8_i32_973_r0
  let c256_i32_983_r0 : BitVec 32 := 256#32
  let v1986_r0 : BitVec 32 := Scalar.muli v1968_r0 c256_i32_983_r0
  v1986_r0
def k0_mult94 : BitVec 32 :=
  let c256_i32_984_r0 : BitVec 32 := 256#32
  c256_i32_984_r0
def k0_mult95 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_972_r0 : BitVec 32 := 12#32
  let v1967_r0 : BitVec 32 := Scalar.muli v1001_r0 c12_i32_972_r0
  let c8_i32_973_r0 : BitVec 32 := 8#32
  let v1968_r0 : BitVec 32 := Scalar.addi v1967_r0 c8_i32_973_r0
  let c256_i32_985_r0 : BitVec 32 := 256#32
  let v1993_r0 : BitVec 32 := Scalar.muli v1968_r0 c256_i32_985_r0
  v1993_r0
def k0_mult96 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_986_r0 : BitVec 32 := 12#32
  let v1999_r0 : BitVec 32 := Scalar.muli v1001_r0 c12_i32_986_r0
  let c7_i32_987_r0 : BitVec 32 := 7#32
  let v2000_r0 : BitVec 32 := Scalar.addi v1999_r0 c7_i32_987_r0
  let c256_i32_988_r0 : BitVec 32 := 256#32
  let v2001_r0 : BitVec 32 := Scalar.muli v2000_r0 c256_i32_988_r0
  v2001_r0
def k0_mult97 : BitVec 32 :=
  let c0_i32_992_r0 : BitVec 32 := 0#32
  c0_i32_992_r0
def k0_mult98 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_990_r0 : BitVec 32 := 12#32
  let v2006_r0 : BitVec 32 := Scalar.muli v1001_r0 c12_i32_990_r0
  let c9_i32_991_r0 : BitVec 32 := 9#32
  let v2007_r0 : BitVec 32 := Scalar.addi v2006_r0 c9_i32_991_r0
  let c256_i32_993_r0 : BitVec 32 := 256#32
  let v2009_r0 : BitVec 32 := Scalar.muli v2007_r0 c256_i32_993_r0
  v2009_r0
def k0_mult99 : BitVec 32 :=
  let c256_i32_994_r0 : BitVec 32 := 256#32
  c256_i32_994_r0
def k0_mult100 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_990_r0 : BitVec 32 := 12#32
  let v2006_r0 : BitVec 32 := Scalar.muli v1001_r0 c12_i32_990_r0
  let c9_i32_991_r0 : BitVec 32 := 9#32
  let v2007_r0 : BitVec 32 := Scalar.addi v2006_r0 c9_i32_991_r0
  let c256_i32_995_r0 : BitVec 32 := 256#32
  let v2016_r0 : BitVec 32 := Scalar.muli v2007_r0 c256_i32_995_r0
  v2016_r0
def k0_mult101 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_996_r0 : BitVec 32 := 12#32
  let v2022_r0 : BitVec 32 := Scalar.muli v1001_r0 c12_i32_996_r0
  let c8_i32_997_r0 : BitVec 32 := 8#32
  let v2023_r0 : BitVec 32 := Scalar.addi v2022_r0 c8_i32_997_r0
  let c256_i32_998_r0 : BitVec 32 := 256#32
  let v2024_r0 : BitVec 32 := Scalar.muli v2023_r0 c256_i32_998_r0
  v2024_r0
def k0_mult102 : BitVec 32 :=
  let c0_i32_1002_r0 : BitVec 32 := 0#32
  c0_i32_1002_r0
def k0_mult103 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1000_r0 : BitVec 32 := 12#32
  let v2029_r0 : BitVec 32 := Scalar.muli v1001_r0 c12_i32_1000_r0
  let c10_i32_1001_r0 : BitVec 32 := 10#32
  let v2030_r0 : BitVec 32 := Scalar.addi v2029_r0 c10_i32_1001_r0
  let c256_i32_1003_r0 : BitVec 32 := 256#32
  let v2032_r0 : BitVec 32 := Scalar.muli v2030_r0 c256_i32_1003_r0
  v2032_r0
def k0_mult104 : BitVec 32 :=
  let c256_i32_1004_r0 : BitVec 32 := 256#32
  c256_i32_1004_r0
def k0_mult105 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1000_r0 : BitVec 32 := 12#32
  let v2029_r0 : BitVec 32 := Scalar.muli v1001_r0 c12_i32_1000_r0
  let c10_i32_1001_r0 : BitVec 32 := 10#32
  let v2030_r0 : BitVec 32 := Scalar.addi v2029_r0 c10_i32_1001_r0
  let c256_i32_1005_r0 : BitVec 32 := 256#32
  let v2039_r0 : BitVec 32 := Scalar.muli v2030_r0 c256_i32_1005_r0
  v2039_r0
def k0_mult106 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1006_r0 : BitVec 32 := 12#32
  let v2045_r0 : BitVec 32 := Scalar.muli v1001_r0 c12_i32_1006_r0
  let c9_i32_1007_r0 : BitVec 32 := 9#32
  let v2046_r0 : BitVec 32 := Scalar.addi v2045_r0 c9_i32_1007_r0
  let c256_i32_1008_r0 : BitVec 32 := 256#32
  let v2047_r0 : BitVec 32 := Scalar.muli v2046_r0 c256_i32_1008_r0
  v2047_r0
def k0_mult107 : BitVec 32 :=
  let c0_i32_1012_r0 : BitVec 32 := 0#32
  c0_i32_1012_r0
def k0_mult108 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1010_r0 : BitVec 32 := 12#32
  let v2052_r0 : BitVec 32 := Scalar.muli v1001_r0 c12_i32_1010_r0
  let c11_i32_1011_r0 : BitVec 32 := 11#32
  let v2053_r0 : BitVec 32 := Scalar.addi v2052_r0 c11_i32_1011_r0
  let c256_i32_1013_r0 : BitVec 32 := 256#32
  let v2055_r0 : BitVec 32 := Scalar.muli v2053_r0 c256_i32_1013_r0
  v2055_r0
def k0_mult109 : BitVec 32 :=
  let c256_i32_1014_r0 : BitVec 32 := 256#32
  c256_i32_1014_r0
def k0_mult110 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1010_r0 : BitVec 32 := 12#32
  let v2052_r0 : BitVec 32 := Scalar.muli v1001_r0 c12_i32_1010_r0
  let c11_i32_1011_r0 : BitVec 32 := 11#32
  let v2053_r0 : BitVec 32 := Scalar.addi v2052_r0 c11_i32_1011_r0
  let c256_i32_1015_r0 : BitVec 32 := 256#32
  let v2062_r0 : BitVec 32 := Scalar.muli v2053_r0 c256_i32_1015_r0
  v2062_r0
def k0_mult111 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1016_r0 : BitVec 32 := 12#32
  let v2068_r0 : BitVec 32 := Scalar.muli v1001_r0 c12_i32_1016_r0
  let c10_i32_1017_r0 : BitVec 32 := 10#32
  let v2069_r0 : BitVec 32 := Scalar.addi v2068_r0 c10_i32_1017_r0
  let c256_i32_1018_r0 : BitVec 32 := 256#32
  let v2070_r0 : BitVec 32 := Scalar.muli v2069_r0 c256_i32_1018_r0
  v2070_r0
def k0_mult112 (k0_t4 : Fin k0_t4_loop.trips) : BitVec 32 :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c512_i32_1030_r0 : BitVec 32 := 512#32
  let v2084_r0 : BitVec 32 := Scalar.muli v2077_r0 c512_i32_1030_r0
  v2084_r0
def k0_mult113 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  let c1024_i32_1031_r0 : BitVec 32 := 1024#32
  let v2086_r0 : BitVec 32 := Scalar.muli v2083_r0 c1024_i32_1031_r0
  v2086_r0
def k0_off15 (k0_t4 : Fin k0_t4_loop.trips) : Fin 1 → Nat :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c12_i32_1032_r0 : BitVec 32 := 12#32
  let v2088_r0 : BitVec 32 := Scalar.muli v2077_r0 c12_i32_1032_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  let v2089_r0 : BitVec 32 := Scalar.addi v2088_r0 v2083_r0
  ![v2089_r0.toNat]
def k0_off16 (k0_t4 : Fin k0_t4_loop.trips) : Fin 2 → Nat :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c512_i32_1030_r0 : BitVec 32 := 512#32
  let v2084_r0 : BitVec 32 := Scalar.muli v2077_r0 c512_i32_1030_r0
  let v2085_r0 : BitVec 32 := v2084_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  let c1024_i32_1031_r0 : BitVec 32 := 1024#32
  let v2086_r0 : BitVec 32 := Scalar.muli v2083_r0 c1024_i32_1031_r0
  let v2087_r0 : BitVec 32 := v2086_r0
  ![v2085_r0.toNat, v2087_r0.toNat]
def k0_cond1 (k0_t4 : Fin k0_t4_loop.trips) : BitVec 1 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let v_true_r0 : BitVec 1 := 1#1
  let v2094_r0 : BitVec 1 := Scalar.xori v2075_r0 v_true_r0
  let v2095_r0 : BitVec 32 := Scalar.extui v2094_r0
  let c0_i32_1033_r0 : BitVec 32 := 0#32
  let v2096_r0 : BitVec 1 := Scalar.cmpi .ne v2095_r0 c0_i32_1033_r0
  v2096_r0

def k0_mult114 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  let c1024_i32_1044_r0 : BitVec 32 := 1024#32
  let v2122_r0 : BitVec 32 := Scalar.muli v2083_r0 c1024_i32_1044_r0
  v2122_r0
def k0_off17 (k0_t4 : Fin k0_t4_loop.trips) : Fin 1 → Nat :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  ![v2083_r0.toNat]
def k0_off18 (k0_t4 : Fin k0_t4_loop.trips) : Fin 2 → Nat :=
  let c0_i32_1045_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1029_r0 : BitVec 32 := 0#32
  let c3_i32_1027_r0 : BitVec 32 := 3#32
  let v2081_r0 : BitVec 32 := Scalar.muli v1001_r0 c3_i32_1027_r0
  let c3_i32_1028_r0 : BitVec 32 := 3#32
  let v2082_r0 : BitVec 32 := Scalar.addi v2081_r0 c3_i32_1028_r0
  let v2083_r0 : BitVec 32 := Scalar.select v2075_r0 c0_i32_1029_r0 v2082_r0
  let c1024_i32_1044_r0 : BitVec 32 := 1024#32
  let v2122_r0 : BitVec 32 := Scalar.muli v2083_r0 c1024_i32_1044_r0
  let v2123_r0 : BitVec 32 := v2122_r0
  ![0, v2123_r0.toNat]
def k0_mult115 (k0_t4 : Fin k0_t4_loop.trips) : BitVec 32 :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c512_i32_1034_r0 : BitVec 32 := 512#32
  let v2097_r0 : BitVec 32 := Scalar.muli v2077_r0 c512_i32_1034_r0
  let c0_i32_1035_r0 : BitVec 32 := 0#32
  let v2098_r0 : BitVec 32 := Scalar.addi v2097_r0 c0_i32_1035_r0
  v2098_r0
def k0_mult116 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1026_r0 : BitVec 32 := 0#32
  let c12_i32_1024_r0 : BitVec 32 := 12#32
  let v2078_r0 : BitVec 32 := Scalar.muli v1001_r0 c12_i32_1024_r0
  let c12_i32_1025_r0 : BitVec 32 := 12#32
  let v2079_r0 : BitVec 32 := Scalar.addi v2078_r0 c12_i32_1025_r0
  let v2080_r0 : BitVec 32 := Scalar.select v2075_r0 c0_i32_1026_r0 v2079_r0
  let c256_i32_1036_r0 : BitVec 32 := 256#32
  let v2100_r0 : BitVec 32 := Scalar.muli v2080_r0 c256_i32_1036_r0
  v2100_r0
def k0_off19 (k0_t4 : Fin k0_t4_loop.trips) (c0_i32_1035_r0 : BitVec 32) : Fin 2 → Nat :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c512_i32_1034_r0 : BitVec 32 := 512#32
  let v2097_r0 : BitVec 32 := Scalar.muli v2077_r0 c512_i32_1034_r0
  let v2098_r0 : BitVec 32 := Scalar.addi v2097_r0 c0_i32_1035_r0
  let v2099_r0 : BitVec 32 := v2098_r0
  let v2102_r0 : Index := Scalar.indexCast v2099_r0
  let c0_i32_1026_r0 : BitVec 32 := 0#32
  let c12_i32_1024_r0 : BitVec 32 := 12#32
  let v2078_r0 : BitVec 32 := Scalar.muli v1001_r0 c12_i32_1024_r0
  let c12_i32_1025_r0 : BitVec 32 := 12#32
  let v2079_r0 : BitVec 32 := Scalar.addi v2078_r0 c12_i32_1025_r0
  let v2080_r0 : BitVec 32 := Scalar.select v2075_r0 c0_i32_1026_r0 v2079_r0
  let c256_i32_1036_r0 : BitVec 32 := 256#32
  let v2100_r0 : BitVec 32 := Scalar.muli v2080_r0 c256_i32_1036_r0
  let v2101_r0 : BitVec 32 := v2100_r0
  let v2103_r0 : Index := Scalar.indexCast v2101_r0
  ![v2102_r0.toNat, v2103_r0.toNat]
def k0_mult117 (k0_t4 : Fin k0_t4_loop.trips) : BitVec 32 :=
  let c0_i32_1023_r0 : BitVec 32 := 0#32
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c1_i32_1021_r0 : BitVec 32 := 1#32
  let c0_i32_1022_r0 : BitVec 32 := 0#32
  let v2076_r0 : BitVec 32 := Scalar.select v2075_r0 c1_i32_1021_r0 c0_i32_1022_r0
  let v2077_r0 : BitVec 32 := Scalar.addi c0_i32_1023_r0 v2076_r0
  let c512_i32_1037_r0 : BitVec 32 := 512#32
  let v2106_r0 : BitVec 32 := Scalar.muli v2077_r0 c512_i32_1037_r0
  let c256_i32_1038_r0 : BitVec 32 := 256#32
  let v2107_r0 : BitVec 32 := Scalar.addi v2106_r0 c256_i32_1038_r0
  v2107_r0
def k0_mult118 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c3_i32_1020_r0 : BitVec 32 := 3#32
  let v2075_r0 : BitVec 1 := Scalar.cmpi .eq v1001_r0 c3_i32_1020_r0
  let c0_i32_1026_r0 : BitVec 32 := 0#32
  let c12_i32_1024_r0 : BitVec 32 := 12#32
  let v2078_r0 : BitVec 32 := Scalar.muli v1001_r0 c12_i32_1024_r0
  let c12_i32_1025_r0 : BitVec 32 := 12#32
  let v2079_r0 : BitVec 32 := Scalar.addi v2078_r0 c12_i32_1025_r0
  let v2080_r0 : BitVec 32 := Scalar.select v2075_r0 c0_i32_1026_r0 v2079_r0
  let c256_i32_1039_r0 : BitVec 32 := 256#32
  let v2109_r0 : BitVec 32 := Scalar.muli v2080_r0 c256_i32_1039_r0
  v2109_r0
def k0_mult119 (k0_t4 : Fin k0_t4_loop.trips) : BitVec 32 :=
  let c0_i32_507_r0 : BitVec 32 := 0#32
  let c0_i32_96_r0 : BitVec 32 := 0#32
  let c1_i32_98_r0 : BitVec 32 := 1#32
  let arg30_r0 : BitVec 32 := Scf.iv c0_i32_96_r0 c1_i32_98_r0 k0_t4
  let c1_i32_506_r0 : BitVec 32 := 1#32
  let v1000_r0 : BitVec 32 := Scalar.muli arg30_r0 c1_i32_506_r0
  let v1001_r0 : BitVec 32 := Scalar.addi c0_i32_507_r0 v1000_r0
  let c12_i32_1040_r0 : BitVec 32 := 12#32
  let v2115_r0 : BitVec 32 := Scalar.muli v1001_r0 c12_i32_1040_r0
  let c11_i32_1041_r0 : BitVec 32 := 11#32
  let v2116_r0 : BitVec 32 := Scalar.addi v2115_r0 c11_i32_1041_r0
  let c256_i32_1042_r0 : BitVec 32 := 256#32
  let v2117_r0 : BitVec 32 := Scalar.muli v2116_r0 c256_i32_1042_r0
  v2117_r0
@[reducible] def k0_t5_loop : Scf.Loop 32 :=
  let c0_i32_123_r0 : BitVec 32 := 0#32
  let c4_i32_124_r0 : BitVec 32 := 4#32
  let v227_r0 : BitVec 32 := Scalar.addi c0_i32_123_r0 c4_i32_124_r0
  let c1_i32_125_r0 : BitVec 32 := 1#32
  ⟨c0_i32_123_r0, v227_r0, c1_i32_125_r0⟩
def k0_mult120 : BitVec 32 :=
  let c512_i32_510_r0 : BitVec 32 := 512#32
  c512_i32_510_r0
def k0_mult121 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_511_r0 : BitVec 32 := 256#32
  let v1005_r0 : BitVec 32 := Scalar.muli v1003_r0 c256_i32_511_r0
  v1005_r0
def k0_off20 (k0_t5 : Fin k0_t5_loop.trips) (c1_i32_509_r0 : BitVec 32) : Fin 2 → Nat :=
  let c512_i32_510_r0 : BitVec 32 := 512#32
  let v1004_r0 : BitVec 32 := c512_i32_510_r0
  let v1007_r0 : Index := Scalar.indexCast v1004_r0
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_511_r0 : BitVec 32 := 256#32
  let v1005_r0 : BitVec 32 := Scalar.muli v1003_r0 c256_i32_511_r0
  let v1006_r0 : BitVec 32 := v1005_r0
  let v1008_r0 : Index := Scalar.indexCast v1006_r0
  ![512, v1008_r0.toNat]
def k0_mult122 : BitVec 32 :=
  let c768_i32_512_r0 : BitVec 32 := 768#32
  c768_i32_512_r0
def k0_mult123 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_513_r0 : BitVec 32 := 256#32
  let v1012_r0 : BitVec 32 := Scalar.muli v1003_r0 c256_i32_513_r0
  v1012_r0
def k0_off21 (k0_t5 : Fin k0_t5_loop.trips) (c1_i32_509_r0 : BitVec 32) : Fin 2 → Nat :=
  let c768_i32_512_r0 : BitVec 32 := 768#32
  let v1011_r0 : BitVec 32 := c768_i32_512_r0
  let v1014_r0 : Index := Scalar.indexCast v1011_r0
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_513_r0 : BitVec 32 := 256#32
  let v1012_r0 : BitVec 32 := Scalar.muli v1003_r0 c256_i32_513_r0
  let v1013_r0 : BitVec 32 := v1012_r0
  let v1015_r0 : Index := Scalar.indexCast v1013_r0
  ![768, v1015_r0.toNat]
def k0_mult124 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let c0_i32_515_r0 : BitVec 32 := 0#32
  let v1019_r0 : BitVec 32 := Scalar.addi v1018_r0 c0_i32_515_r0
  let c256_i32_516_r0 : BitVec 32 := 256#32
  let v1020_r0 : BitVec 32 := Scalar.muli v1019_r0 c256_i32_516_r0
  v1020_r0
def k0_off22 (k0_t5 : Fin k0_t5_loop.trips) (c0_i32_515_r0 : BitVec 32) : Fin 2 → Nat :=
  let c0_517_r0 : Index := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let v1019_r0 : BitVec 32 := Scalar.addi v1018_r0 c0_i32_515_r0
  let c256_i32_516_r0 : BitVec 32 := 256#32
  let v1020_r0 : BitVec 32 := Scalar.muli v1019_r0 c256_i32_516_r0
  let v1021_r0 : BitVec 32 := v1020_r0
  let v1022_r0 : Index := Scalar.indexCast v1021_r0
  ![0, v1022_r0.toNat]
def k0_mult125 (k0_t5 : Fin k0_t5_loop.trips) : BitVec 32 :=
  let c0_i32_519_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c0_i32_519_r0 v1025_r0
  v1026_r0
def k0_off23 (k0_t5 : Fin k0_t5_loop.trips) : Fin 3 → Nat :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let v1028_r0 : Index := Scalar.indexCast v1001_r0
  let c0_520_r0 : Index := 0#32
  let c0_521_r0 : Index := 0#32
  ![v1028_r0.toNat, 0, 0]
def k0_off24 (k0_t5 : Fin k0_t5_loop.trips) : Fin 2 → Nat :=
  let c0_530_r0 : Index := 0#32
  let c0_i32_519_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c0_i32_519_r0 v1025_r0
  let v1027_r0 : BitVec 32 := v1026_r0
  let v1050_r0 : Index := Scalar.indexCast v1027_r0
  ![0, v1050_r0.toNat]
def k0_mult126 (k0_t5 : Fin k0_t5_loop.trips) : BitVec 32 :=
  let c0_i32_544_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c0_i32_544_r0 v1080_r0
  v1081_r0
def k0_off25 (k0_t5 : Fin k0_t5_loop.trips) : Fin 2 → Nat :=
  let c0_i32_544_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c0_i32_544_r0 v1080_r0
  let v1082_r0 : BitVec 32 := v1081_r0
  let v1085_r0 : Index := Scalar.indexCast v1082_r0
  let c0_545_r0 : Index := 0#32
  ![v1085_r0.toNat, 0]
def k0_off26 (k0_t5 : Fin k0_t5_loop.trips) : Fin 2 → Nat :=
  let c0_i32_544_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c0_i32_544_r0 v1080_r0
  let v1082_r0 : BitVec 32 := v1081_r0
  let v1091_r0 : Index := Scalar.indexCast v1082_r0
  let c128_546_r0 : Index := 128#32
  ![v1091_r0.toNat, 128]
def k0_mult127 : BitVec 32 :=
  let c512_i32_549_r0 : BitVec 32 := 512#32
  c512_i32_549_r0
def k0_mult128 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_550_r0 : BitVec 32 := 256#32
  let v1098_r0 : BitVec 32 := Scalar.muli v1096_r0 c256_i32_550_r0
  v1098_r0
def k0_mult129 : BitVec 32 :=
  let c768_i32_551_r0 : BitVec 32 := 768#32
  c768_i32_551_r0
def k0_mult130 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_552_r0 : BitVec 32 := 256#32
  let v1105_r0 : BitVec 32 := Scalar.muli v1096_r0 c256_i32_552_r0
  v1105_r0
def k0_mult131 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_553_r0 : BitVec 32 := 12#32
  let v1111_r0 : BitVec 32 := Scalar.muli v1001_r0 c12_i32_553_r0
  let c1_i32_554_r0 : BitVec 32 := 1#32
  let v1112_r0 : BitVec 32 := Scalar.addi v1111_r0 c1_i32_554_r0
  let c256_i32_555_r0 : BitVec 32 := 256#32
  let v1113_r0 : BitVec 32 := Scalar.muli v1112_r0 c256_i32_555_r0
  v1113_r0
def k0_mult132 : BitVec 32 :=
  let c512_i32_559_r0 : BitVec 32 := 512#32
  c512_i32_559_r0
def k0_mult133 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_560_r0 : BitVec 32 := 256#32
  let v1121_r0 : BitVec 32 := Scalar.muli v1119_r0 c256_i32_560_r0
  v1121_r0
def k0_mult134 : BitVec 32 :=
  let c768_i32_561_r0 : BitVec 32 := 768#32
  c768_i32_561_r0
def k0_mult135 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_562_r0 : BitVec 32 := 256#32
  let v1128_r0 : BitVec 32 := Scalar.muli v1119_r0 c256_i32_562_r0
  v1128_r0
def k0_mult136 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_563_r0 : BitVec 32 := 12#32
  let v1134_r0 : BitVec 32 := Scalar.muli v1001_r0 c12_i32_563_r0
  let c2_i32_564_r0 : BitVec 32 := 2#32
  let v1135_r0 : BitVec 32 := Scalar.addi v1134_r0 c2_i32_564_r0
  let c256_i32_565_r0 : BitVec 32 := 256#32
  let v1136_r0 : BitVec 32 := Scalar.muli v1135_r0 c256_i32_565_r0
  v1136_r0
def k0_mult137 : BitVec 32 :=
  let c512_i32_571_r0 : BitVec 32 := 512#32
  c512_i32_571_r0
def k0_mult138 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let c1_i32_570_r0 : BitVec 32 := 1#32
  let v1144_r0 : BitVec 32 := Scalar.addi v1143_r0 c1_i32_570_r0
  let c1024_i32_572_r0 : BitVec 32 := 1024#32
  let v1146_r0 : BitVec 32 := Scalar.muli v1144_r0 c1024_i32_572_r0
  v1146_r0
def k0_off27 (k0_t5 : Fin k0_t5_loop.trips) (c1_i32_570_r0 : BitVec 32) : Fin 1 → Nat :=
  let c12_i32_573_r0 : BitVec 32 := 12#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let v1148_r0 : BitVec 32 := Scalar.addi c12_i32_573_r0 v1144_r0
  ![v1148_r0.toNat]
def k0_off28 (k0_t5 : Fin k0_t5_loop.trips) (c1_i32_570_r0 : BitVec 32) : Fin 2 → Nat :=
  let c512_i32_571_r0 : BitVec 32 := 512#32
  let v1145_r0 : BitVec 32 := c512_i32_571_r0
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let c1024_i32_572_r0 : BitVec 32 := 1024#32
  let v1146_r0 : BitVec 32 := Scalar.muli v1144_r0 c1024_i32_572_r0
  let v1147_r0 : BitVec 32 := v1146_r0
  ![512, v1147_r0.toNat]
def k0_mult139 : BitVec 32 :=
  let c512_i32_574_r0 : BitVec 32 := 512#32
  c512_i32_574_r0
def k0_mult140 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_575_r0 : BitVec 32 := 256#32
  let v1154_r0 : BitVec 32 := Scalar.muli v1142_r0 c256_i32_575_r0
  v1154_r0
def k0_mult141 : BitVec 32 :=
  let c768_i32_576_r0 : BitVec 32 := 768#32
  c768_i32_576_r0
def k0_mult142 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_577_r0 : BitVec 32 := 256#32
  let v1161_r0 : BitVec 32 := Scalar.muli v1142_r0 c256_i32_577_r0
  v1161_r0
def k0_mult143 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_578_r0 : BitVec 32 := 12#32
  let v1167_r0 : BitVec 32 := Scalar.muli v1001_r0 c12_i32_578_r0
  let c3_i32_579_r0 : BitVec 32 := 3#32
  let v1168_r0 : BitVec 32 := Scalar.addi v1167_r0 c3_i32_579_r0
  let c256_i32_580_r0 : BitVec 32 := 256#32
  let v1169_r0 : BitVec 32 := Scalar.muli v1168_r0 c256_i32_580_r0
  v1169_r0
def k0_mult144 : BitVec 32 :=
  let c512_i32_584_r0 : BitVec 32 := 512#32
  c512_i32_584_r0
def k0_mult145 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_582_r0 : BitVec 32 := 12#32
  let v1174_r0 : BitVec 32 := Scalar.muli v1001_r0 c12_i32_582_r0
  let c5_i32_583_r0 : BitVec 32 := 5#32
  let v1175_r0 : BitVec 32 := Scalar.addi v1174_r0 c5_i32_583_r0
  let c256_i32_585_r0 : BitVec 32 := 256#32
  let v1177_r0 : BitVec 32 := Scalar.muli v1175_r0 c256_i32_585_r0
  v1177_r0
def k0_mult146 : BitVec 32 :=
  let c768_i32_586_r0 : BitVec 32 := 768#32
  c768_i32_586_r0
def k0_mult147 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_582_r0 : BitVec 32 := 12#32
  let v1174_r0 : BitVec 32 := Scalar.muli v1001_r0 c12_i32_582_r0
  let c5_i32_583_r0 : BitVec 32 := 5#32
  let v1175_r0 : BitVec 32 := Scalar.addi v1174_r0 c5_i32_583_r0
  let c256_i32_587_r0 : BitVec 32 := 256#32
  let v1184_r0 : BitVec 32 := Scalar.muli v1175_r0 c256_i32_587_r0
  v1184_r0
def k0_mult148 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_588_r0 : BitVec 32 := 12#32
  let v1190_r0 : BitVec 32 := Scalar.muli v1001_r0 c12_i32_588_r0
  let c4_i32_589_r0 : BitVec 32 := 4#32
  let v1191_r0 : BitVec 32 := Scalar.addi v1190_r0 c4_i32_589_r0
  let c256_i32_590_r0 : BitVec 32 := 256#32
  let v1192_r0 : BitVec 32 := Scalar.muli v1191_r0 c256_i32_590_r0
  v1192_r0
def k0_mult149 : BitVec 32 :=
  let c512_i32_594_r0 : BitVec 32 := 512#32
  c512_i32_594_r0
def k0_mult150 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_592_r0 : BitVec 32 := 12#32
  let v1197_r0 : BitVec 32 := Scalar.muli v1001_r0 c12_i32_592_r0
  let c6_i32_593_r0 : BitVec 32 := 6#32
  let v1198_r0 : BitVec 32 := Scalar.addi v1197_r0 c6_i32_593_r0
  let c256_i32_595_r0 : BitVec 32 := 256#32
  let v1200_r0 : BitVec 32 := Scalar.muli v1198_r0 c256_i32_595_r0
  v1200_r0
def k0_mult151 : BitVec 32 :=
  let c768_i32_596_r0 : BitVec 32 := 768#32
  c768_i32_596_r0
def k0_mult152 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_592_r0 : BitVec 32 := 12#32
  let v1197_r0 : BitVec 32 := Scalar.muli v1001_r0 c12_i32_592_r0
  let c6_i32_593_r0 : BitVec 32 := 6#32
  let v1198_r0 : BitVec 32 := Scalar.addi v1197_r0 c6_i32_593_r0
  let c256_i32_597_r0 : BitVec 32 := 256#32
  let v1207_r0 : BitVec 32 := Scalar.muli v1198_r0 c256_i32_597_r0
  v1207_r0
def k0_mult153 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_598_r0 : BitVec 32 := 12#32
  let v1213_r0 : BitVec 32 := Scalar.muli v1001_r0 c12_i32_598_r0
  let c5_i32_599_r0 : BitVec 32 := 5#32
  let v1214_r0 : BitVec 32 := Scalar.addi v1213_r0 c5_i32_599_r0
  let c256_i32_600_r0 : BitVec 32 := 256#32
  let v1215_r0 : BitVec 32 := Scalar.muli v1214_r0 c256_i32_600_r0
  v1215_r0
def k0_mult154 : BitVec 32 :=
  let c512_i32_604_r0 : BitVec 32 := 512#32
  c512_i32_604_r0
def k0_mult155 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_602_r0 : BitVec 32 := 12#32
  let v1220_r0 : BitVec 32 := Scalar.muli v1001_r0 c12_i32_602_r0
  let c7_i32_603_r0 : BitVec 32 := 7#32
  let v1221_r0 : BitVec 32 := Scalar.addi v1220_r0 c7_i32_603_r0
  let c256_i32_605_r0 : BitVec 32 := 256#32
  let v1223_r0 : BitVec 32 := Scalar.muli v1221_r0 c256_i32_605_r0
  v1223_r0
def k0_mult156 : BitVec 32 :=
  let c768_i32_606_r0 : BitVec 32 := 768#32
  c768_i32_606_r0
def k0_mult157 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_602_r0 : BitVec 32 := 12#32
  let v1220_r0 : BitVec 32 := Scalar.muli v1001_r0 c12_i32_602_r0
  let c7_i32_603_r0 : BitVec 32 := 7#32
  let v1221_r0 : BitVec 32 := Scalar.addi v1220_r0 c7_i32_603_r0
  let c256_i32_607_r0 : BitVec 32 := 256#32
  let v1230_r0 : BitVec 32 := Scalar.muli v1221_r0 c256_i32_607_r0
  v1230_r0
def k0_mult158 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_608_r0 : BitVec 32 := 12#32
  let v1236_r0 : BitVec 32 := Scalar.muli v1001_r0 c12_i32_608_r0
  let c6_i32_609_r0 : BitVec 32 := 6#32
  let v1237_r0 : BitVec 32 := Scalar.addi v1236_r0 c6_i32_609_r0
  let c256_i32_610_r0 : BitVec 32 := 256#32
  let v1238_r0 : BitVec 32 := Scalar.muli v1237_r0 c256_i32_610_r0
  v1238_r0
def k0_mult159 : BitVec 32 :=
  let c512_i32_616_r0 : BitVec 32 := 512#32
  c512_i32_616_r0
def k0_mult160 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_614_r0 : BitVec 32 := 3#32
  let v1245_r0 : BitVec 32 := Scalar.muli v1001_r0 c3_i32_614_r0
  let c2_i32_615_r0 : BitVec 32 := 2#32
  let v1246_r0 : BitVec 32 := Scalar.addi v1245_r0 c2_i32_615_r0
  let c1024_i32_617_r0 : BitVec 32 := 1024#32
  let v1248_r0 : BitVec 32 := Scalar.muli v1246_r0 c1024_i32_617_r0
  v1248_r0
def k0_mult161 : BitVec 32 :=
  let c512_i32_619_r0 : BitVec 32 := 512#32
  c512_i32_619_r0
def k0_mult162 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_612_r0 : BitVec 32 := 12#32
  let v1243_r0 : BitVec 32 := Scalar.muli v1001_r0 c12_i32_612_r0
  let c8_i32_613_r0 : BitVec 32 := 8#32
  let v1244_r0 : BitVec 32 := Scalar.addi v1243_r0 c8_i32_613_r0
  let c256_i32_620_r0 : BitVec 32 := 256#32
  let v1256_r0 : BitVec 32 := Scalar.muli v1244_r0 c256_i32_620_r0
  v1256_r0
def k0_mult163 : BitVec 32 :=
  let c768_i32_621_r0 : BitVec 32 := 768#32
  c768_i32_621_r0
def k0_mult164 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_612_r0 : BitVec 32 := 12#32
  let v1243_r0 : BitVec 32 := Scalar.muli v1001_r0 c12_i32_612_r0
  let c8_i32_613_r0 : BitVec 32 := 8#32
  let v1244_r0 : BitVec 32 := Scalar.addi v1243_r0 c8_i32_613_r0
  let c256_i32_622_r0 : BitVec 32 := 256#32
  let v1263_r0 : BitVec 32 := Scalar.muli v1244_r0 c256_i32_622_r0
  v1263_r0
def k0_mult165 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_623_r0 : BitVec 32 := 12#32
  let v1269_r0 : BitVec 32 := Scalar.muli v1001_r0 c12_i32_623_r0
  let c7_i32_624_r0 : BitVec 32 := 7#32
  let v1270_r0 : BitVec 32 := Scalar.addi v1269_r0 c7_i32_624_r0
  let c256_i32_625_r0 : BitVec 32 := 256#32
  let v1271_r0 : BitVec 32 := Scalar.muli v1270_r0 c256_i32_625_r0
  v1271_r0
def k0_mult166 : BitVec 32 :=
  let c512_i32_629_r0 : BitVec 32 := 512#32
  c512_i32_629_r0
def k0_mult167 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_627_r0 : BitVec 32 := 12#32
  let v1276_r0 : BitVec 32 := Scalar.muli v1001_r0 c12_i32_627_r0
  let c9_i32_628_r0 : BitVec 32 := 9#32
  let v1277_r0 : BitVec 32 := Scalar.addi v1276_r0 c9_i32_628_r0
  let c256_i32_630_r0 : BitVec 32 := 256#32
  let v1279_r0 : BitVec 32 := Scalar.muli v1277_r0 c256_i32_630_r0
  v1279_r0
def k0_mult168 : BitVec 32 :=
  let c768_i32_631_r0 : BitVec 32 := 768#32
  c768_i32_631_r0
def k0_mult169 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_627_r0 : BitVec 32 := 12#32
  let v1276_r0 : BitVec 32 := Scalar.muli v1001_r0 c12_i32_627_r0
  let c9_i32_628_r0 : BitVec 32 := 9#32
  let v1277_r0 : BitVec 32 := Scalar.addi v1276_r0 c9_i32_628_r0
  let c256_i32_632_r0 : BitVec 32 := 256#32
  let v1286_r0 : BitVec 32 := Scalar.muli v1277_r0 c256_i32_632_r0
  v1286_r0
def k0_mult170 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_633_r0 : BitVec 32 := 12#32
  let v1292_r0 : BitVec 32 := Scalar.muli v1001_r0 c12_i32_633_r0
  let c8_i32_634_r0 : BitVec 32 := 8#32
  let v1293_r0 : BitVec 32 := Scalar.addi v1292_r0 c8_i32_634_r0
  let c256_i32_635_r0 : BitVec 32 := 256#32
  let v1294_r0 : BitVec 32 := Scalar.muli v1293_r0 c256_i32_635_r0
  v1294_r0
def k0_mult171 : BitVec 32 :=
  let c512_i32_639_r0 : BitVec 32 := 512#32
  c512_i32_639_r0
def k0_mult172 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_637_r0 : BitVec 32 := 12#32
  let v1299_r0 : BitVec 32 := Scalar.muli v1001_r0 c12_i32_637_r0
  let c10_i32_638_r0 : BitVec 32 := 10#32
  let v1300_r0 : BitVec 32 := Scalar.addi v1299_r0 c10_i32_638_r0
  let c256_i32_640_r0 : BitVec 32 := 256#32
  let v1302_r0 : BitVec 32 := Scalar.muli v1300_r0 c256_i32_640_r0
  v1302_r0
def k0_mult173 : BitVec 32 :=
  let c768_i32_641_r0 : BitVec 32 := 768#32
  c768_i32_641_r0
def k0_mult174 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_637_r0 : BitVec 32 := 12#32
  let v1299_r0 : BitVec 32 := Scalar.muli v1001_r0 c12_i32_637_r0
  let c10_i32_638_r0 : BitVec 32 := 10#32
  let v1300_r0 : BitVec 32 := Scalar.addi v1299_r0 c10_i32_638_r0
  let c256_i32_642_r0 : BitVec 32 := 256#32
  let v1309_r0 : BitVec 32 := Scalar.muli v1300_r0 c256_i32_642_r0
  v1309_r0
def k0_mult175 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_643_r0 : BitVec 32 := 12#32
  let v1315_r0 : BitVec 32 := Scalar.muli v1001_r0 c12_i32_643_r0
  let c9_i32_644_r0 : BitVec 32 := 9#32
  let v1316_r0 : BitVec 32 := Scalar.addi v1315_r0 c9_i32_644_r0
  let c256_i32_645_r0 : BitVec 32 := 256#32
  let v1317_r0 : BitVec 32 := Scalar.muli v1316_r0 c256_i32_645_r0
  v1317_r0
def k0_mult176 : BitVec 32 :=
  let c512_i32_649_r0 : BitVec 32 := 512#32
  c512_i32_649_r0
def k0_mult177 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_647_r0 : BitVec 32 := 12#32
  let v1322_r0 : BitVec 32 := Scalar.muli v1001_r0 c12_i32_647_r0
  let c11_i32_648_r0 : BitVec 32 := 11#32
  let v1323_r0 : BitVec 32 := Scalar.addi v1322_r0 c11_i32_648_r0
  let c256_i32_650_r0 : BitVec 32 := 256#32
  let v1325_r0 : BitVec 32 := Scalar.muli v1323_r0 c256_i32_650_r0
  v1325_r0
def k0_mult178 : BitVec 32 :=
  let c768_i32_651_r0 : BitVec 32 := 768#32
  c768_i32_651_r0
def k0_mult179 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_647_r0 : BitVec 32 := 12#32
  let v1322_r0 : BitVec 32 := Scalar.muli v1001_r0 c12_i32_647_r0
  let c11_i32_648_r0 : BitVec 32 := 11#32
  let v1323_r0 : BitVec 32 := Scalar.addi v1322_r0 c11_i32_648_r0
  let c256_i32_652_r0 : BitVec 32 := 256#32
  let v1332_r0 : BitVec 32 := Scalar.muli v1323_r0 c256_i32_652_r0
  v1332_r0
def k0_mult180 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_653_r0 : BitVec 32 := 12#32
  let v1338_r0 : BitVec 32 := Scalar.muli v1001_r0 c12_i32_653_r0
  let c10_i32_654_r0 : BitVec 32 := 10#32
  let v1339_r0 : BitVec 32 := Scalar.addi v1338_r0 c10_i32_654_r0
  let c256_i32_655_r0 : BitVec 32 := 256#32
  let v1340_r0 : BitVec 32 := Scalar.muli v1339_r0 c256_i32_655_r0
  v1340_r0
def k0_mult181 (k0_t5 : Fin k0_t5_loop.trips) : BitVec 32 :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c512_i32_667_r0 : BitVec 32 := 512#32
  let v1354_r0 : BitVec 32 := Scalar.muli v1347_r0 c512_i32_667_r0
  v1354_r0
def k0_mult182 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c0_i32_666_r0 : BitVec 32 := 0#32
  let c3_i32_664_r0 : BitVec 32 := 3#32
  let v1351_r0 : BitVec 32 := Scalar.muli v1001_r0 c3_i32_664_r0
  let c3_i32_665_r0 : BitVec 32 := 3#32
  let v1352_r0 : BitVec 32 := Scalar.addi v1351_r0 c3_i32_665_r0
  let v1353_r0 : BitVec 32 := Scalar.select v1345_r0 c0_i32_666_r0 v1352_r0
  let c1024_i32_668_r0 : BitVec 32 := 1024#32
  let v1356_r0 : BitVec 32 := Scalar.muli v1353_r0 c1024_i32_668_r0
  v1356_r0
def k0_off29 (k0_t5 : Fin k0_t5_loop.trips) : Fin 1 → Nat :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c12_i32_669_r0 : BitVec 32 := 12#32
  let v1358_r0 : BitVec 32 := Scalar.muli v1347_r0 c12_i32_669_r0
  let c0_i32_666_r0 : BitVec 32 := 0#32
  let c3_i32_664_r0 : BitVec 32 := 3#32
  let v1351_r0 : BitVec 32 := Scalar.muli v1001_r0 c3_i32_664_r0
  let c3_i32_665_r0 : BitVec 32 := 3#32
  let v1352_r0 : BitVec 32 := Scalar.addi v1351_r0 c3_i32_665_r0
  let v1353_r0 : BitVec 32 := Scalar.select v1345_r0 c0_i32_666_r0 v1352_r0
  let v1359_r0 : BitVec 32 := Scalar.addi v1358_r0 v1353_r0
  ![v1359_r0.toNat]
def k0_off30 (k0_t5 : Fin k0_t5_loop.trips) : Fin 2 → Nat :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c512_i32_667_r0 : BitVec 32 := 512#32
  let v1354_r0 : BitVec 32 := Scalar.muli v1347_r0 c512_i32_667_r0
  let v1355_r0 : BitVec 32 := v1354_r0
  let c0_i32_666_r0 : BitVec 32 := 0#32
  let c3_i32_664_r0 : BitVec 32 := 3#32
  let v1351_r0 : BitVec 32 := Scalar.muli v1001_r0 c3_i32_664_r0
  let c3_i32_665_r0 : BitVec 32 := 3#32
  let v1352_r0 : BitVec 32 := Scalar.addi v1351_r0 c3_i32_665_r0
  let v1353_r0 : BitVec 32 := Scalar.select v1345_r0 c0_i32_666_r0 v1352_r0
  let c1024_i32_668_r0 : BitVec 32 := 1024#32
  let v1356_r0 : BitVec 32 := Scalar.muli v1353_r0 c1024_i32_668_r0
  let v1357_r0 : BitVec 32 := v1356_r0
  ![v1355_r0.toNat, v1357_r0.toNat]
def k0_mult183 (k0_t5 : Fin k0_t5_loop.trips) : BitVec 32 :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c512_i32_670_r0 : BitVec 32 := 512#32
  let v1364_r0 : BitVec 32 := Scalar.muli v1347_r0 c512_i32_670_r0
  let c0_i32_671_r0 : BitVec 32 := 0#32
  let v1365_r0 : BitVec 32 := Scalar.addi v1364_r0 c0_i32_671_r0
  v1365_r0
def k0_mult184 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c0_i32_663_r0 : BitVec 32 := 0#32
  let c12_i32_661_r0 : BitVec 32 := 12#32
  let v1348_r0 : BitVec 32 := Scalar.muli v1001_r0 c12_i32_661_r0
  let c12_i32_662_r0 : BitVec 32 := 12#32
  let v1349_r0 : BitVec 32 := Scalar.addi v1348_r0 c12_i32_662_r0
  let v1350_r0 : BitVec 32 := Scalar.select v1345_r0 c0_i32_663_r0 v1349_r0
  let c256_i32_672_r0 : BitVec 32 := 256#32
  let v1367_r0 : BitVec 32 := Scalar.muli v1350_r0 c256_i32_672_r0
  v1367_r0
def k0_off31 (k0_t5 : Fin k0_t5_loop.trips) (c0_i32_671_r0 : BitVec 32) : Fin 2 → Nat :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c512_i32_670_r0 : BitVec 32 := 512#32
  let v1364_r0 : BitVec 32 := Scalar.muli v1347_r0 c512_i32_670_r0
  let v1365_r0 : BitVec 32 := Scalar.addi v1364_r0 c0_i32_671_r0
  let v1366_r0 : BitVec 32 := v1365_r0
  let v1369_r0 : Index := Scalar.indexCast v1366_r0
  let c0_i32_663_r0 : BitVec 32 := 0#32
  let c12_i32_661_r0 : BitVec 32 := 12#32
  let v1348_r0 : BitVec 32 := Scalar.muli v1001_r0 c12_i32_661_r0
  let c12_i32_662_r0 : BitVec 32 := 12#32
  let v1349_r0 : BitVec 32 := Scalar.addi v1348_r0 c12_i32_662_r0
  let v1350_r0 : BitVec 32 := Scalar.select v1345_r0 c0_i32_663_r0 v1349_r0
  let c256_i32_672_r0 : BitVec 32 := 256#32
  let v1367_r0 : BitVec 32 := Scalar.muli v1350_r0 c256_i32_672_r0
  let v1368_r0 : BitVec 32 := v1367_r0
  let v1370_r0 : Index := Scalar.indexCast v1368_r0
  ![v1369_r0.toNat, v1370_r0.toNat]
def k0_mult185 (k0_t5 : Fin k0_t5_loop.trips) : BitVec 32 :=
  let c1_i32_660_r0 : BitVec 32 := 1#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c1_i32_658_r0 : BitVec 32 := 1#32
  let c0_i32_659_r0 : BitVec 32 := 0#32
  let v1346_r0 : BitVec 32 := Scalar.select v1345_r0 c1_i32_658_r0 c0_i32_659_r0
  let v1347_r0 : BitVec 32 := Scalar.addi c1_i32_660_r0 v1346_r0
  let c512_i32_673_r0 : BitVec 32 := 512#32
  let v1373_r0 : BitVec 32 := Scalar.muli v1347_r0 c512_i32_673_r0
  let c256_i32_674_r0 : BitVec 32 := 256#32
  let v1374_r0 : BitVec 32 := Scalar.addi v1373_r0 c256_i32_674_r0
  v1374_r0
def k0_mult186 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c3_i32_657_r0 : BitVec 32 := 3#32
  let v1345_r0 : BitVec 1 := Scalar.cmpi .eq v1001_r0 c3_i32_657_r0
  let c0_i32_663_r0 : BitVec 32 := 0#32
  let c12_i32_661_r0 : BitVec 32 := 12#32
  let v1348_r0 : BitVec 32 := Scalar.muli v1001_r0 c12_i32_661_r0
  let c12_i32_662_r0 : BitVec 32 := 12#32
  let v1349_r0 : BitVec 32 := Scalar.addi v1348_r0 c12_i32_662_r0
  let v1350_r0 : BitVec 32 := Scalar.select v1345_r0 c0_i32_663_r0 v1349_r0
  let c256_i32_675_r0 : BitVec 32 := 256#32
  let v1376_r0 : BitVec 32 := Scalar.muli v1350_r0 c256_i32_675_r0
  v1376_r0
def k0_mult187 (k0_t5 : Fin k0_t5_loop.trips) : BitVec 32 :=
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c12_i32_676_r0 : BitVec 32 := 12#32
  let v1382_r0 : BitVec 32 := Scalar.muli v1001_r0 c12_i32_676_r0
  let c11_i32_677_r0 : BitVec 32 := 11#32
  let v1383_r0 : BitVec 32 := Scalar.addi v1382_r0 c11_i32_677_r0
  let c256_i32_678_r0 : BitVec 32 := 256#32
  let v1384_r0 : BitVec 32 := Scalar.muli v1383_r0 c256_i32_678_r0
  v1384_r0
def k0_mult188 (k0_t5 : Fin k0_t5_loop.trips) : BitVec 32 :=
  let c0_i32_681_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_680_r0 : BitVec 32 := 128#32
  let v1389_r0 : BitVec 32 := Scalar.muli v1001_r0 c128_i32_680_r0
  let v1390_r0 : BitVec 32 := Scalar.addi c0_i32_681_r0 v1389_r0
  v1390_r0
def k0_off32 (k0_t5 : Fin k0_t5_loop.trips) : Fin 1 → Nat :=
  let c0_i32_682_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let v1392_r0 : BitVec 32 := Scalar.addi c0_i32_682_r0 v1001_r0
  ![v1392_r0.toNat]
def k0_off33 (k0_t5 : Fin k0_t5_loop.trips) : Fin 2 → Nat :=
  let c0_i32_681_r0 : BitVec 32 := 0#32
  let c0_i32_507_r0 : BitVec 32 := 0#32
  let c0_i32_123_r0 : BitVec 32 := 0#32
  let c1_i32_125_r0 : BitVec 32 := 1#32
  let arg30_r0 : BitVec 32 := Scf.iv c0_i32_123_r0 c1_i32_125_r0 k0_t5
  let c1_i32_506_r0 : BitVec 32 := 1#32
  let v1000_r0 : BitVec 32 := Scalar.muli arg30_r0 c1_i32_506_r0
  let v1001_r0 : BitVec 32 := Scalar.addi c0_i32_507_r0 v1000_r0
  let c128_i32_680_r0 : BitVec 32 := 128#32
  let v1389_r0 : BitVec 32 := Scalar.muli v1001_r0 c128_i32_680_r0
  let v1390_r0 : BitVec 32 := Scalar.addi c0_i32_681_r0 v1389_r0
  let v1391_r0 : BitVec 32 := v1390_r0
  let c0_i32_683_r0 : BitVec 32 := 0#32
  ![v1391_r0.toNat, 0]
@[reducible] def k0_t6_loop : Scf.Loop 32 :=
  let c0_i32_151_r0 : BitVec 32 := 0#32
  let c4_i32_152_r0 : BitVec 32 := 4#32
  let v266_r0 : BitVec 32 := Scalar.addi c0_i32_151_r0 c4_i32_152_r0
  let c1_i32_153_r0 : BitVec 32 := 1#32
  ⟨c0_i32_151_r0, v266_r0, c1_i32_153_r0⟩
def k0_mult189 : BitVec 32 :=
  let c1024_i32_510_r0 : BitVec 32 := 1024#32
  c1024_i32_510_r0
def k0_mult190 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_511_r0 : BitVec 32 := 256#32
  let v1005_r0 : BitVec 32 := Scalar.muli v1003_r0 c256_i32_511_r0
  v1005_r0
def k0_off34 (k0_t6 : Fin k0_t6_loop.trips) (c1_i32_509_r0 : BitVec 32) : Fin 2 → Nat :=
  let c1024_i32_510_r0 : BitVec 32 := 1024#32
  let v1004_r0 : BitVec 32 := c1024_i32_510_r0
  let v1007_r0 : Index := Scalar.indexCast v1004_r0
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_511_r0 : BitVec 32 := 256#32
  let v1005_r0 : BitVec 32 := Scalar.muli v1003_r0 c256_i32_511_r0
  let v1006_r0 : BitVec 32 := v1005_r0
  let v1008_r0 : Index := Scalar.indexCast v1006_r0
  ![1024, v1008_r0.toNat]
def k0_mult191 : BitVec 32 :=
  let c1280_i32_512_r0 : BitVec 32 := 1280#32
  c1280_i32_512_r0
def k0_mult192 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_513_r0 : BitVec 32 := 256#32
  let v1012_r0 : BitVec 32 := Scalar.muli v1003_r0 c256_i32_513_r0
  v1012_r0
def k0_off35 (k0_t6 : Fin k0_t6_loop.trips) (c1_i32_509_r0 : BitVec 32) : Fin 2 → Nat :=
  let c1280_i32_512_r0 : BitVec 32 := 1280#32
  let v1011_r0 : BitVec 32 := c1280_i32_512_r0
  let v1014_r0 : Index := Scalar.indexCast v1011_r0
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_513_r0 : BitVec 32 := 256#32
  let v1012_r0 : BitVec 32 := Scalar.muli v1003_r0 c256_i32_513_r0
  let v1013_r0 : BitVec 32 := v1012_r0
  let v1015_r0 : Index := Scalar.indexCast v1013_r0
  ![1280, v1015_r0.toNat]
def k0_mult193 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let c0_i32_515_r0 : BitVec 32 := 0#32
  let v1019_r0 : BitVec 32 := Scalar.addi v1018_r0 c0_i32_515_r0
  let c256_i32_516_r0 : BitVec 32 := 256#32
  let v1020_r0 : BitVec 32 := Scalar.muli v1019_r0 c256_i32_516_r0
  v1020_r0
def k0_off36 (k0_t6 : Fin k0_t6_loop.trips) (c0_i32_515_r0 : BitVec 32) : Fin 2 → Nat :=
  let c0_517_r0 : Index := 0#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let v1019_r0 : BitVec 32 := Scalar.addi v1018_r0 c0_i32_515_r0
  let c256_i32_516_r0 : BitVec 32 := 256#32
  let v1020_r0 : BitVec 32 := Scalar.muli v1019_r0 c256_i32_516_r0
  let v1021_r0 : BitVec 32 := v1020_r0
  let v1022_r0 : Index := Scalar.indexCast v1021_r0
  ![0, v1022_r0.toNat]
def k0_mult194 (k0_t6 : Fin k0_t6_loop.trips) : BitVec 32 :=
  let c512_i32_519_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c512_i32_519_r0 v1025_r0
  v1026_r0
def k0_off37 (k0_t6 : Fin k0_t6_loop.trips) : Fin 3 → Nat :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let v1028_r0 : Index := Scalar.indexCast v1001_r0
  let c0_520_r0 : Index := 0#32
  let c0_521_r0 : Index := 0#32
  ![v1028_r0.toNat, 0, 0]
def k0_off38 (k0_t6 : Fin k0_t6_loop.trips) : Fin 2 → Nat :=
  let c0_530_r0 : Index := 0#32
  let c512_i32_519_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c512_i32_519_r0 v1025_r0
  let v1027_r0 : BitVec 32 := v1026_r0
  let v1050_r0 : Index := Scalar.indexCast v1027_r0
  ![0, v1050_r0.toNat]
def k0_mult195 (k0_t6 : Fin k0_t6_loop.trips) : BitVec 32 :=
  let c512_i32_544_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c512_i32_544_r0 v1080_r0
  v1081_r0
def k0_off39 (k0_t6 : Fin k0_t6_loop.trips) : Fin 2 → Nat :=
  let c512_i32_544_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c512_i32_544_r0 v1080_r0
  let v1082_r0 : BitVec 32 := v1081_r0
  let v1085_r0 : Index := Scalar.indexCast v1082_r0
  let c0_545_r0 : Index := 0#32
  ![v1085_r0.toNat, 0]
def k0_off40 (k0_t6 : Fin k0_t6_loop.trips) : Fin 2 → Nat :=
  let c512_i32_544_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c512_i32_544_r0 v1080_r0
  let v1082_r0 : BitVec 32 := v1081_r0
  let v1091_r0 : Index := Scalar.indexCast v1082_r0
  let c128_546_r0 : Index := 128#32
  ![v1091_r0.toNat, 128]
def k0_mult196 : BitVec 32 :=
  let c1024_i32_549_r0 : BitVec 32 := 1024#32
  c1024_i32_549_r0
def k0_mult197 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_550_r0 : BitVec 32 := 256#32
  let v1098_r0 : BitVec 32 := Scalar.muli v1096_r0 c256_i32_550_r0
  v1098_r0
def k0_mult198 : BitVec 32 :=
  let c1280_i32_551_r0 : BitVec 32 := 1280#32
  c1280_i32_551_r0
def k0_mult199 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_552_r0 : BitVec 32 := 256#32
  let v1105_r0 : BitVec 32 := Scalar.muli v1096_r0 c256_i32_552_r0
  v1105_r0
def k0_mult200 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_553_r0 : BitVec 32 := 12#32
  let v1111_r0 : BitVec 32 := Scalar.muli v1001_r0 c12_i32_553_r0
  let c1_i32_554_r0 : BitVec 32 := 1#32
  let v1112_r0 : BitVec 32 := Scalar.addi v1111_r0 c1_i32_554_r0
  let c256_i32_555_r0 : BitVec 32 := 256#32
  let v1113_r0 : BitVec 32 := Scalar.muli v1112_r0 c256_i32_555_r0
  v1113_r0
def k0_mult201 : BitVec 32 :=
  let c1024_i32_559_r0 : BitVec 32 := 1024#32
  c1024_i32_559_r0
def k0_mult202 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_560_r0 : BitVec 32 := 256#32
  let v1121_r0 : BitVec 32 := Scalar.muli v1119_r0 c256_i32_560_r0
  v1121_r0
def k0_mult203 : BitVec 32 :=
  let c1280_i32_561_r0 : BitVec 32 := 1280#32
  c1280_i32_561_r0
def k0_mult204 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_562_r0 : BitVec 32 := 256#32
  let v1128_r0 : BitVec 32 := Scalar.muli v1119_r0 c256_i32_562_r0
  v1128_r0
def k0_mult205 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_563_r0 : BitVec 32 := 12#32
  let v1134_r0 : BitVec 32 := Scalar.muli v1001_r0 c12_i32_563_r0
  let c2_i32_564_r0 : BitVec 32 := 2#32
  let v1135_r0 : BitVec 32 := Scalar.addi v1134_r0 c2_i32_564_r0
  let c256_i32_565_r0 : BitVec 32 := 256#32
  let v1136_r0 : BitVec 32 := Scalar.muli v1135_r0 c256_i32_565_r0
  v1136_r0
def k0_mult206 : BitVec 32 :=
  let c1024_i32_571_r0 : BitVec 32 := 1024#32
  c1024_i32_571_r0
def k0_mult207 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let c1_i32_570_r0 : BitVec 32 := 1#32
  let v1144_r0 : BitVec 32 := Scalar.addi v1143_r0 c1_i32_570_r0
  let c1024_i32_572_r0 : BitVec 32 := 1024#32
  let v1146_r0 : BitVec 32 := Scalar.muli v1144_r0 c1024_i32_572_r0
  v1146_r0
def k0_off41 (k0_t6 : Fin k0_t6_loop.trips) (c1_i32_570_r0 : BitVec 32) : Fin 1 → Nat :=
  let c24_i32_r0 : BitVec 32 := 24#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let v1148_r0 : BitVec 32 := Scalar.addi c24_i32_r0 v1144_r0
  ![v1148_r0.toNat]
def k0_off42 (k0_t6 : Fin k0_t6_loop.trips) (c1_i32_570_r0 : BitVec 32) : Fin 2 → Nat :=
  let c1024_i32_571_r0 : BitVec 32 := 1024#32
  let v1145_r0 : BitVec 32 := c1024_i32_571_r0
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let c1024_i32_572_r0 : BitVec 32 := 1024#32
  let v1146_r0 : BitVec 32 := Scalar.muli v1144_r0 c1024_i32_572_r0
  let v1147_r0 : BitVec 32 := v1146_r0
  ![1024, v1147_r0.toNat]
def k0_mult208 : BitVec 32 :=
  let c1024_i32_573_r0 : BitVec 32 := 1024#32
  c1024_i32_573_r0
def k0_mult209 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_574_r0 : BitVec 32 := 256#32
  let v1154_r0 : BitVec 32 := Scalar.muli v1142_r0 c256_i32_574_r0
  v1154_r0
def k0_mult210 : BitVec 32 :=
  let c1280_i32_575_r0 : BitVec 32 := 1280#32
  c1280_i32_575_r0
def k0_mult211 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_576_r0 : BitVec 32 := 256#32
  let v1161_r0 : BitVec 32 := Scalar.muli v1142_r0 c256_i32_576_r0
  v1161_r0
def k0_mult212 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_577_r0 : BitVec 32 := 12#32
  let v1167_r0 : BitVec 32 := Scalar.muli v1001_r0 c12_i32_577_r0
  let c3_i32_578_r0 : BitVec 32 := 3#32
  let v1168_r0 : BitVec 32 := Scalar.addi v1167_r0 c3_i32_578_r0
  let c256_i32_579_r0 : BitVec 32 := 256#32
  let v1169_r0 : BitVec 32 := Scalar.muli v1168_r0 c256_i32_579_r0
  v1169_r0
def k0_mult213 : BitVec 32 :=
  let c1024_i32_583_r0 : BitVec 32 := 1024#32
  c1024_i32_583_r0
def k0_mult214 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_581_r0 : BitVec 32 := 12#32
  let v1174_r0 : BitVec 32 := Scalar.muli v1001_r0 c12_i32_581_r0
  let c5_i32_582_r0 : BitVec 32 := 5#32
  let v1175_r0 : BitVec 32 := Scalar.addi v1174_r0 c5_i32_582_r0
  let c256_i32_584_r0 : BitVec 32 := 256#32
  let v1177_r0 : BitVec 32 := Scalar.muli v1175_r0 c256_i32_584_r0
  v1177_r0
def k0_mult215 : BitVec 32 :=
  let c1280_i32_585_r0 : BitVec 32 := 1280#32
  c1280_i32_585_r0
def k0_mult216 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_581_r0 : BitVec 32 := 12#32
  let v1174_r0 : BitVec 32 := Scalar.muli v1001_r0 c12_i32_581_r0
  let c5_i32_582_r0 : BitVec 32 := 5#32
  let v1175_r0 : BitVec 32 := Scalar.addi v1174_r0 c5_i32_582_r0
  let c256_i32_586_r0 : BitVec 32 := 256#32
  let v1184_r0 : BitVec 32 := Scalar.muli v1175_r0 c256_i32_586_r0
  v1184_r0
def k0_mult217 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_587_r0 : BitVec 32 := 12#32
  let v1190_r0 : BitVec 32 := Scalar.muli v1001_r0 c12_i32_587_r0
  let c4_i32_588_r0 : BitVec 32 := 4#32
  let v1191_r0 : BitVec 32 := Scalar.addi v1190_r0 c4_i32_588_r0
  let c256_i32_589_r0 : BitVec 32 := 256#32
  let v1192_r0 : BitVec 32 := Scalar.muli v1191_r0 c256_i32_589_r0
  v1192_r0
def k0_mult218 : BitVec 32 :=
  let c1024_i32_593_r0 : BitVec 32 := 1024#32
  c1024_i32_593_r0
def k0_mult219 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_591_r0 : BitVec 32 := 12#32
  let v1197_r0 : BitVec 32 := Scalar.muli v1001_r0 c12_i32_591_r0
  let c6_i32_592_r0 : BitVec 32 := 6#32
  let v1198_r0 : BitVec 32 := Scalar.addi v1197_r0 c6_i32_592_r0
  let c256_i32_594_r0 : BitVec 32 := 256#32
  let v1200_r0 : BitVec 32 := Scalar.muli v1198_r0 c256_i32_594_r0
  v1200_r0
def k0_mult220 : BitVec 32 :=
  let c1280_i32_595_r0 : BitVec 32 := 1280#32
  c1280_i32_595_r0
def k0_mult221 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_591_r0 : BitVec 32 := 12#32
  let v1197_r0 : BitVec 32 := Scalar.muli v1001_r0 c12_i32_591_r0
  let c6_i32_592_r0 : BitVec 32 := 6#32
  let v1198_r0 : BitVec 32 := Scalar.addi v1197_r0 c6_i32_592_r0
  let c256_i32_596_r0 : BitVec 32 := 256#32
  let v1207_r0 : BitVec 32 := Scalar.muli v1198_r0 c256_i32_596_r0
  v1207_r0
def k0_mult222 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_597_r0 : BitVec 32 := 12#32
  let v1213_r0 : BitVec 32 := Scalar.muli v1001_r0 c12_i32_597_r0
  let c5_i32_598_r0 : BitVec 32 := 5#32
  let v1214_r0 : BitVec 32 := Scalar.addi v1213_r0 c5_i32_598_r0
  let c256_i32_599_r0 : BitVec 32 := 256#32
  let v1215_r0 : BitVec 32 := Scalar.muli v1214_r0 c256_i32_599_r0
  v1215_r0
def k0_mult223 : BitVec 32 :=
  let c1024_i32_603_r0 : BitVec 32 := 1024#32
  c1024_i32_603_r0
def k0_mult224 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_601_r0 : BitVec 32 := 12#32
  let v1220_r0 : BitVec 32 := Scalar.muli v1001_r0 c12_i32_601_r0
  let c7_i32_602_r0 : BitVec 32 := 7#32
  let v1221_r0 : BitVec 32 := Scalar.addi v1220_r0 c7_i32_602_r0
  let c256_i32_604_r0 : BitVec 32 := 256#32
  let v1223_r0 : BitVec 32 := Scalar.muli v1221_r0 c256_i32_604_r0
  v1223_r0
def k0_mult225 : BitVec 32 :=
  let c1280_i32_605_r0 : BitVec 32 := 1280#32
  c1280_i32_605_r0
def k0_mult226 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_601_r0 : BitVec 32 := 12#32
  let v1220_r0 : BitVec 32 := Scalar.muli v1001_r0 c12_i32_601_r0
  let c7_i32_602_r0 : BitVec 32 := 7#32
  let v1221_r0 : BitVec 32 := Scalar.addi v1220_r0 c7_i32_602_r0
  let c256_i32_606_r0 : BitVec 32 := 256#32
  let v1230_r0 : BitVec 32 := Scalar.muli v1221_r0 c256_i32_606_r0
  v1230_r0
def k0_mult227 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_607_r0 : BitVec 32 := 12#32
  let v1236_r0 : BitVec 32 := Scalar.muli v1001_r0 c12_i32_607_r0
  let c6_i32_608_r0 : BitVec 32 := 6#32
  let v1237_r0 : BitVec 32 := Scalar.addi v1236_r0 c6_i32_608_r0
  let c256_i32_609_r0 : BitVec 32 := 256#32
  let v1238_r0 : BitVec 32 := Scalar.muli v1237_r0 c256_i32_609_r0
  v1238_r0
def k0_mult228 : BitVec 32 :=
  let c1024_i32_615_r0 : BitVec 32 := 1024#32
  c1024_i32_615_r0
def k0_mult229 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_613_r0 : BitVec 32 := 3#32
  let v1245_r0 : BitVec 32 := Scalar.muli v1001_r0 c3_i32_613_r0
  let c2_i32_614_r0 : BitVec 32 := 2#32
  let v1246_r0 : BitVec 32 := Scalar.addi v1245_r0 c2_i32_614_r0
  let c1024_i32_616_r0 : BitVec 32 := 1024#32
  let v1248_r0 : BitVec 32 := Scalar.muli v1246_r0 c1024_i32_616_r0
  v1248_r0
def k0_mult230 : BitVec 32 :=
  let c1024_i32_618_r0 : BitVec 32 := 1024#32
  c1024_i32_618_r0
def k0_mult231 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_611_r0 : BitVec 32 := 12#32
  let v1243_r0 : BitVec 32 := Scalar.muli v1001_r0 c12_i32_611_r0
  let c8_i32_612_r0 : BitVec 32 := 8#32
  let v1244_r0 : BitVec 32 := Scalar.addi v1243_r0 c8_i32_612_r0
  let c256_i32_619_r0 : BitVec 32 := 256#32
  let v1256_r0 : BitVec 32 := Scalar.muli v1244_r0 c256_i32_619_r0
  v1256_r0
def k0_mult232 : BitVec 32 :=
  let c1280_i32_620_r0 : BitVec 32 := 1280#32
  c1280_i32_620_r0
def k0_mult233 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_611_r0 : BitVec 32 := 12#32
  let v1243_r0 : BitVec 32 := Scalar.muli v1001_r0 c12_i32_611_r0
  let c8_i32_612_r0 : BitVec 32 := 8#32
  let v1244_r0 : BitVec 32 := Scalar.addi v1243_r0 c8_i32_612_r0
  let c256_i32_621_r0 : BitVec 32 := 256#32
  let v1263_r0 : BitVec 32 := Scalar.muli v1244_r0 c256_i32_621_r0
  v1263_r0
def k0_mult234 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_622_r0 : BitVec 32 := 12#32
  let v1269_r0 : BitVec 32 := Scalar.muli v1001_r0 c12_i32_622_r0
  let c7_i32_623_r0 : BitVec 32 := 7#32
  let v1270_r0 : BitVec 32 := Scalar.addi v1269_r0 c7_i32_623_r0
  let c256_i32_624_r0 : BitVec 32 := 256#32
  let v1271_r0 : BitVec 32 := Scalar.muli v1270_r0 c256_i32_624_r0
  v1271_r0
def k0_mult235 : BitVec 32 :=
  let c1024_i32_628_r0 : BitVec 32 := 1024#32
  c1024_i32_628_r0
def k0_mult236 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_626_r0 : BitVec 32 := 12#32
  let v1276_r0 : BitVec 32 := Scalar.muli v1001_r0 c12_i32_626_r0
  let c9_i32_627_r0 : BitVec 32 := 9#32
  let v1277_r0 : BitVec 32 := Scalar.addi v1276_r0 c9_i32_627_r0
  let c256_i32_629_r0 : BitVec 32 := 256#32
  let v1279_r0 : BitVec 32 := Scalar.muli v1277_r0 c256_i32_629_r0
  v1279_r0
def k0_mult237 : BitVec 32 :=
  let c1280_i32_630_r0 : BitVec 32 := 1280#32
  c1280_i32_630_r0
def k0_mult238 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_626_r0 : BitVec 32 := 12#32
  let v1276_r0 : BitVec 32 := Scalar.muli v1001_r0 c12_i32_626_r0
  let c9_i32_627_r0 : BitVec 32 := 9#32
  let v1277_r0 : BitVec 32 := Scalar.addi v1276_r0 c9_i32_627_r0
  let c256_i32_631_r0 : BitVec 32 := 256#32
  let v1286_r0 : BitVec 32 := Scalar.muli v1277_r0 c256_i32_631_r0
  v1286_r0
def k0_mult239 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_632_r0 : BitVec 32 := 12#32
  let v1292_r0 : BitVec 32 := Scalar.muli v1001_r0 c12_i32_632_r0
  let c8_i32_633_r0 : BitVec 32 := 8#32
  let v1293_r0 : BitVec 32 := Scalar.addi v1292_r0 c8_i32_633_r0
  let c256_i32_634_r0 : BitVec 32 := 256#32
  let v1294_r0 : BitVec 32 := Scalar.muli v1293_r0 c256_i32_634_r0
  v1294_r0
def k0_mult240 : BitVec 32 :=
  let c1024_i32_638_r0 : BitVec 32 := 1024#32
  c1024_i32_638_r0
def k0_mult241 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_636_r0 : BitVec 32 := 12#32
  let v1299_r0 : BitVec 32 := Scalar.muli v1001_r0 c12_i32_636_r0
  let c10_i32_637_r0 : BitVec 32 := 10#32
  let v1300_r0 : BitVec 32 := Scalar.addi v1299_r0 c10_i32_637_r0
  let c256_i32_639_r0 : BitVec 32 := 256#32
  let v1302_r0 : BitVec 32 := Scalar.muli v1300_r0 c256_i32_639_r0
  v1302_r0
def k0_mult242 : BitVec 32 :=
  let c1280_i32_640_r0 : BitVec 32 := 1280#32
  c1280_i32_640_r0
def k0_mult243 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_636_r0 : BitVec 32 := 12#32
  let v1299_r0 : BitVec 32 := Scalar.muli v1001_r0 c12_i32_636_r0
  let c10_i32_637_r0 : BitVec 32 := 10#32
  let v1300_r0 : BitVec 32 := Scalar.addi v1299_r0 c10_i32_637_r0
  let c256_i32_641_r0 : BitVec 32 := 256#32
  let v1309_r0 : BitVec 32 := Scalar.muli v1300_r0 c256_i32_641_r0
  v1309_r0
def k0_mult244 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_642_r0 : BitVec 32 := 12#32
  let v1315_r0 : BitVec 32 := Scalar.muli v1001_r0 c12_i32_642_r0
  let c9_i32_643_r0 : BitVec 32 := 9#32
  let v1316_r0 : BitVec 32 := Scalar.addi v1315_r0 c9_i32_643_r0
  let c256_i32_644_r0 : BitVec 32 := 256#32
  let v1317_r0 : BitVec 32 := Scalar.muli v1316_r0 c256_i32_644_r0
  v1317_r0
def k0_mult245 : BitVec 32 :=
  let c1024_i32_648_r0 : BitVec 32 := 1024#32
  c1024_i32_648_r0
def k0_mult246 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_646_r0 : BitVec 32 := 12#32
  let v1322_r0 : BitVec 32 := Scalar.muli v1001_r0 c12_i32_646_r0
  let c11_i32_647_r0 : BitVec 32 := 11#32
  let v1323_r0 : BitVec 32 := Scalar.addi v1322_r0 c11_i32_647_r0
  let c256_i32_649_r0 : BitVec 32 := 256#32
  let v1325_r0 : BitVec 32 := Scalar.muli v1323_r0 c256_i32_649_r0
  v1325_r0
def k0_mult247 : BitVec 32 :=
  let c1280_i32_650_r0 : BitVec 32 := 1280#32
  c1280_i32_650_r0
def k0_mult248 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_646_r0 : BitVec 32 := 12#32
  let v1322_r0 : BitVec 32 := Scalar.muli v1001_r0 c12_i32_646_r0
  let c11_i32_647_r0 : BitVec 32 := 11#32
  let v1323_r0 : BitVec 32 := Scalar.addi v1322_r0 c11_i32_647_r0
  let c256_i32_651_r0 : BitVec 32 := 256#32
  let v1332_r0 : BitVec 32 := Scalar.muli v1323_r0 c256_i32_651_r0
  v1332_r0
def k0_mult249 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_652_r0 : BitVec 32 := 12#32
  let v1338_r0 : BitVec 32 := Scalar.muli v1001_r0 c12_i32_652_r0
  let c10_i32_653_r0 : BitVec 32 := 10#32
  let v1339_r0 : BitVec 32 := Scalar.addi v1338_r0 c10_i32_653_r0
  let c256_i32_654_r0 : BitVec 32 := 256#32
  let v1340_r0 : BitVec 32 := Scalar.muli v1339_r0 c256_i32_654_r0
  v1340_r0
def k0_mult250 (k0_t6 : Fin k0_t6_loop.trips) : BitVec 32 :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c512_i32_666_r0 : BitVec 32 := 512#32
  let v1354_r0 : BitVec 32 := Scalar.muli v1347_r0 c512_i32_666_r0
  v1354_r0
def k0_mult251 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let c1024_i32_667_r0 : BitVec 32 := 1024#32
  let v1356_r0 : BitVec 32 := Scalar.muli v1353_r0 c1024_i32_667_r0
  v1356_r0
def k0_off43 (k0_t6 : Fin k0_t6_loop.trips) : Fin 1 → Nat :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c12_i32_668_r0 : BitVec 32 := 12#32
  let v1358_r0 : BitVec 32 := Scalar.muli v1347_r0 c12_i32_668_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let v1359_r0 : BitVec 32 := Scalar.addi v1358_r0 v1353_r0
  ![v1359_r0.toNat]
def k0_off44 (k0_t6 : Fin k0_t6_loop.trips) : Fin 2 → Nat :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c512_i32_666_r0 : BitVec 32 := 512#32
  let v1354_r0 : BitVec 32 := Scalar.muli v1347_r0 c512_i32_666_r0
  let v1355_r0 : BitVec 32 := v1354_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let c1024_i32_667_r0 : BitVec 32 := 1024#32
  let v1356_r0 : BitVec 32 := Scalar.muli v1353_r0 c1024_i32_667_r0
  let v1357_r0 : BitVec 32 := v1356_r0
  ![v1355_r0.toNat, v1357_r0.toNat]
def k0_mult252 (k0_t6 : Fin k0_t6_loop.trips) : BitVec 32 :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c512_i32_669_r0 : BitVec 32 := 512#32
  let v1364_r0 : BitVec 32 := Scalar.muli v1347_r0 c512_i32_669_r0
  let c0_i32_670_r0 : BitVec 32 := 0#32
  let v1365_r0 : BitVec 32 := Scalar.addi v1364_r0 c0_i32_670_r0
  v1365_r0
def k0_mult253 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_671_r0 : BitVec 32 := 256#32
  let v1367_r0 : BitVec 32 := Scalar.muli v1350_r0 c256_i32_671_r0
  v1367_r0
def k0_off45 (k0_t6 : Fin k0_t6_loop.trips) (c0_i32_670_r0 : BitVec 32) : Fin 2 → Nat :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c512_i32_669_r0 : BitVec 32 := 512#32
  let v1364_r0 : BitVec 32 := Scalar.muli v1347_r0 c512_i32_669_r0
  let v1365_r0 : BitVec 32 := Scalar.addi v1364_r0 c0_i32_670_r0
  let v1366_r0 : BitVec 32 := v1365_r0
  let v1369_r0 : Index := Scalar.indexCast v1366_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_671_r0 : BitVec 32 := 256#32
  let v1367_r0 : BitVec 32 := Scalar.muli v1350_r0 c256_i32_671_r0
  let v1368_r0 : BitVec 32 := v1367_r0
  let v1370_r0 : Index := Scalar.indexCast v1368_r0
  ![v1369_r0.toNat, v1370_r0.toNat]
def k0_mult254 (k0_t6 : Fin k0_t6_loop.trips) : BitVec 32 :=
  let c2_i32_659_r0 : BitVec 32 := 2#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c2_i32_659_r0 v1346_r0
  let c512_i32_672_r0 : BitVec 32 := 512#32
  let v1373_r0 : BitVec 32 := Scalar.muli v1347_r0 c512_i32_672_r0
  let c256_i32_673_r0 : BitVec 32 := 256#32
  let v1374_r0 : BitVec 32 := Scalar.addi v1373_r0 c256_i32_673_r0
  v1374_r0
def k0_mult255 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_674_r0 : BitVec 32 := 256#32
  let v1376_r0 : BitVec 32 := Scalar.muli v1350_r0 c256_i32_674_r0
  v1376_r0
def k0_mult256 (k0_t6 : Fin k0_t6_loop.trips) : BitVec 32 :=
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c12_i32_675_r0 : BitVec 32 := 12#32
  let v1382_r0 : BitVec 32 := Scalar.muli v1001_r0 c12_i32_675_r0
  let c11_i32_676_r0 : BitVec 32 := 11#32
  let v1383_r0 : BitVec 32 := Scalar.addi v1382_r0 c11_i32_676_r0
  let c256_i32_677_r0 : BitVec 32 := 256#32
  let v1384_r0 : BitVec 32 := Scalar.muli v1383_r0 c256_i32_677_r0
  v1384_r0
def k0_mult257 (k0_t6 : Fin k0_t6_loop.trips) : BitVec 32 :=
  let c512_i32_680_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_679_r0 : BitVec 32 := 128#32
  let v1389_r0 : BitVec 32 := Scalar.muli v1001_r0 c128_i32_679_r0
  let v1390_r0 : BitVec 32 := Scalar.addi c512_i32_680_r0 v1389_r0
  v1390_r0
def k0_off46 (k0_t6 : Fin k0_t6_loop.trips) : Fin 1 → Nat :=
  let c4_i32_681_r0 : BitVec 32 := 4#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let v1392_r0 : BitVec 32 := Scalar.addi c4_i32_681_r0 v1001_r0
  ![v1392_r0.toNat]
def k0_off47 (k0_t6 : Fin k0_t6_loop.trips) : Fin 2 → Nat :=
  let c512_i32_680_r0 : BitVec 32 := 512#32
  let c0_i32_507_r0 : BitVec 32 := 0#32
  let c0_i32_151_r0 : BitVec 32 := 0#32
  let c1_i32_153_r0 : BitVec 32 := 1#32
  let arg30_r0 : BitVec 32 := Scf.iv c0_i32_151_r0 c1_i32_153_r0 k0_t6
  let c1_i32_506_r0 : BitVec 32 := 1#32
  let v1000_r0 : BitVec 32 := Scalar.muli arg30_r0 c1_i32_506_r0
  let v1001_r0 : BitVec 32 := Scalar.addi c0_i32_507_r0 v1000_r0
  let c128_i32_679_r0 : BitVec 32 := 128#32
  let v1389_r0 : BitVec 32 := Scalar.muli v1001_r0 c128_i32_679_r0
  let v1390_r0 : BitVec 32 := Scalar.addi c512_i32_680_r0 v1389_r0
  let v1391_r0 : BitVec 32 := v1390_r0
  let c0_i32_682_r0 : BitVec 32 := 0#32
  ![v1391_r0.toNat, 0]
@[reducible] def k0_t7_loop : Scf.Loop 32 :=
  let c0_i32_183_r0 : BitVec 32 := 0#32
  let c3_i32_184_r0 : BitVec 32 := 3#32
  let v305_r0 : BitVec 32 := Scalar.addi c0_i32_183_r0 c3_i32_184_r0
  let c1_i32_185_r0 : BitVec 32 := 1#32
  ⟨c0_i32_183_r0, v305_r0, c1_i32_185_r0⟩
def k0_mult258 : BitVec 32 :=
  let c1536_i32_510_r0 : BitVec 32 := 1536#32
  c1536_i32_510_r0
def k0_mult259 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_511_r0 : BitVec 32 := 256#32
  let v1005_r0 : BitVec 32 := Scalar.muli v1003_r0 c256_i32_511_r0
  v1005_r0
def k0_off48 (k0_t7 : Fin k0_t7_loop.trips) (c1_i32_509_r0 : BitVec 32) : Fin 2 → Nat :=
  let c1536_i32_510_r0 : BitVec 32 := 1536#32
  let v1004_r0 : BitVec 32 := c1536_i32_510_r0
  let v1007_r0 : Index := Scalar.indexCast v1004_r0
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_511_r0 : BitVec 32 := 256#32
  let v1005_r0 : BitVec 32 := Scalar.muli v1003_r0 c256_i32_511_r0
  let v1006_r0 : BitVec 32 := v1005_r0
  let v1008_r0 : Index := Scalar.indexCast v1006_r0
  ![1536, v1008_r0.toNat]
def k0_mult260 : BitVec 32 :=
  let c1792_i32_512_r0 : BitVec 32 := 1792#32
  c1792_i32_512_r0
def k0_mult261 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let c1_i32_509_r0 : BitVec 32 := 1#32
  let v1003_r0 : BitVec 32 := Scalar.addi v1002_r0 c1_i32_509_r0
  let c256_i32_513_r0 : BitVec 32 := 256#32
  let v1012_r0 : BitVec 32 := Scalar.muli v1003_r0 c256_i32_513_r0
  v1012_r0
def k0_off49 (k0_t7 : Fin k0_t7_loop.trips) (c1_i32_509_r0 : BitVec 32) : Fin 2 → Nat :=
  let c1792_i32_512_r0 : BitVec 32 := 1792#32
  let v1011_r0 : BitVec 32 := c1792_i32_512_r0
  let v1014_r0 : Index := Scalar.indexCast v1011_r0
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_508_r0 : BitVec 32 := 12#32
  let v1002_r0 : BitVec 32 := Scalar.muli v1001_r0 c12_i32_508_r0
  let v1003_r0 : BitVec 32 := Scalar.addi v1002_r0 c1_i32_509_r0
  let c256_i32_513_r0 : BitVec 32 := 256#32
  let v1012_r0 : BitVec 32 := Scalar.muli v1003_r0 c256_i32_513_r0
  let v1013_r0 : BitVec 32 := v1012_r0
  let v1015_r0 : Index := Scalar.indexCast v1013_r0
  ![1792, v1015_r0.toNat]
def k0_mult262 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let c0_i32_515_r0 : BitVec 32 := 0#32
  let v1019_r0 : BitVec 32 := Scalar.addi v1018_r0 c0_i32_515_r0
  let c256_i32_516_r0 : BitVec 32 := 256#32
  let v1020_r0 : BitVec 32 := Scalar.muli v1019_r0 c256_i32_516_r0
  v1020_r0
def k0_off50 (k0_t7 : Fin k0_t7_loop.trips) (c0_i32_515_r0 : BitVec 32) : Fin 2 → Nat :=
  let c0_517_r0 : Index := 0#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_514_r0 : BitVec 32 := 12#32
  let v1018_r0 : BitVec 32 := Scalar.muli v1001_r0 c12_i32_514_r0
  let v1019_r0 : BitVec 32 := Scalar.addi v1018_r0 c0_i32_515_r0
  let c256_i32_516_r0 : BitVec 32 := 256#32
  let v1020_r0 : BitVec 32 := Scalar.muli v1019_r0 c256_i32_516_r0
  let v1021_r0 : BitVec 32 := v1020_r0
  let v1022_r0 : Index := Scalar.indexCast v1021_r0
  ![0, v1022_r0.toNat]
def k0_mult263 (k0_t7 : Fin k0_t7_loop.trips) : BitVec 32 :=
  let c0_i32_519_r0 : BitVec 32 := 0#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c0_i32_519_r0 v1025_r0
  v1026_r0
def k0_off51 (k0_t7 : Fin k0_t7_loop.trips) : Fin 3 → Nat :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let v1028_r0 : Index := Scalar.indexCast v1001_r0
  let c0_520_r0 : Index := 0#32
  let c0_521_r0 : Index := 0#32
  ![v1028_r0.toNat, 0, 0]
def k0_off52 (k0_t7 : Fin k0_t7_loop.trips) : Fin 2 → Nat :=
  let c1_530_r0 : Index := 1#32
  let c0_i32_519_r0 : BitVec 32 := 0#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_518_r0 : BitVec 32 := 128#32
  let v1025_r0 : BitVec 32 := Scalar.muli v1001_r0 c128_i32_518_r0
  let v1026_r0 : BitVec 32 := Scalar.addi c0_i32_519_r0 v1025_r0
  let v1027_r0 : BitVec 32 := v1026_r0
  let v1050_r0 : Index := Scalar.indexCast v1027_r0
  ![1, v1050_r0.toNat]
def k0_mult264 (k0_t7 : Fin k0_t7_loop.trips) : BitVec 32 :=
  let c1024_i32_544_r0 : BitVec 32 := 1024#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c1024_i32_544_r0 v1080_r0
  v1081_r0
def k0_off53 (k0_t7 : Fin k0_t7_loop.trips) : Fin 2 → Nat :=
  let c1024_i32_544_r0 : BitVec 32 := 1024#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c1024_i32_544_r0 v1080_r0
  let v1082_r0 : BitVec 32 := v1081_r0
  let v1085_r0 : Index := Scalar.indexCast v1082_r0
  let c0_545_r0 : Index := 0#32
  ![v1085_r0.toNat, 0]
def k0_off54 (k0_t7 : Fin k0_t7_loop.trips) : Fin 2 → Nat :=
  let c1024_i32_544_r0 : BitVec 32 := 1024#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_543_r0 : BitVec 32 := 128#32
  let v1080_r0 : BitVec 32 := Scalar.muli v1001_r0 c128_i32_543_r0
  let v1081_r0 : BitVec 32 := Scalar.addi c1024_i32_544_r0 v1080_r0
  let v1082_r0 : BitVec 32 := v1081_r0
  let v1091_r0 : Index := Scalar.indexCast v1082_r0
  let c128_546_r0 : Index := 128#32
  ![v1091_r0.toNat, 128]
def k0_mult265 : BitVec 32 :=
  let c1536_i32_549_r0 : BitVec 32 := 1536#32
  c1536_i32_549_r0
def k0_mult266 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_550_r0 : BitVec 32 := 256#32
  let v1098_r0 : BitVec 32 := Scalar.muli v1096_r0 c256_i32_550_r0
  v1098_r0
def k0_mult267 : BitVec 32 :=
  let c1792_i32_551_r0 : BitVec 32 := 1792#32
  c1792_i32_551_r0
def k0_mult268 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_547_r0 : BitVec 32 := 12#32
  let v1095_r0 : BitVec 32 := Scalar.muli v1001_r0 c12_i32_547_r0
  let c2_i32_548_r0 : BitVec 32 := 2#32
  let v1096_r0 : BitVec 32 := Scalar.addi v1095_r0 c2_i32_548_r0
  let c256_i32_552_r0 : BitVec 32 := 256#32
  let v1105_r0 : BitVec 32 := Scalar.muli v1096_r0 c256_i32_552_r0
  v1105_r0
def k0_mult269 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_553_r0 : BitVec 32 := 12#32
  let v1111_r0 : BitVec 32 := Scalar.muli v1001_r0 c12_i32_553_r0
  let c1_i32_554_r0 : BitVec 32 := 1#32
  let v1112_r0 : BitVec 32 := Scalar.addi v1111_r0 c1_i32_554_r0
  let c256_i32_555_r0 : BitVec 32 := 256#32
  let v1113_r0 : BitVec 32 := Scalar.muli v1112_r0 c256_i32_555_r0
  v1113_r0
def k0_mult270 : BitVec 32 :=
  let c1536_i32_559_r0 : BitVec 32 := 1536#32
  c1536_i32_559_r0
def k0_mult271 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_560_r0 : BitVec 32 := 256#32
  let v1121_r0 : BitVec 32 := Scalar.muli v1119_r0 c256_i32_560_r0
  v1121_r0
def k0_mult272 : BitVec 32 :=
  let c1792_i32_561_r0 : BitVec 32 := 1792#32
  c1792_i32_561_r0
def k0_mult273 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_557_r0 : BitVec 32 := 12#32
  let v1118_r0 : BitVec 32 := Scalar.muli v1001_r0 c12_i32_557_r0
  let c3_i32_558_r0 : BitVec 32 := 3#32
  let v1119_r0 : BitVec 32 := Scalar.addi v1118_r0 c3_i32_558_r0
  let c256_i32_562_r0 : BitVec 32 := 256#32
  let v1128_r0 : BitVec 32 := Scalar.muli v1119_r0 c256_i32_562_r0
  v1128_r0
def k0_mult274 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_563_r0 : BitVec 32 := 12#32
  let v1134_r0 : BitVec 32 := Scalar.muli v1001_r0 c12_i32_563_r0
  let c2_i32_564_r0 : BitVec 32 := 2#32
  let v1135_r0 : BitVec 32 := Scalar.addi v1134_r0 c2_i32_564_r0
  let c256_i32_565_r0 : BitVec 32 := 256#32
  let v1136_r0 : BitVec 32 := Scalar.muli v1135_r0 c256_i32_565_r0
  v1136_r0
def k0_mult275 : BitVec 32 :=
  let c1536_i32_571_r0 : BitVec 32 := 1536#32
  c1536_i32_571_r0
def k0_mult276 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let c1_i32_570_r0 : BitVec 32 := 1#32
  let v1144_r0 : BitVec 32 := Scalar.addi v1143_r0 c1_i32_570_r0
  let c1024_i32_572_r0 : BitVec 32 := 1024#32
  let v1146_r0 : BitVec 32 := Scalar.muli v1144_r0 c1024_i32_572_r0
  v1146_r0
def k0_off55 (k0_t7 : Fin k0_t7_loop.trips) (c1_i32_570_r0 : BitVec 32) : Fin 1 → Nat :=
  let c36_i32_r0 : BitVec 32 := 36#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let v1148_r0 : BitVec 32 := Scalar.addi c36_i32_r0 v1144_r0
  ![v1148_r0.toNat]
def k0_off56 (k0_t7 : Fin k0_t7_loop.trips) (c1_i32_570_r0 : BitVec 32) : Fin 2 → Nat :=
  let c1536_i32_571_r0 : BitVec 32 := 1536#32
  let v1145_r0 : BitVec 32 := c1536_i32_571_r0
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_569_r0 : BitVec 32 := 3#32
  let v1143_r0 : BitVec 32 := Scalar.muli v1001_r0 c3_i32_569_r0
  let v1144_r0 : BitVec 32 := Scalar.addi v1143_r0 c1_i32_570_r0
  let c1024_i32_572_r0 : BitVec 32 := 1024#32
  let v1146_r0 : BitVec 32 := Scalar.muli v1144_r0 c1024_i32_572_r0
  let v1147_r0 : BitVec 32 := v1146_r0
  ![1536, v1147_r0.toNat]
def k0_mult277 : BitVec 32 :=
  let c1536_i32_573_r0 : BitVec 32 := 1536#32
  c1536_i32_573_r0
def k0_mult278 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_574_r0 : BitVec 32 := 256#32
  let v1154_r0 : BitVec 32 := Scalar.muli v1142_r0 c256_i32_574_r0
  v1154_r0
def k0_mult279 : BitVec 32 :=
  let c1792_i32_575_r0 : BitVec 32 := 1792#32
  c1792_i32_575_r0
def k0_mult280 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_567_r0 : BitVec 32 := 12#32
  let v1141_r0 : BitVec 32 := Scalar.muli v1001_r0 c12_i32_567_r0
  let c4_i32_568_r0 : BitVec 32 := 4#32
  let v1142_r0 : BitVec 32 := Scalar.addi v1141_r0 c4_i32_568_r0
  let c256_i32_576_r0 : BitVec 32 := 256#32
  let v1161_r0 : BitVec 32 := Scalar.muli v1142_r0 c256_i32_576_r0
  v1161_r0
def k0_mult281 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_577_r0 : BitVec 32 := 12#32
  let v1167_r0 : BitVec 32 := Scalar.muli v1001_r0 c12_i32_577_r0
  let c3_i32_578_r0 : BitVec 32 := 3#32
  let v1168_r0 : BitVec 32 := Scalar.addi v1167_r0 c3_i32_578_r0
  let c256_i32_579_r0 : BitVec 32 := 256#32
  let v1169_r0 : BitVec 32 := Scalar.muli v1168_r0 c256_i32_579_r0
  v1169_r0
def k0_mult282 : BitVec 32 :=
  let c1536_i32_583_r0 : BitVec 32 := 1536#32
  c1536_i32_583_r0
def k0_mult283 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_581_r0 : BitVec 32 := 12#32
  let v1174_r0 : BitVec 32 := Scalar.muli v1001_r0 c12_i32_581_r0
  let c5_i32_582_r0 : BitVec 32 := 5#32
  let v1175_r0 : BitVec 32 := Scalar.addi v1174_r0 c5_i32_582_r0
  let c256_i32_584_r0 : BitVec 32 := 256#32
  let v1177_r0 : BitVec 32 := Scalar.muli v1175_r0 c256_i32_584_r0
  v1177_r0
def k0_mult284 : BitVec 32 :=
  let c1792_i32_585_r0 : BitVec 32 := 1792#32
  c1792_i32_585_r0
def k0_mult285 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_581_r0 : BitVec 32 := 12#32
  let v1174_r0 : BitVec 32 := Scalar.muli v1001_r0 c12_i32_581_r0
  let c5_i32_582_r0 : BitVec 32 := 5#32
  let v1175_r0 : BitVec 32 := Scalar.addi v1174_r0 c5_i32_582_r0
  let c256_i32_586_r0 : BitVec 32 := 256#32
  let v1184_r0 : BitVec 32 := Scalar.muli v1175_r0 c256_i32_586_r0
  v1184_r0
def k0_mult286 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_587_r0 : BitVec 32 := 12#32
  let v1190_r0 : BitVec 32 := Scalar.muli v1001_r0 c12_i32_587_r0
  let c4_i32_588_r0 : BitVec 32 := 4#32
  let v1191_r0 : BitVec 32 := Scalar.addi v1190_r0 c4_i32_588_r0
  let c256_i32_589_r0 : BitVec 32 := 256#32
  let v1192_r0 : BitVec 32 := Scalar.muli v1191_r0 c256_i32_589_r0
  v1192_r0
def k0_mult287 : BitVec 32 :=
  let c1536_i32_593_r0 : BitVec 32 := 1536#32
  c1536_i32_593_r0
def k0_mult288 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_591_r0 : BitVec 32 := 12#32
  let v1197_r0 : BitVec 32 := Scalar.muli v1001_r0 c12_i32_591_r0
  let c6_i32_592_r0 : BitVec 32 := 6#32
  let v1198_r0 : BitVec 32 := Scalar.addi v1197_r0 c6_i32_592_r0
  let c256_i32_594_r0 : BitVec 32 := 256#32
  let v1200_r0 : BitVec 32 := Scalar.muli v1198_r0 c256_i32_594_r0
  v1200_r0
def k0_mult289 : BitVec 32 :=
  let c1792_i32_595_r0 : BitVec 32 := 1792#32
  c1792_i32_595_r0
def k0_mult290 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_591_r0 : BitVec 32 := 12#32
  let v1197_r0 : BitVec 32 := Scalar.muli v1001_r0 c12_i32_591_r0
  let c6_i32_592_r0 : BitVec 32 := 6#32
  let v1198_r0 : BitVec 32 := Scalar.addi v1197_r0 c6_i32_592_r0
  let c256_i32_596_r0 : BitVec 32 := 256#32
  let v1207_r0 : BitVec 32 := Scalar.muli v1198_r0 c256_i32_596_r0
  v1207_r0
def k0_mult291 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_597_r0 : BitVec 32 := 12#32
  let v1213_r0 : BitVec 32 := Scalar.muli v1001_r0 c12_i32_597_r0
  let c5_i32_598_r0 : BitVec 32 := 5#32
  let v1214_r0 : BitVec 32 := Scalar.addi v1213_r0 c5_i32_598_r0
  let c256_i32_599_r0 : BitVec 32 := 256#32
  let v1215_r0 : BitVec 32 := Scalar.muli v1214_r0 c256_i32_599_r0
  v1215_r0
def k0_mult292 : BitVec 32 :=
  let c1536_i32_603_r0 : BitVec 32 := 1536#32
  c1536_i32_603_r0
def k0_mult293 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_601_r0 : BitVec 32 := 12#32
  let v1220_r0 : BitVec 32 := Scalar.muli v1001_r0 c12_i32_601_r0
  let c7_i32_602_r0 : BitVec 32 := 7#32
  let v1221_r0 : BitVec 32 := Scalar.addi v1220_r0 c7_i32_602_r0
  let c256_i32_604_r0 : BitVec 32 := 256#32
  let v1223_r0 : BitVec 32 := Scalar.muli v1221_r0 c256_i32_604_r0
  v1223_r0
def k0_mult294 : BitVec 32 :=
  let c1792_i32_605_r0 : BitVec 32 := 1792#32
  c1792_i32_605_r0
def k0_mult295 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_601_r0 : BitVec 32 := 12#32
  let v1220_r0 : BitVec 32 := Scalar.muli v1001_r0 c12_i32_601_r0
  let c7_i32_602_r0 : BitVec 32 := 7#32
  let v1221_r0 : BitVec 32 := Scalar.addi v1220_r0 c7_i32_602_r0
  let c256_i32_606_r0 : BitVec 32 := 256#32
  let v1230_r0 : BitVec 32 := Scalar.muli v1221_r0 c256_i32_606_r0
  v1230_r0
def k0_mult296 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_607_r0 : BitVec 32 := 12#32
  let v1236_r0 : BitVec 32 := Scalar.muli v1001_r0 c12_i32_607_r0
  let c6_i32_608_r0 : BitVec 32 := 6#32
  let v1237_r0 : BitVec 32 := Scalar.addi v1236_r0 c6_i32_608_r0
  let c256_i32_609_r0 : BitVec 32 := 256#32
  let v1238_r0 : BitVec 32 := Scalar.muli v1237_r0 c256_i32_609_r0
  v1238_r0
def k0_mult297 : BitVec 32 :=
  let c1536_i32_615_r0 : BitVec 32 := 1536#32
  c1536_i32_615_r0
def k0_mult298 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_613_r0 : BitVec 32 := 3#32
  let v1245_r0 : BitVec 32 := Scalar.muli v1001_r0 c3_i32_613_r0
  let c2_i32_614_r0 : BitVec 32 := 2#32
  let v1246_r0 : BitVec 32 := Scalar.addi v1245_r0 c2_i32_614_r0
  let c1024_i32_616_r0 : BitVec 32 := 1024#32
  let v1248_r0 : BitVec 32 := Scalar.muli v1246_r0 c1024_i32_616_r0
  v1248_r0
def k0_mult299 : BitVec 32 :=
  let c1536_i32_618_r0 : BitVec 32 := 1536#32
  c1536_i32_618_r0
def k0_mult300 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_611_r0 : BitVec 32 := 12#32
  let v1243_r0 : BitVec 32 := Scalar.muli v1001_r0 c12_i32_611_r0
  let c8_i32_612_r0 : BitVec 32 := 8#32
  let v1244_r0 : BitVec 32 := Scalar.addi v1243_r0 c8_i32_612_r0
  let c256_i32_619_r0 : BitVec 32 := 256#32
  let v1256_r0 : BitVec 32 := Scalar.muli v1244_r0 c256_i32_619_r0
  v1256_r0
def k0_mult301 : BitVec 32 :=
  let c1792_i32_620_r0 : BitVec 32 := 1792#32
  c1792_i32_620_r0
def k0_mult302 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_611_r0 : BitVec 32 := 12#32
  let v1243_r0 : BitVec 32 := Scalar.muli v1001_r0 c12_i32_611_r0
  let c8_i32_612_r0 : BitVec 32 := 8#32
  let v1244_r0 : BitVec 32 := Scalar.addi v1243_r0 c8_i32_612_r0
  let c256_i32_621_r0 : BitVec 32 := 256#32
  let v1263_r0 : BitVec 32 := Scalar.muli v1244_r0 c256_i32_621_r0
  v1263_r0
def k0_mult303 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_622_r0 : BitVec 32 := 12#32
  let v1269_r0 : BitVec 32 := Scalar.muli v1001_r0 c12_i32_622_r0
  let c7_i32_623_r0 : BitVec 32 := 7#32
  let v1270_r0 : BitVec 32 := Scalar.addi v1269_r0 c7_i32_623_r0
  let c256_i32_624_r0 : BitVec 32 := 256#32
  let v1271_r0 : BitVec 32 := Scalar.muli v1270_r0 c256_i32_624_r0
  v1271_r0
def k0_mult304 : BitVec 32 :=
  let c1536_i32_628_r0 : BitVec 32 := 1536#32
  c1536_i32_628_r0
def k0_mult305 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_626_r0 : BitVec 32 := 12#32
  let v1276_r0 : BitVec 32 := Scalar.muli v1001_r0 c12_i32_626_r0
  let c9_i32_627_r0 : BitVec 32 := 9#32
  let v1277_r0 : BitVec 32 := Scalar.addi v1276_r0 c9_i32_627_r0
  let c256_i32_629_r0 : BitVec 32 := 256#32
  let v1279_r0 : BitVec 32 := Scalar.muli v1277_r0 c256_i32_629_r0
  v1279_r0
def k0_mult306 : BitVec 32 :=
  let c1792_i32_630_r0 : BitVec 32 := 1792#32
  c1792_i32_630_r0
def k0_mult307 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_626_r0 : BitVec 32 := 12#32
  let v1276_r0 : BitVec 32 := Scalar.muli v1001_r0 c12_i32_626_r0
  let c9_i32_627_r0 : BitVec 32 := 9#32
  let v1277_r0 : BitVec 32 := Scalar.addi v1276_r0 c9_i32_627_r0
  let c256_i32_631_r0 : BitVec 32 := 256#32
  let v1286_r0 : BitVec 32 := Scalar.muli v1277_r0 c256_i32_631_r0
  v1286_r0
def k0_mult308 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_632_r0 : BitVec 32 := 12#32
  let v1292_r0 : BitVec 32 := Scalar.muli v1001_r0 c12_i32_632_r0
  let c8_i32_633_r0 : BitVec 32 := 8#32
  let v1293_r0 : BitVec 32 := Scalar.addi v1292_r0 c8_i32_633_r0
  let c256_i32_634_r0 : BitVec 32 := 256#32
  let v1294_r0 : BitVec 32 := Scalar.muli v1293_r0 c256_i32_634_r0
  v1294_r0
def k0_mult309 : BitVec 32 :=
  let c1536_i32_638_r0 : BitVec 32 := 1536#32
  c1536_i32_638_r0
def k0_mult310 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_636_r0 : BitVec 32 := 12#32
  let v1299_r0 : BitVec 32 := Scalar.muli v1001_r0 c12_i32_636_r0
  let c10_i32_637_r0 : BitVec 32 := 10#32
  let v1300_r0 : BitVec 32 := Scalar.addi v1299_r0 c10_i32_637_r0
  let c256_i32_639_r0 : BitVec 32 := 256#32
  let v1302_r0 : BitVec 32 := Scalar.muli v1300_r0 c256_i32_639_r0
  v1302_r0
def k0_mult311 : BitVec 32 :=
  let c1792_i32_640_r0 : BitVec 32 := 1792#32
  c1792_i32_640_r0
def k0_mult312 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_636_r0 : BitVec 32 := 12#32
  let v1299_r0 : BitVec 32 := Scalar.muli v1001_r0 c12_i32_636_r0
  let c10_i32_637_r0 : BitVec 32 := 10#32
  let v1300_r0 : BitVec 32 := Scalar.addi v1299_r0 c10_i32_637_r0
  let c256_i32_641_r0 : BitVec 32 := 256#32
  let v1309_r0 : BitVec 32 := Scalar.muli v1300_r0 c256_i32_641_r0
  v1309_r0
def k0_mult313 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_642_r0 : BitVec 32 := 12#32
  let v1315_r0 : BitVec 32 := Scalar.muli v1001_r0 c12_i32_642_r0
  let c9_i32_643_r0 : BitVec 32 := 9#32
  let v1316_r0 : BitVec 32 := Scalar.addi v1315_r0 c9_i32_643_r0
  let c256_i32_644_r0 : BitVec 32 := 256#32
  let v1317_r0 : BitVec 32 := Scalar.muli v1316_r0 c256_i32_644_r0
  v1317_r0
def k0_mult314 : BitVec 32 :=
  let c1536_i32_648_r0 : BitVec 32 := 1536#32
  c1536_i32_648_r0
def k0_mult315 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_646_r0 : BitVec 32 := 12#32
  let v1322_r0 : BitVec 32 := Scalar.muli v1001_r0 c12_i32_646_r0
  let c11_i32_647_r0 : BitVec 32 := 11#32
  let v1323_r0 : BitVec 32 := Scalar.addi v1322_r0 c11_i32_647_r0
  let c256_i32_649_r0 : BitVec 32 := 256#32
  let v1325_r0 : BitVec 32 := Scalar.muli v1323_r0 c256_i32_649_r0
  v1325_r0
def k0_mult316 : BitVec 32 :=
  let c1792_i32_650_r0 : BitVec 32 := 1792#32
  c1792_i32_650_r0
def k0_mult317 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_646_r0 : BitVec 32 := 12#32
  let v1322_r0 : BitVec 32 := Scalar.muli v1001_r0 c12_i32_646_r0
  let c11_i32_647_r0 : BitVec 32 := 11#32
  let v1323_r0 : BitVec 32 := Scalar.addi v1322_r0 c11_i32_647_r0
  let c256_i32_651_r0 : BitVec 32 := 256#32
  let v1332_r0 : BitVec 32 := Scalar.muli v1323_r0 c256_i32_651_r0
  v1332_r0
def k0_mult318 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_652_r0 : BitVec 32 := 12#32
  let v1338_r0 : BitVec 32 := Scalar.muli v1001_r0 c12_i32_652_r0
  let c10_i32_653_r0 : BitVec 32 := 10#32
  let v1339_r0 : BitVec 32 := Scalar.addi v1338_r0 c10_i32_653_r0
  let c256_i32_654_r0 : BitVec 32 := 256#32
  let v1340_r0 : BitVec 32 := Scalar.muli v1339_r0 c256_i32_654_r0
  v1340_r0
def k0_mult319 (k0_t7 : Fin k0_t7_loop.trips) : BitVec 32 :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c512_i32_666_r0 : BitVec 32 := 512#32
  let v1354_r0 : BitVec 32 := Scalar.muli v1347_r0 c512_i32_666_r0
  v1354_r0
def k0_mult320 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let c1024_i32_667_r0 : BitVec 32 := 1024#32
  let v1356_r0 : BitVec 32 := Scalar.muli v1353_r0 c1024_i32_667_r0
  v1356_r0
def k0_off57 (k0_t7 : Fin k0_t7_loop.trips) : Fin 1 → Nat :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c12_i32_668_r0 : BitVec 32 := 12#32
  let v1358_r0 : BitVec 32 := Scalar.muli v1347_r0 c12_i32_668_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let v1359_r0 : BitVec 32 := Scalar.addi v1358_r0 v1353_r0
  ![v1359_r0.toNat]
def k0_off58 (k0_t7 : Fin k0_t7_loop.trips) : Fin 2 → Nat :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c512_i32_666_r0 : BitVec 32 := 512#32
  let v1354_r0 : BitVec 32 := Scalar.muli v1347_r0 c512_i32_666_r0
  let v1355_r0 : BitVec 32 := v1354_r0
  let c0_i32_665_r0 : BitVec 32 := 0#32
  let c3_i32_663_r0 : BitVec 32 := 3#32
  let v1351_r0 : BitVec 32 := Scalar.muli v1001_r0 c3_i32_663_r0
  let c3_i32_664_r0 : BitVec 32 := 3#32
  let v1352_r0 : BitVec 32 := Scalar.addi v1351_r0 c3_i32_664_r0
  let v1353_r0 : BitVec 32 := Scalar.select v1345_r0 c0_i32_665_r0 v1352_r0
  let c1024_i32_667_r0 : BitVec 32 := 1024#32
  let v1356_r0 : BitVec 32 := Scalar.muli v1353_r0 c1024_i32_667_r0
  let v1357_r0 : BitVec 32 := v1356_r0
  ![v1355_r0.toNat, v1357_r0.toNat]
def k0_mult321 (k0_t7 : Fin k0_t7_loop.trips) : BitVec 32 :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c512_i32_669_r0 : BitVec 32 := 512#32
  let v1364_r0 : BitVec 32 := Scalar.muli v1347_r0 c512_i32_669_r0
  let c0_i32_670_r0 : BitVec 32 := 0#32
  let v1365_r0 : BitVec 32 := Scalar.addi v1364_r0 c0_i32_670_r0
  v1365_r0
def k0_mult322 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_671_r0 : BitVec 32 := 256#32
  let v1367_r0 : BitVec 32 := Scalar.muli v1350_r0 c256_i32_671_r0
  v1367_r0
def k0_off59 (k0_t7 : Fin k0_t7_loop.trips) (c0_i32_670_r0 : BitVec 32) : Fin 2 → Nat :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c512_i32_669_r0 : BitVec 32 := 512#32
  let v1364_r0 : BitVec 32 := Scalar.muli v1347_r0 c512_i32_669_r0
  let v1365_r0 : BitVec 32 := Scalar.addi v1364_r0 c0_i32_670_r0
  let v1366_r0 : BitVec 32 := v1365_r0
  let v1369_r0 : Index := Scalar.indexCast v1366_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_671_r0 : BitVec 32 := 256#32
  let v1367_r0 : BitVec 32 := Scalar.muli v1350_r0 c256_i32_671_r0
  let v1368_r0 : BitVec 32 := v1367_r0
  let v1370_r0 : Index := Scalar.indexCast v1368_r0
  ![v1369_r0.toNat, v1370_r0.toNat]
def k0_mult323 (k0_t7 : Fin k0_t7_loop.trips) : BitVec 32 :=
  let c3_i32_659_r0 : BitVec 32 := 3#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c1_i32_657_r0 : BitVec 32 := 1#32
  let c0_i32_658_r0 : BitVec 32 := 0#32
  let v1346_r0 : BitVec 32 := Scalar.select v1345_r0 c1_i32_657_r0 c0_i32_658_r0
  let v1347_r0 : BitVec 32 := Scalar.addi c3_i32_659_r0 v1346_r0
  let c512_i32_672_r0 : BitVec 32 := 512#32
  let v1373_r0 : BitVec 32 := Scalar.muli v1347_r0 c512_i32_672_r0
  let c256_i32_673_r0 : BitVec 32 := 256#32
  let v1374_r0 : BitVec 32 := Scalar.addi v1373_r0 c256_i32_673_r0
  v1374_r0
def k0_mult324 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c3_i32_656_r0 : BitVec 32 := 3#32
  let v1345_r0 : BitVec 1 := Scalar.cmpi .eq v1001_r0 c3_i32_656_r0
  let c0_i32_662_r0 : BitVec 32 := 0#32
  let c12_i32_660_r0 : BitVec 32 := 12#32
  let v1348_r0 : BitVec 32 := Scalar.muli v1001_r0 c12_i32_660_r0
  let c12_i32_661_r0 : BitVec 32 := 12#32
  let v1349_r0 : BitVec 32 := Scalar.addi v1348_r0 c12_i32_661_r0
  let v1350_r0 : BitVec 32 := Scalar.select v1345_r0 c0_i32_662_r0 v1349_r0
  let c256_i32_674_r0 : BitVec 32 := 256#32
  let v1376_r0 : BitVec 32 := Scalar.muli v1350_r0 c256_i32_674_r0
  v1376_r0
def k0_mult325 (k0_t7 : Fin k0_t7_loop.trips) : BitVec 32 :=
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c12_i32_675_r0 : BitVec 32 := 12#32
  let v1382_r0 : BitVec 32 := Scalar.muli v1001_r0 c12_i32_675_r0
  let c11_i32_676_r0 : BitVec 32 := 11#32
  let v1383_r0 : BitVec 32 := Scalar.addi v1382_r0 c11_i32_676_r0
  let c256_i32_677_r0 : BitVec 32 := 256#32
  let v1384_r0 : BitVec 32 := Scalar.muli v1383_r0 c256_i32_677_r0
  v1384_r0
def k0_mult326 (k0_t7 : Fin k0_t7_loop.trips) : BitVec 32 :=
  let c1024_i32_680_r0 : BitVec 32 := 1024#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_679_r0 : BitVec 32 := 128#32
  let v1389_r0 : BitVec 32 := Scalar.muli v1001_r0 c128_i32_679_r0
  let v1390_r0 : BitVec 32 := Scalar.addi c1024_i32_680_r0 v1389_r0
  v1390_r0
def k0_off60 (k0_t7 : Fin k0_t7_loop.trips) : Fin 1 → Nat :=
  let c8_i32_681_r0 : BitVec 32 := 8#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let v1392_r0 : BitVec 32 := Scalar.addi c8_i32_681_r0 v1001_r0
  ![v1392_r0.toNat]
def k0_off61 (k0_t7 : Fin k0_t7_loop.trips) : Fin 2 → Nat :=
  let c1024_i32_680_r0 : BitVec 32 := 1024#32
  let c0_i32_507_r0 : BitVec 32 := 0#32
  let c0_i32_183_r0 : BitVec 32 := 0#32
  let c1_i32_185_r0 : BitVec 32 := 1#32
  let arg30_r0 : BitVec 32 := Scf.iv c0_i32_183_r0 c1_i32_185_r0 k0_t7
  let c1_i32_506_r0 : BitVec 32 := 1#32
  let v1000_r0 : BitVec 32 := Scalar.muli arg30_r0 c1_i32_506_r0
  let v1001_r0 : BitVec 32 := Scalar.addi c0_i32_507_r0 v1000_r0
  let c128_i32_679_r0 : BitVec 32 := 128#32
  let v1389_r0 : BitVec 32 := Scalar.muli v1001_r0 c128_i32_679_r0
  let v1390_r0 : BitVec 32 := Scalar.addi c1024_i32_680_r0 v1389_r0
  let v1391_r0 : BitVec 32 := v1390_r0
  let c0_i32_682_r0 : BitVec 32 := 0#32
  ![v1391_r0.toNat, 0]
def k0_mult327 : BitVec 32 :=
  let c1536_i32_r0 : BitVec 32 := 1536#32
  c1536_i32_r0
def k0_mult328 : BitVec 32 :=
  let c9472_i32_r0 : BitVec 32 := 9472#32
  c9472_i32_r0
def k0_mult329 : BitVec 32 :=
  let c1792_i32_r0 : BitVec 32 := 1792#32
  c1792_i32_r0
def k0_mult330 : BitVec 32 :=
  let c9472_i32_187_r0 : BitVec 32 := 9472#32
  c9472_i32_187_r0
def k0_mult331 : BitVec 32 :=
  let c9216_i32_188_r0 : BitVec 32 := 9216#32
  c9216_i32_188_r0
def k0_mult332 : BitVec 32 :=
  let c384_i32_r0 : BitVec 32 := 384#32
  c384_i32_r0
def k0_mult333 : BitVec 32 :=
  let c1408_i32_r0 : BitVec 32 := 1408#32
  c1408_i32_r0
def k0_mult334 : BitVec 32 :=
  let c1536_i32_216_r0 : BitVec 32 := 1536#32
  c1536_i32_216_r0
def k0_mult335 : BitVec 32 :=
  let c9728_i32_r0 : BitVec 32 := 9728#32
  c9728_i32_r0
def k0_mult336 : BitVec 32 :=
  let c1792_i32_217_r0 : BitVec 32 := 1792#32
  c1792_i32_217_r0
def k0_mult337 : BitVec 32 :=
  let c9728_i32_218_r0 : BitVec 32 := 9728#32
  c9728_i32_218_r0
def k0_mult338 : BitVec 32 :=
  let c9472_i32_219_r0 : BitVec 32 := 9472#32
  c9472_i32_219_r0
def k0_mult339 : BitVec 32 :=
  let c1536_i32_221_r0 : BitVec 32 := 1536#32
  c1536_i32_221_r0
def k0_mult340 : BitVec 32 :=
  let c9984_i32_r0 : BitVec 32 := 9984#32
  c9984_i32_r0
def k0_mult341 : BitVec 32 :=
  let c1792_i32_222_r0 : BitVec 32 := 1792#32
  c1792_i32_222_r0
def k0_mult342 : BitVec 32 :=
  let c9984_i32_223_r0 : BitVec 32 := 9984#32
  c9984_i32_223_r0
def k0_mult343 : BitVec 32 :=
  let c9728_i32_224_r0 : BitVec 32 := 9728#32
  c9728_i32_224_r0
def k0_mult344 : BitVec 32 :=
  let c1536_i32_226_r0 : BitVec 32 := 1536#32
  c1536_i32_226_r0
def k0_mult345 : BitVec 32 :=
  let c10240_i32_227_r0 : BitVec 32 := 10240#32
  c10240_i32_227_r0
def k0_mult346 : BitVec 32 :=
  let c1536_i32_228_r0 : BitVec 32 := 1536#32
  c1536_i32_228_r0
def k0_mult347 : BitVec 32 :=
  let c10240_i32_229_r0 : BitVec 32 := 10240#32
  c10240_i32_229_r0
def k0_mult348 : BitVec 32 :=
  let c1792_i32_230_r0 : BitVec 32 := 1792#32
  c1792_i32_230_r0
def k0_mult349 : BitVec 32 :=
  let c10240_i32_231_r0 : BitVec 32 := 10240#32
  c10240_i32_231_r0
def k0_mult350 : BitVec 32 :=
  let c9984_i32_232_r0 : BitVec 32 := 9984#32
  c9984_i32_232_r0
def k0_mult351 : BitVec 32 :=
  let c1536_i32_234_r0 : BitVec 32 := 1536#32
  c1536_i32_234_r0
def k0_mult352 : BitVec 32 :=
  let c10496_i32_r0 : BitVec 32 := 10496#32
  c10496_i32_r0
def k0_mult353 : BitVec 32 :=
  let c1792_i32_235_r0 : BitVec 32 := 1792#32
  c1792_i32_235_r0
def k0_mult354 : BitVec 32 :=
  let c10496_i32_236_r0 : BitVec 32 := 10496#32
  c10496_i32_236_r0
def k0_mult355 : BitVec 32 :=
  let c10240_i32_237_r0 : BitVec 32 := 10240#32
  c10240_i32_237_r0
def k0_mult356 : BitVec 32 :=
  let c1536_i32_239_r0 : BitVec 32 := 1536#32
  c1536_i32_239_r0
def k0_mult357 : BitVec 32 :=
  let c10752_i32_r0 : BitVec 32 := 10752#32
  c10752_i32_r0
def k0_mult358 : BitVec 32 :=
  let c1792_i32_240_r0 : BitVec 32 := 1792#32
  c1792_i32_240_r0
def k0_mult359 : BitVec 32 :=
  let c10752_i32_241_r0 : BitVec 32 := 10752#32
  c10752_i32_241_r0
def k0_mult360 : BitVec 32 :=
  let c10496_i32_242_r0 : BitVec 32 := 10496#32
  c10496_i32_242_r0
def k0_mult361 : BitVec 32 :=
  let c1536_i32_244_r0 : BitVec 32 := 1536#32
  c1536_i32_244_r0
def k0_mult362 : BitVec 32 :=
  let c11008_i32_r0 : BitVec 32 := 11008#32
  c11008_i32_r0
def k0_mult363 : BitVec 32 :=
  let c1792_i32_245_r0 : BitVec 32 := 1792#32
  c1792_i32_245_r0
def k0_mult364 : BitVec 32 :=
  let c11008_i32_246_r0 : BitVec 32 := 11008#32
  c11008_i32_246_r0
def k0_mult365 : BitVec 32 :=
  let c10752_i32_247_r0 : BitVec 32 := 10752#32
  c10752_i32_247_r0
def k0_mult366 : BitVec 32 :=
  let c1536_i32_249_r0 : BitVec 32 := 1536#32
  c1536_i32_249_r0
def k0_mult367 : BitVec 32 :=
  let c11264_i32_250_r0 : BitVec 32 := 11264#32
  c11264_i32_250_r0
def k0_mult368 : BitVec 32 :=
  let c1536_i32_251_r0 : BitVec 32 := 1536#32
  c1536_i32_251_r0
def k0_mult369 : BitVec 32 :=
  let c11264_i32_252_r0 : BitVec 32 := 11264#32
  c11264_i32_252_r0
def k0_mult370 : BitVec 32 :=
  let c1792_i32_253_r0 : BitVec 32 := 1792#32
  c1792_i32_253_r0
def k0_mult371 : BitVec 32 :=
  let c11264_i32_254_r0 : BitVec 32 := 11264#32
  c11264_i32_254_r0
def k0_mult372 : BitVec 32 :=
  let c11008_i32_255_r0 : BitVec 32 := 11008#32
  c11008_i32_255_r0
def k0_mult373 : BitVec 32 :=
  let c1536_i32_257_r0 : BitVec 32 := 1536#32
  c1536_i32_257_r0
def k0_mult374 : BitVec 32 :=
  let c11520_i32_r0 : BitVec 32 := 11520#32
  c11520_i32_r0
def k0_mult375 : BitVec 32 :=
  let c1792_i32_258_r0 : BitVec 32 := 1792#32
  c1792_i32_258_r0
def k0_mult376 : BitVec 32 :=
  let c11520_i32_259_r0 : BitVec 32 := 11520#32
  c11520_i32_259_r0
def k0_mult377 : BitVec 32 :=
  let c11264_i32_260_r0 : BitVec 32 := 11264#32
  c11264_i32_260_r0
def k0_mult378 : BitVec 32 :=
  let c1536_i32_262_r0 : BitVec 32 := 1536#32
  c1536_i32_262_r0
def k0_mult379 : BitVec 32 :=
  let c11776_i32_r0 : BitVec 32 := 11776#32
  c11776_i32_r0
def k0_mult380 : BitVec 32 :=
  let c1792_i32_263_r0 : BitVec 32 := 1792#32
  c1792_i32_263_r0
def k0_mult381 : BitVec 32 :=
  let c11776_i32_264_r0 : BitVec 32 := 11776#32
  c11776_i32_264_r0
def k0_mult382 : BitVec 32 :=
  let c11520_i32_265_r0 : BitVec 32 := 11520#32
  c11520_i32_265_r0
def k0_mult383 : BitVec 32 :=
  let c1536_i32_267_r0 : BitVec 32 := 1536#32
  c1536_i32_267_r0
def k0_mult384 : BitVec 32 :=
  let c12032_i32_r0 : BitVec 32 := 12032#32
  c12032_i32_r0
def k0_mult385 : BitVec 32 :=
  let c1792_i32_268_r0 : BitVec 32 := 1792#32
  c1792_i32_268_r0
def k0_mult386 : BitVec 32 :=
  let c12032_i32_269_r0 : BitVec 32 := 12032#32
  c12032_i32_269_r0
def k0_mult387 : BitVec 32 :=
  let c11776_i32_270_r0 : BitVec 32 := 11776#32
  c11776_i32_270_r0
def k0_mult388 : BitVec 32 :=
  let c12032_i32_272_r0 : BitVec 32 := 12032#32
  c12032_i32_272_r0
def k0_mult389 : BitVec 32 :=
  let c1408_i32_274_r0 : BitVec 32 := 1408#32
  c1408_i32_274_r0
def k0_mult390 : BitVec 32 :=
  let c512_i32_r0 : BitVec 32 := 512#32
  c512_i32_r0
def k0_mult391 : BitVec 32 :=
  let c1536_i32_330_r0 : BitVec 32 := 1536#32
  c1536_i32_330_r0
def k0_mult392 : BitVec 32 :=
  let c1536_i32_333_r0 : BitVec 32 := 1536#32
  c1536_i32_333_r0
def k0_mult393 : BitVec 32 :=
  let c640_i32_r0 : BitVec 32 := 640#32
  c640_i32_r0
def k0_mult394 : BitVec 32 :=
  let c1664_i32_r0 : BitVec 32 := 1664#32
  c1664_i32_r0
def k0_mult395 : BitVec 32 :=
  let c1664_i32_363_r0 : BitVec 32 := 1664#32
  c1664_i32_363_r0
def k0_mult396 : BitVec 32 :=
  let c768_i32_r0 : BitVec 32 := 768#32
  c768_i32_r0
def k0_mult397 : BitVec 32 :=
  let c1792_i32_390_r0 : BitVec 32 := 1792#32
  c1792_i32_390_r0
def k0_mult398 : BitVec 32 :=
  let c1792_i32_393_r0 : BitVec 32 := 1792#32
  c1792_i32_393_r0
def k0_mult399 : BitVec 32 :=
  let c896_i32_r0 : BitVec 32 := 896#32
  c896_i32_r0
def k0_mult400 : BitVec 32 :=
  let c1920_i32_r0 : BitVec 32 := 1920#32
  c1920_i32_r0
def k0_mult401 : BitVec 32 :=
  let c1920_i32_422_r0 : BitVec 32 := 1920#32
  c1920_i32_422_r0
def k0_mult402 : BitVec 32 :=
  let c0_i32_445_r0 : BitVec 32 := 0#32
  c0_i32_445_r0
def k0_mult403 : BitVec 32 :=
  let c128_i32_r0 : BitVec 32 := 128#32
  c128_i32_r0
def k0_mult404 : BitVec 32 :=
  let c256_i32_452_r0 : BitVec 32 := 256#32
  c256_i32_452_r0
def k0_mult405 : BitVec 32 :=
  let c384_i32_456_r0 : BitVec 32 := 384#32
  c384_i32_456_r0
def k0_mult406 : BitVec 32 :=
  let c512_i32_460_r0 : BitVec 32 := 512#32
  c512_i32_460_r0
def k0_mult407 : BitVec 32 :=
  let c640_i32_464_r0 : BitVec 32 := 640#32
  c640_i32_464_r0
def k0_mult408 : BitVec 32 :=
  let c768_i32_468_r0 : BitVec 32 := 768#32
  c768_i32_468_r0
def k0_mult409 : BitVec 32 :=
  let c896_i32_472_r0 : BitVec 32 := 896#32
  c896_i32_472_r0
def k0_mult410 : BitVec 32 :=
  let c1024_i32_476_r0 : BitVec 32 := 1024#32
  c1024_i32_476_r0
def k0_mult411 : BitVec 32 :=
  let c1152_i32_r0 : BitVec 32 := 1152#32
  c1152_i32_r0
def k0_mult412 : BitVec 32 :=
  let c1280_i32_r0 : BitVec 32 := 1280#32
  c1280_i32_r0
def k0_mult413 : BitVec 32 :=
  let c1408_i32_486_r0 : BitVec 32 := 1408#32
  c1408_i32_486_r0
def k0_mult414 : BitVec 32 :=
  let c1536_i32_490_r0 : BitVec 32 := 1536#32
  c1536_i32_490_r0
def k0_mult415 : BitVec 32 :=
  let c1664_i32_494_r0 : BitVec 32 := 1664#32
  c1664_i32_494_r0
def k0_mult416 : BitVec 32 :=
  let c1792_i32_498_r0 : BitVec 32 := 1792#32
  c1792_i32_498_r0
def k0_mult417 : BitVec 32 :=
  let c1920_i32_502_r0 : BitVec 32 := 1920#32
  c1920_i32_502_r0
-- ==== ReferenceIdeal.lean ====
abbrev S2x1024x12288 : Shape := ⟨3, ![2, 1024, 12288]⟩
abbrev S2x1024 : Shape := ⟨2, ![2, 1024]⟩
abbrev S256x12288 : Shape := ⟨2, ![256, 12288]⟩
abbrev S256 : Shape := ⟨1, ![256]⟩
abbrev S2x1024x8 : Shape := ⟨3, ![2, 1024, 8]⟩
abbrev S2048x12288 : Shape := ⟨2, ![2048, 12288]⟩
abbrev S2048x256 : Shape := ⟨2, ![2048, 256]⟩
abbrev S2x1024x256 : Shape := ⟨3, ![2, 1024, 256]⟩
abbrev S2x1024x1 : Shape := ⟨3, ![2, 1024, 1]⟩
abbrev S1x1x256 : Shape := ⟨3, ![1, 1, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x1024x12288, .fp8e4m3⟩
  | .hbm, ⟨1, _⟩ => ⟨S2x1024, .f32⟩
  | .hbm, ⟨2, _⟩ => ⟨S256x12288, .i8⟩
  | .hbm, ⟨3, _⟩ => ⟨S256, .f32⟩
  | .hbm, ⟨4, _⟩ => ⟨S2x1024x8, .i32⟩
  | .hbm, ⟨5, _⟩ => ⟨S2048x12288, .fp8e4m3⟩
  | .hbm, ⟨6, _⟩ => ⟨S2x1024, .f32⟩
  | .hbm, ⟨7, _⟩ => ⟨S2x1024, .f32⟩
  | .local _ .vmem, ⟨0, _⟩ => ⟨S2048x12288, .fp8e4m3⟩
  | .local _ .vmem, ⟨1, _⟩ => ⟨S2x1024, .f32⟩
  | .local _ .vmem, ⟨2, _⟩ => ⟨S256x12288, .i8⟩
  | .local _ .vmem, ⟨3, _⟩ => ⟨S256, .f32⟩
  | .local _ .vmem, ⟨4, _⟩ => ⟨S2x1024, .f32⟩
  | .local _ .vmem, ⟨5, _⟩ => ⟨S2x1024, .f32⟩
  | _, _ => ⟨S2x1024x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KI.Base.lean ====
/-
  The resources one core runs the kernel body with, and one rule per memory operation the body performs.

  The token codes `x_codes` (2048 x 12288) reach VMEM in 48 transfers of 512 x 1024 blocks, the weight codes (256 x 12288)
  in 12 transfers of 256 x 1024 blocks, and the gradient (2048 x 256) leaves in 16 transfers of 128 x 256 blocks. Each
  family is started and waited for in one order, so what the core holds of it is determined by two numbers: how many
  blocks have landed and how many have been started. `St` lists these numbers and the contents of the scratch buffers;
  `Res` is the assertion that goes with it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.Mxu.Walk
public import Idealize.ShloMosaic.Lib.Tactic
public import Idealize.SL.BI.BigOpNat

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The body's operands -/

abbrev mHx : Memref sig .tc .hbm S2048x12288 .fp8e4m3 := Memref.whole main_v0
abbrev mHw : Memref sig .tc .hbm S256x12288 .i8 := Memref.whole main_arg2
abbrev mHxs : Memref sig .tc .hbm S2x1024 .f32 := Memref.whole main_arg1
abbrev mHws : Memref sig .tc .hbm S1x256 .f32 := Memref.whole main_v1
abbrev mHid : Memref sig .tc .hbm S2x8x1024 .i32 := Memref.whole main_v2
abbrev mHaux : Memref sig .tc .hbm S2x1024 .f32 := Memref.whole main_v3_0
abbrev mHzo : Memref sig .tc .hbm S2x1024 .f32 := Memref.whole main_v3_1
abbrev mHp : Memref sig .tc .hbm S1x256 .f32 := Memref.whole main_v3_2
abbrev mHlse : Memref sig .tc .hbm S2x1024 .f32 := Memref.whole main_v3_3
abbrev mHdl : Memref sig .tc .hbm S2048x256 .f32 := Memref.whole main_v3_4
abbrev mX : Memref sig .tc .vmem S2048x12288 .fp8e4m3 := Memref.whole cc0_scratch0
abbrev mW : Memref sig .tc .vmem S256x12288 .i8 := Memref.whole cc0_scratch1
abbrev mXs : Memref sig .tc .vmem S2x1024 .f32 := Memref.whole cc0_scratch2
abbrev mWs : Memref sig .tc .vmem S1x256 .f32 := Memref.whole cc0_scratch3
abbrev mId : Memref sig .tc .vmem S2x8x1024 .i32 := Memref.whole cc0_scratch4
abbrev mWsb : Memref sig .tc .vmem S256x128 .f32 := Memref.whole cc0_scratch5
abbrev mCf : Memref sig .tc .vmem S256x128 .f32 := Memref.whole cc0_scratch6
abbrev mZt : Memref sig .tc .vmem S4x256x128 .f32 := Memref.whole cc0_scratch7
abbrev mEt : Memref sig .tc .vmem S256x128 .f32 := Memref.whole cc0_scratch8
abbrev mPs : Memref sig .tc .vmem S256x128 .f32 := Memref.whole cc0_scratch9
abbrev mDl : Memref sig .tc .vmem S2048x256 .f32 := Memref.whole cc0_scratch10
abbrev mAux : Memref sig .tc .vmem S2x1024 .f32 := Memref.whole cc0_scratch11
abbrev mZo : Memref sig .tc .vmem S2x1024 .f32 := Memref.whole cc0_scratch12
abbrev mPo : Memref sig .tc .vmem S1x256 .f32 := Memref.whole cc0_scratch13
abbrev mLse : Memref sig .tc .vmem S2x1024 .f32 := Memref.whole cc0_scratch14

/-- The contents a buffer of shape `s` and element type `e` holds. -/
abbrev Con (F : FTy → Type) (s : Shape) (e : EltTy) : Type := s.Idx → Elt F e

/-! ## Blocks -/

section Blocks
variable {ι : Type} [Fintype ι] (g : ι → ℕ)

/-- The elements of block `k`, those of the blocks before `k`, and those of block `k` and later ones. -/
def ceq (k : ℕ) : Finset ι := Finset.univ.filter fun i => g i = k
def clt (k : ℕ) : Finset ι := Finset.univ.filter fun i => g i < k
def cge (k : ℕ) : Finset ι := Finset.univ.filter fun i => k ≤ g i

theorem mem_ceq {k : ℕ} {i : ι} : i ∈ ceq g k ↔ g i = k := by simp [ceq]
theorem mem_clt {k : ℕ} {i : ι} : i ∈ clt g k ↔ g i < k := by simp [clt]
theorem mem_cge {k : ℕ} {i : ι} : i ∈ cge g k ↔ k ≤ g i := by simp [cge]

variable [DecidableEq ι]
theorem clt_succ (k : ℕ) : clt g (k + 1) = clt g k ∪ ceq g k := by
  ext i; simp only [Finset.mem_union, mem_clt, mem_ceq]; omega
theorem clt_disj (k : ℕ) : Disjoint (clt g k) (ceq g k) := by
  rw [Finset.disjoint_left]; intro i; simp only [mem_clt, mem_ceq]; omega
theorem cge_eq (k : ℕ) : cge g k = ceq g k ∪ cge g (k + 1) := by
  ext i; simp only [Finset.mem_union, mem_cge, mem_ceq]; omega
theorem cge_disj (k : ℕ) : Disjoint (ceq g k) (cge g (k + 1)) := by
  rw [Finset.disjoint_left]; intro i; simp only [mem_cge, mem_ceq]; omega
theorem clt_zero : clt g 0 = ∅ := by ext i; simp [mem_clt]
theorem cge_zero : cge g 0 = Finset.univ := by ext i; simp [mem_cge]
theorem clt_top (n : ℕ) (h : ∀ i, g i < n) : clt g n = Finset.univ := by ext i; simp [mem_clt, h]
theorem cge_top (n : ℕ) (h : ∀ i, g i < n) : cge g n = ∅ := by ext i; have := h i; simp [mem_cge]; omega
end Blocks

/-- The block an element of the token codes, of the weight codes, of the gradient is in. -/
def gx (i : S2048x12288.Idx) : ℕ := (i 0).val / 512 * 12 + (i 1).val / 1024
def gw (i : S256x12288.Idx) : ℕ := (i 1).val / 1024
def gd (i : S2048x256.Idx) : ℕ := (i 0).val / 128

theorem gx_lt (i : S2048x12288.Idx) : gx i < 48 := by
  have h0 : (i 0).val < 2048 := (i 0).isLt
  have h1 : (i 1).val < 12288 := (i 1).isLt
  unfold gx; omega
theorem gw_lt (i : S256x12288.Idx) : gw i < 12 := by
  have h1 : (i 1).val < 12288 := (i 1).isLt
  unfold gw; omega
theorem gd_lt (i : S2048x256.Idx) : gd i < 16 := by
  have h1 : (i 0).val < 2048 := (i 0).isLt
  unfold gd; omega

/-- Points-tos of a buffer's elements `S`. -/
abbrev pt {cs : Space} {s : Shape} {e : EltTy} (c : Dev nD) (m : Memref sig .tc cs s e) (S : Finset (Idx (m.view.loc (c : Thread nD τ))))
    (f : Buf (Elt F) (m.view.loc (c : Thread nD τ))) : sProp 𝕄 :=
  m.view.loc (c : Thread nD τ) ↦[S]{fullShare} f

/-- The counter of DMA cell `k`, at zero. -/
abbrev sz (c : Dev nD) (k : Fin 83) : sProp 𝕄 := semVal ((c : Thread nD τ), SemLoc.dma k) 0

/-- The DMA cells of the three families. -/
def xsem (k : ℕ) : Fin 83 := Fin.ofNat 83 k
def wsem (k : ℕ) : Fin 83 := Fin.ofNat 83 (48 + k)
def dsem (k : ℕ) : Fin 83 := Fin.ofNat 83 (67 + k)

/-- A transfer in flight on cell `k`, of `N` units, delivering `D`. -/
abbrev FL (c : Dev nD) (k : Fin 83) (N : ℕ) (D : sProp 𝕄) : sProp 𝕄 :=
  Transfers.Flight (countersEmb (U := Pipeline.UD sig nD τ)) (c : Thread nD τ) (SemLoc.dma k) () N D

/-- A family of `n` transfers of which the first `a` have landed and the first `b` have been started. -/
def Pipe (Z L I : ℕ → sProp 𝕄) (n a b : ℕ) : sProp 𝕄 :=
  iprop(bigSep (Finset.Ico 0 a) Z ∗ bigSep (Finset.Ico a b) L ∗ bigSep (Finset.Ico b n) I)

theorem pipe_start (Z L I : ℕ → sProp 𝕄) {n a b : ℕ} (hab : a ≤ b) (hb : b < n) :
    Pipe Z L I n a b ⊢ iprop(I b ∗ (L b -∗ Pipe Z L I n a (b + 1))) := by
  unfold Pipe
  rw [bigSep_Ico_succ_bot hb, bigSep_Ico_succ_top hab]
  iintro ⟨HZ, HL, HI, HIs⟩
  isplitl [HI]; · iexact HI
  iintro HLb
  isplitl [HZ]; · iexact HZ
  isplitl [HL HLb]
  · first
    | (isplitl [HL]; · iexact HL
       iexact HLb)
    | (isplitl [HLb]; · iexact HLb
       iexact HL)
  iexact HIs

theorem pipe_wait (Z L I : ℕ → sProp 𝕄) {n a b : ℕ} (hab : a < b) :
    Pipe Z L I n a b ⊢ iprop(L a ∗ (Z a -∗ Pipe Z L I n (a + 1) b)) := by
  unfold Pipe
  rw [bigSep_Ico_succ_bot hab, bigSep_Ico_succ_top (Nat.zero_le a)]
  iintro ⟨HZ, ⟨HL, HLs⟩, HI⟩
  isplitl [HL]; · iexact HL
  iintro HZb
  isplitl [HZ HZb]
  · first
    | (isplitl [HZ]; · iexact HZ
       iexact HZb)
    | (isplitl [HZb]; · iexact HZb
       iexact HZ)
  isplitl [HLs]; · iexact HLs
  iexact HI

end Cert.KernelIdeal.Hand

end
-- ==== Proof.KI.Res.lean ====
/-
  What the core holds between two operations of the body (`Res`), and the rule of each memory operation on it: a load
  reads the contents `St` names, a store rewrites them, a transfer moves its family's count.
-/
module

public import proofs.«01_k».proof.Proof.KI.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The counts of the three families of transfers (landed, started), and the contents of the scratch buffers. -/
structure St (F : FTy → Type) [FloatOps F] where
  xa : ℕ
  xb : ℕ
  wa : ℕ
  wb : ℕ
  da : ℕ
  db : ℕ
  dl : Con F S2048x256 .f32
  wsb : Con F S256x128 .f32
  cf : Con F S256x128 .f32
  zt : Con F S4x256x128 .f32
  et : Con F S256x128 .f32
  ps : Con F S256x128 .f32
  aux : Con F S2x1024 .f32
  zo : Con F S2x1024 .f32
  po : Con F S1x256 .f32
  lse : Con F S2x1024 .f32

section
variable (c : Dev nD)

/-- The scratch buffers the body computes in, whole. -/
def BR (s : St F) : sProp 𝕄 :=
  iprop(pt c mWsb Finset.univ s.wsb ∗ pt c mCf Finset.univ s.cf ∗ pt c mZt Finset.univ s.zt ∗ pt c mEt Finset.univ s.et ∗ pt c mPs Finset.univ s.ps ∗ pt c mAux Finset.univ s.aux ∗ pt c mZo Finset.univ s.zo ∗ pt c mPo Finset.univ s.po ∗ pt c mLse Finset.univ s.lse)

/-- What one transfer of each family credits its cell with. -/
abbrev NX : ℕ := sig.dmaCredit .tc (Kind.tc.table .vmem) mX.view.buf S512x1024 .fp8e4m3
abbrev NW : ℕ := sig.dmaCredit .tc (Kind.tc.table .vmem) mW.view.buf S256x1024 .i8
abbrev ND : ℕ := sig.dmaCredit .tc (Kind.tc.table .hbm) mHdl.view.buf S128x256 .f32

/-- The token codes' family. -/
def XR (vx : Con F S2048x12288 .fp8e4m3) (a b : ℕ) : sProp 𝕄 :=
  iprop(pt c mX (clt gx a) vx ∗ pt c mHx (clt gx a) vx ∗ pt c mHx (cge gx b) vx
    ∗ Pipe (fun k => sz (F := F) c (xsem k)) (fun k => FL c (xsem k) NX iprop(pt c mX (ceq gx k) vx ∗ pt c mHx (ceq gx k) vx))
        (fun k => iprop((∃ f, pt c mX (ceq gx k) f) ∗ sz c (xsem k))) 48 a b)

/-- The weight codes' family. -/
def WR (vw : Con F S256x12288 .i8) (a b : ℕ) : sProp 𝕄 :=
  iprop(pt c mW (clt gw a) vw ∗ pt c mHw (clt gw a) vw ∗ pt c mHw (cge gw b) vw
    ∗ Pipe (fun k => sz (F := F) c (wsem k)) (fun k => FL c (wsem k) NW iprop(pt c mW (ceq gw k) vw ∗ pt c mHw (ceq gw k) vw))
        (fun k => iprop((∃ f, pt c mW (ceq gw k) f) ∗ sz c (wsem k))) 12 a b)

/-- The gradient's family: what a block delivers satisfies `P` at each of its elements. -/
def DR (P : S2048x256.Idx → Elt F .f32 → Prop) (dl : Con F S2048x256 .f32) (a b : ℕ) : sProp 𝕄 :=
  iprop(pt c mDl (cge gd b) dl ∗ (∃ f, pt c mDl (clt gd a) f) ∗ (∃ f : Con F S2048x256 .f32, ⌜∀ i, gd i < a → P i (f i)⌝ ∗ pt c mHdl (clt gd a) f)
    ∗ Pipe (fun k => sz (F := F) c (dsem k))
        (fun k => FL c (dsem k) ND iprop((∃ f : Con F S2048x256 .f32, ⌜∀ i, gd i = k → P i (f i)⌝ ∗ pt c mHdl (ceq gd k) f) ∗ (∃ f, pt c mDl (ceq gd k) f)))
        (fun k => iprop((∃ f, pt c mHdl (ceq gd k) f) ∗ sz c (dsem k))) 16 a b)

/-- What the core holds. -/
def Res (vx : Con F S2048x12288 .fp8e4m3) (vw : Con F S256x12288 .i8) (P : S2048x256.Idx → Elt F .f32 → Prop) (s : St F) (R : sProp 𝕄) : sProp 𝕄 :=
  iprop(BR c s ∗ XR c vx s.xa s.xb ∗ WR c vw s.wa s.wb ∗ DR c P s.dl s.da s.db ∗ (∃ W, owes (c : Thread nD τ) 0 W) ∗ R)

/-- The weakest precondition of a piece of the body. -/
abbrev WP {α : Type} (p : Prog (TpuEff nD τ sig (Elt F) Λ₀ .tc) α) (Q : α → sProp 𝕄) : sProp 𝕄 :=
  wp frame (wpE (defs₀ (F := F)) Variants.none (c : Thread nD τ) none) Set.univ p Q
end

variable {c : Dev nD} {α β γ : Type} {Q : β → sProp (MT nD τ sig Unit (Elt F) ℕ (Pipeline.UD sig nD τ) ℕ)}

theorem s_assoc {H : sProp 𝕄} {p : Prog (TpuEff nD τ sig (Elt F) Λ₀ .tc) α} {f : α → Prog (TpuEff nD τ sig (Elt F) Λ₀ .tc) γ}
    {g : γ → Prog (TpuEff nD τ sig (Elt F) Λ₀ .tc) β} (h : H ⊢ WP c (p >>= fun x => f x >>= g) Q) : H ⊢ WP c ((p >>= f) >>= g) Q := by
  rw [bind_assoc]; exact h
theorem s_pure {H : sProp 𝕄} {x : α} {g : α → Prog (TpuEff nD τ sig (Elt F) Λ₀ .tc) β} (h : H ⊢ WP c (g x) Q) : H ⊢ WP c (pure x >>= g) Q := h
theorem s_done {H : sProp 𝕄} {x : β} (h : H ⊢ Q x) : H ⊢ WP c (pure x) Q := by
  refine h.trans ?_
  iintro H
  exact (le_wp_ret _ _ _ x Q)
theorem s_last {H : sProp 𝕄} {p : Prog (TpuEff nD τ sig (Elt F) Λ₀ .tc) β} (h : H ⊢ WP c (p >>= pure) Q) : H ⊢ WP c p Q := by
  rw [bind_pure] at h; exact h

section Generic
variable {cs : CoreSpace} {sh : Shape} {e : EltTy} {m : Memref sig .tc cs sh e}

theorem s_load {H : sProp 𝕄} {r : LoadRect sh} {hl : m.view.LoadsAt r} {k : (r.shape.Idx → Elt F e) → Prog (TpuEff nD τ sig (Elt F) Λ₀ .tc) β}
    {S : Finset (Idx (m.view.loc (c : Thread nD τ)))} {f : Buf (Elt F) (m.view.loc (c : Thread nD τ))}
    (hs : H ⊢ iprop(pt c m S f ∗ (pt c m S f -∗ H))) (hS : m.view.setOn r.set ⊆ S)
    (h : H ⊢ WP c (k (m.view.readAt (Elt F) r f)) Q) : H ⊢ WP c (Prog.lift (.load m r hl) >>= k) Q := by
  refine hs.trans ?_
  iintro ⟨Hp, Hr⟩
  iapply (wp_load (hl := hl) (k := k) Variants.none (c : Thread nD τ) none Set.univ hS) $$ Hp
  iintro Hp
  iapply h
  iapply Hr $$ Hp

theorem s_store {H H' : sProp 𝕄} {r : Rect sh} {w : r.shape.Idx → Elt F e} {Mk : Finset r.shape.Idx} {hx : (m.access r).Stores Mk}
    {hm : Mk = Finset.univ ∨ ∀ a, r.stride a = 1} {k : PUnit → Prog (TpuEff nD τ sig (Elt F) Λ₀ .tc) β}
    {S : Finset (Idx ((m.access r).loc (c : Thread nD τ)))} {f : Buf (Elt F) ((m.access r).loc (c : Thread nD τ))}
    (hs : H ⊢ iprop(((m.access r).loc (c : Thread nD τ) ↦[S]{fullShare} f)
      ∗ (((m.access r).loc (c : Thread nD τ) ↦[S]{fullShare} ((m.access r).write (Elt F) f w Mk)) -∗ H')))
    (hS : (m.access r).setOn Mk ⊆ S)
    (h : H' ⊢ WP c (k ⟨⟩) Q) : H ⊢ WP c (Prog.lift (.store m r w Mk hx hm) >>= k) Q := by
  refine hs.trans ?_
  iintro ⟨Hp, Hr⟩
  iapply (wp_store (hx := hx) (hm := hm) (k := k) Variants.none (c : Thread nD τ) none Set.univ hS) $$ Hp
  iintro Hp
  iapply h
  iapply Hr $$ Hp
end Generic

variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-! ## Loads and stores of the scratch buffers -/

theorem br_wsb : BR c s ⊢ iprop(pt c mWsb Finset.univ s.wsb ∗ (∀ f, pt c mWsb Finset.univ f -∗ BR c { s with wsb := f })) := by
  unfold BR
  iintro ⟨Hwsb, Hcf, Hzt, Het, Hps, Haux, Hzo, Hpo, Hlse⟩
  isplitl [Hwsb]; · iexact Hwsb
  iintro %f Hwsb
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_wsb {r : LoadRect S256x128} {hl : (mWsb).view.LoadsAt r} {k : (r.shape.Idx → Elt F .f32) → Prog (TpuEff nD τ sig (Elt F) Λ₀ .tc) β}
    (h : Res c vx vw P s R ⊢ WP c (k ((mWsb).view.readAt (Elt F) r s.wsb)) Q) :
    Res c vx vw P s R ⊢ WP c (Prog.lift (.load mWsb r hl) >>= k) Q := by
  refine s_load (S := Finset.univ) (f := s.wsb) ?_ (Finset.subset_univ _) h
  unfold Res
  iintro ⟨HB, HR⟩
  ihave HB' := (br_wsb (c := c) (s := s)) $$ HB
  icases HB' with ⟨Hp, HB⟩
  isplitl [Hp]; · iexact Hp
  iintro Hp
  isplitl [HB Hp]
  · iapply HB $$ Hp
  iexact HR

theorem st_wsb {r : Rect S256x128} {w : r.shape.Idx → Elt F .f32} {Mk : Finset r.shape.Idx} {hx : ((mWsb).access r).Stores Mk}
    {hm : Mk = Finset.univ ∨ ∀ a, r.stride a = 1} {k : PUnit → Prog (TpuEff nD τ sig (Elt F) Λ₀ .tc) β}
    (h : Res c vx vw P { s with wsb := ((mWsb).access r).write (Elt F) s.wsb w Mk } R ⊢ WP c (k ⟨⟩) Q) :
    Res c vx vw P s R ⊢ WP c (Prog.lift (.store mWsb r w Mk hx hm) >>= k) Q := by
  refine s_store (S := Finset.univ) (f := s.wsb) ?_ (Finset.subset_univ _) h
  unfold Res
  iintro ⟨HB, HR⟩
  ihave HB' := (br_wsb (c := c) (s := s)) $$ HB
  icases HB' with ⟨Hp, HB⟩
  isplitl [Hp]; · iexact Hp
  iintro Hp
  isplitl [HB Hp]
  · iapply HB $$ Hp
  iexact HR

theorem br_cf : BR c s ⊢ iprop(pt c mCf Finset.univ s.cf ∗ (∀ f, pt c mCf Finset.univ f -∗ BR c { s with cf := f })) := by
  unfold BR
  iintro ⟨Hwsb, Hcf, Hzt, Het, Hps, Haux, Hzo, Hpo, Hlse⟩
  isplitl [Hcf]; · iexact Hcf
  iintro %f Hcf
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_cf {r : LoadRect S256x128} {hl : (mCf).view.LoadsAt r} {k : (r.shape.Idx → Elt F .f32) → Prog (TpuEff nD τ sig (Elt F) Λ₀ .tc) β}
    (h : Res c vx vw P s R ⊢ WP c (k ((mCf).view.readAt (Elt F) r s.cf)) Q) :
    Res c vx vw P s R ⊢ WP c (Prog.lift (.load mCf r hl) >>= k) Q := by
  refine s_load (S := Finset.univ) (f := s.cf) ?_ (Finset.subset_univ _) h
  unfold Res
  iintro ⟨HB, HR⟩
  ihave HB' := (br_cf (c := c) (s := s)) $$ HB
  icases HB' with ⟨Hp, HB⟩
  isplitl [Hp]; · iexact Hp
  iintro Hp
  isplitl [HB Hp]
  · iapply HB $$ Hp
  iexact HR

theorem st_cf {r : Rect S256x128} {w : r.shape.Idx → Elt F .f32} {Mk : Finset r.shape.Idx} {hx : ((mCf).access r).Stores Mk}
    {hm : Mk = Finset.univ ∨ ∀ a, r.stride a = 1} {k : PUnit → Prog (TpuEff nD τ sig (Elt F) Λ₀ .tc) β}
    (h : Res c vx vw P { s with cf := ((mCf).access r).write (Elt F) s.cf w Mk } R ⊢ WP c (k ⟨⟩) Q) :
    Res c vx vw P s R ⊢ WP c (Prog.lift (.store mCf r w Mk hx hm) >>= k) Q := by
  refine s_store (S := Finset.univ) (f := s.cf) ?_ (Finset.subset_univ _) h
  unfold Res
  iintro ⟨HB, HR⟩
  ihave HB' := (br_cf (c := c) (s := s)) $$ HB
  icases HB' with ⟨Hp, HB⟩
  isplitl [Hp]; · iexact Hp
  iintro Hp
  isplitl [HB Hp]
  · iapply HB $$ Hp
  iexact HR

theorem br_zt : BR c s ⊢ iprop(pt c mZt Finset.univ s.zt ∗ (∀ f, pt c mZt Finset.univ f -∗ BR c { s with zt := f })) := by
  unfold BR
  iintro ⟨Hwsb, Hcf, Hzt, Het, Hps, Haux, Hzo, Hpo, Hlse⟩
  isplitl [Hzt]; · iexact Hzt
  iintro %f Hzt
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_zt {r : LoadRect S4x256x128} {hl : (mZt).view.LoadsAt r} {k : (r.shape.Idx → Elt F .f32) → Prog (TpuEff nD τ sig (Elt F) Λ₀ .tc) β}
    (h : Res c vx vw P s R ⊢ WP c (k ((mZt).view.readAt (Elt F) r s.zt)) Q) :
    Res c vx vw P s R ⊢ WP c (Prog.lift (.load mZt r hl) >>= k) Q := by
  refine s_load (S := Finset.univ) (f := s.zt) ?_ (Finset.subset_univ _) h
  unfold Res
  iintro ⟨HB, HR⟩
  ihave HB' := (br_zt (c := c) (s := s)) $$ HB
  icases HB' with ⟨Hp, HB⟩
  isplitl [Hp]; · iexact Hp
  iintro Hp
  isplitl [HB Hp]
  · iapply HB $$ Hp
  iexact HR

theorem st_zt {r : Rect S4x256x128} {w : r.shape.Idx → Elt F .f32} {Mk : Finset r.shape.Idx} {hx : ((mZt).access r).Stores Mk}
    {hm : Mk = Finset.univ ∨ ∀ a, r.stride a = 1} {k : PUnit → Prog (TpuEff nD τ sig (Elt F) Λ₀ .tc) β}
    (h : Res c vx vw P { s with zt := ((mZt).access r).write (Elt F) s.zt w Mk } R ⊢ WP c (k ⟨⟩) Q) :
    Res c vx vw P s R ⊢ WP c (Prog.lift (.store mZt r w Mk hx hm) >>= k) Q := by
  refine s_store (S := Finset.univ) (f := s.zt) ?_ (Finset.subset_univ _) h
  unfold Res
  iintro ⟨HB, HR⟩
  ihave HB' := (br_zt (c := c) (s := s)) $$ HB
  icases HB' with ⟨Hp, HB⟩
  isplitl [Hp]; · iexact Hp
  iintro Hp
  isplitl [HB Hp]
  · iapply HB $$ Hp
  iexact HR

theorem br_et : BR c s ⊢ iprop(pt c mEt Finset.univ s.et ∗ (∀ f, pt c mEt Finset.univ f -∗ BR c { s with et := f })) := by
  unfold BR
  iintro ⟨Hwsb, Hcf, Hzt, Het, Hps, Haux, Hzo, Hpo, Hlse⟩
  isplitl [Het]; · iexact Het
  iintro %f Het
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_et {r : LoadRect S256x128} {hl : (mEt).view.LoadsAt r} {k : (r.shape.Idx → Elt F .f32) → Prog (TpuEff nD τ sig (Elt F) Λ₀ .tc) β}
    (h : Res c vx vw P s R ⊢ WP c (k ((mEt).view.readAt (Elt F) r s.et)) Q) :
    Res c vx vw P s R ⊢ WP c (Prog.lift (.load mEt r hl) >>= k) Q := by
  refine s_load (S := Finset.univ) (f := s.et) ?_ (Finset.subset_univ _) h
  unfold Res
  iintro ⟨HB, HR⟩
  ihave HB' := (br_et (c := c) (s := s)) $$ HB
  icases HB' with ⟨Hp, HB⟩
  isplitl [Hp]; · iexact Hp
  iintro Hp
  isplitl [HB Hp]
  · iapply HB $$ Hp
  iexact HR

theorem st_et {r : Rect S256x128} {w : r.shape.Idx → Elt F .f32} {Mk : Finset r.shape.Idx} {hx : ((mEt).access r).Stores Mk}
    {hm : Mk = Finset.univ ∨ ∀ a, r.stride a = 1} {k : PUnit → Prog (TpuEff nD τ sig (Elt F) Λ₀ .tc) β}
    (h : Res c vx vw P { s with et := ((mEt).access r).write (Elt F) s.et w Mk } R ⊢ WP c (k ⟨⟩) Q) :
    Res c vx vw P s R ⊢ WP c (Prog.lift (.store mEt r w Mk hx hm) >>= k) Q := by
  refine s_store (S := Finset.univ) (f := s.et) ?_ (Finset.subset_univ _) h
  unfold Res
  iintro ⟨HB, HR⟩
  ihave HB' := (br_et (c := c) (s := s)) $$ HB
  icases HB' with ⟨Hp, HB⟩
  isplitl [Hp]; · iexact Hp
  iintro Hp
  isplitl [HB Hp]
  · iapply HB $$ Hp
  iexact HR

theorem br_ps : BR c s ⊢ iprop(pt c mPs Finset.univ s.ps ∗ (∀ f, pt c mPs Finset.univ f -∗ BR c { s with ps := f })) := by
  unfold BR
  iintro ⟨Hwsb, Hcf, Hzt, Het, Hps, Haux, Hzo, Hpo, Hlse⟩
  isplitl [Hps]; · iexact Hps
  iintro %f Hps
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_ps {r : LoadRect S256x128} {hl : (mPs).view.LoadsAt r} {k : (r.shape.Idx → Elt F .f32) → Prog (TpuEff nD τ sig (Elt F) Λ₀ .tc) β}
    (h : Res c vx vw P s R ⊢ WP c (k ((mPs).view.readAt (Elt F) r s.ps)) Q) :
    Res c vx vw P s R ⊢ WP c (Prog.lift (.load mPs r hl) >>= k) Q := by
  refine s_load (S := Finset.univ) (f := s.ps) ?_ (Finset.subset_univ _) h
  unfold Res
  iintro ⟨HB, HR⟩
  ihave HB' := (br_ps (c := c) (s := s)) $$ HB
  icases HB' with ⟨Hp, HB⟩
  isplitl [Hp]; · iexact Hp
  iintro Hp
  isplitl [HB Hp]
  · iapply HB $$ Hp
  iexact HR

theorem st_ps {r : Rect S256x128} {w : r.shape.Idx → Elt F .f32} {Mk : Finset r.shape.Idx} {hx : ((mPs).access r).Stores Mk}
    {hm : Mk = Finset.univ ∨ ∀ a, r.stride a = 1} {k : PUnit → Prog (TpuEff nD τ sig (Elt F) Λ₀ .tc) β}
    (h : Res c vx vw P { s with ps := ((mPs).access r).write (Elt F) s.ps w Mk } R ⊢ WP c (k ⟨⟩) Q) :
    Res c vx vw P s R ⊢ WP c (Prog.lift (.store mPs r w Mk hx hm) >>= k) Q := by
  refine s_store (S := Finset.univ) (f := s.ps) ?_ (Finset.subset_univ _) h
  unfold Res
  iintro ⟨HB, HR⟩
  ihave HB' := (br_ps (c := c) (s := s)) $$ HB
  icases HB' with ⟨Hp, HB⟩
  isplitl [Hp]; · iexact Hp
  iintro Hp
  isplitl [HB Hp]
  · iapply HB $$ Hp
  iexact HR

theorem br_aux : BR c s ⊢ iprop(pt c mAux Finset.univ s.aux ∗ (∀ f, pt c mAux Finset.univ f -∗ BR c { s with aux := f })) := by
  unfold BR
  iintro ⟨Hwsb, Hcf, Hzt, Het, Hps, Haux, Hzo, Hpo, Hlse⟩
  isplitl [Haux]; · iexact Haux
  iintro %f Haux
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_aux {r : LoadRect S2x1024} {hl : (mAux).view.LoadsAt r} {k : (r.shape.Idx → Elt F .f32) → Prog (TpuEff nD τ sig (Elt F) Λ₀ .tc) β}
    (h : Res c vx vw P s R ⊢ WP c (k ((mAux).view.readAt (Elt F) r s.aux)) Q) :
    Res c vx vw P s R ⊢ WP c (Prog.lift (.load mAux r hl) >>= k) Q := by
  refine s_load (S := Finset.univ) (f := s.aux) ?_ (Finset.subset_univ _) h
  unfold Res
  iintro ⟨HB, HR⟩
  ihave HB' := (br_aux (c := c) (s := s)) $$ HB
  icases HB' with ⟨Hp, HB⟩
  isplitl [Hp]; · iexact Hp
  iintro Hp
  isplitl [HB Hp]
  · iapply HB $$ Hp
  iexact HR

theorem st_aux {r : Rect S2x1024} {w : r.shape.Idx → Elt F .f32} {Mk : Finset r.shape.Idx} {hx : ((mAux).access r).Stores Mk}
    {hm : Mk = Finset.univ ∨ ∀ a, r.stride a = 1} {k : PUnit → Prog (TpuEff nD τ sig (Elt F) Λ₀ .tc) β}
    (h : Res c vx vw P { s with aux := ((mAux).access r).write (Elt F) s.aux w Mk } R ⊢ WP c (k ⟨⟩) Q) :
    Res c vx vw P s R ⊢ WP c (Prog.lift (.store mAux r w Mk hx hm) >>= k) Q := by
  refine s_store (S := Finset.univ) (f := s.aux) ?_ (Finset.subset_univ _) h
  unfold Res
  iintro ⟨HB, HR⟩
  ihave HB' := (br_aux (c := c) (s := s)) $$ HB
  icases HB' with ⟨Hp, HB⟩
  isplitl [Hp]; · iexact Hp
  iintro Hp
  isplitl [HB Hp]
  · iapply HB $$ Hp
  iexact HR

theorem br_zo : BR c s ⊢ iprop(pt c mZo Finset.univ s.zo ∗ (∀ f, pt c mZo Finset.univ f -∗ BR c { s with zo := f })) := by
  unfold BR
  iintro ⟨Hwsb, Hcf, Hzt, Het, Hps, Haux, Hzo, Hpo, Hlse⟩
  isplitl [Hzo]; · iexact Hzo
  iintro %f Hzo
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_zo {r : LoadRect S2x1024} {hl : (mZo).view.LoadsAt r} {k : (r.shape.Idx → Elt F .f32) → Prog (TpuEff nD τ sig (Elt F) Λ₀ .tc) β}
    (h : Res c vx vw P s R ⊢ WP c (k ((mZo).view.readAt (Elt F) r s.zo)) Q) :
    Res c vx vw P s R ⊢ WP c (Prog.lift (.load mZo r hl) >>= k) Q := by
  refine s_load (S := Finset.univ) (f := s.zo) ?_ (Finset.subset_univ _) h
  unfold Res
  iintro ⟨HB, HR⟩
  ihave HB' := (br_zo (c := c) (s := s)) $$ HB
  icases HB' with ⟨Hp, HB⟩
  isplitl [Hp]; · iexact Hp
  iintro Hp
  isplitl [HB Hp]
  · iapply HB $$ Hp
  iexact HR

theorem st_zo {r : Rect S2x1024} {w : r.shape.Idx → Elt F .f32} {Mk : Finset r.shape.Idx} {hx : ((mZo).access r).Stores Mk}
    {hm : Mk = Finset.univ ∨ ∀ a, r.stride a = 1} {k : PUnit → Prog (TpuEff nD τ sig (Elt F) Λ₀ .tc) β}
    (h : Res c vx vw P { s with zo := ((mZo).access r).write (Elt F) s.zo w Mk } R ⊢ WP c (k ⟨⟩) Q) :
    Res c vx vw P s R ⊢ WP c (Prog.lift (.store mZo r w Mk hx hm) >>= k) Q := by
  refine s_store (S := Finset.univ) (f := s.zo) ?_ (Finset.subset_univ _) h
  unfold Res
  iintro ⟨HB, HR⟩
  ihave HB' := (br_zo (c := c) (s := s)) $$ HB
  icases HB' with ⟨Hp, HB⟩
  isplitl [Hp]; · iexact Hp
  iintro Hp
  isplitl [HB Hp]
  · iapply HB $$ Hp
  iexact HR

theorem br_po : BR c s ⊢ iprop(pt c mPo Finset.univ s.po ∗ (∀ f, pt c mPo Finset.univ f -∗ BR c { s with po := f })) := by
  unfold BR
  iintro ⟨Hwsb, Hcf, Hzt, Het, Hps, Haux, Hzo, Hpo, Hlse⟩
  isplitl [Hpo]; · iexact Hpo
  iintro %f Hpo
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_po {r : LoadRect S1x256} {hl : (mPo).view.LoadsAt r} {k : (r.shape.Idx → Elt F .f32) → Prog (TpuEff nD τ sig (Elt F) Λ₀ .tc) β}
    (h : Res c vx vw P s R ⊢ WP c (k ((mPo).view.readAt (Elt F) r s.po)) Q) :
    Res c vx vw P s R ⊢ WP c (Prog.lift (.load mPo r hl) >>= k) Q := by
  refine s_load (S := Finset.univ) (f := s.po) ?_ (Finset.subset_univ _) h
  unfold Res
  iintro ⟨HB, HR⟩
  ihave HB' := (br_po (c := c) (s := s)) $$ HB
  icases HB' with ⟨Hp, HB⟩
  isplitl [Hp]; · iexact Hp
  iintro Hp
  isplitl [HB Hp]
  · iapply HB $$ Hp
  iexact HR

theorem st_po {r : Rect S1x256} {w : r.shape.Idx → Elt F .f32} {Mk : Finset r.shape.Idx} {hx : ((mPo).access r).Stores Mk}
    {hm : Mk = Finset.univ ∨ ∀ a, r.stride a = 1} {k : PUnit → Prog (TpuEff nD τ sig (Elt F) Λ₀ .tc) β}
    (h : Res c vx vw P { s with po := ((mPo).access r).write (Elt F) s.po w Mk } R ⊢ WP c (k ⟨⟩) Q) :
    Res c vx vw P s R ⊢ WP c (Prog.lift (.store mPo r w Mk hx hm) >>= k) Q := by
  refine s_store (S := Finset.univ) (f := s.po) ?_ (Finset.subset_univ _) h
  unfold Res
  iintro ⟨HB, HR⟩
  ihave HB' := (br_po (c := c) (s := s)) $$ HB
  icases HB' with ⟨Hp, HB⟩
  isplitl [Hp]; · iexact Hp
  iintro Hp
  isplitl [HB Hp]
  · iapply HB $$ Hp
  iexact HR

theorem br_lse : BR c s ⊢ iprop(pt c mLse Finset.univ s.lse ∗ (∀ f, pt c mLse Finset.univ f -∗ BR c { s with lse := f })) := by
  unfold BR
  iintro ⟨Hwsb, Hcf, Hzt, Het, Hps, Haux, Hzo, Hpo, Hlse⟩
  isplitl [Hlse]; · iexact Hlse
  iintro %f Hlse
  isplitl [Hwsb]; · iexact Hwsb
  isplitl [Hcf]; · iexact Hcf
  isplitl [Hzt]; · iexact Hzt
  isplitl [Het]; · iexact Het
  isplitl [Hps]; · iexact Hps
  isplitl [Haux]; · iexact Haux
  isplitl [Hzo]; · iexact Hzo
  isplitl [Hpo]; · iexact Hpo
  iexact Hlse

theorem ld_lse {r : LoadRect S2x1024} {hl : (mLse).view.LoadsAt r} {k : (r.shape.Idx → Elt F .f32) → Prog (TpuEff nD τ sig (Elt F) Λ₀ .tc) β}
    (h : Res c vx vw P s R ⊢ WP c (k ((mLse).view.readAt (Elt F) r s.lse)) Q) :
    Res c vx vw P s R ⊢ WP c (Prog.lift (.load mLse r hl) >>= k) Q := by
  refine s_load (S := Finset.univ) (f := s.lse) ?_ (Finset.subset_univ _) h
  unfold Res
  iintro ⟨HB, HR⟩
  ihave HB' := (br_lse (c := c) (s := s)) $$ HB
  icases HB' with ⟨Hp, HB⟩
  isplitl [Hp]; · iexact Hp
  iintro Hp
  isplitl [HB Hp]
  · iapply HB $$ Hp
  iexact HR

theorem st_lse {r : Rect S2x1024} {w : r.shape.Idx → Elt F .f32} {Mk : Finset r.shape.Idx} {hx : ((mLse).access r).Stores Mk}
    {hm : Mk = Finset.univ ∨ ∀ a, r.stride a = 1} {k : PUnit → Prog (TpuEff nD τ sig (Elt F) Λ₀ .tc) β}
    (h : Res c vx vw P { s with lse := ((mLse).access r).write (Elt F) s.lse w Mk } R ⊢ WP c (k ⟨⟩) Q) :
    Res c vx vw P s R ⊢ WP c (Prog.lift (.store mLse r w Mk hx hm) >>= k) Q := by
  refine s_store (S := Finset.univ) (f := s.lse) ?_ (Finset.subset_univ _) h
  unfold Res
  iintro ⟨HB, HR⟩
  ihave HB' := (br_lse (c := c) (s := s)) $$ HB
  icases HB' with ⟨Hp, HB⟩
  isplitl [Hp]; · iexact Hp
  iintro Hp
  isplitl [HB Hp]
  · iapply HB $$ Hp
  iexact HR

end Cert.KernelIdeal.Hand

end
-- ==== Proof.KI.Steps.lean ====
/-
  The rules of the three families of transfers on `Res`: loads of landed blocks, starts and waits; and the stores into
  the gradient's buffer.
-/
module

public import proofs.«01_k».proof.Proof.KI.Res

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-! ## The blocks as slices -/

theorem set_x {off : Fin 2 → ℕ} {inb : ∀ a, off a + S512x1024.size a ≤ S2048x12288.size a} {b : ℕ}
    (h0 : off 0 = b / 12 * 512) (h1 : off 1 = b % 12 * 1024) : (Rect.unit (s := S2048x12288) off S512x1024.size inb).toLoadRect.set = ceq gx b := by
  ext i
  rw [Rect.mem_set_unit, mem_ceq]
  have l0 : (i 0).val < 2048 := (i 0).isLt
  have l1 : (i 1).val < 12288 := (i 1).isLt
  unfold gx
  constructor
  · intro h
    have a0 := h 0
    have a1 := h 1
    have e0 : S512x1024.size 0 = 512 := rfl
    have e1 : S512x1024.size 1 = 1024 := rfl
    rw [h0, e0] at a0; rw [h1, e1] at a1
    omega
  · intro h a
    match a with
    | ⟨0, _⟩ => show off 0 ≤ (i 0).val ∧ (i 0).val < off 0 + 512; rw [h0]; omega
    | ⟨1, _⟩ => show off 1 ≤ (i 1).val ∧ (i 1).val < off 1 + 1024; rw [h1]; omega

theorem set_w {off : Fin 2 → ℕ} {inb : ∀ a, off a + S256x1024.size a ≤ S256x12288.size a} {b : ℕ}
    (h0 : off 0 = 0) (h1 : off 1 = b * 1024) : (Rect.unit (s := S256x12288) off S256x1024.size inb).toLoadRect.set = ceq gw b := by
  ext i
  rw [Rect.mem_set_unit, mem_ceq]
  have l0 : (i 0).val < 256 := (i 0).isLt
  have l1 : (i 1).val < 12288 := (i 1).isLt
  unfold gw
  constructor
  · intro h
    have a1 := h 1
    have e1 : S256x1024.size 1 = 1024 := rfl
    rw [h1, e1] at a1
    omega
  · intro h a
    match a with
    | ⟨0, _⟩ => show off 0 ≤ (i 0).val ∧ (i 0).val < off 0 + 256; rw [h0]; omega
    | ⟨1, _⟩ => show off 1 ≤ (i 1).val ∧ (i 1).val < off 1 + 1024; rw [h1]; omega

theorem set_d {off : Fin 2 → ℕ} {inb : ∀ a, off a + S128x256.size a ≤ S2048x256.size a} {b : ℕ}
    (h0 : off 0 = b * 128) (h1 : off 1 = 0) : (Rect.unit (s := S2048x256) off S128x256.size inb).toLoadRect.set = ceq gd b := by
  ext i
  rw [Rect.mem_set_unit, mem_ceq]
  have l0 : (i 0).val < 2048 := (i 0).isLt
  have l1 : (i 1).val < 256 := (i 1).isLt
  unfold gd
  constructor
  · intro h
    have a0 := h 0
    have e0 : S128x256.size 0 = 128 := rfl
    rw [h0, e0] at a0
    omega
  · intro h a
    match a with
    | ⟨0, _⟩ => show off 0 ≤ (i 0).val ∧ (i 0).val < off 0 + 128; rw [h0]; omega
    | ⟨1, _⟩ => show off 1 ≤ (i 1).val ∧ (i 1).val < off 1 + 256; rw [h1]; omega

/-! ## Loads of the codes -/

theorem ld_x {off : Fin 2 → ℕ} {inb : ∀ a, off a + S256x256.size a ≤ S2048x12288.size a} {hl : mX.view.LoadsAt (Rect.unit (s := S2048x12288) off S256x256.size inb).toLoadRect}
    {k : (S256x256.Idx → Elt F .fp8e4m3) → Prog (TpuEff nD τ sig (Elt F) Λ₀ .tc) β}
    (hb : off 0 % 512 + 256 ≤ 512 ∧ off 0 / 512 * 12 + (off 1 + 255) / 1024 < s.xa)
    (h : Res c vx vw P s R ⊢ WP c (k (mX.view.readAt (Elt F) (Rect.unit (s := S2048x12288) off S256x256.size inb).toLoadRect vx)) Q) :
    Res c vx vw P s R ⊢ WP c (Prog.lift (.load mX (Rect.unit (s := S2048x12288) off S256x256.size inb).toLoadRect hl) >>= k) Q := by
  refine s_load (S := clt gx s.xa) (f := vx) ?_ ?_ h
  · unfold Res XR
    iintro ⟨HB, ⟨Hp, HX⟩, HR⟩
    isplitl [Hp]; · iexact Hp
    iintro Hp
    isplitl [HB]; · iexact HB
    isplitl [Hp HX]
    · isplitl [Hp]; · iexact Hp
      iexact HX
    iexact HR
  · intro i hi
    have hi' : i ∈ (Rect.unit (s := S2048x12288) off S256x256.size inb).toLoadRect.set := by
      obtain ⟨x, hx, rfl⟩ := Finset.mem_map.mp hi
      exact hx
    rw [Rect.mem_set_unit] at hi'
    have a0 := hi' 0
    have a1 := hi' 1
    have e0 : S256x256.size 0 = 256 := rfl
    have e1 : S256x256.size 1 = 256 := rfl
    rw [e0] at a0; rw [e1] at a1
    refine (mem_clt gx).mpr ?_
    unfold gx
    omega

theorem ld_w {off : Fin 2 → ℕ} {inb : ∀ a, off a + S256x256.size a ≤ S256x12288.size a} {hl : mW.view.LoadsAt (Rect.unit (s := S256x12288) off S256x256.size inb).toLoadRect}
    {k : (S256x256.Idx → Elt F .i8) → Prog (TpuEff nD τ sig (Elt F) Λ₀ .tc) β}
    (hb : (off 1 + 255) / 1024 < s.wa)
    (h : Res c vx vw P s R ⊢ WP c (k (mW.view.readAt (Elt F) (Rect.unit (s := S256x12288) off S256x256.size inb).toLoadRect vw)) Q) :
    Res c vx vw P s R ⊢ WP c (Prog.lift (.load mW (Rect.unit (s := S256x12288) off S256x256.size inb).toLoadRect hl) >>= k) Q := by
  refine s_load (S := clt gw s.wa) (f := vw) ?_ ?_ h
  · unfold Res WR
    iintro ⟨HB, HX, ⟨Hp, HW⟩, HR⟩
    isplitl [Hp]; · iexact Hp
    iintro Hp
    isplitl [HB]; · iexact HB
    isplitl [HX]; · iexact HX
    isplitl [Hp HW]
    · isplitl [Hp]; · iexact Hp
      iexact HW
    iexact HR
  · intro i hi
    have hi' : i ∈ (Rect.unit (s := S256x12288) off S256x256.size inb).toLoadRect.set := by
      obtain ⟨x, hx, rfl⟩ := Finset.mem_map.mp hi
      exact hx
    rw [Rect.mem_set_unit] at hi'
    have a1 := hi' 1
    have e1 : S256x256.size 1 = 256 := rfl
    rw [e1] at a1
    refine (mem_clt gw).mpr ?_
    unfold gw
    omega

/-! ## The gradient's buffer -/

theorem ld_dl {off : Fin 2 → ℕ} {sz' : Fin 2 → ℕ} {inb : ∀ a, off a + sz' a ≤ S2048x256.size a} {hl : mDl.view.LoadsAt (Rect.unit (s := S2048x256) off sz' inb).toLoadRect}
    {k : ((Rect.unit (s := S2048x256) off sz' inb).toLoadRect.shape.Idx → Elt F .f32) → Prog (TpuEff nD τ sig (Elt F) Λ₀ .tc) β}
    (hb : s.db * 128 ≤ off 0)
    (h : Res c vx vw P s R ⊢ WP c (k (mDl.view.readAt (Elt F) (Rect.unit (s := S2048x256) off sz' inb).toLoadRect s.dl)) Q) :
    Res c vx vw P s R ⊢ WP c (Prog.lift (.load mDl (Rect.unit (s := S2048x256) off sz' inb).toLoadRect hl) >>= k) Q := by
  refine s_load (S := cge gd s.db) (f := s.dl) ?_ ?_ h
  · unfold Res DR
    iintro ⟨HB, HX, HW, ⟨Hp, HD⟩, HR⟩
    isplitl [Hp]; · iexact Hp
    iintro Hp
    isplitl [HB]; · iexact HB
    isplitl [HX]; · iexact HX
    isplitl [HW]; · iexact HW
    isplitl [Hp HD]
    · isplitl [Hp]; · iexact Hp
      iexact HD
    iexact HR
  · intro i hi
    have hi' : i ∈ (Rect.unit (s := S2048x256) off sz' inb).toLoadRect.set := by
      obtain ⟨x, hx, rfl⟩ := Finset.mem_map.mp hi
      exact hx
    rw [Rect.mem_set_unit] at hi'
    have a0 := hi' 0
    refine (mem_cge gd).mpr ?_
    unfold gd
    omega

theorem st_dl {off : Fin 2 → ℕ} {sz' : Fin 2 → ℕ} {inb : ∀ a, off a + sz' a ≤ S2048x256.size a}
    {w : (Rect.unit (s := S2048x256) off sz' inb).shape.Idx → Elt F .f32} {Mk : Finset (Rect.unit (s := S2048x256) off sz' inb).shape.Idx}
    {hx : (mDl.access (Rect.unit (s := S2048x256) off sz' inb)).Stores Mk}
    {hm : Mk = Finset.univ ∨ ∀ a, (Rect.unit (s := S2048x256) off sz' inb).stride a = 1} {k : PUnit → Prog (TpuEff nD τ sig (Elt F) Λ₀ .tc) β}
    (hb : s.db * 128 ≤ off 0)
    (h : Res c vx vw P { s with dl := (mDl.access (Rect.unit (s := S2048x256) off sz' inb)).write (Elt F) s.dl w Mk } R ⊢ WP c (k ⟨⟩) Q) :
    Res c vx vw P s R ⊢ WP c (Prog.lift (.store mDl (Rect.unit (s := S2048x256) off sz' inb) w Mk hx hm) >>= k) Q := by
  refine s_store (S := cge gd s.db) (f := s.dl) ?_ ?_ h
  · unfold Res DR
    iintro ⟨HB, HX, HW, ⟨Hp, HD⟩, HR⟩
    isplitl [Hp]; · iexact Hp
    iintro Hp
    isplitl [HB]; · iexact HB
    isplitl [HX]; · iexact HX
    isplitl [HW]; · iexact HW
    isplitl [Hp HD]
    · isplitl [Hp]; · iexact Hp
      iexact HD
    iexact HR
  · intro i hi
    have hi' : i ∈ (Rect.unit (s := S2048x256) off sz' inb).toLoadRect.set := by
      obtain ⟨x, hx, rfl⟩ := Finset.mem_map.mp hi
      rw [← Rect.map_emb_univ]
      exact Finset.mem_map_of_mem _ (Finset.mem_univ x)
    rw [Rect.mem_set_unit] at hi'
    have a0 := hi' 0
    refine (mem_cge gd).mpr ?_
    unfold gd
    omega

/-! ## Starts -/

theorem write_x {off : Fin 2 → ℕ} {inb : ∀ a, off a + S512x1024.size a ≤ S2048x12288.size a} {hs hs' : ∀ a, (Rect.unit (s := S2048x12288) off S512x1024.size inb).stride a = 1}
    (v f : Con F S2048x12288 .fp8e4m3) (i : S2048x12288.Idx) (hi : i ∈ (Rect.unit (s := S2048x12288) off S512x1024.size inb).toLoadRect.set) :
    (mX.slice (Rect.unit (s := S2048x12288) off S512x1024.size inb) hs).view.write (Elt F) f
      (ReadAs.same.apply ((mHx.slice (Rect.unit (s := S2048x12288) off S512x1024.size inb) hs').view.read (Elt F) v)) Finset.univ i = v i := by
  rw [← Rect.map_emb_univ] at hi
  obtain ⟨x, -, rfl⟩ := Finset.mem_map.mp hi
  exact (View.write_emb_of_mem (v := (mX.slice (Rect.unit (s := S2048x12288) off S512x1024.size inb) hs).view) (Val := Elt F) f _ (Finset.mem_univ x)).trans rfl

theorem start_x {off : Fin 2 → ℕ} {inb : ∀ a, off a + S512x1024.size a ≤ S2048x12288.size a} {hs hs' : ∀ a, (Rect.unit (s := S2048x12288) off S512x1024.size inb).stride a = 1}
    {sm : DmaSem sig} {w1 w2 w3} {k : PUnit → Prog (TpuEff nD τ sig (Elt F) Λ₀ .tc) β} (b : ℕ)
    (hc : s.xa ≤ s.xb ∧ s.xb = b) (hb : b < 48) (h0 : off 0 = b / 12 * 512) (h1 : off 1 = b % 12 * 1024) (hsem : sm = xsem b)
    (h : Res c vx vw P { s with xb := b + 1 } R ⊢ WP c (k ⟨⟩) Q) :
    Res c vx vw P s R ⊢ WP c (Prog.lift (.enqueueDma (mHx.slice (Rect.unit (s := S2048x12288) off S512x1024.size inb) hs)
      (.here (mX.slice (Rect.unit (s := S2048x12288) off S512x1024.size inb) hs')) (.dma sm) w1 w2 w3) >>= k) Q := by
  have hset : (mX.slice (Rect.unit (s := S2048x12288) off S512x1024.size inb) hs').view.set = ceq gx b := (View.set_slice_whole _ _).trans (set_x h0 h1)
  have hset' : (mHx.slice (Rect.unit (s := S2048x12288) off S512x1024.size inb) hs).view.set = ceq gx b := (View.set_slice_whole _ _).trans (set_x h0 h1)
  obtain ⟨hab, rfl⟩ := hc
  subst hsem
  have es : pt c mHx (ceq gx s.xb) vx ⊢ ((mHx.slice (Rect.unit (s := S2048x12288) off S512x1024.size inb) hs).view.loc (c : Thread nD τ)
      ↦[(mHx.slice (Rect.unit (s := S2048x12288) off S512x1024.size inb) hs).view.set]{fullShare} vx : sProp 𝕄) := by rw [hset']
  have ew : ∀ fd, ((mX.slice (Rect.unit (s := S2048x12288) off S512x1024.size inb) hs').view.loc (c : Thread nD τ) ↦[ceq gx s.xb]{fullShare}
      ((mX.slice (Rect.unit (s := S2048x12288) off S512x1024.size inb) hs').view.write (Elt F) fd
        (ReadAs.same.apply ((mHx.slice (Rect.unit (s := S2048x12288) off S512x1024.size inb) hs).view.read (Elt F) vx)) Finset.univ) : sProp 𝕄) ⊢ pt c mX (ceq gx s.xb) vx :=
    fun fd => Entails.of_eq (pointsTo_congr fun i hi => write_x vx fd i (by rw [set_x h0 h1]; exact hi))
  have eu : pt c mHx (cge gx s.xb) vx ⊢ iprop(pt c mHx (ceq gx s.xb) vx ∗ pt c mHx (cge gx (s.xb + 1)) vx) := by
    rw [cge_eq]; exact (pointsTo_union (cge_disj gx s.xb)).1
  have es' : ((mHx.slice (Rect.unit (s := S2048x12288) off S512x1024.size inb) hs).view.loc (c : Thread nD τ)
      ↦[(mHx.slice (Rect.unit (s := S2048x12288) off S512x1024.size inb) hs).view.set]{fullShare} vx : sProp 𝕄) ⊢ pt c mHx (ceq gx s.xb) vx := by rw [hset']
  unfold Res XR
  iintro ⟨HB, ⟨Hl, Hhl, Hhu, HP⟩, HR⟩
  ihave Hhu' := eu $$ Hhu
  icases Hhu' with ⟨Hs, Hhu⟩
  ihave HP' := (pipe_start _ _ _ hab hb) $$ HP
  icases HP' with ⟨⟨⟨%fd, Hd⟩, Hv⟩, HP⟩
  ihave Hs' := es $$ Hs
  iapply (Transfers.wp_dmaLocal (countersEmb (U := Pipeline.UD sig nD τ)) Variants.none (c : Thread nD τ) none
    (src := mHx.slice (Rect.unit (s := S2048x12288) off S512x1024.size inb) hs) (dst := mX.slice (Rect.unit (s := S2048x12288) off S512x1024.size inb) hs')
    (via := ReadAs.same) (Sd := ceq gx s.xb) (fd := fd) () NX rfl (sig.dmaCredit_pos _ _ _ _ _ (Shape.numel_pos (by decide))) hset.le) $$ [Hs' Hd Hv]
  · isplitl [Hs']; · iexact Hs'
    isplitl [Hd]; · iexact Hd
    iexact Hv
  iintro HF
  iapply h
  unfold Res XR
  isplitl [HB]; · iexact HB
  isplitl [Hl Hhl Hhu HP HF]
  · isplitl [Hl]; · iexact Hl
    isplitl [Hhl]; · iexact Hhl
    isplitl [Hhu]; · iexact Hhu
    iapply HP
    iapply (Transfers.Flight_mono (countersEmb (U := Pipeline.UD sig nD τ)) (c : Thread nD τ) (D' := iprop(pt c mX (ceq gx s.xb) vx ∗ pt c mHx (ceq gx s.xb) vx)) ?_) $$ HF
    iintro ⟨Hd, Hs⟩
    isplitl [Hd]
    · iapply (ew fd) $$ Hd
    · iapply es' $$ Hs
  iexact HR

theorem write_w {off : Fin 2 → ℕ} {inb : ∀ a, off a + S256x1024.size a ≤ S256x12288.size a} {hs hs' : ∀ a, (Rect.unit (s := S256x12288) off S256x1024.size inb).stride a = 1}
    (v f : Con F S256x12288 .i8) (i : S256x12288.Idx) (hi : i ∈ (Rect.unit (s := S256x12288) off S256x1024.size inb).toLoadRect.set) :
    (mW.slice (Rect.unit (s := S256x12288) off S256x1024.size inb) hs).view.write (Elt F) f
      (ReadAs.same.apply ((mHw.slice (Rect.unit (s := S256x12288) off S256x1024.size inb) hs').view.read (Elt F) v)) Finset.univ i = v i := by
  rw [← Rect.map_emb_univ] at hi
  obtain ⟨x, -, rfl⟩ := Finset.mem_map.mp hi
  exact (View.write_emb_of_mem (v := (mW.slice (Rect.unit (s := S256x12288) off S256x1024.size inb) hs).view) (Val := Elt F) f _ (Finset.mem_univ x)).trans rfl

theorem start_w {off : Fin 2 → ℕ} {inb : ∀ a, off a + S256x1024.size a ≤ S256x12288.size a} {hs hs' : ∀ a, (Rect.unit (s := S256x12288) off S256x1024.size inb).stride a = 1}
    {sm : DmaSem sig} {w1 w2 w3} {k : PUnit → Prog (TpuEff nD τ sig (Elt F) Λ₀ .tc) β} (b : ℕ)
    (hc : s.wa ≤ s.wb ∧ s.wb = b) (hb : b < 12) (h0 : off 0 = 0) (h1 : off 1 = b * 1024) (hsem : sm = wsem b)
    (h : Res c vx vw P { s with wb := b + 1 } R ⊢ WP c (k ⟨⟩) Q) :
    Res c vx vw P s R ⊢ WP c (Prog.lift (.enqueueDma (mHw.slice (Rect.unit (s := S256x12288) off S256x1024.size inb) hs)
      (.here (mW.slice (Rect.unit (s := S256x12288) off S256x1024.size inb) hs')) (.dma sm) w1 w2 w3) >>= k) Q := by
  have hset : (mW.slice (Rect.unit (s := S256x12288) off S256x1024.size inb) hs').view.set = ceq gw b := (View.set_slice_whole _ _).trans (set_w h0 h1)
  have hset' : (mHw.slice (Rect.unit (s := S256x12288) off S256x1024.size inb) hs).view.set = ceq gw b := (View.set_slice_whole _ _).trans (set_w h0 h1)
  obtain ⟨hab, rfl⟩ := hc
  subst hsem
  have es : pt c mHw (ceq gw s.wb) vw ⊢ ((mHw.slice (Rect.unit (s := S256x12288) off S256x1024.size inb) hs).view.loc (c : Thread nD τ)
      ↦[(mHw.slice (Rect.unit (s := S256x12288) off S256x1024.size inb) hs).view.set]{fullShare} vw : sProp 𝕄) := by rw [hset']
  have ew : ∀ fd, ((mW.slice (Rect.unit (s := S256x12288) off S256x1024.size inb) hs').view.loc (c : Thread nD τ) ↦[ceq gw s.wb]{fullShare}
      ((mW.slice (Rect.unit (s := S256x12288) off S256x1024.size inb) hs').view.write (Elt F) fd
        (ReadAs.same.apply ((mHw.slice (Rect.unit (s := S256x12288) off S256x1024.size inb) hs).view.read (Elt F) vw)) Finset.univ) : sProp 𝕄) ⊢ pt c mW (ceq gw s.wb) vw :=
    fun fd => Entails.of_eq (pointsTo_congr fun i hi => write_w vw fd i (by rw [set_w h0 h1]; exact hi))
  have eu : pt c mHw (cge gw s.wb) vw ⊢ iprop(pt c mHw (ceq gw s.wb) vw ∗ pt c mHw (cge gw (s.wb + 1)) vw) := by
    rw [cge_eq]; exact (pointsTo_union (cge_disj gw s.wb)).1
  have es' : ((mHw.slice (Rect.unit (s := S256x12288) off S256x1024.size inb) hs).view.loc (c : Thread nD τ)
      ↦[(mHw.slice (Rect.unit (s := S256x12288) off S256x1024.size inb) hs).view.set]{fullShare} vw : sProp 𝕄) ⊢ pt c mHw (ceq gw s.wb) vw := by rw [hset']
  unfold Res WR
  iintro ⟨HB, HX, ⟨Hl, Hhl, Hhu, HP⟩, HR⟩
  ihave Hhu' := eu $$ Hhu
  icases Hhu' with ⟨Hs, Hhu⟩
  ihave HP' := (pipe_start _ _ _ hab hb) $$ HP
  icases HP' with ⟨⟨⟨%fd, Hd⟩, Hv⟩, HP⟩
  ihave Hs' := es $$ Hs
  iapply (Transfers.wp_dmaLocal (countersEmb (U := Pipeline.UD sig nD τ)) Variants.none (c : Thread nD τ) none
    (src := mHw.slice (Rect.unit (s := S256x12288) off S256x1024.size inb) hs) (dst := mW.slice (Rect.unit (s := S256x12288) off S256x1024.size inb) hs')
    (via := ReadAs.same) (Sd := ceq gw s.wb) (fd := fd) () NW rfl (sig.dmaCredit_pos _ _ _ _ _ (Shape.numel_pos (by decide))) hset.le) $$ [Hs' Hd Hv]
  · isplitl [Hs']; · iexact Hs'
    isplitl [Hd]; · iexact Hd
    iexact Hv
  iintro HF
  iapply h
  unfold Res WR
  isplitl [HB]; · iexact HB
  isplitl [HX]; · iexact HX
  isplitl [Hl Hhl Hhu HP HF]
  · isplitl [Hl]; · iexact Hl
    isplitl [Hhl]; · iexact Hhl
    isplitl [Hhu]; · iexact Hhu
    iapply HP
    iapply (Transfers.Flight_mono (countersEmb (U := Pipeline.UD sig nD τ)) (c : Thread nD τ) (D' := iprop(pt c mW (ceq gw s.wb) vw ∗ pt c mHw (ceq gw s.wb) vw)) ?_) $$ HF
    iintro ⟨Hd, Hs⟩
    isplitl [Hd]
    · iapply (ew fd) $$ Hd
    · iapply es' $$ Hs
  iexact HR

theorem write_d {off : Fin 2 → ℕ} {inb : ∀ a, off a + S128x256.size a ≤ S2048x256.size a} {hs hs' : ∀ a, (Rect.unit (s := S2048x256) off S128x256.size inb).stride a = 1}
    (v f : Con F S2048x256 .f32) (i : S2048x256.Idx) (hi : i ∈ (Rect.unit (s := S2048x256) off S128x256.size inb).toLoadRect.set) :
    (mHdl.slice (Rect.unit (s := S2048x256) off S128x256.size inb) hs).view.write (Elt F) f
      (ReadAs.same.apply ((mDl.slice (Rect.unit (s := S2048x256) off S128x256.size inb) hs').view.read (Elt F) v)) Finset.univ i = v i := by
  rw [← Rect.map_emb_univ] at hi
  obtain ⟨x, -, rfl⟩ := Finset.mem_map.mp hi
  exact (View.write_emb_of_mem (v := (mHdl.slice (Rect.unit (s := S2048x256) off S128x256.size inb) hs).view) (Val := Elt F) f _ (Finset.mem_univ x)).trans rfl

theorem wait_x {s' : Shape} {e' : EltTy} {sp' : Space} {sm : DmaSem sig}
    {srcw : Memref sig .tc sp' s' e'} {dstw : Memref sig .tc .vmem S512x1024 .fp8e4m3} {w1 : srcw.view.WordExact} {w2 : dstw.view.WordExact}
    {k : PUnit → Prog (TpuEff nD τ sig (Elt F) Λ₀ .tc) β} (b : ℕ)
    (hc : s.xa = b ∧ b < s.xb) (hN : dstw.view.dmaCredit = NX) (hsem : sm = xsem b)
    (h : Res c vx vw P { s with xa := b + 1 } R ⊢ WP c (k ⟨⟩) Q) :
    Res c vx vw P s R ⊢ WP c (Prog.lift (.waitDma2 sm srcw dstw w1 w2) >>= k) Q := by
  obtain ⟨rfl, hab⟩ := hc
  subst hsem
  unfold Res XR
  iintro ⟨HB, ⟨Hl, Hhl, Hhu, HP⟩, HW, HD, ⟨%W, HW0⟩, HR⟩
  ihave HP' := (pipe_wait _ _ _ hab) $$ HP
  icases HP' with ⟨HF, HP⟩
  iapply (Transfers.wp_waitLocal (countersEmb (U := Pipeline.UD sig nD τ)) Variants.none (c : Thread nD τ) none () hN) $$ [HF HW0]
  · isplitl [HF]; · iexact HF
    iexact HW0
  iintro ⟨⟨Hd, Hs⟩, Hv, HW0⟩
  iapply h
  unfold Res XR
  isplitl [HB]; · iexact HB
  isplitl [Hl Hhl Hhu HP Hd Hs Hv]
  · isplitl [Hl Hd]
    · rw [clt_succ]
      iapply (pointsTo_union (clt_disj gx s.xa)).2
      isplitl [Hl]; · iexact Hl
      iexact Hd
    isplitl [Hhl Hs]
    · rw [clt_succ]
      iapply (pointsTo_union (clt_disj gx s.xa)).2
      isplitl [Hhl]; · iexact Hhl
      iexact Hs
    isplitl [Hhu]; · iexact Hhu
    iapply HP $$ Hv
  isplitl [HW]; · iexact HW
  isplitl [HD]; · iexact HD
  isplitl [HW0]
  · iexists _
    iexact HW0
  iexact HR

theorem wait_w {s' : Shape} {e' : EltTy} {sp' : Space} {sm : DmaSem sig}
    {srcw : Memref sig .tc sp' s' e'} {dstw : Memref sig .tc .vmem S256x1024 .i8} {w1 : srcw.view.WordExact} {w2 : dstw.view.WordExact}
    {k : PUnit → Prog (TpuEff nD τ sig (Elt F) Λ₀ .tc) β} (b : ℕ)
    (hc : s.wa = b ∧ b < s.wb) (hN : dstw.view.dmaCredit = NW) (hsem : sm = wsem b)
    (h : Res c vx vw P { s with wa := b + 1 } R ⊢ WP c (k ⟨⟩) Q) :
    Res c vx vw P s R ⊢ WP c (Prog.lift (.waitDma2 sm srcw dstw w1 w2) >>= k) Q := by
  obtain ⟨rfl, hab⟩ := hc
  subst hsem
  unfold Res WR
  iintro ⟨HB, HX, ⟨Hl, Hhl, Hhu, HP⟩, HD, ⟨%W, HW0⟩, HR⟩
  ihave HP' := (pipe_wait _ _ _ hab) $$ HP
  icases HP' with ⟨HF, HP⟩
  iapply (Transfers.wp_waitLocal (countersEmb (U := Pipeline.UD sig nD τ)) Variants.none (c : Thread nD τ) none () hN) $$ [HF HW0]
  · isplitl [HF]; · iexact HF
    iexact HW0
  iintro ⟨⟨Hd, Hs⟩, Hv, HW0⟩
  iapply h
  unfold Res WR
  isplitl [HB]; · iexact HB
  isplitl [HX]; · iexact HX
  isplitl [Hl Hhl Hhu HP Hd Hs Hv]
  · isplitl [Hl Hd]
    · rw [clt_succ]
      iapply (pointsTo_union (clt_disj gw s.wa)).2
      isplitl [Hl]; · iexact Hl
      iexact Hd
    isplitl [Hhl Hs]
    · rw [clt_succ]
      iapply (pointsTo_union (clt_disj gw s.wa)).2
      isplitl [Hhl]; · iexact Hhl
      iexact Hs
    isplitl [Hhu]; · iexact Hhu
    iapply HP $$ Hv
  isplitl [HD]; · iexact HD
  isplitl [HW0]
  · iexists _
    iexact HW0
  iexact HR

/-! ## The gradient's family -/

theorem start_d {off : Fin 2 → ℕ} {inb : ∀ a, off a + S128x256.size a ≤ S2048x256.size a} {hs hs' : ∀ a, (Rect.unit (s := S2048x256) off S128x256.size inb).stride a = 1}
    {sm : DmaSem sig} {w1 w2 w3} {k : PUnit → Prog (TpuEff nD τ sig (Elt F) Λ₀ .tc) β} (b : ℕ)
    (hc : s.da ≤ s.db ∧ s.db = b) (hb : b < 16) (h0 : off 0 = b * 128) (h1 : off 1 = 0) (hsem : sm = dsem b)
    (hP : ∀ i, gd i = b → P i (s.dl i))
    (h : Res c vx vw P { s with db := b + 1 } R ⊢ WP c (k ⟨⟩) Q) :
    Res c vx vw P s R ⊢ WP c (Prog.lift (.enqueueDma (mDl.slice (Rect.unit (s := S2048x256) off S128x256.size inb) hs)
      (.here (mHdl.slice (Rect.unit (s := S2048x256) off S128x256.size inb) hs')) (.dma sm) w1 w2 w3) >>= k) Q := by
  have hset : (mHdl.slice (Rect.unit (s := S2048x256) off S128x256.size inb) hs').view.set = ceq gd b := (View.set_slice_whole _ _).trans (set_d h0 h1)
  have hset' : (mDl.slice (Rect.unit (s := S2048x256) off S128x256.size inb) hs).view.set = ceq gd b := (View.set_slice_whole _ _).trans (set_d h0 h1)
  obtain ⟨hab, rfl⟩ := hc
  subst hsem
  have es : pt c mDl (ceq gd s.db) s.dl ⊢ ((mDl.slice (Rect.unit (s := S2048x256) off S128x256.size inb) hs).view.loc (c : Thread nD τ)
      ↦[(mDl.slice (Rect.unit (s := S2048x256) off S128x256.size inb) hs).view.set]{fullShare} s.dl : sProp 𝕄) := by rw [hset']
  have es' : ((mDl.slice (Rect.unit (s := S2048x256) off S128x256.size inb) hs).view.loc (c : Thread nD τ)
      ↦[(mDl.slice (Rect.unit (s := S2048x256) off S128x256.size inb) hs).view.set]{fullShare} s.dl : sProp 𝕄) ⊢ pt c mDl (ceq gd s.db) s.dl := by rw [hset']
  have ew : ∀ fd, ((mHdl.slice (Rect.unit (s := S2048x256) off S128x256.size inb) hs').view.loc (c : Thread nD τ) ↦[ceq gd s.db]{fullShare}
      ((mHdl.slice (Rect.unit (s := S2048x256) off S128x256.size inb) hs').view.write (Elt F) fd
        (ReadAs.same.apply ((mDl.slice (Rect.unit (s := S2048x256) off S128x256.size inb) hs).view.read (Elt F) s.dl)) Finset.univ) : sProp 𝕄) ⊢ pt c mHdl (ceq gd s.db) s.dl :=
    fun fd => Entails.of_eq (pointsTo_congr fun i hi => write_d s.dl fd i (by rw [set_d h0 h1]; exact hi))
  have eu : pt c mDl (cge gd s.db) s.dl ⊢ iprop(pt c mDl (ceq gd s.db) s.dl ∗ pt c mDl (cge gd (s.db + 1)) s.dl) := by
    rw [cge_eq]; exact (pointsTo_union (cge_disj gd s.db)).1
  unfold Res DR
  iintro ⟨HB, HX, HW, ⟨Hu, Hlv, Hlh, HP⟩, HR⟩
  ihave Hu' := eu $$ Hu
  icases Hu' with ⟨Hs, Hu⟩
  ihave HP' := (pipe_start _ _ _ hab hb) $$ HP
  icases HP' with ⟨⟨⟨%fd, Hd⟩, Hv⟩, HP⟩
  ihave Hs' := es $$ Hs
  iapply (Transfers.wp_dmaLocal (countersEmb (U := Pipeline.UD sig nD τ)) Variants.none (c : Thread nD τ) none
    (src := mDl.slice (Rect.unit (s := S2048x256) off S128x256.size inb) hs) (dst := mHdl.slice (Rect.unit (s := S2048x256) off S128x256.size inb) hs')
    (via := ReadAs.same) (Sd := ceq gd s.db) (fd := fd) () ND rfl (sig.dmaCredit_pos _ _ _ _ _ (Shape.numel_pos (by decide))) hset.le) $$ [Hs' Hd Hv]
  · isplitl [Hs']; · iexact Hs'
    isplitl [Hd]; · iexact Hd
    iexact Hv
  iintro HF
  iapply h
  unfold Res DR
  isplitl [HB]; · iexact HB
  isplitl [HX]; · iexact HX
  isplitl [HW]; · iexact HW
  isplitl [Hu Hlv Hlh HP HF]
  · isplitl [Hu]; · iexact Hu
    isplitl [Hlv]; · iexact Hlv
    isplitl [Hlh]; · iexact Hlh
    iapply HP
    iapply (Transfers.Flight_mono (countersEmb (U := Pipeline.UD sig nD τ)) (c : Thread nD τ) (D' := iprop((∃ f : Con F S2048x256 .f32, ⌜∀ i, gd i = s.db → P i (f i)⌝ ∗ pt c mHdl (ceq gd s.db) f) ∗ (∃ f, pt c mDl (ceq gd s.db) f))) ?_) $$ HF
    iintro ⟨Hd, Hs⟩
    isplitl [Hd]
    · iexists s.dl
      isplitr
      · ipureintro; exact hP
      iapply (ew fd) $$ Hd
    · iexists s.dl
      iapply es' $$ Hs
  iexact HR

theorem wait_d {s' : Shape} {e' : EltTy} {sp' : Space} {sm : DmaSem sig}
    {srcw : Memref sig .tc sp' s' e'} {dstw : Memref sig .tc .hbm S128x256 .f32} {w1 : srcw.view.WordExact} {w2 : dstw.view.WordExact}
    {k : PUnit → Prog (TpuEff nD τ sig (Elt F) Λ₀ .tc) β} (b : ℕ)
    (hc : s.da = b ∧ b < s.db) (hN : dstw.view.dmaCredit = ND) (hsem : sm = dsem b)
    (h : Res c vx vw P { s with da := b + 1 } R ⊢ WP c (k ⟨⟩) Q) :
    Res c vx vw P s R ⊢ WP c (Prog.lift (.waitDma2 sm srcw dstw w1 w2) >>= k) Q := by
  obtain ⟨rfl, hab⟩ := hc
  subst hsem
  unfold Res DR
  iintro ⟨HB, HX, HW, ⟨Hu, ⟨%fv, Hlv⟩, ⟨%fh, %hfh, Hlh⟩, HP⟩, ⟨%W, HW0⟩, HR⟩
  ihave HP' := (pipe_wait _ _ _ hab) $$ HP
  icases HP' with ⟨HF, HP⟩
  iapply (Transfers.wp_waitLocal (countersEmb (U := Pipeline.UD sig nD τ)) Variants.none (c : Thread nD τ) none () hN) $$ [HF HW0]
  · isplitl [HF]; · iexact HF
    iexact HW0
  iintro ⟨⟨⟨%gh, %hgh, Hd⟩, ⟨%gv, Hs⟩⟩, Hv, HW0⟩
  iapply h
  unfold Res DR
  isplitl [HB]; · iexact HB
  isplitl [HX]; · iexact HX
  isplitl [HW]; · iexact HW
  isplitl [Hu Hlv Hlh HP Hd Hs Hv]
  · isplitl [Hu]; · iexact Hu
    isplitl [Hlv Hs]
    · rw [clt_succ]
      iexists _
      iapply (pointsTo_join (clt_disj gd s.da))
      isplitl [Hlv]; · iexact Hlv
      iexact Hs
    isplitl [Hlh Hd]
    · rw [clt_succ]
      iexists ((ceq gd s.da).piecewise gh fh : Con F S2048x256 .f32)
      isplitr
      · ipureintro
        intro i hi
        by_cases hi' : gd i = s.da
        · rw [Finset.piecewise_eq_of_mem _ _ _ ((mem_ceq gd).mpr hi')]; exact hgh i hi'
        · rw [Finset.piecewise_eq_of_notMem _ _ _ (fun hm => hi' ((mem_ceq gd).mp hm))]; exact hfh i (Nat.lt_of_le_of_ne (Nat.le_of_lt_succ hi) hi')
      iapply (pointsTo_join (clt_disj gd s.da))
      isplitl [Hlh]; · iexact Hlh
      iexact Hd
    iapply HP $$ Hv
  isplitl [HW0]
  · iexists _
    iexact HW0
  iexact HR

end Cert.KernelIdeal.Hand

end
-- ==== Proof.KI.Mx.lean ====
/-
  The matrix unit's state along the body, the counts of the transfers, and the rule of a loop.
-/
module

public import proofs.«01_k».proof.Proof.KI.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-! ## The body's functions on the call's operands -/

/-- A function of the body's memrefs, on those of this call. -/
abbrev app {β : Sort*} (f : (arg0 : Memref sig .tc .hbm S2048x12288 .fp8e4m3) → (harg0 : arg0.IsWhole) → (arg1 : Memref sig .tc .hbm S256x12288 .i8) → (harg1 : arg1.IsWhole) → (arg2 : Memref sig .tc .hbm S2x1024 .f32) → (harg2 : arg2.IsWhole) → (arg3 : Memref sig .tc .hbm S1x256 .f32) → (harg3 : arg3.IsWhole) → (arg4 : Memref sig .tc .hbm S2x8x1024 .i32) → (harg4 : arg4.IsWhole) → (arg5 : Memref sig .tc .hbm S2x1024 .f32) → (harg5 : arg5.IsWhole) → (arg6 : Memref sig .tc .hbm S2x1024 .f32) → (harg6 : arg6.IsWhole) → (arg7 : Memref sig .tc .hbm S1x256 .f32) → (harg7 : arg7.IsWhole) → (arg8 : Memref sig .tc .hbm S2x1024 .f32) → (harg8 : arg8.IsWhole) → (arg9 : Memref sig .tc .hbm S2048x256 .f32) → (harg9 : arg9.IsWhole) → (arg10 : Memref sig .tc .vmem S2048x12288 .fp8e4m3) → (harg10 : arg10.IsWhole) → (arg11 : Memref sig .tc .vmem S256x12288 .i8) → (harg11 : arg11.IsWhole) → (arg12 : Memref sig .tc .vmem S2x1024 .f32) → (harg12 : arg12.IsWhole) → (arg13 : Memref sig .tc .vmem S1x256 .f32) → (harg13 : arg13.IsWhole) → (arg14 : Memref sig .tc .vmem S2x8x1024 .i32) → (harg14 : arg14.IsWhole) → (arg15 : Memref sig .tc .vmem S256x128 .f32) → (harg15 : arg15.IsWhole) → (arg16 : Memref sig .tc .vmem S256x128 .f32) → (harg16 : arg16.IsWhole) → (arg17 : Memref sig .tc .vmem S4x256x128 .f32) → (harg17 : arg17.IsWhole) → (arg18 : Memref sig .tc .vmem S256x128 .f32) → (harg18 : arg18.IsWhole) → (arg19 : Memref sig .tc .vmem S256x128 .f32) → (harg19 : arg19.IsWhole) → (arg20 : Memref sig .tc .vmem S2048x256 .f32) → (harg20 : arg20.IsWhole) → (arg21 : Memref sig .tc .vmem S2x1024 .f32) → (harg21 : arg21.IsWhole) → (arg22 : Memref sig .tc .vmem S2x1024 .f32) → (harg22 : arg22.IsWhole) → (arg23 : Memref sig .tc .vmem S1x256 .f32) → (harg23 : arg23.IsWhole) → (arg24 : Memref sig .tc .vmem S2x1024 .f32) → (harg24 : arg24.IsWhole) → (arg25 : DmaSems sig S48) → (arg26 : DmaSems sig S12) → (arg27 : DmaSems sig S3) → (arg28 : DmaSems sig S4) → (arg29 : DmaSems sig S16) → β) : β :=
  f (Memref.whole main_v0) (Memref.isWhole_whole _) (Memref.whole main_arg2) (Memref.isWhole_whole _) (Memref.whole main_arg1) (Memref.isWhole_whole _) (Memref.whole main_v1) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19

/-! ## How far the transfers have come -/

structure Cnt (s : St F) (xa xb wa wb da db : ℕ) : Prop where
  xa : s.xa = xa
  xb : s.xb = xb
  wa : s.wa = wa
  wb : s.wb = wb
  da : s.da = da
  db : s.db = db

/-! ## The matrix unit's registers -/

/-- Which of the four registers may be occupied. -/
def oc (a b c d : Bool) (q r : Fin 2) : Bool := if q = 0 then (if r = 0 then a else b) else (if r = 0 then c else d)
/-- Which of the two units may have live rows. -/
def lv (a b : Bool) (q : Fin 2) : Bool := if q = 0 then a else b

/-- A state whose tiles are all transposed, of which only registers `o` may be occupied and only rows [4A, 4A + 256)
    of the units `l` may be live. -/
structure MxOk (A : ℕ) (o : Fin 2 → Fin 2 → Bool) (l : Fin 2 → Bool) (m : Mxu F) : Prop where
  tag : ∀ q r, m.PushOk q r true
  reg : ∀ q r, o q r = false → m.reg q r = none
  rows : ∀ q R, m.live q R = true → l q = true ∧ 4 * A ≤ R.val ∧ R.val < 4 * A + 256

theorem MxOk.init (A : ℕ) {o l} : MxOk (F := F) A o l Mxu.init :=
  ⟨fun q r => Mxu.pushOk_of_none _ _ _ _ (Mxu.reg_init _ _), fun q r _ => Mxu.reg_init _ _, fun q R h => by simp at h⟩

theorem MxOk.push {A : ℕ} {o o' : Fin 2 → Fin 2 → Bool} {l : Fin 2 → Bool} {m : Mxu F} (h : MxOk A o l m) {q r : Fin 2} {φ : FTy} {v : FVec F (Mxu.STile 256) φ}
    (ho : ∀ a b, o' a b = false → o a b = false ∧ ¬ (a = q ∧ b = r)) : MxOk A o' l (m.pushed q r true v) := by
  refine ⟨fun a b => ?_, fun a b hab => ?_, fun a R hR => h.rows a R (by rw [Mxu.live_pushed] at hR; exact hR)⟩
  · by_cases e : a = q ∧ b = r
    · obtain ⟨rfl, rfl⟩ := e
      cases hr : m.reg a b with
      | none => exact Mxu.pushOk_of_some _ _ _ (Mxu.reg_pushed_of_none _ _ _ _ _ hr) rfl
      | some t => rw [Mxu.pushed_of_some _ _ _ _ _ hr]; exact h.tag a b
    · intro t ht
      rw [Mxu.reg_pushed_ne _ _ _ _ _ _ _ e] at ht
      exact h.tag a b t ht
  · obtain ⟨h1, h2⟩ := ho a b hab
    rw [Mxu.reg_pushed_ne _ _ _ _ _ _ _ h2]
    exact h.reg a b h1

theorem MxOk.acc {A : ℕ} {o o' : Fin 2 → Fin 2 → Bool} {l l' : Fin 2 → Bool} {m : Mxu F} (h : MxOk A o l m) {q r : Fin 2} {φ : FTy} {v : FVec F (Mxu.STile 256) φ} {hf}
    (ho : ∀ a b, o' a b = false → o a b = false ∨ (a = q ∧ b = r)) (hl : ∀ a, (l a = true ∨ a = q) → l' a = true) : MxOk A o' l' (m.accLhs q r A v hf) := by
  have hreg : ∀ a b, (m.accLhs q r A v hf).reg a b = if a = q ∧ b = r then none else m.reg a b := fun a b => by
    by_cases e : a = q ∧ b = r
    · obtain ⟨rfl, rfl⟩ := e; simp
    · rw [if_neg e, Mxu.reg_accLhs_ne _ _ _ _ _ _ _ _ e]
  refine ⟨fun a b t ht => ?_, fun a b hab => ?_, fun a R hR => ?_⟩
  · rw [hreg] at ht
    split at ht
    · simp at ht
    · exact h.tag a b t ht
  · rw [hreg]
    split
    · rfl
    · rename_i e
      rcases ho a b hab with h1 | h1
      · exact h.reg a b h1
      · exact absurd h1 e
  · rw [Mxu.live_accLhs] at hR
    split at hR
    · rename_i e
      exact ⟨hl a (.inr e.1), e.2⟩
    · have := h.rows a R hR
      exact ⟨hl a (.inl this.1), this.2⟩

theorem MxOk.pop {A : ℕ} {o : Fin 2 → Fin 2 → Bool} {l l' : Fin 2 → Bool} {m : Mxu F} (h : MxOk A o l m) {q : Fin 2} {hf}
    (hl : ∀ a, (l a = true ∧ a ≠ q) → l' a = true) : MxOk A o l' (m.pop q A 256 hf) := by
  refine ⟨fun a b t ht => h.tag a b t ht, fun a b hab => h.reg a b hab, fun a R hR => ?_⟩
  rw [Mxu.live_pop] at hR
  split at hR
  · exact absurd hR (by decide)
  · rename_i e
    have := h.rows a R hR
    exact ⟨hl a ⟨this.1, fun ea => e ⟨ea, this.2⟩⟩, this.2⟩

/-- With no live rows the region may be named anew. -/
theorem MxOk.move {A : ℕ} (B : ℕ) {o : Fin 2 → Fin 2 → Bool} {l l' : Fin 2 → Bool} {m : Mxu F} (h : MxOk A o l m) (hl : ∀ a, l a = false) : MxOk B o l' m :=
  ⟨h.tag, h.reg, fun a R hR => by have := (h.rows a R hR).1; rw [hl] at this; exact absurd this (by decide)⟩

theorem MxOk.weak {A : ℕ} {o o' : Fin 2 → Fin 2 → Bool} {l l' : Fin 2 → Bool} {m : Mxu F} (h : MxOk A o l m) (ho : ∀ a b, o' a b = false → o a b = false) (hl : ∀ a, l a = true → l' a = true) : MxOk A o' l' m :=
  ⟨h.tag, fun a b hab => h.reg a b (ho a b hab), fun a R hR => ⟨hl a (h.rows a R hR).1, (h.rows a R hR).2⟩⟩

theorem MxOk.drained {A : ℕ} {o : Fin 2 → Fin 2 → Bool} {l : Fin 2 → Bool} {m : Mxu F} (h : MxOk A o l m) (ho : ∀ a b, o a b = false) (hl : ∀ a, l a = false) : m.Drained :=
  ⟨fun q r => by rw [h.reg q r (ho q r)]; rfl, fun q R => by
    cases e : m.live q R with
    | false => rfl
    | true => have := (h.rows q R e).1; rw [hl] at this; exact absurd this (by decide)⟩

theorem s_push {H : sProp 𝕄} {A : ℕ} {o : Fin 2 → Fin 2 → Bool} {l : Fin 2 → Bool} {m : Mxu F} (hm : MxOk A o l m) {q r : Fin 2} {φ : FTy} {v : FVec F (Mxu.STile 256) φ}
    {k : Mxu F → Prog (TpuEff nD τ sig (Elt F) Λ₀ .tc) β} (h : H ⊢ WP c (k (m.pushed q r true v)) Q) : H ⊢ WP c (m.pushRhs q r true v >>= k) Q :=
  h.trans (Mxu.wp_pushRhs v (hm.tag q r))

theorem s_exit {H : sProp 𝕄} {m : Mxu F} (hd : m.Drained)
    {k : PUnit → Prog (TpuEff nD τ sig (Elt F) Λ₀ .tc) β} (h : H ⊢ WP c (k ⟨⟩) Q) : H ⊢ WP c (m.exit >>= k) Q :=
  h.trans (Mxu.wp_exit hd)

theorem s_pushW {H : sProp 𝕄} {A : ℕ} {o : Fin 2 → Fin 2 → Bool} (o' : Fin 2 → Fin 2 → Bool) {l : Fin 2 → Bool} {m : Mxu F} (hm : MxOk A o l m) {q r : Fin 2} {φ : FTy} {v : FVec F (Mxu.STile 256) φ}
    {k : Mxu F → Prog (TpuEff nD τ sig (Elt F) Λ₀ .tc) β} (ho : ∀ a b, o' a b = false → o a b = false ∧ ¬ (a = q ∧ b = r))
    (h : ∀ m', MxOk A o' l m' → H ⊢ WP c (k m') Q) : H ⊢ WP c (m.pushRhs q r true v >>= k) Q :=
  s_push hm (h _ (hm.push ho))

theorem s_pushS {H : sProp 𝕄} {A : ℕ} {o : Fin 2 → Fin 2 → Bool} (o' : Fin 2 → Fin 2 → Bool) {l : Fin 2 → Bool} {m : Mxu F} (hm : MxOk A o l m) {q r : Fin 2} {φ : FTy} {v : FVec F (Mxu.STile 256) φ}
    {k : Mxu F → Prog (TpuEff nD τ sig (Elt F) Λ₀ .tc) β} (ho : ∀ a b, o' a b = false → o a b = false ∧ ¬ (a = q ∧ b = r))
    (h : MxOk A o' l (m.pushed q r true v) → H ⊢ WP c (k (m.pushed q r true v)) Q) : H ⊢ WP c (m.pushRhs q r true v >>= k) Q :=
  s_push hm (h (hm.push ho))

/-! ## Bounds read at the counts -/

theorem bx {x a u : ℕ} {p : Prop} (ha : x = a) (h : p ∧ u < a) : p ∧ u < x := ha ▸ h
theorem bv {x a u : ℕ} (ha : x = a) (h : u < a) : u < x := ha ▸ h
theorem bd {x a u : ℕ} (ha : x = a) (h : a * 128 ≤ u) : x * 128 ≤ u := ha ▸ h
theorem bw {x a y n : ℕ} (ha : x = a) (hy : y = n) (h : a < n) : x = a ∧ a < y := ⟨ha, hy ▸ h⟩
theorem bs {x a y n : ℕ} (ha : x = a) (hy : y = n) (h : a ≤ n) : x ≤ y ∧ y = n := ⟨ha ▸ hy ▸ h, hy⟩

/-! ## Loops -/

theorem s_for {σ : Type} {l : Scf.Loop 32} {hok : l.OK} {init : σ} {body : Fin l.trips → σ → Prog (TpuEff nD τ sig (Elt F) Λ₀ .tc) σ}
    {kk : σ → Prog (TpuEff nD τ sig (Elt F) Λ₀ .tc) β} (I : ℕ → σ → St F → Prop)
    (h0 : I 0 init s)
    (hb : ∀ (t : Fin l.trips) (m : σ) (s : St F), I t.val m s → Res c vx vw P s R ⊢ WP c (body t m) (fun m' => iprop(∃ s', ⌜I (t.val + 1) m' s'⌝ ∗ Res c vx vw P s' R)))
    (h : ∀ (m : σ) (s : St F), I l.trips m s → Res c vx vw P s R ⊢ WP c (kk m) Q) :
    Res c vx vw P s R ⊢ WP c (Scf.Loop.for l hok init body >>= kk) Q := by
  have hw := Scf.wp_for_bind frame (wpE (defs₀ (F := F)) Variants.none (c : Thread nD τ) none) Set.univ l.lb l.ub l.st hok init body
    (fun n m => iprop(∃ s', ⌜I n m s'⌝ ∗ Res c vx vw P s' R)) (fun t m => by
      iintro ⟨%s', %hI, HR⟩
      iapply (hb t m s' hI) $$ HR) (kk := kk) (Q := Q)
  iintro HR
  iapply hw $$ [HR]
  · iexists s
    isplitr
    · ipureintro; exact h0
    iexact HR
  iintro %m ⟨%s', %hI, HR⟩
  iapply (h m s' hI) $$ HR

theorem s_trip {σ : Type} {I : σ → St F → Prop} {m : σ} (h : I m s) : Res c vx vw P s R ⊢ WP c (pure m) (fun m' => iprop(∃ s', ⌜I m' s'⌝ ∗ Res c vx vw P s' R)) := by
  refine s_done ?_
  iintro HR
  iexists s
  isplitr
  · ipureintro; exact h
  iexact HR

end Cert.KernelIdeal.Hand

end
-- ==== Proof.KI.Small.lean ====
/-
  The transfers of whole buffers: the small inputs at the start and the small results at the end.
-/
module

public import proofs.«01_k».proof.Proof.KI.Mx

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-! ## Transfers of whole buffers -/

/-- Starting a transfer of a whole buffer. -/
theorem w_start {cs cs' : Space} {sh : Shape} {e : EltTy} {src : Memref sig .tc cs sh e} {dst : Memref sig .tc cs' sh e} {sm : DmaSem sig} {w1 w2 w3}
    {k : PUnit → Prog (TpuEff nD τ sig (Elt F) Λ₀ .tc) β} {N : ℕ} (hsrc : src.view.set = Finset.univ) (hdst : dst.view.set = Finset.univ)
    (hN : dst.view.amount (SemLoc.dma sm) = N) (hN0 : 0 < N) {v : Buf (Elt F) (src.view.loc (c : Thread nD τ))} {v' : Buf (Elt F) (dst.view.loc (c : Thread nD τ))}
    (hw : ∀ fd, dst.view.write (Elt F) fd (ReadAs.same.apply (src.view.read (Elt F) v)) Finset.univ = v') :
    iprop(pt c src Finset.univ v ∗ (∃ f, pt c dst Finset.univ f) ∗ sz c sm)
      ⊢ iprop((FL c sm N iprop(pt c dst Finset.univ v' ∗ pt c src Finset.univ v) -∗ WP c (k ⟨⟩) Q)
        -∗ WP c (Prog.lift (.enqueueDma src (.here dst) (.dma sm) w1 w2 w3) >>= k) Q) := by
  have es : pt c src Finset.univ v ⊢ (src.view.loc (c : Thread nD τ) ↦[src.view.set]{fullShare} v : sProp 𝕄) := by rw [hsrc]
  have es' : (src.view.loc (c : Thread nD τ) ↦[src.view.set]{fullShare} v : sProp 𝕄) ⊢ pt c src Finset.univ v := by rw [hsrc]
  iintro ⟨Hs, ⟨%fd, Hd⟩, Hv⟩ Hk
  ihave Hs' := es $$ Hs
  iapply (Transfers.wp_dmaLocal (countersEmb (U := Pipeline.UD sig nD τ)) Variants.none (c : Thread nD τ) none
    (src := src) (dst := dst) (via := ReadAs.same) (Sd := Finset.univ) (fd := fd) () N hN hN0 hdst.le) $$ [Hs' Hd Hv]
  · isplitl [Hs']; · iexact Hs'
    isplitl [Hd]; · iexact Hd
    iexact Hv
  iintro HF
  iapply Hk
  iapply (Transfers.Flight_mono (countersEmb (U := Pipeline.UD sig nD τ)) (c : Thread nD τ) (D' := iprop(pt c dst Finset.univ v' ∗ pt c src Finset.univ v)) ?_) $$ HF
  iintro ⟨Hd, Hs⟩
  isplitl [Hd]
  · rw [← hw fd]; iexact Hd
  · iapply es' $$ Hs

/-- Waiting for one. -/
theorem w_wait {s' : Shape} {e' : EltTy} {sp' : Space} {sp : Space} {sh : Shape} {e : EltTy} {sm : DmaSem sig}
    {srcw : Memref sig .tc sp' s' e'} {dstw : Memref sig .tc sp sh e} {w1 : srcw.view.WordExact} {w2 : dstw.view.WordExact}
    {k : PUnit → Prog (TpuEff nD τ sig (Elt F) Λ₀ .tc) β} {N : ℕ} (hN : dstw.view.dmaCredit = N) {D : sProp 𝕄} :
    iprop(FL c sm N D ∗ (∃ W, owes (c : Thread nD τ) 0 W))
      ⊢ iprop((iprop(D ∗ sz (F := F) c sm ∗ (∃ W, owes (c : Thread nD τ) 0 W)) -∗ WP c (k ⟨⟩) Q)
        -∗ WP c (Prog.lift (.waitDma2 sm srcw dstw w1 w2) >>= k) Q) := by
  iintro ⟨HF, ⟨%W, HW⟩⟩ Hk
  iapply (Transfers.wp_waitLocal (countersEmb (U := Pipeline.UD sig nD τ)) Variants.none (c : Thread nD τ) none () hN) $$ [HF HW]
  · isplitl [HF]; · iexact HF
    iexact HW
  iintro ⟨HD, Hv, HW⟩
  iapply Hk
  isplitl [HD]; · iexact HD
  isplitl [Hv]; · iexact Hv
  iexists _
  iexact HW

/-! ## The small inputs -/

variable {vid : Con F S2x8x1024 .i32} {vws : Con F S1x256 .f32} {vxs : Con F S2x1024 .f32}

/-- The small inputs before they are fetched, -/
def SI0 (c : Dev nD) (vid : Con F S2x8x1024 .i32) (vws : Con F S1x256 .f32) (vxs : Con F S2x1024 .f32) : sProp 𝕄 :=
  iprop((pt c mHid Finset.univ vid ∗ (∃ f, pt c mId Finset.univ f) ∗ sz c (Fin.ofNat 83 60)) ∗ (pt c mHws Finset.univ vws ∗ (∃ f, pt c mWs Finset.univ f) ∗ sz c (Fin.ofNat 83 61)) ∗ (pt c mHxs Finset.univ vxs ∗ (∃ f, pt c mXs Finset.univ f) ∗ sz c (Fin.ofNat 83 62)))
/-- while they are fetched, -/
def SI1 (c : Dev nD) (vid : Con F S2x8x1024 .i32) (vws : Con F S1x256 .f32) (vxs : Con F S2x1024 .f32) : sProp 𝕄 :=
  iprop(FL c (Fin.ofNat 83 60) (sig.dmaCredit .tc (Kind.tc.table .vmem) mId.view.buf S2x8x1024 .i32) iprop(pt c mId Finset.univ vid ∗ pt c mHid Finset.univ vid) ∗ FL c (Fin.ofNat 83 61) (sig.dmaCredit .tc (Kind.tc.table .vmem) mWs.view.buf S1x256 .f32) iprop(pt c mWs Finset.univ vws ∗ pt c mHws Finset.univ vws) ∗ FL c (Fin.ofNat 83 62) (sig.dmaCredit .tc (Kind.tc.table .vmem) mXs.view.buf S2x1024 .f32) iprop(pt c mXs Finset.univ vxs ∗ pt c mHxs Finset.univ vxs))
/-- and when they have landed. -/
def SL (c : Dev nD) (vid : Con F S2x8x1024 .i32) (vws : Con F S1x256 .f32) (vxs : Con F S2x1024 .f32) : sProp 𝕄 :=
  iprop(((pt c mId Finset.univ vid ∗ pt c mHid Finset.univ vid) ∗ sz (F := F) c (Fin.ofNat 83 60)) ∗ ((pt c mWs Finset.univ vws ∗ pt c mHws Finset.univ vws) ∗ sz (F := F) c (Fin.ofNat 83 61)) ∗ ((pt c mXs Finset.univ vxs ∗ pt c mHxs Finset.univ vxs) ∗ sz (F := F) c (Fin.ofNat 83 62)))

theorem ld_id {r : LoadRect S2x8x1024} {hl : (mId).view.LoadsAt r} {k : (r.shape.Idx → Elt F .i32) → Prog (TpuEff nD τ sig (Elt F) Λ₀ .tc) β}
    (h : Res c vx vw P s iprop(SL c vid vws vxs ∗ R) ⊢ WP c (k ((mId).view.readAt (Elt F) r vid)) Q) :
    Res c vx vw P s iprop(SL c vid vws vxs ∗ R) ⊢ WP c (Prog.lift (.load mId r hl) >>= k) Q := by
  refine s_load (S := Finset.univ) (f := vid) ?_ (Finset.subset_univ _) h
  unfold Res SL
  iintro ⟨HB, HX, HW, HD, HO, ⟨⟨⟨Hp, Hh⟩, Hz⟩, H1, H2⟩, HR⟩
  isplitl [Hp]; · iexact Hp
  iintro Hp
  isplitl [HB]; · iexact HB
  isplitl [HX]; · iexact HX
  isplitl [HW]; · iexact HW
  isplitl [HD]; · iexact HD
  isplitl [HO]; · iexact HO
  isplitr [HR]
  · isplitl [Hp Hh Hz]
    · isplitl [Hp Hh]
      · isplitl [Hp]; · iexact Hp
        iexact Hh
      iexact Hz
    isplitl [H1]
    · iexact H1
    iexact H2
  iexact HR

theorem ld_ws {r : LoadRect S1x256} {hl : (mWs).view.LoadsAt r} {k : (r.shape.Idx → Elt F .f32) → Prog (TpuEff nD τ sig (Elt F) Λ₀ .tc) β}
    (h : Res c vx vw P s iprop(SL c vid vws vxs ∗ R) ⊢ WP c (k ((mWs).view.readAt (Elt F) r vws)) Q) :
    Res c vx vw P s iprop(SL c vid vws vxs ∗ R) ⊢ WP c (Prog.lift (.load mWs r hl) >>= k) Q := by
  refine s_load (S := Finset.univ) (f := vws) ?_ (Finset.subset_univ _) h
  unfold Res SL
  iintro ⟨HB, HX, HW, HD, HO, ⟨H0, ⟨⟨Hp, Hh⟩, Hz⟩, H2⟩, HR⟩
  isplitl [Hp]; · iexact Hp
  iintro Hp
  isplitl [HB]; · iexact HB
  isplitl [HX]; · iexact HX
  isplitl [HW]; · iexact HW
  isplitl [HD]; · iexact HD
  isplitl [HO]; · iexact HO
  isplitr [HR]
  · isplitl [H0]
    · iexact H0
    isplitl [Hp Hh Hz]
    · isplitl [Hp Hh]
      · isplitl [Hp]; · iexact Hp
        iexact Hh
      iexact Hz
    iexact H2
  iexact HR

theorem ld_xs {r : LoadRect S2x1024} {hl : (mXs).view.LoadsAt r} {k : (r.shape.Idx → Elt F .f32) → Prog (TpuEff nD τ sig (Elt F) Λ₀ .tc) β}
    (h : Res c vx vw P s iprop(SL c vid vws vxs ∗ R) ⊢ WP c (k ((mXs).view.readAt (Elt F) r vxs)) Q) :
    Res c vx vw P s iprop(SL c vid vws vxs ∗ R) ⊢ WP c (Prog.lift (.load mXs r hl) >>= k) Q := by
  refine s_load (S := Finset.univ) (f := vxs) ?_ (Finset.subset_univ _) h
  unfold Res SL
  iintro ⟨HB, HX, HW, HD, HO, ⟨H0, H1, ⟨⟨Hp, Hh⟩, Hz⟩⟩, HR⟩
  isplitl [Hp]; · iexact Hp
  iintro Hp
  isplitl [HB]; · iexact HB
  isplitl [HX]; · iexact HX
  isplitl [HW]; · iexact HW
  isplitl [HD]; · iexact HD
  isplitl [HO]; · iexact HO
  isplitr [HR]
  · isplitl [H0]
    · iexact H0
    isplitl [H1]
    · iexact H1
    isplitl [Hp Hh]
    · isplitl [Hp]; · iexact Hp
      iexact Hh
    iexact Hz
  iexact HR

theorem starts_small {sm0 sm1 sm2 : DmaSem sig} {w1 w2 w3 w4 w5 w6 w7 w8 w9} {k : PUnit → Prog (TpuEff nD τ sig (Elt F) Λ₀ .tc) β}
    (e0 : sm0 = (Fin.ofNat 83 60)) (e1 : sm1 = (Fin.ofNat 83 61)) (e2 : sm2 = (Fin.ofNat 83 62))
    (h : Res c vx vw P s iprop(SI1 c vid vws vxs ∗ R) ⊢ WP c (k ⟨⟩) Q) :
    Res c vx vw P s iprop(SI0 c vid vws vxs ∗ R) ⊢ WP c (Prog.lift (.enqueueDma mHid (.here mId) (.dma sm0) w1 w2 w3) >>= fun _ =>
      Prog.lift (.enqueueDma mHws (.here mWs) (.dma sm1) w4 w5 w6) >>= fun _ =>
      Prog.lift (.enqueueDma mHxs (.here mXs) (.dma sm2) w7 w8 w9) >>= k) Q := by
  subst e0 e1 e2
  unfold Res SI0
  iintro ⟨HB, HX, HW, HD, HO, ⟨H0, H1, H2⟩, HR⟩
  iapply (w_start (N := sig.dmaCredit .tc (Kind.tc.table .vmem) mId.view.buf S2x8x1024 .i32) (v' := vid) (View.set_whole _) (View.set_whole _) rfl (sig.dmaCredit_pos _ _ _ _ _ (Shape.numel_pos (by decide)))
    (fun fd => View.write_whole_univ _ _ _)) $$ H0
  iintro H0
  iapply (w_start (N := sig.dmaCredit .tc (Kind.tc.table .vmem) mWs.view.buf S1x256 .f32) (v' := vws) (View.set_whole _) (View.set_whole _) rfl (sig.dmaCredit_pos _ _ _ _ _ (Shape.numel_pos (by decide)))
    (fun fd => View.write_whole_univ _ _ _)) $$ H1
  iintro H1
  iapply (w_start (N := sig.dmaCredit .tc (Kind.tc.table .vmem) mXs.view.buf S2x1024 .f32) (v' := vxs) (View.set_whole _) (View.set_whole _) rfl (sig.dmaCredit_pos _ _ _ _ _ (Shape.numel_pos (by decide)))
    (fun fd => View.write_whole_univ _ _ _)) $$ H2
  iintro H2
  iapply h
  unfold Res SI1
  isplitl [HB]; · iexact HB
  isplitl [HX]; · iexact HX
  isplitl [HW]; · iexact HW
  isplitl [HD]; · iexact HD
  isplitl [HO]; · iexact HO
  isplitr [HR]
  · isplitl [H0]; · iexact H0
    isplitl [H1]; · iexact H1
    iexact H2
  iexact HR

theorem waits_small {sm0 sm1 sm2 : DmaSem sig} {w1 w2 w4 w5 w7 w8} {k : PUnit → Prog (TpuEff nD τ sig (Elt F) Λ₀ .tc) β}
    (e0 : sm0 = (Fin.ofNat 83 60)) (e1 : sm1 = (Fin.ofNat 83 61)) (e2 : sm2 = (Fin.ofNat 83 62))
    (h : Res c vx vw P s iprop(SL c vid vws vxs ∗ R) ⊢ WP c (k ⟨⟩) Q) :
    Res c vx vw P s iprop(SI1 c vid vws vxs ∗ R) ⊢ WP c (Prog.lift (.waitDma2 sm0 mHid mId w1 w2) >>= fun _ =>
      Prog.lift (.waitDma2 sm1 mHws mWs w4 w5) >>= fun _ =>
      Prog.lift (.waitDma2 sm2 mHxs mXs w7 w8) >>= k) Q := by
  subst e0 e1 e2
  unfold Res SI1
  iintro ⟨HB, HX, HW, HD, HO, ⟨H0, H1, H2⟩, HR⟩
  iapply (w_wait (N := sig.dmaCredit .tc (Kind.tc.table .vmem) mId.view.buf S2x8x1024 .i32) rfl) $$ [H0 HO]
  · isplitl [H0]; · iexact H0
    iexact HO
  iintro ⟨H0, Hz0, HO⟩
  iapply (w_wait (N := sig.dmaCredit .tc (Kind.tc.table .vmem) mWs.view.buf S1x256 .f32) rfl) $$ [H1 HO]
  · isplitl [H1]; · iexact H1
    iexact HO
  iintro ⟨H1, Hz1, HO⟩
  iapply (w_wait (N := sig.dmaCredit .tc (Kind.tc.table .vmem) mXs.view.buf S2x1024 .f32) rfl) $$ [H2 HO]
  · isplitl [H2]; · iexact H2
    iexact HO
  iintro ⟨H2, Hz2, HO⟩
  iapply h
  unfold Res SL
  isplitl [HB]; · iexact HB
  isplitl [HX]; · iexact HX
  isplitl [HW]; · iexact HW
  isplitl [HD]; · iexact HD
  isplitl [HO]; · iexact HO
  isplitr [HR]
  · isplitl [H0 Hz0]
    · isplitl [H0]; · iexact H0
      iexact Hz0
    isplitl [H1 Hz1]
    · isplitl [H1]; · iexact H1
      iexact Hz1
    isplitl [H2]; · iexact H2
    iexact Hz2
  iexact HR

/-! ## The results written at the end -/

/-- The result buffers of the four small results before they are written, -/
def OR0 (c : Dev nD) : sProp 𝕄 :=
  iprop(((∃ f, pt (F := F) c mHaux Finset.univ f) ∗ sz (F := F) c (Fin.ofNat 83 63)) ∗ ((∃ f, pt (F := F) c mHzo Finset.univ f) ∗ sz (F := F) c (Fin.ofNat 83 64)) ∗ ((∃ f, pt (F := F) c mHp Finset.univ f) ∗ sz (F := F) c (Fin.ofNat 83 65)) ∗ ((∃ f, pt (F := F) c mHlse Finset.univ f) ∗ sz (F := F) c (Fin.ofNat 83 66)))
/-- and after. -/
def OR1 (c : Dev nD) (s : St F) : sProp 𝕄 :=
  iprop((pt c mHaux Finset.univ s.aux ∗ sz (F := F) c (Fin.ofNat 83 63)) ∗ (pt c mHzo Finset.univ s.zo ∗ sz (F := F) c (Fin.ofNat 83 64)) ∗ (pt c mHp Finset.univ s.po ∗ sz (F := F) c (Fin.ofNat 83 65)) ∗ (pt c mHlse Finset.univ s.lse ∗ sz (F := F) c (Fin.ofNat 83 66)))

theorem outs_small {sm0 sm1 sm2 sm3 sm4 sm5 sm6 sm7 : DmaSem sig} {w1 w2 w3 w4 w5 w6 w7 w8 w9 w10 w11 w12 u1 u2 u3 u4 u5 u6 u7 u8} {k : PUnit → Prog (TpuEff nD τ sig (Elt F) Λ₀ .tc) β}
    (e0 : sm0 = (Fin.ofNat 83 63)) (e1 : sm1 = (Fin.ofNat 83 64)) (e2 : sm2 = (Fin.ofNat 83 65)) (e3 : sm3 = (Fin.ofNat 83 66))
    (e4 : sm4 = (Fin.ofNat 83 63)) (e5 : sm5 = (Fin.ofNat 83 64)) (e6 : sm6 = (Fin.ofNat 83 65)) (e7 : sm7 = (Fin.ofNat 83 66))
    (h : Res c vx vw P s iprop(OR1 c s ∗ R) ⊢ WP c (k ⟨⟩) Q) :
    Res c vx vw P s iprop(OR0 c ∗ R) ⊢ WP c (Prog.lift (.enqueueDma mAux (.here mHaux) (.dma sm0) w1 w2 w3) >>= fun _ =>
      Prog.lift (.enqueueDma mZo (.here mHzo) (.dma sm1) w4 w5 w6) >>= fun _ =>
      Prog.lift (.enqueueDma mPo (.here mHp) (.dma sm2) w7 w8 w9) >>= fun _ =>
      Prog.lift (.enqueueDma mLse (.here mHlse) (.dma sm3) w10 w11 w12) >>= fun _ =>
      Prog.lift (.waitDma2 sm4 mAux mHaux u1 u2) >>= fun _ =>
      Prog.lift (.waitDma2 sm5 mZo mHzo u3 u4) >>= fun _ =>
      Prog.lift (.waitDma2 sm6 mPo mHp u5 u6) >>= fun _ =>
      Prog.lift (.waitDma2 sm7 mLse mHlse u7 u8) >>= k) Q := by
  subst e0 e1 e2 e3 e4 e5 e6 e7
  unfold Res BR OR0
  iintro ⟨⟨B0, B1, B2, B3, B4, A0, A1, A2, A3⟩, HX, HW, HD, HO, ⟨⟨H0, Z0⟩, ⟨H1, Z1⟩, ⟨H2, Z2⟩, ⟨H3, Z3⟩⟩, HR⟩
  iapply (w_start (N := sig.dmaCredit .tc (Kind.tc.table .hbm) mHaux.view.buf S2x1024 .f32) (v' := s.aux) (View.set_whole _) (View.set_whole _) rfl (sig.dmaCredit_pos _ _ _ _ _ (Shape.numel_pos (by decide)))
    (fun fd => View.write_whole_univ _ _ _)) $$ [A0 H0 Z0]
  · isplitl [A0]; · iexact A0
    isplitl [H0]; · iexact H0
    iexact Z0
  iintro H0
  iapply (w_start (N := sig.dmaCredit .tc (Kind.tc.table .hbm) mHzo.view.buf S2x1024 .f32) (v' := s.zo) (View.set_whole _) (View.set_whole _) rfl (sig.dmaCredit_pos _ _ _ _ _ (Shape.numel_pos (by decide)))
    (fun fd => View.write_whole_univ _ _ _)) $$ [A1 H1 Z1]
  · isplitl [A1]; · iexact A1
    isplitl [H1]; · iexact H1
    iexact Z1
  iintro H1
  iapply (w_start (N := sig.dmaCredit .tc (Kind.tc.table .hbm) mHp.view.buf S1x256 .f32) (v' := s.po) (View.set_whole _) (View.set_whole _) rfl (sig.dmaCredit_pos _ _ _ _ _ (Shape.numel_pos (by decide)))
    (fun fd => View.write_whole_univ _ _ _)) $$ [A2 H2 Z2]
  · isplitl [A2]; · iexact A2
    isplitl [H2]; · iexact H2
    iexact Z2
  iintro H2
  iapply (w_start (N := sig.dmaCredit .tc (Kind.tc.table .hbm) mHlse.view.buf S2x1024 .f32) (v' := s.lse) (View.set_whole _) (View.set_whole _) rfl (sig.dmaCredit_pos _ _ _ _ _ (Shape.numel_pos (by decide)))
    (fun fd => View.write_whole_univ _ _ _)) $$ [A3 H3 Z3]
  · isplitl [A3]; · iexact A3
    isplitl [H3]; · iexact H3
    iexact Z3
  iintro H3
  iapply (w_wait (N := sig.dmaCredit .tc (Kind.tc.table .hbm) mHaux.view.buf S2x1024 .f32) rfl) $$ [H0 HO]
  · isplitl [H0]; · iexact H0
    iexact HO
  iintro ⟨⟨H0, A0⟩, Z0, HO⟩
  iapply (w_wait (N := sig.dmaCredit .tc (Kind.tc.table .hbm) mHzo.view.buf S2x1024 .f32) rfl) $$ [H1 HO]
  · isplitl [H1]; · iexact H1
    iexact HO
  iintro ⟨⟨H1, A1⟩, Z1, HO⟩
  iapply (w_wait (N := sig.dmaCredit .tc (Kind.tc.table .hbm) mHp.view.buf S1x256 .f32) rfl) $$ [H2 HO]
  · isplitl [H2]; · iexact H2
    iexact HO
  iintro ⟨⟨H2, A2⟩, Z2, HO⟩
  iapply (w_wait (N := sig.dmaCredit .tc (Kind.tc.table .hbm) mHlse.view.buf S2x1024 .f32) rfl) $$ [H3 HO]
  · isplitl [H3]; · iexact H3
    iexact HO
  iintro ⟨⟨H3, A3⟩, Z3, HO⟩
  iapply h
  unfold Res BR OR1
  isplitl [B0 B1 B2 B3 B4 A0 A1 A2 A3]
  · isplitl [B0]; · iexact B0
    isplitl [B1]; · iexact B1
    isplitl [B2]; · iexact B2
    isplitl [B3]; · iexact B3
    isplitl [B4]; · iexact B4
    isplitl [A0]; · iexact A0
    isplitl [A1]; · iexact A1
    isplitl [A2]; · iexact A2
    iexact A3
  isplitl [HX]; · iexact HX
  isplitl [HW]; · iexact HW
  isplitl [HD]; · iexact HD
  isplitl [HO]; · iexact HO
  isplitr [HR]
  · isplitl [H0 Z0]
    · isplitl [H0]; · iexact H0
      iexact Z0
    isplitl [H1 Z1]
    · isplitl [H1]; · iexact H1
      iexact Z1
    isplitl [H2 Z2]
    · isplitl [H2]; · iexact H2
      iexact Z2
    isplitl [H3]; · iexact H3
    iexact Z3
  iexact HR

end Cert.KernelIdeal.Hand

end
-- ==== Proof.KI.Part.lean ====
/-
# What the proofs of the body's parts share

The frame takes no interest in what the blocks of the gradient hold when they are sent: `PT`.
The two rearrangements bring the resource that a group of transfers uses to the front.
-/
module

public import proofs.«01_k».proof.Proof.KI.Small

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-- No demand on what the gradient's blocks deliver. -/
abbrev PT : S2048x256.Idx → Elt F .f32 → Prop := fun _ _ => True

variable {vid : Con F S2x8x1024 .i32} {vws : Con F S1x256 .f32} {vxs : Con F S2x1024 .f32}

theorem res_swap {A B : sProp 𝕄} {X : sProp 𝕄} (h : Res c vx vw P s iprop(B ∗ (A ∗ R)) ⊢ X) : Res c vx vw P s iprop(A ∗ (B ∗ R)) ⊢ X := by
  refine BIBase.Entails.trans ?_ h
  unfold Res
  iintro ⟨HB, HX, HW, HD, HO, HA, HC, HR⟩
  isplitl [HB]; · iexact HB
  isplitl [HX]; · iexact HX
  isplitl [HW]; · iexact HW
  isplitl [HD]; · iexact HD
  isplitl [HO]; · iexact HO
  isplitl [HC]; · iexact HC
  isplitl [HA]; · iexact HA
  iexact HR

/-- The small results once written are again merely owned. -/
theorem res_out {X : sProp 𝕄} (h : Res c vx vw P s iprop(OR0 c ∗ R) ⊢ X) : Res c vx vw P s iprop(OR1 c s ∗ R) ⊢ X := by
  refine BIBase.Entails.trans ?_ h
  unfold Res OR0 OR1
  iintro ⟨HB, HX, HW, HD, HO, ⟨⟨A, Za⟩, ⟨B, Zb⟩, ⟨C, Zc⟩, ⟨D, Zd⟩⟩, HR⟩
  isplitl [HB]; · iexact HB
  isplitl [HX]; · iexact HX
  isplitl [HW]; · iexact HW
  isplitl [HD]; · iexact HD
  isplitl [HO]; · iexact HO
  isplitr [HR]
  · isplitl [A Za]
    · isplitl [A]; · iexists _; iexact A
      iexact Za
    isplitl [B Zb]
    · isplitl [B]; · iexists _; iexact B
      iexact Zb
    isplitl [C Zc]
    · isplitl [C]; · iexists _; iexact C
      iexact Zc
    isplitl [D]; · iexists _; iexact D
    iexact Zd
  iexact HR

end Cert.KernelIdeal.Hand

end
-- ==== Proof.KI.P0.lean ====
/-
# The transfers' start
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q60 {k : (Mxu F) → Prog (TpuEff nD τ sig (Elt F) Λ₀ .tc) β} (hc : Cnt s 0 0 0 0 0 0)
    (h : ∀ (r0 : Mxu F) (s' : St F) (_ : MxOk 0 (oc false false false false) (lv false false) r0) (_ : Cnt s' 0 2 0 2 0 0), Res c vx vw PT s' iprop(SI1 c vid vws vxs ∗ R) ⊢ WP c (k r0) Q) :
    Res c vx vw PT s iprop(SI0 c vid vws vxs ∗ R) ⊢ WP c (app (k0_part60 (F := F))  >>= k) Q := by
  rw [k0_part60_eq_skeleton]
  unfold app k0_part60_skel
  simp only [bind_assoc]
  refine start_x 0 (bs hc.xa hc.xb (by decide)) (by decide) (by decide) (by decide) (by decide) ?_
  refine start_w 0 (bs hc.wa hc.wb (by decide)) (by decide) (by decide) (by decide) (by decide) ?_
  refine starts_small rfl rfl rfl ?_
  refine start_x 1 (bs hc.xa (rfl : _ = 1) (by decide)) (by decide) (by decide) (by decide) (by decide) ?_
  refine start_w 1 (bs hc.wa (rfl : _ = 1) (by decide)) (by decide) (by decide) (by decide) (by decide) ?_
  refine s_pure ?_
  exact h _ _ (MxOk.init (o := (oc false false false false)) (l := (lv false false)) 0) ⟨hc.xa, (rfl : _ = 2), hc.wa, (rfl : _ = 2), hc.da, hc.db⟩

set_option maxRecDepth 65536 in
theorem q61 {k : (PUnit) → Prog (TpuEff nD τ sig (Elt F) Λ₀ .tc) β} (hc : Cnt s 0 2 0 2 0 0)
    (h : ∀ (s' : St F) (_ : Cnt s' 0 5 0 5 0 0), Res c vx vw PT s' iprop(SI1 c vid vws vxs ∗ R) ⊢ WP c (k ⟨⟩) Q) :
    Res c vx vw PT s iprop(SI1 c vid vws vxs ∗ R) ⊢ WP c (app (k0_part61 (F := F))  >>= k) Q := by
  rw [k0_part61_eq_skeleton]
  unfold app k0_part61_skel
  refine s_assoc (start_x 2 (bs hc.xa hc.xb (by decide)) (by decide) (by decide) (by decide) (by decide) ?_)
  refine s_assoc (start_w 2 (bs hc.wa hc.wb (by decide)) (by decide) (by decide) (by decide) (by decide) ?_)
  refine s_assoc (start_x 3 (bs hc.xa (rfl : _ = 3) (by decide)) (by decide) (by decide) (by decide) (by decide) ?_)
  refine s_assoc (start_w 3 (bs hc.wa (rfl : _ = 3) (by decide)) (by decide) (by decide) (by decide) (by decide) ?_)
  refine s_assoc (start_x 4 (bs hc.xa (rfl : _ = 4) (by decide)) (by decide) (by decide) (by decide) (by decide) ?_)
  refine s_assoc (start_w 4 (bs hc.wa (rfl : _ = 4) (by decide)) (by decide) (by decide) (by decide) (by decide) ?_)
  refine s_pure ?_
  exact h _ ⟨hc.xa, (rfl : _ = 5), hc.wa, (rfl : _ = 5), hc.da, hc.db⟩

set_option maxRecDepth 65536 in
theorem q62 {k : (PUnit) → Prog (TpuEff nD τ sig (Elt F) Λ₀ .tc) β} (hc : Cnt s 0 5 0 5 0 0)
    (h : ∀ (s' : St F) (_ : Cnt s' 0 8 0 8 0 0), Res c vx vw PT s' iprop(SI1 c vid vws vxs ∗ R) ⊢ WP c (k ⟨⟩) Q) :
    Res c vx vw PT s iprop(SI1 c vid vws vxs ∗ R) ⊢ WP c (app (k0_part62 (F := F))  >>= k) Q := by
  rw [k0_part62_eq_skeleton]
  unfold app k0_part62_skel
  refine s_assoc (start_x 5 (bs hc.xa hc.xb (by decide)) (by decide) (by decide) (by decide) (by decide) ?_)
  refine s_assoc (start_w 5 (bs hc.wa hc.wb (by decide)) (by decide) (by decide) (by decide) (by decide) ?_)
  refine s_assoc (start_x 6 (bs hc.xa (rfl : _ = 6) (by decide)) (by decide) (by decide) (by decide) (by decide) ?_)
  refine s_assoc (start_w 6 (bs hc.wa (rfl : _ = 6) (by decide)) (by decide) (by decide) (by decide) (by decide) ?_)
  refine s_assoc (start_x 7 (bs hc.xa (rfl : _ = 7) (by decide)) (by decide) (by decide) (by decide) (by decide) ?_)
  refine s_assoc (start_w 7 (bs hc.wa (rfl : _ = 7) (by decide)) (by decide) (by decide) (by decide) (by decide) ?_)
  refine s_pure ?_
  exact h _ ⟨hc.xa, (rfl : _ = 8), hc.wa, (rfl : _ = 8), hc.da, hc.db⟩

set_option maxRecDepth 65536 in
theorem q63 {k : (PUnit) → Prog (TpuEff nD τ sig (Elt F) Λ₀ .tc) β} (hc : Cnt s 0 8 0 8 0 0)
    (h : ∀ (s' : St F) (_ : Cnt s' 0 11 0 11 0 0), Res c vx vw PT s' iprop(SI1 c vid vws vxs ∗ R) ⊢ WP c (k ⟨⟩) Q) :
    Res c vx vw PT s iprop(SI1 c vid vws vxs ∗ R) ⊢ WP c (app (k0_part63 (F := F))  >>= k) Q := by
  rw [k0_part63_eq_skeleton]
  unfold app k0_part63_skel
  refine s_assoc (start_x 8 (bs hc.xa hc.xb (by decide)) (by decide) (by decide) (by decide) (by decide) ?_)
  refine s_assoc (start_w 8 (bs hc.wa hc.wb (by decide)) (by decide) (by decide) (by decide) (by decide) ?_)
  refine s_assoc (start_x 9 (bs hc.xa (rfl : _ = 9) (by decide)) (by decide) (by decide) (by decide) (by decide) ?_)
  refine s_assoc (start_w 9 (bs hc.wa (rfl : _ = 9) (by decide)) (by decide) (by decide) (by decide) (by decide) ?_)
  refine s_assoc (start_x 10 (bs hc.xa (rfl : _ = 10) (by decide)) (by decide) (by decide) (by decide) (by decide) ?_)
  refine s_assoc (start_w 10 (bs hc.wa (rfl : _ = 10) (by decide)) (by decide) (by decide) (by decide) (by decide) ?_)
  refine s_pure ?_
  exact h _ ⟨hc.xa, (rfl : _ = 11), hc.wa, (rfl : _ = 11), hc.da, hc.db⟩

set_option maxRecDepth 65536 in
theorem bt1 {k0_t1 : Fin k0_t1_loop.trips} (hc : Cnt s 0 (12 + k0_t1.val) 0 12 0 0) :
    Res c vx vw PT s iprop(SI1 c vid vws vxs ∗ R) ⊢ WP c (app (k0_t1_body (F := F)) k0_t1 ⟨⟩)
      (fun m' => iprop(∃ s', ⌜Cnt s' 0 (12 + (k0_t1.val + 1)) 0 12 0 0⌝ ∗ Res c vx vw PT s' iprop(SI1 c vid vws vxs ∗ R))) := by
  unfold app k0_t1_body
  refine start_x (12 + k0_t1.val) (bs hc.xa hc.xb (by first | decide | (clear hc; revert k0_t1; decide))) (by first | decide | (clear hc; revert k0_t1; decide)) (by first | decide | (clear hc; revert k0_t1; decide)) (by first | decide | (clear hc; revert k0_t1; decide)) (by first | decide | (clear hc; revert k0_t1; decide)) ?_
  exact s_trip ⟨hc.xa, (Eq.trans (rfl : _ = ((12 + k0_t1.val) + 1)) (by first | omega | (clear hc; revert k0_t1; decide))), hc.wa, hc.wb, hc.da, hc.db⟩

set_option maxRecDepth 65536 in
theorem bt2 {k0_t2 : Fin k0_t2_loop.trips} (hc : Cnt s 0 (24 + k0_t2.val) 0 12 0 0) :
    Res c vx vw PT s iprop(SI1 c vid vws vxs ∗ R) ⊢ WP c (app (k0_t2_body (F := F)) k0_t2 ⟨⟩)
      (fun m' => iprop(∃ s', ⌜Cnt s' 0 (24 + (k0_t2.val + 1)) 0 12 0 0⌝ ∗ Res c vx vw PT s' iprop(SI1 c vid vws vxs ∗ R))) := by
  unfold app k0_t2_body
  refine start_x (24 + k0_t2.val) (bs hc.xa hc.xb (by first | decide | (clear hc; revert k0_t2; decide))) (by first | decide | (clear hc; revert k0_t2; decide)) (by first | decide | (clear hc; revert k0_t2; decide)) (by first | decide | (clear hc; revert k0_t2; decide)) (by first | decide | (clear hc; revert k0_t2; decide)) ?_
  exact s_trip ⟨hc.xa, (Eq.trans (rfl : _ = ((24 + k0_t2.val) + 1)) (by first | omega | (clear hc; revert k0_t2; decide))), hc.wa, hc.wb, hc.da, hc.db⟩

set_option maxRecDepth 65536 in
theorem bt3 {k0_t3 : Fin k0_t3_loop.trips} (hc : Cnt s 0 (36 + k0_t3.val) 0 12 0 0) :
    Res c vx vw PT s iprop(SI1 c vid vws vxs ∗ R) ⊢ WP c (app (k0_t3_body (F := F)) k0_t3 ⟨⟩)
      (fun m' => iprop(∃ s', ⌜Cnt s' 0 (36 + (k0_t3.val + 1)) 0 12 0 0⌝ ∗ Res c vx vw PT s' iprop(SI1 c vid vws vxs ∗ R))) := by
  unfold app k0_t3_body
  refine start_x (36 + k0_t3.val) (bs hc.xa hc.xb (by first | decide | (clear hc; revert k0_t3; decide))) (by first | decide | (clear hc; revert k0_t3; decide)) (by first | decide | (clear hc; revert k0_t3; decide)) (by first | decide | (clear hc; revert k0_t3; decide)) (by first | decide | (clear hc; revert k0_t3; decide)) ?_
  exact s_trip ⟨hc.xa, (Eq.trans (rfl : _ = ((36 + k0_t3.val) + 1)) (by first | omega | (clear hc; revert k0_t3; decide))), hc.wa, hc.wb, hc.da, hc.db⟩

set_option maxRecDepth 65536 in
theorem q64 {k : (FVec F S128x128 .f32) → Prog (TpuEff nD τ sig (Elt F) Λ₀ .tc) β} (hc : Cnt s 0 11 0 11 0 0)
    (h : ∀ (r0 : FVec F S128x128 .f32) (s' : St F) (_ : Cnt s' 0 48 0 12 0 0), Res c vx vw PT s' iprop(SL c vid vws vxs ∗ R) ⊢ WP c (k r0) Q) :
    Res c vx vw PT s iprop(SI1 c vid vws vxs ∗ R) ⊢ WP c (app (k0_part64 (F := F))  >>= k) Q := by
  rw [k0_part64_eq_skeleton]
  unfold app k0_part64_skel
  simp only [bind_assoc]
  refine start_x 11 (bs hc.xa hc.xb (by decide)) (by decide) (by decide) (by decide) (by decide) ?_
  refine start_w 11 (bs hc.wa hc.wb (by decide)) (by decide) (by decide) (by decide) (by decide) ?_
  refine (s_for (fun n _ s => Cnt s 0 (12 + n) 0 12 0 0) ⟨hc.xa, (rfl : _ = 12), hc.wa, (rfl : _ = 12), hc.da, hc.db⟩ (fun t m s hI => bt1 hI) fun m s' hI => ?_)
  clear hc; have hc : Cnt s' 0 24 0 12 0 0 := by have e : k0_t1_loop.trips = 12 := (by decide); rw [e] at hI; exact hI
  clear hI
  refine (s_for (fun n _ s => Cnt s 0 (24 + n) 0 12 0 0) ⟨hc.xa, hc.xb, hc.wa, hc.wb, hc.da, hc.db⟩ (fun t m s hI => bt2 hI) fun m s' hI => ?_)
  clear hc; have hc : Cnt s' 0 36 0 12 0 0 := by have e : k0_t2_loop.trips = 12 := (by decide); rw [e] at hI; exact hI
  clear hI
  refine (s_for (fun n _ s => Cnt s 0 (36 + n) 0 12 0 0) ⟨hc.xa, hc.xb, hc.wa, hc.wb, hc.da, hc.db⟩ (fun t m s hI => bt3 hI) fun m s' hI => ?_)
  clear hc; have hc : Cnt s' 0 48 0 12 0 0 := by have e : k0_t3_loop.trips = 12 := (by decide); rw [e] at hI; exact hI
  clear hI
  refine waits_small rfl rfl rfl ?_
  refine ld_ws ?_
  refine ld_wsb ?_
  refine st_wsb ?_
  refine ld_ws ?_
  refine s_pure ?_
  exact h _ _ ⟨hc.xa, hc.xb, hc.wa, hc.wb, hc.da, hc.db⟩

end Cert.KernelIdeal.Hand

end
-- ==== Proof.KI.P5.lean ====
/-
# The last trip, the last tokens' pieces and the results' transfers
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q70 {k0_mxu161 : Mxu F} {v310_r0 : Vec F S256x256 .fp8e4m3} {k : (Σ' (_ : Mxu F) (_ : BitVec 32) (_ : FVec F S1x128 .f32) (_ : FVec F S1x128 .f32), FVec F S1x128 .f32) → Prog (TpuEff nD τ sig (Elt F) Λ₀ .tc) β} (hm : MxOk 192 (oc true false true false) (lv true true) k0_mxu161) (hc : Cnt s 46 48 12 12 0 11)
    (h : ∀ (r0 : Mxu F) (r1 : BitVec 32) (r2 : FVec F S1x128 .f32) (r3 : FVec F S1x128 .f32) (r4 : FVec F S1x128 .f32) (s' : St F) (_ : MxOk 192 (oc false true false true) (lv true true) r0) (_ : Cnt s' 46 48 12 12 0 11), Res c vx vw PT s' iprop(SL c vid vws vxs ∗ R) ⊢ WP c (k ⟨r0, r1, r2, r3, r4⟩) Q) :
    Res c vx vw PT s iprop(SL c vid vws vxs ∗ R) ⊢ WP c (app (k0_part70 (F := F)) k0_mxu161 v310_r0 >>= k) Q := by
  rw [k0_part70_eq_skeleton]
  unfold app k0_part70_skel
  refine s_assoc (s_pushW (oc true true true false) hm (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_zt ?_)
  refine s_assoc (ld_et ?_)
  refine s_assoc (st_et ?_)
  refine s_assoc (ld_cf ?_)
  refine s_assoc (ld_aux ?_)
  refine s_assoc (st_aux ?_)
  refine s_pure ?_
  exact h _ _ _ _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q71 {v322_r0 : BitVec 32} {v336_r0 : FVec F S1x128 .f32} {v338_r0 : FVec F S1x128 .f32} {v343_r0 : FVec F S1x128 .f32} {k : (BitVec 32) → Prog (TpuEff nD τ sig (Elt F) Λ₀ .tc) β} (hc : Cnt s 46 48 12 12 0 11)
    (h : ∀ (r0 : BitVec 32) (s' : St F) (_ : Cnt s' 46 48 12 12 0 11), Res c vx vw PT s' iprop(SL c vid vws vxs ∗ R) ⊢ WP c (k r0) Q) :
    Res c vx vw PT s iprop(SL c vid vws vxs ∗ R) ⊢ WP c (app (k0_part71 (F := F)) v322_r0 v336_r0 v338_r0 v343_r0 >>= k) Q := by
  rw [k0_part71_eq_skeleton]
  unfold app k0_part71_skel
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_pure ?_
  exact h _ _ ⟨hc.xa, hc.xb, hc.wa, hc.wb, hc.da, hc.db⟩

set_option maxRecDepth 65536 in
theorem q72 {k0_mxu213 : Mxu F} {c1536_i32_216_r0 : BitVec 32} {k : (Mxu F) → Prog (TpuEff nD τ sig (Elt F) Λ₀ .tc) β} (hm : MxOk 192 (oc false true false true) (lv true true) k0_mxu213) (hc : Cnt s 46 48 12 12 0 11)
    (h : ∀ (r0 : Mxu F) (s' : St F) (_ : MxOk 192 (oc false true false true) (lv true true) r0) (_ : Cnt s' 46 48 12 12 0 11), Res c vx vw PT s' iprop(SL c vid vws vxs ∗ R) ⊢ WP c (k r0) Q) :
    Res c vx vw PT s iprop(SL c vid vws vxs ∗ R) ⊢ WP c (app (k0_part72 (F := F)) k0_mxu213 c1536_i32_216_r0 >>= k) Q := by
  rw [k0_part72_eq_skeleton]
  unfold app k0_part72_skel
  refine s_assoc (ld_x (bx hc.xa (by decide)) ?_)
  refine s_assoc (s_pushW (oc true true false true) hm (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_x (bx hc.xa (by decide)) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_pure ?_
  exact h _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q73 {k0_mxu221 : Mxu F} {k : (Σ' (_ : Mxu F), Vec F S256x256 .fp8e4m3) → Prog (TpuEff nD τ sig (Elt F) Λ₀ .tc) β} (hm : MxOk 192 (oc false true false true) (lv true true) k0_mxu221) (hc : Cnt s 46 48 12 12 0 11)
    (h : ∀ (r0 : Mxu F) (r1 : Vec F S256x256 .fp8e4m3) (s' : St F) (_ : MxOk 192 (oc false true false true) (lv true true) r0) (_ : Cnt s' 47 48 12 12 0 11), Res c vx vw PT s' iprop(SL c vid vws vxs ∗ R) ⊢ WP c (k ⟨r0, r1⟩) Q) :
    Res c vx vw PT s iprop(SL c vid vws vxs ∗ R) ⊢ WP c (app (k0_part73 (F := F)) k0_mxu221 >>= k) Q := by
  rw [k0_part73_eq_skeleton]
  unfold app k0_part73_skel
  refine s_assoc (wait_x 46 (bw hc.xa hc.xb (by decide)) rfl (by decide) ?_)
  refine s_assoc (ld_x (bx (rfl : _ = 47) (by decide)) ?_)
  refine s_assoc (s_pushW (oc true true false true) hm (by decide) fun m hm => ?_)
  refine s_assoc (ld_x (bx (rfl : _ = 47) (by decide)) ?_)
  refine s_assoc (s_pushW (oc true true true true) hm (by decide) fun m hm => ?_)
  refine s_assoc (ld_w (bv hc.wa (by decide)) ?_)
  refine s_assoc (ld_x (bx (rfl : _ = 47) (by decide)) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx (rfl : _ = 47) (by decide)) ?_)
  refine s_assoc (s_pushW (oc true true true true) hm (by decide) fun m hm => ?_)
  refine s_assoc (ld_w (bv hc.wa (by decide)) ?_)
  refine s_assoc (ld_x (bx (rfl : _ = 47) (by decide)) ?_)
  refine s_pure ?_
  exact h _ _ _ (MxOk.acc (o' := (oc false true false true)) (l' := (lv true true)) (MxOk.acc (o' := (oc false true true true)) (l' := (lv true true)) hm (by decide) (by decide)) (by decide) (by decide)) ⟨(rfl : _ = 47), hc.xb, hc.wa, hc.wb, hc.da, hc.db⟩

set_option maxRecDepth 65536 in
theorem q74 {k0_mxu229 : Mxu F} {v461_r0 : Vec F S256x256 .fp8e4m3} {k : (Σ' (_ : Mxu F), BitVec 32) → Prog (TpuEff nD τ sig (Elt F) Λ₀ .tc) β} (hm : MxOk 192 (oc false true false true) (lv true true) k0_mxu229) (hc : Cnt s 47 48 12 12 0 11)
    (h : ∀ (r0 : Mxu F) (r1 : BitVec 32) (s' : St F) (_ : MxOk 192 (oc false true false true) (lv true true) r0) (_ : Cnt s' 48 48 12 12 0 11), Res c vx vw PT s' iprop(SL c vid vws vxs ∗ R) ⊢ WP c (k ⟨r0, r1⟩) Q) :
    Res c vx vw PT s iprop(SL c vid vws vxs ∗ R) ⊢ WP c (app (k0_part74 (F := F)) k0_mxu229 v461_r0 >>= k) Q := by
  rw [k0_part74_eq_skeleton]
  unfold app k0_part74_skel
  refine s_assoc (s_pushW (oc true true false true) hm (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_x (bx hc.xa (by decide)) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (wait_x 47 (bw hc.xa hc.xb (by decide)) rfl (by decide) ?_)
  refine s_pure ?_
  exact h _ _ _ (MxOk.acc (o' := (oc false true false true)) (l' := (lv true true)) (MxOk.acc (o' := (oc false true true true)) (l' := (lv true true)) hm (by decide) (by decide)) (by decide) (by decide)) ⟨(rfl : _ = 48), hc.xb, hc.wa, hc.wb, hc.da, hc.db⟩

set_option maxRecDepth 65536 in
theorem q75 {k0_mxu237 : Mxu F} {v496_r0 : BitVec 32} {k : (Σ' (_ : Mxu F) (_ : BitVec 32), BitVec 32) → Prog (TpuEff nD τ sig (Elt F) Λ₀ .tc) β} (hm : MxOk 192 (oc false true false true) (lv true true) k0_mxu237) (hc : Cnt s 48 48 12 12 0 11)
    (h : ∀ (r0 : Mxu F) (r1 : BitVec 32) (r2 : BitVec 32) (s' : St F) (_ : MxOk 192 (oc true true false true) (lv true true) r0) (_ : Cnt s' 48 48 12 12 0 11), Res c vx vw PT s' iprop(SL c vid vws vxs ∗ R) ⊢ WP c (k ⟨r0, r1, r2⟩) Q) :
    Res c vx vw PT s iprop(SL c vid vws vxs ∗ R) ⊢ WP c (app (k0_part75 (F := F)) k0_mxu237 v496_r0 >>= k) Q := by
  rw [k0_part75_eq_skeleton]
  unfold app k0_part75_skel
  refine s_assoc (ld_x (bx hc.xa (by decide)) ?_)
  refine s_assoc (s_pushW (oc true true false true) hm (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_x (bx hc.xa (by decide)) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_x (bx hc.xa (by decide)) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨hc.xa, hc.xb, hc.wa, hc.wb, hc.da, hc.db⟩

set_option maxRecDepth 65536 in
theorem q76 {k0_mxu246 : Mxu F} {v533_r0 : BitVec 32} {v534_r0 : BitVec 32} {k : (Σ' (_ : FVec F S256x256 .f32) (_ : Mxu F), FVec F S256x128 .f32) → Prog (TpuEff nD τ sig (Elt F) Λ₀ .tc) β} (hm : MxOk 192 (oc true true false true) (lv true true) k0_mxu246) (hc : Cnt s 48 48 12 12 0 11)
    (h : ∀ (r0 : FVec F S256x256 .f32) (r1 : Mxu F) (r2 : FVec F S256x128 .f32) (s' : St F) (_ : MxOk 192 (oc false false false false) (lv false true) r1) (_ : Cnt s' 48 48 12 12 0 12), Res c vx vw PT s' iprop(SL c vid vws vxs ∗ R) ⊢ WP c (k ⟨r0, r1, r2⟩) Q) :
    Res c vx vw PT s iprop(SL c vid vws vxs ∗ R) ⊢ WP c (app (k0_part76 (F := F)) k0_mxu246 v533_r0 v534_r0 >>= k) Q := by
  rw [k0_part76_eq_skeleton]
  unfold app k0_part76_skel
  refine s_assoc (ld_x (bx hc.xa (by decide)) ?_)
  refine s_assoc (s_pushW (oc true true true true) hm (by decide) fun m hm => ?_)
  refine s_assoc (ld_w (bv hc.wa (by decide)) ?_)
  refine s_assoc (ld_x (bx hc.xa (by decide)) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by decide)) ?_)
  refine s_assoc (s_pushW (oc true true true true) hm (by decide) fun m hm => ?_)
  refine s_assoc (ld_w (bv hc.wa (by decide)) ?_)
  refine s_assoc (ld_w (bv hc.wa (by decide)) ?_)
  refine s_assoc (start_d 11 (bs hc.da hc.db (by decide)) (by decide) (by decide) (by decide) (by decide) (fun _ _ => trivial) ?_)
  refine s_pure ?_
  exact h _ _ _ _ (MxOk.pop (l' := (lv false true)) (MxOk.acc (o' := (oc false false false false)) (l' := (lv true true)) (MxOk.acc (o' := (oc false false false true)) (l' := (lv true true)) (MxOk.acc (o' := (oc false true false true)) (l' := (lv true true)) (MxOk.acc (o' := (oc false true true true)) (l' := (lv true true)) hm (by decide) (by decide)) (by decide) (by decide)) (by decide) (by decide)) (by decide) (by decide)) (by decide)) ⟨hc.xa, hc.xb, hc.wa, hc.wb, hc.da, (rfl : _ = 12)⟩

set_option maxRecDepth 65536 in
theorem q77 {v568_r0 : FVec F S256x256 .f32} {k0_mxu256 : Mxu F} {v569_r0 : FVec F S256x128 .f32} {k : (Σ' (_ : Mxu F), FVec F S256x128 .f32) → Prog (TpuEff nD τ sig (Elt F) Λ₀ .tc) β} (hm : MxOk 192 (oc false false false false) (lv false true) k0_mxu256) (hc : Cnt s 48 48 12 12 0 12)
    (h : ∀ (r0 : Mxu F) (r1 : FVec F S256x128 .f32) (s' : St F) (_ : MxOk 192 (oc false false false false) (lv false false) r0) (_ : Cnt s' 48 48 12 12 0 12), Res c vx vw PT s' iprop(SL c vid vws vxs ∗ R) ⊢ WP c (k ⟨r0, r1⟩) Q) :
    Res c vx vw PT s iprop(SL c vid vws vxs ∗ R) ⊢ WP c (app (k0_part77 (F := F)) v568_r0 k0_mxu256 v569_r0 >>= k) Q := by
  rw [k0_part77_eq_skeleton]
  unfold app k0_part77_skel
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_pure ?_
  exact h _ _ _ (MxOk.pop (l' := (lv false false)) hm (by decide)) ⟨hc.xa, hc.xb, hc.wa, hc.wb, hc.da, hc.db⟩

set_option maxRecDepth 65536 in
theorem q78 {v600_r0 : FVec F S256x128 .f32} {k : (Σ' (_ : BitVec 32) (_ : FVec F S1x128 .f32) (_ : FVec F S1x128 .f32), FVec F S1x128 .f32) → Prog (TpuEff nD τ sig (Elt F) Λ₀ .tc) β} (hc : Cnt s 48 48 12 12 0 12)
    (h : ∀ (r0 : BitVec 32) (r1 : FVec F S1x128 .f32) (r2 : FVec F S1x128 .f32) (r3 : FVec F S1x128 .f32) (s' : St F) (_ : Cnt s' 48 48 12 12 0 12), Res c vx vw PT s' iprop(SL c vid vws vxs ∗ R) ⊢ WP c (k ⟨r0, r1, r2, r3⟩) Q) :
    Res c vx vw PT s iprop(SL c vid vws vxs ∗ R) ⊢ WP c (app (k0_part78 (F := F)) v600_r0 >>= k) Q := by
  rw [k0_part78_eq_skeleton]
  unfold app k0_part78_skel
  refine s_assoc (ld_wsb ?_)
  refine s_assoc (ld_zt ?_)
  refine s_assoc (st_zt ?_)
  refine s_assoc (ld_zt ?_)
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_pure ?_
  exact h _ _ _ _ _ ⟨hc.xa, hc.xb, hc.wa, hc.wb, hc.da, hc.db⟩

set_option maxRecDepth 65536 in
theorem q79 {v606_r0 : BitVec 32} {v620_r0 : FVec F S1x128 .f32} {v622_r0 : FVec F S1x128 .f32} {v627_r0 : FVec F S1x128 .f32} {k : (BitVec 32) → Prog (TpuEff nD τ sig (Elt F) Λ₀ .tc) β} (hc : Cnt s 48 48 12 12 0 12)
    (h : ∀ (r0 : BitVec 32) (s' : St F) (_ : Cnt s' 48 48 12 12 0 13), Res c vx vw PT s' iprop(SL c vid vws vxs ∗ R) ⊢ WP c (k r0) Q) :
    Res c vx vw PT s iprop(SL c vid vws vxs ∗ R) ⊢ WP c (app (k0_part79 (F := F)) v606_r0 v620_r0 v622_r0 v627_r0 >>= k) Q := by
  rw [k0_part79_eq_skeleton]
  unfold app k0_part79_skel
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 12 (bs hc.da hc.db (by decide)) (by decide) (by decide) (by decide) (by decide) (fun _ _ => trivial) ?_)
  refine s_pure ?_
  exact h _ _ ⟨hc.xa, hc.xb, hc.wa, hc.wb, hc.da, (rfl : _ = 13)⟩

set_option maxRecDepth 65536 in
theorem q80 {c640_i32_r0 : BitVec 32} {k : (Σ' (_ : FVec F S1x128 .f32) (_ : FVec F S1x128 .f32) (_ : Vec F S256x128 .f32), FVec F S256x128 .f32) → Prog (TpuEff nD τ sig (Elt F) Λ₀ .tc) β} (hc : Cnt s 48 48 12 12 0 13)
    (h : ∀ (r0 : FVec F S1x128 .f32) (r1 : FVec F S1x128 .f32) (r2 : Vec F S256x128 .f32) (r3 : FVec F S256x128 .f32) (s' : St F) (_ : Cnt s' 48 48 12 12 0 13), Res c vx vw PT s' iprop(SL c vid vws vxs ∗ R) ⊢ WP c (k ⟨r0, r1, r2, r3⟩) Q) :
    Res c vx vw PT s iprop(SL c vid vws vxs ∗ R) ⊢ WP c (app (k0_part80 (F := F)) c640_i32_r0 >>= k) Q := by
  rw [k0_part80_eq_skeleton]
  unfold app k0_part80_skel
  refine s_assoc (ld_zt ?_)
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_pure ?_
  exact h _ _ _ _ _ ⟨hc.xa, hc.xb, hc.wa, hc.wb, hc.da, hc.db⟩

set_option maxRecDepth 65536 in
theorem q81 {v692_r0 : FVec F S1x128 .f32} {v697_r0 : FVec F S1x128 .f32} {v713_r0 : Vec F S256x128 .f32} {v714_r0 : FVec F S256x128 .f32} {k : (Σ' (_ : BitVec 32) (_ : FVec F S256x128 .f32) (_ : FVec F S1x128 .f32), FVec F S256x128 .f32) → Prog (TpuEff nD τ sig (Elt F) Λ₀ .tc) β} (hc : Cnt s 48 48 12 12 0 13)
    (h : ∀ (r0 : BitVec 32) (r1 : FVec F S256x128 .f32) (r2 : FVec F S1x128 .f32) (r3 : FVec F S256x128 .f32) (s' : St F) (_ : Cnt s' 48 48 12 12 0 14), Res c vx vw PT s' iprop(SL c vid vws vxs ∗ R) ⊢ WP c (k ⟨r0, r1, r2, r3⟩) Q) :
    Res c vx vw PT s iprop(SL c vid vws vxs ∗ R) ⊢ WP c (app (k0_part81 (F := F)) v692_r0 v697_r0 v713_r0 v714_r0 >>= k) Q := by
  rw [k0_part81_eq_skeleton]
  unfold app k0_part81_skel
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 13 (bs hc.da hc.db (by decide)) (by decide) (by decide) (by decide) (by decide) (fun _ _ => trivial) ?_)
  refine s_assoc (ld_zt ?_)
  refine s_pure ?_
  exact h _ _ _ _ _ ⟨hc.xa, hc.xb, hc.wa, hc.wb, hc.da, (rfl : _ = 14)⟩

set_option maxRecDepth 65536 in
theorem q82 {v746_r0 : BitVec 32} {v748_r0 : FVec F S256x128 .f32} {v750_r0 : FVec F S1x128 .f32} {v751_r0 : FVec F S256x128 .f32} {k : (Σ' (_ : FVec F S1x128 .f32) (_ : FVec F S1x128 .f32) (_ : FVec F S256x128 .f32), FVec F S256x128 .f32) → Prog (TpuEff nD τ sig (Elt F) Λ₀ .tc) β} (hc : Cnt s 48 48 12 12 0 14)
    (h : ∀ (r0 : FVec F S1x128 .f32) (r1 : FVec F S1x128 .f32) (r2 : FVec F S256x128 .f32) (r3 : FVec F S256x128 .f32) (s' : St F) (_ : Cnt s' 48 48 12 12 0 14), Res c vx vw PT s' iprop(SL c vid vws vxs ∗ R) ⊢ WP c (k ⟨r0, r1, r2, r3⟩) Q) :
    Res c vx vw PT s iprop(SL c vid vws vxs ∗ R) ⊢ WP c (app (k0_part82 (F := F)) v746_r0 v748_r0 v750_r0 v751_r0 >>= k) Q := by
  rw [k0_part82_eq_skeleton]
  unfold app k0_part82_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_pure ?_
  exact h _ _ _ _ _ ⟨hc.xa, hc.xb, hc.wa, hc.wb, hc.da, hc.db⟩

set_option maxRecDepth 65536 in
theorem q83 {v762_r0 : FVec F S1x128 .f32} {v767_r0 : FVec F S1x128 .f32} {v785_r0 : FVec F S256x128 .f32} {v790_r0 : FVec F S256x128 .f32} {k : (Σ' (_ : BitVec 32) (_ : FVec F S1x128 .f32) (_ : FVec F S256x128 .f32), FVec F S128 .f32) → Prog (TpuEff nD τ sig (Elt F) Λ₀ .tc) β} (hc : Cnt s 48 48 12 12 0 14)
    (h : ∀ (r0 : BitVec 32) (r1 : FVec F S1x128 .f32) (r2 : FVec F S256x128 .f32) (r3 : FVec F S128 .f32) (s' : St F) (_ : Cnt s' 48 48 12 12 0 15), Res c vx vw PT s' iprop(SL c vid vws vxs ∗ R) ⊢ WP c (k ⟨r0, r1, r2, r3⟩) Q) :
    Res c vx vw PT s iprop(SL c vid vws vxs ∗ R) ⊢ WP c (app (k0_part83 (F := F)) v762_r0 v767_r0 v785_r0 v790_r0 >>= k) Q := by
  rw [k0_part83_eq_skeleton]
  unfold app k0_part83_skel
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 14 (bs hc.da hc.db (by decide)) (by decide) (by decide) (by decide) (by decide) (fun _ _ => trivial) ?_)
  refine s_assoc (ld_zt ?_)
  refine s_assoc (ld_et ?_)
  refine s_assoc (st_et ?_)
  refine s_pure ?_
  exact h _ _ _ _ _ ⟨hc.xa, hc.xb, hc.wa, hc.wb, hc.da, (rfl : _ = 15)⟩

set_option maxRecDepth 65536 in
theorem q84 {v816_r0 : BitVec 32} {v820_r0 : FVec F S1x128 .f32} {v823_r0 : FVec F S256x128 .f32} {v827_r0 : FVec F S128 .f32} {k : (Σ' (_ : FVec F S256x128 .f32), FVec F S256x128 .f32) → Prog (TpuEff nD τ sig (Elt F) Λ₀ .tc) β} (hc : Cnt s 48 48 12 12 0 15)
    (h : ∀ (r0 : FVec F S256x128 .f32) (r1 : FVec F S256x128 .f32) (s' : St F) (_ : Cnt s' 48 48 12 12 0 15), Res c vx vw PT s' iprop(SL c vid vws vxs ∗ R) ⊢ WP c (k ⟨r0, r1⟩) Q) :
    Res c vx vw PT s iprop(SL c vid vws vxs ∗ R) ⊢ WP c (app (k0_part84 (F := F)) v816_r0 v820_r0 v823_r0 v827_r0 >>= k) Q := by
  rw [k0_part84_eq_skeleton]
  unfold app k0_part84_skel
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_pure ?_
  exact h _ _ _ ⟨hc.xa, hc.xb, hc.wa, hc.wb, hc.da, hc.db⟩

set_option maxRecDepth 65536 in
theorem q85 {v855_r0 : FVec F S256x128 .f32} {v866_r0 : FVec F S256x128 .f32} {k : (FVec F S1x128 .f32) → Prog (TpuEff nD τ sig (Elt F) Λ₀ .tc) β} (hc : Cnt s 48 48 12 12 0 15)
    (h : ∀ (r0 : FVec F S1x128 .f32) (s' : St F) (_ : Cnt s' 48 48 12 12 0 16), Res c vx vw PT s' iprop(SL c vid vws vxs ∗ R) ⊢ WP c (k r0) Q) :
    Res c vx vw PT s iprop(SL c vid vws vxs ∗ R) ⊢ WP c (app (k0_part85 (F := F)) v855_r0 v866_r0 >>= k) Q := by
  rw [k0_part85_eq_skeleton]
  unfold app k0_part85_skel
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 15 (bs hc.da hc.db (by decide)) (by decide) (by decide) (by decide) (by decide) (fun _ _ => trivial) ?_)
  refine s_assoc (ld_ps ?_)
  refine s_assoc (ld_po ?_)
  refine s_assoc (st_po ?_)
  refine s_assoc (ld_ps ?_)
  refine s_assoc (ld_po ?_)
  refine s_pure ?_
  exact h _ _ ⟨hc.xa, hc.xb, hc.wa, hc.wb, hc.da, (rfl : _ = 16)⟩

set_option maxRecDepth 65536 in
theorem q86 {v903_r0 : FVec F S1x128 .f32} {k : (PUnit) → Prog (TpuEff nD τ sig (Elt F) Λ₀ .tc) β} (hc : Cnt s 48 48 12 12 0 16)
    (h : ∀ (s' : St F) (_ : Cnt s' 48 48 12 12 2 16), Res c vx vw PT s' iprop(SL c vid vws vxs ∗ (OR0 c ∗ R)) ⊢ WP c (k ⟨⟩) Q) :
    Res c vx vw PT s iprop(SL c vid vws vxs ∗ (OR0 c ∗ R)) ⊢ WP c (app (k0_part86 (F := F)) v903_r0 >>= k) Q := by
  rw [k0_part86_eq_skeleton]
  unfold app k0_part86_skel
  simp only [bind_assoc]
  refine st_po ?_
  refine res_swap ?_
  refine outs_small rfl rfl rfl rfl rfl rfl rfl rfl ?_
  refine res_out ?_
  refine res_swap ?_
  refine wait_d 0 (bw hc.da hc.db (by decide)) rfl (by decide) ?_
  refine wait_d 1 (bw (rfl : _ = 1) hc.db (by decide)) rfl (by decide) ?_
  refine s_pure ?_
  exact h _ ⟨hc.xa, hc.xb, hc.wa, hc.wb, (rfl : _ = 2), hc.db⟩

set_option maxRecDepth 65536 in
theorem q87 {k : (PUnit) → Prog (TpuEff nD τ sig (Elt F) Λ₀ .tc) β} (hc : Cnt s 48 48 12 12 2 16)
    (h : ∀ (s' : St F) (_ : Cnt s' 48 48 12 12 8 16), Res c vx vw PT s' iprop(SL c vid vws vxs ∗ (OR0 c ∗ R)) ⊢ WP c (k ⟨⟩) Q) :
    Res c vx vw PT s iprop(SL c vid vws vxs ∗ (OR0 c ∗ R)) ⊢ WP c (app (k0_part87 (F := F))  >>= k) Q := by
  rw [k0_part87_eq_skeleton]
  unfold app k0_part87_skel
  refine s_assoc (wait_d 2 (bw hc.da hc.db (by decide)) rfl (by decide) ?_)
  refine s_assoc (wait_d 3 (bw (rfl : _ = 3) hc.db (by decide)) rfl (by decide) ?_)
  refine s_assoc (wait_d 4 (bw (rfl : _ = 4) hc.db (by decide)) rfl (by decide) ?_)
  refine s_assoc (wait_d 5 (bw (rfl : _ = 5) hc.db (by decide)) rfl (by decide) ?_)
  refine s_assoc (wait_d 6 (bw (rfl : _ = 6) hc.db (by decide)) rfl (by decide) ?_)
  refine s_assoc (wait_d 7 (bw (rfl : _ = 7) hc.db (by decide)) rfl (by decide) ?_)
  refine s_pure ?_
  exact h _ ⟨hc.xa, hc.xb, hc.wa, hc.wb, (rfl : _ = 8), hc.db⟩

set_option maxRecDepth 65536 in
theorem q88 {k : (PUnit) → Prog (TpuEff nD τ sig (Elt F) Λ₀ .tc) β} (hc : Cnt s 48 48 12 12 8 16)
    (h : ∀ (s' : St F) (_ : Cnt s' 48 48 12 12 14 16), Res c vx vw PT s' iprop(SL c vid vws vxs ∗ (OR0 c ∗ R)) ⊢ WP c (k ⟨⟩) Q) :
    Res c vx vw PT s iprop(SL c vid vws vxs ∗ (OR0 c ∗ R)) ⊢ WP c (app (k0_part88 (F := F))  >>= k) Q := by
  rw [k0_part88_eq_skeleton]
  unfold app k0_part88_skel
  refine s_assoc (wait_d 8 (bw hc.da hc.db (by decide)) rfl (by decide) ?_)
  refine s_assoc (wait_d 9 (bw (rfl : _ = 9) hc.db (by decide)) rfl (by decide) ?_)
  refine s_assoc (wait_d 10 (bw (rfl : _ = 10) hc.db (by decide)) rfl (by decide) ?_)
  refine s_assoc (wait_d 11 (bw (rfl : _ = 11) hc.db (by decide)) rfl (by decide) ?_)
  refine s_assoc (wait_d 12 (bw (rfl : _ = 12) hc.db (by decide)) rfl (by decide) ?_)
  refine s_assoc (wait_d 13 (bw (rfl : _ = 13) hc.db (by decide)) rfl (by decide) ?_)
  refine s_pure ?_
  exact h _ ⟨hc.xa, hc.xb, hc.wa, hc.wb, (rfl : _ = 14), hc.db⟩

end Cert.KernelIdeal.Hand

end
-- ==== Proof.KI.P1.lean ====
/-
# The first tokens' trip
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q1 {c0_i32_96_r0 : BitVec 32} {c1_i32_98_r0 : BitVec 32} {k0_t4 : Fin k0_t4_loop.trips} {k0_mxu4 : Mxu F} {k : (Σ' (_ : BitVec 32) (_ : Mxu F) (_ : IVec S64x128 32), IVec S64x128 32) → Prog (TpuEff nD τ sig (Elt F) Λ₀ .tc) β} (hm : MxOk 0 (oc true false true false) (lv true true) k0_mxu4) (hc : Cnt s (3 * k0_t4.val + 1) 48 (min (3 * k0_t4.val + 1) 12) 12 0 0)
    (h : ∀ (r0 : BitVec 32) (r1 : Mxu F) (r2 : IVec S64x128 32) (r3 : IVec S64x128 32) (s' : St F) (_ : MxOk 0 (oc false true false true) (lv true true) r1) (_ : Cnt s' (3 * k0_t4.val + 1) 48 (min (3 * k0_t4.val + 1) 12) 12 0 0), Res c vx vw PT s' iprop(SL c vid vws vxs ∗ R) ⊢ WP c (k ⟨r0, r1, r2, r3⟩) Q) :
    Res c vx vw PT s iprop(SL c vid vws vxs ∗ R) ⊢ WP c (app (k0_part1 (F := F)) c0_i32_96_r0 c1_i32_98_r0 k0_t4 k0_mxu4 >>= k) Q := by
  rw [k0_part1_eq_skeleton]
  unfold app k0_part1_skel
  refine s_assoc (ld_x (bx hc.xa (by first | decide | (clear h hc; revert k0_t4; decide))) ?_)
  refine s_assoc (s_pushW (oc true true true false) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (ld_id ?_)
  refine s_pure ?_
  exact h _ _ _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q2 {v1028_r0 : IVec S64x128 32} {v1035_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part2 (F := F)) v1028_r0 v1035_r0 >>= k) Q := by
  rw [k0_part2_eq_skeleton]
  unfold app k0_part2_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q3 {v1028_r0 : IVec S64x128 32} {v1071_r0 : IVec S64x128 32} {v1076_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part3 (F := F)) v1028_r0 v1071_r0 v1076_r0 >>= k) Q := by
  rw [k0_part3_eq_skeleton]
  unfold app k0_part3_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q4 {v1028_r0 : IVec S64x128 32} {v1113_r0 : IVec S64x128 32} {v1115_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part4 (F := F)) v1028_r0 v1113_r0 v1115_r0 >>= k) Q := by
  rw [k0_part4_eq_skeleton]
  unfold app k0_part4_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q5 {v1028_r0 : IVec S64x128 32} {v1155_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part5 (F := F)) v1028_r0 v1155_r0 >>= k) Q := by
  rw [k0_part5_eq_skeleton]
  unfold app k0_part5_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q6 {v1028_r0 : IVec S64x128 32} {v1191_r0 : IVec S64x128 32} {v1196_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part6 (F := F)) v1028_r0 v1191_r0 v1196_r0 >>= k) Q := by
  rw [k0_part6_eq_skeleton]
  unfold app k0_part6_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q7 {v1028_r0 : IVec S64x128 32} {v1233_r0 : IVec S64x128 32} {v1235_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part7 (F := F)) v1028_r0 v1233_r0 v1235_r0 >>= k) Q := by
  rw [k0_part7_eq_skeleton]
  unfold app k0_part7_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q8 {v1028_r0 : IVec S64x128 32} {v1275_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part8 (F := F)) v1028_r0 v1275_r0 >>= k) Q := by
  rw [k0_part8_eq_skeleton]
  unfold app k0_part8_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q9 {v1028_r0 : IVec S64x128 32} {v1311_r0 : IVec S64x128 32} {v1316_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part9 (F := F)) v1028_r0 v1311_r0 v1316_r0 >>= k) Q := by
  rw [k0_part9_eq_skeleton]
  unfold app k0_part9_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q10 {v1028_r0 : IVec S64x128 32} {v1353_r0 : IVec S64x128 32} {v1355_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part10 (F := F)) v1028_r0 v1353_r0 v1355_r0 >>= k) Q := by
  rw [k0_part10_eq_skeleton]
  unfold app k0_part10_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q11 {v1028_r0 : IVec S64x128 32} {v1395_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part11 (F := F)) v1028_r0 v1395_r0 >>= k) Q := by
  rw [k0_part11_eq_skeleton]
  unfold app k0_part11_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q12 {v1028_r0 : IVec S64x128 32} {v1431_r0 : IVec S64x128 32} {v1436_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part12 (F := F)) v1028_r0 v1431_r0 v1436_r0 >>= k) Q := by
  rw [k0_part12_eq_skeleton]
  unfold app k0_part12_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q13 {v1028_r0 : IVec S64x128 32} {v1473_r0 : IVec S64x128 32} {v1475_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part13 (F := F)) v1028_r0 v1473_r0 v1475_r0 >>= k) Q := by
  rw [k0_part13_eq_skeleton]
  unfold app k0_part13_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q14 {v1028_r0 : IVec S64x128 32} {v1515_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part14 (F := F)) v1028_r0 v1515_r0 >>= k) Q := by
  rw [k0_part14_eq_skeleton]
  unfold app k0_part14_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q15 {v1028_r0 : IVec S64x128 32} {v1551_r0 : IVec S64x128 32} {v1556_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part15 (F := F)) v1028_r0 v1551_r0 v1556_r0 >>= k) Q := by
  rw [k0_part15_eq_skeleton]
  unfold app k0_part15_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q16 {v1028_r0 : IVec S64x128 32} {v1593_r0 : IVec S64x128 32} {v1595_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part16 (F := F)) v1028_r0 v1593_r0 v1595_r0 >>= k) Q := by
  rw [k0_part16_eq_skeleton]
  unfold app k0_part16_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q17 {v1028_r0 : IVec S64x128 32} {v1635_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part17 (F := F)) v1028_r0 v1635_r0 >>= k) Q := by
  rw [k0_part17_eq_skeleton]
  unfold app k0_part17_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q18 {v1028_r0 : IVec S64x128 32} {v1671_r0 : IVec S64x128 32} {v1676_r0 : IVec S64x128 32} {XA XB WA WB DA DB : ℕ} {k : (Σ' (_ : IVec S64x128 32), IVec S1x128 32) → Prog (TpuEff nD τ sig (Elt F) Λ₀ .tc) β} (hc : Cnt s XA XB WA WB DA DB)
    (h : ∀ (r0 : IVec S64x128 32) (r1 : IVec S1x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part18 (F := F)) v1028_r0 v1671_r0 v1676_r0 >>= k) Q := by
  rw [k0_part18_eq_skeleton]
  unfold app k0_part18_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q19 {v1028_r0 : IVec S64x128 32} {v1713_r0 : IVec S64x128 32} {v1715_r0 : IVec S1x128 32} {XA XB WA WB DA DB : ℕ} {k : (IVec S64x128 32) → Prog (TpuEff nD τ sig (Elt F) Λ₀ .tc) β} (hc : Cnt s XA XB WA WB DA DB)
    (h : ∀ (r0 : IVec S64x128 32) (s' : St F) (_ : Cnt s' XA XB WA WB DA DB), Res c vx vw PT s' iprop(SL c vid vws vxs ∗ R) ⊢ WP c (k r0) Q) :
    Res c vx vw PT s iprop(SL c vid vws vxs ∗ R) ⊢ WP c (app (k0_part19 (F := F)) v1028_r0 v1713_r0 v1715_r0 >>= k) Q := by
  rw [k0_part19_eq_skeleton]
  unfold app k0_part19_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩

set_option maxRecDepth 65536 in
theorem q20 {v1028_r0 : IVec S64x128 32} {v1755_r0 : IVec S64x128 32} {XA XB WA WB DA DB : ℕ} {k : (Σ' (_ : IVec S64x128 32), IVec S64x128 32) → Prog (TpuEff nD τ sig (Elt F) Λ₀ .tc) β} (hc : Cnt s XA XB WA WB DA DB)
    (h : ∀ (r0 : IVec S64x128 32) (r1 : IVec S64x128 32) (s' : St F) (_ : Cnt s' XA XB WA WB DA DB), Res c vx vw PT s' iprop(SL c vid vws vxs ∗ R) ⊢ WP c (k ⟨r0, r1⟩) Q) :
    Res c vx vw PT s iprop(SL c vid vws vxs ∗ R) ⊢ WP c (app (k0_part20 (F := F)) v1028_r0 v1755_r0 >>= k) Q := by
  rw [k0_part20_eq_skeleton]
  unfold app k0_part20_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩

set_option maxRecDepth 65536 in
theorem q21 {k0_t4 : Fin k0_t4_loop.trips} {v1001_r0 : BitVec 32} {k0_mxu9 : Mxu F} {v1791_r0 : IVec S64x128 32} {v1796_r0 : IVec S64x128 32} {k : (Σ' (_ : Mxu F), BitVec 32) → Prog (TpuEff nD τ sig (Elt F) Λ₀ .tc) β} (hm : MxOk 0 (oc false true false true) (lv true true) k0_mxu9) (hc : Cnt s (3 * k0_t4.val + 1) 48 (min (3 * k0_t4.val + 1) 12) 12 0 0)
    (h : ∀ (r0 : Mxu F) (r1 : BitVec 32) (s' : St F) (_ : MxOk 0 (oc true false true false) (lv true true) r0) (_ : Cnt s' (3 * k0_t4.val + 1) 48 (min (3 * k0_t4.val + 1) 12) 12 0 0), Res c vx vw PT s' iprop(SL c vid vws vxs ∗ R) ⊢ WP c (k ⟨r0, r1⟩) Q) :
    Res c vx vw PT s iprop(SL c vid vws vxs ∗ R) ⊢ WP c (app (k0_part21 (F := F)) k0_t4 v1001_r0 k0_mxu9 v1791_r0 v1796_r0 >>= k) Q := by
  rw [k0_part21_eq_skeleton]
  unfold app k0_part21_skel
  refine s_assoc (ld_cf ?_)
  refine s_assoc (st_cf ?_)
  refine s_assoc (ld_x (bx hc.xa (by first | decide | (clear h hc; revert k0_t4; decide))) ?_)
  refine s_assoc (s_pushW (oc true true false true) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_pure ?_
  exact h _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q22 {k0_t4 : Fin k0_t4_loop.trips} {v1001_r0 : BitVec 32} {k0_mxu13 : Mxu F} {c12_i32_914_r0 : BitVec 32} {k : (Σ' (_ : Mxu F), BitVec 32) → Prog (TpuEff nD τ sig (Elt F) Λ₀ .tc) β} (hm : MxOk 0 (oc true false true false) (lv true true) k0_mxu13) (hc : Cnt s (3 * k0_t4.val + 1) 48 (min (3 * k0_t4.val + 1) 12) 12 0 0)
    (h : ∀ (r0 : Mxu F) (r1 : BitVec 32) (s' : St F) (_ : MxOk 0 (oc false true false true) (lv true true) r0) (_ : Cnt s' (3 * k0_t4.val + 2) 48 (min (3 * k0_t4.val + 1) 12) 12 0 0), Res c vx vw PT s' iprop(SL c vid vws vxs ∗ R) ⊢ WP c (k ⟨r0, r1⟩) Q) :
    Res c vx vw PT s iprop(SL c vid vws vxs ∗ R) ⊢ WP c (app (k0_part22 (F := F)) k0_t4 v1001_r0 k0_mxu13 c12_i32_914_r0 >>= k) Q := by
  rw [k0_part22_eq_skeleton]
  unfold app k0_part22_skel
  refine s_assoc (ld_x (bx hc.xa (by first | decide | (clear h hc; revert k0_t4; decide))) ?_)
  refine s_assoc (s_pushW (oc true true true false) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (wait_x (3 * k0_t4.val + 1) (bw hc.xa hc.xb (by first | decide | (clear h hc; revert k0_t4; decide))) rfl (by first | decide | (clear h hc; revert k0_t4; decide)) ?_)
  refine s_pure ?_
  exact h _ _ _ (MxOk.acc (o' := (oc false true false true)) (l' := (lv true true)) (MxOk.acc (o' := (oc false true true true)) (l' := (lv true true)) hm (by decide) (by decide)) (by decide) (by decide)) ⟨(rfl : _ = (3 * k0_t4.val + 2)), hc.xb, hc.wa, hc.wb, hc.da, hc.db⟩

set_option maxRecDepth 65536 in
theorem q23 {k0_t4 : Fin k0_t4_loop.trips} {v1001_r0 : BitVec 32} {k0_mxu17 : Mxu F} {v1860_r0 : BitVec 32} {k : (Mxu F) → Prog (TpuEff nD τ sig (Elt F) Λ₀ .tc) β} (hm : MxOk 0 (oc false true false true) (lv true true) k0_mxu17) (hc : Cnt s (3 * k0_t4.val + 2) 48 (min (3 * k0_t4.val + 1) 12) 12 0 0)
    (h : ∀ (r0 : Mxu F) (s' : St F) (_ : MxOk 0 (oc true true true false) (lv true true) r0) (_ : Cnt s' (3 * k0_t4.val + 2) 48 ((min (3 * k0_t4.val + 1) 12) + 1) 12 0 0), Res c vx vw PT s' iprop(SL c vid vws vxs ∗ R) ⊢ WP c (k r0) Q) :
    Res c vx vw PT s iprop(SL c vid vws vxs ∗ R) ⊢ WP c (app (k0_part23 (F := F)) k0_t4 v1001_r0 k0_mxu17 v1860_r0 >>= k) Q := by
  rw [k0_part23_eq_skeleton]
  unfold app k0_part23_skel
  refine s_assoc (wait_w (min (3 * k0_t4.val + 1) 12) (bw hc.wa hc.wb (by first | decide | (clear h hc; revert k0_t4; decide))) rfl (by first | decide | (clear h hc; revert k0_t4; decide)) ?_)
  refine s_assoc (ld_x (bx hc.xa (by first | decide | (clear h hc; revert k0_t4; decide))) ?_)
  refine s_assoc (s_pushW (oc true true false true) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv (rfl : _ = ((min (3 * k0_t4.val + 1) 12) + 1)) (by first | decide | (clear h hc; revert k0_t4; decide))) ?_)
  refine s_assoc (ld_x (bx hc.xa (by first | decide | (clear h hc; revert k0_t4; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_pure ?_
  exact h _ _ hm ⟨hc.xa, hc.xb, (rfl : _ = ((min (3 * k0_t4.val + 1) 12) + 1)), hc.wb, hc.da, hc.db⟩

set_option maxRecDepth 65536 in
theorem q24 {k0_t4 : Fin k0_t4_loop.trips} {v1001_r0 : BitVec 32} {k0_mxu22 : Mxu F} {k : (Σ' (_ : Mxu F) (_ : BitVec 32) (_ : BitVec 32), BitVec 32) → Prog (TpuEff nD τ sig (Elt F) Λ₀ .tc) β} (hm : MxOk 0 (oc true true true false) (lv true true) k0_mxu22) (hc : Cnt s (3 * k0_t4.val + 2) 48 ((min (3 * k0_t4.val + 1) 12) + 1) 12 0 0)
    (h : ∀ (r0 : Mxu F) (r1 : BitVec 32) (r2 : BitVec 32) (r3 : BitVec 32) (s' : St F) (_ : MxOk 0 (oc true false true false) (lv true true) r0) (_ : Cnt s' (3 * k0_t4.val + 2) 48 ((min (3 * k0_t4.val + 1) 12) + 1) 12 0 0), Res c vx vw PT s' iprop(SL c vid vws vxs ∗ R) ⊢ WP c (k ⟨r0, r1, r2, r3⟩) Q) :
    Res c vx vw PT s iprop(SL c vid vws vxs ∗ R) ⊢ WP c (app (k0_part24 (F := F)) k0_t4 v1001_r0 k0_mxu22 >>= k) Q := by
  rw [k0_part24_eq_skeleton]
  unfold app k0_part24_skel
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (ld_x (bx hc.xa (by first | decide | (clear h hc; revert k0_t4; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_pure ?_
  exact h _ _ _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q25 {k0_t4 : Fin k0_t4_loop.trips} {v1001_r0 : BitVec 32} {k0_mxu29 : Mxu F} {v1945_r0 : BitVec 32} {v1946_r0 : BitVec 32} {c256_i32_965_r0 : BitVec 32} {k : (Σ' (_ : Mxu F), BitVec 32) → Prog (TpuEff nD τ sig (Elt F) Λ₀ .tc) β} (hm : MxOk 0 (oc true false true false) (lv true true) k0_mxu29) (hc : Cnt s (3 * k0_t4.val + 2) 48 ((min (3 * k0_t4.val + 1) 12) + 1) 12 0 0)
    (h : ∀ (r0 : Mxu F) (r1 : BitVec 32) (s' : St F) (_ : MxOk 0 (oc false true false true) (lv true true) r0) (_ : Cnt s' (3 * k0_t4.val + 3) 48 ((min (3 * k0_t4.val + 1) 12) + 2) 12 0 0), Res c vx vw PT s' iprop(SL c vid vws vxs ∗ R) ⊢ WP c (k ⟨r0, r1⟩) Q) :
    Res c vx vw PT s iprop(SL c vid vws vxs ∗ R) ⊢ WP c (app (k0_part25 (F := F)) k0_t4 v1001_r0 k0_mxu29 v1945_r0 v1946_r0 c256_i32_965_r0 >>= k) Q := by
  rw [k0_part25_eq_skeleton]
  unfold app k0_part25_skel
  refine s_assoc (ld_x (bx hc.xa (by first | decide | (clear h hc; revert k0_t4; decide))) ?_)
  refine s_assoc (s_pushW (oc true true true false) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (wait_x (3 * k0_t4.val + 2) (bw hc.xa hc.xb (by first | decide | (clear h hc; revert k0_t4; decide))) rfl (by first | decide | (clear h hc; revert k0_t4; decide)) ?_)
  refine s_assoc (wait_w ((min (3 * k0_t4.val + 1) 12) + 1) (bw hc.wa hc.wb (by first | decide | (clear h hc; revert k0_t4; decide))) rfl (by first | decide | (clear h hc; revert k0_t4; decide)) ?_)
  refine s_pure ?_
  exact h _ _ _ (MxOk.acc (o' := (oc false true false true)) (l' := (lv true true)) (MxOk.acc (o' := (oc false true true true)) (l' := (lv true true)) hm (by decide) (by decide)) (by decide) (by decide)) ⟨(rfl : _ = (3 * k0_t4.val + 3)), hc.xb, (rfl : _ = ((min (3 * k0_t4.val + 1) 12) + 2)), hc.wb, hc.da, hc.db⟩

set_option maxRecDepth 65536 in
theorem q26 {k0_t4 : Fin k0_t4_loop.trips} {v1001_r0 : BitVec 32} {k0_mxu33 : Mxu F} {v1968_r0 : BitVec 32} {k : (Σ' (_ : Mxu F) (_ : BitVec 32), BitVec 32) → Prog (TpuEff nD τ sig (Elt F) Λ₀ .tc) β} (hm : MxOk 0 (oc false true false true) (lv true true) k0_mxu33) (hc : Cnt s (3 * k0_t4.val + 3) 48 ((min (3 * k0_t4.val + 1) 12) + 2) 12 0 0)
    (h : ∀ (r0 : Mxu F) (r1 : BitVec 32) (r2 : BitVec 32) (s' : St F) (_ : MxOk 0 (oc true true true true) (lv true true) r0) (_ : Cnt s' (3 * k0_t4.val + 3) 48 ((min (3 * k0_t4.val + 1) 12) + 2) 12 0 0), Res c vx vw PT s' iprop(SL c vid vws vxs ∗ R) ⊢ WP c (k ⟨r0, r1, r2⟩) Q) :
    Res c vx vw PT s iprop(SL c vid vws vxs ∗ R) ⊢ WP c (app (k0_part26 (F := F)) k0_t4 v1001_r0 k0_mxu33 v1968_r0 >>= k) Q := by
  rw [k0_part26_eq_skeleton]
  unfold app k0_part26_skel
  refine s_assoc (ld_x (bx hc.xa (by first | decide | (clear h hc; revert k0_t4; decide))) ?_)
  refine s_assoc (s_pushW (oc true true false true) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (ld_x (bx hc.xa (by first | decide | (clear h hc; revert k0_t4; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t4; decide))) ?_)
  refine s_assoc (s_pushW (oc true true true true) hm (by decide) fun m hm => ?_)
  refine s_pure ?_
  exact h _ _ _ _ hm ⟨hc.xa, hc.xb, hc.wa, hc.wb, hc.da, hc.db⟩

set_option maxRecDepth 65536 in
theorem q27 {k0_t4 : Fin k0_t4_loop.trips} {v1001_r0 : BitVec 32} {k0_mxu39 : Mxu F} {v2022_r0 : BitVec 32} {c8_i32_997_r0 : BitVec 32} {k : (Σ' (_ : Mxu F) (_ : BitVec 32), FVec F S256x256 .bf16) → Prog (TpuEff nD τ sig (Elt F) Λ₀ .tc) β} (hm : MxOk 0 (oc true true true true) (lv true true) k0_mxu39) (hc : Cnt s (3 * k0_t4.val + 3) 48 ((min (3 * k0_t4.val + 1) 12) + 2) 12 0 0)
    (h : ∀ (r0 : Mxu F) (r1 : BitVec 32) (r2 : FVec F S256x256 .bf16) (s' : St F) (_ : MxOk 0 (oc true false true false) (lv true true) r0) (_ : Cnt s' (3 * k0_t4.val + 3) 48 ((min (3 * k0_t4.val + 1) 12) + 2) 12 0 0), Res c vx vw PT s' iprop(SL c vid vws vxs ∗ R) ⊢ WP c (k ⟨r0, r1, r2⟩) Q) :
    Res c vx vw PT s iprop(SL c vid vws vxs ∗ R) ⊢ WP c (app (k0_part27 (F := F)) k0_t4 v1001_r0 k0_mxu39 v2022_r0 c8_i32_997_r0 >>= k) Q := by
  rw [k0_part27_eq_skeleton]
  unfold app k0_part27_skel
  refine s_assoc (ld_w (bv hc.wa (by first | decide | (clear h hc; revert k0_t4; decide))) ?_)
  refine s_assoc (ld_x (bx hc.xa (by first | decide | (clear h hc; revert k0_t4; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (ld_x (bx hc.xa (by first | decide | (clear h hc; revert k0_t4; decide))) ?_)
  refine s_pure ?_
  exact h _ _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q28 {k0_t4 : Fin k0_t4_loop.trips} {v1001_r0 : BitVec 32} {k0_mxu45 : Mxu F} {v2053_r0 : BitVec 32} {v2060_r0 : FVec F S256x256 .bf16} {k : (Σ' (_ : Mxu F) (_ : BitVec 32) (_ : BitVec 32) (_ : BitVec 32), BitVec 32) → Prog (TpuEff nD τ sig (Elt F) Λ₀ .tc) β} (hm : MxOk 0 (oc true false true false) (lv true true) k0_mxu45) (hc : Cnt s (3 * k0_t4.val + 3) 48 ((min (3 * k0_t4.val + 1) 12) + 2) 12 0 0)
    (h : ∀ (r0 : Mxu F) (r1 : BitVec 32) (r2 : BitVec 32) (r3 : BitVec 32) (r4 : BitVec 32) (s' : St F) (_ : MxOk 0 (oc false true false true) (lv true true) r0) (_ : Cnt s' (3 * k0_t4.val + 4) 48 ((min (3 * k0_t4.val + 1) 12) + 2) 12 0 0), Res c vx vw PT s' iprop(SL c vid vws vxs ∗ R) ⊢ WP c (k ⟨r0, r1, r2, r3, r4⟩) Q) :
    Res c vx vw PT s iprop(SL c vid vws vxs ∗ R) ⊢ WP c (app (k0_part28 (F := F)) k0_t4 v1001_r0 k0_mxu45 v2053_r0 v2060_r0 >>= k) Q := by
  rw [k0_part28_eq_skeleton]
  unfold app k0_part28_skel
  refine s_assoc (s_pushW (oc true true true false) hm (by decide) fun m hm => ?_)
  refine s_assoc (ld_x (bx hc.xa (by first | decide | (clear h hc; revert k0_t4; decide))) ?_)
  refine s_assoc (s_pushW (oc true true true true) hm (by decide) fun m hm => ?_)
  refine s_assoc (ld_w (bv hc.wa (by first | decide | (clear h hc; revert k0_t4; decide))) ?_)
  refine s_assoc (wait_x (3 * k0_t4.val + 3) (bw hc.xa hc.xb (by first | decide | (clear h hc; revert k0_t4; decide))) rfl (by first | decide | (clear h hc; revert k0_t4; decide)) ?_)
  refine s_pure ?_
  exact h _ _ _ _ _ _ (MxOk.acc (o' := (oc false true false true)) (l' := (lv true true)) (MxOk.acc (o' := (oc false true true true)) (l' := (lv true true)) hm (by decide) (by decide)) (by decide) (by decide)) ⟨(rfl : _ = (3 * k0_t4.val + 4)), hc.xb, hc.wa, hc.wb, hc.da, hc.db⟩

set_option maxRecDepth 65536 in
theorem q29 {c0_i32_96_r0 : BitVec 32} {c1_i32_98_r0 : BitVec 32} {k0_t4 : Fin k0_t4_loop.trips} {k0_mxu4 : Mxu F} {k : (Σ' (_ : Mxu F) (_ : BitVec 32), BitVec 32) → Prog (TpuEff nD τ sig (Elt F) Λ₀ .tc) β} (hm : MxOk 0 (oc true false true false) (lv true true) k0_mxu4) (hc : Cnt s (3 * k0_t4.val + 1) 48 (min (3 * k0_t4.val + 1) 12) 12 0 0)
    (h : ∀ (r0 : Mxu F) (r1 : BitVec 32) (r2 : BitVec 32) (s' : St F) (_ : MxOk 0 (oc true true true true) (lv true true) r0) (_ : Cnt s' (3 * k0_t4.val + 4) 48 (min (3 * k0_t4.val + 4) 12) 12 0 0), Res c vx vw PT s' iprop(SL c vid vws vxs ∗ R) ⊢ WP c (k ⟨r0, r1, r2⟩) Q) :
    Res c vx vw PT s iprop(SL c vid vws vxs ∗ R) ⊢ WP c (app (k0_part29 (F := F)) c0_i32_96_r0 c1_i32_98_r0 k0_t4 k0_mxu4 >>= k) Q := by
  rw [k0_part29_eq_skeleton]
  unfold app k0_part29_skel
  refine s_assoc (q1 hm hc fun r0 r1 r2 r3 s' hm hc' => ?_)
  clear hc; have hc := hc'; clear hc'
  refine s_assoc (q2 hc fun r0 r1 s' hc' => ?_)
  clear hc; have hc := hc'; clear hc'
  refine s_assoc (q3 hc fun r0 r1 s' hc' => ?_)
  clear hc; have hc := hc'; clear hc'
  refine s_assoc (q4 hc fun r0 s' hc' => ?_)
  clear hc; have hc := hc'; clear hc'
  refine s_assoc (q5 hc fun r0 r1 s' hc' => ?_)
  clear hc; have hc := hc'; clear hc'
  refine s_assoc (q6 hc fun r0 r1 s' hc' => ?_)
  clear hc; have hc := hc'; clear hc'
  refine s_assoc (q7 hc fun r0 s' hc' => ?_)
  clear hc; have hc := hc'; clear hc'
  refine s_assoc (q8 hc fun r0 r1 s' hc' => ?_)
  clear hc; have hc := hc'; clear hc'
  refine s_assoc (q9 hc fun r0 r1 s' hc' => ?_)
  clear hc; have hc := hc'; clear hc'
  refine s_assoc (q10 hc fun r0 s' hc' => ?_)
  clear hc; have hc := hc'; clear hc'
  refine s_assoc (q11 hc fun r0 r1 s' hc' => ?_)
  clear hc; have hc := hc'; clear hc'
  refine s_assoc (q12 hc fun r0 r1 s' hc' => ?_)
  clear hc; have hc := hc'; clear hc'
  refine s_assoc (q13 hc fun r0 s' hc' => ?_)
  clear hc; have hc := hc'; clear hc'
  refine s_assoc (q14 hc fun r0 r1 s' hc' => ?_)
  clear hc; have hc := hc'; clear hc'
  refine s_assoc (q15 hc fun r0 r1 s' hc' => ?_)
  clear hc; have hc := hc'; clear hc'
  refine s_assoc (q16 hc fun r0 s' hc' => ?_)
  clear hc; have hc := hc'; clear hc'
  refine s_assoc (q17 hc fun r0 r1 s' hc' => ?_)
  clear hc; have hc := hc'; clear hc'
  refine s_assoc (q18 hc fun r0 r1 s' hc' => ?_)
  clear hc; have hc := hc'; clear hc'
  refine s_assoc (q19 hc fun r0 s' hc' => ?_)
  clear hc; have hc := hc'; clear hc'
  refine s_assoc (q20 hc fun r0 r1 s' hc' => ?_)
  clear hc; have hc := hc'; clear hc'
  refine s_assoc (q21 hm hc fun r0 r1 s' hm hc' => ?_)
  clear hc; have hc := hc'; clear hc'
  refine s_assoc (q22 hm hc fun r0 r1 s' hm hc' => ?_)
  clear hc; have hc := hc'; clear hc'
  refine s_assoc (q23 hm hc fun r0 s' hm hc' => ?_)
  clear hc; have hc := hc'; clear hc'
  refine s_assoc (q24 hm hc fun r0 r1 r2 r3 s' hm hc' => ?_)
  clear hc; have hc := hc'; clear hc'
  refine s_assoc (q25 hm hc fun r0 r1 s' hm hc' => ?_)
  clear hc; have hc := hc'; clear hc'
  refine s_assoc (q26 hm hc fun r0 r1 r2 s' hm hc' => ?_)
  clear hc; have hc := hc'; clear hc'
  refine s_assoc (q27 hm hc fun r0 r1 r2 s' hm hc' => ?_)
  clear hc; have hc := hc'; clear hc'
  refine s_assoc (q28 hm hc fun r0 r1 r2 r3 r4 s' hm hc' => ?_)
  clear hc; have hc := hc'; clear hc'
  by_cases hk : k0_cond1 k0_t4 = 1#1
  · simp only [dif_pos hk, bind_assoc]
    refine wait_w ((min (3 * k0_t4.val + 1) 12) + 2) (bw hc.wa hc.wb (by first | decide | (clear h hc; revert k0_t4; decide))) rfl (by first | decide | (clear h hc; revert k0_t4; decide)) ?_
    refine ld_x (bx hc.xa (by first | decide | (clear h hc; revert k0_t4; decide))) ?_
    refine s_pushW (oc true true false true) hm (by decide) fun m hm => ?_
    refine ld_x (bx hc.xa (by first | decide | (clear h hc; revert k0_t4; decide))) ?_
    refine s_pushW (oc true true true true) hm (by decide) fun m hm => ?_
    refine s_pure ?_
    exact h _ _ _ _ hm ⟨hc.xa, hc.xb, (Eq.trans (rfl : _ = ((min (3 * k0_t4.val + 1) 12) + 3)) (by clear h hc; revert hk; revert k0_t4; decide) : _ = (min (3 * k0_t4.val + 4) 12)), hc.wb, hc.da, hc.db⟩
  · simp only [dif_neg hk, bind_assoc]
    refine ld_x (bx hc.xa (by first | decide | (clear h hc; revert k0_t4; decide))) ?_
    refine s_pushW (oc true true false true) hm (by decide) fun m hm => ?_
    refine ld_x (bx hc.xa (by first | decide | (clear h hc; revert k0_t4; decide))) ?_
    refine s_pushW (oc true true true true) hm (by decide) fun m hm => ?_
    refine s_pure ?_
    exact h _ _ _ _ hm ⟨hc.xa, hc.xb, (Eq.trans hc.wa (by clear h hc; revert hk; revert k0_t4; decide) : _ = (min (3 * k0_t4.val + 4) 12)), hc.wb, hc.da, hc.db⟩

set_option maxRecDepth 65536 in
theorem bt4 {k0_mxu1 : Mxu F} {v156_r0 : FVec F S128x128 .f32} {k0_t4 : Fin k0_t4_loop.trips} {m : Mxu F} (hm : MxOk 0 (oc true false true false) (lv true true) m) (hc : Cnt s (3 * k0_t4.val + 1) 48 (min (3 * k0_t4.val + 1) 12) 12 0 0) :
    Res c vx vw PT s iprop(SL c vid vws vxs ∗ R) ⊢ WP c (app (k0_t4_body (F := F)) k0_mxu1 v156_r0 k0_t4 m)
      (fun m' => iprop(∃ s', ⌜MxOk 0 (oc true false true false) (lv true true) m' ∧ Cnt s' (3 * (k0_t4.val + 1) + 1) 48 (min (3 * (k0_t4.val + 1) + 1) 12) 12 0 0⌝ ∗ Res c vx vw PT s' iprop(SL c vid vws vxs ∗ R))) := by
  unfold app k0_t4_body
  refine q29 hm hc fun r0 r1 r2 s' hm hc' => ?_
  clear hc; have hc := hc'; clear hc'
  refine ld_w (bv hc.wa (by first | decide | (clear hc; revert k0_t4; decide))) ?_
  exact s_trip ⟨(MxOk.acc (o' := (oc true false true false)) (l' := (lv true true)) (MxOk.acc (o' := (oc true false true true)) (l' := (lv true true)) hm (by decide) (by decide)) (by decide) (by decide)), ⟨(Eq.trans hc.xa (by first | omega | (clear hc; revert k0_t4; decide))), hc.xb, (Eq.trans hc.wa (by first | omega | (clear hc; revert k0_t4; decide))), hc.wb, hc.da, hc.db⟩⟩

end Cert.KernelIdeal.Hand

end
-- ==== Proof.KI.P2.lean ====
/-
# The second tokens' trip
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q30 {c0_i32_123_r0 : BitVec 32} {c1_i32_125_r0 : BitVec 32} {k0_t5 : Fin k0_t5_loop.trips} {k0_mxu56 : Mxu F} {k : (Σ' (_ : BitVec 32) (_ : Mxu F) (_ : BitVec 32) (_ : FVec F S1x128 .f32), FVec F S256x128 .f32) → Prog (TpuEff nD τ sig (Elt F) Λ₀ .tc) β} (hm : MxOk 64 (oc true false true false) (lv true true) k0_mxu56) (hc : Cnt s (13 + 3 * k0_t5.val) 48 12 12 0 (0 + k0_t5.val))
    (h : ∀ (r0 : BitVec 32) (r1 : Mxu F) (r2 : BitVec 32) (r3 : FVec F S1x128 .f32) (r4 : FVec F S256x128 .f32) (s' : St F) (_ : MxOk 64 (oc false true false true) (lv true true) r1) (_ : Cnt s' (13 + 3 * k0_t5.val) 48 12 12 0 (0 + k0_t5.val)), Res c vx vw PT s' iprop(SL c vid vws vxs ∗ R) ⊢ WP c (k ⟨r0, r1, r2, r3, r4⟩) Q) :
    Res c vx vw PT s iprop(SL c vid vws vxs ∗ R) ⊢ WP c (app (k0_part30 (F := F)) c0_i32_123_r0 c1_i32_125_r0 k0_t5 k0_mxu56 >>= k) Q := by
  rw [k0_part30_eq_skeleton]
  unfold app k0_part30_skel
  refine s_assoc (ld_x (bx hc.xa (by first | decide | (clear h hc; revert k0_t5; decide))) ?_)
  refine s_assoc (s_pushW (oc true true true false) hm (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_assoc (ld_zt ?_)
  refine s_pure ?_
  exact h _ _ _ _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q31 {k0_t5 : Fin k0_t5_loop.trips} {v1027_r0 : BitVec 32} {v1032_r0 : FVec F S1x128 .f32} {v1035_r0 : FVec F S256x128 .f32} {k : (Σ' (_ : FVec F S1x128 .f32) (_ : FVec F S1x128 .f32) (_ : FVec F S256x128 .f32), Vec F S256x128 .f32) → Prog (TpuEff nD τ sig (Elt F) Λ₀ .tc) β} (hc : Cnt s (13 + 3 * k0_t5.val) 48 12 12 0 (0 + k0_t5.val))
    (h : ∀ (r0 : FVec F S1x128 .f32) (r1 : FVec F S1x128 .f32) (r2 : FVec F S256x128 .f32) (r3 : Vec F S256x128 .f32) (s' : St F) (_ : Cnt s' (13 + 3 * k0_t5.val) 48 12 12 0 (0 + k0_t5.val)), Res c vx vw PT s' iprop(SL c vid vws vxs ∗ R) ⊢ WP c (k ⟨r0, r1, r2, r3⟩) Q) :
    Res c vx vw PT s iprop(SL c vid vws vxs ∗ R) ⊢ WP c (app (k0_part31 (F := F)) k0_t5 v1027_r0 v1032_r0 v1035_r0 >>= k) Q := by
  rw [k0_part31_eq_skeleton]
  unfold app k0_part31_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩

set_option maxRecDepth 65536 in
theorem q32 {k0_t5 : Fin k0_t5_loop.trips} {v1001_r0 : BitVec 32} {k0_mxu61 : Mxu F} {v1044_r0 : FVec F S1x128 .f32} {v1049_r0 : FVec F S1x128 .f32} {v1067_r0 : FVec F S256x128 .f32} {v1073_r0 : Vec F S256x128 .f32} {k : (Σ' (_ : Mxu F), BitVec 32) → Prog (TpuEff nD τ sig (Elt F) Λ₀ .tc) β} (hm : MxOk 64 (oc false true false true) (lv true true) k0_mxu61) (hc : Cnt s (13 + 3 * k0_t5.val) 48 12 12 0 (0 + k0_t5.val))
    (h : ∀ (r0 : Mxu F) (r1 : BitVec 32) (s' : St F) (_ : MxOk 64 (oc true true true true) (lv true true) r0) (_ : Cnt s' (13 + 3 * k0_t5.val) 48 12 12 0 (0 + k0_t5.val)), Res c vx vw PT s' iprop(SL c vid vws vxs ∗ R) ⊢ WP c (k ⟨r0, r1⟩) Q) :
    Res c vx vw PT s iprop(SL c vid vws vxs ∗ R) ⊢ WP c (app (k0_part32 (F := F)) k0_t5 v1001_r0 k0_mxu61 v1044_r0 v1049_r0 v1067_r0 v1073_r0 >>= k) Q := by
  rw [k0_part32_eq_skeleton]
  unfold app k0_part32_skel
  refine s_assoc (ld_dl (bd hc.db (by first | decide | (clear h hc; revert k0_t5; decide))) ?_)
  refine s_assoc (st_dl (bd hc.db (by first | decide | (clear h hc; revert k0_t5; decide))) ?_)
  refine s_assoc (ld_dl (bd hc.db (by first | decide | (clear h hc; revert k0_t5; decide))) ?_)
  refine s_assoc (st_dl (bd hc.db (by first | decide | (clear h hc; revert k0_t5; decide))) ?_)
  refine s_assoc (ld_x (bx hc.xa (by first | decide | (clear h hc; revert k0_t5; decide))) ?_)
  refine s_assoc (s_pushW (oc true true false true) hm (by decide) fun m hm => ?_)
  refine s_assoc (ld_x (bx hc.xa (by first | decide | (clear h hc; revert k0_t5; decide))) ?_)
  refine s_assoc (s_pushW (oc true true true true) hm (by decide) fun m hm => ?_)
  refine s_pure ?_
  exact h _ _ _ hm ⟨hc.xa, hc.xb, hc.wa, hc.wb, hc.da, hc.db⟩

set_option maxRecDepth 65536 in
theorem q33 {k0_t5 : Fin k0_t5_loop.trips} {v1001_r0 : BitVec 32} {k0_mxu63 : Mxu F} {v1114_r0 : BitVec 32} {k : (Σ' (_ : Mxu F), BitVec 32) → Prog (TpuEff nD τ sig (Elt F) Λ₀ .tc) β} (hm : MxOk 64 (oc true true true true) (lv true true) k0_mxu63) (hc : Cnt s (13 + 3 * k0_t5.val) 48 12 12 0 (0 + k0_t5.val))
    (h : ∀ (r0 : Mxu F) (r1 : BitVec 32) (s' : St F) (_ : MxOk 64 (oc false true false true) (lv true true) r0) (_ : Cnt s' (13 + 3 * k0_t5.val) 48 12 12 0 (0 + k0_t5.val)), Res c vx vw PT s' iprop(SL c vid vws vxs ∗ R) ⊢ WP c (k ⟨r0, r1⟩) Q) :
    Res c vx vw PT s iprop(SL c vid vws vxs ∗ R) ⊢ WP c (app (k0_part33 (F := F)) k0_t5 v1001_r0 k0_mxu63 v1114_r0 >>= k) Q := by
  rw [k0_part33_eq_skeleton]
  unfold app k0_part33_skel
  refine s_assoc (ld_w (bv hc.wa (by first | decide | (clear h hc; revert k0_t5; decide))) ?_)
  refine s_assoc (ld_x (bx hc.xa (by first | decide | (clear h hc; revert k0_t5; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q34 {k0_t5 : Fin k0_t5_loop.trips} {v1001_r0 : BitVec 32} {k0_mxu69 : Mxu F} {v1142_r0 : BitVec 32} {k : (Σ' (_ : Mxu F), BitVec 32) → Prog (TpuEff nD τ sig (Elt F) Λ₀ .tc) β} (hm : MxOk 64 (oc false true false true) (lv true true) k0_mxu69) (hc : Cnt s (13 + 3 * k0_t5.val) 48 12 12 0 (0 + k0_t5.val))
    (h : ∀ (r0 : Mxu F) (r1 : BitVec 32) (s' : St F) (_ : MxOk 64 (oc true true true true) (lv true true) r0) (_ : Cnt s' ((13 + 3 * k0_t5.val) + 1) 48 12 12 0 (0 + k0_t5.val)), Res c vx vw PT s' iprop(SL c vid vws vxs ∗ R) ⊢ WP c (k ⟨r0, r1⟩) Q) :
    Res c vx vw PT s iprop(SL c vid vws vxs ∗ R) ⊢ WP c (app (k0_part34 (F := F)) k0_t5 v1001_r0 k0_mxu69 v1142_r0 >>= k) Q := by
  rw [k0_part34_eq_skeleton]
  unfold app k0_part34_skel
  refine s_assoc (wait_x (13 + 3 * k0_t5.val) (bw hc.xa hc.xb (by first | decide | (clear h hc; revert k0_t5; decide))) rfl (by first | decide | (clear h hc; revert k0_t5; decide)) ?_)
  refine s_assoc (ld_x (bx (rfl : _ = ((13 + 3 * k0_t5.val) + 1)) (by first | decide | (clear h hc; revert k0_t5; decide))) ?_)
  refine s_assoc (s_pushW (oc true true false true) hm (by decide) fun m hm => ?_)
  refine s_assoc (ld_x (bx (rfl : _ = ((13 + 3 * k0_t5.val) + 1)) (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_assoc (ld_x (bx (rfl : _ = ((13 + 3 * k0_t5.val) + 1)) (by first | decide | (clear h hc; revert k0_t5; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx (rfl : _ = ((13 + 3 * k0_t5.val) + 1)) (by first | decide | (clear h hc; revert k0_t5; decide))) ?_)
  refine s_assoc (s_pushW (oc true true true true) hm (by decide) fun m hm => ?_)
  refine s_pure ?_
  exact h _ _ _ hm ⟨(rfl : _ = ((13 + 3 * k0_t5.val) + 1)), hc.xb, hc.wa, hc.wb, hc.da, hc.db⟩

set_option maxRecDepth 65536 in
theorem q35 {k0_t5 : Fin k0_t5_loop.trips} {v1001_r0 : BitVec 32} {k0_mxu75 : Mxu F} {c12_i32_588_r0 : BitVec 32} {k : (Σ' (_ : Mxu F), BitVec 32) → Prog (TpuEff nD τ sig (Elt F) Λ₀ .tc) β} (hm : MxOk 64 (oc true true true true) (lv true true) k0_mxu75) (hc : Cnt s ((13 + 3 * k0_t5.val) + 1) 48 12 12 0 (0 + k0_t5.val))
    (h : ∀ (r0 : Mxu F) (r1 : BitVec 32) (s' : St F) (_ : MxOk 64 (oc true false true false) (lv true true) r0) (_ : Cnt s' ((13 + 3 * k0_t5.val) + 1) 48 12 12 0 (0 + k0_t5.val)), Res c vx vw PT s' iprop(SL c vid vws vxs ∗ R) ⊢ WP c (k ⟨r0, r1⟩) Q) :
    Res c vx vw PT s iprop(SL c vid vws vxs ∗ R) ⊢ WP c (app (k0_part35 (F := F)) k0_t5 v1001_r0 k0_mxu75 c12_i32_588_r0 >>= k) Q := by
  rw [k0_part35_eq_skeleton]
  unfold app k0_part35_skel
  refine s_assoc (ld_w (bv hc.wa (by first | decide | (clear h hc; revert k0_t5; decide))) ?_)
  refine s_assoc (ld_x (bx hc.xa (by first | decide | (clear h hc; revert k0_t5; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_pure ?_
  exact h _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q36 {k0_t5 : Fin k0_t5_loop.trips} {v1001_r0 : BitVec 32} {k0_mxu81 : Mxu F} {v1221_r0 : BitVec 32} {k : (Σ' (_ : Mxu F) (_ : BitVec 32), BitVec 32) → Prog (TpuEff nD τ sig (Elt F) Λ₀ .tc) β} (hm : MxOk 64 (oc true false true false) (lv true true) k0_mxu81) (hc : Cnt s ((13 + 3 * k0_t5.val) + 1) 48 12 12 0 (0 + k0_t5.val))
    (h : ∀ (r0 : Mxu F) (r1 : BitVec 32) (r2 : BitVec 32) (s' : St F) (_ : MxOk 64 (oc true true false true) (lv true true) r0) (_ : Cnt s' ((13 + 3 * k0_t5.val) + 2) 48 12 12 0 (0 + k0_t5.val)), Res c vx vw PT s' iprop(SL c vid vws vxs ∗ R) ⊢ WP c (k ⟨r0, r1, r2⟩) Q) :
    Res c vx vw PT s iprop(SL c vid vws vxs ∗ R) ⊢ WP c (app (k0_part36 (F := F)) k0_t5 v1001_r0 k0_mxu81 v1221_r0 >>= k) Q := by
  rw [k0_part36_eq_skeleton]
  unfold app k0_part36_skel
  refine s_assoc (ld_x (bx hc.xa (by first | decide | (clear h hc; revert k0_t5; decide))) ?_)
  refine s_assoc (s_pushW (oc true true true false) hm (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_assoc (wait_x ((13 + 3 * k0_t5.val) + 1) (bw hc.xa hc.xb (by first | decide | (clear h hc; revert k0_t5; decide))) rfl (by first | decide | (clear h hc; revert k0_t5; decide)) ?_)
  refine s_assoc (ld_x (bx (rfl : _ = ((13 + 3 * k0_t5.val) + 2)) (by first | decide | (clear h hc; revert k0_t5; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((13 + 3 * k0_t5.val) + 2)), hc.xb, hc.wa, hc.wb, hc.da, hc.db⟩

set_option maxRecDepth 65536 in
theorem q37 {k0_t5 : Fin k0_t5_loop.trips} {v1001_r0 : BitVec 32} {k0_mxu86 : Mxu F} {v1262_r0 : BitVec 32} {v1263_r0 : BitVec 32} {k : (Σ' (_ : Mxu F), BitVec 32) → Prog (TpuEff nD τ sig (Elt F) Λ₀ .tc) β} (hm : MxOk 64 (oc true true false true) (lv true true) k0_mxu86) (hc : Cnt s ((13 + 3 * k0_t5.val) + 2) 48 12 12 0 (0 + k0_t5.val))
    (h : ∀ (r0 : Mxu F) (r1 : BitVec 32) (s' : St F) (_ : MxOk 64 (oc false true false true) (lv true true) r0) (_ : Cnt s' ((13 + 3 * k0_t5.val) + 2) 48 12 12 0 (0 + k0_t5.val)), Res c vx vw PT s' iprop(SL c vid vws vxs ∗ R) ⊢ WP c (k ⟨r0, r1⟩) Q) :
    Res c vx vw PT s iprop(SL c vid vws vxs ∗ R) ⊢ WP c (app (k0_part37 (F := F)) k0_t5 v1001_r0 k0_mxu86 v1262_r0 v1263_r0 >>= k) Q := by
  rw [k0_part37_eq_skeleton]
  unfold app k0_part37_skel
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_assoc (ld_x (bx hc.xa (by first | decide | (clear h hc; revert k0_t5; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q38 {k0_t5 : Fin k0_t5_loop.trips} {v1001_r0 : BitVec 32} {k0_mxu93 : Mxu F} {v1300_r0 : BitVec 32} {k : (Σ' (_ : Mxu F) (_ : BitVec 32), BitVec 32) → Prog (TpuEff nD τ sig (Elt F) Λ₀ .tc) β} (hm : MxOk 64 (oc false true false true) (lv true true) k0_mxu93) (hc : Cnt s ((13 + 3 * k0_t5.val) + 2) 48 12 12 0 (0 + k0_t5.val))
    (h : ∀ (r0 : Mxu F) (r1 : BitVec 32) (r2 : BitVec 32) (s' : St F) (_ : MxOk 64 (oc true true true true) (lv true true) r0) (_ : Cnt s' ((13 + 3 * k0_t5.val) + 2) 48 12 12 0 (0 + k0_t5.val)), Res c vx vw PT s' iprop(SL c vid vws vxs ∗ R) ⊢ WP c (k ⟨r0, r1, r2⟩) Q) :
    Res c vx vw PT s iprop(SL c vid vws vxs ∗ R) ⊢ WP c (app (k0_part38 (F := F)) k0_t5 v1001_r0 k0_mxu93 v1300_r0 >>= k) Q := by
  rw [k0_part38_eq_skeleton]
  unfold app k0_part38_skel
  refine s_assoc (ld_x (bx hc.xa (by first | decide | (clear h hc; revert k0_t5; decide))) ?_)
  refine s_assoc (s_pushW (oc true true false true) hm (by decide) fun m hm => ?_)
  refine s_assoc (ld_x (bx hc.xa (by first | decide | (clear h hc; revert k0_t5; decide))) ?_)
  refine s_assoc (s_pushW (oc true true true true) hm (by decide) fun m hm => ?_)
  refine s_assoc (ld_w (bv hc.wa (by first | decide | (clear h hc; revert k0_t5; decide))) ?_)
  refine s_assoc (ld_x (bx hc.xa (by first | decide | (clear h hc; revert k0_t5; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t5; decide))) ?_)
  refine s_assoc (s_pushW (oc true true true true) hm (by decide) fun m hm => ?_)
  refine s_pure ?_
  exact h _ _ _ _ hm ⟨hc.xa, hc.xb, hc.wa, hc.wb, hc.da, hc.db⟩

set_option maxRecDepth 65536 in
theorem q39 {k0_t5 : Fin k0_t5_loop.trips} {v1001_r0 : BitVec 32} {k0_mxu99 : Mxu F} {v1338_r0 : BitVec 32} {c10_i32_654_r0 : BitVec 32} {k : (Σ' (_ : BitVec 32) (_ : Mxu F), BitVec 32) → Prog (TpuEff nD τ sig (Elt F) Λ₀ .tc) β} (hm : MxOk 64 (oc true true true true) (lv true true) k0_mxu99) (hc : Cnt s ((13 + 3 * k0_t5.val) + 2) 48 12 12 0 (0 + k0_t5.val))
    (h : ∀ (r0 : BitVec 32) (r1 : Mxu F) (r2 : BitVec 32) (s' : St F) (_ : MxOk 64 (oc true true false true) (lv true true) r1) (_ : Cnt s' ((13 + 3 * k0_t5.val) + 3) 48 12 12 0 (0 + k0_t5.val)), Res c vx vw PT s' iprop(SL c vid vws vxs ∗ R) ⊢ WP c (k ⟨r0, r1, r2⟩) Q) :
    Res c vx vw PT s iprop(SL c vid vws vxs ∗ R) ⊢ WP c (app (k0_part39 (F := F)) k0_t5 v1001_r0 k0_mxu99 v1338_r0 c10_i32_654_r0 >>= k) Q := by
  rw [k0_part39_eq_skeleton]
  unfold app k0_part39_skel
  refine s_assoc (ld_w (bv hc.wa (by first | decide | (clear h hc; revert k0_t5; decide))) ?_)
  refine s_assoc (wait_x ((13 + 3 * k0_t5.val) + 2) (bw hc.xa hc.xb (by first | decide | (clear h hc; revert k0_t5; decide))) rfl (by first | decide | (clear h hc; revert k0_t5; decide)) ?_)
  refine s_assoc (ld_x (bx (rfl : _ = ((13 + 3 * k0_t5.val) + 3)) (by first | decide | (clear h hc; revert k0_t5; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((13 + 3 * k0_t5.val) + 3)), hc.xb, hc.wa, hc.wb, hc.da, hc.db⟩

set_option maxRecDepth 65536 in
theorem bt5 {k0_mxu55 : Mxu F} {v221_r0 : FVec F S256x128 .f32} {k0_t5 : Fin k0_t5_loop.trips} {m : Mxu F} (hm : MxOk 64 (oc true false true false) (lv true true) m) (hc : Cnt s (13 + 3 * k0_t5.val) 48 12 12 0 (0 + k0_t5.val)) :
    Res c vx vw PT s iprop(SL c vid vws vxs ∗ R) ⊢ WP c (app (k0_t5_body (F := F)) k0_mxu55 v221_r0 k0_t5 m)
      (fun m' => iprop(∃ s', ⌜MxOk 64 (oc true false true false) (lv true true) m' ∧ Cnt s' (13 + 3 * (k0_t5.val + 1)) 48 12 12 0 (0 + (k0_t5.val + 1))⌝ ∗ Res c vx vw PT s' iprop(SL c vid vws vxs ∗ R))) := by
  unfold app k0_t5_body
  refine q30 hm hc fun r0 r1 r2 r3 r4 s' hm hc' => ?_
  clear hc; have hc := hc'; clear hc'
  refine q31 hc fun r0 r1 r2 r3 s' hc' => ?_
  clear hc; have hc := hc'; clear hc'
  refine q32 hm hc fun r0 r1 s' hm hc' => ?_
  clear hc; have hc := hc'; clear hc'
  refine q33 hm hc fun r0 r1 s' hm hc' => ?_
  clear hc; have hc := hc'; clear hc'
  refine q34 hm hc fun r0 r1 s' hm hc' => ?_
  clear hc; have hc := hc'; clear hc'
  refine q35 hm hc fun r0 r1 s' hm hc' => ?_
  clear hc; have hc := hc'; clear hc'
  refine q36 hm hc fun r0 r1 r2 s' hm hc' => ?_
  clear hc; have hc := hc'; clear hc'
  refine q37 hm hc fun r0 r1 s' hm hc' => ?_
  clear hc; have hc := hc'; clear hc'
  refine q38 hm hc fun r0 r1 r2 s' hm hc' => ?_
  clear hc; have hc := hc'; clear hc'
  refine q39 hm hc fun r0 r1 r2 s' hm hc' => ?_
  clear hc; have hc := hc'; clear hc'
  refine ld_x (bx hc.xa (by first | decide | (clear hc; revert k0_t5; decide))) ?_
  refine s_pushW (oc true true true true) hm (by decide) fun m hm => ?_
  refine ld_w (bv hc.wa (by first | decide | (clear hc; revert k0_t5; decide))) ?_
  refine start_d (0 + k0_t5.val) (bs hc.da hc.db (by first | decide | (clear hc; revert k0_t5; decide))) (by first | decide | (clear hc; revert k0_t5; decide)) (by first | decide | (clear hc; revert k0_t5; decide)) (by first | decide | (clear hc; revert k0_t5; decide)) (by first | decide | (clear hc; revert k0_t5; decide)) (fun _ _ => trivial) ?_
  exact s_trip ⟨(MxOk.acc (o' := (oc true false true false)) (l' := (lv true true)) (MxOk.acc (o' := (oc true false true true)) (l' := (lv true true)) hm (by decide) (by decide)) (by decide) (by decide)), ⟨(Eq.trans hc.xa (by first | omega | (clear hc; revert k0_t5; decide))), hc.xb, hc.wa, hc.wb, hc.da, (Eq.trans (rfl : _ = ((0 + k0_t5.val) + 1)) (by first | omega | (clear hc; revert k0_t5; decide)))⟩⟩

end Cert.KernelIdeal.Hand

end
-- ==== Proof.KI.P3.lean ====
/-
# The third tokens' trip
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q40 {c0_i32_151_r0 : BitVec 32} {c1_i32_153_r0 : BitVec 32} {k0_t6 : Fin k0_t6_loop.trips} {k0_mxu108 : Mxu F} {k : (Σ' (_ : BitVec 32) (_ : Mxu F) (_ : BitVec 32) (_ : FVec F S1x128 .f32), FVec F S256x128 .f32) → Prog (TpuEff nD τ sig (Elt F) Λ₀ .tc) β} (hm : MxOk 128 (oc true false true false) (lv true true) k0_mxu108) (hc : Cnt s (25 + 3 * k0_t6.val) 48 12 12 0 (4 + k0_t6.val))
    (h : ∀ (r0 : BitVec 32) (r1 : Mxu F) (r2 : BitVec 32) (r3 : FVec F S1x128 .f32) (r4 : FVec F S256x128 .f32) (s' : St F) (_ : MxOk 128 (oc false true false true) (lv true true) r1) (_ : Cnt s' (25 + 3 * k0_t6.val) 48 12 12 0 (4 + k0_t6.val)), Res c vx vw PT s' iprop(SL c vid vws vxs ∗ R) ⊢ WP c (k ⟨r0, r1, r2, r3, r4⟩) Q) :
    Res c vx vw PT s iprop(SL c vid vws vxs ∗ R) ⊢ WP c (app (k0_part40 (F := F)) c0_i32_151_r0 c1_i32_153_r0 k0_t6 k0_mxu108 >>= k) Q := by
  rw [k0_part40_eq_skeleton]
  unfold app k0_part40_skel
  refine s_assoc (ld_x (bx hc.xa (by first | decide | (clear h hc; revert k0_t6; decide))) ?_)
  refine s_assoc (s_pushW (oc true true true false) hm (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_assoc (ld_zt ?_)
  refine s_pure ?_
  exact h _ _ _ _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q41 {k0_t6 : Fin k0_t6_loop.trips} {v1027_r0 : BitVec 32} {v1032_r0 : FVec F S1x128 .f32} {v1035_r0 : FVec F S256x128 .f32} {k : (Σ' (_ : FVec F S1x128 .f32) (_ : FVec F S1x128 .f32) (_ : FVec F S256x128 .f32), Vec F S256x128 .f32) → Prog (TpuEff nD τ sig (Elt F) Λ₀ .tc) β} (hc : Cnt s (25 + 3 * k0_t6.val) 48 12 12 0 (4 + k0_t6.val))
    (h : ∀ (r0 : FVec F S1x128 .f32) (r1 : FVec F S1x128 .f32) (r2 : FVec F S256x128 .f32) (r3 : Vec F S256x128 .f32) (s' : St F) (_ : Cnt s' (25 + 3 * k0_t6.val) 48 12 12 0 (4 + k0_t6.val)), Res c vx vw PT s' iprop(SL c vid vws vxs ∗ R) ⊢ WP c (k ⟨r0, r1, r2, r3⟩) Q) :
    Res c vx vw PT s iprop(SL c vid vws vxs ∗ R) ⊢ WP c (app (k0_part41 (F := F)) k0_t6 v1027_r0 v1032_r0 v1035_r0 >>= k) Q := by
  rw [k0_part41_eq_skeleton]
  unfold app k0_part41_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩

set_option maxRecDepth 65536 in
theorem q42 {k0_t6 : Fin k0_t6_loop.trips} {v1001_r0 : BitVec 32} {k0_mxu113 : Mxu F} {v1044_r0 : FVec F S1x128 .f32} {v1049_r0 : FVec F S1x128 .f32} {v1067_r0 : FVec F S256x128 .f32} {v1073_r0 : Vec F S256x128 .f32} {k : (Σ' (_ : Mxu F), BitVec 32) → Prog (TpuEff nD τ sig (Elt F) Λ₀ .tc) β} (hm : MxOk 128 (oc false true false true) (lv true true) k0_mxu113) (hc : Cnt s (25 + 3 * k0_t6.val) 48 12 12 0 (4 + k0_t6.val))
    (h : ∀ (r0 : Mxu F) (r1 : BitVec 32) (s' : St F) (_ : MxOk 128 (oc true true true true) (lv true true) r0) (_ : Cnt s' (25 + 3 * k0_t6.val) 48 12 12 0 (4 + k0_t6.val)), Res c vx vw PT s' iprop(SL c vid vws vxs ∗ R) ⊢ WP c (k ⟨r0, r1⟩) Q) :
    Res c vx vw PT s iprop(SL c vid vws vxs ∗ R) ⊢ WP c (app (k0_part42 (F := F)) k0_t6 v1001_r0 k0_mxu113 v1044_r0 v1049_r0 v1067_r0 v1073_r0 >>= k) Q := by
  rw [k0_part42_eq_skeleton]
  unfold app k0_part42_skel
  refine s_assoc (ld_dl (bd hc.db (by first | decide | (clear h hc; revert k0_t6; decide))) ?_)
  refine s_assoc (st_dl (bd hc.db (by first | decide | (clear h hc; revert k0_t6; decide))) ?_)
  refine s_assoc (ld_dl (bd hc.db (by first | decide | (clear h hc; revert k0_t6; decide))) ?_)
  refine s_assoc (st_dl (bd hc.db (by first | decide | (clear h hc; revert k0_t6; decide))) ?_)
  refine s_assoc (ld_x (bx hc.xa (by first | decide | (clear h hc; revert k0_t6; decide))) ?_)
  refine s_assoc (s_pushW (oc true true false true) hm (by decide) fun m hm => ?_)
  refine s_assoc (ld_x (bx hc.xa (by first | decide | (clear h hc; revert k0_t6; decide))) ?_)
  refine s_assoc (s_pushW (oc true true true true) hm (by decide) fun m hm => ?_)
  refine s_pure ?_
  exact h _ _ _ hm ⟨hc.xa, hc.xb, hc.wa, hc.wb, hc.da, hc.db⟩

set_option maxRecDepth 65536 in
theorem q43 {k0_t6 : Fin k0_t6_loop.trips} {v1001_r0 : BitVec 32} {k0_mxu115 : Mxu F} {v1114_r0 : BitVec 32} {k : (Σ' (_ : Mxu F), BitVec 32) → Prog (TpuEff nD τ sig (Elt F) Λ₀ .tc) β} (hm : MxOk 128 (oc true true true true) (lv true true) k0_mxu115) (hc : Cnt s (25 + 3 * k0_t6.val) 48 12 12 0 (4 + k0_t6.val))
    (h : ∀ (r0 : Mxu F) (r1 : BitVec 32) (s' : St F) (_ : MxOk 128 (oc false true false true) (lv true true) r0) (_ : Cnt s' (25 + 3 * k0_t6.val) 48 12 12 0 (4 + k0_t6.val)), Res c vx vw PT s' iprop(SL c vid vws vxs ∗ R) ⊢ WP c (k ⟨r0, r1⟩) Q) :
    Res c vx vw PT s iprop(SL c vid vws vxs ∗ R) ⊢ WP c (app (k0_part43 (F := F)) k0_t6 v1001_r0 k0_mxu115 v1114_r0 >>= k) Q := by
  rw [k0_part43_eq_skeleton]
  unfold app k0_part43_skel
  refine s_assoc (ld_w (bv hc.wa (by first | decide | (clear h hc; revert k0_t6; decide))) ?_)
  refine s_assoc (ld_x (bx hc.xa (by first | decide | (clear h hc; revert k0_t6; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q44 {k0_t6 : Fin k0_t6_loop.trips} {v1001_r0 : BitVec 32} {k0_mxu121 : Mxu F} {v1142_r0 : BitVec 32} {k : (Σ' (_ : Mxu F), BitVec 32) → Prog (TpuEff nD τ sig (Elt F) Λ₀ .tc) β} (hm : MxOk 128 (oc false true false true) (lv true true) k0_mxu121) (hc : Cnt s (25 + 3 * k0_t6.val) 48 12 12 0 (4 + k0_t6.val))
    (h : ∀ (r0 : Mxu F) (r1 : BitVec 32) (s' : St F) (_ : MxOk 128 (oc true true true true) (lv true true) r0) (_ : Cnt s' ((25 + 3 * k0_t6.val) + 1) 48 12 12 0 (4 + k0_t6.val)), Res c vx vw PT s' iprop(SL c vid vws vxs ∗ R) ⊢ WP c (k ⟨r0, r1⟩) Q) :
    Res c vx vw PT s iprop(SL c vid vws vxs ∗ R) ⊢ WP c (app (k0_part44 (F := F)) k0_t6 v1001_r0 k0_mxu121 v1142_r0 >>= k) Q := by
  rw [k0_part44_eq_skeleton]
  unfold app k0_part44_skel
  refine s_assoc (wait_x (25 + 3 * k0_t6.val) (bw hc.xa hc.xb (by first | decide | (clear h hc; revert k0_t6; decide))) rfl (by first | decide | (clear h hc; revert k0_t6; decide)) ?_)
  refine s_assoc (ld_x (bx (rfl : _ = ((25 + 3 * k0_t6.val) + 1)) (by first | decide | (clear h hc; revert k0_t6; decide))) ?_)
  refine s_assoc (s_pushW (oc true true false true) hm (by decide) fun m hm => ?_)
  refine s_assoc (ld_x (bx (rfl : _ = ((25 + 3 * k0_t6.val) + 1)) (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_assoc (ld_x (bx (rfl : _ = ((25 + 3 * k0_t6.val) + 1)) (by first | decide | (clear h hc; revert k0_t6; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx (rfl : _ = ((25 + 3 * k0_t6.val) + 1)) (by first | decide | (clear h hc; revert k0_t6; decide))) ?_)
  refine s_assoc (s_pushW (oc true true true true) hm (by decide) fun m hm => ?_)
  refine s_pure ?_
  exact h _ _ _ hm ⟨(rfl : _ = ((25 + 3 * k0_t6.val) + 1)), hc.xb, hc.wa, hc.wb, hc.da, hc.db⟩

set_option maxRecDepth 65536 in
theorem q45 {k0_t6 : Fin k0_t6_loop.trips} {v1001_r0 : BitVec 32} {k0_mxu127 : Mxu F} {c12_i32_587_r0 : BitVec 32} {k : (Σ' (_ : Mxu F), BitVec 32) → Prog (TpuEff nD τ sig (Elt F) Λ₀ .tc) β} (hm : MxOk 128 (oc true true true true) (lv true true) k0_mxu127) (hc : Cnt s ((25 + 3 * k0_t6.val) + 1) 48 12 12 0 (4 + k0_t6.val))
    (h : ∀ (r0 : Mxu F) (r1 : BitVec 32) (s' : St F) (_ : MxOk 128 (oc true false true false) (lv true true) r0) (_ : Cnt s' ((25 + 3 * k0_t6.val) + 1) 48 12 12 0 (4 + k0_t6.val)), Res c vx vw PT s' iprop(SL c vid vws vxs ∗ R) ⊢ WP c (k ⟨r0, r1⟩) Q) :
    Res c vx vw PT s iprop(SL c vid vws vxs ∗ R) ⊢ WP c (app (k0_part45 (F := F)) k0_t6 v1001_r0 k0_mxu127 c12_i32_587_r0 >>= k) Q := by
  rw [k0_part45_eq_skeleton]
  unfold app k0_part45_skel
  refine s_assoc (ld_w (bv hc.wa (by first | decide | (clear h hc; revert k0_t6; decide))) ?_)
  refine s_assoc (ld_x (bx hc.xa (by first | decide | (clear h hc; revert k0_t6; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_pure ?_
  exact h _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q46 {k0_t6 : Fin k0_t6_loop.trips} {v1001_r0 : BitVec 32} {k0_mxu133 : Mxu F} {v1221_r0 : BitVec 32} {k : (Σ' (_ : Mxu F) (_ : BitVec 32), BitVec 32) → Prog (TpuEff nD τ sig (Elt F) Λ₀ .tc) β} (hm : MxOk 128 (oc true false true false) (lv true true) k0_mxu133) (hc : Cnt s ((25 + 3 * k0_t6.val) + 1) 48 12 12 0 (4 + k0_t6.val))
    (h : ∀ (r0 : Mxu F) (r1 : BitVec 32) (r2 : BitVec 32) (s' : St F) (_ : MxOk 128 (oc true true false true) (lv true true) r0) (_ : Cnt s' ((25 + 3 * k0_t6.val) + 2) 48 12 12 0 (4 + k0_t6.val)), Res c vx vw PT s' iprop(SL c vid vws vxs ∗ R) ⊢ WP c (k ⟨r0, r1, r2⟩) Q) :
    Res c vx vw PT s iprop(SL c vid vws vxs ∗ R) ⊢ WP c (app (k0_part46 (F := F)) k0_t6 v1001_r0 k0_mxu133 v1221_r0 >>= k) Q := by
  rw [k0_part46_eq_skeleton]
  unfold app k0_part46_skel
  refine s_assoc (ld_x (bx hc.xa (by first | decide | (clear h hc; revert k0_t6; decide))) ?_)
  refine s_assoc (s_pushW (oc true true true false) hm (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_assoc (wait_x ((25 + 3 * k0_t6.val) + 1) (bw hc.xa hc.xb (by first | decide | (clear h hc; revert k0_t6; decide))) rfl (by first | decide | (clear h hc; revert k0_t6; decide)) ?_)
  refine s_assoc (ld_x (bx (rfl : _ = ((25 + 3 * k0_t6.val) + 2)) (by first | decide | (clear h hc; revert k0_t6; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((25 + 3 * k0_t6.val) + 2)), hc.xb, hc.wa, hc.wb, hc.da, hc.db⟩

set_option maxRecDepth 65536 in
theorem q47 {k0_t6 : Fin k0_t6_loop.trips} {v1001_r0 : BitVec 32} {k0_mxu138 : Mxu F} {v1262_r0 : BitVec 32} {v1263_r0 : BitVec 32} {k : (Σ' (_ : Mxu F), BitVec 32) → Prog (TpuEff nD τ sig (Elt F) Λ₀ .tc) β} (hm : MxOk 128 (oc true true false true) (lv true true) k0_mxu138) (hc : Cnt s ((25 + 3 * k0_t6.val) + 2) 48 12 12 0 (4 + k0_t6.val))
    (h : ∀ (r0 : Mxu F) (r1 : BitVec 32) (s' : St F) (_ : MxOk 128 (oc false true false true) (lv true true) r0) (_ : Cnt s' ((25 + 3 * k0_t6.val) + 2) 48 12 12 0 (4 + k0_t6.val)), Res c vx vw PT s' iprop(SL c vid vws vxs ∗ R) ⊢ WP c (k ⟨r0, r1⟩) Q) :
    Res c vx vw PT s iprop(SL c vid vws vxs ∗ R) ⊢ WP c (app (k0_part47 (F := F)) k0_t6 v1001_r0 k0_mxu138 v1262_r0 v1263_r0 >>= k) Q := by
  rw [k0_part47_eq_skeleton]
  unfold app k0_part47_skel
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_assoc (ld_x (bx hc.xa (by first | decide | (clear h hc; revert k0_t6; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q48 {k0_t6 : Fin k0_t6_loop.trips} {v1001_r0 : BitVec 32} {k0_mxu145 : Mxu F} {v1300_r0 : BitVec 32} {k : (Σ' (_ : Mxu F) (_ : BitVec 32), BitVec 32) → Prog (TpuEff nD τ sig (Elt F) Λ₀ .tc) β} (hm : MxOk 128 (oc false true false true) (lv true true) k0_mxu145) (hc : Cnt s ((25 + 3 * k0_t6.val) + 2) 48 12 12 0 (4 + k0_t6.val))
    (h : ∀ (r0 : Mxu F) (r1 : BitVec 32) (r2 : BitVec 32) (s' : St F) (_ : MxOk 128 (oc true true true true) (lv true true) r0) (_ : Cnt s' ((25 + 3 * k0_t6.val) + 2) 48 12 12 0 (4 + k0_t6.val)), Res c vx vw PT s' iprop(SL c vid vws vxs ∗ R) ⊢ WP c (k ⟨r0, r1, r2⟩) Q) :
    Res c vx vw PT s iprop(SL c vid vws vxs ∗ R) ⊢ WP c (app (k0_part48 (F := F)) k0_t6 v1001_r0 k0_mxu145 v1300_r0 >>= k) Q := by
  rw [k0_part48_eq_skeleton]
  unfold app k0_part48_skel
  refine s_assoc (ld_x (bx hc.xa (by first | decide | (clear h hc; revert k0_t6; decide))) ?_)
  refine s_assoc (s_pushW (oc true true false true) hm (by decide) fun m hm => ?_)
  refine s_assoc (ld_x (bx hc.xa (by first | decide | (clear h hc; revert k0_t6; decide))) ?_)
  refine s_assoc (s_pushW (oc true true true true) hm (by decide) fun m hm => ?_)
  refine s_assoc (ld_w (bv hc.wa (by first | decide | (clear h hc; revert k0_t6; decide))) ?_)
  refine s_assoc (ld_x (bx hc.xa (by first | decide | (clear h hc; revert k0_t6; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t6; decide))) ?_)
  refine s_assoc (s_pushW (oc true true true true) hm (by decide) fun m hm => ?_)
  refine s_pure ?_
  exact h _ _ _ _ hm ⟨hc.xa, hc.xb, hc.wa, hc.wb, hc.da, hc.db⟩

set_option maxRecDepth 65536 in
theorem q49 {k0_t6 : Fin k0_t6_loop.trips} {v1001_r0 : BitVec 32} {k0_mxu151 : Mxu F} {v1338_r0 : BitVec 32} {c10_i32_653_r0 : BitVec 32} {k : (Σ' (_ : BitVec 32) (_ : Mxu F), BitVec 32) → Prog (TpuEff nD τ sig (Elt F) Λ₀ .tc) β} (hm : MxOk 128 (oc true true true true) (lv true true) k0_mxu151) (hc : Cnt s ((25 + 3 * k0_t6.val) + 2) 48 12 12 0 (4 + k0_t6.val))
    (h : ∀ (r0 : BitVec 32) (r1 : Mxu F) (r2 : BitVec 32) (s' : St F) (_ : MxOk 128 (oc true true false true) (lv true true) r1) (_ : Cnt s' ((25 + 3 * k0_t6.val) + 3) 48 12 12 0 (4 + k0_t6.val)), Res c vx vw PT s' iprop(SL c vid vws vxs ∗ R) ⊢ WP c (k ⟨r0, r1, r2⟩) Q) :
    Res c vx vw PT s iprop(SL c vid vws vxs ∗ R) ⊢ WP c (app (k0_part49 (F := F)) k0_t6 v1001_r0 k0_mxu151 v1338_r0 c10_i32_653_r0 >>= k) Q := by
  rw [k0_part49_eq_skeleton]
  unfold app k0_part49_skel
  refine s_assoc (ld_w (bv hc.wa (by first | decide | (clear h hc; revert k0_t6; decide))) ?_)
  refine s_assoc (wait_x ((25 + 3 * k0_t6.val) + 2) (bw hc.xa hc.xb (by first | decide | (clear h hc; revert k0_t6; decide))) rfl (by first | decide | (clear h hc; revert k0_t6; decide)) ?_)
  refine s_assoc (ld_x (bx (rfl : _ = ((25 + 3 * k0_t6.val) + 3)) (by first | decide | (clear h hc; revert k0_t6; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((25 + 3 * k0_t6.val) + 3)), hc.xb, hc.wa, hc.wb, hc.da, hc.db⟩

set_option maxRecDepth 65536 in
theorem bt6 {v247_r0 : FVec F S256x256 .f32} {k0_mxu107 : Mxu F} {v248_r0 : FVec F S256x128 .f32} {v250_r0 : FVec F S256x128 .f32} {k0_t6 : Fin k0_t6_loop.trips} {m : Mxu F} (hm : MxOk 128 (oc true false true false) (lv true true) m) (hc : Cnt s (25 + 3 * k0_t6.val) 48 12 12 0 (4 + k0_t6.val)) :
    Res c vx vw PT s iprop(SL c vid vws vxs ∗ R) ⊢ WP c (app (k0_t6_body (F := F)) v247_r0 k0_mxu107 v248_r0 v250_r0 k0_t6 m)
      (fun m' => iprop(∃ s', ⌜MxOk 128 (oc true false true false) (lv true true) m' ∧ Cnt s' (25 + 3 * (k0_t6.val + 1)) 48 12 12 0 (4 + (k0_t6.val + 1))⌝ ∗ Res c vx vw PT s' iprop(SL c vid vws vxs ∗ R))) := by
  unfold app k0_t6_body
  refine q40 hm hc fun r0 r1 r2 r3 r4 s' hm hc' => ?_
  clear hc; have hc := hc'; clear hc'
  refine q41 hc fun r0 r1 r2 r3 s' hc' => ?_
  clear hc; have hc := hc'; clear hc'
  refine q42 hm hc fun r0 r1 s' hm hc' => ?_
  clear hc; have hc := hc'; clear hc'
  refine q43 hm hc fun r0 r1 s' hm hc' => ?_
  clear hc; have hc := hc'; clear hc'
  refine q44 hm hc fun r0 r1 s' hm hc' => ?_
  clear hc; have hc := hc'; clear hc'
  refine q45 hm hc fun r0 r1 s' hm hc' => ?_
  clear hc; have hc := hc'; clear hc'
  refine q46 hm hc fun r0 r1 r2 s' hm hc' => ?_
  clear hc; have hc := hc'; clear hc'
  refine q47 hm hc fun r0 r1 s' hm hc' => ?_
  clear hc; have hc := hc'; clear hc'
  refine q48 hm hc fun r0 r1 r2 s' hm hc' => ?_
  clear hc; have hc := hc'; clear hc'
  refine q49 hm hc fun r0 r1 r2 s' hm hc' => ?_
  clear hc; have hc := hc'; clear hc'
  refine ld_x (bx hc.xa (by first | decide | (clear hc; revert k0_t6; decide))) ?_
  refine s_pushW (oc true true true true) hm (by decide) fun m hm => ?_
  refine ld_w (bv hc.wa (by first | decide | (clear hc; revert k0_t6; decide))) ?_
  refine start_d (4 + k0_t6.val) (bs hc.da hc.db (by first | decide | (clear hc; revert k0_t6; decide))) (by first | decide | (clear hc; revert k0_t6; decide)) (by first | decide | (clear hc; revert k0_t6; decide)) (by first | decide | (clear hc; revert k0_t6; decide)) (by first | decide | (clear hc; revert k0_t6; decide)) (fun _ _ => trivial) ?_
  exact s_trip ⟨(MxOk.acc (o' := (oc true false true false)) (l' := (lv true true)) (MxOk.acc (o' := (oc true false true true)) (l' := (lv true true)) hm (by decide) (by decide)) (by decide) (by decide)), ⟨(Eq.trans hc.xa (by first | omega | (clear hc; revert k0_t6; decide))), hc.xb, hc.wa, hc.wb, hc.da, (Eq.trans (rfl : _ = ((4 + k0_t6.val) + 1)) (by first | omega | (clear hc; revert k0_t6; decide)))⟩⟩

end Cert.KernelIdeal.Hand

end
-- ==== Proof.KI.P4.lean ====
/-
# The last tokens' trip
-/
module

public import proofs.«01_k».proof.Proof.KI.Part

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q50 {c0_i32_183_r0 : BitVec 32} {c1_i32_185_r0 : BitVec 32} {k0_t7 : Fin k0_t7_loop.trips} {k0_mxu160 : Mxu F} {k : (Σ' (_ : BitVec 32) (_ : Mxu F) (_ : BitVec 32) (_ : FVec F S1x128 .f32), FVec F S256x128 .f32) → Prog (TpuEff nD τ sig (Elt F) Λ₀ .tc) β} (hm : MxOk 192 (oc true false true false) (lv true true) k0_mxu160) (hc : Cnt s (37 + 3 * k0_t7.val) 48 12 12 0 (8 + k0_t7.val))
    (h : ∀ (r0 : BitVec 32) (r1 : Mxu F) (r2 : BitVec 32) (r3 : FVec F S1x128 .f32) (r4 : FVec F S256x128 .f32) (s' : St F) (_ : MxOk 192 (oc false true false true) (lv true true) r1) (_ : Cnt s' (37 + 3 * k0_t7.val) 48 12 12 0 (8 + k0_t7.val)), Res c vx vw PT s' iprop(SL c vid vws vxs ∗ R) ⊢ WP c (k ⟨r0, r1, r2, r3, r4⟩) Q) :
    Res c vx vw PT s iprop(SL c vid vws vxs ∗ R) ⊢ WP c (app (k0_part50 (F := F)) c0_i32_183_r0 c1_i32_185_r0 k0_t7 k0_mxu160 >>= k) Q := by
  rw [k0_part50_eq_skeleton]
  unfold app k0_part50_skel
  refine s_assoc (ld_x (bx hc.xa (by first | decide | (clear h hc; revert k0_t7; decide))) ?_)
  refine s_assoc (s_pushW (oc true true true false) hm (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_assoc (ld_zt ?_)
  refine s_pure ?_
  exact h _ _ _ _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q51 {k0_t7 : Fin k0_t7_loop.trips} {v1027_r0 : BitVec 32} {v1032_r0 : FVec F S1x128 .f32} {v1035_r0 : FVec F S256x128 .f32} {k : (Σ' (_ : FVec F S1x128 .f32) (_ : FVec F S1x128 .f32) (_ : FVec F S256x128 .f32), Vec F S256x128 .f32) → Prog (TpuEff nD τ sig (Elt F) Λ₀ .tc) β} (hc : Cnt s (37 + 3 * k0_t7.val) 48 12 12 0 (8 + k0_t7.val))
    (h : ∀ (r0 : FVec F S1x128 .f32) (r1 : FVec F S1x128 .f32) (r2 : FVec F S256x128 .f32) (r3 : Vec F S256x128 .f32) (s' : St F) (_ : Cnt s' (37 + 3 * k0_t7.val) 48 12 12 0 (8 + k0_t7.val)), Res c vx vw PT s' iprop(SL c vid vws vxs ∗ R) ⊢ WP c (k ⟨r0, r1, r2, r3⟩) Q) :
    Res c vx vw PT s iprop(SL c vid vws vxs ∗ R) ⊢ WP c (app (k0_part51 (F := F)) k0_t7 v1027_r0 v1032_r0 v1035_r0 >>= k) Q := by
  rw [k0_part51_eq_skeleton]
  unfold app k0_part51_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zo ?_)
  refine s_assoc (ld_lse ?_)
  refine s_assoc (st_lse ?_)
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩

set_option maxRecDepth 65536 in
theorem q52 {k0_t7 : Fin k0_t7_loop.trips} {v1001_r0 : BitVec 32} {k0_mxu165 : Mxu F} {v1044_r0 : FVec F S1x128 .f32} {v1049_r0 : FVec F S1x128 .f32} {v1067_r0 : FVec F S256x128 .f32} {v1073_r0 : Vec F S256x128 .f32} {k : (Σ' (_ : Mxu F), BitVec 32) → Prog (TpuEff nD τ sig (Elt F) Λ₀ .tc) β} (hm : MxOk 192 (oc false true false true) (lv true true) k0_mxu165) (hc : Cnt s (37 + 3 * k0_t7.val) 48 12 12 0 (8 + k0_t7.val))
    (h : ∀ (r0 : Mxu F) (r1 : BitVec 32) (s' : St F) (_ : MxOk 192 (oc true true true true) (lv true true) r0) (_ : Cnt s' (37 + 3 * k0_t7.val) 48 12 12 0 (8 + k0_t7.val)), Res c vx vw PT s' iprop(SL c vid vws vxs ∗ R) ⊢ WP c (k ⟨r0, r1⟩) Q) :
    Res c vx vw PT s iprop(SL c vid vws vxs ∗ R) ⊢ WP c (app (k0_part52 (F := F)) k0_t7 v1001_r0 k0_mxu165 v1044_r0 v1049_r0 v1067_r0 v1073_r0 >>= k) Q := by
  rw [k0_part52_eq_skeleton]
  unfold app k0_part52_skel
  refine s_assoc (ld_dl (bd hc.db (by first | decide | (clear h hc; revert k0_t7; decide))) ?_)
  refine s_assoc (st_dl (bd hc.db (by first | decide | (clear h hc; revert k0_t7; decide))) ?_)
  refine s_assoc (ld_dl (bd hc.db (by first | decide | (clear h hc; revert k0_t7; decide))) ?_)
  refine s_assoc (st_dl (bd hc.db (by first | decide | (clear h hc; revert k0_t7; decide))) ?_)
  refine s_assoc (ld_x (bx hc.xa (by first | decide | (clear h hc; revert k0_t7; decide))) ?_)
  refine s_assoc (s_pushW (oc true true false true) hm (by decide) fun m hm => ?_)
  refine s_assoc (ld_x (bx hc.xa (by first | decide | (clear h hc; revert k0_t7; decide))) ?_)
  refine s_assoc (s_pushW (oc true true true true) hm (by decide) fun m hm => ?_)
  refine s_pure ?_
  exact h _ _ _ hm ⟨hc.xa, hc.xb, hc.wa, hc.wb, hc.da, hc.db⟩

set_option maxRecDepth 65536 in
theorem q53 {k0_t7 : Fin k0_t7_loop.trips} {v1001_r0 : BitVec 32} {k0_mxu167 : Mxu F} {v1114_r0 : BitVec 32} {k : (Σ' (_ : Mxu F), BitVec 32) → Prog (TpuEff nD τ sig (Elt F) Λ₀ .tc) β} (hm : MxOk 192 (oc true true true true) (lv true true) k0_mxu167) (hc : Cnt s (37 + 3 * k0_t7.val) 48 12 12 0 (8 + k0_t7.val))
    (h : ∀ (r0 : Mxu F) (r1 : BitVec 32) (s' : St F) (_ : MxOk 192 (oc false true false true) (lv true true) r0) (_ : Cnt s' (37 + 3 * k0_t7.val) 48 12 12 0 (8 + k0_t7.val)), Res c vx vw PT s' iprop(SL c vid vws vxs ∗ R) ⊢ WP c (k ⟨r0, r1⟩) Q) :
    Res c vx vw PT s iprop(SL c vid vws vxs ∗ R) ⊢ WP c (app (k0_part53 (F := F)) k0_t7 v1001_r0 k0_mxu167 v1114_r0 >>= k) Q := by
  rw [k0_part53_eq_skeleton]
  unfold app k0_part53_skel
  refine s_assoc (ld_w (bv hc.wa (by first | decide | (clear h hc; revert k0_t7; decide))) ?_)
  refine s_assoc (ld_x (bx hc.xa (by first | decide | (clear h hc; revert k0_t7; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q54 {k0_t7 : Fin k0_t7_loop.trips} {v1001_r0 : BitVec 32} {k0_mxu173 : Mxu F} {v1142_r0 : BitVec 32} {k : (Σ' (_ : Mxu F), BitVec 32) → Prog (TpuEff nD τ sig (Elt F) Λ₀ .tc) β} (hm : MxOk 192 (oc false true false true) (lv true true) k0_mxu173) (hc : Cnt s (37 + 3 * k0_t7.val) 48 12 12 0 (8 + k0_t7.val))
    (h : ∀ (r0 : Mxu F) (r1 : BitVec 32) (s' : St F) (_ : MxOk 192 (oc true true true true) (lv true true) r0) (_ : Cnt s' ((37 + 3 * k0_t7.val) + 1) 48 12 12 0 (8 + k0_t7.val)), Res c vx vw PT s' iprop(SL c vid vws vxs ∗ R) ⊢ WP c (k ⟨r0, r1⟩) Q) :
    Res c vx vw PT s iprop(SL c vid vws vxs ∗ R) ⊢ WP c (app (k0_part54 (F := F)) k0_t7 v1001_r0 k0_mxu173 v1142_r0 >>= k) Q := by
  rw [k0_part54_eq_skeleton]
  unfold app k0_part54_skel
  refine s_assoc (wait_x (37 + 3 * k0_t7.val) (bw hc.xa hc.xb (by first | decide | (clear h hc; revert k0_t7; decide))) rfl (by first | decide | (clear h hc; revert k0_t7; decide)) ?_)
  refine s_assoc (ld_x (bx (rfl : _ = ((37 + 3 * k0_t7.val) + 1)) (by first | decide | (clear h hc; revert k0_t7; decide))) ?_)
  refine s_assoc (s_pushW (oc true true false true) hm (by decide) fun m hm => ?_)
  refine s_assoc (ld_x (bx (rfl : _ = ((37 + 3 * k0_t7.val) + 1)) (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_assoc (ld_x (bx (rfl : _ = ((37 + 3 * k0_t7.val) + 1)) (by first | decide | (clear h hc; revert k0_t7; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx (rfl : _ = ((37 + 3 * k0_t7.val) + 1)) (by first | decide | (clear h hc; revert k0_t7; decide))) ?_)
  refine s_assoc (s_pushW (oc true true true true) hm (by decide) fun m hm => ?_)
  refine s_pure ?_
  exact h _ _ _ hm ⟨(rfl : _ = ((37 + 3 * k0_t7.val) + 1)), hc.xb, hc.wa, hc.wb, hc.da, hc.db⟩

set_option maxRecDepth 65536 in
theorem q55 {k0_t7 : Fin k0_t7_loop.trips} {v1001_r0 : BitVec 32} {k0_mxu179 : Mxu F} {c12_i32_587_r0 : BitVec 32} {k : (Σ' (_ : Mxu F), BitVec 32) → Prog (TpuEff nD τ sig (Elt F) Λ₀ .tc) β} (hm : MxOk 192 (oc true true true true) (lv true true) k0_mxu179) (hc : Cnt s ((37 + 3 * k0_t7.val) + 1) 48 12 12 0 (8 + k0_t7.val))
    (h : ∀ (r0 : Mxu F) (r1 : BitVec 32) (s' : St F) (_ : MxOk 192 (oc true false true false) (lv true true) r0) (_ : Cnt s' ((37 + 3 * k0_t7.val) + 1) 48 12 12 0 (8 + k0_t7.val)), Res c vx vw PT s' iprop(SL c vid vws vxs ∗ R) ⊢ WP c (k ⟨r0, r1⟩) Q) :
    Res c vx vw PT s iprop(SL c vid vws vxs ∗ R) ⊢ WP c (app (k0_part55 (F := F)) k0_t7 v1001_r0 k0_mxu179 c12_i32_587_r0 >>= k) Q := by
  rw [k0_part55_eq_skeleton]
  unfold app k0_part55_skel
  refine s_assoc (ld_w (bv hc.wa (by first | decide | (clear h hc; revert k0_t7; decide))) ?_)
  refine s_assoc (ld_x (bx hc.xa (by first | decide | (clear h hc; revert k0_t7; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_pure ?_
  exact h _ _ _ (MxOk.acc (o' := (oc true false true false)) (l' := (lv true true)) (MxOk.acc (o' := (oc true false true true)) (l' := (lv true true)) hm (by decide) (by decide)) (by decide) (by decide)) ⟨hc.xa, hc.xb, hc.wa, hc.wb, hc.da, hc.db⟩

set_option maxRecDepth 65536 in
theorem q56 {k0_t7 : Fin k0_t7_loop.trips} {v1001_r0 : BitVec 32} {k0_mxu185 : Mxu F} {v1221_r0 : BitVec 32} {k : (Σ' (_ : Mxu F) (_ : BitVec 32), BitVec 32) → Prog (TpuEff nD τ sig (Elt F) Λ₀ .tc) β} (hm : MxOk 192 (oc true false true false) (lv true true) k0_mxu185) (hc : Cnt s ((37 + 3 * k0_t7.val) + 1) 48 12 12 0 (8 + k0_t7.val))
    (h : ∀ (r0 : Mxu F) (r1 : BitVec 32) (r2 : BitVec 32) (s' : St F) (_ : MxOk 192 (oc true true false true) (lv true true) r0) (_ : Cnt s' ((37 + 3 * k0_t7.val) + 2) 48 12 12 0 (8 + k0_t7.val)), Res c vx vw PT s' iprop(SL c vid vws vxs ∗ R) ⊢ WP c (k ⟨r0, r1, r2⟩) Q) :
    Res c vx vw PT s iprop(SL c vid vws vxs ∗ R) ⊢ WP c (app (k0_part56 (F := F)) k0_t7 v1001_r0 k0_mxu185 v1221_r0 >>= k) Q := by
  rw [k0_part56_eq_skeleton]
  unfold app k0_part56_skel
  refine s_assoc (ld_x (bx hc.xa (by first | decide | (clear h hc; revert k0_t7; decide))) ?_)
  refine s_assoc (s_pushW (oc true true true false) hm (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_assoc (wait_x ((37 + 3 * k0_t7.val) + 1) (bw hc.xa hc.xb (by first | decide | (clear h hc; revert k0_t7; decide))) rfl (by first | decide | (clear h hc; revert k0_t7; decide)) ?_)
  refine s_assoc (ld_x (bx (rfl : _ = ((37 + 3 * k0_t7.val) + 2)) (by first | decide | (clear h hc; revert k0_t7; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((37 + 3 * k0_t7.val) + 2)), hc.xb, hc.wa, hc.wb, hc.da, hc.db⟩

set_option maxRecDepth 65536 in
theorem q57 {k0_t7 : Fin k0_t7_loop.trips} {v1001_r0 : BitVec 32} {k0_mxu190 : Mxu F} {v1262_r0 : BitVec 32} {v1263_r0 : BitVec 32} {k : (Σ' (_ : Mxu F), BitVec 32) → Prog (TpuEff nD τ sig (Elt F) Λ₀ .tc) β} (hm : MxOk 192 (oc true true false true) (lv true true) k0_mxu190) (hc : Cnt s ((37 + 3 * k0_t7.val) + 2) 48 12 12 0 (8 + k0_t7.val))
    (h : ∀ (r0 : Mxu F) (r1 : BitVec 32) (s' : St F) (_ : MxOk 192 (oc false true false true) (lv true true) r0) (_ : Cnt s' ((37 + 3 * k0_t7.val) + 2) 48 12 12 0 (8 + k0_t7.val)), Res c vx vw PT s' iprop(SL c vid vws vxs ∗ R) ⊢ WP c (k ⟨r0, r1⟩) Q) :
    Res c vx vw PT s iprop(SL c vid vws vxs ∗ R) ⊢ WP c (app (k0_part57 (F := F)) k0_t7 v1001_r0 k0_mxu190 v1262_r0 v1263_r0 >>= k) Q := by
  rw [k0_part57_eq_skeleton]
  unfold app k0_part57_skel
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_assoc (ld_x (bx hc.xa (by first | decide | (clear h hc; revert k0_t7; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_pure ?_
  exact h _ _ _ (MxOk.acc (o' := (oc false true false true)) (l' := (lv true true)) (MxOk.acc (o' := (oc false true true true)) (l' := (lv true true)) hm (by decide) (by decide)) (by decide) (by decide)) ⟨hc.xa, hc.xb, hc.wa, hc.wb, hc.da, hc.db⟩

set_option maxRecDepth 65536 in
theorem q58 {k0_t7 : Fin k0_t7_loop.trips} {v1001_r0 : BitVec 32} {k0_mxu197 : Mxu F} {v1300_r0 : BitVec 32} {k : (Σ' (_ : Mxu F) (_ : BitVec 32), BitVec 32) → Prog (TpuEff nD τ sig (Elt F) Λ₀ .tc) β} (hm : MxOk 192 (oc false true false true) (lv true true) k0_mxu197) (hc : Cnt s ((37 + 3 * k0_t7.val) + 2) 48 12 12 0 (8 + k0_t7.val))
    (h : ∀ (r0 : Mxu F) (r1 : BitVec 32) (r2 : BitVec 32) (s' : St F) (_ : MxOk 192 (oc true true true true) (lv true true) r0) (_ : Cnt s' ((37 + 3 * k0_t7.val) + 2) 48 12 12 0 (8 + k0_t7.val)), Res c vx vw PT s' iprop(SL c vid vws vxs ∗ R) ⊢ WP c (k ⟨r0, r1, r2⟩) Q) :
    Res c vx vw PT s iprop(SL c vid vws vxs ∗ R) ⊢ WP c (app (k0_part58 (F := F)) k0_t7 v1001_r0 k0_mxu197 v1300_r0 >>= k) Q := by
  rw [k0_part58_eq_skeleton]
  unfold app k0_part58_skel
  refine s_assoc (ld_x (bx hc.xa (by first | decide | (clear h hc; revert k0_t7; decide))) ?_)
  refine s_assoc (s_pushW (oc true true false true) hm (by decide) fun m hm => ?_)
  refine s_assoc (ld_x (bx hc.xa (by first | decide | (clear h hc; revert k0_t7; decide))) ?_)
  refine s_assoc (s_pushW (oc true true true true) hm (by decide) fun m hm => ?_)
  refine s_assoc (ld_w (bv hc.wa (by first | decide | (clear h hc; revert k0_t7; decide))) ?_)
  refine s_assoc (ld_x (bx hc.xa (by first | decide | (clear h hc; revert k0_t7; decide))) ?_)
  refine s_assoc (s_pushW (oc true true true false) (MxOk.acc (o' := (oc true false true false)) (l' := (lv true true)) (MxOk.acc (o' := (oc true false true true)) (l' := (lv true true)) hm (by decide) (by decide)) (by decide) (by decide)) (by decide) fun m hm => ?_)
  refine s_assoc (ld_x (bx hc.xa (by first | decide | (clear h hc; revert k0_t7; decide))) ?_)
  refine s_assoc (s_pushW (oc true true true true) hm (by decide) fun m hm => ?_)
  refine s_pure ?_
  exact h _ _ _ _ hm ⟨hc.xa, hc.xb, hc.wa, hc.wb, hc.da, hc.db⟩

set_option maxRecDepth 65536 in
theorem q59 {k0_t7 : Fin k0_t7_loop.trips} {v1001_r0 : BitVec 32} {k0_mxu203 : Mxu F} {v1338_r0 : BitVec 32} {c10_i32_653_r0 : BitVec 32} {k : (Σ' (_ : BitVec 32) (_ : Mxu F), BitVec 32) → Prog (TpuEff nD τ sig (Elt F) Λ₀ .tc) β} (hm : MxOk 192 (oc true true true true) (lv true true) k0_mxu203) (hc : Cnt s ((37 + 3 * k0_t7.val) + 2) 48 12 12 0 (8 + k0_t7.val))
    (h : ∀ (r0 : BitVec 32) (r1 : Mxu F) (r2 : BitVec 32) (s' : St F) (_ : MxOk 192 (oc true true false true) (lv true true) r1) (_ : Cnt s' ((37 + 3 * k0_t7.val) + 3) 48 12 12 0 (8 + k0_t7.val)), Res c vx vw PT s' iprop(SL c vid vws vxs ∗ R) ⊢ WP c (k ⟨r0, r1, r2⟩) Q) :
    Res c vx vw PT s iprop(SL c vid vws vxs ∗ R) ⊢ WP c (app (k0_part59 (F := F)) k0_t7 v1001_r0 k0_mxu203 v1338_r0 c10_i32_653_r0 >>= k) Q := by
  rw [k0_part59_eq_skeleton]
  unfold app k0_part59_skel
  refine s_assoc (ld_w (bv hc.wa (by first | decide | (clear h hc; revert k0_t7; decide))) ?_)
  refine s_assoc (wait_x ((37 + 3 * k0_t7.val) + 2) (bw hc.xa hc.xb (by first | decide | (clear h hc; revert k0_t7; decide))) rfl (by first | decide | (clear h hc; revert k0_t7; decide)) ?_)
  refine s_assoc (ld_x (bx (rfl : _ = ((37 + 3 * k0_t7.val) + 3)) (by first | decide | (clear h hc; revert k0_t7; decide))) ?_)
  refine s_assoc (s_pushW (oc true true false true) (MxOk.acc (o' := (oc false true false true)) (l' := (lv true true)) (MxOk.acc (o' := (oc false true true true)) (l' := (lv true true)) hm (by decide) (by decide)) (by decide) (by decide)) (by decide) fun m hm => ?_)
  refine s_pure ?_
  exact h _ _ _ _ hm ⟨(rfl : _ = ((37 + 3 * k0_t7.val) + 3)), hc.xb, hc.wa, hc.wb, hc.da, hc.db⟩

set_option maxRecDepth 65536 in
theorem bt7 {k0_mxu158 : Mxu F} {v280_r0 : FVec F S256x128 .f32} {k0_t7 : Fin k0_t7_loop.trips} {m : Mxu F} (hm : MxOk 192 (oc true false true false) (lv true true) m) (hc : Cnt s (37 + 3 * k0_t7.val) 48 12 12 0 (8 + k0_t7.val)) :
    Res c vx vw PT s iprop(SL c vid vws vxs ∗ R) ⊢ WP c (app (k0_t7_body (F := F)) k0_mxu158 v280_r0 k0_t7 m)
      (fun m' => iprop(∃ s', ⌜MxOk 192 (oc true false true false) (lv true true) m' ∧ Cnt s' (37 + 3 * (k0_t7.val + 1)) 48 12 12 0 (8 + (k0_t7.val + 1))⌝ ∗ Res c vx vw PT s' iprop(SL c vid vws vxs ∗ R))) := by
  unfold app k0_t7_body
  refine q50 hm hc fun r0 r1 r2 r3 r4 s' hm hc' => ?_
  clear hc; have hc := hc'; clear hc'
  refine q51 hc fun r0 r1 r2 r3 s' hc' => ?_
  clear hc; have hc := hc'; clear hc'
  refine q52 hm hc fun r0 r1 s' hm hc' => ?_
  clear hc; have hc := hc'; clear hc'
  refine q53 hm hc fun r0 r1 s' hm hc' => ?_
  clear hc; have hc := hc'; clear hc'
  refine q54 hm hc fun r0 r1 s' hm hc' => ?_
  clear hc; have hc := hc'; clear hc'
  refine q55 hm hc fun r0 r1 s' hm hc' => ?_
  clear hc; have hc := hc'; clear hc'
  refine q56 hm hc fun r0 r1 r2 s' hm hc' => ?_
  clear hc; have hc := hc'; clear hc'
  refine q57 hm hc fun r0 r1 s' hm hc' => ?_
  clear hc; have hc := hc'; clear hc'
  refine q58 hm hc fun r0 r1 r2 s' hm hc' => ?_
  clear hc; have hc := hc'; clear hc'
  refine q59 hm hc fun r0 r1 r2 s' hm hc' => ?_
  clear hc; have hc := hc'; clear hc'
  refine ld_x (bx hc.xa (by first | decide | (clear hc; revert k0_t7; decide))) ?_
  refine s_pushW (oc true true true true) hm (by decide) fun m hm => ?_
  refine ld_w (bv hc.wa (by first | decide | (clear hc; revert k0_t7; decide))) ?_
  refine start_d (8 + k0_t7.val) (bs hc.da hc.db (by first | decide | (clear hc; revert k0_t7; decide))) (by first | decide | (clear hc; revert k0_t7; decide)) (by first | decide | (clear hc; revert k0_t7; decide)) (by first | decide | (clear hc; revert k0_t7; decide)) (by first | decide | (clear hc; revert k0_t7; decide)) (fun _ _ => trivial) ?_
  exact s_trip ⟨(MxOk.acc (o' := (oc true false true false)) (l' := (lv true true)) (MxOk.acc (o' := (oc true false true true)) (l' := (lv true true)) hm (by decide) (by decide)) (by decide) (by decide)), ⟨(Eq.trans hc.xa (by first | omega | (clear hc; revert k0_t7; decide))), hc.xb, hc.wa, hc.wb, hc.da, (Eq.trans (rfl : _ = ((8 + k0_t7.val) + 1)) (by first | omega | (clear hc; revert k0_t7; decide)))⟩⟩

end Cert.KernelIdeal.Hand

end
-- ==== Proof.KI.P6.lean ====
/-
# The four passes over the tokens
-/
module

public import proofs.«01_k».proof.Proof.KI.P1
public import proofs.«01_k».proof.Proof.KI.P2
public import proofs.«01_k».proof.Proof.KI.P3
public import proofs.«01_k».proof.Proof.KI.P4

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

set_option maxRecDepth 65536 in
theorem q65 {k0_mxu1 : Mxu F} {v156_r0 : FVec F S128x128 .f32} {k : (Σ' (_ : Mxu F), FVec F S256x256 .f32) → Prog (TpuEff nD τ sig (Elt F) Λ₀ .tc) β} (hm : MxOk 0 (oc false false false false) (lv false false) k0_mxu1) (hc : Cnt s 0 48 0 12 0 0)
    (h : ∀ (r0 : Mxu F) (r1 : FVec F S256x256 .f32) (s' : St F) (_ : MxOk 0 (oc true false true false) (lv true true) r0) (_ : Cnt s' 13 48 12 12 0 0), Res c vx vw PT s' iprop(SL c vid vws vxs ∗ R) ⊢ WP c (k ⟨r0, r1⟩) Q) :
    Res c vx vw PT s iprop(SL c vid vws vxs ∗ R) ⊢ WP c (app (k0_part65 (F := F)) k0_mxu1 v156_r0 >>= k) Q := by
  rw [k0_part65_eq_skeleton]
  unfold app k0_part65_skel
  refine s_assoc (ld_wsb ?_)
  refine s_assoc (st_wsb ?_)
  refine s_assoc (ld_ps ?_)
  refine s_assoc (st_ps ?_)
  refine s_assoc (wait_x 0 (bw hc.xa hc.xb (by decide)) rfl (by decide) ?_)
  refine s_assoc (wait_w 0 (bw hc.wa hc.wb (by decide)) rfl (by decide) ?_)
  refine s_assoc (ld_x (bx (rfl : _ = 1) (by decide)) ?_)
  refine s_assoc (s_pushW (oc true false false false) hm (by decide) fun m hm => ?_)
  refine s_assoc (ld_x (bx (rfl : _ = 1) (by decide)) ?_)
  refine s_assoc (s_pushW (oc true false true false) hm (by decide) fun m hm => ?_)
  refine s_assoc ((s_for (fun n m s => MxOk 0 (oc true false true false) (lv true true) m ∧ Cnt s (3 * n + 1) 48 (min (3 * n + 1) 12) 12 0 0) ⟨(MxOk.weak hm (by decide) (by decide)), ⟨(rfl : _ = 1), hc.xb, (rfl : _ = 1), hc.wb, hc.da, hc.db⟩⟩ (fun t m s hI => bt4 hI.1 hI.2) fun m s' hI => ?_))
  clear hc; have hm := hI.1
  have hc : Cnt s' 13 48 12 12 0 0 := by have e : k0_t4_loop.trips = 4 := (by decide); rw [e] at hI; exact hI.2
  clear hI
  refine s_pure ?_
  exact h _ _ _ hm ⟨hc.xa, hc.xb, hc.wa, hc.wb, hc.da, hc.db⟩

set_option maxRecDepth 65536 in
theorem q66 {k0_mxu5 : Mxu F} {v189_r0 : FVec F S256x256 .f32} {k : (Σ' (_ : Mxu F), FVec F S256x128 .f32) → Prog (TpuEff nD τ sig (Elt F) Λ₀ .tc) β} (hm : MxOk 0 (oc true false true false) (lv true true) k0_mxu5) (hc : Cnt s 13 48 12 12 0 0)
    (h : ∀ (r0 : Mxu F) (r1 : FVec F S256x128 .f32) (s' : St F) (_ : MxOk 0 (oc true false true false) (lv false false) r0) (_ : Cnt s' 13 48 12 12 0 0), Res c vx vw PT s' iprop(SL c vid vws vxs ∗ R) ⊢ WP c (k ⟨r0, r1⟩) Q) :
    Res c vx vw PT s iprop(SL c vid vws vxs ∗ R) ⊢ WP c (app (k0_part66 (F := F)) k0_mxu5 v189_r0 >>= k) Q := by
  rw [k0_part66_eq_skeleton]
  unfold app k0_part66_skel
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_pure ?_
  exact h _ _ _ (MxOk.pop (l' := (lv false false)) (MxOk.pop (l' := (lv false true)) hm (by decide)) (by decide)) ⟨hc.xa, hc.xb, hc.wa, hc.wb, hc.da, hc.db⟩

set_option maxRecDepth 65536 in
theorem q67 {k0_mxu55 : Mxu F} {v221_r0 : FVec F S256x128 .f32} {k : (Σ' (_ : FVec F S256x256 .f32) (_ : Mxu F) (_ : FVec F S256x128 .f32), FVec F S256x128 .f32) → Prog (TpuEff nD τ sig (Elt F) Λ₀ .tc) β} (hm : MxOk 0 (oc true false true false) (lv false false) k0_mxu55) (hc : Cnt s 13 48 12 12 0 0)
    (h : ∀ (r0 : FVec F S256x256 .f32) (r1 : Mxu F) (r2 : FVec F S256x128 .f32) (r3 : FVec F S256x128 .f32) (s' : St F) (_ : MxOk 64 (oc true false true false) (lv false false) r1) (_ : Cnt s' 25 48 12 12 0 4), Res c vx vw PT s' iprop(SL c vid vws vxs ∗ R) ⊢ WP c (k ⟨r0, r1, r2, r3⟩) Q) :
    Res c vx vw PT s iprop(SL c vid vws vxs ∗ R) ⊢ WP c (app (k0_part67 (F := F)) k0_mxu55 v221_r0 >>= k) Q := by
  rw [k0_part67_eq_skeleton]
  unfold app k0_part67_skel
  refine s_assoc (ld_wsb ?_)
  refine s_assoc (ld_zt ?_)
  refine s_assoc (st_zt ?_)
  refine s_assoc ((s_for (fun n m s => MxOk 64 (oc true false true false) (lv true true) m ∧ Cnt s (13 + 3 * n) 48 12 12 0 (0 + n)) ⟨(MxOk.move 64 hm (by decide)), ⟨hc.xa, hc.xb, hc.wa, hc.wb, hc.da, hc.db⟩⟩ (fun t m s hI => bt5 hI.1 hI.2) fun m s' hI => ?_))
  clear hc; have hm := hI.1
  have hc : Cnt s' 25 48 12 12 0 4 := by have e : k0_t5_loop.trips = 4 := (by decide); rw [e] at hI; exact hI.2
  clear hI
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_pure ?_
  exact h _ _ _ _ _ (MxOk.pop (l' := (lv false false)) (MxOk.pop (l' := (lv false true)) hm (by decide)) (by decide)) ⟨hc.xa, hc.xb, hc.wa, hc.wb, hc.da, hc.db⟩

set_option maxRecDepth 65536 in
theorem q68 {v247_r0 : FVec F S256x256 .f32} {k0_mxu107 : Mxu F} {v248_r0 : FVec F S256x128 .f32} {v250_r0 : FVec F S256x128 .f32} {k : (Σ' (_ : Mxu F), FVec F S256x128 .f32) → Prog (TpuEff nD τ sig (Elt F) Λ₀ .tc) β} (hm : MxOk 64 (oc true false true false) (lv false false) k0_mxu107) (hc : Cnt s 25 48 12 12 0 4)
    (h : ∀ (r0 : Mxu F) (r1 : FVec F S256x128 .f32) (s' : St F) (_ : MxOk 128 (oc true false true false) (lv false true) r0) (_ : Cnt s' 37 48 12 12 0 8), Res c vx vw PT s' iprop(SL c vid vws vxs ∗ R) ⊢ WP c (k ⟨r0, r1⟩) Q) :
    Res c vx vw PT s iprop(SL c vid vws vxs ∗ R) ⊢ WP c (app (k0_part68 (F := F)) v247_r0 k0_mxu107 v248_r0 v250_r0 >>= k) Q := by
  rw [k0_part68_eq_skeleton]
  unfold app k0_part68_skel
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc ((s_for (fun n m s => MxOk 128 (oc true false true false) (lv true true) m ∧ Cnt s (25 + 3 * n) 48 12 12 0 (4 + n)) ⟨(MxOk.move 128 hm (by decide)), ⟨hc.xa, hc.xb, hc.wa, hc.wb, hc.da, hc.db⟩⟩ (fun t m s hI => bt6 hI.1 hI.2) fun m s' hI => ?_))
  clear hc; have hm := hI.1
  have hc : Cnt s' 37 48 12 12 0 8 := by have e : k0_t6_loop.trips = 4 := (by decide); rw [e] at hI; exact hI.2
  clear hI
  refine s_assoc (ld_xs ?_)
  refine s_assoc (ld_wsb ?_)
  refine s_assoc (ld_zt ?_)
  refine s_assoc (st_zt ?_)
  refine s_assoc (ld_xs ?_)
  refine s_pure ?_
  exact h _ _ _ (MxOk.pop (l' := (lv false true)) hm (by decide)) ⟨hc.xa, hc.xb, hc.wa, hc.wb, hc.da, hc.db⟩

set_option maxRecDepth 65536 in
theorem q69 {k0_mxu158 : Mxu F} {v280_r0 : FVec F S256x128 .f32} {k : (Σ' (_ : Mxu F), Vec F S256x256 .fp8e4m3) → Prog (TpuEff nD τ sig (Elt F) Λ₀ .tc) β} (hm : MxOk 128 (oc true false true false) (lv false true) k0_mxu158) (hc : Cnt s 37 48 12 12 0 8)
    (h : ∀ (r0 : Mxu F) (r1 : Vec F S256x256 .fp8e4m3) (s' : St F) (_ : MxOk 192 (oc true false true false) (lv true true) r0) (_ : Cnt s' 46 48 12 12 0 11), Res c vx vw PT s' iprop(SL c vid vws vxs ∗ R) ⊢ WP c (k ⟨r0, r1⟩) Q) :
    Res c vx vw PT s iprop(SL c vid vws vxs ∗ R) ⊢ WP c (app (k0_part69 (F := F)) k0_mxu158 v280_r0 >>= k) Q := by
  rw [k0_part69_eq_skeleton]
  unfold app k0_part69_skel
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc (ld_xs ?_)
  refine s_assoc (ld_wsb ?_)
  refine s_assoc (ld_zt ?_)
  refine s_assoc (st_zt ?_)
  refine s_assoc ((s_for (fun n m s => MxOk 192 (oc true false true false) (lv true true) m ∧ Cnt s (37 + 3 * n) 48 12 12 0 (8 + n)) ⟨(MxOk.move 192 (MxOk.pop (l' := (lv false false)) hm (by decide)) (by decide)), ⟨hc.xa, hc.xb, hc.wa, hc.wb, hc.da, hc.db⟩⟩ (fun t m s hI => bt7 hI.1 hI.2) fun m s' hI => ?_))
  clear hc; have hm := hI.1
  have hc : Cnt s' 46 48 12 12 0 11 := by have e : k0_t7_loop.trips = 3 := (by decide); rw [e] at hI; exact hI.2
  clear hI
  refine s_assoc (ld_x (bx hc.xa (by decide)) ?_)
  refine s_pure ?_
  exact h _ _ _ hm ⟨hc.xa, hc.xb, hc.wa, hc.wb, hc.da, hc.db⟩

end Cert.KernelIdeal.Hand

end
-- ==== Proof.KI.Main.lean ====
/-
# The body

Its parts one after the other.
-/
module

public import proofs.«01_k».proof.Proof.KI.P0
public import proofs.«01_k».proof.Proof.KI.P5
public import proofs.«01_k».proof.Proof.KI.P6

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

variable {vid : Con F S2x8x1024 .i32} {vws : Con F S1x256 .f32} {vxs : Con F S2x1024 .f32}

theorem s_end {S : sProp 𝕄} {u : PUnit} (hc : Cnt s 48 48 12 12 16 16) :
    Res c vx vw PT s S ⊢ WP c (pure u) (fun _ => iprop(∃ s', ⌜Cnt s' 48 48 12 12 16 16⌝ ∗ Res c vx vw PT s' S)) := by
  refine s_done ?_
  iintro HR
  iexists s
  isplitr
  · ipureintro; exact hc
  iexact HR

set_option maxRecDepth 65536 in
set_option maxHeartbeats 4000000 in
/-- The body runs: it ends with all transfers made and waited for. -/
theorem body_wp (hc : Cnt s 0 0 0 0 0 0) :
    Res c vx vw PT s iprop(SI0 c vid vws vxs ∗ (OR0 c ∗ R)) ⊢ WP c (app (cc0_router_losses (F := F)))
      (fun _ => iprop(∃ s', ⌜Cnt s' 48 48 12 12 16 16⌝ ∗ Res c vx vw PT s' iprop(SL c vid vws vxs ∗ (OR0 c ∗ R)))) := by
  rw [cc0_router_losses_eq_skeleton]
  unfold app cc0_router_losses_skel
  refine q60 hc fun r0 s' hm hc' => ?_
  clear hc; have hc := hc'; clear hc'
  refine q61 hc fun s' hc' => ?_
  clear hc; have hc := hc'; clear hc'
  refine q62 hc fun s' hc' => ?_
  clear hc; have hc := hc'; clear hc'
  refine q63 hc fun s' hc' => ?_
  clear hc; have hc := hc'; clear hc'
  refine q64 hc fun r0 s' hc' => ?_
  clear hc; have hc := hc'; clear hc'
  refine q65 hm hc fun r0 r1 s' hm hc' => ?_
  clear hc; have hc := hc'; clear hc'
  refine q66 hm hc fun r0 r1 s' hm hc' => ?_
  clear hc; have hc := hc'; clear hc'
  refine q67 hm hc fun r0 r1 r2 r3 s' hm hc' => ?_
  clear hc; have hc := hc'; clear hc'
  refine q68 hm hc fun r0 r1 s' hm hc' => ?_
  clear hc; have hc := hc'; clear hc'
  refine q69 hm hc fun r0 r1 s' hm hc' => ?_
  clear hc; have hc := hc'; clear hc'
  refine q70 hm hc fun r0 r1 r2 r3 r4 s' hm hc' => ?_
  clear hc; have hc := hc'; clear hc'
  refine q71 hc fun r0 s' hc' => ?_
  clear hc; have hc := hc'; clear hc'
  refine q72 hm hc fun r0 s' hm hc' => ?_
  clear hc; have hc := hc'; clear hc'
  refine q73 hm hc fun r0 r1 s' hm hc' => ?_
  clear hc; have hc := hc'; clear hc'
  refine q74 hm hc fun r0 r1 s' hm hc' => ?_
  clear hc; have hc := hc'; clear hc'
  refine q75 hm hc fun r0 r1 r2 s' hm hc' => ?_
  clear hc; have hc := hc'; clear hc'
  refine q76 hm hc fun r0 r1 r2 s' hm hc' => ?_
  clear hc; have hc := hc'; clear hc'
  refine q77 hm hc fun r0 r1 s' hm hc' => ?_
  clear hc; have hc := hc'; clear hc'
  refine q78 hc fun r0 r1 r2 r3 s' hc' => ?_
  clear hc; have hc := hc'; clear hc'
  refine q79 hc fun r0 s' hc' => ?_
  clear hc; have hc := hc'; clear hc'
  refine q80 hc fun r0 r1 r2 r3 s' hc' => ?_
  clear hc; have hc := hc'; clear hc'
  refine q81 hc fun r0 r1 r2 r3 s' hc' => ?_
  clear hc; have hc := hc'; clear hc'
  refine q82 hc fun r0 r1 r2 r3 s' hc' => ?_
  clear hc; have hc := hc'; clear hc'
  refine q83 hc fun r0 r1 r2 r3 s' hc' => ?_
  clear hc; have hc := hc'; clear hc'
  refine q84 hc fun r0 r1 s' hc' => ?_
  clear hc; have hc := hc'; clear hc'
  refine q85 hc fun r0 s' hc' => ?_
  clear hc; have hc := hc'; clear hc'
  refine q86 hc fun s' hc' => ?_
  clear hc; have hc := hc'; clear hc'
  refine q87 hc fun s' hc' => ?_
  clear hc; have hc := hc'; clear hc'
  refine q88 hc fun s' hc' => ?_
  clear hc; have hc := hc'; clear hc'
  refine wait_d 14 (bw hc.da hc.db (by decide)) rfl (by decide) ?_
  refine wait_d 15 (bw (rfl : _ = 15) hc.db (by decide)) rfl (by decide) ?_
  refine s_exit (MxOk.drained hm (by decide) (by decide)) ?_
  exact s_end ⟨hc.xa, hc.xb, hc.wa, hc.wb, rfl, hc.db⟩

end Cert.KernelIdeal.Hand

end
-- ==== Proof.KI.Edge.lean ====
/-
  What the region hands the body and takes back, against what the core holds (`Res`) at the body's two ends.
-/
module

public import proofs.«01_k».proof.Proof.KI.Small
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (Pipeline.UD sig nD τ) ℕ

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

/-! ## A family of transfers before its first start and after its last landing -/

theorem none_intro {c : Dev nD} {cs : Space} {sh : Shape} {e : EltTy} (m : Memref sig .tc cs sh e) {S : Finset (Idx (m.view.loc (c : Thread nD τ)))}
    (h : S = ∅) (f : Buf (Elt F) (m.view.loc (c : Thread nD τ))) : (emp : sProp 𝕄) ⊢ pt c m S f := by
  subst h
  rw [show (pt c m ∅ f : sProp 𝕄) = iprop(emp) from pointsTo_empty]

theorem pieces {ℓ : Loc nD τ sig} (g : Idx ℓ → ℕ) (f : Buf (Elt F) ℓ) (n : ℕ) :
    (ℓ ↦[clt g n]{fullShare} f : sProp 𝕄) ⊢ bigSep (Finset.Ico 0 n) fun k => iprop(∃ f, ℓ ↦[ceq g k]{fullShare} f) := by
  induction n with
  | zero => rw [clt_zero, pointsTo_empty, Finset.Ico_self, bigSep_empty]; exact .rfl
  | succ n ih =>
    rw [clt_succ, bigSep_Ico_succ_top (Nat.zero_le n)]
    refine (pointsTo_union (clt_disj g n)).1.trans ?_
    iintro ⟨Ha, Hb⟩
    isplitl [Hb]; · iexists f; iexact Hb
    iapply ih $$ Ha

theorem pipe_in {Z L A B : ℕ → sProp 𝕄} {n : ℕ} :
    iprop(bigSep (Finset.Ico 0 n) A ∗ bigSep (Finset.Ico 0 n) B) ⊢ Pipe Z L (fun k => iprop(A k ∗ B k)) n 0 0 := by
  unfold Pipe
  rw [Finset.Ico_self, bigSep_empty, bigSep_empty, bigSep_sep']
  iintro ⟨Ha, Hb⟩
  isplitr; · iempintro
  isplitr; · iempintro
  isplitl [Ha]; · iexact Ha
  iexact Hb

theorem pipe_out {Z L I : ℕ → sProp 𝕄} {n : ℕ} : Pipe Z L I n n n ⊢ bigSep (Finset.Ico 0 n) Z := by
  unfold Pipe
  iintro ⟨H, -⟩
  iexact H

section
variable (c : Dev nD)

/-- The counters of a family's cells. -/
abbrev xsems : sProp 𝕄 := bigSep (Finset.Ico 0 48) fun k => sz (F := F) c (xsem k)
abbrev wsems : sProp 𝕄 := bigSep (Finset.Ico 0 12) fun k => sz (F := F) c (wsem k)
abbrev dsems : sProp 𝕄 := bigSep (Finset.Ico 0 16) fun k => sz (F := F) c (dsem k)

theorem xr_in (vx : Con F S2048x12288 .fp8e4m3) :
    iprop((∃ f, pt c mX Finset.univ f) ∗ pt c mHx Finset.univ vx ∗ xsems c) ⊢ XR c vx 0 0 := by
  unfold XR
  rw [cge_zero]
  iintro ⟨⟨%f, Hf⟩, Hv, Hs⟩
  isplitr; · iapply (none_intro mX (clt_zero gx) vx); iempintro
  isplitr; · iapply (none_intro mHx (clt_zero gx) vx); iempintro
  isplitl [Hv]; · iexact Hv
  iapply pipe_in
  isplitr [Hs]; swap; · iexact Hs
  iapply (pieces (ℓ := mX.view.loc (c : Thread nD τ)) gx f 48)
  rw [show (clt gx 48 : Finset (Idx (mX.view.loc (c : Thread nD τ)))) = Finset.univ from clt_top gx 48 gx_lt]
  iexact Hf

theorem xr_out (vx : Con F S2048x12288 .fp8e4m3) :
    XR c vx 48 48 ⊢ iprop((∃ f, pt c mX Finset.univ f) ∗ pt c mHx Finset.univ vx ∗ xsems c) := by
  unfold XR
  rw [clt_top gx 48 gx_lt]
  iintro ⟨Hf, Hv, -, Hs⟩
  isplitl [Hf]; · iexists vx; iexact Hf
  isplitl [Hv]; · iexact Hv
  iapply pipe_out $$ Hs

theorem wr_in (vw : Con F S256x12288 .i8) :
    iprop((∃ f, pt c mW Finset.univ f) ∗ pt c mHw Finset.univ vw ∗ wsems c) ⊢ WR c vw 0 0 := by
  unfold WR
  rw [cge_zero]
  iintro ⟨⟨%f, Hf⟩, Hv, Hs⟩
  isplitr; · iapply (none_intro mW (clt_zero gw) vw); iempintro
  isplitr; · iapply (none_intro mHw (clt_zero gw) vw); iempintro
  isplitl [Hv]; · iexact Hv
  iapply pipe_in
  isplitr [Hs]; swap; · iexact Hs
  iapply (pieces (ℓ := mW.view.loc (c : Thread nD τ)) gw f 12)
  rw [show (clt gw 12 : Finset (Idx (mW.view.loc (c : Thread nD τ)))) = Finset.univ from clt_top gw 12 gw_lt]
  iexact Hf

theorem wr_out (vw : Con F S256x12288 .i8) :
    WR c vw 12 12 ⊢ iprop((∃ f, pt c mW Finset.univ f) ∗ pt c mHw Finset.univ vw ∗ wsems c) := by
  unfold WR
  rw [clt_top gw 12 gw_lt]
  iintro ⟨Hf, Hv, -, Hs⟩
  isplitl [Hf]; · iexists vw; iexact Hf
  isplitl [Hv]; · iexact Hv
  iapply pipe_out $$ Hs

theorem dr_in (P : S2048x256.Idx → Elt F .f32 → Prop) (dl h : Con F S2048x256 .f32) :
    iprop(pt c mDl Finset.univ dl ∗ pt c mHdl Finset.univ h ∗ dsems c) ⊢ DR c P dl 0 0 := by
  unfold DR
  rw [cge_zero]
  iintro ⟨Hd, Hh, Hs⟩
  isplitl [Hd]; · iexact Hd
  isplitr
  · iexists dl
    iapply (none_intro mDl (clt_zero gd) dl); iempintro
  isplitr
  · iexists h
    isplitr; · ipureintro; exact fun i hi => absurd hi (Nat.not_lt_zero _)
    iapply (none_intro mHdl (clt_zero gd) h); iempintro
  iapply pipe_in
  isplitr [Hs]; swap; · iexact Hs
  iapply (pieces (ℓ := mHdl.view.loc (c : Thread nD τ)) gd h 16)
  rw [show (clt gd 16 : Finset (Idx (mHdl.view.loc (c : Thread nD τ)))) = Finset.univ from clt_top gd 16 gd_lt]
  iexact Hh

theorem dr_out (P : S2048x256.Idx → Elt F .f32 → Prop) (dl : Con F S2048x256 .f32) :
    DR c P dl 16 16 ⊢ iprop((∃ f, pt c mDl Finset.univ f) ∗ (∃ f : Con F S2048x256 .f32, ⌜∀ i, P i (f i)⌝ ∗ pt c mHdl Finset.univ f) ∗ dsems c) := by
  unfold DR
  rw [clt_top gd 16 gd_lt]
  iintro ⟨-, Hd, ⟨%f, %hf, Hf⟩, Hs⟩
  isplitl [Hd]; · iexact Hd
  isplitl [Hf]
  · iexists f
    isplitr; · ipureintro; exact fun i => hf i (gd_lt i)
    iexact Hf
  iapply pipe_out $$ Hs

/-! ## The region's own cells, buffers and operands, and what the core holds at the body's two ends -/

/-- The region's DMA cells. -/
abbrev osem0 : Fin 83 → SemLoc sig := fun k => SemLoc.dma k
theorem ownSemFacts0 : Pipeline.OwnSemFacts (cfg0.spec) osem0 := by decide +kernel

theorem cells_eq : (Finset.univ : Finset (Fin 83)) = (Finset.Ico 0 48).image xsem ∪ ((Finset.Ico 0 12).image wsem
    ∪ ((Finset.Ico 0 16).image dsem ∪ {60, 61, 62, 63, 64, 65, 66})) := by decide +kernel
theorem xsem_inj : Set.InjOn xsem (Finset.Ico 0 48 : Finset ℕ) := by
  intro a ha b hb h
  simp only [Finset.coe_Ico, Set.mem_Ico] at ha hb
  have := congrArg Fin.val h
  simp only [xsem, Fin.ofNat] at this
  omega
theorem wsem_inj : Set.InjOn wsem (Finset.Ico 0 12 : Finset ℕ) := by
  intro a ha b hb h
  simp only [Finset.coe_Ico, Set.mem_Ico] at ha hb
  have := congrArg Fin.val h
  simp only [wsem, Fin.ofNat] at this
  omega
theorem dsem_inj : Set.InjOn dsem (Finset.Ico 0 16 : Finset ℕ) := by
  intro a ha b hb h
  simp only [Finset.coe_Ico, Set.mem_Ico] at ha hb
  have := congrArg Fin.val h
  simp only [dsem, Fin.ofNat] at this
  omega

theorem ownSems0_eq : (Pipeline.ownSems0 (Ix := Unit) (Name := ℕ) (U := Pipeline.UD sig nD τ) (Lvl := ℕ) (Val := Elt F) (τ := τ) osem0 c : sProp 𝕄)
    = iprop(xsems c ∗ wsems c ∗ dsems c ∗ sz c 60 ∗ sz c 61 ∗ sz c 62 ∗ sz c 63 ∗ sz c 64 ∗ sz c 65 ∗ sz c 66) := by
  unfold Pipeline.ownSems0
  rw [cells_eq, bigSep_union (by decide +kernel), bigSep_union (by decide +kernel), bigSep_union (by decide +kernel),
    bigSep_image_of_injOn xsem_inj, bigSep_image_of_injOn wsem_inj, bigSep_image_of_injOn dsem_inj,
    bigSep_insert (by decide), bigSep_insert (by decide), bigSep_insert (by decide), bigSep_insert (by decide), bigSep_insert (by decide), bigSep_insert (by decide), bigSep_singleton]
  rfl

/-- The operands the body's transfers read, and the results they write. -/
def H0 : Finset (Ref sig .tc) := {main_v0, main_arg2, main_arg1, main_v1, main_v2}
def R0 : Finset (Ref sig .tc) := {main_v3_0, main_v3_1, main_v3_2, main_v3_3, main_v3_4}
theorem H0_sub : H0 ⊆ Pipeline.restRefs sig (cfg0.spec) := by decide
theorem R0_sub : R0 ⊆ Pipeline.restRefs sig (cfg0.spec) \ H0 := by decide

variable (V : (b : Ref sig .tc) → Buf (Elt F) ((c : Thread nD τ).loc b))

theorem H0_eq : (bigSep H0 (fun b => ((c : Thread nD τ).loc b) ↦{fullShare} V b) : sProp 𝕄)
    = iprop(pt c mHx Finset.univ (V main_v0) ∗ pt c mHw Finset.univ (V main_arg2) ∗ pt c mHxs Finset.univ (V main_arg1)
        ∗ pt c mHws Finset.univ (V main_v1) ∗ pt c mHid Finset.univ (V main_v2)) := by
  rw [BI.bigSep_eq_bigSepL_of_eq [main_v0, main_arg2, main_arg1, main_v1, main_v2] (by decide) (by decide)]; rfl

theorem R0_eq : (bigSep R0 (fun b => ((c : Thread nD τ).loc b) ↦{fullShare} V b) : sProp 𝕄)
    = iprop(pt c mHaux Finset.univ (V main_v3_0) ∗ pt c mHzo Finset.univ (V main_v3_1) ∗ pt c mHp Finset.univ (V main_v3_2)
        ∗ pt c mHlse Finset.univ (V main_v3_3) ∗ pt c mHdl Finset.univ (V main_v3_4)) := by
  rw [BI.bigSep_eq_bigSepL_of_eq [main_v3_0, main_v3_1, main_v3_2, main_v3_3, main_v3_4] (by decide) (by decide)]; rfl

theorem owned_eq : (Pipeline.owned R0 c : sProp 𝕄)
    = iprop((∃ f, pt c mHaux Finset.univ f) ∗ (∃ f, pt c mHzo Finset.univ f) ∗ (∃ f, pt c mHp Finset.univ f)
        ∗ (∃ f, pt c mHlse Finset.univ f) ∗ (∃ f, pt c mHdl Finset.univ f)) := by
  unfold Pipeline.owned
  rw [BI.bigSep_eq_bigSepL_of_eq [main_v3_0, main_v3_1, main_v3_2, main_v3_3, main_v3_4] (by decide) (by decide)]; rfl

theorem scoped_eq : (Pipeline.scopedRest (Ix := Unit) (Name := ℕ) (U := Pipeline.UD sig nD τ) (Lvl := ℕ) (Val := Elt F) (cfg0.spec) c : sProp 𝕄)
    = iprop((∃ f, pt c mX Finset.univ f) ∗ (∃ f, pt c mW Finset.univ f) ∗ (∃ f, pt c mXs Finset.univ f) ∗ (∃ f, pt c mWs Finset.univ f)
        ∗ (∃ f, pt c mId Finset.univ f) ∗ (∃ f, pt c mWsb Finset.univ f) ∗ (∃ f, pt c mCf Finset.univ f) ∗ (∃ f, pt c mZt Finset.univ f)
        ∗ (∃ f, pt c mEt Finset.univ f) ∗ (∃ f, pt c mPs Finset.univ f) ∗ (∃ f, pt c mDl Finset.univ f) ∗ (∃ f, pt c mAux Finset.univ f)
        ∗ (∃ f, pt c mZo Finset.univ f) ∗ (∃ f, pt c mPo Finset.univ f) ∗ (∃ f, pt c mLse Finset.univ f)) := by
  refine (scopedRest0_eq c).trans ?_
  rfl

/-- What the region hands the body, short of what the core owes. -/
def Given (O : sProp 𝕄) : sProp 𝕄 :=
  iprop(Pipeline.scopedRest (Ix := Unit) (Name := ℕ) (U := Pipeline.UD sig nD τ) (Lvl := ℕ) (Val := Elt F) (cfg0.spec) c
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V b) ∗ O)

theorem enter (P : S2048x256.Idx → Elt F .f32 → Prop) (R : sProp 𝕄) :
    iprop(Given c V (Pipeline.owned R0 c) ∗ (∃ W, owes (c : Thread nD τ) 0 W) ∗ R)
      ⊢ iprop(∃ s, ⌜Cnt s 0 0 0 0 0 0⌝ ∗ Res c (V main_v0) (V main_arg2) P s
          iprop(SI0 c (V main_v2) (V main_v1) (V main_arg1) ∗ (OR0 c ∗ R))) := by
  unfold Given
  rw [scoped_eq, ownSems0_eq, H0_eq, owned_eq]
  iintro ⟨⟨⟨HX, HW, HXs, HWs, HId, ⟨%wsb, Hwsb⟩, ⟨%cf, Hcf⟩, ⟨%zt, Hzt⟩, ⟨%et, Het⟩, ⟨%ps, Hps⟩, ⟨%dl, Hdl⟩, ⟨%aux, Haux⟩, ⟨%zo, Hzo⟩, ⟨%po, Hpo⟩, ⟨%lse, Hlse⟩⟩,
    ⟨Hsx, Hsw, Hsd, H60, H61, H62, H63, H64, H65, H66⟩, ⟨Hx, Hw, Hxs, Hws, Hid⟩, ⟨Oaux, Ozo, Op, Olse, ⟨%hdl, Odl⟩⟩⟩, HO, HR⟩
  iexists (⟨0, 0, 0, 0, 0, 0, dl, wsb, cf, zt, et, ps, aux, zo, po, lse⟩ : St F)
  isplitr; · ipureintro; exact ⟨rfl, rfl, rfl, rfl, rfl, rfl⟩
  unfold Res
  isplitl [Hwsb Hcf Hzt Het Hps Haux Hzo Hpo Hlse]
  · unfold BR
    isplitl [Hwsb]; · iexact Hwsb
    isplitl [Hcf]; · iexact Hcf
    isplitl [Hzt]; · iexact Hzt
    isplitl [Het]; · iexact Het
    isplitl [Hps]; · iexact Hps
    isplitl [Haux]; · iexact Haux
    isplitl [Hzo]; · iexact Hzo
    isplitl [Hpo]; · iexact Hpo
    iexact Hlse
  isplitl [HX Hx Hsx]
  · iapply xr_in
    isplitl [HX]; · iexact HX
    isplitl [Hx]; · iexact Hx
    iexact Hsx
  isplitl [HW Hw Hsw]
  · iapply wr_in
    isplitl [HW]; · iexact HW
    isplitl [Hw]; · iexact Hw
    iexact Hsw
  isplitl [Hdl Odl Hsd]
  · iapply dr_in
    isplitl [Hdl]; · iexact Hdl
    isplitl [Odl]; · iexact Odl
    iexact Hsd
  isplitl [HO]; · iexact HO
  isplitl [HXs HWs HId Hxs Hws Hid H60 H61 H62]
  · unfold SI0
    isplitl [Hid HId H60]
    · isplitl [Hid]; · iexact Hid
      isplitl [HId]; · iexact HId
      iexact H60
    isplitl [Hws HWs H61]
    · isplitl [Hws]; · iexact Hws
      isplitl [HWs]; · iexact HWs
      iexact H61
    isplitl [Hxs]; · iexact Hxs
    isplitl [HXs]; · iexact HXs
    iexact H62
  isplitr [HR]; swap; · iexact HR
  unfold OR0
  isplitl [Oaux H63]
  · isplitl [Oaux]; · iexact Oaux
    iexact H63
  isplitl [Ozo H64]
  · isplitl [Ozo]; · iexact Ozo
    iexact H64
  isplitl [Op H65]
  · isplitl [Op]; · iexact Op
    iexact H65
  isplitl [Olse]; · iexact Olse
  iexact H66

/-- At the body's end: the four small results as `A0`, …, `A3`, the gradient's array at contents every element of which
    satisfies `P`. -/
theorem leave (P : S2048x256.Idx → Elt F .f32 → Prop) (s : St F) (hc : Cnt s 48 48 12 12 16 16) (A0 A1 A2 A3 R : sProp 𝕄) :
    Res c (V main_v0) (V main_arg2) P s iprop(SL c (V main_v2) (V main_v1) (V main_arg1)
        ∗ (iprop((A0 ∗ sz c 63) ∗ (A1 ∗ sz c 64) ∗ (A2 ∗ sz c 65) ∗ (A3 ∗ sz c 66)) ∗ R))
      ⊢ iprop(Given c V iprop(A0 ∗ A1 ∗ A2 ∗ A3 ∗ (∃ f : Con F S2048x256 .f32, ⌜∀ i, P i (f i)⌝ ∗ pt c mHdl Finset.univ f)) ∗ (∃ W, owes (c : Thread nD τ) 0 W) ∗ R) := by
  unfold Given
  rw [scoped_eq, ownSems0_eq, H0_eq]
  unfold Res BR SL
  rw [hc.xa, hc.xb, hc.wa, hc.wb, hc.da, hc.db]
  iintro ⟨⟨Hwsb, Hcf, Hzt, Het, Hps, Haux, Hzo, Hpo, Hlse⟩, HX, HW, HD, HO, ⟨⟨⟨HId, Hid⟩, H60⟩, ⟨⟨HWs, Hws⟩, H61⟩, ⟨⟨HXs, Hxs⟩, H62⟩⟩,
    ⟨⟨Oaux, H63⟩, ⟨Ozo, H64⟩, ⟨Op, H65⟩, ⟨Olse, H66⟩⟩, HR⟩
  ihave HX' := (xr_out c (V main_v0)) $$ HX
  icases HX' with ⟨HX, Hx, Hsx⟩
  ihave HW' := (wr_out c (V main_arg2)) $$ HW
  icases HW' with ⟨HW, Hw, Hsw⟩
  ihave HD' := (dr_out c P s.dl) $$ HD
  icases HD' with ⟨Hdl, Odl, Hsd⟩
  isplitr [HO HR]
  · isplitl [HX HW HXs HWs HId Hwsb Hcf Hzt Het Hps Hdl Haux Hzo Hpo Hlse]
    · isplitl [HX]; · iexact HX
      isplitl [HW]; · iexact HW
      isplitl [HXs]; · iexists _; iexact HXs
      isplitl [HWs]; · iexists _; iexact HWs
      isplitl [HId]; · iexists _; iexact HId
      isplitl [Hwsb]; · iexists _; iexact Hwsb
      isplitl [Hcf]; · iexists _; iexact Hcf
      isplitl [Hzt]; · iexists _; iexact Hzt
      isplitl [Het]; · iexists _; iexact Het
      isplitl [Hps]; · iexists _; iexact Hps
      isplitl [Hdl]; · iexact Hdl
      isplitl [Haux]; · iexists _; iexact Haux
      isplitl [Hzo]; · iexists _; iexact Hzo
      isplitl [Hpo]; · iexists _; iexact Hpo
      iexists _; iexact Hlse
    isplitl [Hsx Hsw Hsd H60 H61 H62 H63 H64 H65 H66]
    · isplitl [Hsx]; · iexact Hsx
      isplitl [Hsw]; · iexact Hsw
      isplitl [Hsd]; · iexact Hsd
      isplitl [H60]; · iexact H60
      isplitl [H61]; · iexact H61
      isplitl [H62]; · iexact H62
      isplitl [H63]; · iexact H63
      isplitl [H64]; · iexact H64
      isplitl [H65]; · iexact H65
      iexact H66
    isplitl [Hx Hw Hxs Hws Hid]
    · isplitl [Hx]; · iexact Hx
      isplitl [Hw]; · iexact Hw
      isplitl [Hxs]; · iexact Hxs
      isplitl [Hws]; · iexact Hws
      iexact Hid
    isplitl [Oaux]; · iexact Oaux
    isplitl [Ozo]; · iexact Ozo
    isplitl [Op]; · iexact Op
    isplitl [Olse]; · iexact Olse
    iexact Odl
  isplitl [HO]; · iexact HO
  iexact HR
end

end Cert.KernelIdeal.Hand

end
-- ==== Proof.KI.Region.lean ====
/-
  The launch: the region around the body, and the frame — the program ends, its arguments unchanged, every semaphore at
  zero.
-/
module

public import proofs.«01_k».proof.Proof.KI.Main
public import proofs.«01_k».proof.Proof.KI.Edge

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

variable {c : Dev nD} {α β γ : Type} {Q : β → sProp (MT nD τ sig Unit (Elt F) ℕ (Pipeline.UD sig nD τ) ℕ)}
variable {vx : Con F S2048x12288 .fp8e4m3} {vw : Con F S256x12288 .i8} {P : S2048x256.Idx → Elt F .f32 → Prop} {s : St F} {R : sProp (MT nD τ sig Unit (Elt F) ℕ (Pipeline.UD sig nD τ) ℕ)}

open Idealize.ShloMosaic.Pipeline (Dat Cfg Window BodyObligation cellOf)

variable (m : (ℓ : Loc nD τ sig) → Buf (Elt F) ℓ) (ρ : Dev nD → PrngReg)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The region's proof data: no window, its own cells and buffers as the invariant. -/
def dats (_ : Fin 1) (c : Dev nD) : Dat τ (Elt F) Unit ℕ (Pipeline.UD sig nD τ) ℕ cfg0 c where
  A w := w.elim0
  after w _ := w.elim0
  Φ _ := Pipeline.ΦDR osem0 (cfg0.spec) H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 (cfg0.spec) H0 R0 (V m) c from rfl, Pipeline.ΦDR_eq]
  unfold Dat.owesAt Pipeline.owesWithin
  rw [show (dats m 0 c).owed t.castSucc = 0 from rfl, show (dats m 0 c).owed t.succ = 0 from rfl]
  refine BIBase.Entails.trans (Q := iprop(∃ s, ⌜Cnt s 0 0 0 0 0 0⌝ ∗ Res c (V m c main_v0) (V m c main_arg2) PT s
      iprop(SI0 c (V m c main_v2) (V m c main_v1) (V m c main_arg1) ∗ (OR0 c ∗ (∃ r, prngReg c r))))) ?_ ?_
  · refine BIBase.Entails.trans ?_ (enter c (V m c) PT iprop(∃ r, prngReg c r))
    unfold Given
    iintro ⟨⟨Hsc, Hg, Hos, HH, HR⟩, ⟨%W, -, HW⟩⟩
    isplitl [Hsc Hos HH HR]
    · isplitl [Hsc]; · iexact Hsc
      isplitl [Hos]; · iexact Hos
      isplitl [HH]; · iexact HH
      iexact HR
    isplitl [HW]; · iexists W; iexact HW
    iexact Hg
  · iintro ⟨%s, %hc, HRes⟩
    iapply ((body_wp (R := iprop(∃ r, prngReg c r)) hc).trans (wp_mono _ _ _ fun x => ?_)) $$ HRes
    iintro ⟨%s', %hc', HRes⟩
    ihave H := (show Res c (V m c main_v0) (V m c main_arg2) PT s' iprop(SL c (V m c main_v2) (V m c main_v1) (V m c main_arg1) ∗ (OR0 c ∗ (∃ r, prngReg c r))) ⊢ _ from
      leave c (V m c) PT s' hc' iprop(∃ f, pt c mHaux Finset.univ f) iprop(∃ f, pt c mHzo Finset.univ f) iprop(∃ f, pt c mHp Finset.univ f)
        iprop(∃ f, pt c mHlse Finset.univ f) iprop(∃ r, prngReg c r)) $$ HRes
    unfold Given
    icases H with ⟨⟨Hsc, Hos, HH, ⟨O0, O1, O2, O3, ⟨%f, -, O4⟩⟩⟩, ⟨%W, HW⟩, Hg⟩
    isplitr [HW]
    · isplitl [Hsc]; · iexact Hsc
      isplitl [Hg]; · iexact Hg
      isplitl [Hos]; · iexact Hos
      isplitl [HH]; · iexact HH
      rw [owned_eq]
      isplitl [O0]; · iexact O0
      isplitl [O1]; · iexact O1
      isplitl [O2]; · iexact O2
      isplitl [O3]; · iexact O3
      iexists f; iexact O4
    iexists W; isplitr
    · ipureintro; exact fun _ _ => Or.inl trivial
    iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_body m c t) rfl (by iintro ⟨Ha, Hb, -⟩; isplitl [Ha]; · iexact Ha
                                                   iexact Hb) fun _ => (by iintro ⟨Ha, Hb⟩; isplitl [Ha]; · iexact Ha
                                                                           isplitl [Hb]; · iexact Hb
                                                                           iempintro)

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c w => w.elim0)
    (howed := fun _ _ => rfl) (V := V m) (hmain := hmainD m Variants.none) (hA := fun c w => w.elim0)
    (hin := fun _ => .rfl) (hout := fun _ => .rfl)

/-- The run ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Same.lean ====
/-
  The kernel as printed and the kernel as idealized are one program, read at two kinds of floats: the frame of the one is
  the frame of the other.
-/
module

public import proofs.«01_k».proof.Defs
public import proofs.«01_k».proof.Proof.Gen.Kernel
public import proofs.«01_k».proof.Proof.KI.Region

@[expose] public section

noncomputable section

namespace Cert.Proof

open Idealize.ShloMosaic Idealize.SL.Sem Idealize.ShloMosaic.TcCoe Idealize.ShloMosaic.Tactic

/-- The run of the kernel as printed and of the kernel as idealized, each at any reading of the floats: one program. -/
def FrameI (F : FTy → Type) [FloatOps F] : Prop := ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def FrameK (F : FTy → Type) [FloatOps F] : Prop := ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

theorem same (F : FTy → Type) [FloatOps F] : FrameI F = FrameK F := by
  sl_kernel_rfl

theorem frame_I (F : FTy → Type) [FloatOps F] : FrameI F := fun m g => Cert.KernelIdeal.Hand.frame m g
theorem frame_K (F : FTy → Type) [FloatOps F] : FrameK F := same F ▸ frame_I F

end Cert.Proof

end
-- ==== Proof.KV.Num.lean ====
/-
# What the call computes, in numbers

The inputs read at natural numbers, the logits, the normalisers and the penalties.
-/
module

public import proofs.«01_k».proof.Proof.KI.Part
public import Idealize.ShloMosaic.Lib.Pointwise
public import Idealize.ShloMosaic.Lib.MatmulPlain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

/-! ## The inputs, read at plain numbers -/

def xN (vx : Con Ideal S2048x12288 .fp8e4m3) (i k : ℕ) : EReal := vx (ix2 (Fin.ofNat 2048 i) (Fin.ofNat 12288 k))
def wN (vw : Con Ideal S256x12288 .i8) (e k : ℕ) : EReal := (((vw (ix2 (Fin.ofNat 256 e) (Fin.ofNat 12288 k)) : BitVec 8).toInt : ℝ) : EReal)
def xsN (vxs : Con Ideal S2x1024 .f32) (i : ℕ) : EReal := vxs (ix2 (Fin.ofNat 2 (i / 1024)) (Fin.ofNat 1024 (i % 1024)))
def wsN (vws : Con Ideal S1x256 .f32) (e : ℕ) : EReal := vws (ix2 0 (Fin.ofNat 256 e))

/-! ## What the call computes -/

/-- The product of row `e` of the weights with row `i` of the activations, over the first `n` blocks of 256 columns. -/
def dotN (vx : Con Ideal S2048x12288 .fp8e4m3) (vw : Con Ideal S256x12288 .i8) (i e n : ℕ) : EReal :=
  ∑ k ∈ Finset.range n, ∑ j : Fin 256, wN vw e (256 * k + j.val) * xN vx i (256 * k + j.val)

theorem dotN_zero (vx : Con Ideal S2048x12288 .fp8e4m3) (vw : Con Ideal S256x12288 .i8) (i e : ℕ) : dotN vx vw i e 0 = 0 := rfl
theorem dotN_succ (vx : Con Ideal S2048x12288 .fp8e4m3) (vw : Con Ideal S256x12288 .i8) (i e n : ℕ) :
    dotN vx vw i e (n + 1) = dotN vx vw i e n + ∑ j : Fin 256, wN vw e (256 * n + j.val) * xN vx i (256 * n + j.val) :=
  Finset.sum_range_succ _ _

/-- The logit of expert `e` at token `i`. -/
def zN (vx : Con Ideal S2048x12288 .fp8e4m3) (vw : Con Ideal S256x12288 .i8) (vws : Con Ideal S1x256 .f32) (vxs : Con Ideal S2x1024 .f32) (i e : ℕ) : EReal :=
  dotN vx vw i e 48 * xsN vxs i * wsN vws e

/-- The greatest logit at token `i`. -/
def topN (vx : Con Ideal S2048x12288 .fp8e4m3) (vw : Con Ideal S256x12288 .i8) (vws : Con Ideal S1x256 .f32) (vxs : Con Ideal S2x1024 .f32) (i : ℕ) : EReal :=
  (Finset.univ : Finset (Fin 256)).fold max (FloatOps.ofBits (F := Ideal) .f32 0xFF800000#32 : EReal) fun e => zN vx vw vws vxs i e.val

/-- The logarithm of the sum of the exponentials of the logits at token `i`. -/
def lseN (vx : Con Ideal S2048x12288 .fp8e4m3) (vw : Con Ideal S256x12288 .i8) (vws : Con Ideal S1x256 .f32) (vxs : Con Ideal S2x1024 .f32) (i : ℕ) : EReal :=
  topN vx vw vws vxs i + Ideal.log (∑ e : Fin 256, Ideal.exp (zN vx vw vws vxs i e.val - topN vx vw vws vxs i))

/-- The penalty at token `i`. -/
def zoN (vx : Con Ideal S2048x12288 .fp8e4m3) (vw : Con Ideal S256x12288 .i8) (vws : Con Ideal S1x256 .f32) (vxs : Con Ideal S2x1024 .f32) (i : ℕ) : EReal :=
  (FloatOps.ofBits (F := Ideal) .f32 0x3503126F#32 : EReal) * (lseN vx vw vws vxs i * lseN vx vw vws vxs i)

/-! ## Reading a block of an array -/

theorem rd_x {off : Fin 2 → ℕ} {inb : ∀ a, off a + S256x256.size a ≤ S2048x12288.size a} (a b : Fin 256) :
    (mX.view.readAt (Elt Ideal) (Rect.unit (s := S2048x12288) off S256x256.size inb).toLoadRect vx : S256x256.Idx → EReal) (ix2 a b) = xN vx (off 0 + a.val) (off 1 + b.val) := by
  have h0 : off 0 + 256 ≤ 2048 := inb 0
  have h1 : off 1 + 256 ≤ 12288 := inb 1
  have ha := a.isLt
  have hb := b.isLt
  unfold xN
  show vx _ = vx _
  congr 1
  funext i
  match i with
  | 0 => exact Fin.ext (by show off 0 + 1 * a.val = (off 0 + a.val) % 2048; omega)
  | 1 => exact Fin.ext (by show off 1 + 1 * b.val = (off 1 + b.val) % 12288; omega)

theorem rd_w {off : Fin 2 → ℕ} {inb : ∀ a, off a + S256x256.size a ≤ S256x12288.size a} (a b : Fin 256) :
    (((mW.view.readAt (Elt Ideal) (Rect.unit (s := S256x12288) off S256x256.size inb).toLoadRect vw (ix2 a b) : BitVec 8).toInt : ℝ) : EReal) = wN vw a.val (off 1 + b.val) := by
  have h0 : off 0 + 256 ≤ 256 := inb 0
  have h1 : off 1 + 256 ≤ 12288 := inb 1
  have ha := a.isLt
  have hb := b.isLt
  unfold wN
  have e : (mW.view.readAt (Elt Ideal) (Rect.unit (s := S256x12288) off S256x256.size inb).toLoadRect vw (ix2 a b) : BitVec 8) = vw (ix2 (Fin.ofNat 256 a.val) (Fin.ofNat 12288 (off 1 + b.val))) := by
    show vw _ = vw _
    congr 1
    funext i
    match i with
    | 0 => exact Fin.ext (by show off 0 + 1 * a.val = a.val % 256; omega)
    | 1 => exact Fin.ext (by show off 1 + 1 * b.val = (off 1 + b.val) % 12288; omega)
  rw [e]

/-- Row `t` of the activation scales, the 128 from `o` on, is those of the tokens from `i₀` on. -/
theorem rd_xs {off : Fin 2 → ℕ} {inb : ∀ a, off a + S1x128.size a ≤ S2x1024.size a} {i₀ : ℕ} (e0 : off 0 = i₀ / 1024) (e1 : off 1 = i₀ % 1024) (b : Fin 128) :
    (mXs.view.readAt (Elt Ideal) (Rect.unit (s := S2x1024) off S1x128.size inb).toLoadRect vxs : S1x128.Idx → EReal) (ix2 0 b) = xsN vxs (i₀ + b.val) := by
  have h0 : off 0 + 1 ≤ 2 := inb 0
  have h1 : off 1 + 128 ≤ 1024 := inb 1
  have hb := b.isLt
  unfold xsN
  show vxs _ = vxs _
  congr 1
  funext i
  match i with
  | 0 => exact Fin.ext (by show off 0 + 1 * 0 = (i₀ + b.val) / 1024 % 2; omega)
  | 1 => exact Fin.ext (by show off 1 + 1 * b.val = (i₀ + b.val) % 1024 % 1024; omega)

theorem rd_ws {off : Fin 2 → ℕ} {inb : ∀ a, off a + S1x128.size a ≤ S1x256.size a} (b : Fin 128) :
    (mWs.view.readAt (Elt Ideal) (Rect.unit (s := S1x256) off S1x128.size inb).toLoadRect vws : S1x128.Idx → EReal) (ix2 0 b) = wsN vws (off 1 + b.val) := by
  have h0 : off 0 + 1 ≤ 1 := inb 0
  have h1 : off 1 + 128 ≤ 256 := inb 1
  have hb := b.isLt
  unfold wsN
  show vws _ = vws _
  congr 1
  funext i
  match i with
  | 0 => exact Fin.ext (by show off 0 + 1 * 0 = 0; omega)
  | 1 => exact Fin.ext (by show off 1 + 1 * b.val = (off 1 + b.val) % 256; omega)

/-! ## The payloads -/

theorem slab_lo {v : FVec Ideal S256x256 .f32} {xs : Vec Ideal S1x128 .f32} {ws : Vec Ideal S256x128 .f32} {i₀ : ℕ}
    (hv : ∀ e j : Fin 256, v (ix2 e j) = dotN vx vw (i₀ + j.val) e.val 48) (hx : ∀ l : Fin 128, xs (ix2 0 l) = xsN vxs (i₀ + l.val))
    (hw : ∀ (e : Fin 256) (l : Fin 128), ws (ix2 e l) = wsN vws e.val) (e : Fin 256) (l : Fin 128) :
    k0_pay228 v xs ws (ix3 0 e l) = zN vx vw vws vxs (i₀ + l.val) e.val := by
  have hp : k0_pay228 v xs ws (ix3 0 e l) = v (ix2 e ⟨l.val, by omega⟩) * xs (ix2 0 l) * ws (ix2 e l) := by
    pointwise [k0_pay228]
  rw [hp, hv, hx, hw]
  rfl

theorem slab_hi {v : FVec Ideal S256x256 .f32} {xs : Vec Ideal S1x128 .f32} {ws : Vec Ideal S256x128 .f32} {i₀ : ℕ}
    (hv : ∀ e j : Fin 256, v (ix2 e j) = dotN vx vw (i₀ + j.val) e.val 48) (hx : ∀ l : Fin 128, xs (ix2 0 l) = xsN vxs (i₀ + 128 + l.val))
    (hw : ∀ (e : Fin 256) (l : Fin 128), ws (ix2 e l) = wsN vws e.val) (e : Fin 256) (l : Fin 128) :
    k0_pay229 v xs ws (ix3 0 e l) = zN vx vw vws vxs (i₀ + 128 + l.val) e.val := by
  have hp : k0_pay229 v xs ws (ix3 0 e l) = v (ix2 e ⟨128 + l.val, by omega⟩) * xs (ix2 0 l) * ws (ix2 e l) := by
    pointwise [k0_pay229]
  rw [hp, hv, hx, hw]
  show dotN vx vw (i₀ + (128 + l.val)) _ _ * _ * _ = _
  rw [← Nat.add_assoc]
  rfl

theorem wsb_pay {x : Vec Ideal S1x128 .f32} {o : ℕ} (hx : ∀ l : Fin 128, x (ix2 0 l) = wsN vws (o + l.val)) (e l : Fin 128) :
    k0_pay221 x (ix2 e l) = wsN vws (o + e.val) := by
  have hp : k0_pay221 x (ix2 e l) = x (ix2 0 e) := by pointwise [k0_pay221]
  rw [hp, hx]

section
variable {z : Vec Ideal S1x256x128 .f32} {i₀ : ℕ}

theorem top_pay (hz : ∀ (e : Fin 256) (l : Fin 128), z (ix3 0 e l) = zN vx vw vws vxs (i₀ + l.val) e.val) (l : Fin 128) :
    k0_pay75 z (ix2 0 l) = topN vx vw vws vxs (i₀ + l.val) := by
  have hp : k0_pay75 z (ix2 0 l) = (Finset.univ : Finset (Fin 256)).fold max (FloatOps.ofBits (F := Ideal) .f32 0xFF800000#32 : EReal) fun e => z (ix3 0 e l) := by
    pointwise [k0_pay75, k0_pay74]
  rw [hp]
  unfold topN
  simp only [hz]

theorem lse_pay (hz : ∀ (e : Fin 256) (l : Fin 128), z (ix3 0 e l) = zN vx vw vws vxs (i₀ + l.val) e.val) (l : Fin 128) :
    k0_pay84 (k0_pay75 z) (k0_pay76 z) (ix2 0 l) = lseN vx vw vws vxs (i₀ + l.val) := by
  have hp : k0_pay84 (k0_pay75 z) (k0_pay76 z) (ix2 0 l) = k0_pay75 z (ix2 0 l) + Ideal.log (∑ e : Fin 256, Ideal.exp (z (ix3 0 e l) - k0_pay75 z (ix2 0 l))) := by
    pointwise [k0_pay84, k0_pay80, k0_pay78, k0_pay76, k0_pay74]
  rw [hp, top_pay hz]
  unfold lseN
  simp only [hz]

theorem zo_pay (hz : ∀ (e : Fin 256) (l : Fin 128), z (ix3 0 e l) = zN vx vw vws vxs (i₀ + l.val) e.val) (l : Fin 128) :
    k0_pay83 (k0_pay75 z) (k0_pay76 z) (ix2 0 l) = zoN vx vw vws vxs (i₀ + l.val) := by
  have hp : k0_pay83 (k0_pay75 z) (k0_pay76 z) (ix2 0 l) = (FloatOps.ofBits (F := Ideal) .f32 0x3503126F#32 : EReal) * (k0_pay84 (k0_pay75 z) (k0_pay76 z) (ix2 0 l) * k0_pay84 (k0_pay75 z) (k0_pay76 z) (ix2 0 l)) := by
    pointwise [k0_pay83, k0_pay84]
  rw [hp, lse_pay hz]
  rfl
end

end Cert.KernelIdeal.Hand

end
-- ==== Proof.KV.Mx.lean ====
/-
# What the matrix unit holds

Its registers hold tiles of the activations, its rows the products over the first blocks of columns.
-/
module

public import proofs.«01_k».proof.Proof.KV.Num

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

/-! ## The matrix unit -/

/-- One number for each of two. -/
def kk (a b : ℕ) (q : Fin 2) : ℕ := if q = 0 then a else b

/-- Block `κ % 48` of 256 columns of the 256 tokens that unit `q` works on in pass `κ / 48`. -/
def Tile (vx : Con Ideal S2048x12288 .fp8e4m3) (q κ : ℕ) (v : S256x256.Idx → EReal) : Prop :=
  ∀ a j : Fin 256, v (ix2 a j) = xN vx (512 * (κ / 48) + 256 * q + a.val) (256 * (κ % 48) + j.val)

/-- Block `n` of 256 columns of the weights. -/
def WTile (vw : Con Ideal S256x12288 .i8) (n : ℕ) (v : S256x256.Idx → EReal) : Prop :=
  ∀ e j : Fin 256, v (ix2 e j) = wN vw e.val (256 * n + j.val)

/-- Finished products of the 256 tokens from `i` on. -/
def RD (vx : Con Ideal S2048x12288 .fp8e4m3) (vw : Con Ideal S256x12288 .i8) (i : ℕ) (v : S256x256.Idx → EReal) : Prop :=
  ∀ e j : Fin 256, v (ix2 e j) = dotN vx vw (i + j.val) e.val 48

/-- What the matrix unit holds in pass `R` over the tokens: register `r` of an occupied unit holds tile `K r`, unit `q` has
    accumulated the first `N q` blocks of columns. -/
structure MxV (vx : Con Ideal S2048x12288 .fp8e4m3) (vw : Con Ideal S256x12288 .i8) (A R : ℕ) (o : Fin 2 → Fin 2 → Bool) (l : Fin 2 → Bool) (K N : Fin 2 → ℕ) (m : Mxu Ideal) : Prop where
  ok : MxOk A o l m
  tile : ∀ q r, o q r = true → ∃ (φ : FTy) (v : FVec Ideal (Mxu.STile 256) φ), m.reg q r = some ⟨φ, true, v⟩ ∧ Tile vx q.val (K r) v
  acc : ∀ (q : Fin 2) (hf : Mxu.Fits A 256) (e j : Fin 256), m.read q A hf (ix2 e j) = dotN vx vw (512 * R + 256 * q.val + j.val) e.val (N q)

theorem pass_eq {q κ n R : ℕ} {φ ψ : FTy} {v : FVec Ideal (Mxu.STile 256) φ} {w : FVec Ideal (Mxu.STile 256) ψ} (hv : Tile vx q κ v) (hw : WTile vw n w)
    (hκ : κ = 48 * R + n) (hn : n < 48) (e j : Fin 256) :
    (⟨φ, true, v⟩ : Mxu.Staged Ideal).pass w (ix2 e j) = ∑ i : Fin 256, wN vw e.val (256 * n + i.val) * xN vx (512 * R + 256 * q + j.val) (256 * n + i.val) := by
  have h := Ideal.matmul_transposedRhs_apply (φ₁ := ψ) (φ₂ := φ) none w v (fun _ => (0 : EReal)) e j
  have h' : (⟨φ, true, v⟩ : Mxu.Staged Ideal).pass w (ix2 e j) = ∑ k : Fin 256, w (ix2 e k) * v (ix2 j k) := by
    refine Eq.trans ?_ (h.trans (zero_add _))
    rw [Mxu.Staged.pass_true]
    exact (zero_add _).symm
  rw [h']
  refine Finset.sum_congr rfl fun k _ => ?_
  have e1 : κ / 48 = R := by omega
  have e2 : κ % 48 = n := by omega
  have a1 := hw e k
  have a2 := hv j k
  rw [e1, e2] at a2
  exact congrArg₂ (fun (x y : EReal) => x * y) a1 a2

theorem zero_bits : (FloatOps.ofBits (F := Ideal) .f32 (0 : BitVec 32) : EReal) = 0 := Ideal.ofBits_zero .f32

theorem MxV.init {o l} (ho : ∀ q r, o q r = false) {K : Fin 2 → ℕ} : MxV vx vw 0 0 o l K (kk 0 0) Mxu.init := by
  refine ⟨MxOk.init _, fun q r h => absurd h (by rw [ho]; decide), fun q hf e j => ?_⟩
  have hk : kk 0 0 q = 0 := by unfold kk; split <;> rfl
  rw [hk, dotN_zero, Mxu.read_init]
  exact zero_bits

theorem MxV.push {A R : ℕ} {o o' : Fin 2 → Fin 2 → Bool} {l : Fin 2 → Bool} {K K' N : Fin 2 → ℕ} {m : Mxu Ideal} (h : MxV vx vw A R o l K N m) {q r : Fin 2} {φ : FTy} {v : FVec Ideal (Mxu.STile 256) φ}
    (ho : ∀ a b, (o' a b = false → o a b = false ∧ ¬ (a = q ∧ b = r)) ∧ (o' a b = true → o a b = true ∨ (a = q ∧ b = r)) ∧ o q r = false)
    (hv : Tile vx q.val (K' r) v) (hK : ∀ a b, o a b = true → K' b = K b) :
    MxV vx vw A R o' l K' N (m.pushed q r true v) := by
  refine ⟨h.ok.push fun a b => (ho a b).1, fun a b hab => ?_, fun a hf e j => by rw [Mxu.read_pushed]; exact h.acc a hf e j⟩
  by_cases e : a = q ∧ b = r
  · obtain ⟨rfl, rfl⟩ := e
    exact ⟨φ, v, Mxu.reg_pushed_of_none _ _ _ _ _ (h.ok.reg _ _ (ho a b).2.2), hv⟩
  · have h1 := ((ho a b).2.1 hab).resolve_right e
    obtain ⟨ψ, u, hu, hT⟩ := h.tile a b h1
    refine ⟨ψ, u, ?_, by rw [hK a b h1]; exact hT⟩
    rw [Mxu.reg_pushed_ne _ _ _ _ _ _ _ e]
    exact hu

/-- What a push changes of the registers' occupation. -/
def PushO (o o' : Fin 2 → Fin 2 → Bool) (q r : Fin 2) : Prop :=
  ∀ a b, (o' a b = false → o a b = false ∧ ¬ (a = q ∧ b = r)) ∧ (o' a b = true → o a b = true ∨ (a = q ∧ b = r)) ∧ o q r = false
instance {o o' q r} : Decidable (PushO o o' q r) := by unfold PushO; infer_instance

section
variable {A R : ℕ} {o : Fin 2 → Fin 2 → Bool} {l : Fin 2 → Bool} {K0 K1 N0 N1 : ℕ} {m : Mxu Ideal} {H : sProp (MT nD τ sig Unit (Elt Ideal) ℕ (Pipeline.UD sig nD τ) ℕ)}

/-- The first of the two units takes a new tile into its register 0, -/
theorem s_push0 (o' : Fin 2 → Fin 2 → Bool) (κ : ℕ) (hm : MxV vx vw A R o l (kk K0 K1) (kk N0 N1) m) {q : Fin 2} {φ : FTy} {v : FVec Ideal (Mxu.STile 256) φ}
    {k : Mxu Ideal → Prog (TpuEff nD τ sig (Elt Ideal) Λ₀ .tc) β} (ho : PushO o o' q 0) (hn : ∀ a, o a 0 = false)
    (hv : Tile vx q.val κ v)
    (h : ∀ m', MxV vx vw A R o' l (kk κ K1) (kk N0 N1) m' → H ⊢ WP c (k m') Q) : H ⊢ WP c (m.pushRhs q 0 true v >>= k) Q := by
  refine s_push hm.ok (h _ (hm.push ho hv fun a b hab => ?_))
  match b with
  | 0 => rw [hn a] at hab; exact absurd hab (by decide)
  | 1 => rfl
/-- or into its register 1; -/
theorem s_push1 (o' : Fin 2 → Fin 2 → Bool) (κ : ℕ) (hm : MxV vx vw A R o l (kk K0 K1) (kk N0 N1) m) {q : Fin 2} {φ : FTy} {v : FVec Ideal (Mxu.STile 256) φ}
    {k : Mxu Ideal → Prog (TpuEff nD τ sig (Elt Ideal) Λ₀ .tc) β} (ho : PushO o o' q 1) (hn : ∀ a, o a 1 = false)
    (hv : Tile vx q.val κ v)
    (h : ∀ m', MxV vx vw A R o' l (kk K0 κ) (kk N0 N1) m' → H ⊢ WP c (k m') Q) : H ⊢ WP c (m.pushRhs q 1 true v >>= k) Q := by
  refine s_push hm.ok (h _ (hm.push ho hv fun a b hab => ?_))
  match b with
  | 0 => rfl
  | 1 => rw [hn a] at hab; exact absurd hab (by decide)
/-- the other takes the tile beside it. -/
theorem s_pushB (o' : Fin 2 → Fin 2 → Bool) (hm : MxV vx vw A R o l (kk K0 K1) (kk N0 N1) m) {q r : Fin 2} {φ : FTy} {v : FVec Ideal (Mxu.STile 256) φ}
    {k : Mxu Ideal → Prog (TpuEff nD τ sig (Elt Ideal) Λ₀ .tc) β} (ho : PushO o o' q r)
    (hv : Tile vx q.val (kk K0 K1 r) v)
    (h : ∀ m', MxV vx vw A R o' l (kk K0 K1) (kk N0 N1) m' → H ⊢ WP c (k m') Q) : H ⊢ WP c (m.pushRhs q r true v >>= k) Q :=
  s_push hm.ok (h _ (hm.push ho hv fun _ _ _ => rfl))
end

/-- What an accumulate changes of the registers' occupation. -/
def AccO (o o' : Fin 2 → Fin 2 → Bool) (l l' : Fin 2 → Bool) (q r : Fin 2) : Prop :=
  (∀ a b, (o' a b = false → o a b = false ∨ (a = q ∧ b = r)) ∧ (o' a b = true → o a b = true ∧ ¬ (a = q ∧ b = r))) ∧ o q r = true ∧ ∀ a, (l a = true ∨ a = q) → l' a = true
instance {o o' l l' q r} : Decidable (AccO o o' l l' q r) := by unfold AccO; infer_instance

theorem MxV.accum {A R n : ℕ} {o : Fin 2 → Fin 2 → Bool} (o' : Fin 2 → Fin 2 → Bool) {l : Fin 2 → Bool} (l' : Fin 2 → Bool) {K N N' : Fin 2 → ℕ} {m : Mxu Ideal} (h : MxV vx vw A R o l K N m) {q r : Fin 2} {φ : FTy} {w : FVec Ideal (Mxu.STile 256) φ} {hf}
    (ho : AccO o o' l l' q r) (hw : WTile vw n w) (hN : N q = n) (hN' : ∀ a, N' a = if a = q then n + 1 else N a) (hK : K r = 48 * R + n) (hn : n < 48) :
    MxV vx vw A R o' l' K N' (m.accLhs q r A w hf) := by
  refine ⟨h.ok.acc (fun a b => (ho.1 a b).1) ho.2.2, fun a b hab => ?_, fun a hf' e j => ?_⟩
  · have h1 := (ho.1 a b).2 hab
    obtain ⟨ψ, u, hu, hT⟩ := h.tile a b h1.1
    refine ⟨ψ, u, ?_, hT⟩
    rw [Mxu.reg_accLhs_ne _ _ _ _ _ _ _ _ h1.2]
    exact hu
  · rw [hN' a]
    by_cases ea : a = q
    · subst ea
      rw [if_pos rfl, Mxu.read_accLhs]
      obtain ⟨ψ, u, hu, hT⟩ := h.tile a r ho.2.1
      have hp := pass_eq (R := R) hT hw hK hn e j
      have hs : m.staged a r = ⟨ψ, true, u⟩ := by rw [Mxu.staged_eq, hu]; rfl
      have hr := h.acc a hf e j
      rw [hN] at hr
      rw [dotN_succ, ← hr, ← hp]
      show Mxu.deposit _ _ _ = _
      rw [hs]
      cases hl : m.live a (Mxu.row hf (ix2 e j 0)) with
      | true => rfl
      | false =>
        rw [Mxu.deposit_false]
        have hz : m.read a A hf (ix2 e j) = (0 : EReal) := (m.clean a _ _ hl).trans zero_bits
        rw [hz]
        exact (zero_add _).symm
    · rw [if_neg ea, Mxu.read_accLhs_ne _ _ _ _ _ _ _ _ _ (.inl ea)]
      exact h.acc a hf' e j

section
variable {A R : ℕ} {o : Fin 2 → Fin 2 → Bool} {l : Fin 2 → Bool} {K0 K1 N0 N1 : ℕ} {m : Mxu Ideal}

theorem MxV.acc0 (o' : Fin 2 → Fin 2 → Bool) (l' : Fin 2 → Bool) (h : MxV vx vw A R o l (kk K0 K1) (kk N0 N1) m) {r : Fin 2} {φ : FTy} {w : FVec Ideal (Mxu.STile 256) φ} {hf}
    (ho : AccO o o' l l' 0 r) (hw : WTile vw N0 w) (hK : kk K0 K1 r = 48 * R + N0) (hn : N0 < 48) :
    MxV vx vw A R o' l' (kk K0 K1) (kk (N0 + 1) N1) (m.accLhs 0 r A w hf) :=
  h.accum o' l' ho hw rfl (fun a => by match a with | 0 => rfl | 1 => rfl) hK hn

theorem MxV.acc1 (o' : Fin 2 → Fin 2 → Bool) (l' : Fin 2 → Bool) (h : MxV vx vw A R o l (kk K0 K1) (kk N0 N1) m) {r : Fin 2} {φ : FTy} {w : FVec Ideal (Mxu.STile 256) φ} {hf}
    (ho : AccO o o' l l' 1 r) (hw : WTile vw N1 w) (hK : kk K0 K1 r = 48 * R + N1) (hn : N1 < 48) :
    MxV vx vw A R o' l' (kk K0 K1) (kk N0 (N1 + 1)) (m.accLhs 1 r A w hf) :=
  h.accum o' l' ho hw rfl (fun a => by match a with | 0 => rfl | 1 => rfl) hK hn

theorem MxV.popped {N N' K : Fin 2 → ℕ} (l' : Fin 2 → Bool) (h : MxV vx vw A R o l K N m) {q : Fin 2} {hf}
    (hl : ∀ a, (l a = true ∧ a ≠ q) → l' a = true) (hN' : ∀ a, N' a = if a = q then 0 else N a) : MxV vx vw A R o l' K N' (m.pop q A 256 hf) := by
  refine ⟨h.ok.pop hl, fun a b hab => h.tile a b hab, fun a hf' e j => ?_⟩
  rw [hN' a]
  by_cases ea : a = q
  · subst ea
    rw [if_pos rfl, dotN_zero, Mxu.read_pop]
    exact zero_bits
  · rw [if_neg ea, Mxu.read_pop_ne _ _ _ _ _ _ _ (.inl ea)]
    exact h.acc a hf' e j

theorem MxV.pop0 (l' : Fin 2 → Bool) (h : MxV vx vw A R o l (kk K0 K1) (kk N0 N1) m) {hf} (hl : ∀ a, (l a = true ∧ a ≠ 0) → l' a = true) :
    MxV vx vw A R o l' (kk K0 K1) (kk 0 N1) (m.pop 0 A 256 hf) :=
  h.popped l' hl (fun a => by match a with | 0 => rfl | 1 => rfl)
theorem MxV.pop1 (l' : Fin 2 → Bool) (h : MxV vx vw A R o l (kk K0 K1) (kk N0 N1) m) {hf} (hl : ∀ a, (l a = true ∧ a ≠ 1) → l' a = true) :
    MxV vx vw A R o l' (kk K0 K1) (kk N0 0) (m.pop 1 A 256 hf) :=
  h.popped l' hl (fun a => by match a with | 0 => rfl | 1 => rfl)

/-- With no live rows the next pass begins, its rows anywhere. -/
theorem MxV.move {K : Fin 2 → ℕ} (B R' : ℕ) (l' : Fin 2 → Bool) (h : MxV vx vw A R o l K (kk N0 N1) m) (hl : ∀ a, l a = false) : MxV vx vw B R' o l' K (kk 0 0) m := by
  refine ⟨h.ok.move B hl, h.tile, fun q hf e j => ?_⟩
  have hk : kk 0 0 q = 0 := by unfold kk; split <;> rfl
  rw [hk, dotN_zero]
  refine (m.clean q _ _ ?_).trans zero_bits
  cases e : m.live q (Mxu.row hf (ix2 e j 0)) with
  | false => rfl
  | true => have := (h.ok.rows q _ e).1; rw [hl] at this; exact absurd this (by decide)

/-- The numbers written another way. -/
theorem MxV.re {K0' K1' N0' N1' : ℕ} (h : MxV vx vw A R o l (kk K0 K1) (kk N0 N1) m) (e0 : (∀ a, o a 0 = false) ∨ K0' = K0) (e1 : (∀ a, o a 1 = false) ∨ K1' = K1) (n0 : N0' = N0) (n1 : N1' = N1) :
    MxV vx vw A R o l (kk K0' K1') (kk N0' N1') m := by
  subst n0 n1
  refine ⟨h.ok, fun q r hr => ?_, h.acc⟩
  have hK : kk K0' K1' r = kk K0 K1 r := by
    match r with
    | 0 => exact e0.resolve_left fun hn => by rw [hn q] at hr; exact absurd hr (by decide)
    | 1 => exact e1.resolve_left fun hn => by rw [hn q] at hr; exact absurd hr (by decide)
  rw [hK]
  exact h.tile q r hr

theorem MxV.weak {K N : Fin 2 → ℕ} (l' : Fin 2 → Bool) (h : MxV vx vw A R o l K N m) (hl : ∀ a, l a = true → l' a = true) : MxV vx vw A R o l' K N m :=
  ⟨h.ok.weak (fun _ _ => id) hl, h.tile, h.acc⟩

theorem MxV.rd {K N : Fin 2 → ℕ} (h : MxV vx vw A R o l K N m) (q : Fin 2) {hf} {i : ℕ} (hN : N q = 48) (hi : i = 512 * R + 256 * q.val) : RD vx vw i (m.read q A hf) := fun e j => by
  subst hi
  rw [← hN]
  exact h.acc q hf e j
end

/-! ## Loads -/

section
variable {H : sProp (MT nD τ sig Unit (Elt Ideal) ℕ (Pipeline.UD sig nD τ) ℕ)}

theorem ld_xV (q κ : ℕ) {off : Fin 2 → ℕ} {inb : ∀ a, off a + S256x256.size a ≤ S2048x12288.size a} {hl : mX.view.LoadsAt (Rect.unit (s := S2048x12288) off S256x256.size inb).toLoadRect}
    {k : (S256x256.Idx → Elt Ideal .fp8e4m3) → Prog (TpuEff nD τ sig (Elt Ideal) Λ₀ .tc) β}
    (hb : off 0 % 512 + 256 ≤ 512 ∧ off 0 / 512 * 12 + (off 1 + 255) / 1024 < s.xa) (ho : off 0 = 512 * (κ / 48) + 256 * q ∧ off 1 = 256 * (κ % 48))
    (h : ∀ v : S256x256.Idx → Elt Ideal .fp8e4m3, Tile vx q κ v → Res c vx vw P s R ⊢ WP c (k v) Q) :
    Res c vx vw P s R ⊢ WP c (Prog.lift (.load mX (Rect.unit (s := S2048x12288) off S256x256.size inb).toLoadRect hl) >>= k) Q :=
  ld_x hb (h _ fun a j => by rw [rd_x, ho.1, ho.2])

/-- Block `n` of 256 columns of the weights, as words. -/
def WWord (vw : Con Ideal S256x12288 .i8) (n : ℕ) (v : S256x256.Idx → BitVec 8) : Prop :=
  ∀ e j : Fin 256, (((v (ix2 e j)).toInt : ℝ) : EReal) = wN vw e.val (256 * n + j.val)

theorem WWord.tile {n : ℕ} {v : S256x256.Idx → BitVec 8} (h : WWord vw n v) : WTile vw n (k0_pay73 (F := Ideal) v) := h

theorem ld_wV (n : ℕ) {off : Fin 2 → ℕ} {inb : ∀ a, off a + S256x256.size a ≤ S256x12288.size a} {hl : mW.view.LoadsAt (Rect.unit (s := S256x12288) off S256x256.size inb).toLoadRect}
    {k : (S256x256.Idx → Elt Ideal .i8) → Prog (TpuEff nD τ sig (Elt Ideal) Λ₀ .tc) β}
    (hb : (off 1 + 255) / 1024 < s.wa) (ho : off 1 = 256 * n)
    (h : ∀ v : S256x256.Idx → Elt Ideal .i8, WWord vw n v → Res c vx vw P s R ⊢ WP c (k v) Q) :
    Res c vx vw P s R ⊢ WP c (Prog.lift (.load mW (Rect.unit (s := S256x12288) off S256x256.size inb).toLoadRect hl) >>= k) Q :=
  ld_w hb (h _ fun a j => by rw [rd_w, ho])
end

end Cert.KernelIdeal.Hand

end
-- ==== Proof.KV.Sv.lean ====
/-
# What the scratch holds

The scales, the logits of the pass at hand, and the normalisers and penalties of the tokens done so far.
-/
module

public import proofs.«01_k».proof.Proof.KV.Mx

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

/-- The activation scales of the 128 tokens from `i` on. -/
def XS (vxs : Con Ideal S2x1024 .f32) (i : ℕ) (v : S1x128.Idx → EReal) : Prop := ∀ l : Fin 128, v (ix2 0 l) = xsN vxs (i + l.val)
/-- The weights' scales, the same in every column. -/
def WB (vws : Con Ideal S1x256 .f32) (v : S256x128.Idx → EReal) : Prop := ∀ (e : Fin 256) (l : Fin 128), v (ix2 e l) = wsN vws e.val
/-- The logits of the 128 tokens from `i` on. -/
def ZV (vx : Con Ideal S2048x12288 .fp8e4m3) (vw : Con Ideal S256x12288 .i8) (vws : Con Ideal S1x256 .f32) (vxs : Con Ideal S2x1024 .f32) (i : ℕ) (z : S1x256x128.Idx → EReal) : Prop :=
  ∀ (e : Fin 256) (l : Fin 128), z (ix3 0 e l) = zN vx vw vws vxs (i + l.val) e.val

/-- What the scratch holds: the scales, the logits of the first `n` groups of 128 tokens of pass `R`, and the normalisers and
    penalties of the first `DL` and `DZ` groups of all. -/
structure SV (vx : Con Ideal S2048x12288 .fp8e4m3) (vw : Con Ideal S256x12288 .i8) (vws : Con Ideal S1x256 .f32) (vxs : Con Ideal S2x1024 .f32) (R n DZ DL : ℕ) (s : St Ideal) : Prop where
  wsb : WB vws s.wsb
  zt : ∀ (g : Fin 4) (e : Fin 256) (l : Fin 128), g.val < n → s.zt (ix3 g e l) = zN vx vw vws vxs (512 * R + 128 * g.val + l.val) e.val
  zo : ∀ i, i < 128 * DZ → s.zo (ix2 (Fin.ofNat 2 (i / 1024)) (Fin.ofNat 1024 (i % 1024))) = zoN vx vw vws vxs i
  lse : ∀ i, i < 128 * DL → s.lse (ix2 (Fin.ofNat 2 (i / 1024)) (Fin.ofNat 1024 (i % 1024))) = lseN vx vw vws vxs i

/-- The next pass begins. -/
theorem SV.next {R n DZ DL DZ' DL' : ℕ} (R' : ℕ) (h : SV vx vw vws vxs R n DZ DL s) (e1 : DZ' = DZ) (e2 : DL' = DL) : SV vx vw vws vxs R' 0 DZ' DL' s := by
  subst e1 e2
  exact ⟨h.wsb, fun g e l hg => absurd hg (Nat.not_lt_zero _), h.zo, h.lse⟩

theorem SV.re {R n DZ DL R' n' DZ' DL' : ℕ} (h : SV vx vw vws vxs R n DZ DL s) (e0 : R' = R) (e1 : n' = n) (e2 : DZ' = DZ) (e3 : DL' = DL) : SV vx vw vws vxs R' n' DZ' DL' s := by
  subst e0 e1 e2 e3; exact h

/-! ## Loads -/

theorem ld_xsV (i : ℕ) {off : Fin 2 → ℕ} {inb : ∀ a, off a + S1x128.size a ≤ S2x1024.size a} {hl : (mXs).view.LoadsAt (Rect.unit (s := S2x1024) off S1x128.size inb).toLoadRect}
    {k : (S1x128.Idx → Elt Ideal .f32) → Prog (TpuEff nD τ sig (Elt Ideal) Λ₀ .tc) β} (ho : off 0 = i / 1024 ∧ off 1 = i % 1024)
    (h : ∀ v : S1x128.Idx → Elt Ideal .f32, XS vxs i v → Res c vx vw P s iprop(SL c vid vws vxs ∗ R) ⊢ WP c (k v) Q) :
    Res c vx vw P s iprop(SL c vid vws vxs ∗ R) ⊢ WP c (Prog.lift (.load mXs (Rect.unit (s := S2x1024) off S1x128.size inb).toLoadRect hl) >>= k) Q :=
  ld_xs (h _ fun l => rd_xs ho.1 ho.2 l)

theorem ld_wsV (o : ℕ) {off : Fin 2 → ℕ} {inb : ∀ a, off a + S1x128.size a ≤ S1x256.size a} {hl : (mWs).view.LoadsAt (Rect.unit (s := S1x256) off S1x128.size inb).toLoadRect}
    {k : (S1x128.Idx → Elt Ideal .f32) → Prog (TpuEff nD τ sig (Elt Ideal) Λ₀ .tc) β} (ho : off 1 = o)
    (h : ∀ v : S1x128.Idx → Elt Ideal .f32, (∀ l : Fin 128, v (ix2 0 l) = wsN vws (o + l.val)) → Res c vx vw P s iprop(SL c vid vws vxs ∗ R) ⊢ WP c (k v) Q) :
    Res c vx vw P s iprop(SL c vid vws vxs ∗ R) ⊢ WP c (Prog.lift (.load mWs (Rect.unit (s := S1x256) off S1x128.size inb).toLoadRect hl) >>= k) Q :=
  ld_ws (h _ fun l => by rw [← ho]; exact rd_ws l)

section
variable {R' n DZ DL : ℕ}

theorem ld_wsbV (hv : SV vx vw vws vxs R' n DZ DL s) {off : Fin 2 → ℕ} {inb : ∀ a, off a + S256x128.size a ≤ S256x128.size a} {hl : (mWsb).view.LoadsAt (Rect.unit (s := S256x128) off S256x128.size inb).toLoadRect}
    {k : (S256x128.Idx → Elt Ideal .f32) → Prog (TpuEff nD τ sig (Elt Ideal) Λ₀ .tc) β}
    (h : ∀ v : S256x128.Idx → Elt Ideal .f32, WB vws v → Res c vx vw P s R ⊢ WP c (k v) Q) :
    Res c vx vw P s R ⊢ WP c (Prog.lift (.load mWsb (Rect.unit (s := S256x128) off S256x128.size inb).toLoadRect hl) >>= k) Q := by
  refine ld_wsb (h _ fun e l => ?_)
  have h0 : off 0 + 256 ≤ 256 := inb 0
  have h1 : off 1 + 128 ≤ 128 := inb 1
  rw [← hv.wsb e l]
  show s.wsb _ = s.wsb _
  congr 1
  funext i
  match i with
  | 0 => exact Fin.ext (by show off 0 + 1 * e.val = e.val; omega)
  | 1 => exact Fin.ext (by show off 1 + 1 * l.val = l.val; omega)

/-- The logits of one group of tokens. -/
theorem ld_ztV (i g : ℕ) (hv : SV vx vw vws vxs R' n DZ DL s) {off : Fin 3 → ℕ} {inb : ∀ a, off a + S1x256x128.size a ≤ S4x256x128.size a} {hl : (mZt).view.LoadsAt (Rect.unit (s := S4x256x128) off S1x256x128.size inb).toLoadRect}
    {k : (S1x256x128.Idx → Elt Ideal .f32) → Prog (TpuEff nD τ sig (Elt Ideal) Λ₀ .tc) β} (ho : off 0 = g ∧ g < n) (hi : i = 512 * R' + 128 * g)
    (h : ∀ v : S1x256x128.Idx → Elt Ideal .f32, ZV vx vw vws vxs i v → Res c vx vw P s R ⊢ WP c (k v) Q) :
    Res c vx vw P s R ⊢ WP c (Prog.lift (.load mZt (Rect.unit (s := S4x256x128) off S1x256x128.size inb).toLoadRect hl) >>= k) Q := by
  refine ld_zt (h _ fun e l => ?_)
  have h0 : off 0 + 1 ≤ 4 := inb 0
  have h1 : off 1 + 256 ≤ 256 := inb 1
  have h2 : off 2 + 128 ≤ 128 := inb 2
  subst hi
  have hg := ho.1
  have hz := hv.zt ⟨g, by omega⟩ e l ho.2
  rw [← hz]
  show s.zt _ = s.zt _
  congr 1
  funext i
  match i with
  | 0 => exact Fin.ext (by show off 0 + 1 * 0 = g; omega)
  | 1 => exact Fin.ext (by show off 1 + 1 * e.val = e.val; omega)
  | 2 => exact Fin.ext (by show off 2 + 1 * l.val = l.val; omega)

/-! ## Stores -/

set_option maxHeartbeats 1600000 in
/-- The logits of the next group of tokens. -/
theorem st_ztV (i : ℕ) (hv : SV vx vw vws vxs R' n DZ DL s) {xa xb wa wb da db : ℕ} (hc : Cnt s xa xb wa wb da db)
    {off : Fin 3 → ℕ} {inb : ∀ a, off a + S1x256x128.size a ≤ S4x256x128.size a} {w : S1x256x128.Idx → Elt Ideal .f32}
    {hx : ((mZt).access (Rect.unit (s := S4x256x128) off S1x256x128.size inb)).Stores Finset.univ}
    {hm : (Finset.univ : Finset S1x256x128.Idx) = Finset.univ ∨ ∀ a, (Rect.unit (s := S4x256x128) off S1x256x128.size inb).stride a = 1} {k : PUnit → Prog (TpuEff nD τ sig (Elt Ideal) Λ₀ .tc) β}
    (ho : off 0 = n) (hi : i = 512 * R' + 128 * n) (hw : ZV vx vw vws vxs i w)
    (h : ∀ s', SV vx vw vws vxs R' (n + 1) DZ DL s' → Cnt s' xa xb wa wb da db → Res c vx vw P s' R ⊢ WP c (k ⟨⟩) Q) :
    Res c vx vw P s R ⊢ WP c (Prog.lift (.store mZt (Rect.unit (s := S4x256x128) off S1x256x128.size inb) w Finset.univ hx hm) >>= k) Q := by
  refine st_zt (h _ ⟨hv.wsb, fun g e l hg => ?_, hv.zo, hv.lse⟩ ⟨hc.xa, hc.xb, hc.wa, hc.wb, hc.da, hc.db⟩)
  have h0 : off 0 + 1 ≤ 4 := inb 0
  have h1 : off 1 + 256 ≤ 256 := inb 1
  have h2 : off 2 + 128 ≤ 128 := inb 2
  by_cases eg : g.val = n
  · have hh := View.write_emb_of_mem (v := (mZt).access (Rect.unit (s := S4x256x128) off S1x256x128.size inb)) (Val := Elt Ideal) s.zt w (M := Finset.univ) (x := ix3 0 e l) (Finset.mem_univ _)
    have he : ((mZt).access (Rect.unit (s := S4x256x128) off S1x256x128.size inb)).emb (ix3 0 e l) = ix3 g e l := by
      funext a
      match a with
      | 0 => exact Fin.ext (by show off 0 + 1 * 0 = g.val; omega)
      | 1 => exact Fin.ext (by show off 1 + 1 * e.val = e.val; omega)
      | 2 => exact Fin.ext (by show off 2 + 1 * l.val = l.val; omega)
    rw [he] at hh
    refine Eq.trans hh ?_
    rw [eg, ← hi]
    exact hw e l
  · have hh := View.write_of_not_mem (v := (mZt).access (Rect.unit (s := S4x256x128) off S1x256x128.size inb)) (Val := Elt Ideal) s.zt w (i := ix3 g e l) Finset.univ (by
      intro hmem
      obtain ⟨y, -, hy⟩ := Finset.mem_map.mp hmem
      have := congrArg Fin.val (congrFun hy 0)
      have hy0 : (y 0).val < 1 := (y 0).isLt
      have e0 : off 0 + 1 * (y 0).val = g.val := this
      omega)
    exact hh.trans (hv.zt g e l (by omega))

theorem row_hit {off : Fin 2 → ℕ} {inb : ∀ a, off a + S1x128.size a ≤ S2x1024.size a} {i j : ℕ} (ho : off 0 = i / 1024 ∧ off 1 = i % 1024) (hj : j < 128) :
    (Rect.unit (s := S2x1024) off S1x128.size inb).emb (ix2 0 ⟨j, hj⟩) = ix2 (Fin.ofNat 2 ((i + j) / 1024)) (Fin.ofNat 1024 ((i + j) % 1024)) := by
  have h0 : off 0 + 1 ≤ 2 := inb 0
  have h1 : off 1 + 128 ≤ 1024 := inb 1
  have := ho.1
  have := ho.2
  funext a
  match a with
  | 0 => exact Fin.ext (by show off 0 + 1 * 0 = (i + j) / 1024 % 2; omega)
  | 1 => exact Fin.ext (by show off 1 + 1 * j = (i + j) % 1024 % 1024; omega)

theorem row_miss {off : Fin 2 → ℕ} {inb : ∀ a, off a + S1x128.size a ≤ S2x1024.size a} {i j : ℕ} (ho : off 0 = i / 1024 ∧ off 1 = i % 1024) (hj : j < i) (y : S1x128.Idx) :
    (Rect.unit (s := S2x1024) off S1x128.size inb).emb y ≠ ix2 (Fin.ofNat 2 (j / 1024)) (Fin.ofNat 1024 (j % 1024)) := by
  intro hy
  have h0 : off 0 + 1 ≤ 2 := inb 0
  have h1 : off 1 + 128 ≤ 1024 := inb 1
  have := ho.1
  have := ho.2
  have y0 : (y 0).val < 1 := (y 0).isLt
  have y1 : (y 1).val < 128 := (y 1).isLt
  have e0 : off 0 + 1 * (y 0).val = j / 1024 % 2 := congrArg Fin.val (congrFun hy 0)
  have e1 : off 1 + 1 * (y 1).val = j % 1024 % 1024 := congrArg Fin.val (congrFun hy 1)
  omega

theorem st_zoV (i : ℕ) (hv : SV vx vw vws vxs R' n DZ DL s) {xa xb wa wb da db : ℕ} (hc : Cnt s xa xb wa wb da db)
    {off : Fin 2 → ℕ} {inb : ∀ a, off a + S1x128.size a ≤ S2x1024.size a} {w : S1x128.Idx → Elt Ideal .f32}
    {hx : ((mZo).access (Rect.unit (s := S2x1024) off S1x128.size inb)).Stores Finset.univ}
    {hm : (Finset.univ : Finset S1x128.Idx) = Finset.univ ∨ ∀ a, (Rect.unit (s := S2x1024) off S1x128.size inb).stride a = 1} {k : PUnit → Prog (TpuEff nD τ sig (Elt Ideal) Λ₀ .tc) β}
    (ho : off 0 = i / 1024 ∧ off 1 = i % 1024) (hi : i = 128 * DZ) (hw : ∀ l : Fin 128, w (ix2 0 l) = zoN vx vw vws vxs (i + l.val))
    (h : ∀ s', SV vx vw vws vxs R' n (DZ + 1) DL s' → Cnt s' xa xb wa wb da db → Res c vx vw P s' R ⊢ WP c (k ⟨⟩) Q) :
    Res c vx vw P s R ⊢ WP c (Prog.lift (.store mZo (Rect.unit (s := S2x1024) off S1x128.size inb) w Finset.univ hx hm) >>= k) Q := by
  refine st_zo (h _ ⟨hv.wsb, hv.zt, fun j hj => ?_, hv.lse⟩ ⟨hc.xa, hc.xb, hc.wa, hc.wb, hc.da, hc.db⟩)
  by_cases eg : i ≤ j
  · have hh := View.write_emb_of_mem (v := (mZo).access (Rect.unit (s := S2x1024) off S1x128.size inb)) (Val := Elt Ideal) s.zo w (M := Finset.univ) (x := ix2 0 ⟨j - i, by omega⟩) (Finset.mem_univ _)
    have he : ((mZo).access (Rect.unit (s := S2x1024) off S1x128.size inb)).emb (ix2 0 ⟨j - i, by omega⟩) = ix2 (Fin.ofNat 2 (j / 1024)) (Fin.ofNat 1024 (j % 1024)) := by
      have := row_hit (inb := inb) ho (show j - i < 128 by omega)
      rw [show i + (j - i) = j by omega] at this
      exact this
    rw [he] at hh
    refine Eq.trans hh ?_
    have := hw ⟨j - i, by omega⟩
    rw [show i + (j - i) = j by omega] at this
    exact this
  · refine Eq.trans (View.write_of_not_mem (v := (mZo).access (Rect.unit (s := S2x1024) off S1x128.size inb)) (Val := Elt Ideal) s.zo w Finset.univ ?_) (hv.zo j (by omega))
    intro hmem
    obtain ⟨y, -, hy⟩ := Finset.mem_map.mp hmem
    exact row_miss (inb := inb) ho (show j < i by omega) y hy

theorem st_lseV (i : ℕ) (hv : SV vx vw vws vxs R' n DZ DL s) {xa xb wa wb da db : ℕ} (hc : Cnt s xa xb wa wb da db)
    {off : Fin 2 → ℕ} {inb : ∀ a, off a + S1x128.size a ≤ S2x1024.size a} {w : S1x128.Idx → Elt Ideal .f32}
    {hx : ((mLse).access (Rect.unit (s := S2x1024) off S1x128.size inb)).Stores Finset.univ}
    {hm : (Finset.univ : Finset S1x128.Idx) = Finset.univ ∨ ∀ a, (Rect.unit (s := S2x1024) off S1x128.size inb).stride a = 1} {k : PUnit → Prog (TpuEff nD τ sig (Elt Ideal) Λ₀ .tc) β}
    (ho : off 0 = i / 1024 ∧ off 1 = i % 1024) (hi : i = 128 * DL) (hw : ∀ l : Fin 128, w (ix2 0 l) = lseN vx vw vws vxs (i + l.val))
    (h : ∀ s', SV vx vw vws vxs R' n DZ (DL + 1) s' → Cnt s' xa xb wa wb da db → Res c vx vw P s' R ⊢ WP c (k ⟨⟩) Q) :
    Res c vx vw P s R ⊢ WP c (Prog.lift (.store mLse (Rect.unit (s := S2x1024) off S1x128.size inb) w Finset.univ hx hm) >>= k) Q := by
  refine st_lse (h _ ⟨hv.wsb, hv.zt, hv.zo, fun j hj => ?_⟩ ⟨hc.xa, hc.xb, hc.wa, hc.wb, hc.da, hc.db⟩)
  by_cases eg : i ≤ j
  · have hh := View.write_emb_of_mem (v := (mLse).access (Rect.unit (s := S2x1024) off S1x128.size inb)) (Val := Elt Ideal) s.lse w (M := Finset.univ) (x := ix2 0 ⟨j - i, by omega⟩) (Finset.mem_univ _)
    have he : ((mLse).access (Rect.unit (s := S2x1024) off S1x128.size inb)).emb (ix2 0 ⟨j - i, by omega⟩) = ix2 (Fin.ofNat 2 (j / 1024)) (Fin.ofNat 1024 (j % 1024)) := by
      have := row_hit (inb := inb) ho (show j - i < 128 by omega)
      rw [show i + (j - i) = j by omega] at this
      exact this
    rw [he] at hh
    refine Eq.trans hh ?_
    have := hw ⟨j - i, by omega⟩
    rw [show i + (j - i) = j by omega] at this
    exact this
  · refine Eq.trans (View.write_of_not_mem (v := (mLse).access (Rect.unit (s := S2x1024) off S1x128.size inb)) (Val := Elt Ideal) s.lse w Finset.univ ?_) (hv.lse j (by omega))
    intro hmem
    obtain ⟨y, -, hy⟩ := Finset.mem_map.mp hmem
    exact row_miss (inb := inb) ho (show j < i by omega) y hy
end

/-! ## The scales, spread over the columns -/

/-- The first 128 rows, -/
theorem st_wsb1 {xa xb wa wb da db : ℕ} (hc : Cnt s xa xb wa wb da db)
    {off : Fin 2 → ℕ} {inb : ∀ a, off a + S128x128.size a ≤ S256x128.size a} {w : S128x128.Idx → Elt Ideal .f32}
    {hx : ((mWsb).access (Rect.unit (s := S256x128) off S128x128.size inb)).Stores Finset.univ}
    {hm : (Finset.univ : Finset S128x128.Idx) = Finset.univ ∨ ∀ a, (Rect.unit (s := S256x128) off S128x128.size inb).stride a = 1} {k : PUnit → Prog (TpuEff nD τ sig (Elt Ideal) Λ₀ .tc) β}
    (ho : off 0 = 0) (hw : ∀ e l : Fin 128, w (ix2 e l) = wsN vws (0 + e.val))
    (h : ∀ s', (∀ (e : Fin 256) (l : Fin 128), e.val < 128 → s'.wsb (ix2 e l) = wsN vws e.val) → Cnt s' xa xb wa wb da db → Res c vx vw P s' R ⊢ WP c (k ⟨⟩) Q) :
    Res c vx vw P s R ⊢ WP c (Prog.lift (.store mWsb (Rect.unit (s := S256x128) off S128x128.size inb) w Finset.univ hx hm) >>= k) Q := by
  refine st_wsb (h _ (fun e l he => ?_) ⟨hc.xa, hc.xb, hc.wa, hc.wb, hc.da, hc.db⟩)
  have h1 : off 1 + 128 ≤ 128 := inb 1
  have hh := View.write_emb_of_mem (v := (mWsb).access (Rect.unit (s := S256x128) off S128x128.size inb)) (Val := Elt Ideal) s.wsb w (M := Finset.univ) (x := ix2 ⟨e.val, he⟩ l) (Finset.mem_univ _)
  have e1 : ((mWsb).access (Rect.unit (s := S256x128) off S128x128.size inb)).emb (ix2 ⟨e.val, he⟩ l) = ix2 e l := by
    funext a
    match a with
    | 0 => exact Fin.ext (by show off 0 + 1 * e.val = e.val; omega)
    | 1 => exact Fin.ext (by show off 1 + 1 * l.val = l.val; omega)
  rw [e1] at hh
  refine Eq.trans hh ?_
  have := hw ⟨e.val, he⟩ l
  rw [Nat.zero_add] at this
  exact this

/-- and the others. -/
theorem st_wsb2 {xa xb wa wb da db : ℕ} (hv : ∀ (e : Fin 256) (l : Fin 128), e.val < 128 → s.wsb (ix2 e l) = wsN vws e.val) (hc : Cnt s xa xb wa wb da db)
    {off : Fin 2 → ℕ} {inb : ∀ a, off a + S128x128.size a ≤ S256x128.size a} {w : S128x128.Idx → Elt Ideal .f32}
    {hx : ((mWsb).access (Rect.unit (s := S256x128) off S128x128.size inb)).Stores Finset.univ}
    {hm : (Finset.univ : Finset S128x128.Idx) = Finset.univ ∨ ∀ a, (Rect.unit (s := S256x128) off S128x128.size inb).stride a = 1} {k : PUnit → Prog (TpuEff nD τ sig (Elt Ideal) Λ₀ .tc) β}
    (ho : off 0 = 128) (hw : ∀ e l : Fin 128, w (ix2 e l) = wsN vws (128 + e.val))
    (h : ∀ s', SV vx vw vws vxs 0 0 0 0 s' → Cnt s' xa xb wa wb da db → Res c vx vw P s' R ⊢ WP c (k ⟨⟩) Q) :
    Res c vx vw P s R ⊢ WP c (Prog.lift (.store mWsb (Rect.unit (s := S256x128) off S128x128.size inb) w Finset.univ hx hm) >>= k) Q := by
  refine st_wsb (h _ ⟨fun e l => ?_, fun g e l hg => absurd hg (Nat.not_lt_zero _), fun i hi => absurd hi (Nat.not_lt_zero _), fun i hi => absurd hi (Nat.not_lt_zero _)⟩ ⟨hc.xa, hc.xb, hc.wa, hc.wb, hc.da, hc.db⟩)
  have h1 : off 1 + 128 ≤ 128 := inb 1
  by_cases he : e.val < 128
  · refine Eq.trans (View.write_of_not_mem (v := (mWsb).access (Rect.unit (s := S256x128) off S128x128.size inb)) (Val := Elt Ideal) s.wsb w Finset.univ ?_) (hv e l he)
    intro hmem
    obtain ⟨y, -, hy⟩ := Finset.mem_map.mp hmem
    have e0 : off 0 + 1 * (y 0).val = e.val := congrArg Fin.val (congrFun hy 0)
    omega
  · have hh := View.write_emb_of_mem (v := (mWsb).access (Rect.unit (s := S256x128) off S128x128.size inb)) (Val := Elt Ideal) s.wsb w (M := Finset.univ) (x := ix2 ⟨e.val - 128, by omega⟩ l) (Finset.mem_univ _)
    have e1 : ((mWsb).access (Rect.unit (s := S256x128) off S128x128.size inb)).emb (ix2 ⟨e.val - 128, by omega⟩ l) = ix2 e l := by
      funext a
      match a with
      | 0 => exact Fin.ext (by show off 0 + 1 * (e.val - 128) = e.val; omega)
      | 1 => exact Fin.ext (by show off 1 + 1 * l.val = l.val; omega)
    rw [e1] at hh
    refine Eq.trans hh ?_
    have := hw ⟨e.val - 128, by omega⟩ l
    rw [show 128 + (e.val - 128) = e.val by omega] at this
    exact this

end Cert.KernelIdeal.Hand

end
-- ==== Proof.KV.P0.lean ====
/-
# The values: the scales
-/
module

public import proofs.«01_k».proof.Proof.KV.Sv
public import proofs.«01_k».proof.Proof.KI.P0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v60 {k : (Mxu Ideal) → Prog (TpuEff nD τ sig (Elt Ideal) Λ₀ .tc) β} (hc : Cnt s 0 0 0 0 0 0)
    (h : ∀ (r0 : Mxu Ideal) (s' : St Ideal) (_ : MxV vx vw 0 0 (oc false false false false) (lv false false) (kk 0 0) (kk 0 0) r0) (_ : Cnt s' 0 2 0 2 0 0), Res c vx vw PT s' iprop(SI1 c vid vws vxs ∗ R) ⊢ WP c (k r0) Q) :
    Res c vx vw PT s iprop(SI0 c vid vws vxs ∗ R) ⊢ WP c (app (k0_part60 (F := Ideal))  >>= k) Q := by
  rw [k0_part60_eq_skeleton]
  unfold app k0_part60_skel
  simp only [bind_assoc]
  refine start_x 0 (bs hc.xa hc.xb (by decide)) (by decide) (by decide) (by decide) (by decide) ?_
  refine start_w 0 (bs hc.wa hc.wb (by decide)) (by decide) (by decide) (by decide) (by decide) ?_
  refine starts_small rfl rfl rfl ?_
  refine start_x 1 (bs hc.xa (rfl : _ = 1) (by decide)) (by decide) (by decide) (by decide) (by decide) ?_
  refine start_w 1 (bs hc.wa (rfl : _ = 1) (by decide)) (by decide) (by decide) (by decide) (by decide) ?_
  refine s_pure ?_
  exact h _ _ (MxV.init (by decide)) ⟨hc.xa, (rfl : _ = 2), hc.wa, (rfl : _ = 2), hc.da, hc.db⟩

set_option maxRecDepth 65536 in
set_option maxHeartbeats 4000000 in
theorem v64 {k : (FVec Ideal S128x128 .f32) → Prog (TpuEff nD τ sig (Elt Ideal) Λ₀ .tc) β} (hc : Cnt s 0 11 0 11 0 0)
    (h : ∀ (r0 : FVec Ideal S128x128 .f32) (s' : St Ideal) (_ : Cnt s' 0 48 0 12 0 0) (_ : ∀ (e : Fin 256) (l : Fin 128), e.val < 128 → s'.wsb (ix2 e l) = wsN vws e.val) (_ : ∃ x0, (∀ l : Fin 128, x0 (ix2 0 l) = wsN vws (128 + l.val)) ∧ r0 = k0_pay222 (F := Ideal) x0), Res c vx vw PT s' iprop(SL c vid vws vxs ∗ R) ⊢ WP c (k r0) Q) :
    Res c vx vw PT s iprop(SI1 c vid vws vxs ∗ R) ⊢ WP c (app (k0_part64 (F := Ideal))  >>= k) Q := by
  rw [k0_part64_eq_skeleton]
  unfold app k0_part64_skel
  simp only [bind_assoc]
  refine start_x 11 (bs hc.xa hc.xb (by decide)) (by decide) (by decide) (by decide) (by decide) ?_
  refine start_w 11 (bs hc.wa hc.wb (by decide)) (by decide) (by decide) (by decide) (by decide) ?_
  refine (s_for (fun n _ s => Cnt s 0 (12 + n) 0 12 0 0) ⟨hc.xa, (rfl : _ = 12), hc.wa, (rfl : _ = 12), hc.da, hc.db⟩ (fun t m s hI => bt1 hI) fun m s' hI => ?_)
  clear hc; have hc : Cnt s' 0 24 0 12 0 0 := by have e : k0_t1_loop.trips = 12 := (by decide); rw [e] at hI; exact hI
  clear hI
  refine (s_for (fun n _ s => Cnt s 0 (24 + n) 0 12 0 0) ⟨hc.xa, hc.xb, hc.wa, hc.wb, hc.da, hc.db⟩ (fun t m s hI => bt2 hI) fun m s' hI => ?_)
  clear hc; have hc : Cnt s' 0 36 0 12 0 0 := by have e : k0_t2_loop.trips = 12 := (by decide); rw [e] at hI; exact hI
  clear hI
  refine (s_for (fun n _ s => Cnt s 0 (36 + n) 0 12 0 0) ⟨hc.xa, hc.xb, hc.wa, hc.wb, hc.da, hc.db⟩ (fun t m s hI => bt3 hI) fun m s' hI => ?_)
  clear hc; have hc : Cnt s' 0 48 0 12 0 0 := by have e : k0_t3_loop.trips = 12 := (by decide); rw [e] at hI; exact hI
  clear hI
  refine waits_small rfl rfl rfl ?_
  refine ld_wsV 0 rfl fun v147_r0 hv147_r0 => ?_
  refine ld_wsb ?_
  refine st_wsb1 ⟨hc.xa, hc.xb, hc.wa, hc.wb, hc.da, hc.db⟩ rfl (by have H := wsb_pay (o := 0) hv147_r0; exact H) fun s' hw' hc' => ?_
  clear hc; have hc := hc'; have hw := hw'; clear hc' hw'
  refine ld_wsV 128 rfl fun v154_r0 hv154_r0 => ?_
  refine s_pure ?_
  exact h _ _ ⟨hc.xa, hc.xb, hc.wa, hc.wb, hc.da, hc.db⟩ hw ⟨_, hv154_r0, rfl⟩

end Cert.KernelIdeal.Hand

end
-- ==== Proof.KV.P5.lean ====
/-
# The values: the last trip
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v70 {k0_mxu161 : Mxu Ideal} {v310_r0 : Vec Ideal S256x256 .fp8e4m3} {k : (Σ' (_ : Mxu Ideal) (_ : BitVec 32) (_ : FVec Ideal S1x128 .f32) (_ : FVec Ideal S1x128 .f32), FVec Ideal S1x128 .f32) → Prog (TpuEff nD τ sig (Elt Ideal) Λ₀ .tc) β} (hm : MxV vx vw 192 3 (oc true false true false) (lv true true) (kk 180 0) (kk 36 36) k0_mxu161) (hc : Cnt s 46 48 12 12 0 11) (hv : SV vx vw vws vxs 2 4 11 11 s) (hF0 : Tile vx 0 181 v310_r0)
    (h : ∀ (r0 : Mxu Ideal) (r1 : BitVec 32) (r2 : FVec Ideal S1x128 .f32) (r3 : FVec Ideal S1x128 .f32) (r4 : FVec Ideal S1x128 .f32) (s' : St Ideal) (_ : MxV vx vw 192 3 (oc false true false true) (lv true true) (kk 180 181) (kk 37 37) r0) (_ : Cnt s' 46 48 12 12 0 11) (_ : SV vx vw vws vxs 2 4 11 11 s') (_ : ∃ x0, ZV vx vw vws vxs 1408 x0 ∧ r3 = k0_pay259 (F := Ideal) x0), Res c vx vw PT s' iprop(SL c vid vws vxs ∗ R) ⊢ WP c (k ⟨r0, r1, r2, r3, r4⟩) Q) :
    Res c vx vw PT s iprop(SL c vid vws vxs ∗ R) ⊢ WP c (app (k0_part70 (F := Ideal)) k0_mxu161 v310_r0 >>= k) Q := by
  have f0 := hF0
  rw [k0_part70_eq_skeleton]
  unfold app k0_part70_skel
  refine s_assoc (s_push1 (oc true true true false) 181 hm (by decide) (by decide) f0 fun m hm => ?_)
  refine s_assoc (ld_xV 1 181 (bx hc.xa (by decide)) (by decide) fun v316_r0 hv316_r0 => ?_)
  refine s_assoc (s_pushB (oc true true true true) hm (by decide) hv316_r0 fun m hm => ?_)
  refine s_assoc (ld_wV 36 (bv hc.wa (by decide)) (by decide) fun v320_r0 hv320_r0 => ?_)
  refine s_assoc (ld_ztV 1408 3 (vws := vws) (vxs := vxs) (R' := 2) (n := 4) (DZ := 11) (DL := 11) ?_ ?_ ?_ ?_)
  · exact ⟨hv.wsb, hv.zt, hv.zo, hv.lse⟩
  · exact (by decide)
  · omega
  intro v323_r0 hv323_r0
  refine s_assoc (ld_et ?_)
  refine s_assoc (st_et ?_)
  refine s_assoc (ld_cf ?_)
  refine s_assoc (ld_aux ?_)
  refine s_assoc (st_aux ?_)
  refine s_pure ?_
  exact h _ _ _ _ _ _ (MxV.acc1 (r := 0) (hf := Gen.fits_192_256) (oc false true false true) (lv true true) (MxV.acc0 (r := 0) (hf := Gen.fits_192_256) (oc false true true true) (lv true true) hm (by decide) hv320_r0.tile (show 180 = 48 * 3 + 36 by omega) (by decide)) (by decide) hv320_r0.tile (show 180 = 48 * 3 + 36 by omega) (by decide)) ⟨hc.xa, hc.xb, hc.wa, hc.wb, hc.da, hc.db⟩ ⟨hv.wsb, hv.zt, hv.zo, hv.lse⟩ ⟨_, hv323_r0, rfl⟩

set_option maxRecDepth 65536 in
set_option maxHeartbeats 4000000 in
theorem v71 {v322_r0 : BitVec 32} {v336_r0 : FVec Ideal S1x128 .f32} {v338_r0 : FVec Ideal S1x128 .f32} {v343_r0 : FVec Ideal S1x128 .f32} {k : (BitVec 32) → Prog (TpuEff nD τ sig (Elt Ideal) Λ₀ .tc) β} (hc : Cnt s 46 48 12 12 0 11) (hv : SV vx vw vws vxs 2 4 11 11 s) (hF0 : ∃ x0, ZV vx vw vws vxs 1408 x0 ∧ v338_r0 = k0_pay259 (F := Ideal) x0)
    (h : ∀ (r0 : BitVec 32) (s' : St Ideal) (_ : Cnt s' 46 48 12 12 0 11) (_ : SV vx vw vws vxs 2 4 12 12 s'), Res c vx vw PT s' iprop(SL c vid vws vxs ∗ R) ⊢ WP c (k r0) Q) :
    Res c vx vw PT s iprop(SL c vid vws vxs ∗ R) ⊢ WP c (app (k0_part71 (F := Ideal)) v322_r0 v336_r0 v338_r0 v343_r0 >>= k) Q := by
  obtain ⟨x0, f0, rfl⟩ := hF0
  rw [k0_part71_eq_skeleton]
  unfold app k0_part71_skel
  refine s_assoc (ld_zo ?_)
  refine s_assoc (st_zoV 1408 (vws := vws) (vxs := vxs) (R' := 2) (n := 4) (DZ := 11) (DL := 11) (xa := 46) (xb := 48) (wa := 12) (wb := 12) (da := 0) (db := 11) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := zo_pay f0; exact H)
  intro s' hv' hc'
  clear hc hv; have hc := hc'; have hv := hv'; clear hc' hv'
  refine s_assoc (ld_lse ?_)
  refine s_assoc (st_lseV 1408 (vws := vws) (vxs := vxs) (R' := 2) (n := 4) (DZ := 12) (DL := 11) (xa := 46) (xb := 48) (wa := 12) (wb := 12) (da := 0) (db := 11) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v72 {k0_mxu213 : Mxu Ideal} {c1536_i32_216_r0 : BitVec 32} {k : (Mxu Ideal) → Prog (TpuEff nD τ sig (Elt Ideal) Λ₀ .tc) β} (hm : MxV vx vw 192 3 (oc false true false true) (lv true true) (kk 180 181) (kk 37 37) k0_mxu213) (hc : Cnt s 46 48 12 12 0 11) (hv : SV vx vw vws vxs 2 4 12 12 s)
    (h : ∀ (r0 : Mxu Ideal) (s' : St Ideal) (_ : MxV vx vw 192 3 (oc false true false true) (lv true true) (kk 182 183) (kk 39 39) r0) (_ : Cnt s' 46 48 12 12 0 11) (_ : SV vx vw vws vxs 2 4 12 12 s'), Res c vx vw PT s' iprop(SL c vid vws vxs ∗ R) ⊢ WP c (k r0) Q) :
    Res c vx vw PT s iprop(SL c vid vws vxs ∗ R) ⊢ WP c (app (k0_part72 (F := Ideal)) k0_mxu213 c1536_i32_216_r0 >>= k) Q := by
  rw [k0_part72_eq_skeleton]
  unfold app k0_part72_skel
  refine s_assoc (ld_xV 0 182 (bx hc.xa (by decide)) (by decide) fun v391_r0 hv391_r0 => ?_)
  refine s_assoc (s_push0 (oc true true false true) 182 hm (by decide) (by decide) hv391_r0 fun m hm => ?_)
  refine s_assoc (ld_xV 1 182 (bx hc.xa (by decide)) (by decide) fun v397_r0 hv397_r0 => ?_)
  refine s_assoc (s_pushB (oc true true true true) hm (by decide) hv397_r0 fun m hm => ?_)
  refine s_assoc (ld_wV 37 (bv hc.wa (by decide)) (by decide) fun v401_r0 hv401_r0 => ?_)
  refine s_assoc (ld_xV 0 183 (bx hc.xa (by decide)) (by decide) fun v407_r0 hv407_r0 => ?_)
  refine s_assoc (s_push1 (oc true true true false) 183 (MxV.acc1 (r := 1) (hf := Gen.fits_192_256) (oc true false true false) (lv true true) (MxV.acc0 (r := 1) (hf := Gen.fits_192_256) (oc true false true true) (lv true true) hm (by decide) hv401_r0.tile (show 181 = 48 * 3 + 37 by omega) (by decide)) (by decide) hv401_r0.tile (show 181 = 48 * 3 + 37 by omega) (by decide)) (by decide) (by decide) hv407_r0 fun m hm => ?_)
  refine s_assoc (ld_xV 1 183 (bx hc.xa (by decide)) (by decide) fun v413_r0 hv413_r0 => ?_)
  refine s_assoc (s_pushB (oc true true true true) hm (by decide) hv413_r0 fun m hm => ?_)
  refine s_assoc (ld_wV 38 (bv hc.wa (by decide)) (by decide) fun v417_r0 hv417_r0 => ?_)
  refine s_pure ?_
  exact h _ _ (MxV.acc1 (r := 0) (hf := Gen.fits_192_256) (oc false true false true) (lv true true) (MxV.acc0 (r := 0) (hf := Gen.fits_192_256) (oc false true true true) (lv true true) hm (by decide) hv417_r0.tile (show 182 = 48 * 3 + 38 by omega) (by decide)) (by decide) hv417_r0.tile (show 182 = 48 * 3 + 38 by omega) (by decide)) ⟨hc.xa, hc.xb, hc.wa, hc.wb, hc.da, hc.db⟩ ⟨hv.wsb, hv.zt, hv.zo, hv.lse⟩

set_option maxRecDepth 65536 in
set_option maxHeartbeats 4000000 in
theorem v73 {k0_mxu221 : Mxu Ideal} {k : (Σ' (_ : Mxu Ideal), Vec Ideal S256x256 .fp8e4m3) → Prog (TpuEff nD τ sig (Elt Ideal) Λ₀ .tc) β} (hm : MxV vx vw 192 3 (oc false true false true) (lv true true) (kk 182 183) (kk 39 39) k0_mxu221) (hc : Cnt s 46 48 12 12 0 11) (hv : SV vx vw vws vxs 2 4 12 12 s)
    (h : ∀ (r0 : Mxu Ideal) (r1 : Vec Ideal S256x256 .fp8e4m3) (s' : St Ideal) (_ : MxV vx vw 192 3 (oc false true false true) (lv true true) (kk 184 185) (kk 41 41) r0) (_ : Cnt s' 47 48 12 12 0 11) (_ : SV vx vw vws vxs 2 4 12 12 s') (_ : Tile vx 0 186 r1), Res c vx vw PT s' iprop(SL c vid vws vxs ∗ R) ⊢ WP c (k ⟨r0, r1⟩) Q) :
    Res c vx vw PT s iprop(SL c vid vws vxs ∗ R) ⊢ WP c (app (k0_part73 (F := Ideal)) k0_mxu221 >>= k) Q := by
  rw [k0_part73_eq_skeleton]
  unfold app k0_part73_skel
  refine s_assoc (wait_x 46 (bw hc.xa hc.xb (by decide)) rfl (by decide) ?_)
  refine s_assoc (ld_xV 0 184 (bx (rfl : _ = 47) (by decide)) (by decide) fun v429_r0 hv429_r0 => ?_)
  refine s_assoc (s_push0 (oc true true false true) 184 hm (by decide) (by decide) hv429_r0 fun m hm => ?_)
  refine s_assoc (ld_xV 1 184 (bx (rfl : _ = 47) (by decide)) (by decide) fun v435_r0 hv435_r0 => ?_)
  refine s_assoc (s_pushB (oc true true true true) hm (by decide) hv435_r0 fun m hm => ?_)
  refine s_assoc (ld_wV 39 (bv hc.wa (by decide)) (by decide) fun v439_r0 hv439_r0 => ?_)
  refine s_assoc (ld_xV 0 185 (bx (rfl : _ = 47) (by decide)) (by decide) fun v445_r0 hv445_r0 => ?_)
  refine s_assoc (s_push1 (oc true true true false) 185 (MxV.acc1 (r := 1) (hf := Gen.fits_192_256) (oc true false true false) (lv true true) (MxV.acc0 (r := 1) (hf := Gen.fits_192_256) (oc true false true true) (lv true true) hm (by decide) hv439_r0.tile (show 183 = 48 * 3 + 39 by omega) (by decide)) (by decide) hv439_r0.tile (show 183 = 48 * 3 + 39 by omega) (by decide)) (by decide) (by decide) hv445_r0 fun m hm => ?_)
  refine s_assoc (ld_xV 1 185 (bx (rfl : _ = 47) (by decide)) (by decide) fun v451_r0 hv451_r0 => ?_)
  refine s_assoc (s_pushB (oc true true true true) hm (by decide) hv451_r0 fun m hm => ?_)
  refine s_assoc (ld_wV 40 (bv hc.wa (by decide)) (by decide) fun v455_r0 hv455_r0 => ?_)
  refine s_assoc (ld_xV 0 186 (bx (rfl : _ = 47) (by decide)) (by decide) fun v461_r0 hv461_r0 => ?_)
  refine s_pure ?_
  exact h _ _ _ (MxV.acc1 (r := 0) (hf := Gen.fits_192_256) (oc false true false true) (lv true true) (MxV.acc0 (r := 0) (hf := Gen.fits_192_256) (oc false true true true) (lv true true) hm (by decide) hv455_r0.tile (show 184 = 48 * 3 + 40 by omega) (by decide)) (by decide) hv455_r0.tile (show 184 = 48 * 3 + 40 by omega) (by decide)) ⟨(rfl : _ = 47), hc.xb, hc.wa, hc.wb, hc.da, hc.db⟩ ⟨hv.wsb, hv.zt, hv.zo, hv.lse⟩ hv461_r0

set_option maxRecDepth 65536 in
set_option maxHeartbeats 4000000 in
theorem v74 {k0_mxu229 : Mxu Ideal} {v461_r0 : Vec Ideal S256x256 .fp8e4m3} {k : (Σ' (_ : Mxu Ideal), BitVec 32) → Prog (TpuEff nD τ sig (Elt Ideal) Λ₀ .tc) β} (hm : MxV vx vw 192 3 (oc false true false true) (lv true true) (kk 184 185) (kk 41 41) k0_mxu229) (hc : Cnt s 47 48 12 12 0 11) (hv : SV vx vw vws vxs 2 4 12 12 s) (hF0 : Tile vx 0 186 v461_r0)
    (h : ∀ (r0 : Mxu Ideal) (r1 : BitVec 32) (s' : St Ideal) (_ : MxV vx vw 192 3 (oc false true false true) (lv true true) (kk 186 187) (kk 43 43) r0) (_ : Cnt s' 48 48 12 12 0 11) (_ : SV vx vw vws vxs 2 4 12 12 s'), Res c vx vw PT s' iprop(SL c vid vws vxs ∗ R) ⊢ WP c (k ⟨r0, r1⟩) Q) :
    Res c vx vw PT s iprop(SL c vid vws vxs ∗ R) ⊢ WP c (app (k0_part74 (F := Ideal)) k0_mxu229 v461_r0 >>= k) Q := by
  have f0 := hF0
  rw [k0_part74_eq_skeleton]
  unfold app k0_part74_skel
  refine s_assoc (s_push0 (oc true true false true) 186 hm (by decide) (by decide) f0 fun m hm => ?_)
  refine s_assoc (ld_xV 1 186 (bx hc.xa (by decide)) (by decide) fun v467_r0 hv467_r0 => ?_)
  refine s_assoc (s_pushB (oc true true true true) hm (by decide) hv467_r0 fun m hm => ?_)
  refine s_assoc (ld_wV 41 (bv hc.wa (by decide)) (by decide) fun v471_r0 hv471_r0 => ?_)
  refine s_assoc (ld_xV 0 187 (bx hc.xa (by decide)) (by decide) fun v477_r0 hv477_r0 => ?_)
  refine s_assoc (s_push1 (oc true true true false) 187 (MxV.acc1 (r := 1) (hf := Gen.fits_192_256) (oc true false true false) (lv true true) (MxV.acc0 (r := 1) (hf := Gen.fits_192_256) (oc true false true true) (lv true true) hm (by decide) hv471_r0.tile (show 185 = 48 * 3 + 41 by omega) (by decide)) (by decide) hv471_r0.tile (show 185 = 48 * 3 + 41 by omega) (by decide)) (by decide) (by decide) hv477_r0 fun m hm => ?_)
  refine s_assoc (ld_xV 1 187 (bx hc.xa (by decide)) (by decide) fun v483_r0 hv483_r0 => ?_)
  refine s_assoc (s_pushB (oc true true true true) hm (by decide) hv483_r0 fun m hm => ?_)
  refine s_assoc (ld_wV 42 (bv hc.wa (by decide)) (by decide) fun v487_r0 hv487_r0 => ?_)
  refine s_assoc (wait_x 47 (bw hc.xa hc.xb (by decide)) rfl (by decide) ?_)
  refine s_pure ?_
  exact h _ _ _ (MxV.acc1 (r := 0) (hf := Gen.fits_192_256) (oc false true false true) (lv true true) (MxV.acc0 (r := 0) (hf := Gen.fits_192_256) (oc false true true true) (lv true true) hm (by decide) hv487_r0.tile (show 186 = 48 * 3 + 42 by omega) (by decide)) (by decide) hv487_r0.tile (show 186 = 48 * 3 + 42 by omega) (by decide)) ⟨(rfl : _ = 48), hc.xb, hc.wa, hc.wb, hc.da, hc.db⟩ ⟨hv.wsb, hv.zt, hv.zo, hv.lse⟩

set_option maxRecDepth 65536 in
set_option maxHeartbeats 4000000 in
theorem v75 {k0_mxu237 : Mxu Ideal} {v496_r0 : BitVec 32} {k : (Σ' (_ : Mxu Ideal) (_ : BitVec 32), BitVec 32) → Prog (TpuEff nD τ sig (Elt Ideal) Λ₀ .tc) β} (hm : MxV vx vw 192 3 (oc false true false true) (lv true true) (kk 186 187) (kk 43 43) k0_mxu237) (hc : Cnt s 48 48 12 12 0 11) (hv : SV vx vw vws vxs 2 4 12 12 s)
    (h : ∀ (r0 : Mxu Ideal) (r1 : BitVec 32) (r2 : BitVec 32) (s' : St Ideal) (_ : MxV vx vw 192 3 (oc true true false true) (lv true true) (kk 190 189) (kk 45 45) r0) (_ : Cnt s' 48 48 12 12 0 11) (_ : SV vx vw vws vxs 2 4 12 12 s'), Res c vx vw PT s' iprop(SL c vid vws vxs ∗ R) ⊢ WP c (k ⟨r0, r1, r2⟩) Q) :
    Res c vx vw PT s iprop(SL c vid vws vxs ∗ R) ⊢ WP c (app (k0_part75 (F := Ideal)) k0_mxu237 v496_r0 >>= k) Q := by
  rw [k0_part75_eq_skeleton]
  unfold app k0_part75_skel
  refine s_assoc (ld_xV 0 188 (bx hc.xa (by decide)) (by decide) fun v499_r0 hv499_r0 => ?_)
  refine s_assoc (s_push0 (oc true true false true) 188 hm (by decide) (by decide) hv499_r0 fun m hm => ?_)
  refine s_assoc (ld_xV 1 188 (bx hc.xa (by decide)) (by decide) fun v505_r0 hv505_r0 => ?_)
  refine s_assoc (s_pushB (oc true true true true) hm (by decide) hv505_r0 fun m hm => ?_)
  refine s_assoc (ld_wV 43 (bv hc.wa (by decide)) (by decide) fun v509_r0 hv509_r0 => ?_)
  refine s_assoc (ld_xV 0 189 (bx hc.xa (by decide)) (by decide) fun v515_r0 hv515_r0 => ?_)
  refine s_assoc (s_push1 (oc true true true false) 189 (MxV.acc1 (r := 1) (hf := Gen.fits_192_256) (oc true false true false) (lv true true) (MxV.acc0 (r := 1) (hf := Gen.fits_192_256) (oc true false true true) (lv true true) hm (by decide) hv509_r0.tile (show 187 = 48 * 3 + 43 by omega) (by decide)) (by decide) hv509_r0.tile (show 187 = 48 * 3 + 43 by omega) (by decide)) (by decide) (by decide) hv515_r0 fun m hm => ?_)
  refine s_assoc (ld_xV 1 189 (bx hc.xa (by decide)) (by decide) fun v521_r0 hv521_r0 => ?_)
  refine s_assoc (s_pushB (oc true true true true) hm (by decide) hv521_r0 fun m hm => ?_)
  refine s_assoc (ld_wV 44 (bv hc.wa (by decide)) (by decide) fun v525_r0 hv525_r0 => ?_)
  refine s_assoc (ld_xV 0 190 (bx hc.xa (by decide)) (by decide) fun v531_r0 hv531_r0 => ?_)
  refine s_assoc (s_push0 (oc true true false true) 190 (MxV.acc1 (r := 0) (hf := Gen.fits_192_256) (oc false true false true) (lv true true) (MxV.acc0 (r := 0) (hf := Gen.fits_192_256) (oc false true true true) (lv true true) hm (by decide) hv525_r0.tile (show 188 = 48 * 3 + 44 by omega) (by decide)) (by decide) hv525_r0.tile (show 188 = 48 * 3 + 44 by omega) (by decide)) (by decide) (by decide) hv531_r0 fun m hm => ?_)
  refine s_pure ?_
  exact h _ _ _ _ hm ⟨hc.xa, hc.xb, hc.wa, hc.wb, hc.da, hc.db⟩ ⟨hv.wsb, hv.zt, hv.zo, hv.lse⟩

set_option maxRecDepth 65536 in
set_option maxHeartbeats 4000000 in
theorem v76 {k0_mxu246 : Mxu Ideal} {v533_r0 : BitVec 32} {v534_r0 : BitVec 32} {k : (Σ' (_ : FVec Ideal S256x256 .f32) (_ : Mxu Ideal), FVec Ideal S256x128 .f32) → Prog (TpuEff nD τ sig (Elt Ideal) Λ₀ .tc) β} (hm : MxV vx vw 192 3 (oc true true false true) (lv true true) (kk 190 189) (kk 45 45) k0_mxu246) (hc : Cnt s 48 48 12 12 0 11) (hv : SV vx vw vws vxs 2 4 12 12 s)
    (h : ∀ (r0 : FVec Ideal S256x256 .f32) (r1 : Mxu Ideal) (r2 : FVec Ideal S256x128 .f32) (s' : St Ideal) (_ : MxV vx vw 192 3 (oc false false false false) (lv false true) (kk 190 191) (kk 0 48) r1) (_ : Cnt s' 48 48 12 12 0 12) (_ : SV vx vw vws vxs 2 4 12 12 s') (_ : RD vx vw 1536 r0 ∧ r2 = k0_pay300 (F := Ideal) r0), Res c vx vw PT s' iprop(SL c vid vws vxs ∗ R) ⊢ WP c (k ⟨r0, r1, r2⟩) Q) :
    Res c vx vw PT s iprop(SL c vid vws vxs ∗ R) ⊢ WP c (app (k0_part76 (F := Ideal)) k0_mxu246 v533_r0 v534_r0 >>= k) Q := by
  rw [k0_part76_eq_skeleton]
  unfold app k0_part76_skel
  refine s_assoc (ld_xV 1 190 (bx hc.xa (by decide)) (by decide) fun v537_r0 hv537_r0 => ?_)
  refine s_assoc (s_pushB (oc true true true true) hm (by decide) hv537_r0 fun m hm => ?_)
  refine s_assoc (ld_wV 45 (bv hc.wa (by decide)) (by decide) fun v541_r0 hv541_r0 => ?_)
  refine s_assoc (ld_xV 0 191 (bx hc.xa (by decide)) (by decide) fun v547_r0 hv547_r0 => ?_)
  refine s_assoc (s_push1 (oc true true true false) 191 (MxV.acc1 (r := 1) (hf := Gen.fits_192_256) (oc true false true false) (lv true true) (MxV.acc0 (r := 1) (hf := Gen.fits_192_256) (oc true false true true) (lv true true) hm (by decide) hv541_r0.tile (show 189 = 48 * 3 + 45 by omega) (by decide)) (by decide) hv541_r0.tile (show 189 = 48 * 3 + 45 by omega) (by decide)) (by decide) (by decide) hv547_r0 fun m hm => ?_)
  refine s_assoc (ld_xV 1 191 (bx hc.xa (by decide)) (by decide) fun v553_r0 hv553_r0 => ?_)
  refine s_assoc (s_pushB (oc true true true true) hm (by decide) hv553_r0 fun m hm => ?_)
  refine s_assoc (ld_wV 46 (bv hc.wa (by decide)) (by decide) fun v557_r0 hv557_r0 => ?_)
  refine s_assoc (ld_wV 47 (bv hc.wa (by decide)) (by decide) fun v561_r0 hv561_r0 => ?_)
  refine s_assoc (start_d 11 (bs hc.da hc.db (by decide)) (by decide) (by decide) (by decide) (by decide) (fun _ _ => trivial) ?_)
  refine s_pure ?_
  exact h _ _ _ _ (MxV.pop0 (hf := Gen.fits_192_256) (lv false true) (MxV.acc1 (r := 1) (hf := Gen.fits_192_256) (oc false false false false) (lv true true) (MxV.acc0 (r := 1) (hf := Gen.fits_192_256) (oc false false false true) (lv true true) (MxV.acc1 (r := 0) (hf := Gen.fits_192_256) (oc false true false true) (lv true true) (MxV.acc0 (r := 0) (hf := Gen.fits_192_256) (oc false true true true) (lv true true) hm (by decide) hv557_r0.tile (show 190 = 48 * 3 + 46 by omega) (by decide)) (by decide) hv557_r0.tile (show 190 = 48 * 3 + 46 by omega) (by decide)) (by decide) hv561_r0.tile (show 191 = 48 * 3 + 47 by omega) (by decide)) (by decide) hv561_r0.tile (show 191 = 48 * 3 + 47 by omega) (by decide)) (by decide)) ⟨hc.xa, hc.xb, hc.wa, hc.wb, hc.da, (rfl : _ = 12)⟩ ⟨hv.wsb, hv.zt, hv.zo, hv.lse⟩ ⟨(MxV.rd (MxV.acc1 (r := 1) (hf := Gen.fits_192_256) (oc false false false false) (lv true true) (MxV.acc0 (r := 1) (hf := Gen.fits_192_256) (oc false false false true) (lv true true) (MxV.acc1 (r := 0) (hf := Gen.fits_192_256) (oc false true false true) (lv true true) (MxV.acc0 (r := 0) (hf := Gen.fits_192_256) (oc false true true true) (lv true true) hm (by decide) hv557_r0.tile (show 190 = 48 * 3 + 46 by omega) (by decide)) (by decide) hv557_r0.tile (show 190 = 48 * 3 + 46 by omega) (by decide)) (by decide) hv561_r0.tile (show 191 = 48 * 3 + 47 by omega) (by decide)) (by decide) hv561_r0.tile (show 191 = 48 * 3 + 47 by omega) (by decide)) 0 (hf := Gen.fits_192_256) (i := 1536) rfl rfl), rfl⟩

set_option maxRecDepth 65536 in
set_option maxHeartbeats 4000000 in
theorem v77 {v568_r0 : FVec Ideal S256x256 .f32} {k0_mxu256 : Mxu Ideal} {v569_r0 : FVec Ideal S256x128 .f32} {k : (Σ' (_ : Mxu Ideal), FVec Ideal S256x128 .f32) → Prog (TpuEff nD τ sig (Elt Ideal) Λ₀ .tc) β} (hm : MxV vx vw 192 3 (oc false false false false) (lv false true) (kk 190 191) (kk 0 48) k0_mxu256) (hc : Cnt s 48 48 12 12 0 12) (hv : SV vx vw vws vxs 2 4 12 12 s) (hF0 : RD vx vw 1536 v568_r0 ∧ v569_r0 = k0_pay300 (F := Ideal) v568_r0)
    (h : ∀ (r0 : Mxu Ideal) (r1 : FVec Ideal S256x128 .f32) (s' : St Ideal) (_ : MxV vx vw 192 3 (oc false false false false) (lv false false) (kk 190 191) (kk 0 0) r0) (_ : Cnt s' 48 48 12 12 0 12) (_ : SV vx vw vws vxs 3 3 12 12 s') (_ : ∃ x0 x1, RD vx vw 1792 x0 ∧ XS vxs 1920 x1 ∧ r1 = k0_pay304 (F := Ideal) x0 x1), Res c vx vw PT s' iprop(SL c vid vws vxs ∗ R) ⊢ WP c (k ⟨r0, r1⟩) Q) :
    Res c vx vw PT s iprop(SL c vid vws vxs ∗ R) ⊢ WP c (app (k0_part77 (F := Ideal)) v568_r0 k0_mxu256 v569_r0 >>= k) Q := by
  obtain ⟨f0, rfl⟩ := hF0
  rw [k0_part77_eq_skeleton]
  unfold app k0_part77_skel
  refine s_assoc (ld_xsV 1536 (by decide) fun v570_r0 hv570_r0 => ?_)
  refine s_assoc (ld_wsbV (R' := 2) (n := 4) (DZ := 12) (DL := 12) (hv := ⟨hv.wsb, hv.zt, hv.zo, hv.lse⟩) fun v573_r0 hv573_r0 => ?_)
  refine s_assoc (ld_zt ?_)
  refine s_assoc (st_ztV 1536 (vws := vws) (vxs := vxs) (R' := 3) (n := 0) (DZ := 12) (DL := 12) (xa := 48) (xb := 48) (wa := 12) (wb := 12) (da := 0) (db := 12) ?_ ?_ ?_ ?_ ?_ ?_)
  · exact (SV.next (R := 2) (n := 4) (DZ := 12) (DL := 12) 3 ⟨hv.wsb, hv.zt, hv.zo, hv.lse⟩ rfl rfl)
  · exact ⟨hc.xa, hc.xb, hc.wa, hc.wb, hc.da, hc.db⟩
  · exact rfl
  · rfl
  · exact (by have H := slab_lo (i₀ := 1536) f0 hv570_r0 hv573_r0; exact H)
  intro s' hv' hc'
  clear hc hv; have hc := hc'; have hv := hv'; clear hc' hv'
  refine s_assoc (ld_xsV 1664 (by decide) fun v579_r0 hv579_r0 => ?_)
  refine s_assoc (ld_wsbV (R' := 3) (n := 1) (DZ := 12) (DL := 12) (hv := ⟨hv.wsb, hv.zt, hv.zo, hv.lse⟩) fun v582_r0 hv582_r0 => ?_)
  refine s_assoc (ld_zt ?_)
  refine s_assoc (st_ztV 1664 (vws := vws) (vxs := vxs) (R' := 3) (n := 1) (DZ := 12) (DL := 12) (xa := 48) (xb := 48) (wa := 12) (wb := 12) (da := 0) (db := 12) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 1536) f0 hv579_r0 hv582_r0; exact H)
  intro s' hv' hc'
  clear hc hv; have hc := hc'; have hv := hv'; clear hc' hv'
  refine s_assoc (ld_xsV 1792 (by decide) fun v589_r0 hv589_r0 => ?_)
  refine s_assoc (ld_wsbV (R' := 3) (n := 2) (DZ := 12) (DL := 12) (hv := ⟨hv.wsb, hv.zt, hv.zo, hv.lse⟩) fun v592_r0 hv592_r0 => ?_)
  refine s_assoc (ld_zt ?_)
  refine s_assoc (st_ztV 1792 (vws := vws) (vxs := vxs) (R' := 3) (n := 2) (DZ := 12) (DL := 12) (xa := 48) (xb := 48) (wa := 12) (wb := 12) (da := 0) (db := 12) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_lo (i₀ := 1792) (MxV.rd hm 1 (hf := Gen.fits_192_256) (i := 1792) rfl rfl) hv589_r0 hv592_r0; exact H)
  intro s' hv' hc'
  clear hc hv; have hc := hc'; have hv := hv'; clear hc' hv'
  refine s_assoc (ld_xsV 1920 (by decide) fun v598_r0 hv598_r0 => ?_)
  refine s_pure ?_
  exact h _ _ _ (MxV.pop1 (hf := Gen.fits_192_256) (lv false false) hm (by decide)) ⟨hc.xa, hc.xb, hc.wa, hc.wb, hc.da, hc.db⟩ ⟨hv.wsb, hv.zt, hv.zo, hv.lse⟩ ⟨_, _, (MxV.rd hm 1 (hf := Gen.fits_192_256) (i := 1792) rfl rfl), hv598_r0, rfl⟩

end Cert.KernelIdeal.Hand

end
-- ==== Proof.KV.P1.lean ====
/-
# The values: the first tokens' trip
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v1 {c0_i32_96_r0 : BitVec 32} {c1_i32_98_r0 : BitVec 32} {k0_t4 : Fin k0_t4_loop.trips} {k0_mxu4 : Mxu Ideal} {k : (Σ' (_ : BitVec 32) (_ : Mxu Ideal) (_ : IVec S64x128 32), IVec S64x128 32) → Prog (TpuEff nD τ sig (Elt Ideal) Λ₀ .tc) β} (hm : MxV vx vw 0 0 (oc true false true false) (lv true true) (kk (12 * k0_t4.val) 0) (kk (12 * k0_t4.val) (12 * k0_t4.val)) k0_mxu4) (hc : Cnt s (3 * k0_t4.val + 1) 48 (min (3 * k0_t4.val + 1) 12) 12 0 0) (hv : SV vx vw vws vxs 0 0 0 0 s)
    (h : ∀ (r0 : BitVec 32) (r1 : Mxu Ideal) (r2 : IVec S64x128 32) (r3 : IVec S64x128 32) (s' : St Ideal) (_ : MxV vx vw 0 0 (oc false true false true) (lv true true) (kk (12 * k0_t4.val) (12 * k0_t4.val + 1)) (kk (12 * k0_t4.val + 1) (12 * k0_t4.val + 1)) r1) (_ : Cnt s' (3 * k0_t4.val + 1) 48 (min (3 * k0_t4.val + 1) 12) 12 0 0) (_ : SV vx vw vws vxs 0 0 0 0 s'), Res c vx vw PT s' iprop(SL c vid vws vxs ∗ R) ⊢ WP c (k ⟨r0, r1, r2, r3⟩) Q) :
    Res c vx vw PT s iprop(SL c vid vws vxs ∗ R) ⊢ WP c (app (k0_part1 (F := Ideal)) c0_i32_96_r0 c1_i32_98_r0 k0_t4 k0_mxu4 >>= k) Q := by
  rw [k0_part1_eq_skeleton]
  unfold app k0_part1_skel
  refine s_assoc (ld_xV 0 (12 * k0_t4.val + 1) (bx hc.xa (by first | decide | (clear * -; revert k0_t4; decide))) (by first | decide | (clear * -; revert k0_t4; decide)) fun v1009_r0 hv1009_r0 => ?_)
  refine s_assoc (s_push1 (oc true true true false) (12 * k0_t4.val + 1) hm (by decide) (by decide) hv1009_r0 fun m hm => ?_)
  refine s_assoc (ld_xV 1 (12 * k0_t4.val + 1) (bx hc.xa (by first | decide | (clear * -; revert k0_t4; decide))) (by first | decide | (clear * -; revert k0_t4; decide)) fun v1016_r0 hv1016_r0 => ?_)
  refine s_assoc (s_pushB (oc true true true true) hm (by decide) hv1016_r0 fun m hm => ?_)
  refine s_assoc (ld_wV (12 * k0_t4.val) (bv hc.wa (by first | decide | (clear * -; revert k0_t4; decide))) (by first | decide | (clear * -; revert k0_t4; decide)) fun v1023_r0 hv1023_r0 => ?_)
  refine s_assoc (ld_id ?_)
  refine s_pure ?_
  exact h _ _ _ _ _ (MxV.acc1 (r := 0) (hf := Gen.fits_0_256) (oc false true false true) (lv true true) (MxV.acc0 (r := 0) (hf := Gen.fits_0_256) (oc false true true true) (lv true true) hm (by decide) hv1023_r0.tile (show (12 * k0_t4.val) = 48 * 0 + (12 * k0_t4.val) by omega) (by first | decide | (clear * -; revert k0_t4; decide))) (by decide) hv1023_r0.tile (show (12 * k0_t4.val) = 48 * 0 + (12 * k0_t4.val) by omega) (by first | decide | (clear * -; revert k0_t4; decide))) ⟨hc.xa, hc.xb, hc.wa, hc.wb, hc.da, hc.db⟩ ⟨hv.wsb, hv.zt, hv.zo, hv.lse⟩

set_option maxRecDepth 65536 in
set_option maxHeartbeats 4000000 in
theorem v2 {v1028_r0 : IVec S64x128 32} {v1035_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part2 (F := Ideal)) v1028_r0 v1035_r0 >>= k) Q := by
  rw [k0_part2_eq_skeleton]
  unfold app k0_part2_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v3 {v1028_r0 : IVec S64x128 32} {v1071_r0 : IVec S64x128 32} {v1076_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part3 (F := Ideal)) v1028_r0 v1071_r0 v1076_r0 >>= k) Q := by
  rw [k0_part3_eq_skeleton]
  unfold app k0_part3_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v4 {v1028_r0 : IVec S64x128 32} {v1113_r0 : IVec S64x128 32} {v1115_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part4 (F := Ideal)) v1028_r0 v1113_r0 v1115_r0 >>= k) Q := by
  rw [k0_part4_eq_skeleton]
  unfold app k0_part4_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v5 {v1028_r0 : IVec S64x128 32} {v1155_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part5 (F := Ideal)) v1028_r0 v1155_r0 >>= k) Q := by
  rw [k0_part5_eq_skeleton]
  unfold app k0_part5_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v6 {v1028_r0 : IVec S64x128 32} {v1191_r0 : IVec S64x128 32} {v1196_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part6 (F := Ideal)) v1028_r0 v1191_r0 v1196_r0 >>= k) Q := by
  rw [k0_part6_eq_skeleton]
  unfold app k0_part6_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v7 {v1028_r0 : IVec S64x128 32} {v1233_r0 : IVec S64x128 32} {v1235_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part7 (F := Ideal)) v1028_r0 v1233_r0 v1235_r0 >>= k) Q := by
  rw [k0_part7_eq_skeleton]
  unfold app k0_part7_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v8 {v1028_r0 : IVec S64x128 32} {v1275_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part8 (F := Ideal)) v1028_r0 v1275_r0 >>= k) Q := by
  rw [k0_part8_eq_skeleton]
  unfold app k0_part8_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v9 {v1028_r0 : IVec S64x128 32} {v1311_r0 : IVec S64x128 32} {v1316_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part9 (F := Ideal)) v1028_r0 v1311_r0 v1316_r0 >>= k) Q := by
  rw [k0_part9_eq_skeleton]
  unfold app k0_part9_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v10 {v1028_r0 : IVec S64x128 32} {v1353_r0 : IVec S64x128 32} {v1355_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part10 (F := Ideal)) v1028_r0 v1353_r0 v1355_r0 >>= k) Q := by
  rw [k0_part10_eq_skeleton]
  unfold app k0_part10_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v11 {v1028_r0 : IVec S64x128 32} {v1395_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part11 (F := Ideal)) v1028_r0 v1395_r0 >>= k) Q := by
  rw [k0_part11_eq_skeleton]
  unfold app k0_part11_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v12 {v1028_r0 : IVec S64x128 32} {v1431_r0 : IVec S64x128 32} {v1436_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part12 (F := Ideal)) v1028_r0 v1431_r0 v1436_r0 >>= k) Q := by
  rw [k0_part12_eq_skeleton]
  unfold app k0_part12_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v13 {v1028_r0 : IVec S64x128 32} {v1473_r0 : IVec S64x128 32} {v1475_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part13 (F := Ideal)) v1028_r0 v1473_r0 v1475_r0 >>= k) Q := by
  rw [k0_part13_eq_skeleton]
  unfold app k0_part13_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v14 {v1028_r0 : IVec S64x128 32} {v1515_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part14 (F := Ideal)) v1028_r0 v1515_r0 >>= k) Q := by
  rw [k0_part14_eq_skeleton]
  unfold app k0_part14_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v15 {v1028_r0 : IVec S64x128 32} {v1551_r0 : IVec S64x128 32} {v1556_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part15 (F := Ideal)) v1028_r0 v1551_r0 v1556_r0 >>= k) Q := by
  rw [k0_part15_eq_skeleton]
  unfold app k0_part15_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v16 {v1028_r0 : IVec S64x128 32} {v1593_r0 : IVec S64x128 32} {v1595_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part16 (F := Ideal)) v1028_r0 v1593_r0 v1595_r0 >>= k) Q := by
  rw [k0_part16_eq_skeleton]
  unfold app k0_part16_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v17 {v1028_r0 : IVec S64x128 32} {v1635_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part17 (F := Ideal)) v1028_r0 v1635_r0 >>= k) Q := by
  rw [k0_part17_eq_skeleton]
  unfold app k0_part17_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v18 {v1028_r0 : IVec S64x128 32} {v1671_r0 : IVec S64x128 32} {v1676_r0 : IVec S64x128 32} {XA XB WA WB DA DB : ℕ} {VR VN VZ VL : ℕ} {k : (Σ' (_ : IVec S64x128 32), IVec S1x128 32) → Prog (TpuEff nD τ sig (Elt Ideal) Λ₀ .tc) β} (hc : Cnt s XA XB WA WB DA DB) (hv : SV vx vw vws vxs VR VN VZ VL s)
    (h : ∀ (r0 : IVec S64x128 32) (r1 : IVec S1x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part18 (F := Ideal)) v1028_r0 v1671_r0 v1676_r0 >>= k) Q := by
  rw [k0_part18_eq_skeleton]
  unfold app k0_part18_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v19 {v1028_r0 : IVec S64x128 32} {v1713_r0 : IVec S64x128 32} {v1715_r0 : IVec S1x128 32} {XA XB WA WB DA DB : ℕ} {VR VN VZ VL : ℕ} {k : (IVec S64x128 32) → Prog (TpuEff nD τ sig (Elt Ideal) Λ₀ .tc) β} (hc : Cnt s XA XB WA WB DA DB) (hv : SV vx vw vws vxs VR VN VZ VL s)
    (h : ∀ (r0 : IVec S64x128 32) (s' : St Ideal) (_ : Cnt s' XA XB WA WB DA DB) (_ : SV vx vw vws vxs VR VN VZ VL s'), Res c vx vw PT s' iprop(SL c vid vws vxs ∗ R) ⊢ WP c (k r0) Q) :
    Res c vx vw PT s iprop(SL c vid vws vxs ∗ R) ⊢ WP c (app (k0_part19 (F := Ideal)) v1028_r0 v1713_r0 v1715_r0 >>= k) Q := by
  rw [k0_part19_eq_skeleton]
  unfold app k0_part19_skel
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ ⟨hc.xa, hc.xb, hc.wa, hc.wb, hc.da, hc.db⟩ ⟨hv.wsb, hv.zt, hv.zo, hv.lse⟩

set_option maxRecDepth 65536 in
set_option maxHeartbeats 4000000 in
theorem v20 {v1028_r0 : IVec S64x128 32} {v1755_r0 : IVec S64x128 32} {XA XB WA WB DA DB : ℕ} {VR VN VZ VL : ℕ} {k : (Σ' (_ : IVec S64x128 32), IVec S64x128 32) → Prog (TpuEff nD τ sig (Elt Ideal) Λ₀ .tc) β} (hc : Cnt s XA XB WA WB DA DB) (hv : SV vx vw vws vxs VR VN VZ VL s)
    (h : ∀ (r0 : IVec S64x128 32) (r1 : IVec S64x128 32) (s' : St Ideal) (_ : Cnt s' XA XB WA WB DA DB) (_ : SV vx vw vws vxs VR VN VZ VL s'), Res c vx vw PT s' iprop(SL c vid vws vxs ∗ R) ⊢ WP c (k ⟨r0, r1⟩) Q) :
    Res c vx vw PT s iprop(SL c vid vws vxs ∗ R) ⊢ WP c (app (k0_part20 (F := Ideal)) v1028_r0 v1755_r0 >>= k) Q := by
  rw [k0_part20_eq_skeleton]
  unfold app k0_part20_skel
  refine s_assoc (ld_id ?_)
  refine s_assoc (ld_id ?_)
  refine s_assoc (ld_id ?_)
  refine s_assoc (ld_id ?_)
  refine s_assoc (ld_id ?_)
  refine s_assoc (ld_id ?_)
  refine s_assoc (ld_id ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v21 {k0_t4 : Fin k0_t4_loop.trips} {v1001_r0 : BitVec 32} {k0_mxu9 : Mxu Ideal} {v1791_r0 : IVec S64x128 32} {v1796_r0 : IVec S64x128 32} {k : (Σ' (_ : Mxu Ideal), BitVec 32) → Prog (TpuEff nD τ sig (Elt Ideal) Λ₀ .tc) β} (hm : MxV vx vw 0 0 (oc false true false true) (lv true true) (kk (12 * k0_t4.val) (12 * k0_t4.val + 1)) (kk (12 * k0_t4.val + 1) (12 * k0_t4.val + 1)) k0_mxu9) (hc : Cnt s (3 * k0_t4.val + 1) 48 (min (3 * k0_t4.val + 1) 12) 12 0 0) (hv : SV vx vw vws vxs 0 0 0 0 s)
    (h : ∀ (r0 : Mxu Ideal) (r1 : BitVec 32) (s' : St Ideal) (_ : MxV vx vw 0 0 (oc true false true false) (lv true true) (kk (12 * k0_t4.val + 2) (12 * k0_t4.val + 1)) (kk (12 * k0_t4.val + 2) (12 * k0_t4.val + 2)) r0) (_ : Cnt s' (3 * k0_t4.val + 1) 48 (min (3 * k0_t4.val + 1) 12) 12 0 0) (_ : SV vx vw vws vxs 0 0 0 0 s'), Res c vx vw PT s' iprop(SL c vid vws vxs ∗ R) ⊢ WP c (k ⟨r0, r1⟩) Q) :
    Res c vx vw PT s iprop(SL c vid vws vxs ∗ R) ⊢ WP c (app (k0_part21 (F := Ideal)) k0_t4 v1001_r0 k0_mxu9 v1791_r0 v1796_r0 >>= k) Q := by
  rw [k0_part21_eq_skeleton]
  unfold app k0_part21_skel
  refine s_assoc (ld_cf ?_)
  refine s_assoc (st_cf ?_)
  refine s_assoc (ld_xV 0 (12 * k0_t4.val + 2) (bx hc.xa (by first | decide | (clear * -; revert k0_t4; decide))) (by first | decide | (clear * -; revert k0_t4; decide)) fun v1820_r0 hv1820_r0 => ?_)
  refine s_assoc (s_push0 (oc true true false true) (12 * k0_t4.val + 2) hm (by decide) (by decide) hv1820_r0 fun m hm => ?_)
  refine s_assoc (ld_xV 1 (12 * k0_t4.val + 2) (bx hc.xa (by first | decide | (clear * -; revert k0_t4; decide))) (by first | decide | (clear * -; revert k0_t4; decide)) fun v1827_r0 hv1827_r0 => ?_)
  refine s_assoc (s_pushB (oc true true true true) hm (by decide) hv1827_r0 fun m hm => ?_)
  refine s_assoc (ld_wV (12 * k0_t4.val + 1) (bv hc.wa (by first | decide | (clear * -; revert k0_t4; decide))) (by first | decide | (clear * -; revert k0_t4; decide)) fun v1834_r0 hv1834_r0 => ?_)
  refine s_pure ?_
  exact h _ _ _ (MxV.acc1 (r := 1) (hf := Gen.fits_0_256) (oc true false true false) (lv true true) (MxV.acc0 (r := 1) (hf := Gen.fits_0_256) (oc true false true true) (lv true true) hm (by decide) hv1834_r0.tile (show (12 * k0_t4.val + 1) = 48 * 0 + (12 * k0_t4.val + 1) by omega) (by first | decide | (clear * -; revert k0_t4; decide))) (by decide) hv1834_r0.tile (show (12 * k0_t4.val + 1) = 48 * 0 + (12 * k0_t4.val + 1) by omega) (by first | decide | (clear * -; revert k0_t4; decide))) ⟨hc.xa, hc.xb, hc.wa, hc.wb, hc.da, hc.db⟩ ⟨hv.wsb, hv.zt, hv.zo, hv.lse⟩

set_option maxRecDepth 65536 in
set_option maxHeartbeats 4000000 in
theorem v22 {k0_t4 : Fin k0_t4_loop.trips} {v1001_r0 : BitVec 32} {k0_mxu13 : Mxu Ideal} {c12_i32_914_r0 : BitVec 32} {k : (Σ' (_ : Mxu Ideal), BitVec 32) → Prog (TpuEff nD τ sig (Elt Ideal) Λ₀ .tc) β} (hm : MxV vx vw 0 0 (oc true false true false) (lv true true) (kk (12 * k0_t4.val + 2) (12 * k0_t4.val + 1)) (kk (12 * k0_t4.val + 2) (12 * k0_t4.val + 2)) k0_mxu13) (hc : Cnt s (3 * k0_t4.val + 1) 48 (min (3 * k0_t4.val + 1) 12) 12 0 0) (hv : SV vx vw vws vxs 0 0 0 0 s)
    (h : ∀ (r0 : Mxu Ideal) (r1 : BitVec 32) (s' : St Ideal) (_ : MxV vx vw 0 0 (oc false true false true) (lv true true) (kk (12 * k0_t4.val + 2) (12 * k0_t4.val + 3)) (kk (12 * k0_t4.val + 3) (12 * k0_t4.val + 3)) r0) (_ : Cnt s' (3 * k0_t4.val + 2) 48 (min (3 * k0_t4.val + 1) 12) 12 0 0) (_ : SV vx vw vws vxs 0 0 0 0 s'), Res c vx vw PT s' iprop(SL c vid vws vxs ∗ R) ⊢ WP c (k ⟨r0, r1⟩) Q) :
    Res c vx vw PT s iprop(SL c vid vws vxs ∗ R) ⊢ WP c (app (k0_part22 (F := Ideal)) k0_t4 v1001_r0 k0_mxu13 c12_i32_914_r0 >>= k) Q := by
  rw [k0_part22_eq_skeleton]
  unfold app k0_part22_skel
  refine s_assoc (ld_xV 0 (12 * k0_t4.val + 3) (bx hc.xa (by first | decide | (clear * -; revert k0_t4; decide))) (by first | decide | (clear * -; revert k0_t4; decide)) fun v1843_r0 hv1843_r0 => ?_)
  refine s_assoc (s_push1 (oc true true true false) (12 * k0_t4.val + 3) hm (by decide) (by decide) hv1843_r0 fun m hm => ?_)
  refine s_assoc (ld_xV 1 (12 * k0_t4.val + 3) (bx hc.xa (by first | decide | (clear * -; revert k0_t4; decide))) (by first | decide | (clear * -; revert k0_t4; decide)) fun v1850_r0 hv1850_r0 => ?_)
  refine s_assoc (s_pushB (oc true true true true) hm (by decide) hv1850_r0 fun m hm => ?_)
  refine s_assoc (ld_wV (12 * k0_t4.val + 2) (bv hc.wa (by first | decide | (clear * -; revert k0_t4; decide))) (by first | decide | (clear * -; revert k0_t4; decide)) fun v1857_r0 hv1857_r0 => ?_)
  refine s_assoc (wait_x (3 * k0_t4.val + 1) (bw hc.xa hc.xb (by first | decide | (clear * -; revert k0_t4; decide))) rfl (by first | decide | (clear * -; revert k0_t4; decide)) ?_)
  refine s_pure ?_
  exact h _ _ _ (MxV.acc1 (r := 0) (hf := Gen.fits_0_256) (oc false true false true) (lv true true) (MxV.acc0 (r := 0) (hf := Gen.fits_0_256) (oc false true true true) (lv true true) hm (by decide) hv1857_r0.tile (show (12 * k0_t4.val + 2) = 48 * 0 + (12 * k0_t4.val + 2) by omega) (by first | decide | (clear * -; revert k0_t4; decide))) (by decide) hv1857_r0.tile (show (12 * k0_t4.val + 2) = 48 * 0 + (12 * k0_t4.val + 2) by omega) (by first | decide | (clear * -; revert k0_t4; decide))) ⟨(rfl : _ = (3 * k0_t4.val + 2)), hc.xb, hc.wa, hc.wb, hc.da, hc.db⟩ ⟨hv.wsb, hv.zt, hv.zo, hv.lse⟩

set_option maxRecDepth 65536 in
set_option maxHeartbeats 4000000 in
theorem v23 {k0_t4 : Fin k0_t4_loop.trips} {v1001_r0 : BitVec 32} {k0_mxu17 : Mxu Ideal} {v1860_r0 : BitVec 32} {k : (Mxu Ideal) → Prog (TpuEff nD τ sig (Elt Ideal) Λ₀ .tc) β} (hm : MxV vx vw 0 0 (oc false true false true) (lv true true) (kk (12 * k0_t4.val + 2) (12 * k0_t4.val + 3)) (kk (12 * k0_t4.val + 3) (12 * k0_t4.val + 3)) k0_mxu17) (hc : Cnt s (3 * k0_t4.val + 2) 48 (min (3 * k0_t4.val + 1) 12) 12 0 0) (hv : SV vx vw vws vxs 0 0 0 0 s)
    (h : ∀ (r0 : Mxu Ideal) (s' : St Ideal) (_ : MxV vx vw 0 0 (oc true true true false) (lv true true) (kk (12 * k0_t4.val + 4) (12 * k0_t4.val + 5)) (kk (12 * k0_t4.val + 4) (12 * k0_t4.val + 4)) r0) (_ : Cnt s' (3 * k0_t4.val + 2) 48 ((min (3 * k0_t4.val + 1) 12) + 1) 12 0 0) (_ : SV vx vw vws vxs 0 0 0 0 s'), Res c vx vw PT s' iprop(SL c vid vws vxs ∗ R) ⊢ WP c (k r0) Q) :
    Res c vx vw PT s iprop(SL c vid vws vxs ∗ R) ⊢ WP c (app (k0_part23 (F := Ideal)) k0_t4 v1001_r0 k0_mxu17 v1860_r0 >>= k) Q := by
  rw [k0_part23_eq_skeleton]
  unfold app k0_part23_skel
  refine s_assoc (wait_w (min (3 * k0_t4.val + 1) 12) (bw hc.wa hc.wb (by first | decide | (clear * -; revert k0_t4; decide))) rfl (by first | decide | (clear * -; revert k0_t4; decide)) ?_)
  refine s_assoc (ld_xV 0 (12 * k0_t4.val + 4) (bx hc.xa (by first | decide | (clear * -; revert k0_t4; decide))) (by first | decide | (clear * -; revert k0_t4; decide)) fun v1882_r0 hv1882_r0 => ?_)
  refine s_assoc (s_push0 (oc true true false true) (12 * k0_t4.val + 4) hm (by decide) (by decide) hv1882_r0 fun m hm => ?_)
  refine s_assoc (ld_xV 1 (12 * k0_t4.val + 4) (bx hc.xa (by first | decide | (clear * -; revert k0_t4; decide))) (by first | decide | (clear * -; revert k0_t4; decide)) fun v1889_r0 hv1889_r0 => ?_)
  refine s_assoc (s_pushB (oc true true true true) hm (by decide) hv1889_r0 fun m hm => ?_)
  refine s_assoc (ld_wV (12 * k0_t4.val + 3) (bv (rfl : _ = ((min (3 * k0_t4.val + 1) 12) + 1)) (by first | decide | (clear * -; revert k0_t4; decide))) (by first | decide | (clear * -; revert k0_t4; decide)) fun v1896_r0 hv1896_r0 => ?_)
  refine s_assoc (ld_xV 0 (12 * k0_t4.val + 5) (bx hc.xa (by first | decide | (clear * -; revert k0_t4; decide))) (by first | decide | (clear * -; revert k0_t4; decide)) fun v1905_r0 hv1905_r0 => ?_)
  refine s_assoc (s_push1 (oc true true true false) (12 * k0_t4.val + 5) (MxV.acc1 (r := 1) (hf := Gen.fits_0_256) (oc true false true false) (lv true true) (MxV.acc0 (r := 1) (hf := Gen.fits_0_256) (oc true false true true) (lv true true) hm (by decide) hv1896_r0.tile (show (12 * k0_t4.val + 3) = 48 * 0 + (12 * k0_t4.val + 3) by omega) (by first | decide | (clear * -; revert k0_t4; decide))) (by decide) hv1896_r0.tile (show (12 * k0_t4.val + 3) = 48 * 0 + (12 * k0_t4.val + 3) by omega) (by first | decide | (clear * -; revert k0_t4; decide))) (by decide) (by decide) hv1905_r0 fun m hm => ?_)
  refine s_pure ?_
  exact h _ _ hm ⟨hc.xa, hc.xb, (rfl : _ = ((min (3 * k0_t4.val + 1) 12) + 1)), hc.wb, hc.da, hc.db⟩ ⟨hv.wsb, hv.zt, hv.zo, hv.lse⟩

set_option maxRecDepth 65536 in
set_option maxHeartbeats 4000000 in
theorem v24 {k0_t4 : Fin k0_t4_loop.trips} {v1001_r0 : BitVec 32} {k0_mxu22 : Mxu Ideal} {k : (Σ' (_ : Mxu Ideal) (_ : BitVec 32) (_ : BitVec 32), BitVec 32) → Prog (TpuEff nD τ sig (Elt Ideal) Λ₀ .tc) β} (hm : MxV vx vw 0 0 (oc true true true false) (lv true true) (kk (12 * k0_t4.val + 4) (12 * k0_t4.val + 5)) (kk (12 * k0_t4.val + 4) (12 * k0_t4.val + 4)) k0_mxu22) (hc : Cnt s (3 * k0_t4.val + 2) 48 ((min (3 * k0_t4.val + 1) 12) + 1) 12 0 0) (hv : SV vx vw vws vxs 0 0 0 0 s)
    (h : ∀ (r0 : Mxu Ideal) (r1 : BitVec 32) (r2 : BitVec 32) (r3 : BitVec 32) (s' : St Ideal) (_ : MxV vx vw 0 0 (oc true false true false) (lv true true) (kk (12 * k0_t4.val + 6) (12 * k0_t4.val + 5)) (kk (12 * k0_t4.val + 6) (12 * k0_t4.val + 6)) r0) (_ : Cnt s' (3 * k0_t4.val + 2) 48 ((min (3 * k0_t4.val + 1) 12) + 1) 12 0 0) (_ : SV vx vw vws vxs 0 0 0 0 s'), Res c vx vw PT s' iprop(SL c vid vws vxs ∗ R) ⊢ WP c (k ⟨r0, r1, r2, r3⟩) Q) :
    Res c vx vw PT s iprop(SL c vid vws vxs ∗ R) ⊢ WP c (app (k0_part24 (F := Ideal)) k0_t4 v1001_r0 k0_mxu22 >>= k) Q := by
  rw [k0_part24_eq_skeleton]
  unfold app k0_part24_skel
  refine s_assoc (ld_xV 1 (12 * k0_t4.val + 5) (bx hc.xa (by first | decide | (clear * -; revert k0_t4; decide))) (by first | decide | (clear * -; revert k0_t4; decide)) fun v1912_r0 hv1912_r0 => ?_)
  refine s_assoc (s_pushB (oc true true true true) hm (by decide) hv1912_r0 fun m hm => ?_)
  refine s_assoc (ld_wV (12 * k0_t4.val + 4) (bv hc.wa (by first | decide | (clear * -; revert k0_t4; decide))) (by first | decide | (clear * -; revert k0_t4; decide)) fun v1919_r0 hv1919_r0 => ?_)
  refine s_assoc (ld_xV 0 (12 * k0_t4.val + 6) (bx hc.xa (by first | decide | (clear * -; revert k0_t4; decide))) (by first | decide | (clear * -; revert k0_t4; decide)) fun v1928_r0 hv1928_r0 => ?_)
  refine s_assoc (s_push0 (oc true true false true) (12 * k0_t4.val + 6) (MxV.acc1 (r := 0) (hf := Gen.fits_0_256) (oc false true false true) (lv true true) (MxV.acc0 (r := 0) (hf := Gen.fits_0_256) (oc false true true true) (lv true true) hm (by decide) hv1919_r0.tile (show (12 * k0_t4.val + 4) = 48 * 0 + (12 * k0_t4.val + 4) by omega) (by first | decide | (clear * -; revert k0_t4; decide))) (by decide) hv1919_r0.tile (show (12 * k0_t4.val + 4) = 48 * 0 + (12 * k0_t4.val + 4) by omega) (by first | decide | (clear * -; revert k0_t4; decide))) (by decide) (by decide) hv1928_r0 fun m hm => ?_)
  refine s_assoc (ld_xV 1 (12 * k0_t4.val + 6) (bx hc.xa (by first | decide | (clear * -; revert k0_t4; decide))) (by first | decide | (clear * -; revert k0_t4; decide)) fun v1935_r0 hv1935_r0 => ?_)
  refine s_assoc (s_pushB (oc true true true true) hm (by decide) hv1935_r0 fun m hm => ?_)
  refine s_assoc (ld_wV (12 * k0_t4.val + 5) (bv hc.wa (by first | decide | (clear * -; revert k0_t4; decide))) (by first | decide | (clear * -; revert k0_t4; decide)) fun v1942_r0 hv1942_r0 => ?_)
  refine s_pure ?_
  exact h _ _ _ _ _ (MxV.acc1 (r := 1) (hf := Gen.fits_0_256) (oc true false true false) (lv true true) (MxV.acc0 (r := 1) (hf := Gen.fits_0_256) (oc true false true true) (lv true true) hm (by decide) hv1942_r0.tile (show (12 * k0_t4.val + 5) = 48 * 0 + (12 * k0_t4.val + 5) by omega) (by first | decide | (clear * -; revert k0_t4; decide))) (by decide) hv1942_r0.tile (show (12 * k0_t4.val + 5) = 48 * 0 + (12 * k0_t4.val + 5) by omega) (by first | decide | (clear * -; revert k0_t4; decide))) ⟨hc.xa, hc.xb, hc.wa, hc.wb, hc.da, hc.db⟩ ⟨hv.wsb, hv.zt, hv.zo, hv.lse⟩

set_option maxRecDepth 65536 in
set_option maxHeartbeats 4000000 in
theorem v25 {k0_t4 : Fin k0_t4_loop.trips} {v1001_r0 : BitVec 32} {k0_mxu29 : Mxu Ideal} {v1945_r0 : BitVec 32} {v1946_r0 : BitVec 32} {c256_i32_965_r0 : BitVec 32} {k : (Σ' (_ : Mxu Ideal), BitVec 32) → Prog (TpuEff nD τ sig (Elt Ideal) Λ₀ .tc) β} (hm : MxV vx vw 0 0 (oc true false true false) (lv true true) (kk (12 * k0_t4.val + 6) (12 * k0_t4.val + 5)) (kk (12 * k0_t4.val + 6) (12 * k0_t4.val + 6)) k0_mxu29) (hc : Cnt s (3 * k0_t4.val + 2) 48 ((min (3 * k0_t4.val + 1) 12) + 1) 12 0 0) (hv : SV vx vw vws vxs 0 0 0 0 s)
    (h : ∀ (r0 : Mxu Ideal) (r1 : BitVec 32) (s' : St Ideal) (_ : MxV vx vw 0 0 (oc false true false true) (lv true true) (kk (12 * k0_t4.val + 6) (12 * k0_t4.val + 7)) (kk (12 * k0_t4.val + 7) (12 * k0_t4.val + 7)) r0) (_ : Cnt s' (3 * k0_t4.val + 3) 48 ((min (3 * k0_t4.val + 1) 12) + 2) 12 0 0) (_ : SV vx vw vws vxs 0 0 0 0 s'), Res c vx vw PT s' iprop(SL c vid vws vxs ∗ R) ⊢ WP c (k ⟨r0, r1⟩) Q) :
    Res c vx vw PT s iprop(SL c vid vws vxs ∗ R) ⊢ WP c (app (k0_part25 (F := Ideal)) k0_t4 v1001_r0 k0_mxu29 v1945_r0 v1946_r0 c256_i32_965_r0 >>= k) Q := by
  rw [k0_part25_eq_skeleton]
  unfold app k0_part25_skel
  refine s_assoc (ld_xV 0 (12 * k0_t4.val + 7) (bx hc.xa (by first | decide | (clear * -; revert k0_t4; decide))) (by first | decide | (clear * -; revert k0_t4; decide)) fun v1951_r0 hv1951_r0 => ?_)
  refine s_assoc (s_push1 (oc true true true false) (12 * k0_t4.val + 7) hm (by decide) (by decide) hv1951_r0 fun m hm => ?_)
  refine s_assoc (ld_xV 1 (12 * k0_t4.val + 7) (bx hc.xa (by first | decide | (clear * -; revert k0_t4; decide))) (by first | decide | (clear * -; revert k0_t4; decide)) fun v1958_r0 hv1958_r0 => ?_)
  refine s_assoc (s_pushB (oc true true true true) hm (by decide) hv1958_r0 fun m hm => ?_)
  refine s_assoc (ld_wV (12 * k0_t4.val + 6) (bv hc.wa (by first | decide | (clear * -; revert k0_t4; decide))) (by first | decide | (clear * -; revert k0_t4; decide)) fun v1965_r0 hv1965_r0 => ?_)
  refine s_assoc (wait_x (3 * k0_t4.val + 2) (bw hc.xa hc.xb (by first | decide | (clear * -; revert k0_t4; decide))) rfl (by first | decide | (clear * -; revert k0_t4; decide)) ?_)
  refine s_assoc (wait_w ((min (3 * k0_t4.val + 1) 12) + 1) (bw hc.wa hc.wb (by first | decide | (clear * -; revert k0_t4; decide))) rfl (by first | decide | (clear * -; revert k0_t4; decide)) ?_)
  refine s_pure ?_
  exact h _ _ _ (MxV.acc1 (r := 0) (hf := Gen.fits_0_256) (oc false true false true) (lv true true) (MxV.acc0 (r := 0) (hf := Gen.fits_0_256) (oc false true true true) (lv true true) hm (by decide) hv1965_r0.tile (show (12 * k0_t4.val + 6) = 48 * 0 + (12 * k0_t4.val + 6) by omega) (by first | decide | (clear * -; revert k0_t4; decide))) (by decide) hv1965_r0.tile (show (12 * k0_t4.val + 6) = 48 * 0 + (12 * k0_t4.val + 6) by omega) (by first | decide | (clear * -; revert k0_t4; decide))) ⟨(rfl : _ = (3 * k0_t4.val + 3)), hc.xb, (rfl : _ = ((min (3 * k0_t4.val + 1) 12) + 2)), hc.wb, hc.da, hc.db⟩ ⟨hv.wsb, hv.zt, hv.zo, hv.lse⟩

set_option maxRecDepth 65536 in
set_option maxHeartbeats 4000000 in
theorem v26 {k0_t4 : Fin k0_t4_loop.trips} {v1001_r0 : BitVec 32} {k0_mxu33 : Mxu Ideal} {v1968_r0 : BitVec 32} {k : (Σ' (_ : Mxu Ideal) (_ : BitVec 32), BitVec 32) → Prog (TpuEff nD τ sig (Elt Ideal) Λ₀ .tc) β} (hm : MxV vx vw 0 0 (oc false true false true) (lv true true) (kk (12 * k0_t4.val + 6) (12 * k0_t4.val + 7)) (kk (12 * k0_t4.val + 7) (12 * k0_t4.val + 7)) k0_mxu33) (hc : Cnt s (3 * k0_t4.val + 3) 48 ((min (3 * k0_t4.val + 1) 12) + 2) 12 0 0) (hv : SV vx vw vws vxs 0 0 0 0 s)
    (h : ∀ (r0 : Mxu Ideal) (r1 : BitVec 32) (r2 : BitVec 32) (s' : St Ideal) (_ : MxV vx vw 0 0 (oc true true true true) (lv true true) (kk (12 * k0_t4.val + 8) (12 * k0_t4.val + 9)) (kk (12 * k0_t4.val + 8) (12 * k0_t4.val + 8)) r0) (_ : Cnt s' (3 * k0_t4.val + 3) 48 ((min (3 * k0_t4.val + 1) 12) + 2) 12 0 0) (_ : SV vx vw vws vxs 0 0 0 0 s'), Res c vx vw PT s' iprop(SL c vid vws vxs ∗ R) ⊢ WP c (k ⟨r0, r1, r2⟩) Q) :
    Res c vx vw PT s iprop(SL c vid vws vxs ∗ R) ⊢ WP c (app (k0_part26 (F := Ideal)) k0_t4 v1001_r0 k0_mxu33 v1968_r0 >>= k) Q := by
  rw [k0_part26_eq_skeleton]
  unfold app k0_part26_skel
  refine s_assoc (ld_xV 0 (12 * k0_t4.val + 8) (bx hc.xa (by first | decide | (clear * -; revert k0_t4; decide))) (by first | decide | (clear * -; revert k0_t4; decide)) fun v1990_r0 hv1990_r0 => ?_)
  refine s_assoc (s_push0 (oc true true false true) (12 * k0_t4.val + 8) hm (by decide) (by decide) hv1990_r0 fun m hm => ?_)
  refine s_assoc (ld_xV 1 (12 * k0_t4.val + 8) (bx hc.xa (by first | decide | (clear * -; revert k0_t4; decide))) (by first | decide | (clear * -; revert k0_t4; decide)) fun v1997_r0 hv1997_r0 => ?_)
  refine s_assoc (s_pushB (oc true true true true) hm (by decide) hv1997_r0 fun m hm => ?_)
  refine s_assoc (ld_wV (12 * k0_t4.val + 7) (bv hc.wa (by first | decide | (clear * -; revert k0_t4; decide))) (by first | decide | (clear * -; revert k0_t4; decide)) fun v2004_r0 hv2004_r0 => ?_)
  refine s_assoc (ld_xV 0 (12 * k0_t4.val + 9) (bx hc.xa (by first | decide | (clear * -; revert k0_t4; decide))) (by first | decide | (clear * -; revert k0_t4; decide)) fun v2013_r0 hv2013_r0 => ?_)
  refine s_assoc (s_push1 (oc true true true false) (12 * k0_t4.val + 9) (MxV.acc1 (r := 1) (hf := Gen.fits_0_256) (oc true false true false) (lv true true) (MxV.acc0 (r := 1) (hf := Gen.fits_0_256) (oc true false true true) (lv true true) hm (by decide) hv2004_r0.tile (show (12 * k0_t4.val + 7) = 48 * 0 + (12 * k0_t4.val + 7) by omega) (by first | decide | (clear * -; revert k0_t4; decide))) (by decide) hv2004_r0.tile (show (12 * k0_t4.val + 7) = 48 * 0 + (12 * k0_t4.val + 7) by omega) (by first | decide | (clear * -; revert k0_t4; decide))) (by decide) (by decide) hv2013_r0 fun m hm => ?_)
  refine s_assoc (ld_xV 1 (12 * k0_t4.val + 9) (bx hc.xa (by first | decide | (clear * -; revert k0_t4; decide))) (by first | decide | (clear * -; revert k0_t4; decide)) fun v2020_r0 hv2020_r0 => ?_)
  refine s_assoc (s_pushB (oc true true true true) hm (by decide) hv2020_r0 fun m hm => ?_)
  refine s_pure ?_
  exact h _ _ _ _ hm ⟨hc.xa, hc.xb, hc.wa, hc.wb, hc.da, hc.db⟩ ⟨hv.wsb, hv.zt, hv.zo, hv.lse⟩

set_option maxRecDepth 65536 in
set_option maxHeartbeats 4000000 in
theorem v27 {k0_t4 : Fin k0_t4_loop.trips} {v1001_r0 : BitVec 32} {k0_mxu39 : Mxu Ideal} {v2022_r0 : BitVec 32} {c8_i32_997_r0 : BitVec 32} {k : (Σ' (_ : Mxu Ideal) (_ : BitVec 32), FVec Ideal S256x256 .bf16) → Prog (TpuEff nD τ sig (Elt Ideal) Λ₀ .tc) β} (hm : MxV vx vw 0 0 (oc true true true true) (lv true true) (kk (12 * k0_t4.val + 8) (12 * k0_t4.val + 9)) (kk (12 * k0_t4.val + 8) (12 * k0_t4.val + 8)) k0_mxu39) (hc : Cnt s (3 * k0_t4.val + 3) 48 ((min (3 * k0_t4.val + 1) 12) + 2) 12 0 0) (hv : SV vx vw vws vxs 0 0 0 0 s)
    (h : ∀ (r0 : Mxu Ideal) (r1 : BitVec 32) (r2 : FVec Ideal S256x256 .bf16) (s' : St Ideal) (_ : MxV vx vw 0 0 (oc true false true false) (lv true true) (kk (12 * k0_t4.val + 10) (12 * k0_t4.val + 9)) (kk (12 * k0_t4.val + 10) (12 * k0_t4.val + 10)) r0) (_ : Cnt s' (3 * k0_t4.val + 3) 48 ((min (3 * k0_t4.val + 1) 12) + 2) 12 0 0) (_ : SV vx vw vws vxs 0 0 0 0 s') (_ : Tile vx 0 (12 * k0_t4.val + 11) r2), Res c vx vw PT s' iprop(SL c vid vws vxs ∗ R) ⊢ WP c (k ⟨r0, r1, r2⟩) Q) :
    Res c vx vw PT s iprop(SL c vid vws vxs ∗ R) ⊢ WP c (app (k0_part27 (F := Ideal)) k0_t4 v1001_r0 k0_mxu39 v2022_r0 c8_i32_997_r0 >>= k) Q := by
  rw [k0_part27_eq_skeleton]
  unfold app k0_part27_skel
  refine s_assoc (ld_wV (12 * k0_t4.val + 8) (bv hc.wa (by first | decide | (clear * -; revert k0_t4; decide))) (by first | decide | (clear * -; revert k0_t4; decide)) fun v2027_r0 hv2027_r0 => ?_)
  refine s_assoc (ld_xV 0 (12 * k0_t4.val + 10) (bx hc.xa (by first | decide | (clear * -; revert k0_t4; decide))) (by first | decide | (clear * -; revert k0_t4; decide)) fun v2036_r0 hv2036_r0 => ?_)
  refine s_assoc (s_push0 (oc true true false true) (12 * k0_t4.val + 10) (MxV.acc1 (r := 0) (hf := Gen.fits_0_256) (oc false true false true) (lv true true) (MxV.acc0 (r := 0) (hf := Gen.fits_0_256) (oc false true true true) (lv true true) hm (by decide) hv2027_r0.tile (show (12 * k0_t4.val + 8) = 48 * 0 + (12 * k0_t4.val + 8) by omega) (by first | decide | (clear * -; revert k0_t4; decide))) (by decide) hv2027_r0.tile (show (12 * k0_t4.val + 8) = 48 * 0 + (12 * k0_t4.val + 8) by omega) (by first | decide | (clear * -; revert k0_t4; decide))) (by decide) (by decide) hv2036_r0 fun m hm => ?_)
  refine s_assoc (ld_xV 1 (12 * k0_t4.val + 10) (bx hc.xa (by first | decide | (clear * -; revert k0_t4; decide))) (by first | decide | (clear * -; revert k0_t4; decide)) fun v2043_r0 hv2043_r0 => ?_)
  refine s_assoc (s_pushB (oc true true true true) hm (by decide) hv2043_r0 fun m hm => ?_)
  refine s_assoc (ld_wV (12 * k0_t4.val + 9) (bv hc.wa (by first | decide | (clear * -; revert k0_t4; decide))) (by first | decide | (clear * -; revert k0_t4; decide)) fun v2050_r0 hv2050_r0 => ?_)
  refine s_assoc (ld_xV 0 (12 * k0_t4.val + 11) (bx hc.xa (by first | decide | (clear * -; revert k0_t4; decide))) (by first | decide | (clear * -; revert k0_t4; decide)) fun v2059_r0 hv2059_r0 => ?_)
  refine s_pure ?_
  exact h _ _ _ _ (MxV.acc1 (r := 1) (hf := Gen.fits_0_256) (oc true false true false) (lv true true) (MxV.acc0 (r := 1) (hf := Gen.fits_0_256) (oc true false true true) (lv true true) hm (by decide) hv2050_r0.tile (show (12 * k0_t4.val + 9) = 48 * 0 + (12 * k0_t4.val + 9) by omega) (by first | decide | (clear * -; revert k0_t4; decide))) (by decide) hv2050_r0.tile (show (12 * k0_t4.val + 9) = 48 * 0 + (12 * k0_t4.val + 9) by omega) (by first | decide | (clear * -; revert k0_t4; decide))) ⟨hc.xa, hc.xb, hc.wa, hc.wb, hc.da, hc.db⟩ ⟨hv.wsb, hv.zt, hv.zo, hv.lse⟩ hv2059_r0

set_option maxRecDepth 65536 in
set_option maxHeartbeats 4000000 in
theorem v28 {k0_t4 : Fin k0_t4_loop.trips} {v1001_r0 : BitVec 32} {k0_mxu45 : Mxu Ideal} {v2053_r0 : BitVec 32} {v2060_r0 : FVec Ideal S256x256 .bf16} {k : (Σ' (_ : Mxu Ideal) (_ : BitVec 32) (_ : BitVec 32) (_ : BitVec 32), BitVec 32) → Prog (TpuEff nD τ sig (Elt Ideal) Λ₀ .tc) β} (hm : MxV vx vw 0 0 (oc true false true false) (lv true true) (kk (12 * k0_t4.val + 10) (12 * k0_t4.val + 9)) (kk (12 * k0_t4.val + 10) (12 * k0_t4.val + 10)) k0_mxu45) (hc : Cnt s (3 * k0_t4.val + 3) 48 ((min (3 * k0_t4.val + 1) 12) + 2) 12 0 0) (hv : SV vx vw vws vxs 0 0 0 0 s) (hF0 : Tile vx 0 (12 * k0_t4.val + 11) v2060_r0)
    (h : ∀ (r0 : Mxu Ideal) (r1 : BitVec 32) (r2 : BitVec 32) (r3 : BitVec 32) (r4 : BitVec 32) (s' : St Ideal) (_ : MxV vx vw 0 0 (oc false true false true) (lv true true) (kk (12 * k0_t4.val + 10) (12 * k0_t4.val + 11)) (kk (12 * k0_t4.val + 11) (12 * k0_t4.val + 11)) r0) (_ : Cnt s' (3 * k0_t4.val + 4) 48 ((min (3 * k0_t4.val + 1) 12) + 2) 12 0 0) (_ : SV vx vw vws vxs 0 0 0 0 s'), Res c vx vw PT s' iprop(SL c vid vws vxs ∗ R) ⊢ WP c (k ⟨r0, r1, r2, r3, r4⟩) Q) :
    Res c vx vw PT s iprop(SL c vid vws vxs ∗ R) ⊢ WP c (app (k0_part28 (F := Ideal)) k0_t4 v1001_r0 k0_mxu45 v2053_r0 v2060_r0 >>= k) Q := by
  have f0 := hF0
  rw [k0_part28_eq_skeleton]
  unfold app k0_part28_skel
  refine s_assoc (s_push1 (oc true true true false) (12 * k0_t4.val + 11) hm (by decide) (by decide) f0 fun m hm => ?_)
  refine s_assoc (ld_xV 1 (12 * k0_t4.val + 11) (bx hc.xa (by first | decide | (clear * -; revert k0_t4; decide))) (by first | decide | (clear * -; revert k0_t4; decide)) fun v2066_r0 hv2066_r0 => ?_)
  refine s_assoc (s_pushB (oc true true true true) hm (by decide) hv2066_r0 fun m hm => ?_)
  refine s_assoc (ld_wV (12 * k0_t4.val + 10) (bv hc.wa (by first | decide | (clear * -; revert k0_t4; decide))) (by first | decide | (clear * -; revert k0_t4; decide)) fun v2073_r0 hv2073_r0 => ?_)
  refine s_assoc (wait_x (3 * k0_t4.val + 3) (bw hc.xa hc.xb (by first | decide | (clear * -; revert k0_t4; decide))) rfl (by first | decide | (clear * -; revert k0_t4; decide)) ?_)
  refine s_pure ?_
  exact h _ _ _ _ _ _ (MxV.acc1 (r := 0) (hf := Gen.fits_0_256) (oc false true false true) (lv true true) (MxV.acc0 (r := 0) (hf := Gen.fits_0_256) (oc false true true true) (lv true true) hm (by decide) hv2073_r0.tile (show (12 * k0_t4.val + 10) = 48 * 0 + (12 * k0_t4.val + 10) by omega) (by first | decide | (clear * -; revert k0_t4; decide))) (by decide) hv2073_r0.tile (show (12 * k0_t4.val + 10) = 48 * 0 + (12 * k0_t4.val + 10) by omega) (by first | decide | (clear * -; revert k0_t4; decide))) ⟨(rfl : _ = (3 * k0_t4.val + 4)), hc.xb, hc.wa, hc.wb, hc.da, hc.db⟩ ⟨hv.wsb, hv.zt, hv.zo, hv.lse⟩

set_option maxRecDepth 65536 in
set_option maxHeartbeats 4000000 in
theorem v29 {c0_i32_96_r0 : BitVec 32} {c1_i32_98_r0 : BitVec 32} {k0_t4 : Fin k0_t4_loop.trips} {k0_mxu4 : Mxu Ideal} {k : (Σ' (_ : Mxu Ideal) (_ : BitVec 32), BitVec 32) → Prog (TpuEff nD τ sig (Elt Ideal) Λ₀ .tc) β} (hm : MxV vx vw 0 0 (oc true false true false) (lv true true) (kk (12 * k0_t4.val) 0) (kk (12 * k0_t4.val) (12 * k0_t4.val)) k0_mxu4) (hc : Cnt s (3 * k0_t4.val + 1) 48 (min (3 * k0_t4.val + 1) 12) 12 0 0) (hv : SV vx vw vws vxs 0 0 0 0 s)
    (h : ∀ (r0 : Mxu Ideal) (r1 : BitVec 32) (r2 : BitVec 32) (s' : St Ideal) (_ : MxV vx vw 0 0 (oc true true true true) (lv true true) (kk (12 * k0_t4.val + 12) (12 * k0_t4.val + 11)) (kk (12 * k0_t4.val + 11) (12 * k0_t4.val + 11)) r0) (_ : Cnt s' (3 * k0_t4.val + 4) 48 (min (3 * k0_t4.val + 4) 12) 12 0 0) (_ : SV vx vw vws vxs 0 0 0 0 s'), Res c vx vw PT s' iprop(SL c vid vws vxs ∗ R) ⊢ WP c (k ⟨r0, r1, r2⟩) Q) :
    Res c vx vw PT s iprop(SL c vid vws vxs ∗ R) ⊢ WP c (app (k0_part29 (F := Ideal)) c0_i32_96_r0 c1_i32_98_r0 k0_t4 k0_mxu4 >>= k) Q := by
  rw [k0_part29_eq_skeleton]
  unfold app k0_part29_skel
  refine s_assoc (v1 hm ⟨hc.xa, hc.xb, hc.wa, hc.wb, hc.da, hc.db⟩ ⟨hv.wsb, hv.zt, hv.zo, hv.lse⟩ fun r0 r1 r2 r3 s' hm hc' hv' => ?_)
  clear hc hv; have hc := hc'; have hv := hv'; clear hc' hv'
  refine s_assoc (v2 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v3 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v4 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v5 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v6 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v7 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v8 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v9 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v10 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v11 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v12 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v13 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v14 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v15 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v16 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v17 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v18 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v19 (VR := 0) (VN := 0) (VZ := 0) (VL := 0) ⟨hc.xa, hc.xb, hc.wa, hc.wb, hc.da, hc.db⟩ ⟨hv.wsb, hv.zt, hv.zo, hv.lse⟩ fun r0 s' hc' hv' => ?_)
  clear hc hv; have hc := hc'; have hv := hv'; clear hc' hv'
  refine s_assoc (v20 (VR := 0) (VN := 0) (VZ := 0) (VL := 0) ⟨hc.xa, hc.xb, hc.wa, hc.wb, hc.da, hc.db⟩ ⟨hv.wsb, hv.zt, hv.zo, hv.lse⟩ fun r0 r1 s' hc' hv' => ?_)
  clear hc hv; have hc := hc'; have hv := hv'; clear hc' hv'
  refine s_assoc (v21 hm ⟨hc.xa, hc.xb, hc.wa, hc.wb, hc.da, hc.db⟩ ⟨hv.wsb, hv.zt, hv.zo, hv.lse⟩ fun r0 r1 s' hm hc' hv' => ?_)
  clear hc hv; have hc := hc'; have hv := hv'; clear hc' hv'
  refine s_assoc (v22 hm ⟨hc.xa, hc.xb, hc.wa, hc.wb, hc.da, hc.db⟩ ⟨hv.wsb, hv.zt, hv.zo, hv.lse⟩ fun r0 r1 s' hm hc' hv' => ?_)
  clear hc hv; have hc := hc'; have hv := hv'; clear hc' hv'
  refine s_assoc (v23 hm ⟨hc.xa, hc.xb, hc.wa, hc.wb, hc.da, hc.db⟩ ⟨hv.wsb, hv.zt, hv.zo, hv.lse⟩ fun r0 s' hm hc' hv' => ?_)
  clear hc hv; have hc := hc'; have hv := hv'; clear hc' hv'
  refine s_assoc (v24 hm ⟨hc.xa, hc.xb, hc.wa, hc.wb, hc.da, hc.db⟩ ⟨hv.wsb, hv.zt, hv.zo, hv.lse⟩ fun r0 r1 r2 r3 s' hm hc' hv' => ?_)
  clear hc hv; have hc := hc'; have hv := hv'; clear hc' hv'
  refine s_assoc (v25 hm ⟨hc.xa, hc.xb, hc.wa, hc.wb, hc.da, hc.db⟩ ⟨hv.wsb, hv.zt, hv.zo, hv.lse⟩ fun r0 r1 s' hm hc' hv' => ?_)
  clear hc hv; have hc := hc'; have hv := hv'; clear hc' hv'
  refine s_assoc (v26 hm ⟨hc.xa, hc.xb, hc.wa, hc.wb, hc.da, hc.db⟩ ⟨hv.wsb, hv.zt, hv.zo, hv.lse⟩ fun r0 r1 r2 s' hm hc' hv' => ?_)
  clear hc hv; have hc := hc'; have hv := hv'; clear hc' hv'
  refine s_assoc (v27 hm ⟨hc.xa, hc.xb, hc.wa, hc.wb, hc.da, hc.db⟩ ⟨hv.wsb, hv.zt, hv.zo, hv.lse⟩ fun r0 r1 r2 s' hm hc' hv' e27 => ?_)
  clear hc hv; have hc := hc'; have hv := hv'; clear hc' hv'
  refine s_assoc (v28 hm ⟨hc.xa, hc.xb, hc.wa, hc.wb, hc.da, hc.db⟩ ⟨hv.wsb, hv.zt, hv.zo, hv.lse⟩ e27 fun r0 r1 r2 r3 r4 s' hm hc' hv' => ?_)
  clear hc hv; have hc := hc'; have hv := hv'; clear hc' hv'
  by_cases hk : k0_cond1 k0_t4 = 1#1
  · simp only [dif_pos hk, bind_assoc]
    refine wait_w ((min (3 * k0_t4.val + 1) 12) + 2) (bw hc.wa hc.wb (by first | decide | (clear * -; revert k0_t4; decide) | (clear * - hk; revert hk; revert k0_t4; decide))) rfl (by first | decide | (clear * -; revert k0_t4; decide) | (clear * - hk; revert hk; revert k0_t4; decide)) ?_
    refine ld_xV 0 (12 * k0_t4.val + 12) (bx hc.xa (by first | decide | (clear * -; revert k0_t4; decide))) (by first | decide | (clear * -; revert k0_t4; decide)) fun v2104_r0 hv2104_r0 => ?_
    refine s_push0 (oc true true false true) (12 * k0_t4.val + 12) hm (by decide) (by decide) hv2104_r0 fun m hm => ?_
    refine ld_xV 1 (12 * k0_t4.val + 12) (bx hc.xa (by first | decide | (clear * -; revert k0_t4; decide))) (by first | decide | (clear * -; revert k0_t4; decide)) fun v2113_r0 hv2113_r0 => ?_
    refine s_pushB (oc true true true true) hm (by decide) hv2113_r0 fun m hm => ?_
    refine s_pure ?_
    exact h _ _ _ _ hm ⟨hc.xa, hc.xb, (Eq.trans (rfl : _ = ((min (3 * k0_t4.val + 1) 12) + 3)) (by clear * - hk; revert hk; revert k0_t4; decide) : _ = (min (3 * k0_t4.val + 4) 12)), hc.wb, hc.da, hc.db⟩ ⟨hv.wsb, hv.zt, hv.zo, hv.lse⟩
  · simp only [dif_neg hk, bind_assoc]
    refine ld_xV 0 (12 * k0_t4.val + 12) (bx hc.xa (by first | decide | (clear * -; revert k0_t4; decide))) (by first | decide | (clear * -; revert k0_t4; decide)) fun v2104_r0 hv2104_r0 => ?_
    refine s_push0 (oc true true false true) (12 * k0_t4.val + 12) hm (by decide) (by decide) hv2104_r0 fun m hm => ?_
    refine ld_xV 1 (12 * k0_t4.val + 12) (bx hc.xa (by first | decide | (clear * -; revert k0_t4; decide))) (by first | decide | (clear * -; revert k0_t4; decide)) fun v2113_r0 hv2113_r0 => ?_
    refine s_pushB (oc true true true true) hm (by decide) hv2113_r0 fun m hm => ?_
    refine s_pure ?_
    exact h _ _ _ _ hm ⟨hc.xa, hc.xb, (Eq.trans hc.wa (by clear * - hk; revert hk; revert k0_t4; decide) : _ = (min (3 * k0_t4.val + 4) 12)), hc.wb, hc.da, hc.db⟩ ⟨hv.wsb, hv.zt, hv.zo, hv.lse⟩

set_option maxRecDepth 65536 in
set_option maxHeartbeats 4000000 in
theorem bvt4 {k0_mxu1 : Mxu Ideal} {v156_r0 : FVec Ideal S128x128 .f32} {k0_t4 : Fin k0_t4_loop.trips} {m : Mxu Ideal} (hm : MxV vx vw 0 0 (oc true false true false) (lv true true) (kk (12 * k0_t4.val) 0) (kk (12 * k0_t4.val) (12 * k0_t4.val)) m) (hc : Cnt s (3 * k0_t4.val + 1) 48 (min (3 * k0_t4.val + 1) 12) 12 0 0) (hv : SV vx vw vws vxs 0 0 0 0 s) :
    Res c vx vw PT s iprop(SL c vid vws vxs ∗ R) ⊢ WP c (app (k0_t4_body (F := Ideal)) k0_mxu1 v156_r0 k0_t4 m)
      (fun m' => iprop(∃ s', ⌜MxV vx vw 0 0 (oc true false true false) (lv true true) (kk (12 * (k0_t4.val + 1)) 0) (kk (12 * (k0_t4.val + 1)) (12 * (k0_t4.val + 1))) m' ∧ Cnt s' (3 * (k0_t4.val + 1) + 1) 48 (min (3 * (k0_t4.val + 1) + 1) 12) 12 0 0 ∧ SV vx vw vws vxs 0 0 0 0 s'⌝ ∗ Res c vx vw PT s' iprop(SL c vid vws vxs ∗ R))) := by
  unfold app k0_t4_body
  refine v29 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine ld_wV (12 * k0_t4.val + 11) (bv hc.wa (by first | decide | (clear * -; revert k0_t4; decide))) (by first | decide | (clear * -; revert k0_t4; decide)) fun v2120_r0 hv2120_r0 => ?_
  exact s_trip ⟨MxV.re (MxV.acc1 (r := 1) (hf := Gen.fits_0_256) (oc true false true false) (lv true true) (MxV.acc0 (r := 1) (hf := Gen.fits_0_256) (oc true false true true) (lv true true) hm (by decide) hv2120_r0.tile (show (12 * k0_t4.val + 11) = 48 * 0 + (12 * k0_t4.val + 11) by omega) (by first | decide | (clear * -; revert k0_t4; decide))) (by decide) hv2120_r0.tile (show (12 * k0_t4.val + 11) = 48 * 0 + (12 * k0_t4.val + 11) by omega) (by first | decide | (clear * -; revert k0_t4; decide))) (.inr (by omega)) (.inl (by decide)) (by omega) (by omega), ⟨(Eq.trans hc.xa (by first | omega | (clear * -; revert k0_t4; decide))), hc.xb, (Eq.trans hc.wa (by first | omega | (clear * -; revert k0_t4; decide))), hc.wb, hc.da, hc.db⟩, ⟨hv.wsb, hv.zt, hv.zo, hv.lse⟩⟩

end Cert.KernelIdeal.Hand

end
-- ==== Proof.KV.P2.lean ====
/-
# The values: the second tokens' trip
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v30 {c0_i32_123_r0 : BitVec 32} {c1_i32_125_r0 : BitVec 32} {k0_t5 : Fin k0_t5_loop.trips} {k0_mxu56 : Mxu Ideal} {k : (Σ' (_ : BitVec 32) (_ : Mxu Ideal) (_ : BitVec 32) (_ : FVec Ideal S1x128 .f32), FVec Ideal S256x128 .f32) → Prog (TpuEff nD τ sig (Elt Ideal) Λ₀ .tc) β} (hm : MxV vx vw 64 1 (oc true false true false) (lv true true) (kk (48 + 12 * k0_t5.val) 0) (kk (12 * k0_t5.val) (12 * k0_t5.val)) k0_mxu56) (hc : Cnt s (13 + 3 * k0_t5.val) 48 12 12 0 (0 + k0_t5.val)) (hv : SV vx vw vws vxs 0 4 (0 + k0_t5.val) (0 + k0_t5.val) s)
    (h : ∀ (r0 : BitVec 32) (r1 : Mxu Ideal) (r2 : BitVec 32) (r3 : FVec Ideal S1x128 .f32) (r4 : FVec Ideal S256x128 .f32) (s' : St Ideal) (_ : MxV vx vw 64 1 (oc false true false true) (lv true true) (kk (48 + 12 * k0_t5.val) (48 + 12 * k0_t5.val + 1)) (kk (12 * k0_t5.val + 1) (12 * k0_t5.val + 1)) r1) (_ : Cnt s' (13 + 3 * k0_t5.val) 48 12 12 0 (0 + k0_t5.val)) (_ : SV vx vw vws vxs 0 4 (0 + k0_t5.val) (0 + k0_t5.val) s') (_ : ∃ x0, ZV vx vw vws vxs (128 * (0 + k0_t5.val)) x0 ∧ r3 = k0_pay75 (F := Ideal) x0 ∧ r4 = k0_pay76 (F := Ideal) x0), Res c vx vw PT s' iprop(SL c vid vws vxs ∗ R) ⊢ WP c (k ⟨r0, r1, r2, r3, r4⟩) Q) :
    Res c vx vw PT s iprop(SL c vid vws vxs ∗ R) ⊢ WP c (app (k0_part30 (F := Ideal)) c0_i32_123_r0 c1_i32_125_r0 k0_t5 k0_mxu56 >>= k) Q := by
  rw [k0_part30_eq_skeleton]
  unfold app k0_part30_skel
  refine s_assoc (ld_xV 0 (48 + 12 * k0_t5.val + 1) (bx hc.xa (by first | decide | (clear * -; revert k0_t5; decide))) (by first | decide | (clear * -; revert k0_t5; decide)) fun v1009_r0 hv1009_r0 => ?_)
  refine s_assoc (s_push1 (oc true true true false) (48 + 12 * k0_t5.val + 1) hm (by decide) (by decide) hv1009_r0 fun m hm => ?_)
  refine s_assoc (ld_xV 1 (48 + 12 * k0_t5.val + 1) (bx hc.xa (by first | decide | (clear * -; revert k0_t5; decide))) (by first | decide | (clear * -; revert k0_t5; decide)) fun v1016_r0 hv1016_r0 => ?_)
  refine s_assoc (s_pushB (oc true true true true) hm (by decide) hv1016_r0 fun m hm => ?_)
  refine s_assoc (ld_wV (12 * k0_t5.val) (bv hc.wa (by first | decide | (clear * -; revert k0_t5; decide))) (by first | decide | (clear * -; revert k0_t5; decide)) fun v1023_r0 hv1023_r0 => ?_)
  refine s_assoc (ld_ztV (128 * (0 + k0_t5.val)) k0_t5.val (vws := vws) (vxs := vxs) (R' := 0) (n := 4) (DZ := (0 + k0_t5.val)) (DL := (0 + k0_t5.val)) ?_ ?_ ?_ ?_)
  · exact ⟨hv.wsb, hv.zt, hv.zo, hv.lse⟩
  · exact (by first | decide | (clear * -; revert k0_t5; decide))
  · omega
  intro v1029_r0 hv1029_r0
  refine s_pure ?_
  exact h _ _ _ _ _ _ (MxV.acc1 (r := 0) (hf := Gen.fits_64_256) (oc false true false true) (lv true true) (MxV.acc0 (r := 0) (hf := Gen.fits_64_256) (oc false true true true) (lv true true) hm (by decide) hv1023_r0.tile (show (48 + 12 * k0_t5.val) = 48 * 1 + (12 * k0_t5.val) by omega) (by first | decide | (clear * -; revert k0_t5; decide))) (by decide) hv1023_r0.tile (show (48 + 12 * k0_t5.val) = 48 * 1 + (12 * k0_t5.val) by omega) (by first | decide | (clear * -; revert k0_t5; decide))) ⟨hc.xa, hc.xb, hc.wa, hc.wb, hc.da, hc.db⟩ ⟨hv.wsb, hv.zt, hv.zo, hv.lse⟩ ⟨_, hv1029_r0, rfl, rfl⟩

set_option maxRecDepth 65536 in
set_option maxHeartbeats 4000000 in
theorem v31 {k0_t5 : Fin k0_t5_loop.trips} {v1027_r0 : BitVec 32} {v1032_r0 : FVec Ideal S1x128 .f32} {v1035_r0 : FVec Ideal S256x128 .f32} {k : (Σ' (_ : FVec Ideal S1x128 .f32) (_ : FVec Ideal S1x128 .f32) (_ : FVec Ideal S256x128 .f32), Vec Ideal S256x128 .f32) → Prog (TpuEff nD τ sig (Elt Ideal) Λ₀ .tc) β} (hc : Cnt s (13 + 3 * k0_t5.val) 48 12 12 0 (0 + k0_t5.val)) (hv : SV vx vw vws vxs 0 4 (0 + k0_t5.val) (0 + k0_t5.val) s) (hF0 : ∃ x0, ZV vx vw vws vxs (128 * (0 + k0_t5.val)) x0 ∧ v1032_r0 = k0_pay75 (F := Ideal) x0 ∧ v1035_r0 = k0_pay76 (F := Ideal) x0)
    (h : ∀ (r0 : FVec Ideal S1x128 .f32) (r1 : FVec Ideal S1x128 .f32) (r2 : FVec Ideal S256x128 .f32) (r3 : Vec Ideal S256x128 .f32) (s' : St Ideal) (_ : Cnt s' (13 + 3 * k0_t5.val) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1, r2, r3⟩) Q) :
    Res c vx vw PT s iprop(SL c vid vws vxs ∗ R) ⊢ WP c (app (k0_part31 (F := Ideal)) k0_t5 v1027_r0 v1032_r0 v1035_r0 >>= k) Q := by
  obtain ⟨x0, f0, rfl, rfl⟩ := hF0
  rw [k0_part31_eq_skeleton]
  unfold app k0_part31_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV (128 * (0 + k0_t5.val)) (vws := vws) (vxs := vxs) (R' := 0) (n := 4) (DZ := (0 + k0_t5.val)) (DL := (0 + k0_t5.val)) (xa := (13 + 3 * k0_t5.val)) (xb := 48) (wa := 12) (wb := 12) (da := 0) (db := (0 + k0_t5.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t5; decide))
  · rfl
  · exact (by have H := zo_pay f0; exact H)
  intro s' hv' hc'
  clear hc hv; have hc := hc'; have hv := hv'; clear hc' hv'
  refine s_assoc (ld_lse ?_)
  refine s_assoc (st_lseV (128 * (0 + k0_t5.val)) (vws := vws) (vxs := vxs) (R' := 0) (n := 4) (DZ := ((0 + k0_t5.val) + 1)) (DL := (0 + k0_t5.val)) (xa := (13 + 3 * k0_t5.val)) (xb := 48) (wa := 12) (wb := 12) (da := 0) (db := (0 + k0_t5.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t5; decide))
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩ ⟨hv.wsb, hv.zt, hv.zo, hv.lse⟩

set_option maxRecDepth 65536 in
set_option maxHeartbeats 4000000 in
theorem v32 {k0_t5 : Fin k0_t5_loop.trips} {v1001_r0 : BitVec 32} {k0_mxu61 : Mxu Ideal} {v1044_r0 : FVec Ideal S1x128 .f32} {v1049_r0 : FVec Ideal S1x128 .f32} {v1067_r0 : FVec Ideal S256x128 .f32} {v1073_r0 : Vec Ideal S256x128 .f32} {k : (Σ' (_ : Mxu Ideal), BitVec 32) → Prog (TpuEff nD τ sig (Elt Ideal) Λ₀ .tc) β} (hm : MxV vx vw 64 1 (oc false true false true) (lv true true) (kk (48 + 12 * k0_t5.val) (48 + 12 * k0_t5.val + 1)) (kk (12 * k0_t5.val + 1) (12 * k0_t5.val + 1)) k0_mxu61) (hc : Cnt s (13 + 3 * k0_t5.val) 48 12 12 0 (0 + k0_t5.val)) (hv : SV vx vw vws vxs 0 4 ((0 + k0_t5.val) + 1) ((0 + k0_t5.val) + 1) s)
    (h : ∀ (r0 : Mxu Ideal) (r1 : BitVec 32) (s' : St Ideal) (_ : MxV vx vw 64 1 (oc true true true true) (lv true true) (kk (48 + 12 * k0_t5.val + 2) (48 + 12 * k0_t5.val + 1)) (kk (12 * k0_t5.val + 1) (12 * k0_t5.val + 1)) r0) (_ : Cnt s' (13 + 3 * k0_t5.val) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1⟩) Q) :
    Res c vx vw PT s iprop(SL c vid vws vxs ∗ R) ⊢ WP c (app (k0_part32 (F := Ideal)) k0_t5 v1001_r0 k0_mxu61 v1044_r0 v1049_r0 v1067_r0 v1073_r0 >>= k) Q := by
  rw [k0_part32_eq_skeleton]
  unfold app k0_part32_skel
  refine s_assoc (ld_dl (bd hc.db (by first | decide | (clear * -; revert k0_t5; decide))) ?_)
  refine s_assoc (st_dl (bd hc.db (by first | decide | (clear * -; revert k0_t5; decide))) ?_)
  refine s_assoc (ld_dl (bd hc.db (by first | decide | (clear * -; revert k0_t5; decide))) ?_)
  refine s_assoc (st_dl (bd hc.db (by first | decide | (clear * -; revert k0_t5; decide))) ?_)
  refine s_assoc (ld_xV 0 (48 + 12 * k0_t5.val + 2) (bx hc.xa (by first | decide | (clear * -; revert k0_t5; decide))) (by first | decide | (clear * -; revert k0_t5; decide)) fun v1102_r0 hv1102_r0 => ?_)
  refine s_assoc (s_push0 (oc true true false true) (48 + 12 * k0_t5.val + 2) hm (by decide) (by decide) hv1102_r0 fun m hm => ?_)
  refine s_assoc (ld_xV 1 (48 + 12 * k0_t5.val + 2) (bx hc.xa (by first | decide | (clear * -; revert k0_t5; decide))) (by first | decide | (clear * -; revert k0_t5; decide)) fun v1109_r0 hv1109_r0 => ?_)
  refine s_assoc (s_pushB (oc true true true true) hm (by decide) hv1109_r0 fun m hm => ?_)
  refine s_pure ?_
  exact h _ _ _ hm ⟨hc.xa, hc.xb, hc.wa, hc.wb, hc.da, hc.db⟩ ⟨hv.wsb, hv.zt, hv.zo, hv.lse⟩

set_option maxRecDepth 65536 in
set_option maxHeartbeats 4000000 in
theorem v33 {k0_t5 : Fin k0_t5_loop.trips} {v1001_r0 : BitVec 32} {k0_mxu63 : Mxu Ideal} {v1114_r0 : BitVec 32} {k : (Σ' (_ : Mxu Ideal), BitVec 32) → Prog (TpuEff nD τ sig (Elt Ideal) Λ₀ .tc) β} (hm : MxV vx vw 64 1 (oc true true true true) (lv true true) (kk (48 + 12 * k0_t5.val + 2) (48 + 12 * k0_t5.val + 1)) (kk (12 * k0_t5.val + 1) (12 * k0_t5.val + 1)) k0_mxu63) (hc : Cnt s (13 + 3 * k0_t5.val) 48 12 12 0 (0 + k0_t5.val)) (hv : SV vx vw vws vxs 0 4 ((0 + k0_t5.val) + 1) ((0 + k0_t5.val) + 1) s)
    (h : ∀ (r0 : Mxu Ideal) (r1 : BitVec 32) (s' : St Ideal) (_ : MxV vx vw 64 1 (oc false true false true) (lv true true) (kk (48 + 12 * k0_t5.val + 2) (48 + 12 * k0_t5.val + 3)) (kk (12 * k0_t5.val + 3) (12 * k0_t5.val + 3)) r0) (_ : Cnt s' (13 + 3 * k0_t5.val) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1⟩) Q) :
    Res c vx vw PT s iprop(SL c vid vws vxs ∗ R) ⊢ WP c (app (k0_part33 (F := Ideal)) k0_t5 v1001_r0 k0_mxu63 v1114_r0 >>= k) Q := by
  rw [k0_part33_eq_skeleton]
  unfold app k0_part33_skel
  refine s_assoc (ld_wV (12 * k0_t5.val + 1) (bv hc.wa (by first | decide | (clear * -; revert k0_t5; decide))) (by first | decide | (clear * -; revert k0_t5; decide)) fun v1116_r0 hv1116_r0 => ?_)
  refine s_assoc (ld_xV 0 (48 + 12 * k0_t5.val + 3) (bx hc.xa (by first | decide | (clear * -; revert k0_t5; decide))) (by first | decide | (clear * -; revert k0_t5; decide)) fun v1125_r0 hv1125_r0 => ?_)
  refine s_assoc (s_push1 (oc true true true false) (48 + 12 * k0_t5.val + 3) (MxV.acc1 (r := 1) (hf := Gen.fits_64_256) (oc true false true false) (lv true true) (MxV.acc0 (r := 1) (hf := Gen.fits_64_256) (oc true false true true) (lv true true) hm (by decide) hv1116_r0.tile (show (48 + 12 * k0_t5.val + 1) = 48 * 1 + (12 * k0_t5.val + 1) by omega) (by first | decide | (clear * -; revert k0_t5; decide))) (by decide) hv1116_r0.tile (show (48 + 12 * k0_t5.val + 1) = 48 * 1 + (12 * k0_t5.val + 1) by omega) (by first | decide | (clear * -; revert k0_t5; decide))) (by decide) (by decide) hv1125_r0 fun m hm => ?_)
  refine s_assoc (ld_xV 1 (48 + 12 * k0_t5.val + 3) (bx hc.xa (by first | decide | (clear * -; revert k0_t5; decide))) (by first | decide | (clear * -; revert k0_t5; decide)) fun v1132_r0 hv1132_r0 => ?_)
  refine s_assoc (s_pushB (oc true true true true) hm (by decide) hv1132_r0 fun m hm => ?_)
  refine s_assoc (ld_wV (12 * k0_t5.val + 2) (bv hc.wa (by first | decide | (clear * -; revert k0_t5; decide))) (by first | decide | (clear * -; revert k0_t5; decide)) fun v1139_r0 hv1139_r0 => ?_)
  refine s_pure ?_
  exact h _ _ _ (MxV.acc1 (r := 0) (hf := Gen.fits_64_256) (oc false true false true) (lv true true) (MxV.acc0 (r := 0) (hf := Gen.fits_64_256) (oc false true true true) (lv true true) hm (by decide) hv1139_r0.tile (show (48 + 12 * k0_t5.val + 2) = 48 * 1 + (12 * k0_t5.val + 2) by omega) (by first | decide | (clear * -; revert k0_t5; decide))) (by decide) hv1139_r0.tile (show (48 + 12 * k0_t5.val + 2) = 48 * 1 + (12 * k0_t5.val + 2) by omega) (by first | decide | (clear * -; revert k0_t5; decide))) ⟨hc.xa, hc.xb, hc.wa, hc.wb, hc.da, hc.db⟩ ⟨hv.wsb, hv.zt, hv.zo, hv.lse⟩

set_option maxRecDepth 65536 in
set_option maxHeartbeats 4000000 in
theorem v34 {k0_t5 : Fin k0_t5_loop.trips} {v1001_r0 : BitVec 32} {k0_mxu69 : Mxu Ideal} {v1142_r0 : BitVec 32} {k : (Σ' (_ : Mxu Ideal), BitVec 32) → Prog (TpuEff nD τ sig (Elt Ideal) Λ₀ .tc) β} (hm : MxV vx vw 64 1 (oc false true false true) (lv true true) (kk (48 + 12 * k0_t5.val + 2) (48 + 12 * k0_t5.val + 3)) (kk (12 * k0_t5.val + 3) (12 * k0_t5.val + 3)) k0_mxu69) (hc : Cnt s (13 + 3 * k0_t5.val) 48 12 12 0 (0 + k0_t5.val)) (hv : SV vx vw vws vxs 0 4 ((0 + k0_t5.val) + 1) ((0 + k0_t5.val) + 1) s)
    (h : ∀ (r0 : Mxu Ideal) (r1 : BitVec 32) (s' : St Ideal) (_ : MxV vx vw 64 1 (oc true true true true) (lv true true) (kk (48 + 12 * k0_t5.val + 4) (48 + 12 * k0_t5.val + 5)) (kk (12 * k0_t5.val + 4) (12 * k0_t5.val + 4)) r0) (_ : Cnt s' ((13 + 3 * k0_t5.val) + 1) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1⟩) Q) :
    Res c vx vw PT s iprop(SL c vid vws vxs ∗ R) ⊢ WP c (app (k0_part34 (F := Ideal)) k0_t5 v1001_r0 k0_mxu69 v1142_r0 >>= k) Q := by
  rw [k0_part34_eq_skeleton]
  unfold app k0_part34_skel
  refine s_assoc (wait_x (13 + 3 * k0_t5.val) (bw hc.xa hc.xb (by first | decide | (clear * -; revert k0_t5; decide))) rfl (by first | decide | (clear * -; revert k0_t5; decide)) ?_)
  refine s_assoc (ld_xV 0 (48 + 12 * k0_t5.val + 4) (bx (rfl : _ = ((13 + 3 * k0_t5.val) + 1)) (by first | decide | (clear * -; revert k0_t5; decide))) (by first | decide | (clear * -; revert k0_t5; decide)) fun v1158_r0 hv1158_r0 => ?_)
  refine s_assoc (s_push0 (oc true true false true) (48 + 12 * k0_t5.val + 4) hm (by decide) (by decide) hv1158_r0 fun m hm => ?_)
  refine s_assoc (ld_xV 1 (48 + 12 * k0_t5.val + 4) (bx (rfl : _ = ((13 + 3 * k0_t5.val) + 1)) (by first | decide | (clear * -; revert k0_t5; decide))) (by first | decide | (clear * -; revert k0_t5; decide)) fun v1165_r0 hv1165_r0 => ?_)
  refine s_assoc (s_pushB (oc true true true true) hm (by decide) hv1165_r0 fun m hm => ?_)
  refine s_assoc (ld_wV (12 * k0_t5.val + 3) (bv hc.wa (by first | decide | (clear * -; revert k0_t5; decide))) (by first | decide | (clear * -; revert k0_t5; decide)) fun v1172_r0 hv1172_r0 => ?_)
  refine s_assoc (ld_xV 0 (48 + 12 * k0_t5.val + 5) (bx (rfl : _ = ((13 + 3 * k0_t5.val) + 1)) (by first | decide | (clear * -; revert k0_t5; decide))) (by first | decide | (clear * -; revert k0_t5; decide)) fun v1181_r0 hv1181_r0 => ?_)
  refine s_assoc (s_push1 (oc true true true false) (48 + 12 * k0_t5.val + 5) (MxV.acc1 (r := 1) (hf := Gen.fits_64_256) (oc true false true false) (lv true true) (MxV.acc0 (r := 1) (hf := Gen.fits_64_256) (oc true false true true) (lv true true) hm (by decide) hv1172_r0.tile (show (48 + 12 * k0_t5.val + 3) = 48 * 1 + (12 * k0_t5.val + 3) by omega) (by first | decide | (clear * -; revert k0_t5; decide))) (by decide) hv1172_r0.tile (show (48 + 12 * k0_t5.val + 3) = 48 * 1 + (12 * k0_t5.val + 3) by omega) (by first | decide | (clear * -; revert k0_t5; decide))) (by decide) (by decide) hv1181_r0 fun m hm => ?_)
  refine s_assoc (ld_xV 1 (48 + 12 * k0_t5.val + 5) (bx (rfl : _ = ((13 + 3 * k0_t5.val) + 1)) (by first | decide | (clear * -; revert k0_t5; decide))) (by first | decide | (clear * -; revert k0_t5; decide)) fun v1188_r0 hv1188_r0 => ?_)
  refine s_assoc (s_pushB (oc true true true true) hm (by decide) hv1188_r0 fun m hm => ?_)
  refine s_pure ?_
  exact h _ _ _ hm ⟨(rfl : _ = ((13 + 3 * k0_t5.val) + 1)), hc.xb, hc.wa, hc.wb, hc.da, hc.db⟩ ⟨hv.wsb, hv.zt, hv.zo, hv.lse⟩

set_option maxRecDepth 65536 in
set_option maxHeartbeats 4000000 in
theorem v35 {k0_t5 : Fin k0_t5_loop.trips} {v1001_r0 : BitVec 32} {k0_mxu75 : Mxu Ideal} {c12_i32_588_r0 : BitVec 32} {k : (Σ' (_ : Mxu Ideal), BitVec 32) → Prog (TpuEff nD τ sig (Elt Ideal) Λ₀ .tc) β} (hm : MxV vx vw 64 1 (oc true true true true) (lv true true) (kk (48 + 12 * k0_t5.val + 4) (48 + 12 * k0_t5.val + 5)) (kk (12 * k0_t5.val + 4) (12 * k0_t5.val + 4)) k0_mxu75) (hc : Cnt s ((13 + 3 * k0_t5.val) + 1) 48 12 12 0 (0 + k0_t5.val)) (hv : SV vx vw vws vxs 0 4 ((0 + k0_t5.val) + 1) ((0 + k0_t5.val) + 1) s)
    (h : ∀ (r0 : Mxu Ideal) (r1 : BitVec 32) (s' : St Ideal) (_ : MxV vx vw 64 1 (oc true false true false) (lv true true) (kk (48 + 12 * k0_t5.val + 6) (48 + 12 * k0_t5.val + 5)) (kk (12 * k0_t5.val + 6) (12 * k0_t5.val + 6)) r0) (_ : Cnt s' ((13 + 3 * k0_t5.val) + 1) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1⟩) Q) :
    Res c vx vw PT s iprop(SL c vid vws vxs ∗ R) ⊢ WP c (app (k0_part35 (F := Ideal)) k0_t5 v1001_r0 k0_mxu75 c12_i32_588_r0 >>= k) Q := by
  rw [k0_part35_eq_skeleton]
  unfold app k0_part35_skel
  refine s_assoc (ld_wV (12 * k0_t5.val + 4) (bv hc.wa (by first | decide | (clear * -; revert k0_t5; decide))) (by first | decide | (clear * -; revert k0_t5; decide)) fun v1195_r0 hv1195_r0 => ?_)
  refine s_assoc (ld_xV 0 (48 + 12 * k0_t5.val + 6) (bx hc.xa (by first | decide | (clear * -; revert k0_t5; decide))) (by first | decide | (clear * -; revert k0_t5; decide)) fun v1204_r0 hv1204_r0 => ?_)
  refine s_assoc (s_push0 (oc true true false true) (48 + 12 * k0_t5.val + 6) (MxV.acc1 (r := 0) (hf := Gen.fits_64_256) (oc false true false true) (lv true true) (MxV.acc0 (r := 0) (hf := Gen.fits_64_256) (oc false true true true) (lv true true) hm (by decide) hv1195_r0.tile (show (48 + 12 * k0_t5.val + 4) = 48 * 1 + (12 * k0_t5.val + 4) by omega) (by first | decide | (clear * -; revert k0_t5; decide))) (by decide) hv1195_r0.tile (show (48 + 12 * k0_t5.val + 4) = 48 * 1 + (12 * k0_t5.val + 4) by omega) (by first | decide | (clear * -; revert k0_t5; decide))) (by decide) (by decide) hv1204_r0 fun m hm => ?_)
  refine s_assoc (ld_xV 1 (48 + 12 * k0_t5.val + 6) (bx hc.xa (by first | decide | (clear * -; revert k0_t5; decide))) (by first | decide | (clear * -; revert k0_t5; decide)) fun v1211_r0 hv1211_r0 => ?_)
  refine s_assoc (s_pushB (oc true true true true) hm (by decide) hv1211_r0 fun m hm => ?_)
  refine s_assoc (ld_wV (12 * k0_t5.val + 5) (bv hc.wa (by first | decide | (clear * -; revert k0_t5; decide))) (by first | decide | (clear * -; revert k0_t5; decide)) fun v1218_r0 hv1218_r0 => ?_)
  refine s_pure ?_
  exact h _ _ _ (MxV.acc1 (r := 1) (hf := Gen.fits_64_256) (oc true false true false) (lv true true) (MxV.acc0 (r := 1) (hf := Gen.fits_64_256) (oc true false true true) (lv true true) hm (by decide) hv1218_r0.tile (show (48 + 12 * k0_t5.val + 5) = 48 * 1 + (12 * k0_t5.val + 5) by omega) (by first | decide | (clear * -; revert k0_t5; decide))) (by decide) hv1218_r0.tile (show (48 + 12 * k0_t5.val + 5) = 48 * 1 + (12 * k0_t5.val + 5) by omega) (by first | decide | (clear * -; revert k0_t5; decide))) ⟨hc.xa, hc.xb, hc.wa, hc.wb, hc.da, hc.db⟩ ⟨hv.wsb, hv.zt, hv.zo, hv.lse⟩

set_option maxRecDepth 65536 in
set_option maxHeartbeats 4000000 in
theorem v36 {k0_t5 : Fin k0_t5_loop.trips} {v1001_r0 : BitVec 32} {k0_mxu81 : Mxu Ideal} {v1221_r0 : BitVec 32} {k : (Σ' (_ : Mxu Ideal) (_ : BitVec 32), BitVec 32) → Prog (TpuEff nD τ sig (Elt Ideal) Λ₀ .tc) β} (hm : MxV vx vw 64 1 (oc true false true false) (lv true true) (kk (48 + 12 * k0_t5.val + 6) (48 + 12 * k0_t5.val + 5)) (kk (12 * k0_t5.val + 6) (12 * k0_t5.val + 6)) k0_mxu81) (hc : Cnt s ((13 + 3 * k0_t5.val) + 1) 48 12 12 0 (0 + k0_t5.val)) (hv : SV vx vw vws vxs 0 4 ((0 + k0_t5.val) + 1) ((0 + k0_t5.val) + 1) s)
    (h : ∀ (r0 : Mxu Ideal) (r1 : BitVec 32) (r2 : BitVec 32) (s' : St Ideal) (_ : MxV vx vw 64 1 (oc true true false true) (lv true true) (kk (48 + 12 * k0_t5.val + 8) (48 + 12 * k0_t5.val + 7)) (kk (12 * k0_t5.val + 7) (12 * k0_t5.val + 7)) r0) (_ : Cnt s' ((13 + 3 * k0_t5.val) + 2) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1, r2⟩) Q) :
    Res c vx vw PT s iprop(SL c vid vws vxs ∗ R) ⊢ WP c (app (k0_part36 (F := Ideal)) k0_t5 v1001_r0 k0_mxu81 v1221_r0 >>= k) Q := by
  rw [k0_part36_eq_skeleton]
  unfold app k0_part36_skel
  refine s_assoc (ld_xV 0 (48 + 12 * k0_t5.val + 7) (bx hc.xa (by first | decide | (clear * -; revert k0_t5; decide))) (by first | decide | (clear * -; revert k0_t5; decide)) fun v1227_r0 hv1227_r0 => ?_)
  refine s_assoc (s_push1 (oc true true true false) (48 + 12 * k0_t5.val + 7) hm (by decide) (by decide) hv1227_r0 fun m hm => ?_)
  refine s_assoc (ld_xV 1 (48 + 12 * k0_t5.val + 7) (bx hc.xa (by first | decide | (clear * -; revert k0_t5; decide))) (by first | decide | (clear * -; revert k0_t5; decide)) fun v1234_r0 hv1234_r0 => ?_)
  refine s_assoc (s_pushB (oc true true true true) hm (by decide) hv1234_r0 fun m hm => ?_)
  refine s_assoc (ld_wV (12 * k0_t5.val + 6) (bv hc.wa (by first | decide | (clear * -; revert k0_t5; decide))) (by first | decide | (clear * -; revert k0_t5; decide)) fun v1241_r0 hv1241_r0 => ?_)
  refine s_assoc (wait_x ((13 + 3 * k0_t5.val) + 1) (bw hc.xa hc.xb (by first | decide | (clear * -; revert k0_t5; decide))) rfl (by first | decide | (clear * -; revert k0_t5; decide)) ?_)
  refine s_assoc (ld_xV 0 (48 + 12 * k0_t5.val + 8) (bx (rfl : _ = ((13 + 3 * k0_t5.val) + 2)) (by first | decide | (clear * -; revert k0_t5; decide))) (by first | decide | (clear * -; revert k0_t5; decide)) fun v1260_r0 hv1260_r0 => ?_)
  refine s_assoc (s_push0 (oc true true false true) (48 + 12 * k0_t5.val + 8) (MxV.acc1 (r := 0) (hf := Gen.fits_64_256) (oc false true false true) (lv true true) (MxV.acc0 (r := 0) (hf := Gen.fits_64_256) (oc false true true true) (lv true true) hm (by decide) hv1241_r0.tile (show (48 + 12 * k0_t5.val + 6) = 48 * 1 + (12 * k0_t5.val + 6) by omega) (by first | decide | (clear * -; revert k0_t5; decide))) (by decide) hv1241_r0.tile (show (48 + 12 * k0_t5.val + 6) = 48 * 1 + (12 * k0_t5.val + 6) by omega) (by first | decide | (clear * -; revert k0_t5; decide))) (by decide) (by decide) hv1260_r0 fun m hm => ?_)
  refine s_pure ?_
  exact h _ _ _ _ hm ⟨(rfl : _ = ((13 + 3 * k0_t5.val) + 2)), hc.xb, hc.wa, hc.wb, hc.da, hc.db⟩ ⟨hv.wsb, hv.zt, hv.zo, hv.lse⟩

set_option maxRecDepth 65536 in
set_option maxHeartbeats 4000000 in
theorem v37 {k0_t5 : Fin k0_t5_loop.trips} {v1001_r0 : BitVec 32} {k0_mxu86 : Mxu Ideal} {v1262_r0 : BitVec 32} {v1263_r0 : BitVec 32} {k : (Σ' (_ : Mxu Ideal), BitVec 32) → Prog (TpuEff nD τ sig (Elt Ideal) Λ₀ .tc) β} (hm : MxV vx vw 64 1 (oc true true false true) (lv true true) (kk (48 + 12 * k0_t5.val + 8) (48 + 12 * k0_t5.val + 7)) (kk (12 * k0_t5.val + 7) (12 * k0_t5.val + 7)) k0_mxu86) (hc : Cnt s ((13 + 3 * k0_t5.val) + 2) 48 12 12 0 (0 + k0_t5.val)) (hv : SV vx vw vws vxs 0 4 ((0 + k0_t5.val) + 1) ((0 + k0_t5.val) + 1) s)
    (h : ∀ (r0 : Mxu Ideal) (r1 : BitVec 32) (s' : St Ideal) (_ : MxV vx vw 64 1 (oc false true false true) (lv true true) (kk (48 + 12 * k0_t5.val + 8) (48 + 12 * k0_t5.val + 9)) (kk (12 * k0_t5.val + 9) (12 * k0_t5.val + 9)) r0) (_ : Cnt s' ((13 + 3 * k0_t5.val) + 2) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1⟩) Q) :
    Res c vx vw PT s iprop(SL c vid vws vxs ∗ R) ⊢ WP c (app (k0_part37 (F := Ideal)) k0_t5 v1001_r0 k0_mxu86 v1262_r0 v1263_r0 >>= k) Q := by
  rw [k0_part37_eq_skeleton]
  unfold app k0_part37_skel
  refine s_assoc (ld_xV 1 (48 + 12 * k0_t5.val + 8) (bx hc.xa (by first | decide | (clear * -; revert k0_t5; decide))) (by first | decide | (clear * -; revert k0_t5; decide)) fun v1267_r0 hv1267_r0 => ?_)
  refine s_assoc (s_pushB (oc true true true true) hm (by decide) hv1267_r0 fun m hm => ?_)
  refine s_assoc (ld_wV (12 * k0_t5.val + 7) (bv hc.wa (by first | decide | (clear * -; revert k0_t5; decide))) (by first | decide | (clear * -; revert k0_t5; decide)) fun v1274_r0 hv1274_r0 => ?_)
  refine s_assoc (ld_xV 0 (48 + 12 * k0_t5.val + 9) (bx hc.xa (by first | decide | (clear * -; revert k0_t5; decide))) (by first | decide | (clear * -; revert k0_t5; decide)) fun v1283_r0 hv1283_r0 => ?_)
  refine s_assoc (s_push1 (oc true true true false) (48 + 12 * k0_t5.val + 9) (MxV.acc1 (r := 1) (hf := Gen.fits_64_256) (oc true false true false) (lv true true) (MxV.acc0 (r := 1) (hf := Gen.fits_64_256) (oc true false true true) (lv true true) hm (by decide) hv1274_r0.tile (show (48 + 12 * k0_t5.val + 7) = 48 * 1 + (12 * k0_t5.val + 7) by omega) (by first | decide | (clear * -; revert k0_t5; decide))) (by decide) hv1274_r0.tile (show (48 + 12 * k0_t5.val + 7) = 48 * 1 + (12 * k0_t5.val + 7) by omega) (by first | decide | (clear * -; revert k0_t5; decide))) (by decide) (by decide) hv1283_r0 fun m hm => ?_)
  refine s_assoc (ld_xV 1 (48 + 12 * k0_t5.val + 9) (bx hc.xa (by first | decide | (clear * -; revert k0_t5; decide))) (by first | decide | (clear * -; revert k0_t5; decide)) fun v1290_r0 hv1290_r0 => ?_)
  refine s_assoc (s_pushB (oc true true true true) hm (by decide) hv1290_r0 fun m hm => ?_)
  refine s_assoc (ld_wV (12 * k0_t5.val + 8) (bv hc.wa (by first | decide | (clear * -; revert k0_t5; decide))) (by first | decide | (clear * -; revert k0_t5; decide)) fun v1297_r0 hv1297_r0 => ?_)
  refine s_pure ?_
  exact h _ _ _ (MxV.acc1 (r := 0) (hf := Gen.fits_64_256) (oc false true false true) (lv true true) (MxV.acc0 (r := 0) (hf := Gen.fits_64_256) (oc false true true true) (lv true true) hm (by decide) hv1297_r0.tile (show (48 + 12 * k0_t5.val + 8) = 48 * 1 + (12 * k0_t5.val + 8) by omega) (by first | decide | (clear * -; revert k0_t5; decide))) (by decide) hv1297_r0.tile (show (48 + 12 * k0_t5.val + 8) = 48 * 1 + (12 * k0_t5.val + 8) by omega) (by first | decide | (clear * -; revert k0_t5; decide))) ⟨hc.xa, hc.xb, hc.wa, hc.wb, hc.da, hc.db⟩ ⟨hv.wsb, hv.zt, hv.zo, hv.lse⟩

set_option maxRecDepth 65536 in
set_option maxHeartbeats 4000000 in
theorem v38 {k0_t5 : Fin k0_t5_loop.trips} {v1001_r0 : BitVec 32} {k0_mxu93 : Mxu Ideal} {v1300_r0 : BitVec 32} {k : (Σ' (_ : Mxu Ideal) (_ : BitVec 32), BitVec 32) → Prog (TpuEff nD τ sig (Elt Ideal) Λ₀ .tc) β} (hm : MxV vx vw 64 1 (oc false true false true) (lv true true) (kk (48 + 12 * k0_t5.val + 8) (48 + 12 * k0_t5.val + 9)) (kk (12 * k0_t5.val + 9) (12 * k0_t5.val + 9)) k0_mxu93) (hc : Cnt s ((13 + 3 * k0_t5.val) + 2) 48 12 12 0 (0 + k0_t5.val)) (hv : SV vx vw vws vxs 0 4 ((0 + k0_t5.val) + 1) ((0 + k0_t5.val) + 1) s)
    (h : ∀ (r0 : Mxu Ideal) (r1 : BitVec 32) (r2 : BitVec 32) (s' : St Ideal) (_ : MxV vx vw 64 1 (oc true true true true) (lv true true) (kk (48 + 12 * k0_t5.val + 10) (48 + 12 * k0_t5.val + 11)) (kk (12 * k0_t5.val + 10) (12 * k0_t5.val + 10)) r0) (_ : Cnt s' ((13 + 3 * k0_t5.val) + 2) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1, r2⟩) Q) :
    Res c vx vw PT s iprop(SL c vid vws vxs ∗ R) ⊢ WP c (app (k0_part38 (F := Ideal)) k0_t5 v1001_r0 k0_mxu93 v1300_r0 >>= k) Q := by
  rw [k0_part38_eq_skeleton]
  unfold app k0_part38_skel
  refine s_assoc (ld_xV 0 (48 + 12 * k0_t5.val + 10) (bx hc.xa (by first | decide | (clear * -; revert k0_t5; decide))) (by first | decide | (clear * -; revert k0_t5; decide)) fun v1306_r0 hv1306_r0 => ?_)
  refine s_assoc (s_push0 (oc true true false true) (48 + 12 * k0_t5.val + 10) hm (by decide) (by decide) hv1306_r0 fun m hm => ?_)
  refine s_assoc (ld_xV 1 (48 + 12 * k0_t5.val + 10) (bx hc.xa (by first | decide | (clear * -; revert k0_t5; decide))) (by first | decide | (clear * -; revert k0_t5; decide)) fun v1313_r0 hv1313_r0 => ?_)
  refine s_assoc (s_pushB (oc true true true true) hm (by decide) hv1313_r0 fun m hm => ?_)
  refine s_assoc (ld_wV (12 * k0_t5.val + 9) (bv hc.wa (by first | decide | (clear * -; revert k0_t5; decide))) (by first | decide | (clear * -; revert k0_t5; decide)) fun v1320_r0 hv1320_r0 => ?_)
  refine s_assoc (ld_xV 0 (48 + 12 * k0_t5.val + 11) (bx hc.xa (by first | decide | (clear * -; revert k0_t5; decide))) (by first | decide | (clear * -; revert k0_t5; decide)) fun v1329_r0 hv1329_r0 => ?_)
  refine s_assoc (s_push1 (oc true true true false) (48 + 12 * k0_t5.val + 11) (MxV.acc1 (r := 1) (hf := Gen.fits_64_256) (oc true false true false) (lv true true) (MxV.acc0 (r := 1) (hf := Gen.fits_64_256) (oc true false true true) (lv true true) hm (by decide) hv1320_r0.tile (show (48 + 12 * k0_t5.val + 9) = 48 * 1 + (12 * k0_t5.val + 9) by omega) (by first | decide | (clear * -; revert k0_t5; decide))) (by decide) hv1320_r0.tile (show (48 + 12 * k0_t5.val + 9) = 48 * 1 + (12 * k0_t5.val + 9) by omega) (by first | decide | (clear * -; revert k0_t5; decide))) (by decide) (by decide) hv1329_r0 fun m hm => ?_)
  refine s_assoc (ld_xV 1 (48 + 12 * k0_t5.val + 11) (bx hc.xa (by first | decide | (clear * -; revert k0_t5; decide))) (by first | decide | (clear * -; revert k0_t5; decide)) fun v1336_r0 hv1336_r0 => ?_)
  refine s_assoc (s_pushB (oc true true true true) hm (by decide) hv1336_r0 fun m hm => ?_)
  refine s_pure ?_
  exact h _ _ _ _ hm ⟨hc.xa, hc.xb, hc.wa, hc.wb, hc.da, hc.db⟩ ⟨hv.wsb, hv.zt, hv.zo, hv.lse⟩

set_option maxRecDepth 65536 in
set_option maxHeartbeats 4000000 in
theorem v39 {k0_t5 : Fin k0_t5_loop.trips} {v1001_r0 : BitVec 32} {k0_mxu99 : Mxu Ideal} {v1338_r0 : BitVec 32} {c10_i32_654_r0 : BitVec 32} {k : (Σ' (_ : BitVec 32) (_ : Mxu Ideal), BitVec 32) → Prog (TpuEff nD τ sig (Elt Ideal) Λ₀ .tc) β} (hm : MxV vx vw 64 1 (oc true true true true) (lv true true) (kk (48 + 12 * k0_t5.val + 10) (48 + 12 * k0_t5.val + 11)) (kk (12 * k0_t5.val + 10) (12 * k0_t5.val + 10)) k0_mxu99) (hc : Cnt s ((13 + 3 * k0_t5.val) + 2) 48 12 12 0 (0 + k0_t5.val)) (hv : SV vx vw vws vxs 0 4 ((0 + k0_t5.val) + 1) ((0 + k0_t5.val) + 1) s)
    (h : ∀ (r0 : BitVec 32) (r1 : Mxu Ideal) (r2 : BitVec 32) (s' : St Ideal) (_ : MxV vx vw 64 1 (oc true true false true) (lv true true) (kk (48 + 12 * k0_t5.val + 12) (48 + 12 * k0_t5.val + 11)) (kk (12 * k0_t5.val + 11) (12 * k0_t5.val + 11)) r1) (_ : Cnt s' ((13 + 3 * k0_t5.val) + 3) 48 12 12 0 (0 + k0_t5.val)) (_ : SV vx vw vws vxs 0 4 ((0 + k0_t5.val) + 1) ((0 + k0_t5.val) + 1) s'), Res c vx vw PT s' iprop(SL c vid vws vxs ∗ R) ⊢ WP c (k ⟨r0, r1, r2⟩) Q) :
    Res c vx vw PT s iprop(SL c vid vws vxs ∗ R) ⊢ WP c (app (k0_part39 (F := Ideal)) k0_t5 v1001_r0 k0_mxu99 v1338_r0 c10_i32_654_r0 >>= k) Q := by
  rw [k0_part39_eq_skeleton]
  unfold app k0_part39_skel
  refine s_assoc (ld_wV (12 * k0_t5.val + 10) (bv hc.wa (by first | decide | (clear * -; revert k0_t5; decide))) (by first | decide | (clear * -; revert k0_t5; decide)) fun v1343_r0 hv1343_r0 => ?_)
  refine s_assoc (wait_x ((13 + 3 * k0_t5.val) + 2) (bw hc.xa hc.xb (by first | decide | (clear * -; revert k0_t5; decide))) rfl (by first | decide | (clear * -; revert k0_t5; decide)) ?_)
  refine s_assoc (ld_xV 0 (48 + 12 * k0_t5.val + 12) (bx (rfl : _ = ((13 + 3 * k0_t5.val) + 3)) (by first | decide | (clear * -; revert k0_t5; decide))) (by first | decide | (clear * -; revert k0_t5; decide)) fun v1371_r0 hv1371_r0 => ?_)
  refine s_assoc (s_push0 (oc true true false true) (48 + 12 * k0_t5.val + 12) (MxV.acc1 (r := 0) (hf := Gen.fits_64_256) (oc false true false true) (lv true true) (MxV.acc0 (r := 0) (hf := Gen.fits_64_256) (oc false true true true) (lv true true) hm (by decide) hv1343_r0.tile (show (48 + 12 * k0_t5.val + 10) = 48 * 1 + (12 * k0_t5.val + 10) by omega) (by first | decide | (clear * -; revert k0_t5; decide))) (by decide) hv1343_r0.tile (show (48 + 12 * k0_t5.val + 10) = 48 * 1 + (12 * k0_t5.val + 10) by omega) (by first | decide | (clear * -; revert k0_t5; decide))) (by decide) (by decide) hv1371_r0 fun m hm => ?_)
  refine s_pure ?_
  exact h _ _ _ _ hm ⟨(rfl : _ = ((13 + 3 * k0_t5.val) + 3)), hc.xb, hc.wa, hc.wb, hc.da, hc.db⟩ ⟨hv.wsb, hv.zt, hv.zo, hv.lse⟩

set_option maxRecDepth 65536 in
set_option maxHeartbeats 4000000 in
theorem bvt5 {k0_mxu55 : Mxu Ideal} {v221_r0 : FVec Ideal S256x128 .f32} {k0_t5 : Fin k0_t5_loop.trips} {m : Mxu Ideal} (hm : MxV vx vw 64 1 (oc true false true false) (lv true true) (kk (48 + 12 * k0_t5.val) 0) (kk (12 * k0_t5.val) (12 * k0_t5.val)) m) (hc : Cnt s (13 + 3 * k0_t5.val) 48 12 12 0 (0 + k0_t5.val)) (hv : SV vx vw vws vxs 0 4 (0 + k0_t5.val) (0 + k0_t5.val) s) :
    Res c vx vw PT s iprop(SL c vid vws vxs ∗ R) ⊢ WP c (app (k0_t5_body (F := Ideal)) k0_mxu55 v221_r0 k0_t5 m)
      (fun m' => iprop(∃ s', ⌜MxV vx vw 64 1 (oc true false true false) (lv true true) (kk (48 + 12 * (k0_t5.val + 1)) 0) (kk (12 * (k0_t5.val + 1)) (12 * (k0_t5.val + 1))) m' ∧ Cnt s' (13 + 3 * (k0_t5.val + 1)) 48 12 12 0 (0 + (k0_t5.val + 1)) ∧ SV vx vw vws vxs 0 4 (0 + (k0_t5.val + 1)) (0 + (k0_t5.val + 1)) s'⌝ ∗ Res c vx vw PT s' iprop(SL c vid vws vxs ∗ R))) := by
  unfold app k0_t5_body
  refine v30 hm ⟨hc.xa, hc.xb, hc.wa, hc.wb, hc.da, hc.db⟩ ⟨hv.wsb, hv.zt, hv.zo, hv.lse⟩ fun r0 r1 r2 r3 r4 s' hm hc' hv' e30 => ?_
  clear hc hv; have hc := hc'; have hv := hv'; clear hc' hv'
  refine v31 ⟨hc.xa, hc.xb, hc.wa, hc.wb, hc.da, hc.db⟩ ⟨hv.wsb, hv.zt, hv.zo, hv.lse⟩ e30 fun r0 r1 r2 r3 s' hc' hv' => ?_
  clear hc hv; have hc := hc'; have hv := hv'; clear hc' hv'
  refine v32 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v33 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v34 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v35 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v36 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v37 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v38 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v39 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine ld_xV 1 (48 + 12 * k0_t5.val + 12) (bx hc.xa (by first | decide | (clear * -; revert k0_t5; decide))) (by first | decide | (clear * -; revert k0_t5; decide)) fun v1380_r0 hv1380_r0 => ?_
  refine s_pushB (oc true true true true) hm (by decide) hv1380_r0 fun m hm => ?_
  refine ld_wV (12 * k0_t5.val + 11) (bv hc.wa (by first | decide | (clear * -; revert k0_t5; decide))) (by first | decide | (clear * -; revert k0_t5; decide)) fun v1387_r0 hv1387_r0 => ?_
  refine start_d (0 + k0_t5.val) (bs hc.da hc.db (by first | decide | (clear * -; revert k0_t5; decide))) (by first | decide | (clear * -; revert k0_t5; decide)) (by first | decide | (clear * -; revert k0_t5; decide)) (by first | decide | (clear * -; revert k0_t5; decide)) (by first | decide | (clear * -; revert k0_t5; decide)) (fun _ _ => trivial) ?_
  exact s_trip ⟨MxV.re (MxV.acc1 (r := 1) (hf := Gen.fits_64_256) (oc true false true false) (lv true true) (MxV.acc0 (r := 1) (hf := Gen.fits_64_256) (oc true false true true) (lv true true) hm (by decide) hv1387_r0.tile (show (48 + 12 * k0_t5.val + 11) = 48 * 1 + (12 * k0_t5.val + 11) by omega) (by first | decide | (clear * -; revert k0_t5; decide))) (by decide) hv1387_r0.tile (show (48 + 12 * k0_t5.val + 11) = 48 * 1 + (12 * k0_t5.val + 11) by omega) (by first | decide | (clear * -; revert k0_t5; decide))) (.inr (by omega)) (.inl (by decide)) (by omega) (by omega), ⟨(Eq.trans hc.xa (by first | omega | (clear * -; revert k0_t5; decide))), hc.xb, hc.wa, hc.wb, hc.da, (Eq.trans (rfl : _ = ((0 + k0_t5.val) + 1)) (by first | omega | (clear * -; revert k0_t5; decide)))⟩, (SV.re (R := 0) (n := 4) (DZ := ((0 + k0_t5.val) + 1)) (DL := ((0 + k0_t5.val) + 1)) ⟨hv.wsb, hv.zt, hv.zo, hv.lse⟩ rfl rfl (by omega) (by omega))⟩

end Cert.KernelIdeal.Hand

end
-- ==== Proof.KV.P3.lean ====
/-
# The values: the third tokens' trip
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v40 {c0_i32_151_r0 : BitVec 32} {c1_i32_153_r0 : BitVec 32} {k0_t6 : Fin k0_t6_loop.trips} {k0_mxu108 : Mxu Ideal} {k : (Σ' (_ : BitVec 32) (_ : Mxu Ideal) (_ : BitVec 32) (_ : FVec Ideal S1x128 .f32), FVec Ideal S256x128 .f32) → Prog (TpuEff nD τ sig (Elt Ideal) Λ₀ .tc) β} (hm : MxV vx vw 128 2 (oc true false true false) (lv true true) (kk (96 + 12 * k0_t6.val) 0) (kk (12 * k0_t6.val) (12 * k0_t6.val)) k0_mxu108) (hc : Cnt s (25 + 3 * k0_t6.val) 48 12 12 0 (4 + k0_t6.val)) (hv : SV vx vw vws vxs 1 4 (4 + k0_t6.val) (4 + k0_t6.val) s)
    (h : ∀ (r0 : BitVec 32) (r1 : Mxu Ideal) (r2 : BitVec 32) (r3 : FVec Ideal S1x128 .f32) (r4 : FVec Ideal S256x128 .f32) (s' : St Ideal) (_ : MxV vx vw 128 2 (oc false true false true) (lv true true) (kk (96 + 12 * k0_t6.val) (96 + 12 * k0_t6.val + 1)) (kk (12 * k0_t6.val + 1) (12 * k0_t6.val + 1)) r1) (_ : Cnt s' (25 + 3 * k0_t6.val) 48 12 12 0 (4 + k0_t6.val)) (_ : SV vx vw vws vxs 1 4 (4 + k0_t6.val) (4 + k0_t6.val) s') (_ : ∃ x0, ZV vx vw vws vxs (128 * (4 + k0_t6.val)) x0 ∧ r3 = k0_pay125 (F := Ideal) x0 ∧ r4 = k0_pay126 (F := Ideal) x0), Res c vx vw PT s' iprop(SL c vid vws vxs ∗ R) ⊢ WP c (k ⟨r0, r1, r2, r3, r4⟩) Q) :
    Res c vx vw PT s iprop(SL c vid vws vxs ∗ R) ⊢ WP c (app (k0_part40 (F := Ideal)) c0_i32_151_r0 c1_i32_153_r0 k0_t6 k0_mxu108 >>= k) Q := by
  rw [k0_part40_eq_skeleton]
  unfold app k0_part40_skel
  refine s_assoc (ld_xV 0 (96 + 12 * k0_t6.val + 1) (bx hc.xa (by first | decide | (clear * -; revert k0_t6; decide))) (by first | decide | (clear * -; revert k0_t6; decide)) fun v1009_r0 hv1009_r0 => ?_)
  refine s_assoc (s_push1 (oc true true true false) (96 + 12 * k0_t6.val + 1) hm (by decide) (by decide) hv1009_r0 fun m hm => ?_)
  refine s_assoc (ld_xV 1 (96 + 12 * k0_t6.val + 1) (bx hc.xa (by first | decide | (clear * -; revert k0_t6; decide))) (by first | decide | (clear * -; revert k0_t6; decide)) fun v1016_r0 hv1016_r0 => ?_)
  refine s_assoc (s_pushB (oc true true true true) hm (by decide) hv1016_r0 fun m hm => ?_)
  refine s_assoc (ld_wV (12 * k0_t6.val) (bv hc.wa (by first | decide | (clear * -; revert k0_t6; decide))) (by first | decide | (clear * -; revert k0_t6; decide)) fun v1023_r0 hv1023_r0 => ?_)
  refine s_assoc (ld_ztV (128 * (4 + k0_t6.val)) k0_t6.val (vws := vws) (vxs := vxs) (R' := 1) (n := 4) (DZ := (4 + k0_t6.val)) (DL := (4 + k0_t6.val)) ?_ ?_ ?_ ?_)
  · exact ⟨hv.wsb, hv.zt, hv.zo, hv.lse⟩
  · exact (by first | decide | (clear * -; revert k0_t6; decide))
  · omega
  intro v1029_r0 hv1029_r0
  refine s_pure ?_
  exact h _ _ _ _ _ _ (MxV.acc1 (r := 0) (hf := Gen.fits_128_256) (oc false true false true) (lv true true) (MxV.acc0 (r := 0) (hf := Gen.fits_128_256) (oc false true true true) (lv true true) hm (by decide) hv1023_r0.tile (show (96 + 12 * k0_t6.val) = 48 * 2 + (12 * k0_t6.val) by omega) (by first | decide | (clear * -; revert k0_t6; decide))) (by decide) hv1023_r0.tile (show (96 + 12 * k0_t6.val) = 48 * 2 + (12 * k0_t6.val) by omega) (by first | decide | (clear * -; revert k0_t6; decide))) ⟨hc.xa, hc.xb, hc.wa, hc.wb, hc.da, hc.db⟩ ⟨hv.wsb, hv.zt, hv.zo, hv.lse⟩ ⟨_, hv1029_r0, rfl, rfl⟩

set_option maxRecDepth 65536 in
set_option maxHeartbeats 4000000 in
theorem v41 {k0_t6 : Fin k0_t6_loop.trips} {v1027_r0 : BitVec 32} {v1032_r0 : FVec Ideal S1x128 .f32} {v1035_r0 : FVec Ideal S256x128 .f32} {k : (Σ' (_ : FVec Ideal S1x128 .f32) (_ : FVec Ideal S1x128 .f32) (_ : FVec Ideal S256x128 .f32), Vec Ideal S256x128 .f32) → Prog (TpuEff nD τ sig (Elt Ideal) Λ₀ .tc) β} (hc : Cnt s (25 + 3 * k0_t6.val) 48 12 12 0 (4 + k0_t6.val)) (hv : SV vx vw vws vxs 1 4 (4 + k0_t6.val) (4 + k0_t6.val) s) (hF0 : ∃ x0, ZV vx vw vws vxs (128 * (4 + k0_t6.val)) x0 ∧ v1032_r0 = k0_pay125 (F := Ideal) x0 ∧ v1035_r0 = k0_pay126 (F := Ideal) x0)
    (h : ∀ (r0 : FVec Ideal S1x128 .f32) (r1 : FVec Ideal S1x128 .f32) (r2 : FVec Ideal S256x128 .f32) (r3 : Vec Ideal S256x128 .f32) (s' : St Ideal) (_ : Cnt s' (25 + 3 * k0_t6.val) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1, r2, r3⟩) Q) :
    Res c vx vw PT s iprop(SL c vid vws vxs ∗ R) ⊢ WP c (app (k0_part41 (F := Ideal)) k0_t6 v1027_r0 v1032_r0 v1035_r0 >>= k) Q := by
  obtain ⟨x0, f0, rfl, rfl⟩ := hF0
  rw [k0_part41_eq_skeleton]
  unfold app k0_part41_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV (128 * (4 + k0_t6.val)) (vws := vws) (vxs := vxs) (R' := 1) (n := 4) (DZ := (4 + k0_t6.val)) (DL := (4 + k0_t6.val)) (xa := (25 + 3 * k0_t6.val)) (xb := 48) (wa := 12) (wb := 12) (da := 0) (db := (4 + k0_t6.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t6; decide))
  · rfl
  · exact (by have H := zo_pay f0; exact H)
  intro s' hv' hc'
  clear hc hv; have hc := hc'; have hv := hv'; clear hc' hv'
  refine s_assoc (ld_lse ?_)
  refine s_assoc (st_lseV (128 * (4 + k0_t6.val)) (vws := vws) (vxs := vxs) (R' := 1) (n := 4) (DZ := ((4 + k0_t6.val) + 1)) (DL := (4 + k0_t6.val)) (xa := (25 + 3 * k0_t6.val)) (xb := 48) (wa := 12) (wb := 12) (da := 0) (db := (4 + k0_t6.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t6; decide))
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩ ⟨hv.wsb, hv.zt, hv.zo, hv.lse⟩

set_option maxRecDepth 65536 in
set_option maxHeartbeats 4000000 in
theorem v42 {k0_t6 : Fin k0_t6_loop.trips} {v1001_r0 : BitVec 32} {k0_mxu113 : Mxu Ideal} {v1044_r0 : FVec Ideal S1x128 .f32} {v1049_r0 : FVec Ideal S1x128 .f32} {v1067_r0 : FVec Ideal S256x128 .f32} {v1073_r0 : Vec Ideal S256x128 .f32} {k : (Σ' (_ : Mxu Ideal), BitVec 32) → Prog (TpuEff nD τ sig (Elt Ideal) Λ₀ .tc) β} (hm : MxV vx vw 128 2 (oc false true false true) (lv true true) (kk (96 + 12 * k0_t6.val) (96 + 12 * k0_t6.val + 1)) (kk (12 * k0_t6.val + 1) (12 * k0_t6.val + 1)) k0_mxu113) (hc : Cnt s (25 + 3 * k0_t6.val) 48 12 12 0 (4 + k0_t6.val)) (hv : SV vx vw vws vxs 1 4 ((4 + k0_t6.val) + 1) ((4 + k0_t6.val) + 1) s)
    (h : ∀ (r0 : Mxu Ideal) (r1 : BitVec 32) (s' : St Ideal) (_ : MxV vx vw 128 2 (oc true true true true) (lv true true) (kk (96 + 12 * k0_t6.val + 2) (96 + 12 * k0_t6.val + 1)) (kk (12 * k0_t6.val + 1) (12 * k0_t6.val + 1)) r0) (_ : Cnt s' (25 + 3 * k0_t6.val) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1⟩) Q) :
    Res c vx vw PT s iprop(SL c vid vws vxs ∗ R) ⊢ WP c (app (k0_part42 (F := Ideal)) k0_t6 v1001_r0 k0_mxu113 v1044_r0 v1049_r0 v1067_r0 v1073_r0 >>= k) Q := by
  rw [k0_part42_eq_skeleton]
  unfold app k0_part42_skel
  refine s_assoc (ld_dl (bd hc.db (by first | decide | (clear * -; revert k0_t6; decide))) ?_)
  refine s_assoc (st_dl (bd hc.db (by first | decide | (clear * -; revert k0_t6; decide))) ?_)
  refine s_assoc (ld_dl (bd hc.db (by first | decide | (clear * -; revert k0_t6; decide))) ?_)
  refine s_assoc (st_dl (bd hc.db (by first | decide | (clear * -; revert k0_t6; decide))) ?_)
  refine s_assoc (ld_xV 0 (96 + 12 * k0_t6.val + 2) (bx hc.xa (by first | decide | (clear * -; revert k0_t6; decide))) (by first | decide | (clear * -; revert k0_t6; decide)) fun v1102_r0 hv1102_r0 => ?_)
  refine s_assoc (s_push0 (oc true true false true) (96 + 12 * k0_t6.val + 2) hm (by decide) (by decide) hv1102_r0 fun m hm => ?_)
  refine s_assoc (ld_xV 1 (96 + 12 * k0_t6.val + 2) (bx hc.xa (by first | decide | (clear * -; revert k0_t6; decide))) (by first | decide | (clear * -; revert k0_t6; decide)) fun v1109_r0 hv1109_r0 => ?_)
  refine s_assoc (s_pushB (oc true true true true) hm (by decide) hv1109_r0 fun m hm => ?_)
  refine s_pure ?_
  exact h _ _ _ hm ⟨hc.xa, hc.xb, hc.wa, hc.wb, hc.da, hc.db⟩ ⟨hv.wsb, hv.zt, hv.zo, hv.lse⟩

set_option maxRecDepth 65536 in
set_option maxHeartbeats 4000000 in
theorem v43 {k0_t6 : Fin k0_t6_loop.trips} {v1001_r0 : BitVec 32} {k0_mxu115 : Mxu Ideal} {v1114_r0 : BitVec 32} {k : (Σ' (_ : Mxu Ideal), BitVec 32) → Prog (TpuEff nD τ sig (Elt Ideal) Λ₀ .tc) β} (hm : MxV vx vw 128 2 (oc true true true true) (lv true true) (kk (96 + 12 * k0_t6.val + 2) (96 + 12 * k0_t6.val + 1)) (kk (12 * k0_t6.val + 1) (12 * k0_t6.val + 1)) k0_mxu115) (hc : Cnt s (25 + 3 * k0_t6.val) 48 12 12 0 (4 + k0_t6.val)) (hv : SV vx vw vws vxs 1 4 ((4 + k0_t6.val) + 1) ((4 + k0_t6.val) + 1) s)
    (h : ∀ (r0 : Mxu Ideal) (r1 : BitVec 32) (s' : St Ideal) (_ : MxV vx vw 128 2 (oc false true false true) (lv true true) (kk (96 + 12 * k0_t6.val + 2) (96 + 12 * k0_t6.val + 3)) (kk (12 * k0_t6.val + 3) (12 * k0_t6.val + 3)) r0) (_ : Cnt s' (25 + 3 * k0_t6.val) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1⟩) Q) :
    Res c vx vw PT s iprop(SL c vid vws vxs ∗ R) ⊢ WP c (app (k0_part43 (F := Ideal)) k0_t6 v1001_r0 k0_mxu115 v1114_r0 >>= k) Q := by
  rw [k0_part43_eq_skeleton]
  unfold app k0_part43_skel
  refine s_assoc (ld_wV (12 * k0_t6.val + 1) (bv hc.wa (by first | decide | (clear * -; revert k0_t6; decide))) (by first | decide | (clear * -; revert k0_t6; decide)) fun v1116_r0 hv1116_r0 => ?_)
  refine s_assoc (ld_xV 0 (96 + 12 * k0_t6.val + 3) (bx hc.xa (by first | decide | (clear * -; revert k0_t6; decide))) (by first | decide | (clear * -; revert k0_t6; decide)) fun v1125_r0 hv1125_r0 => ?_)
  refine s_assoc (s_push1 (oc true true true false) (96 + 12 * k0_t6.val + 3) (MxV.acc1 (r := 1) (hf := Gen.fits_128_256) (oc true false true false) (lv true true) (MxV.acc0 (r := 1) (hf := Gen.fits_128_256) (oc true false true true) (lv true true) hm (by decide) hv1116_r0.tile (show (96 + 12 * k0_t6.val + 1) = 48 * 2 + (12 * k0_t6.val + 1) by omega) (by first | decide | (clear * -; revert k0_t6; decide))) (by decide) hv1116_r0.tile (show (96 + 12 * k0_t6.val + 1) = 48 * 2 + (12 * k0_t6.val + 1) by omega) (by first | decide | (clear * -; revert k0_t6; decide))) (by decide) (by decide) hv1125_r0 fun m hm => ?_)
  refine s_assoc (ld_xV 1 (96 + 12 * k0_t6.val + 3) (bx hc.xa (by first | decide | (clear * -; revert k0_t6; decide))) (by first | decide | (clear * -; revert k0_t6; decide)) fun v1132_r0 hv1132_r0 => ?_)
  refine s_assoc (s_pushB (oc true true true true) hm (by decide) hv1132_r0 fun m hm => ?_)
  refine s_assoc (ld_wV (12 * k0_t6.val + 2) (bv hc.wa (by first | decide | (clear * -; revert k0_t6; decide))) (by first | decide | (clear * -; revert k0_t6; decide)) fun v1139_r0 hv1139_r0 => ?_)
  refine s_pure ?_
  exact h _ _ _ (MxV.acc1 (r := 0) (hf := Gen.fits_128_256) (oc false true false true) (lv true true) (MxV.acc0 (r := 0) (hf := Gen.fits_128_256) (oc false true true true) (lv true true) hm (by decide) hv1139_r0.tile (show (96 + 12 * k0_t6.val + 2) = 48 * 2 + (12 * k0_t6.val + 2) by omega) (by first | decide | (clear * -; revert k0_t6; decide))) (by decide) hv1139_r0.tile (show (96 + 12 * k0_t6.val + 2) = 48 * 2 + (12 * k0_t6.val + 2) by omega) (by first | decide | (clear * -; revert k0_t6; decide))) ⟨hc.xa, hc.xb, hc.wa, hc.wb, hc.da, hc.db⟩ ⟨hv.wsb, hv.zt, hv.zo, hv.lse⟩

set_option maxRecDepth 65536 in
set_option maxHeartbeats 4000000 in
theorem v44 {k0_t6 : Fin k0_t6_loop.trips} {v1001_r0 : BitVec 32} {k0_mxu121 : Mxu Ideal} {v1142_r0 : BitVec 32} {k : (Σ' (_ : Mxu Ideal), BitVec 32) → Prog (TpuEff nD τ sig (Elt Ideal) Λ₀ .tc) β} (hm : MxV vx vw 128 2 (oc false true false true) (lv true true) (kk (96 + 12 * k0_t6.val + 2) (96 + 12 * k0_t6.val + 3)) (kk (12 * k0_t6.val + 3) (12 * k0_t6.val + 3)) k0_mxu121) (hc : Cnt s (25 + 3 * k0_t6.val) 48 12 12 0 (4 + k0_t6.val)) (hv : SV vx vw vws vxs 1 4 ((4 + k0_t6.val) + 1) ((4 + k0_t6.val) + 1) s)
    (h : ∀ (r0 : Mxu Ideal) (r1 : BitVec 32) (s' : St Ideal) (_ : MxV vx vw 128 2 (oc true true true true) (lv true true) (kk (96 + 12 * k0_t6.val + 4) (96 + 12 * k0_t6.val + 5)) (kk (12 * k0_t6.val + 4) (12 * k0_t6.val + 4)) r0) (_ : Cnt s' ((25 + 3 * k0_t6.val) + 1) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1⟩) Q) :
    Res c vx vw PT s iprop(SL c vid vws vxs ∗ R) ⊢ WP c (app (k0_part44 (F := Ideal)) k0_t6 v1001_r0 k0_mxu121 v1142_r0 >>= k) Q := by
  rw [k0_part44_eq_skeleton]
  unfold app k0_part44_skel
  refine s_assoc (wait_x (25 + 3 * k0_t6.val) (bw hc.xa hc.xb (by first | decide | (clear * -; revert k0_t6; decide))) rfl (by first | decide | (clear * -; revert k0_t6; decide)) ?_)
  refine s_assoc (ld_xV 0 (96 + 12 * k0_t6.val + 4) (bx (rfl : _ = ((25 + 3 * k0_t6.val) + 1)) (by first | decide | (clear * -; revert k0_t6; decide))) (by first | decide | (clear * -; revert k0_t6; decide)) fun v1158_r0 hv1158_r0 => ?_)
  refine s_assoc (s_push0 (oc true true false true) (96 + 12 * k0_t6.val + 4) hm (by decide) (by decide) hv1158_r0 fun m hm => ?_)
  refine s_assoc (ld_xV 1 (96 + 12 * k0_t6.val + 4) (bx (rfl : _ = ((25 + 3 * k0_t6.val) + 1)) (by first | decide | (clear * -; revert k0_t6; decide))) (by first | decide | (clear * -; revert k0_t6; decide)) fun v1165_r0 hv1165_r0 => ?_)
  refine s_assoc (s_pushB (oc true true true true) hm (by decide) hv1165_r0 fun m hm => ?_)
  refine s_assoc (ld_wV (12 * k0_t6.val + 3) (bv hc.wa (by first | decide | (clear * -; revert k0_t6; decide))) (by first | decide | (clear * -; revert k0_t6; decide)) fun v1172_r0 hv1172_r0 => ?_)
  refine s_assoc (ld_xV 0 (96 + 12 * k0_t6.val + 5) (bx (rfl : _ = ((25 + 3 * k0_t6.val) + 1)) (by first | decide | (clear * -; revert k0_t6; decide))) (by first | decide | (clear * -; revert k0_t6; decide)) fun v1181_r0 hv1181_r0 => ?_)
  refine s_assoc (s_push1 (oc true true true false) (96 + 12 * k0_t6.val + 5) (MxV.acc1 (r := 1) (hf := Gen.fits_128_256) (oc true false true false) (lv true true) (MxV.acc0 (r := 1) (hf := Gen.fits_128_256) (oc true false true true) (lv true true) hm (by decide) hv1172_r0.tile (show (96 + 12 * k0_t6.val + 3) = 48 * 2 + (12 * k0_t6.val + 3) by omega) (by first | decide | (clear * -; revert k0_t6; decide))) (by decide) hv1172_r0.tile (show (96 + 12 * k0_t6.val + 3) = 48 * 2 + (12 * k0_t6.val + 3) by omega) (by first | decide | (clear * -; revert k0_t6; decide))) (by decide) (by decide) hv1181_r0 fun m hm => ?_)
  refine s_assoc (ld_xV 1 (96 + 12 * k0_t6.val + 5) (bx (rfl : _ = ((25 + 3 * k0_t6.val) + 1)) (by first | decide | (clear * -; revert k0_t6; decide))) (by first | decide | (clear * -; revert k0_t6; decide)) fun v1188_r0 hv1188_r0 => ?_)
  refine s_assoc (s_pushB (oc true true true true) hm (by decide) hv1188_r0 fun m hm => ?_)
  refine s_pure ?_
  exact h _ _ _ hm ⟨(rfl : _ = ((25 + 3 * k0_t6.val) + 1)), hc.xb, hc.wa, hc.wb, hc.da, hc.db⟩ ⟨hv.wsb, hv.zt, hv.zo, hv.lse⟩

set_option maxRecDepth 65536 in
set_option maxHeartbeats 4000000 in
theorem v45 {k0_t6 : Fin k0_t6_loop.trips} {v1001_r0 : BitVec 32} {k0_mxu127 : Mxu Ideal} {c12_i32_587_r0 : BitVec 32} {k : (Σ' (_ : Mxu Ideal), BitVec 32) → Prog (TpuEff nD τ sig (Elt Ideal) Λ₀ .tc) β} (hm : MxV vx vw 128 2 (oc true true true true) (lv true true) (kk (96 + 12 * k0_t6.val + 4) (96 + 12 * k0_t6.val + 5)) (kk (12 * k0_t6.val + 4) (12 * k0_t6.val + 4)) k0_mxu127) (hc : Cnt s ((25 + 3 * k0_t6.val) + 1) 48 12 12 0 (4 + k0_t6.val)) (hv : SV vx vw vws vxs 1 4 ((4 + k0_t6.val) + 1) ((4 + k0_t6.val) + 1) s)
    (h : ∀ (r0 : Mxu Ideal) (r1 : BitVec 32) (s' : St Ideal) (_ : MxV vx vw 128 2 (oc true false true false) (lv true true) (kk (96 + 12 * k0_t6.val + 6) (96 + 12 * k0_t6.val + 5)) (kk (12 * k0_t6.val + 6) (12 * k0_t6.val + 6)) r0) (_ : Cnt s' ((25 + 3 * k0_t6.val) + 1) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1⟩) Q) :
    Res c vx vw PT s iprop(SL c vid vws vxs ∗ R) ⊢ WP c (app (k0_part45 (F := Ideal)) k0_t6 v1001_r0 k0_mxu127 c12_i32_587_r0 >>= k) Q := by
  rw [k0_part45_eq_skeleton]
  unfold app k0_part45_skel
  refine s_assoc (ld_wV (12 * k0_t6.val + 4) (bv hc.wa (by first | decide | (clear * -; revert k0_t6; decide))) (by first | decide | (clear * -; revert k0_t6; decide)) fun v1195_r0 hv1195_r0 => ?_)
  refine s_assoc (ld_xV 0 (96 + 12 * k0_t6.val + 6) (bx hc.xa (by first | decide | (clear * -; revert k0_t6; decide))) (by first | decide | (clear * -; revert k0_t6; decide)) fun v1204_r0 hv1204_r0 => ?_)
  refine s_assoc (s_push0 (oc true true false true) (96 + 12 * k0_t6.val + 6) (MxV.acc1 (r := 0) (hf := Gen.fits_128_256) (oc false true false true) (lv true true) (MxV.acc0 (r := 0) (hf := Gen.fits_128_256) (oc false true true true) (lv true true) hm (by decide) hv1195_r0.tile (show (96 + 12 * k0_t6.val + 4) = 48 * 2 + (12 * k0_t6.val + 4) by omega) (by first | decide | (clear * -; revert k0_t6; decide))) (by decide) hv1195_r0.tile (show (96 + 12 * k0_t6.val + 4) = 48 * 2 + (12 * k0_t6.val + 4) by omega) (by first | decide | (clear * -; revert k0_t6; decide))) (by decide) (by decide) hv1204_r0 fun m hm => ?_)
  refine s_assoc (ld_xV 1 (96 + 12 * k0_t6.val + 6) (bx hc.xa (by first | decide | (clear * -; revert k0_t6; decide))) (by first | decide | (clear * -; revert k0_t6; decide)) fun v1211_r0 hv1211_r0 => ?_)
  refine s_assoc (s_pushB (oc true true true true) hm (by decide) hv1211_r0 fun m hm => ?_)
  refine s_assoc (ld_wV (12 * k0_t6.val + 5) (bv hc.wa (by first | decide | (clear * -; revert k0_t6; decide))) (by first | decide | (clear * -; revert k0_t6; decide)) fun v1218_r0 hv1218_r0 => ?_)
  refine s_pure ?_
  exact h _ _ _ (MxV.acc1 (r := 1) (hf := Gen.fits_128_256) (oc true false true false) (lv true true) (MxV.acc0 (r := 1) (hf := Gen.fits_128_256) (oc true false true true) (lv true true) hm (by decide) hv1218_r0.tile (show (96 + 12 * k0_t6.val + 5) = 48 * 2 + (12 * k0_t6.val + 5) by omega) (by first | decide | (clear * -; revert k0_t6; decide))) (by decide) hv1218_r0.tile (show (96 + 12 * k0_t6.val + 5) = 48 * 2 + (12 * k0_t6.val + 5) by omega) (by first | decide | (clear * -; revert k0_t6; decide))) ⟨hc.xa, hc.xb, hc.wa, hc.wb, hc.da, hc.db⟩ ⟨hv.wsb, hv.zt, hv.zo, hv.lse⟩

set_option maxRecDepth 65536 in
set_option maxHeartbeats 4000000 in
theorem v46 {k0_t6 : Fin k0_t6_loop.trips} {v1001_r0 : BitVec 32} {k0_mxu133 : Mxu Ideal} {v1221_r0 : BitVec 32} {k : (Σ' (_ : Mxu Ideal) (_ : BitVec 32), BitVec 32) → Prog (TpuEff nD τ sig (Elt Ideal) Λ₀ .tc) β} (hm : MxV vx vw 128 2 (oc true false true false) (lv true true) (kk (96 + 12 * k0_t6.val + 6) (96 + 12 * k0_t6.val + 5)) (kk (12 * k0_t6.val + 6) (12 * k0_t6.val + 6)) k0_mxu133) (hc : Cnt s ((25 + 3 * k0_t6.val) + 1) 48 12 12 0 (4 + k0_t6.val)) (hv : SV vx vw vws vxs 1 4 ((4 + k0_t6.val) + 1) ((4 + k0_t6.val) + 1) s)
    (h : ∀ (r0 : Mxu Ideal) (r1 : BitVec 32) (r2 : BitVec 32) (s' : St Ideal) (_ : MxV vx vw 128 2 (oc true true false true) (lv true true) (kk (96 + 12 * k0_t6.val + 8) (96 + 12 * k0_t6.val + 7)) (kk (12 * k0_t6.val + 7) (12 * k0_t6.val + 7)) r0) (_ : Cnt s' ((25 + 3 * k0_t6.val) + 2) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1, r2⟩) Q) :
    Res c vx vw PT s iprop(SL c vid vws vxs ∗ R) ⊢ WP c (app (k0_part46 (F := Ideal)) k0_t6 v1001_r0 k0_mxu133 v1221_r0 >>= k) Q := by
  rw [k0_part46_eq_skeleton]
  unfold app k0_part46_skel
  refine s_assoc (ld_xV 0 (96 + 12 * k0_t6.val + 7) (bx hc.xa (by first | decide | (clear * -; revert k0_t6; decide))) (by first | decide | (clear * -; revert k0_t6; decide)) fun v1227_r0 hv1227_r0 => ?_)
  refine s_assoc (s_push1 (oc true true true false) (96 + 12 * k0_t6.val + 7) hm (by decide) (by decide) hv1227_r0 fun m hm => ?_)
  refine s_assoc (ld_xV 1 (96 + 12 * k0_t6.val + 7) (bx hc.xa (by first | decide | (clear * -; revert k0_t6; decide))) (by first | decide | (clear * -; revert k0_t6; decide)) fun v1234_r0 hv1234_r0 => ?_)
  refine s_assoc (s_pushB (oc true true true true) hm (by decide) hv1234_r0 fun m hm => ?_)
  refine s_assoc (ld_wV (12 * k0_t6.val + 6) (bv hc.wa (by first | decide | (clear * -; revert k0_t6; decide))) (by first | decide | (clear * -; revert k0_t6; decide)) fun v1241_r0 hv1241_r0 => ?_)
  refine s_assoc (wait_x ((25 + 3 * k0_t6.val) + 1) (bw hc.xa hc.xb (by first | decide | (clear * -; revert k0_t6; decide))) rfl (by first | decide | (clear * -; revert k0_t6; decide)) ?_)
  refine s_assoc (ld_xV 0 (96 + 12 * k0_t6.val + 8) (bx (rfl : _ = ((25 + 3 * k0_t6.val) + 2)) (by first | decide | (clear * -; revert k0_t6; decide))) (by first | decide | (clear * -; revert k0_t6; decide)) fun v1260_r0 hv1260_r0 => ?_)
  refine s_assoc (s_push0 (oc true true false true) (96 + 12 * k0_t6.val + 8) (MxV.acc1 (r := 0) (hf := Gen.fits_128_256) (oc false true false true) (lv true true) (MxV.acc0 (r := 0) (hf := Gen.fits_128_256) (oc false true true true) (lv true true) hm (by decide) hv1241_r0.tile (show (96 + 12 * k0_t6.val + 6) = 48 * 2 + (12 * k0_t6.val + 6) by omega) (by first | decide | (clear * -; revert k0_t6; decide))) (by decide) hv1241_r0.tile (show (96 + 12 * k0_t6.val + 6) = 48 * 2 + (12 * k0_t6.val + 6) by omega) (by first | decide | (clear * -; revert k0_t6; decide))) (by decide) (by decide) hv1260_r0 fun m hm => ?_)
  refine s_pure ?_
  exact h _ _ _ _ hm ⟨(rfl : _ = ((25 + 3 * k0_t6.val) + 2)), hc.xb, hc.wa, hc.wb, hc.da, hc.db⟩ ⟨hv.wsb, hv.zt, hv.zo, hv.lse⟩

set_option maxRecDepth 65536 in
set_option maxHeartbeats 4000000 in
theorem v47 {k0_t6 : Fin k0_t6_loop.trips} {v1001_r0 : BitVec 32} {k0_mxu138 : Mxu Ideal} {v1262_r0 : BitVec 32} {v1263_r0 : BitVec 32} {k : (Σ' (_ : Mxu Ideal), BitVec 32) → Prog (TpuEff nD τ sig (Elt Ideal) Λ₀ .tc) β} (hm : MxV vx vw 128 2 (oc true true false true) (lv true true) (kk (96 + 12 * k0_t6.val + 8) (96 + 12 * k0_t6.val + 7)) (kk (12 * k0_t6.val + 7) (12 * k0_t6.val + 7)) k0_mxu138) (hc : Cnt s ((25 + 3 * k0_t6.val) + 2) 48 12 12 0 (4 + k0_t6.val)) (hv : SV vx vw vws vxs 1 4 ((4 + k0_t6.val) + 1) ((4 + k0_t6.val) + 1) s)
    (h : ∀ (r0 : Mxu Ideal) (r1 : BitVec 32) (s' : St Ideal) (_ : MxV vx vw 128 2 (oc false true false true) (lv true true) (kk (96 + 12 * k0_t6.val + 8) (96 + 12 * k0_t6.val + 9)) (kk (12 * k0_t6.val + 9) (12 * k0_t6.val + 9)) r0) (_ : Cnt s' ((25 + 3 * k0_t6.val) + 2) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1⟩) Q) :
    Res c vx vw PT s iprop(SL c vid vws vxs ∗ R) ⊢ WP c (app (k0_part47 (F := Ideal)) k0_t6 v1001_r0 k0_mxu138 v1262_r0 v1263_r0 >>= k) Q := by
  rw [k0_part47_eq_skeleton]
  unfold app k0_part47_skel
  refine s_assoc (ld_xV 1 (96 + 12 * k0_t6.val + 8) (bx hc.xa (by first | decide | (clear * -; revert k0_t6; decide))) (by first | decide | (clear * -; revert k0_t6; decide)) fun v1267_r0 hv1267_r0 => ?_)
  refine s_assoc (s_pushB (oc true true true true) hm (by decide) hv1267_r0 fun m hm => ?_)
  refine s_assoc (ld_wV (12 * k0_t6.val + 7) (bv hc.wa (by first | decide | (clear * -; revert k0_t6; decide))) (by first | decide | (clear * -; revert k0_t6; decide)) fun v1274_r0 hv1274_r0 => ?_)
  refine s_assoc (ld_xV 0 (96 + 12 * k0_t6.val + 9) (bx hc.xa (by first | decide | (clear * -; revert k0_t6; decide))) (by first | decide | (clear * -; revert k0_t6; decide)) fun v1283_r0 hv1283_r0 => ?_)
  refine s_assoc (s_push1 (oc true true true false) (96 + 12 * k0_t6.val + 9) (MxV.acc1 (r := 1) (hf := Gen.fits_128_256) (oc true false true false) (lv true true) (MxV.acc0 (r := 1) (hf := Gen.fits_128_256) (oc true false true true) (lv true true) hm (by decide) hv1274_r0.tile (show (96 + 12 * k0_t6.val + 7) = 48 * 2 + (12 * k0_t6.val + 7) by omega) (by first | decide | (clear * -; revert k0_t6; decide))) (by decide) hv1274_r0.tile (show (96 + 12 * k0_t6.val + 7) = 48 * 2 + (12 * k0_t6.val + 7) by omega) (by first | decide | (clear * -; revert k0_t6; decide))) (by decide) (by decide) hv1283_r0 fun m hm => ?_)
  refine s_assoc (ld_xV 1 (96 + 12 * k0_t6.val + 9) (bx hc.xa (by first | decide | (clear * -; revert k0_t6; decide))) (by first | decide | (clear * -; revert k0_t6; decide)) fun v1290_r0 hv1290_r0 => ?_)
  refine s_assoc (s_pushB (oc true true true true) hm (by decide) hv1290_r0 fun m hm => ?_)
  refine s_assoc (ld_wV (12 * k0_t6.val + 8) (bv hc.wa (by first | decide | (clear * -; revert k0_t6; decide))) (by first | decide | (clear * -; revert k0_t6; decide)) fun v1297_r0 hv1297_r0 => ?_)
  refine s_pure ?_
  exact h _ _ _ (MxV.acc1 (r := 0) (hf := Gen.fits_128_256) (oc false true false true) (lv true true) (MxV.acc0 (r := 0) (hf := Gen.fits_128_256) (oc false true true true) (lv true true) hm (by decide) hv1297_r0.tile (show (96 + 12 * k0_t6.val + 8) = 48 * 2 + (12 * k0_t6.val + 8) by omega) (by first | decide | (clear * -; revert k0_t6; decide))) (by decide) hv1297_r0.tile (show (96 + 12 * k0_t6.val + 8) = 48 * 2 + (12 * k0_t6.val + 8) by omega) (by first | decide | (clear * -; revert k0_t6; decide))) ⟨hc.xa, hc.xb, hc.wa, hc.wb, hc.da, hc.db⟩ ⟨hv.wsb, hv.zt, hv.zo, hv.lse⟩

set_option maxRecDepth 65536 in
set_option maxHeartbeats 4000000 in
theorem v48 {k0_t6 : Fin k0_t6_loop.trips} {v1001_r0 : BitVec 32} {k0_mxu145 : Mxu Ideal} {v1300_r0 : BitVec 32} {k : (Σ' (_ : Mxu Ideal) (_ : BitVec 32), BitVec 32) → Prog (TpuEff nD τ sig (Elt Ideal) Λ₀ .tc) β} (hm : MxV vx vw 128 2 (oc false true false true) (lv true true) (kk (96 + 12 * k0_t6.val + 8) (96 + 12 * k0_t6.val + 9)) (kk (12 * k0_t6.val + 9) (12 * k0_t6.val + 9)) k0_mxu145) (hc : Cnt s ((25 + 3 * k0_t6.val) + 2) 48 12 12 0 (4 + k0_t6.val)) (hv : SV vx vw vws vxs 1 4 ((4 + k0_t6.val) + 1) ((4 + k0_t6.val) + 1) s)
    (h : ∀ (r0 : Mxu Ideal) (r1 : BitVec 32) (r2 : BitVec 32) (s' : St Ideal) (_ : MxV vx vw 128 2 (oc true true true true) (lv true true) (kk (96 + 12 * k0_t6.val + 10) (96 + 12 * k0_t6.val + 11)) (kk (12 * k0_t6.val + 10) (12 * k0_t6.val + 10)) r0) (_ : Cnt s' ((25 + 3 * k0_t6.val) + 2) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1, r2⟩) Q) :
    Res c vx vw PT s iprop(SL c vid vws vxs ∗ R) ⊢ WP c (app (k0_part48 (F := Ideal)) k0_t6 v1001_r0 k0_mxu145 v1300_r0 >>= k) Q := by
  rw [k0_part48_eq_skeleton]
  unfold app k0_part48_skel
  refine s_assoc (ld_xV 0 (96 + 12 * k0_t6.val + 10) (bx hc.xa (by first | decide | (clear * -; revert k0_t6; decide))) (by first | decide | (clear * -; revert k0_t6; decide)) fun v1306_r0 hv1306_r0 => ?_)
  refine s_assoc (s_push0 (oc true true false true) (96 + 12 * k0_t6.val + 10) hm (by decide) (by decide) hv1306_r0 fun m hm => ?_)
  refine s_assoc (ld_xV 1 (96 + 12 * k0_t6.val + 10) (bx hc.xa (by first | decide | (clear * -; revert k0_t6; decide))) (by first | decide | (clear * -; revert k0_t6; decide)) fun v1313_r0 hv1313_r0 => ?_)
  refine s_assoc (s_pushB (oc true true true true) hm (by decide) hv1313_r0 fun m hm => ?_)
  refine s_assoc (ld_wV (12 * k0_t6.val + 9) (bv hc.wa (by first | decide | (clear * -; revert k0_t6; decide))) (by first | decide | (clear * -; revert k0_t6; decide)) fun v1320_r0 hv1320_r0 => ?_)
  refine s_assoc (ld_xV 0 (96 + 12 * k0_t6.val + 11) (bx hc.xa (by first | decide | (clear * -; revert k0_t6; decide))) (by first | decide | (clear * -; revert k0_t6; decide)) fun v1329_r0 hv1329_r0 => ?_)
  refine s_assoc (s_push1 (oc true true true false) (96 + 12 * k0_t6.val + 11) (MxV.acc1 (r := 1) (hf := Gen.fits_128_256) (oc true false true false) (lv true true) (MxV.acc0 (r := 1) (hf := Gen.fits_128_256) (oc true false true true) (lv true true) hm (by decide) hv1320_r0.tile (show (96 + 12 * k0_t6.val + 9) = 48 * 2 + (12 * k0_t6.val + 9) by omega) (by first | decide | (clear * -; revert k0_t6; decide))) (by decide) hv1320_r0.tile (show (96 + 12 * k0_t6.val + 9) = 48 * 2 + (12 * k0_t6.val + 9) by omega) (by first | decide | (clear * -; revert k0_t6; decide))) (by decide) (by decide) hv1329_r0 fun m hm => ?_)
  refine s_assoc (ld_xV 1 (96 + 12 * k0_t6.val + 11) (bx hc.xa (by first | decide | (clear * -; revert k0_t6; decide))) (by first | decide | (clear * -; revert k0_t6; decide)) fun v1336_r0 hv1336_r0 => ?_)
  refine s_assoc (s_pushB (oc true true true true) hm (by decide) hv1336_r0 fun m hm => ?_)
  refine s_pure ?_
  exact h _ _ _ _ hm ⟨hc.xa, hc.xb, hc.wa, hc.wb, hc.da, hc.db⟩ ⟨hv.wsb, hv.zt, hv.zo, hv.lse⟩

set_option maxRecDepth 65536 in
set_option maxHeartbeats 4000000 in
theorem v49 {k0_t6 : Fin k0_t6_loop.trips} {v1001_r0 : BitVec 32} {k0_mxu151 : Mxu Ideal} {v1338_r0 : BitVec 32} {c10_i32_653_r0 : BitVec 32} {k : (Σ' (_ : BitVec 32) (_ : Mxu Ideal), BitVec 32) → Prog (TpuEff nD τ sig (Elt Ideal) Λ₀ .tc) β} (hm : MxV vx vw 128 2 (oc true true true true) (lv true true) (kk (96 + 12 * k0_t6.val + 10) (96 + 12 * k0_t6.val + 11)) (kk (12 * k0_t6.val + 10) (12 * k0_t6.val + 10)) k0_mxu151) (hc : Cnt s ((25 + 3 * k0_t6.val) + 2) 48 12 12 0 (4 + k0_t6.val)) (hv : SV vx vw vws vxs 1 4 ((4 + k0_t6.val) + 1) ((4 + k0_t6.val) + 1) s)
    (h : ∀ (r0 : BitVec 32) (r1 : Mxu Ideal) (r2 : BitVec 32) (s' : St Ideal) (_ : MxV vx vw 128 2 (oc true true false true) (lv true true) (kk (96 + 12 * k0_t6.val + 12) (96 + 12 * k0_t6.val + 11)) (kk (12 * k0_t6.val + 11) (12 * k0_t6.val + 11)) r1) (_ : Cnt s' ((25 + 3 * k0_t6.val) + 3) 48 12 12 0 (4 + k0_t6.val)) (_ : SV vx vw vws vxs 1 4 ((4 + k0_t6.val) + 1) ((4 + k0_t6.val) + 1) s'), Res c vx vw PT s' iprop(SL c vid vws vxs ∗ R) ⊢ WP c (k ⟨r0, r1, r2⟩) Q) :
    Res c vx vw PT s iprop(SL c vid vws vxs ∗ R) ⊢ WP c (app (k0_part49 (F := Ideal)) k0_t6 v1001_r0 k0_mxu151 v1338_r0 c10_i32_653_r0 >>= k) Q := by
  rw [k0_part49_eq_skeleton]
  unfold app k0_part49_skel
  refine s_assoc (ld_wV (12 * k0_t6.val + 10) (bv hc.wa (by first | decide | (clear * -; revert k0_t6; decide))) (by first | decide | (clear * -; revert k0_t6; decide)) fun v1343_r0 hv1343_r0 => ?_)
  refine s_assoc (wait_x ((25 + 3 * k0_t6.val) + 2) (bw hc.xa hc.xb (by first | decide | (clear * -; revert k0_t6; decide))) rfl (by first | decide | (clear * -; revert k0_t6; decide)) ?_)
  refine s_assoc (ld_xV 0 (96 + 12 * k0_t6.val + 12) (bx (rfl : _ = ((25 + 3 * k0_t6.val) + 3)) (by first | decide | (clear * -; revert k0_t6; decide))) (by first | decide | (clear * -; revert k0_t6; decide)) fun v1371_r0 hv1371_r0 => ?_)
  refine s_assoc (s_push0 (oc true true false true) (96 + 12 * k0_t6.val + 12) (MxV.acc1 (r := 0) (hf := Gen.fits_128_256) (oc false true false true) (lv true true) (MxV.acc0 (r := 0) (hf := Gen.fits_128_256) (oc false true true true) (lv true true) hm (by decide) hv1343_r0.tile (show (96 + 12 * k0_t6.val + 10) = 48 * 2 + (12 * k0_t6.val + 10) by omega) (by first | decide | (clear * -; revert k0_t6; decide))) (by decide) hv1343_r0.tile (show (96 + 12 * k0_t6.val + 10) = 48 * 2 + (12 * k0_t6.val + 10) by omega) (by first | decide | (clear * -; revert k0_t6; decide))) (by decide) (by decide) hv1371_r0 fun m hm => ?_)
  refine s_pure ?_
  exact h _ _ _ _ hm ⟨(rfl : _ = ((25 + 3 * k0_t6.val) + 3)), hc.xb, hc.wa, hc.wb, hc.da, hc.db⟩ ⟨hv.wsb, hv.zt, hv.zo, hv.lse⟩

set_option maxRecDepth 65536 in
set_option maxHeartbeats 4000000 in
theorem bvt6 {v247_r0 : FVec Ideal S256x256 .f32} {k0_mxu107 : Mxu Ideal} {v248_r0 : FVec Ideal S256x128 .f32} {v250_r0 : FVec Ideal S256x128 .f32} {k0_t6 : Fin k0_t6_loop.trips} {m : Mxu Ideal} (hm : MxV vx vw 128 2 (oc true false true false) (lv true true) (kk (96 + 12 * k0_t6.val) 0) (kk (12 * k0_t6.val) (12 * k0_t6.val)) m) (hc : Cnt s (25 + 3 * k0_t6.val) 48 12 12 0 (4 + k0_t6.val)) (hv : SV vx vw vws vxs 1 4 (4 + k0_t6.val) (4 + k0_t6.val) s) :
    Res c vx vw PT s iprop(SL c vid vws vxs ∗ R) ⊢ WP c (app (k0_t6_body (F := Ideal)) v247_r0 k0_mxu107 v248_r0 v250_r0 k0_t6 m)
      (fun m' => iprop(∃ s', ⌜MxV vx vw 128 2 (oc true false true false) (lv true true) (kk (96 + 12 * (k0_t6.val + 1)) 0) (kk (12 * (k0_t6.val + 1)) (12 * (k0_t6.val + 1))) m' ∧ Cnt s' (25 + 3 * (k0_t6.val + 1)) 48 12 12 0 (4 + (k0_t6.val + 1)) ∧ SV vx vw vws vxs 1 4 (4 + (k0_t6.val + 1)) (4 + (k0_t6.val + 1)) s'⌝ ∗ Res c vx vw PT s' iprop(SL c vid vws vxs ∗ R))) := by
  unfold app k0_t6_body
  refine v40 hm ⟨hc.xa, hc.xb, hc.wa, hc.wb, hc.da, hc.db⟩ ⟨hv.wsb, hv.zt, hv.zo, hv.lse⟩ fun r0 r1 r2 r3 r4 s' hm hc' hv' e40 => ?_
  clear hc hv; have hc := hc'; have hv := hv'; clear hc' hv'
  refine v41 ⟨hc.xa, hc.xb, hc.wa, hc.wb, hc.da, hc.db⟩ ⟨hv.wsb, hv.zt, hv.zo, hv.lse⟩ e40 fun r0 r1 r2 r3 s' hc' hv' => ?_
  clear hc hv; have hc := hc'; have hv := hv'; clear hc' hv'
  refine v42 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v43 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v44 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v45 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v46 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v47 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v48 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v49 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine ld_xV 1 (96 + 12 * k0_t6.val + 12) (bx hc.xa (by first | decide | (clear * -; revert k0_t6; decide))) (by first | decide | (clear * -; revert k0_t6; decide)) fun v1380_r0 hv1380_r0 => ?_
  refine s_pushB (oc true true true true) hm (by decide) hv1380_r0 fun m hm => ?_
  refine ld_wV (12 * k0_t6.val + 11) (bv hc.wa (by first | decide | (clear * -; revert k0_t6; decide))) (by first | decide | (clear * -; revert k0_t6; decide)) fun v1387_r0 hv1387_r0 => ?_
  refine start_d (4 + k0_t6.val) (bs hc.da hc.db (by first | decide | (clear * -; revert k0_t6; decide))) (by first | decide | (clear * -; revert k0_t6; decide)) (by first | decide | (clear * -; revert k0_t6; decide)) (by first | decide | (clear * -; revert k0_t6; decide)) (by first | decide | (clear * -; revert k0_t6; decide)) (fun _ _ => trivial) ?_
  exact s_trip ⟨MxV.re (MxV.acc1 (r := 1) (hf := Gen.fits_128_256) (oc true false true false) (lv true true) (MxV.acc0 (r := 1) (hf := Gen.fits_128_256) (oc true false true true) (lv true true) hm (by decide) hv1387_r0.tile (show (96 + 12 * k0_t6.val + 11) = 48 * 2 + (12 * k0_t6.val + 11) by omega) (by first | decide | (clear * -; revert k0_t6; decide))) (by decide) hv1387_r0.tile (show (96 + 12 * k0_t6.val + 11) = 48 * 2 + (12 * k0_t6.val + 11) by omega) (by first | decide | (clear * -; revert k0_t6; decide))) (.inr (by omega)) (.inl (by decide)) (by omega) (by omega), ⟨(Eq.trans hc.xa (by first | omega | (clear * -; revert k0_t6; decide))), hc.xb, hc.wa, hc.wb, hc.da, (Eq.trans (rfl : _ = ((4 + k0_t6.val) + 1)) (by first | omega | (clear * -; revert k0_t6; decide)))⟩, (SV.re (R := 1) (n := 4) (DZ := ((4 + k0_t6.val) + 1)) (DL := ((4 + k0_t6.val) + 1)) ⟨hv.wsb, hv.zt, hv.zo, hv.lse⟩ rfl rfl (by omega) (by omega))⟩

end Cert.KernelIdeal.Hand

end
-- ==== Proof.KV.P4.lean ====
/-
# The values: the last tokens' trip
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (Pipeline.UD sig nD τ) ℕ

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v50 {c0_i32_183_r0 : BitVec 32} {c1_i32_185_r0 : BitVec 32} {k0_t7 : Fin k0_t7_loop.trips} {k0_mxu160 : Mxu Ideal} {k : (Σ' (_ : BitVec 32) (_ : Mxu Ideal) (_ : BitVec 32) (_ : FVec Ideal S1x128 .f32), FVec Ideal S256x128 .f32) → Prog (TpuEff nD τ sig (Elt Ideal) Λ₀ .tc) β} (hm : MxV vx vw 192 3 (oc true false true false) (lv true true) (kk (144 + 12 * k0_t7.val) 0) (kk (12 * k0_t7.val) (12 * k0_t7.val)) k0_mxu160) (hc : Cnt s (37 + 3 * k0_t7.val) 48 12 12 0 (8 + k0_t7.val)) (hv : SV vx vw vws vxs 2 4 (8 + k0_t7.val) (8 + k0_t7.val) s)
    (h : ∀ (r0 : BitVec 32) (r1 : Mxu Ideal) (r2 : BitVec 32) (r3 : FVec Ideal S1x128 .f32) (r4 : FVec Ideal S256x128 .f32) (s' : St Ideal) (_ : MxV vx vw 192 3 (oc false true false true) (lv true true) (kk (144 + 12 * k0_t7.val) (144 + 12 * k0_t7.val + 1)) (kk (12 * k0_t7.val + 1) (12 * k0_t7.val + 1)) r1) (_ : Cnt s' (37 + 3 * k0_t7.val) 48 12 12 0 (8 + k0_t7.val)) (_ : SV vx vw vws vxs 2 4 (8 + k0_t7.val) (8 + k0_t7.val) s') (_ : ∃ x0, ZV vx vw vws vxs (128 * (8 + k0_t7.val)) x0 ∧ r3 = k0_pay175 (F := Ideal) x0 ∧ r4 = k0_pay176 (F := Ideal) x0), Res c vx vw PT s' iprop(SL c vid vws vxs ∗ R) ⊢ WP c (k ⟨r0, r1, r2, r3, r4⟩) Q) :
    Res c vx vw PT s iprop(SL c vid vws vxs ∗ R) ⊢ WP c (app (k0_part50 (F := Ideal)) c0_i32_183_r0 c1_i32_185_r0 k0_t7 k0_mxu160 >>= k) Q := by
  rw [k0_part50_eq_skeleton]
  unfold app k0_part50_skel
  refine s_assoc (ld_xV 0 (144 + 12 * k0_t7.val + 1) (bx hc.xa (by first | decide | (clear * -; revert k0_t7; decide))) (by first | decide | (clear * -; revert k0_t7; decide)) fun v1009_r0 hv1009_r0 => ?_)
  refine s_assoc (s_push1 (oc true true true false) (144 + 12 * k0_t7.val + 1) hm (by decide) (by decide) hv1009_r0 fun m hm => ?_)
  refine s_assoc (ld_xV 1 (144 + 12 * k0_t7.val + 1) (bx hc.xa (by first | decide | (clear * -; revert k0_t7; decide))) (by first | decide | (clear * -; revert k0_t7; decide)) fun v1016_r0 hv1016_r0 => ?_)
  refine s_assoc (s_pushB (oc true true true true) hm (by decide) hv1016_r0 fun m hm => ?_)
  refine s_assoc (ld_wV (12 * k0_t7.val) (bv hc.wa (by first | decide | (clear * -; revert k0_t7; decide))) (by first | decide | (clear * -; revert k0_t7; decide)) fun v1023_r0 hv1023_r0 => ?_)
  refine s_assoc (ld_ztV (128 * (8 + k0_t7.val)) k0_t7.val (vws := vws) (vxs := vxs) (R' := 2) (n := 4) (DZ := (8 + k0_t7.val)) (DL := (8 + k0_t7.val)) ?_ ?_ ?_ ?_)
  · exact ⟨hv.wsb, hv.zt, hv.zo, hv.lse⟩
  · exact (by first | decide | (clear * -; revert k0_t7; decide))
  · omega
  intro v1029_r0 hv1029_r0
  refine s_pure ?_
  exact h _ _ _ _ _ _ (MxV.acc1 (r := 0) (hf := Gen.fits_192_256) (oc false true false true) (lv true true) (MxV.acc0 (r := 0) (hf := Gen.fits_192_256) (oc false true true true) (lv true true) hm (by decide) hv1023_r0.tile (show (144 + 12 * k0_t7.val) = 48 * 3 + (12 * k0_t7.val) by omega) (by first | decide | (clear * -; revert k0_t7; decide))) (by decide) hv1023_r0.tile (show (144 + 12 * k0_t7.val) = 48 * 3 + (12 * k0_t7.val) by omega) (by first | decide | (clear * -; revert k0_t7; decide))) ⟨hc.xa, hc.xb, hc.wa, hc.wb, hc.da, hc.db⟩ ⟨hv.wsb, hv.zt, hv.zo, hv.lse⟩ ⟨_, hv1029_r0, rfl, rfl⟩

set_option maxRecDepth 65536 in
set_option maxHeartbeats 4000000 in
theorem v51 {k0_t7 : Fin k0_t7_loop.trips} {v1027_r0 : BitVec 32} {v1032_r0 : FVec Ideal S1x128 .f32} {v1035_r0 : FVec Ideal S256x128 .f32} {k : (Σ' (_ : FVec Ideal S1x128 .f32) (_ : FVec Ideal S1x128 .f32) (_ : FVec Ideal S256x128 .f32), Vec Ideal S256x128 .f32) → Prog (TpuEff nD τ sig (Elt Ideal) Λ₀ .tc) β} (hc : Cnt s (37 + 3 * k0_t7.val) 48 12 12 0 (8 + k0_t7.val)) (hv : SV vx vw vws vxs 2 4 (8 + k0_t7.val) (8 + k0_t7.val) s) (hF0 : ∃ x0, ZV vx vw vws vxs (128 * (8 + k0_t7.val)) x0 ∧ v1032_r0 = k0_pay175 (F := Ideal) x0 ∧ v1035_r0 = k0_pay176 (F := Ideal) x0)
    (h : ∀ (r0 : FVec Ideal S1x128 .f32) (r1 : FVec Ideal S1x128 .f32) (r2 : FVec Ideal S256x128 .f32) (r3 : Vec Ideal S256x128 .f32) (s' : St Ideal) (_ : Cnt s' (37 + 3 * k0_t7.val) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1, r2, r3⟩) Q) :
    Res c vx vw PT s iprop(SL c vid vws vxs ∗ R) ⊢ WP c (app (k0_part51 (F := Ideal)) k0_t7 v1027_r0 v1032_r0 v1035_r0 >>= k) Q := by
  obtain ⟨x0, f0, rfl, rfl⟩ := hF0
  rw [k0_part51_eq_skeleton]
  unfold app k0_part51_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV (128 * (8 + k0_t7.val)) (vws := vws) (vxs := vxs) (R' := 2) (n := 4) (DZ := (8 + k0_t7.val)) (DL := (8 + k0_t7.val)) (xa := (37 + 3 * k0_t7.val)) (xb := 48) (wa := 12) (wb := 12) (da := 0) (db := (8 + k0_t7.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t7; decide))
  · rfl
  · exact (by have H := zo_pay f0; exact H)
  intro s' hv' hc'
  clear hc hv; have hc := hc'; have hv := hv'; clear hc' hv'
  refine s_assoc (ld_lse ?_)
  refine s_assoc (st_lseV (128 * (8 + k0_t7.val)) (vws := vws) (vxs := vxs) (R' := 2) (n := 4) (DZ := ((8 + k0_t7.val) + 1)) (DL := (8 + k0_t7.val)) (xa := (37 + 3 * k0_t7.val)) (xb := 48) (wa := 12) (wb := 12) (da := 0) (db := (8 + k0_t7.val)) ?_ ?_ ?_ ?_ ?_ ?_)
  · exact ⟨hv.wsb, hv.zt, hv.zo, hv.lse⟩
  · exact ⟨hc.xa, hc.xb, hc.wa, hc.wb, hc.da, hc.db⟩
  · exact (by first | decide | (clear * -; revert k0_t7; decide))
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_pure ?_
  exact h _ _ _ _ _ ⟨hc.xa, hc.xb, hc.wa, hc.wb, hc.da, hc.db⟩ ⟨hv.wsb, hv.zt, hv.zo, hv.lse⟩

set_option maxRecDepth 65536 in
set_option maxHeartbeats 4000000 in
theorem v52 {k0_t7 : Fin k0_t7_loop.trips} {v1001_r0 : BitVec 32} {k0_mxu165 : Mxu Ideal} {v1044_r0 : FVec Ideal S1x128 .f32} {v1049_r0 : FVec Ideal S1x128 .f32} {v1067_r0 : FVec Ideal S256x128 .f32} {v1073_r0 : Vec Ideal S256x128 .f32} {k : (Σ' (_ : Mxu Ideal), BitVec 32) → Prog (TpuEff nD τ sig (Elt Ideal) Λ₀ .tc) β} (hm : MxV vx vw 192 3 (oc false true false true) (lv true true) (kk (144 + 12 * k0_t7.val) (144 + 12 * k0_t7.val + 1)) (kk (12 * k0_t7.val + 1) (12 * k0_t7.val + 1)) k0_mxu165) (hc : Cnt s (37 + 3 * k0_t7.val) 48 12 12 0 (8 + k0_t7.val)) (hv : SV vx vw vws vxs 2 4 ((8 + k0_t7.val) + 1) ((8 + k0_t7.val) + 1) s)
    (h : ∀ (r0 : Mxu Ideal) (r1 : BitVec 32) (s' : St Ideal) (_ : MxV vx vw 192 3 (oc true true true true) (lv true true) (kk (144 + 12 * k0_t7.val + 2) (144 + 12 * k0_t7.val + 1)) (kk (12 * k0_t7.val + 1) (12 * k0_t7.val + 1)) r0) (_ : Cnt s' (37 + 3 * k0_t7.val) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1⟩) Q) :
    Res c vx vw PT s iprop(SL c vid vws vxs ∗ R) ⊢ WP c (app (k0_part52 (F := Ideal)) k0_t7 v1001_r0 k0_mxu165 v1044_r0 v1049_r0 v1067_r0 v1073_r0 >>= k) Q := by
  rw [k0_part52_eq_skeleton]
  unfold app k0_part52_skel
  refine s_assoc (ld_dl (bd hc.db (by first | decide | (clear * -; revert k0_t7; decide))) ?_)
  refine s_assoc (st_dl (bd hc.db (by first | decide | (clear * -; revert k0_t7; decide))) ?_)
  refine s_assoc (ld_dl (bd hc.db (by first | decide | (clear * -; revert k0_t7; decide))) ?_)
  refine s_assoc (st_dl (bd hc.db (by first | decide | (clear * -; revert k0_t7; decide))) ?_)
  refine s_assoc (ld_xV 0 (144 + 12 * k0_t7.val + 2) (bx hc.xa (by first | decide | (clear * -; revert k0_t7; decide))) (by first | decide | (clear * -; revert k0_t7; decide)) fun v1102_r0 hv1102_r0 => ?_)
  refine s_assoc (s_push0 (oc true true false true) (144 + 12 * k0_t7.val + 2) hm (by decide) (by decide) hv1102_r0 fun m hm => ?_)
  refine s_assoc (ld_xV 1 (144 + 12 * k0_t7.val + 2) (bx hc.xa (by first | decide | (clear * -; revert k0_t7; decide))) (by first | decide | (clear * -; revert k0_t7; decide)) fun v1109_r0 hv1109_r0 => ?_)
  refine s_assoc (s_pushB (oc true true true true) hm (by decide) hv1109_r0 fun m hm => ?_)
  refine s_pure ?_
  exact h _ _ _ hm ⟨hc.xa, hc.xb, hc.wa, hc.wb, hc.da, hc.db⟩ ⟨hv.wsb, hv.zt, hv.zo, hv.lse⟩

set_option maxRecDepth 65536 in
set_option maxHeartbeats 4000000 in
theorem v53 {k0_t7 : Fin k0_t7_loop.trips} {v1001_r0 : BitVec 32} {k0_mxu167 : Mxu Ideal} {v1114_r0 : BitVec 32} {k : (Σ' (_ : Mxu Ideal), BitVec 32) → Prog (TpuEff nD τ sig (Elt Ideal) Λ₀ .tc) β} (hm : MxV vx vw 192 3 (oc true true true true) (lv true true) (kk (144 + 12 * k0_t7.val + 2) (144 + 12 * k0_t7.val + 1)) (kk (12 * k0_t7.val + 1) (12 * k0_t7.val + 1)) k0_mxu167) (hc : Cnt s (37 + 3 * k0_t7.val) 48 12 12 0 (8 + k0_t7.val)) (hv : SV vx vw vws vxs 2 4 ((8 + k0_t7.val) + 1) ((8 + k0_t7.val) + 1) s)
    (h : ∀ (r0 : Mxu Ideal) (r1 : BitVec 32) (s' : St Ideal) (_ : MxV vx vw 192 3 (oc false true false true) (lv true true) (kk (144 + 12 * k0_t7.val + 2) (144 + 12 * k0_t7.val + 3)) (kk (12 * k0_t7.val + 3) (12 * k0_t7.val + 3)) r0) (_ : Cnt s' (37 + 3 * k0_t7.val) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1⟩) Q) :
    Res c vx vw PT s iprop(SL c vid vws vxs ∗ R) ⊢ WP c (app (k0_part53 (F := Ideal)) k0_t7 v1001_r0 k0_mxu167 v1114_r0 >>= k) Q := by
  rw [k0_part53_eq_skeleton]
  unfold app k0_part53_skel
  refine s_assoc (ld_wV (12 * k0_t7.val + 1) (bv hc.wa (by first | decide | (clear * -; revert k0_t7; decide))) (by first | decide | (clear * -; revert k0_t7; decide)) fun v1116_r0 hv1116_r0 => ?_)
  refine s_assoc (ld_xV 0 (144 + 12 * k0_t7.val + 3) (bx hc.xa (by first | decide | (clear * -; revert k0_t7; decide))) (by first | decide | (clear * -; revert k0_t7; decide)) fun v1125_r0 hv1125_r0 => ?_)
  refine s_assoc (s_push1 (oc true true true false) (144 + 12 * k0_t7.val + 3) (MxV.acc1 (r := 1) (hf := Gen.fits_192_256) (oc true false true false) (lv true true) (MxV.acc0 (r := 1) (hf := Gen.fits_192_256) (oc true false true true) (lv true true) hm (by decide) hv1116_r0.tile (show (144 + 12 * k0_t7.val + 1) = 48 * 3 + (12 * k0_t7.val + 1) by omega) (by first | decide | (clear * -; revert k0_t7; decide))) (by decide) hv1116_r0.tile (show (144 + 12 * k0_t7.val + 1) = 48 * 3 + (12 * k0_t7.val + 1) by omega) (by first | decide | (clear * -; revert k0_t7; decide))) (by decide) (by decide) hv1125_r0 fun m hm => ?_)
  refine s_assoc (ld_xV 1 (144 + 12 * k0_t7.val + 3) (bx hc.xa (by first | decide | (clear * -; revert k0_t7; decide))) (by first | decide | (clear * -; revert k0_t7; decide)) fun v1132_r0 hv1132_r0 => ?_)
  refine s_assoc (s_pushB (oc true true true true) hm (by decide) hv1132_r0 fun m hm => ?_)
  refine s_assoc (ld_wV (12 * k0_t7.val + 2) (bv hc.wa (by first | decide | (clear * -; revert k0_t7; decide))) (by first | decide | (clear * -; revert k0_t7; decide)) fun v1139_r0 hv1139_r0 => ?_)
  refine s_pure ?_
  exact h _ _ _ (MxV.acc1 (r := 0) (hf := Gen.fits_192_256) (oc false true false true) (lv true true) (MxV.acc0 (r := 0) (hf := Gen.fits_192_256) (oc false true true true) (lv true true) hm (by decide) hv1139_r0.tile (show (144 + 12 * k0_t7.val + 2) = 48 * 3 + (12 * k0_t7.val + 2) by omega) (by first | decide | (clear * -; revert k0_t7; decide))) (by decide) hv1139_r0.tile (show (144 + 12 * k0_t7.val + 2) = 48 * 3 + (12 * k0_t7.val + 2) by omega) (by first | decide | (clear * -; revert k0_t7; decide))) ⟨hc.xa, hc.xb, hc.wa, hc.wb, hc.da, hc.db⟩ ⟨hv.wsb, hv.zt, hv.zo, hv.lse⟩

set_option maxRecDepth 65536 in
set_option maxHeartbeats 4000000 in
theorem v54 {k0_t7 : Fin k0_t7_loop.trips} {v1001_r0 : BitVec 32} {k0_mxu173 : Mxu Ideal} {v1142_r0 : BitVec 32} {k : (Σ' (_ : Mxu Ideal), BitVec 32) → Prog (TpuEff nD τ sig (Elt Ideal) Λ₀ .tc) β} (hm : MxV vx vw 192 3 (oc false true false true) (lv true true) (kk (144 + 12 * k0_t7.val + 2) (144 + 12 * k0_t7.val + 3)) (kk (12 * k0_t7.val + 3) (12 * k0_t7.val + 3)) k0_mxu173) (hc : Cnt s (37 + 3 * k0_t7.val) 48 12 12 0 (8 + k0_t7.val)) (hv : SV vx vw vws vxs 2 4 ((8 + k0_t7.val) + 1) ((8 + k0_t7.val) + 1) s)
    (h : ∀ (r0 : Mxu Ideal) (r1 : BitVec 32) (s' : St Ideal) (_ : MxV vx vw 192 3 (oc true true true true) (lv true true) (kk (144 + 12 * k0_t7.val + 4) (144 + 12 * k0_t7.val + 5)) (kk (12 * k0_t7.val + 4) (12 * k0_t7.val + 4)) r0) (_ : Cnt s' ((37 + 3 * k0_t7.val) + 1) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1⟩) Q) :
    Res c vx vw PT s iprop(SL c vid vws vxs ∗ R) ⊢ WP c (app (k0_part54 (F := Ideal)) k0_t7 v1001_r0 k0_mxu173 v1142_r0 >>= k) Q := by
  rw [k0_part54_eq_skeleton]
  unfold app k0_part54_skel
  refine s_assoc (wait_x (37 + 3 * k0_t7.val) (bw hc.xa hc.xb (by first | decide | (clear * -; revert k0_t7; decide))) rfl (by first | decide | (clear * -; revert k0_t7; decide)) ?_)
  refine s_assoc (ld_xV 0 (144 + 12 * k0_t7.val + 4) (bx (rfl : _ = ((37 + 3 * k0_t7.val) + 1)) (by first | decide | (clear * -; revert k0_t7; decide))) (by first | decide | (clear * -; revert k0_t7; decide)) fun v1158_r0 hv1158_r0 => ?_)
  refine s_assoc (s_push0 (oc true true false true) (144 + 12 * k0_t7.val + 4) hm (by decide) (by decide) hv1158_r0 fun m hm => ?_)
  refine s_assoc (ld_xV 1 (144 + 12 * k0_t7.val + 4) (bx (rfl : _ = ((37 + 3 * k0_t7.val) + 1)) (by first | decide | (clear * -; revert k0_t7; decide))) (by first | decide | (clear * -; revert k0_t7; decide)) fun v1165_r0 hv1165_r0 => ?_)
  refine s_assoc (s_pushB (oc true true true true) hm (by decide) hv1165_r0 fun m hm => ?_)
  refine s_assoc (ld_wV (12 * k0_t7.val + 3) (bv hc.wa (by first | decide | (clear * -; revert k0_t7; decide))) (by first | decide | (clear * -; revert k0_t7; decide)) fun v1172_r0 hv1172_r0 => ?_)
  refine s_assoc (ld_xV 0 (144 + 12 * k0_t7.val + 5) (bx (rfl : _ = ((37 + 3 * k0_t7.val) + 1)) (by first | decide | (clear * -; revert k0_t7; decide))) (by first | decide | (clear * -; revert k0_t7; decide)) fun v1181_r0 hv1181_r0 => ?_)
  refine s_assoc (s_push1 (oc true true true false) (144 + 12 * k0_t7.val + 5) (MxV.acc1 (r := 1) (hf := Gen.fits_192_256) (oc true false true false) (lv true true) (MxV.acc0 (r := 1) (hf := Gen.fits_192_256) (oc true false true true) (lv true true) hm (by decide) hv1172_r0.tile (show (144 + 12 * k0_t7.val + 3) = 48 * 3 + (12 * k0_t7.val + 3) by omega) (by first | decide | (clear * -; revert k0_t7; decide))) (by decide) hv1172_r0.tile (show (144 + 12 * k0_t7.val + 3) = 48 * 3 + (12 * k0_t7.val + 3) by omega) (by first | decide | (clear * -; revert k0_t7; decide))) (by decide) (by decide) hv1181_r0 fun m hm => ?_)
  refine s_assoc (ld_xV 1 (144 + 12 * k0_t7.val + 5) (bx (rfl : _ = ((37 + 3 * k0_t7.val) + 1)) (by first | decide | (clear * -; revert k0_t7; decide))) (by first | decide | (clear * -; revert k0_t7; decide)) fun v1188_r0 hv1188_r0 => ?_)
  refine s_assoc (s_pushB (oc true true true true) hm (by decide) hv1188_r0 fun m hm => ?_)
  refine s_pure ?_
  exact h _ _ _ hm ⟨(rfl : _ = ((37 + 3 * k0_t7.val) + 1)), hc.xb, hc.wa, hc.wb, hc.da, hc.db⟩ ⟨hv.wsb, hv.zt, hv.zo, hv.lse⟩

set_option maxRecDepth 65536 in
set_option maxHeartbeats 4000000 in
theorem v55 {k0_t7 : Fin k0_t7_loop.trips} {v1001_r0 : BitVec 32} {k0_mxu179 : Mxu Ideal} {c12_i32_587_r0 : BitVec 32} {k : (Σ' (_ : Mxu Ideal), BitVec 32) → Prog (TpuEff nD τ sig (Elt Ideal) Λ₀ .tc) β} (hm : MxV vx vw 192 3 (oc true true true true) (lv true true) (kk (144 + 12 * k0_t7.val + 4) (144 + 12 * k0_t7.val + 5)) (kk (12 * k0_t7.val + 4) (12 * k0_t7.val + 4)) k0_mxu179) (hc : Cnt s ((37 + 3 * k0_t7.val) + 1) 48 12 12 0 (8 + k0_t7.val)) (hv : SV vx vw vws vxs 2 4 ((8 + k0_t7.val) + 1) ((8 + k0_t7.val) + 1) s)
    (h : ∀ (r0 : Mxu Ideal) (r1 : BitVec 32) (s' : St Ideal) (_ : MxV vx vw 192 3 (oc true false true false) (lv true true) (kk (144 + 12 * k0_t7.val + 6) (144 + 12 * k0_t7.val + 5)) (kk (12 * k0_t7.val + 6) (12 * k0_t7.val + 6)) r0) (_ : Cnt s' ((37 + 3 * k0_t7.val) + 1) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1⟩) Q) :
    Res c vx vw PT s iprop(SL c vid vws vxs ∗ R) ⊢ WP c (app (k0_part55 (F := Ideal)) k0_t7 v1001_r0 k0_mxu179 c12_i32_587_r0 >>= k) Q := by
  rw [k0_part55_eq_skeleton]
  unfold app k0_part55_skel
  refine s_assoc (ld_wV (12 * k0_t7.val + 4) (bv hc.wa (by first | decide | (clear * -; revert k0_t7; decide))) (by first | decide | (clear * -; revert k0_t7; decide)) fun v1195_r0 hv1195_r0 => ?_)
  refine s_assoc (ld_xV 0 (144 + 12 * k0_t7.val + 6) (bx hc.xa (by first | decide | (clear * -; revert k0_t7; decide))) (by first | decide | (clear * -; revert k0_t7; decide)) fun v1204_r0 hv1204_r0 => ?_)
  refine s_assoc (s_push0 (oc true true false true) (144 + 12 * k0_t7.val + 6) (MxV.acc1 (r := 0) (hf := Gen.fits_192_256) (oc false true false true) (lv true true) (MxV.acc0 (r := 0) (hf := Gen.fits_192_256) (oc false true true true) (lv true true) hm (by decide) hv1195_r0.tile (show (144 + 12 * k0_t7.val + 4) = 48 * 3 + (12 * k0_t7.val + 4) by omega) (by first | decide | (clear * -; revert k0_t7; decide))) (by decide) hv1195_r0.tile (show (144 + 12 * k0_t7.val + 4) = 48 * 3 + (12 * k0_t7.val + 4) by omega) (by first | decide | (clear * -; revert k0_t7; decide))) (by decide) (by decide) hv1204_r0 fun m hm => ?_)
  refine s_assoc (ld_xV 1 (144 + 12 * k0_t7.val + 6) (bx hc.xa (by first | decide | (clear * -; revert k0_t7; decide))) (by first | decide | (clear * -; revert k0_t7; decide)) fun v1211_r0 hv1211_r0 => ?_)
  refine s_assoc (s_pushB (oc true true true true) hm (by decide) hv1211_r0 fun m hm => ?_)
  refine s_assoc (ld_wV (12 * k0_t7.val + 5) (bv hc.wa (by first | decide | (clear * -; revert k0_t7; decide))) (by first | decide | (clear * -; revert k0_t7; decide)) fun v1218_r0 hv1218_r0 => ?_)
  refine s_pure ?_
  exact h _ _ _ (MxV.acc1 (r := 1) (hf := Gen.fits_192_256) (oc true false true false) (lv true true) (MxV.acc0 (r := 1) (hf := Gen.fits_192_256) (oc true false true true) (lv true true) hm (by decide) hv1218_r0.tile (show (144 + 12 * k0_t7.val + 5) = 48 * 3 + (12 * k0_t7.val + 5) by omega) (by first | decide | (clear * -; revert k0_t7; decide))) (by decide) hv1218_r0.tile (show (144 + 12 * k0_t7.val + 5) = 48 * 3 + (12 * k0_t7.val + 5) by omega) (by first | decide | (clear * -; revert k0_t7; decide))) ⟨hc.xa, hc.xb, hc.wa, hc.wb, hc.da, hc.db⟩ ⟨hv.wsb, hv.zt, hv.zo, hv.lse⟩

set_option maxRecDepth 65536 in
set_option maxHeartbeats 4000000 in
theorem v56 {k0_t7 : Fin k0_t7_loop.trips} {v1001_r0 : BitVec 32} {k0_mxu185 : Mxu Ideal} {v1221_r0 : BitVec 32} {k : (Σ' (_ : Mxu Ideal) (_ : BitVec 32), BitVec 32) → Prog (TpuEff nD τ sig (Elt Ideal) Λ₀ .tc) β} (hm : MxV vx vw 192 3 (oc true false true false) (lv true true) (kk (144 + 12 * k0_t7.val + 6) (144 + 12 * k0_t7.val + 5)) (kk (12 * k0_t7.val + 6) (12 * k0_t7.val + 6)) k0_mxu185) (hc : Cnt s ((37 + 3 * k0_t7.val) + 1) 48 12 12 0 (8 + k0_t7.val)) (hv : SV vx vw vws vxs 2 4 ((8 + k0_t7.val) + 1) ((8 + k0_t7.val) + 1) s)
    (h : ∀ (r0 : Mxu Ideal) (r1 : BitVec 32) (r2 : BitVec 32) (s' : St Ideal) (_ : MxV vx vw 192 3 (oc true true false true) (lv true true) (kk (144 + 12 * k0_t7.val + 8) (144 + 12 * k0_t7.val + 7)) (kk (12 * k0_t7.val + 7) (12 * k0_t7.val + 7)) r0) (_ : Cnt s' ((37 + 3 * k0_t7.val) + 2) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1, r2⟩) Q) :
    Res c vx vw PT s iprop(SL c vid vws vxs ∗ R) ⊢ WP c (app (k0_part56 (F := Ideal)) k0_t7 v1001_r0 k0_mxu185 v1221_r0 >>= k) Q := by
  rw [k0_part56_eq_skeleton]
  unfold app k0_part56_skel
  refine s_assoc (ld_xV 0 (144 + 12 * k0_t7.val + 7) (bx hc.xa (by first | decide | (clear * -; revert k0_t7; decide))) (by first | decide | (clear * -; revert k0_t7; decide)) fun v1227_r0 hv1227_r0 => ?_)
  refine s_assoc (s_push1 (oc true true true false) (144 + 12 * k0_t7.val + 7) hm (by decide) (by decide) hv1227_r0 fun m hm => ?_)
  refine s_assoc (ld_xV 1 (144 + 12 * k0_t7.val + 7) (bx hc.xa (by first | decide | (clear * -; revert k0_t7; decide))) (by first | decide | (clear * -; revert k0_t7; decide)) fun v1234_r0 hv1234_r0 => ?_)
  refine s_assoc (s_pushB (oc true true true true) hm (by decide) hv1234_r0 fun m hm => ?_)
  refine s_assoc (ld_wV (12 * k0_t7.val + 6) (bv hc.wa (by first | decide | (clear * -; revert k0_t7; decide))) (by first | decide | (clear * -; revert k0_t7; decide)) fun v1241_r0 hv1241_r0 => ?_)
  refine s_assoc (wait_x ((37 + 3 * k0_t7.val) + 1) (bw hc.xa hc.xb (by first | decide | (clear * -; revert k0_t7; decide))) rfl (by first | decide | (clear * -; revert k0_t7; decide)) ?_)
  refine s_assoc (ld_xV 0 (144 + 12 * k0_t7.val + 8) (bx (rfl : _ = ((37 + 3 * k0_t7.val) + 2)) (by first | decide | (clear * -; revert k0_t7; decide))) (by first | decide | (clear * -; revert k0_t7; decide)) fun v1260_r0 hv1260_r0 => ?_)
  refine s_assoc (s_push0 (oc true true false true) (144 + 12 * k0_t7.val + 8) (MxV.acc1 (r := 0) (hf := Gen.fits_192_256) (oc false true false true) (lv true true) (MxV.acc0 (r := 0) (hf := Gen.fits_192_256) (oc false true true true) (lv true true) hm (by decide) hv1241_r0.tile (show (144 + 12 * k0_t7.val + 6) = 48 * 3 + (12 * k0_t7.val + 6) by omega) (by first | decide | (clear * -; revert k0_t7; decide))) (by decide) hv1241_r0.tile (show (144 + 12 * k0_t7.val + 6) = 48 * 3 + (12 * k0_t7.val + 6) by omega) (by first | decide | (clear * -; revert k0_t7; decide))) (by decide) (by decide) hv1260_r0 fun m hm => ?_)
  refine s_pure ?_
  exact h _ _ _ _ hm ⟨(rfl : _ = ((37 + 3 * k0_t7.val) + 2)), hc.xb, hc.wa, hc.wb, hc.da, hc.db⟩ ⟨hv.wsb, hv.zt, hv.zo, hv.lse⟩

set_option maxRecDepth 65536 in
set_option maxHeartbeats 4000000 in
theorem v57 {k0_t7 : Fin k0_t7_loop.trips} {v1001_r0 : BitVec 32} {k0_mxu190 : Mxu Ideal} {v1262_r0 : BitVec 32} {v1263_r0 : BitVec 32} {k : (Σ' (_ : Mxu Ideal), BitVec 32) → Prog (TpuEff nD τ sig (Elt Ideal) Λ₀ .tc) β} (hm : MxV vx vw 192 3 (oc true true false true) (lv true true) (kk (144 + 12 * k0_t7.val + 8) (144 + 12 * k0_t7.val + 7)) (kk (12 * k0_t7.val + 7) (12 * k0_t7.val + 7)) k0_mxu190) (hc : Cnt s ((37 + 3 * k0_t7.val) + 2) 48 12 12 0 (8 + k0_t7.val)) (hv : SV vx vw vws vxs 2 4 ((8 + k0_t7.val) + 1) ((8 + k0_t7.val) + 1) s)
    (h : ∀ (r0 : Mxu Ideal) (r1 : BitVec 32) (s' : St Ideal) (_ : MxV vx vw 192 3 (oc false true false true) (lv true true) (kk (144 + 12 * k0_t7.val + 8) (144 + 12 * k0_t7.val + 9)) (kk (12 * k0_t7.val + 9) (12 * k0_t7.val + 9)) r0) (_ : Cnt s' ((37 + 3 * k0_t7.val) + 2) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1⟩) Q) :
    Res c vx vw PT s iprop(SL c vid vws vxs ∗ R) ⊢ WP c (app (k0_part57 (F := Ideal)) k0_t7 v1001_r0 k0_mxu190 v1262_r0 v1263_r0 >>= k) Q := by
  rw [k0_part57_eq_skeleton]
  unfold app k0_part57_skel
  refine s_assoc (ld_xV 1 (144 + 12 * k0_t7.val + 8) (bx hc.xa (by first | decide | (clear * -; revert k0_t7; decide))) (by first | decide | (clear * -; revert k0_t7; decide)) fun v1267_r0 hv1267_r0 => ?_)
  refine s_assoc (s_pushB (oc true true true true) hm (by decide) hv1267_r0 fun m hm => ?_)
  refine s_assoc (ld_wV (12 * k0_t7.val + 7) (bv hc.wa (by first | decide | (clear * -; revert k0_t7; decide))) (by first | decide | (clear * -; revert k0_t7; decide)) fun v1274_r0 hv1274_r0 => ?_)
  refine s_assoc (ld_xV 0 (144 + 12 * k0_t7.val + 9) (bx hc.xa (by first | decide | (clear * -; revert k0_t7; decide))) (by first | decide | (clear * -; revert k0_t7; decide)) fun v1283_r0 hv1283_r0 => ?_)
  refine s_assoc (s_push1 (oc true true true false) (144 + 12 * k0_t7.val + 9) (MxV.acc1 (r := 1) (hf := Gen.fits_192_256) (oc true false true false) (lv true true) (MxV.acc0 (r := 1) (hf := Gen.fits_192_256) (oc true false true true) (lv true true) hm (by decide) hv1274_r0.tile (show (144 + 12 * k0_t7.val + 7) = 48 * 3 + (12 * k0_t7.val + 7) by omega) (by first | decide | (clear * -; revert k0_t7; decide))) (by decide) hv1274_r0.tile (show (144 + 12 * k0_t7.val + 7) = 48 * 3 + (12 * k0_t7.val + 7) by omega) (by first | decide | (clear * -; revert k0_t7; decide))) (by decide) (by decide) hv1283_r0 fun m hm => ?_)
  refine s_assoc (ld_xV 1 (144 + 12 * k0_t7.val + 9) (bx hc.xa (by first | decide | (clear * -; revert k0_t7; decide))) (by first | decide | (clear * -; revert k0_t7; decide)) fun v1290_r0 hv1290_r0 => ?_)
  refine s_assoc (s_pushB (oc true true true true) hm (by decide) hv1290_r0 fun m hm => ?_)
  refine s_assoc (ld_wV (12 * k0_t7.val + 8) (bv hc.wa (by first | decide | (clear * -; revert k0_t7; decide))) (by first | decide | (clear * -; revert k0_t7; decide)) fun v1297_r0 hv1297_r0 => ?_)
  refine s_pure ?_
  exact h _ _ _ (MxV.acc1 (r := 0) (hf := Gen.fits_192_256) (oc false true false true) (lv true true) (MxV.acc0 (r := 0) (hf := Gen.fits_192_256) (oc false true true true) (lv true true) hm (by decide) hv1297_r0.tile (show (144 + 12 * k0_t7.val + 8) = 48 * 3 + (12 * k0_t7.val + 8) by omega) (by first | decide | (clear * -; revert k0_t7; decide))) (by decide) hv1297_r0.tile (show (144 + 12 * k0_t7.val + 8) = 48 * 3 + (12 * k0_t7.val + 8) by omega) (by first | decide | (clear * -; revert k0_t7; decide))) ⟨hc.xa, hc.xb, hc.wa, hc.wb, hc.da, hc.db⟩ ⟨hv.wsb, hv.zt, hv.zo, hv.lse⟩

set_option maxRecDepth 65536 in
set_option maxHeartbeats 4000000 in
theorem v58 {k0_t7 : Fin k0_t7_loop.trips} {v1001_r0 : BitVec 32} {k0_mxu197 : Mxu Ideal} {v1300_r0 : BitVec 32} {k : (Σ' (_ : Mxu Ideal) (_ : BitVec 32), BitVec 32) → Prog (TpuEff nD τ sig (Elt Ideal) Λ₀ .tc) β} (hm : MxV vx vw 192 3 (oc false true false true) (lv true true) (kk (144 + 12 * k0_t7.val + 8) (144 + 12 * k0_t7.val + 9)) (kk (12 * k0_t7.val + 9) (12 * k0_t7.val + 9)) k0_mxu197) (hc : Cnt s ((37 + 3 * k0_t7.val) + 2) 48 12 12 0 (8 + k0_t7.val)) (hv : SV vx vw vws vxs 2 4 ((8 + k0_t7.val) + 1) ((8 + k0_t7.val) + 1) s)
    (h : ∀ (r0 : Mxu Ideal) (r1 : BitVec 32) (r2 : BitVec 32) (s' : St Ideal) (_ : MxV vx vw 192 3 (oc true true true true) (lv true true) (kk (144 + 12 * k0_t7.val + 10) (144 + 12 * k0_t7.val + 11)) (kk (12 * k0_t7.val + 10) (12 * k0_t7.val + 10)) r0) (_ : Cnt s' ((37 + 3 * k0_t7.val) + 2) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1, r2⟩) Q) :
    Res c vx vw PT s iprop(SL c vid vws vxs ∗ R) ⊢ WP c (app (k0_part58 (F := Ideal)) k0_t7 v1001_r0 k0_mxu197 v1300_r0 >>= k) Q := by
  rw [k0_part58_eq_skeleton]
  unfold app k0_part58_skel
  refine s_assoc (ld_xV 0 (144 + 12 * k0_t7.val + 10) (bx hc.xa (by first | decide | (clear * -; revert k0_t7; decide))) (by first | decide | (clear * -; revert k0_t7; decide)) fun v1306_r0 hv1306_r0 => ?_)
  refine s_assoc (s_push0 (oc true true false true) (144 + 12 * k0_t7.val + 10) hm (by decide) (by decide) hv1306_r0 fun m hm => ?_)
  refine s_assoc (ld_xV 1 (144 + 12 * k0_t7.val + 10) (bx hc.xa (by first | decide | (clear * -; revert k0_t7; decide))) (by first | decide | (clear * -; revert k0_t7; decide)) fun v1313_r0 hv1313_r0 => ?_)
  refine s_assoc (s_pushB (oc true true true true) hm (by decide) hv1313_r0 fun m hm => ?_)
  refine s_assoc (ld_wV (12 * k0_t7.val + 9) (bv hc.wa (by first | decide | (clear * -; revert k0_t7; decide))) (by first | decide | (clear * -; revert k0_t7; decide)) fun v1320_r0 hv1320_r0 => ?_)
  refine s_assoc (ld_xV 0 (144 + 12 * k0_t7.val + 11) (bx hc.xa (by first | decide | (clear * -; revert k0_t7; decide))) (by first | decide | (clear * -; revert k0_t7; decide)) fun v1329_r0 hv1329_r0 => ?_)
  refine s_assoc (s_push1 (oc true true true false) (144 + 12 * k0_t7.val + 11) (MxV.acc1 (r := 1) (hf := Gen.fits_192_256) (oc true false true false) (lv true true) (MxV.acc0 (r := 1) (hf := Gen.fits_192_256) (oc true false true true) (lv true true) hm (by decide) hv1320_r0.tile (show (144 + 12 * k0_t7.val + 9) = 48 * 3 + (12 * k0_t7.val + 9) by omega) (by first | decide | (clear * -; revert k0_t7; decide))) (by decide) hv1320_r0.tile (show (144 + 12 * k0_t7.val + 9) = 48 * 3 + (12 * k0_t7.val + 9) by omega) (by first | decide | (clear * -; revert k0_t7; decide))) (by decide) (by decide) hv1329_r0 fun m hm => ?_)
  refine s_assoc (ld_xV 1 (144 + 12 * k0_t7.val + 11) (bx hc.xa (by first | decide | (clear * -; revert k0_t7; decide))) (by first | decide | (clear * -; revert k0_t7; decide)) fun v1336_r0 hv1336_r0 => ?_)
  refine s_assoc (s_pushB (oc true true true true) hm (by decide) hv1336_r0 fun m hm => ?_)
  refine s_pure ?_
  exact h _ _ _ _ hm ⟨hc.xa, hc.xb, hc.wa, hc.wb, hc.da, hc.db⟩ ⟨hv.wsb, hv.zt, hv.zo, hv.lse⟩

set_option maxRecDepth 65536 in
set_option maxHeartbeats 4000000 in
theorem v59 {k0_t7 : Fin k0_t7_loop.trips} {v1001_r0 : BitVec 32} {k0_mxu203 : Mxu Ideal} {v1338_r0 : BitVec 32} {c10_i32_653_r0 : BitVec 32} {k : (Σ' (_ : BitVec 32) (_ : Mxu Ideal), BitVec 32) → Prog (TpuEff nD τ sig (Elt Ideal) Λ₀ .tc) β} (hm : MxV vx vw 192 3 (oc true true true true) (lv true true) (kk (144 + 12 * k0_t7.val + 10) (144 + 12 * k0_t7.val + 11)) (kk (12 * k0_t7.val + 10) (12 * k0_t7.val + 10)) k0_mxu203) (hc : Cnt s ((37 + 3 * k0_t7.val) + 2) 48 12 12 0 (8 + k0_t7.val)) (hv : SV vx vw vws vxs 2 4 ((8 + k0_t7.val) + 1) ((8 + k0_t7.val) + 1) s)
    (h : ∀ (r0 : BitVec 32) (r1 : Mxu Ideal) (r2 : BitVec 32) (s' : St Ideal) (_ : MxV vx vw 192 3 (oc true true false true) (lv true true) (kk (144 + 12 * k0_t7.val + 12) (144 + 12 * k0_t7.val + 11)) (kk (12 * k0_t7.val + 11) (12 * k0_t7.val + 11)) r1) (_ : Cnt s' ((37 + 3 * k0_t7.val) + 3) 48 12 12 0 (8 + k0_t7.val)) (_ : SV vx vw vws vxs 2 4 ((8 + k0_t7.val) + 1) ((8 + k0_t7.val) + 1) s'), Res c vx vw PT s' iprop(SL c vid vws vxs ∗ R) ⊢ WP c (k ⟨r0, r1, r2⟩) Q) :
    Res c vx vw PT s iprop(SL c vid vws vxs ∗ R) ⊢ WP c (app (k0_part59 (F := Ideal)) k0_t7 v1001_r0 k0_mxu203 v1338_r0 c10_i32_653_r0 >>= k) Q := by
  rw [k0_part59_eq_skeleton]
  unfold app k0_part59_skel
  refine s_assoc (ld_wV (12 * k0_t7.val + 10) (bv hc.wa (by first | decide | (clear * -; revert k0_t7; decide))) (by first | decide | (clear * -; revert k0_t7; decide)) fun v1343_r0 hv1343_r0 => ?_)
  refine s_assoc (wait_x ((37 + 3 * k0_t7.val) + 2) (bw hc.xa hc.xb (by first | decide | (clear * -; revert k0_t7; decide))) rfl (by first | decide | (clear * -; revert k0_t7; decide)) ?_)
  refine s_assoc (ld_xV 0 (144 + 12 * k0_t7.val + 12) (bx (rfl : _ = ((37 + 3 * k0_t7.val) + 3)) (by first | decide | (clear * -; revert k0_t7; decide))) (by first | decide | (clear * -; revert k0_t7; decide)) fun v1371_r0 hv1371_r0 => ?_)
  refine s_assoc (s_push0 (oc true true false true) (144 + 12 * k0_t7.val + 12) (MxV.acc1 (r := 0) (hf := Gen.fits_192_256) (oc false true false true) (lv true true) (MxV.acc0 (r := 0) (hf := Gen.fits_192_256) (oc false true true true) (lv true true) hm (by decide) hv1343_r0.tile (show (144 + 12 * k0_t7.val + 10) = 48 * 3 + (12 * k0_t7.val + 10) by omega) (by first | decide | (clear * -; revert k0_t7; decide))) (by decide) hv1343_r0.tile (show (144 + 12 * k0_t7.val + 10) = 48 * 3 + (12 * k0_t7.val + 10) by omega) (by first | decide | (clear * -; revert k0_t7; decide))) (by decide) (by decide) hv1371_r0 fun m hm => ?_)
  refine s_pure ?_
  exact h _ _ _ _ hm ⟨(rfl : _ = ((37 + 3 * k0_t7.val) + 3)), hc.xb, hc.wa, hc.wb, hc.da, hc.db⟩ ⟨hv.wsb, hv.zt, hv.zo, hv.lse⟩

set_option maxRecDepth 65536 in
set_option maxHeartbeats 4000000 in
theorem bvt7 {k0_mxu158 : Mxu Ideal} {v280_r0 : FVec Ideal S256x128 .f32} {k0_t7 : Fin k0_t7_loop.trips} {m : Mxu Ideal} (hm : MxV vx vw 192 3 (oc true false true false) (lv true true) (kk (144 + 12 * k0_t7.val) 0) (kk (12 * k0_t7.val) (12 * k0_t7.val)) m) (hc : Cnt s (37 + 3 * k0_t7.val) 48 12 12 0 (8 + k0_t7.val)) (hv : SV vx vw vws vxs 2 4 (8 + k0_t7.val) (8 + k0_t7.val) s) :
    Res c vx vw PT s iprop(SL c vid vws vxs ∗ R) ⊢ WP c (app (k0_t7_body (F := Ideal)) k0_mxu158 v280_r0 k0_t7 m)
      (fun m' => iprop(∃ s', ⌜MxV vx vw 192 3 (oc true false true false) (lv true true) (kk (144 + 12 * (k0_t7.val + 1)) 0) (kk (12 * (k0_t7.val + 1)) (12 * (k0_t7.val + 1))) m' ∧ Cnt s' (37 + 3 * (k0_t7.val + 1)) 48 12 12 0 (8 + (k0_t7.val + 1)) ∧ SV vx vw vws vxs 2 4 (8 + (k0_t7.val + 1)) (8 + (k0_t7.val + 1)) s'⌝ ∗ Res c vx vw PT s' iprop(SL c vid vws vxs ∗ R))) := by
  unfold app k0_t7_body
  refine v50 hm ⟨hc.xa, hc.xb, hc.wa, hc.wb, hc.da, hc.db⟩ ⟨hv.wsb, hv.zt, hv.zo, hv.lse⟩ fun r0 r1 r2 r3 r4 s' hm hc' hv' e50 => ?_
  clear hc hv; have hc := hc'; have hv := hv'; clear hc' hv'
  refine v51 ⟨hc.xa, hc.xb, hc.wa, hc.wb, hc.da, hc.db⟩ ⟨hv.wsb, hv.zt, hv.zo, hv.lse⟩ e50 fun r0 r1 r2 r3 s' hc' hv' => ?_
  clear hc hv; have hc := hc'; have hv := hv'; clear hc' hv'
  refine v52 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v53 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v54 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v55 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v56 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v57 hm ⟨hc.xa, hc.xb, hc.wa, hc.wb, hc.da, hc.db⟩ ⟨hv.wsb, hv.zt, hv.zo, hv.lse⟩ fun r0 r1 s' hm hc' hv' => ?_
  clear hc hv; have hc := hc'; have hv := hv'; clear hc' hv'
  refine v58 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine v59 hm ⟨hc.xa, hc.xb, hc.wa, hc.wb, hc.da, hc.db⟩ ⟨hv.wsb, hv.zt, hv.zo, hv.lse⟩ fun r0 r1 r2 s' hm hc' hv' => ?_
  clear hc hv; have hc := hc'; have hv := hv'; clear hc' hv'
  refine ld_xV 1 (144 + 12 * k0_t7.val + 12) (bx hc.xa (by first | decide | (clear * -; revert k0_t7; decide))) (by first | decide | (clear * -; revert k0_t7; decide)) fun v1380_r0 hv1380_r0 => ?_
  refine s_pushB (oc true true true true) hm (by decide) hv1380_r0 fun m hm => ?_
  refine ld_wV (12 * k0_t7.val + 11) (bv hc.wa (by first | decide | (clear * -; revert k0_t7; decide))) (by first | decide | (clear * -; revert k0_t7; decide)) fun v1387_r0 hv1387_r0 => ?_
  refine start_d (8 + k0_t7.val) (bs hc.da hc.db (by first | decide | (clear * -; revert k0_t7; decide))) (by first | decide | (clear * -; revert k0_t7; decide)) (by first | decide | (clear * -; revert k0_t7; decide)) (by first | decide | (clear * -; revert k0_t7; decide)) (by first | decide | (clear * -; revert k0_t7; decide)) (fun _ _ => trivial) ?_
  exact s_trip ⟨MxV.re (MxV.acc1 (r := 1) (hf := Gen.fits_192_256) (oc true false true false) (lv true true) (MxV.acc0 (r := 1) (hf := Gen.fits_192_256) (oc true false true true) (lv true true) hm (by decide) hv1387_r0.tile (show (144 + 12 * k0_t7.val + 11) = 48 * 3 + (12 * k0_t7.val + 11) by omega) (by first | decide | (clear * -; revert k0_t7; decide))) (by decide) hv1387_r0.tile (show (144 + 12 * k0_t7.val + 11) = 48 * 3 + (12 * k0_t7.val + 11) by omega) (by first | decide | (clear * -; revert k0_t7; decide))) (.inr (by omega)) (.inl (by decide)) (by omega) (by omega), ⟨(Eq.trans hc.xa (by first | omega | (clear * -; revert k0_t7; decide))), hc.xb, hc.wa, hc.wb, hc.da, (Eq.trans (rfl : _ = ((8 + k0_t7.val) + 1)) (by first | omega | (clear * -; revert k0_t7; decide)))⟩, (SV.re (R := 2) (n := 4) (DZ := ((8 + k0_t7.val) + 1)) (DL := ((8 + k0_t7.val) + 1)) ⟨hv.wsb, hv.zt, hv.zo, hv.lse⟩ rfl rfl (by omega) (by omega))⟩

end Cert.KernelIdeal.Hand

end
-- ==== Proof.KV.P6.lean ====
/-
# The values: the four passes over the tokens
-/
module

public import proofs.«01_k».proof.Proof.KV.P1
public import proofs.«01_k».proof.Proof.KV.P2
public import proofs.«01_k».proof.Proof.KV.P3
public import proofs.«01_k».proof.Proof.KV.P4

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v65 {k0_mxu1 : Mxu Ideal} {v156_r0 : FVec Ideal S128x128 .f32} {k : (Σ' (_ : Mxu Ideal), FVec Ideal S256x256 .f32) → Prog (TpuEff nD τ sig (Elt Ideal) Λ₀ .tc) β} (hm : MxV vx vw 0 0 (oc false false false false) (lv false false) (kk 0 0) (kk 0 0) k0_mxu1) (hc : Cnt s 0 48 0 12 0 0) (hw : ∀ (e : Fin 256) (l : Fin 128), e.val < 128 → s.wsb (ix2 e l) = wsN vws e.val) (hF0 : ∃ x0, (∀ l : Fin 128, x0 (ix2 0 l) = wsN vws (128 + l.val)) ∧ v156_r0 = k0_pay222 (F := Ideal) x0)
    (h : ∀ (r0 : Mxu Ideal) (r1 : FVec Ideal S256x256 .f32) (s' : St Ideal) (_ : MxV vx vw 0 0 (oc true false true false) (lv true true) (kk 48 0) (kk 48 48) r0) (_ : Cnt s' 13 48 12 12 0 0) (_ : SV vx vw vws vxs 0 0 0 0 s') (_ : RD vx vw 0 r1), Res c vx vw PT s' iprop(SL c vid vws vxs ∗ R) ⊢ WP c (k ⟨r0, r1⟩) Q) :
    Res c vx vw PT s iprop(SL c vid vws vxs ∗ R) ⊢ WP c (app (k0_part65 (F := Ideal)) k0_mxu1 v156_r0 >>= k) Q := by
  obtain ⟨x0, f0, rfl⟩ := hF0
  rw [k0_part65_eq_skeleton]
  unfold app k0_part65_skel
  refine s_assoc (ld_wsb ?_)
  refine s_assoc (st_wsb2 (vxs := vxs) hw ⟨hc.xa, hc.xb, hc.wa, hc.wb, hc.da, hc.db⟩ rfl (by have H := wsb_pay (o := 128) f0; exact H) fun s' hv' hc' => ?_)
  clear hc hw; have hc := hc'; have hv := hv'; clear hc' hv'
  refine s_assoc (ld_ps ?_)
  refine s_assoc (st_ps ?_)
  refine s_assoc (wait_x 0 (bw hc.xa hc.xb (by decide)) rfl (by decide) ?_)
  refine s_assoc (wait_w 0 (bw hc.wa hc.wb (by decide)) rfl (by decide) ?_)
  refine s_assoc (ld_xV 0 0 (bx (rfl : _ = 1) (by decide)) (by decide) fun v180_r0 hv180_r0 => ?_)
  refine s_assoc (s_push0 (oc true false false false) 0 hm (by decide) (by decide) hv180_r0 fun m hm => ?_)
  refine s_assoc (ld_xV 1 0 (bx (rfl : _ = 1) (by decide)) (by decide) fun v186_r0 hv186_r0 => ?_)
  refine s_assoc (s_pushB (oc true false true false) hm (by decide) hv186_r0 fun m hm => ?_)
  refine s_assoc ((s_for (fun n m s => MxV vx vw 0 0 (oc true false true false) (lv true true) (kk (12 * n) 0) (kk (12 * n) (12 * n)) m ∧ Cnt s (3 * n + 1) 48 (min (3 * n + 1) 12) 12 0 0 ∧ SV vx vw vws vxs 0 0 0 0 s) ⟨(MxV.re (MxV.weak (lv true true) hm (by decide)) (.inr (by omega)) (.inl (by decide)) (by omega) (by omega)), ⟨(rfl : _ = 1), hc.xb, (rfl : _ = 1), hc.wb, hc.da, hc.db⟩, ⟨hv.wsb, hv.zt, hv.zo, hv.lse⟩⟩ (fun t m s hI => bvt4 hI.1 hI.2.1 hI.2.2) fun m s' hI => ?_))
  have e : k0_t4_loop.trips = 4 := (by decide)
  rw [e] at hI
  clear hc hv e; have hm : MxV vx vw 0 0 (oc true false true false) (lv true true) (kk 48 0) (kk 48 48) m := hI.1
  have hc : Cnt s' 13 48 12 12 0 0 := hI.2.1
  have hv : SV vx vw vws vxs 0 0 0 0 s' := hI.2.2
  clear hI
  refine s_pure ?_
  exact h _ _ _ hm ⟨hc.xa, hc.xb, hc.wa, hc.wb, hc.da, hc.db⟩ ⟨hv.wsb, hv.zt, hv.zo, hv.lse⟩ (MxV.rd hm 0 (hf := Gen.fits_0_256) (i := 0) rfl rfl)

set_option maxRecDepth 65536 in
set_option maxHeartbeats 4000000 in
theorem v66 {k0_mxu5 : Mxu Ideal} {v189_r0 : FVec Ideal S256x256 .f32} {k : (Σ' (_ : Mxu Ideal), FVec Ideal S256x128 .f32) → Prog (TpuEff nD τ sig (Elt Ideal) Λ₀ .tc) β} (hm : MxV vx vw 0 0 (oc true false true false) (lv true true) (kk 48 0) (kk 48 48) k0_mxu5) (hc : Cnt s 13 48 12 12 0 0) (hv : SV vx vw vws vxs 0 0 0 0 s) (hF0 : RD vx vw 0 v189_r0)
    (h : ∀ (r0 : Mxu Ideal) (r1 : FVec Ideal S256x128 .f32) (s' : St Ideal) (_ : MxV vx vw 0 0 (oc true false true false) (lv false false) (kk 48 0) (kk 0 0) r0) (_ : Cnt s' 13 48 12 12 0 0) (_ : SV vx vw vws vxs 0 3 0 0 s') (_ : ∃ x0 x1, RD vx vw 256 x0 ∧ XS vxs 384 x1 ∧ r1 = k0_pay231 (F := Ideal) x0 x1), Res c vx vw PT s' iprop(SL c vid vws vxs ∗ R) ⊢ WP c (k ⟨r0, r1⟩) Q) :
    Res c vx vw PT s iprop(SL c vid vws vxs ∗ R) ⊢ WP c (app (k0_part66 (F := Ideal)) k0_mxu5 v189_r0 >>= k) Q := by
  have f0 := hF0
  rw [k0_part66_eq_skeleton]
  unfold app k0_part66_skel
  refine s_assoc (ld_xsV 0 (by decide) fun v191_r0 hv191_r0 => ?_)
  refine s_assoc (ld_wsbV (R' := 0) (n := 0) (DZ := 0) (DL := 0) (hv := ⟨hv.wsb, hv.zt, hv.zo, hv.lse⟩) fun v194_r0 hv194_r0 => ?_)
  refine s_assoc (ld_zt ?_)
  refine s_assoc (st_ztV 0 (vws := vws) (vxs := vxs) (R' := 0) (n := 0) (DZ := 0) (DL := 0) (xa := 13) (xb := 48) (wa := 12) (wb := 12) (da := 0) (db := 0) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_lo (i₀ := 0) f0 hv191_r0 hv194_r0; exact H)
  intro s' hv' hc'
  clear hc hv; have hc := hc'; have hv := hv'; clear hc' hv'
  refine s_assoc (ld_xsV 128 (by decide) fun v200_r0 hv200_r0 => ?_)
  refine s_assoc (ld_wsbV (R' := 0) (n := 1) (DZ := 0) (DL := 0) (hv := ⟨hv.wsb, hv.zt, hv.zo, hv.lse⟩) fun v203_r0 hv203_r0 => ?_)
  refine s_assoc (ld_zt ?_)
  refine s_assoc (st_ztV 128 (vws := vws) (vxs := vxs) (R' := 0) (n := 1) (DZ := 0) (DL := 0) (xa := 13) (xb := 48) (wa := 12) (wb := 12) (da := 0) (db := 0) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 0) f0 hv200_r0 hv203_r0; exact H)
  intro s' hv' hc'
  clear hc hv; have hc := hc'; have hv := hv'; clear hc' hv'
  refine s_assoc (ld_xsV 256 (by decide) fun v210_r0 hv210_r0 => ?_)
  refine s_assoc (ld_wsbV (R' := 0) (n := 2) (DZ := 0) (DL := 0) (hv := ⟨hv.wsb, hv.zt, hv.zo, hv.lse⟩) fun v213_r0 hv213_r0 => ?_)
  refine s_assoc (ld_zt ?_)
  refine s_assoc (st_ztV 256 (vws := vws) (vxs := vxs) (R' := 0) (n := 2) (DZ := 0) (DL := 0) (xa := 13) (xb := 48) (wa := 12) (wb := 12) (da := 0) (db := 0) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_lo (i₀ := 256) (MxV.rd (MxV.pop0 (hf := Gen.fits_0_256) (lv false true) hm (by decide)) 1 (hf := Gen.fits_0_256) (i := 256) rfl rfl) hv210_r0 hv213_r0; exact H)
  intro s' hv' hc'
  clear hc hv; have hc := hc'; have hv := hv'; clear hc' hv'
  refine s_assoc (ld_xsV 384 (by decide) fun v219_r0 hv219_r0 => ?_)
  refine s_pure ?_
  exact h _ _ _ (MxV.pop1 (hf := Gen.fits_0_256) (lv false false) (MxV.pop0 (hf := Gen.fits_0_256) (lv false true) hm (by decide)) (by decide)) ⟨hc.xa, hc.xb, hc.wa, hc.wb, hc.da, hc.db⟩ ⟨hv.wsb, hv.zt, hv.zo, hv.lse⟩ ⟨_, _, (MxV.rd (MxV.pop0 (hf := Gen.fits_0_256) (lv false true) hm (by decide)) 1 (hf := Gen.fits_0_256) (i := 256) rfl rfl), hv219_r0, rfl⟩

set_option maxRecDepth 65536 in
set_option maxHeartbeats 4000000 in
theorem v67 {k0_mxu55 : Mxu Ideal} {v221_r0 : FVec Ideal S256x128 .f32} {k : (Σ' (_ : FVec Ideal S256x256 .f32) (_ : Mxu Ideal) (_ : FVec Ideal S256x128 .f32), FVec Ideal S256x128 .f32) → Prog (TpuEff nD τ sig (Elt Ideal) Λ₀ .tc) β} (hm : MxV vx vw 0 0 (oc true false true false) (lv false false) (kk 48 0) (kk 0 0) k0_mxu55) (hc : Cnt s 13 48 12 12 0 0) (hv : SV vx vw vws vxs 0 3 0 0 s) (hF0 : ∃ x0 x1, RD vx vw 256 x0 ∧ XS vxs 384 x1 ∧ v221_r0 = k0_pay231 (F := Ideal) x0 x1)
    (h : ∀ (r0 : FVec Ideal S256x256 .f32) (r1 : Mxu Ideal) (r2 : FVec Ideal S256x128 .f32) (r3 : FVec Ideal S256x128 .f32) (s' : St Ideal) (_ : MxV vx vw 64 1 (oc true false true false) (lv false false) (kk 96 0) (kk 0 0) r1) (_ : Cnt s' 25 48 12 12 0 4) (_ : SV vx vw vws vxs 1 2 4 4 s') (_ : ∃ x0, RD vx vw 768 r0 ∧ XS vxs 768 x0 ∧ r2 = k0_pay237 (F := Ideal) r0 ∧ r3 = k0_pay238 (F := Ideal) x0), Res c vx vw PT s' iprop(SL c vid vws vxs ∗ R) ⊢ WP c (k ⟨r0, r1, r2, r3⟩) Q) :
    Res c vx vw PT s iprop(SL c vid vws vxs ∗ R) ⊢ WP c (app (k0_part67 (F := Ideal)) k0_mxu55 v221_r0 >>= k) Q := by
  obtain ⟨x0, x1, f0, f1, rfl⟩ := hF0
  rw [k0_part67_eq_skeleton]
  unfold app k0_part67_skel
  refine s_assoc (ld_wsbV (R' := 0) (n := 3) (DZ := 0) (DL := 0) (hv := ⟨hv.wsb, hv.zt, hv.zo, hv.lse⟩) fun v222_r0 hv222_r0 => ?_)
  refine s_assoc (ld_zt ?_)
  refine s_assoc (st_ztV 384 (vws := vws) (vxs := vxs) (R' := 0) (n := 3) (DZ := 0) (DL := 0) (xa := 13) (xb := 48) (wa := 12) (wb := 12) (da := 0) (db := 0) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 256) f0 f1 hv222_r0; exact H)
  intro s' hv' hc'
  clear hc hv; have hc := hc'; have hv := hv'; clear hc' hv'
  refine s_assoc ((s_for (fun n m s => MxV vx vw 64 1 (oc true false true false) (lv true true) (kk (48 + 12 * n) 0) (kk (12 * n) (12 * n)) m ∧ Cnt s (13 + 3 * n) 48 12 12 0 (0 + n) ∧ SV vx vw vws vxs 0 4 (0 + n) (0 + n) s) ⟨(MxV.re (MxV.move 64 1 (lv true true) hm (by decide)) (.inr (by omega)) (.inl (by decide)) (by omega) (by omega)), ⟨hc.xa, hc.xb, hc.wa, hc.wb, hc.da, hc.db⟩, ⟨hv.wsb, hv.zt, hv.zo, hv.lse⟩⟩ (fun t m s hI => bvt5 hI.1 hI.2.1 hI.2.2) fun m s' hI => ?_))
  have e : k0_t5_loop.trips = 4 := (by decide)
  rw [e] at hI
  clear hc hv e; have hm : MxV vx vw 64 1 (oc true false true false) (lv true true) (kk 96 0) (kk 48 48) m := hI.1
  have hc : Cnt s' 25 48 12 12 0 4 := hI.2.1
  have hv : SV vx vw vws vxs 0 4 4 4 s' := hI.2.2
  clear hI
  refine s_assoc (ld_xsV 512 (by decide) fun v230_r0 hv230_r0 => ?_)
  refine s_assoc (ld_wsbV (R' := 0) (n := 4) (DZ := 4) (DL := 4) (hv := ⟨hv.wsb, hv.zt, hv.zo, hv.lse⟩) fun v233_r0 hv233_r0 => ?_)
  refine s_assoc (ld_zt ?_)
  refine s_assoc (st_ztV 512 (vws := vws) (vxs := vxs) (R' := 1) (n := 0) (DZ := 4) (DL := 4) (xa := 25) (xb := 48) (wa := 12) (wb := 12) (da := 0) (db := 4) ?_ ?_ ?_ ?_ ?_ ?_)
  · exact (SV.next (R := 0) (n := 4) (DZ := 4) (DL := 4) 1 ⟨hv.wsb, hv.zt, hv.zo, hv.lse⟩ rfl rfl)
  · exact ⟨hc.xa, hc.xb, hc.wa, hc.wb, hc.da, hc.db⟩
  · exact rfl
  · rfl
  · exact (by have H := slab_lo (i₀ := 512) (MxV.rd hm 0 (hf := Gen.fits_64_256) (i := 512) rfl rfl) hv230_r0 hv233_r0; exact H)
  intro s' hv' hc'
  clear hc hv; have hc := hc'; have hv := hv'; clear hc' hv'
  refine s_assoc (ld_xsV 640 (by decide) fun v239_r0 hv239_r0 => ?_)
  refine s_assoc (ld_wsbV (R' := 1) (n := 1) (DZ := 4) (DL := 4) (hv := ⟨hv.wsb, hv.zt, hv.zo, hv.lse⟩) fun v242_r0 hv242_r0 => ?_)
  refine s_assoc (ld_zt ?_)
  refine s_assoc (st_ztV 640 (vws := vws) (vxs := vxs) (R' := 1) (n := 1) (DZ := 4) (DL := 4) (xa := 25) (xb := 48) (wa := 12) (wb := 12) (da := 0) (db := 4) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 512) (MxV.rd hm 0 (hf := Gen.fits_64_256) (i := 512) rfl rfl) hv239_r0 hv242_r0; exact H)
  intro s' hv' hc'
  clear hc hv; have hc := hc'; have hv := hv'; clear hc' hv'
  refine s_assoc (ld_xsV 768 (by decide) fun v249_r0 hv249_r0 => ?_)
  refine s_pure ?_
  exact h _ _ _ _ _ (MxV.pop1 (hf := Gen.fits_64_256) (lv false false) (MxV.pop0 (hf := Gen.fits_64_256) (lv false true) hm (by decide)) (by decide)) ⟨hc.xa, hc.xb, hc.wa, hc.wb, hc.da, hc.db⟩ ⟨hv.wsb, hv.zt, hv.zo, hv.lse⟩ ⟨_, (MxV.rd (MxV.pop0 (hf := Gen.fits_64_256) (lv false true) hm (by decide)) 1 (hf := Gen.fits_64_256) (i := 768) rfl rfl), hv249_r0, rfl, rfl⟩

set_option maxRecDepth 65536 in
set_option maxHeartbeats 4000000 in
theorem v68 {v247_r0 : FVec Ideal S256x256 .f32} {k0_mxu107 : Mxu Ideal} {v248_r0 : FVec Ideal S256x128 .f32} {v250_r0 : FVec Ideal S256x128 .f32} {k : (Σ' (_ : Mxu Ideal), FVec Ideal S256x128 .f32) → Prog (TpuEff nD τ sig (Elt Ideal) Λ₀ .tc) β} (hm : MxV vx vw 64 1 (oc true false true false) (lv false false) (kk 96 0) (kk 0 0) k0_mxu107) (hc : Cnt s 25 48 12 12 0 4) (hv : SV vx vw vws vxs 1 2 4 4 s) (hF0 : ∃ x0, RD vx vw 768 v247_r0 ∧ XS vxs 768 x0 ∧ v248_r0 = k0_pay237 (F := Ideal) v247_r0 ∧ v250_r0 = k0_pay238 (F := Ideal) x0)
    (h : ∀ (r0 : Mxu Ideal) (r1 : FVec Ideal S256x128 .f32) (s' : St Ideal) (_ : MxV vx vw 128 2 (oc true false true false) (lv false true) (kk 144 0) (kk 0 48) r0) (_ : Cnt s' 37 48 12 12 0 8) (_ : SV vx vw vws vxs 2 1 8 8 s') (_ : ∃ x0 x1, RD vx vw 1024 x0 ∧ XS vxs 1152 x1 ∧ r1 = k0_pay244 (F := Ideal) x0 x1), Res c vx vw PT s' iprop(SL c vid vws vxs ∗ R) ⊢ WP c (k ⟨r0, r1⟩) Q) :
    Res c vx vw PT s iprop(SL c vid vws vxs ∗ R) ⊢ WP c (app (k0_part68 (F := Ideal)) v247_r0 k0_mxu107 v248_r0 v250_r0 >>= k) Q := by
  obtain ⟨x0, f0, f1, rfl, rfl⟩ := hF0
  rw [k0_part68_eq_skeleton]
  unfold app k0_part68_skel
  refine s_assoc (ld_wsbV (R' := 1) (n := 2) (DZ := 4) (DL := 4) (hv := ⟨hv.wsb, hv.zt, hv.zo, hv.lse⟩) fun v252_r0 hv252_r0 => ?_)
  refine s_assoc (ld_zt ?_)
  refine s_assoc (st_ztV 768 (vws := vws) (vxs := vxs) (R' := 1) (n := 2) (DZ := 4) (DL := 4) (xa := 25) (xb := 48) (wa := 12) (wb := 12) (da := 0) (db := 4) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_lo (i₀ := 768) f0 f1 hv252_r0; exact H)
  intro s' hv' hc'
  clear hc hv; have hc := hc'; have hv := hv'; clear hc' hv'
  refine s_assoc (ld_xsV 896 (by decide) fun v258_r0 hv258_r0 => ?_)
  refine s_assoc (ld_wsbV (R' := 1) (n := 3) (DZ := 4) (DL := 4) (hv := ⟨hv.wsb, hv.zt, hv.zo, hv.lse⟩) fun v261_r0 hv261_r0 => ?_)
  refine s_assoc (ld_zt ?_)
  refine s_assoc (st_ztV 896 (vws := vws) (vxs := vxs) (R' := 1) (n := 3) (DZ := 4) (DL := 4) (xa := 25) (xb := 48) (wa := 12) (wb := 12) (da := 0) (db := 4) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 768) f0 hv258_r0 hv261_r0; exact H)
  intro s' hv' hc'
  clear hc hv; have hc := hc'; have hv := hv'; clear hc' hv'
  refine s_assoc ((s_for (fun n m s => MxV vx vw 128 2 (oc true false true false) (lv true true) (kk (96 + 12 * n) 0) (kk (12 * n) (12 * n)) m ∧ Cnt s (25 + 3 * n) 48 12 12 0 (4 + n) ∧ SV vx vw vws vxs 1 4 (4 + n) (4 + n) s) ⟨(MxV.re (MxV.move 128 2 (lv true true) hm (by decide)) (.inr (by omega)) (.inl (by decide)) (by omega) (by omega)), ⟨hc.xa, hc.xb, hc.wa, hc.wb, hc.da, hc.db⟩, ⟨hv.wsb, hv.zt, hv.zo, hv.lse⟩⟩ (fun t m s hI => bvt6 hI.1 hI.2.1 hI.2.2) fun m s' hI => ?_))
  have e : k0_t6_loop.trips = 4 := (by decide)
  rw [e] at hI
  clear hc hv e; have hm : MxV vx vw 128 2 (oc true false true false) (lv true true) (kk 144 0) (kk 48 48) m := hI.1
  have hc : Cnt s' 37 48 12 12 0 8 := hI.2.1
  have hv : SV vx vw vws vxs 1 4 8 8 s' := hI.2.2
  clear hI
  refine s_assoc (ld_xsV 1024 (by decide) fun v269_r0 hv269_r0 => ?_)
  refine s_assoc (ld_wsbV (R' := 1) (n := 4) (DZ := 8) (DL := 8) (hv := ⟨hv.wsb, hv.zt, hv.zo, hv.lse⟩) fun v272_r0 hv272_r0 => ?_)
  refine s_assoc (ld_zt ?_)
  refine s_assoc (st_ztV 1024 (vws := vws) (vxs := vxs) (R' := 2) (n := 0) (DZ := 8) (DL := 8) (xa := 37) (xb := 48) (wa := 12) (wb := 12) (da := 0) (db := 8) ?_ ?_ ?_ ?_ ?_ ?_)
  · exact (SV.next (R := 1) (n := 4) (DZ := 8) (DL := 8) 2 ⟨hv.wsb, hv.zt, hv.zo, hv.lse⟩ rfl rfl)
  · exact ⟨hc.xa, hc.xb, hc.wa, hc.wb, hc.da, hc.db⟩
  · exact rfl
  · rfl
  · exact (by have H := slab_lo (i₀ := 1024) (MxV.rd hm 0 (hf := Gen.fits_128_256) (i := 1024) rfl rfl) hv269_r0 hv272_r0; exact H)
  intro s' hv' hc'
  clear hc hv; have hc := hc'; have hv := hv'; clear hc' hv'
  refine s_assoc (ld_xsV 1152 (by decide) fun v278_r0 hv278_r0 => ?_)
  refine s_pure ?_
  exact h _ _ _ (MxV.pop0 (hf := Gen.fits_128_256) (lv false true) hm (by decide)) ⟨hc.xa, hc.xb, hc.wa, hc.wb, hc.da, hc.db⟩ ⟨hv.wsb, hv.zt, hv.zo, hv.lse⟩ ⟨_, _, (MxV.rd hm 0 (hf := Gen.fits_128_256) (i := 1024) rfl rfl), hv278_r0, rfl⟩

set_option maxRecDepth 65536 in
set_option maxHeartbeats 4000000 in
theorem v69 {k0_mxu158 : Mxu Ideal} {v280_r0 : FVec Ideal S256x128 .f32} {k : (Σ' (_ : Mxu Ideal), Vec Ideal S256x256 .fp8e4m3) → Prog (TpuEff nD τ sig (Elt Ideal) Λ₀ .tc) β} (hm : MxV vx vw 128 2 (oc true false true false) (lv false true) (kk 144 0) (kk 0 48) k0_mxu158) (hc : Cnt s 37 48 12 12 0 8) (hv : SV vx vw vws vxs 2 1 8 8 s) (hF0 : ∃ x0 x1, RD vx vw 1024 x0 ∧ XS vxs 1152 x1 ∧ v280_r0 = k0_pay244 (F := Ideal) x0 x1)
    (h : ∀ (r0 : Mxu Ideal) (r1 : Vec Ideal S256x256 .fp8e4m3) (s' : St Ideal) (_ : MxV vx vw 192 3 (oc true false true false) (lv true true) (kk 180 0) (kk 36 36) r0) (_ : Cnt s' 46 48 12 12 0 11) (_ : SV vx vw vws vxs 2 4 11 11 s') (_ : Tile vx 0 181 r1), Res c vx vw PT s' iprop(SL c vid vws vxs ∗ R) ⊢ WP c (k ⟨r0, r1⟩) Q) :
    Res c vx vw PT s iprop(SL c vid vws vxs ∗ R) ⊢ WP c (app (k0_part69 (F := Ideal)) k0_mxu158 v280_r0 >>= k) Q := by
  obtain ⟨x0, x1, f0, f1, rfl⟩ := hF0
  rw [k0_part69_eq_skeleton]
  unfold app k0_part69_skel
  refine s_assoc (ld_wsbV (R' := 2) (n := 1) (DZ := 8) (DL := 8) (hv := ⟨hv.wsb, hv.zt, hv.zo, hv.lse⟩) fun v281_r0 hv281_r0 => ?_)
  refine s_assoc (ld_zt ?_)
  refine s_assoc (st_ztV 1152 (vws := vws) (vxs := vxs) (R' := 2) (n := 1) (DZ := 8) (DL := 8) (xa := 37) (xb := 48) (wa := 12) (wb := 12) (da := 0) (db := 8) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 1024) f0 f1 hv281_r0; exact H)
  intro s' hv' hc'
  clear hc hv; have hc := hc'; have hv := hv'; clear hc' hv'
  refine s_assoc (ld_xsV 1280 (by decide) fun v288_r0 hv288_r0 => ?_)
  refine s_assoc (ld_wsbV (R' := 2) (n := 2) (DZ := 8) (DL := 8) (hv := ⟨hv.wsb, hv.zt, hv.zo, hv.lse⟩) fun v291_r0 hv291_r0 => ?_)
  refine s_assoc (ld_zt ?_)
  refine s_assoc (st_ztV 1280 (vws := vws) (vxs := vxs) (R' := 2) (n := 2) (DZ := 8) (DL := 8) (xa := 37) (xb := 48) (wa := 12) (wb := 12) (da := 0) (db := 8) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_lo (i₀ := 1280) (MxV.rd hm 1 (hf := Gen.fits_128_256) (i := 1280) rfl rfl) hv288_r0 hv291_r0; exact H)
  intro s' hv' hc'
  clear hc hv; have hc := hc'; have hv := hv'; clear hc' hv'
  refine s_assoc (ld_xsV 1408 (by decide) fun v297_r0 hv297_r0 => ?_)
  refine s_assoc (ld_wsbV (R' := 2) (n := 3) (DZ := 8) (DL := 8) (hv := ⟨hv.wsb, hv.zt, hv.zo, hv.lse⟩) fun v300_r0 hv300_r0 => ?_)
  refine s_assoc (ld_zt ?_)
  refine s_assoc (st_ztV 1408 (vws := vws) (vxs := vxs) (R' := 2) (n := 3) (DZ := 8) (DL := 8) (xa := 37) (xb := 48) (wa := 12) (wb := 12) (da := 0) (db := 8) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 1280) (MxV.rd hm 1 (hf := Gen.fits_128_256) (i := 1280) rfl rfl) hv297_r0 hv300_r0; exact H)
  intro s' hv' hc'
  clear hc hv; have hc := hc'; have hv := hv'; clear hc' hv'
  refine s_assoc ((s_for (fun n m s => MxV vx vw 192 3 (oc true false true false) (lv true true) (kk (144 + 12 * n) 0) (kk (12 * n) (12 * n)) m ∧ Cnt s (37 + 3 * n) 48 12 12 0 (8 + n) ∧ SV vx vw vws vxs 2 4 (8 + n) (8 + n) s) ⟨(MxV.re (MxV.move 192 3 (lv true true) (MxV.pop1 (hf := Gen.fits_128_256) (lv false false) hm (by decide)) (by decide)) (.inr (by omega)) (.inl (by decide)) (by omega) (by omega)), ⟨hc.xa, hc.xb, hc.wa, hc.wb, hc.da, hc.db⟩, ⟨hv.wsb, hv.zt, hv.zo, hv.lse⟩⟩ (fun t m s hI => bvt7 hI.1 hI.2.1 hI.2.2) fun m s' hI => ?_))
  have e : k0_t7_loop.trips = 3 := (by decide)
  rw [e] at hI
  clear hc hv e; have hm : MxV vx vw 192 3 (oc true false true false) (lv true true) (kk 180 0) (kk 36 36) m := hI.1
  have hc : Cnt s' 46 48 12 12 0 11 := hI.2.1
  have hv : SV vx vw vws vxs 2 4 11 11 s' := hI.2.2
  clear hI
  refine s_assoc (ld_xV 0 181 (bx hc.xa (by decide)) (by decide) fun v310_r0 hv310_r0 => ?_)
  refine s_pure ?_
  exact h _ _ _ hm ⟨hc.xa, hc.xb, hc.wa, hc.wb, hc.da, hc.db⟩ ⟨hv.wsb, hv.zt, hv.zo, hv.lse⟩ hv310_r0

end Cert.KernelIdeal.Hand

end
-- ==== Proof.KV.P7.lean ====
/-
# The values: the last tokens' pieces and the results' transfers
-/
module

public import proofs.«01_k».proof.Proof.KV.Sv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

set_option maxRecDepth 65536 in
set_option maxHeartbeats 4000000 in
theorem v78 {v600_r0 : FVec Ideal S256x128 .f32} {k : (Σ' (_ : BitVec 32) (_ : FVec Ideal S1x128 .f32) (_ : FVec Ideal S1x128 .f32), FVec Ideal S1x128 .f32) → Prog (TpuEff nD τ sig (Elt Ideal) Λ₀ .tc) β} (hc : Cnt s 48 48 12 12 0 12) (hv : SV vx vw vws vxs 3 3 12 12 s) (hF0 : ∃ x0 x1, RD vx vw 1792 x0 ∧ XS vxs 1920 x1 ∧ v600_r0 = k0_pay304 (F := Ideal) x0 x1)
    (h : ∀ (r0 : BitVec 32) (r1 : FVec Ideal S1x128 .f32) (r2 : FVec Ideal S1x128 .f32) (r3 : FVec Ideal S1x128 .f32) (s' : St Ideal) (_ : Cnt s' 48 48 12 12 0 12) (_ : SV vx vw vws vxs 3 4 13 12 s') (_ : ∃ x0, ZV vx vw vws vxs 1536 x0 ∧ r2 = k0_pay312 (F := Ideal) x0), Res c vx vw PT s' iprop(SL c vid vws vxs ∗ R) ⊢ WP c (k ⟨r0, r1, r2, r3⟩) Q) :
    Res c vx vw PT s iprop(SL c vid vws vxs ∗ R) ⊢ WP c (app (k0_part78 (F := Ideal)) v600_r0 >>= k) Q := by
  obtain ⟨x0, x1, f0, f1, rfl⟩ := hF0
  rw [k0_part78_eq_skeleton]
  unfold app k0_part78_skel
  refine s_assoc (ld_wsbV (R' := 3) (n := 3) (DZ := 12) (DL := 12) (hv := ⟨hv.wsb, hv.zt, hv.zo, hv.lse⟩) fun v601_r0 hv601_r0 => ?_)
  refine s_assoc (ld_zt ?_)
  refine s_assoc (st_ztV 1920 (vws := vws) (vxs := vxs) (R' := 3) (n := 3) (DZ := 12) (DL := 12) (xa := 48) (xb := 48) (wa := 12) (wb := 12) (da := 0) (db := 12) ?_ ?_ ?_ ?_ ?_ ?_)
  · exact ⟨hv.wsb, hv.zt, hv.zo, hv.lse⟩
  · exact ⟨hc.xa, hc.xb, hc.wa, hc.wb, hc.da, hc.db⟩
  · exact rfl
  · rfl
  · exact (by have H := slab_hi (i₀ := 1792) f0 f1 hv601_r0; exact H)
  intro s' hv' hc'
  clear hc hv; have hc := hc'; have hv := hv'; clear hc' hv'
  refine s_assoc (ld_ztV 1536 0 (vws := vws) (vxs := vxs) (R' := 3) (n := 4) (DZ := 12) (DL := 12) ?_ ?_ ?_ ?_)
  · exact ⟨hv.wsb, hv.zt, hv.zo, hv.lse⟩
  · exact (by decide)
  · omega
  intro v607_r0 hv607_r0
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV 1536 (vws := vws) (vxs := vxs) (R' := 3) (n := 4) (DZ := 12) (DL := 12) (xa := 48) (xb := 48) (wa := 12) (wb := 12) (da := 0) (db := 12) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := zo_pay hv607_r0; exact H)
  intro s' hv' hc'
  clear hc hv; have hc := hc'; have hv := hv'; clear hc' hv'
  refine s_pure ?_
  exact h _ _ _ _ _ ⟨hc.xa, hc.xb, hc.wa, hc.wb, hc.da, hc.db⟩ ⟨hv.wsb, hv.zt, hv.zo, hv.lse⟩ ⟨_, hv607_r0, rfl⟩

set_option maxRecDepth 65536 in
set_option maxHeartbeats 4000000 in
theorem v79 {v606_r0 : BitVec 32} {v620_r0 : FVec Ideal S1x128 .f32} {v622_r0 : FVec Ideal S1x128 .f32} {v627_r0 : FVec Ideal S1x128 .f32} {k : (BitVec 32) → Prog (TpuEff nD τ sig (Elt Ideal) Λ₀ .tc) β} (hc : Cnt s 48 48 12 12 0 12) (hv : SV vx vw vws vxs 3 4 13 12 s) (hF0 : ∃ x0, ZV vx vw vws vxs 1536 x0 ∧ v622_r0 = k0_pay312 (F := Ideal) x0)
    (h : ∀ (r0 : BitVec 32) (s' : St Ideal) (_ : Cnt s' 48 48 12 12 0 13) (_ : SV vx vw vws vxs 3 4 13 13 s'), Res c vx vw PT s' iprop(SL c vid vws vxs ∗ R) ⊢ WP c (k r0) Q) :
    Res c vx vw PT s iprop(SL c vid vws vxs ∗ R) ⊢ WP c (app (k0_part79 (F := Ideal)) v606_r0 v620_r0 v622_r0 v627_r0 >>= k) Q := by
  obtain ⟨x0, f0, rfl⟩ := hF0
  rw [k0_part79_eq_skeleton]
  unfold app k0_part79_skel
  refine s_assoc (ld_lse ?_)
  refine s_assoc (st_lseV 1536 (vws := vws) (vxs := vxs) (R' := 3) (n := 4) (DZ := 13) (DL := 12) (xa := 48) (xb := 48) (wa := 12) (wb := 12) (da := 0) (db := 12) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 12 (bs hc.da hc.db (by decide)) (by decide) (by decide) (by decide) (by decide) (fun _ _ => trivial) ?_)
  refine s_pure ?_
  exact h _ _ ⟨hc.xa, hc.xb, hc.wa, hc.wb, hc.da, (rfl : _ = 13)⟩ ⟨hv.wsb, hv.zt, hv.zo, hv.lse⟩

set_option maxRecDepth 65536 in
set_option maxHeartbeats 4000000 in
theorem v80 {c640_i32_r0 : BitVec 32} {k : (Σ' (_ : FVec Ideal S1x128 .f32) (_ : FVec Ideal S1x128 .f32) (_ : Vec Ideal S256x128 .f32), FVec Ideal S256x128 .f32) → Prog (TpuEff nD τ sig (Elt Ideal) Λ₀ .tc) β} (hc : Cnt s 48 48 12 12 0 13) (hv : SV vx vw vws vxs 3 4 13 13 s)
    (h : ∀ (r0 : FVec Ideal S1x128 .f32) (r1 : FVec Ideal S1x128 .f32) (r2 : Vec Ideal S256x128 .f32) (r3 : FVec Ideal S256x128 .f32) (s' : St Ideal) (_ : Cnt s' 48 48 12 12 0 13) (_ : SV vx vw vws vxs 3 4 14 14 s'), Res c vx vw PT s' iprop(SL c vid vws vxs ∗ R) ⊢ WP c (k ⟨r0, r1, r2, r3⟩) Q) :
    Res c vx vw PT s iprop(SL c vid vws vxs ∗ R) ⊢ WP c (app (k0_part80 (F := Ideal)) c640_i32_r0 >>= k) Q := by
  rw [k0_part80_eq_skeleton]
  unfold app k0_part80_skel
  refine s_assoc (ld_ztV 1664 1 (vws := vws) (vxs := vxs) (R' := 3) (n := 4) (DZ := 13) (DL := 13) ?_ ?_ ?_ ?_)
  · exact ⟨hv.wsb, hv.zt, hv.zo, hv.lse⟩
  · exact (by decide)
  · omega
  intro v677_r0 hv677_r0
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV 1664 (vws := vws) (vxs := vxs) (R' := 3) (n := 4) (DZ := 13) (DL := 13) (xa := 48) (xb := 48) (wa := 12) (wb := 12) (da := 0) (db := 13) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := zo_pay hv677_r0; exact H)
  intro s' hv' hc'
  clear hc hv; have hc := hc'; have hv := hv'; clear hc' hv'
  refine s_assoc (ld_lse ?_)
  refine s_assoc (st_lseV 1664 (vws := vws) (vxs := vxs) (R' := 3) (n := 4) (DZ := 14) (DL := 13) (xa := 48) (xb := 48) (wa := 12) (wb := 12) (da := 0) (db := 13) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := lse_pay hv677_r0; exact H)
  intro s' hv' hc'
  clear hc hv; have hc := hc'; have hv := hv'; clear hc' hv'
  refine s_assoc (ld_et ?_)
  refine s_pure ?_
  exact h _ _ _ _ _ ⟨hc.xa, hc.xb, hc.wa, hc.wb, hc.da, hc.db⟩ ⟨hv.wsb, hv.zt, hv.zo, hv.lse⟩

set_option maxRecDepth 65536 in
set_option maxHeartbeats 4000000 in
theorem v81 {v692_r0 : FVec Ideal S1x128 .f32} {v697_r0 : FVec Ideal S1x128 .f32} {v713_r0 : Vec Ideal S256x128 .f32} {v714_r0 : FVec Ideal S256x128 .f32} {k : (Σ' (_ : BitVec 32) (_ : FVec Ideal S256x128 .f32) (_ : FVec Ideal S1x128 .f32), FVec Ideal S256x128 .f32) → Prog (TpuEff nD τ sig (Elt Ideal) Λ₀ .tc) β} (hc : Cnt s 48 48 12 12 0 13) (hv : SV vx vw vws vxs 3 4 14 14 s)
    (h : ∀ (r0 : BitVec 32) (r1 : FVec Ideal S256x128 .f32) (r2 : FVec Ideal S1x128 .f32) (r3 : FVec Ideal S256x128 .f32) (s' : St Ideal) (_ : Cnt s' 48 48 12 12 0 14) (_ : SV vx vw vws vxs 3 4 14 14 s') (_ : ∃ x0, ZV vx vw vws vxs 1792 x0 ∧ r1 = k0_pay339 (F := Ideal) x0 ∧ r2 = k0_pay340 (F := Ideal) x0 ∧ r3 = k0_pay341 (F := Ideal) x0), Res c vx vw PT s' iprop(SL c vid vws vxs ∗ R) ⊢ WP c (k ⟨r0, r1, r2, r3⟩) Q) :
    Res c vx vw PT s iprop(SL c vid vws vxs ∗ R) ⊢ WP c (app (k0_part81 (F := Ideal)) v692_r0 v697_r0 v713_r0 v714_r0 >>= k) Q := by
  rw [k0_part81_eq_skeleton]
  unfold app k0_part81_skel
  refine s_assoc (ld_ps ?_)
  refine s_assoc (ld_ps ?_)
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 13 (bs hc.da hc.db (by decide)) (by decide) (by decide) (by decide) (by decide) (fun _ _ => trivial) ?_)
  refine s_assoc (ld_ztV 1792 2 (vws := vws) (vxs := vxs) (R' := 3) (n := 4) (DZ := 14) (DL := 14) ?_ ?_ ?_ ?_)
  · exact ⟨hv.wsb, hv.zt, hv.zo, hv.lse⟩
  · exact (by decide)
  · omega
  intro v747_r0 hv747_r0
  refine s_pure ?_
  exact h _ _ _ _ _ ⟨hc.xa, hc.xb, hc.wa, hc.wb, hc.da, (rfl : _ = 14)⟩ ⟨hv.wsb, hv.zt, hv.zo, hv.lse⟩ ⟨_, hv747_r0, rfl, rfl, rfl⟩

set_option maxRecDepth 65536 in
set_option maxHeartbeats 4000000 in
theorem v82 {v746_r0 : BitVec 32} {v748_r0 : FVec Ideal S256x128 .f32} {v750_r0 : FVec Ideal S1x128 .f32} {v751_r0 : FVec Ideal S256x128 .f32} {k : (Σ' (_ : FVec Ideal S1x128 .f32) (_ : FVec Ideal S1x128 .f32) (_ : FVec Ideal S256x128 .f32), FVec Ideal S256x128 .f32) → Prog (TpuEff nD τ sig (Elt Ideal) Λ₀ .tc) β} (hc : Cnt s 48 48 12 12 0 14) (hv : SV vx vw vws vxs 3 4 14 14 s) (hF0 : ∃ x0, ZV vx vw vws vxs 1792 x0 ∧ v748_r0 = k0_pay339 (F := Ideal) x0 ∧ v750_r0 = k0_pay340 (F := Ideal) x0 ∧ v751_r0 = k0_pay341 (F := Ideal) x0)
    (h : ∀ (r0 : FVec Ideal S1x128 .f32) (r1 : FVec Ideal S1x128 .f32) (r2 : FVec Ideal S256x128 .f32) (r3 : FVec Ideal S256x128 .f32) (s' : St Ideal) (_ : Cnt s' 48 48 12 12 0 14) (_ : SV vx vw vws vxs 3 4 15 15 s'), Res c vx vw PT s' iprop(SL c vid vws vxs ∗ R) ⊢ WP c (k ⟨r0, r1, r2, r3⟩) Q) :
    Res c vx vw PT s iprop(SL c vid vws vxs ∗ R) ⊢ WP c (app (k0_part82 (F := Ideal)) v746_r0 v748_r0 v750_r0 v751_r0 >>= k) Q := by
  obtain ⟨x0, f0, rfl, rfl, rfl⟩ := hF0
  rw [k0_part82_eq_skeleton]
  unfold app k0_part82_skel
  refine s_assoc (ld_et ?_)
  refine s_assoc (st_et ?_)
  refine s_assoc (ld_cf ?_)
  refine s_assoc (ld_aux ?_)
  refine s_assoc (st_aux ?_)
  refine s_assoc (ld_zo ?_)
  refine s_assoc (st_zoV 1792 (vws := vws) (vxs := vxs) (R' := 3) (n := 4) (DZ := 14) (DL := 14) (xa := 48) (xb := 48) (wa := 12) (wb := 12) (da := 0) (db := 14) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := zo_pay f0; exact H)
  intro s' hv' hc'
  clear hc hv; have hc := hc'; have hv := hv'; clear hc' hv'
  refine s_assoc (ld_lse ?_)
  refine s_assoc (st_lseV 1792 (vws := vws) (vxs := vxs) (R' := 3) (n := 4) (DZ := 15) (DL := 14) (xa := 48) (xb := 48) (wa := 12) (wb := 12) (da := 0) (db := 14) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_pure ?_
  exact h _ _ _ _ _ ⟨hc.xa, hc.xb, hc.wa, hc.wb, hc.da, hc.db⟩ ⟨hv.wsb, hv.zt, hv.zo, hv.lse⟩

set_option maxRecDepth 65536 in
set_option maxHeartbeats 4000000 in
theorem v83 {v762_r0 : FVec Ideal S1x128 .f32} {v767_r0 : FVec Ideal S1x128 .f32} {v785_r0 : FVec Ideal S256x128 .f32} {v790_r0 : FVec Ideal S256x128 .f32} {k : (Σ' (_ : BitVec 32) (_ : FVec Ideal S1x128 .f32) (_ : FVec Ideal S256x128 .f32), FVec Ideal S128 .f32) → Prog (TpuEff nD τ sig (Elt Ideal) Λ₀ .tc) β} (hc : Cnt s 48 48 12 12 0 14) (hv : SV vx vw vws vxs 3 4 15 15 s)
    (h : ∀ (r0 : BitVec 32) (r1 : FVec Ideal S1x128 .f32) (r2 : FVec Ideal S256x128 .f32) (r3 : FVec Ideal S128 .f32) (s' : St Ideal) (_ : Cnt s' 48 48 12 12 0 15) (_ : SV vx vw vws vxs 3 4 15 15 s') (_ : ∃ x0, ZV vx vw vws vxs 1920 x0 ∧ r1 = k0_pay357 (F := Ideal) x0 ∧ r3 = k0_pay360 (F := Ideal) x0), Res c vx vw PT s' iprop(SL c vid vws vxs ∗ R) ⊢ WP c (k ⟨r0, r1, r2, r3⟩) Q) :
    Res c vx vw PT s iprop(SL c vid vws vxs ∗ R) ⊢ WP c (app (k0_part83 (F := Ideal)) v762_r0 v767_r0 v785_r0 v790_r0 >>= k) Q := by
  rw [k0_part83_eq_skeleton]
  unfold app k0_part83_skel
  refine s_assoc (st_ps ?_)
  refine s_assoc (ld_cf ?_)
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 14 (bs hc.da hc.db (by decide)) (by decide) (by decide) (by decide) (by decide) (fun _ _ => trivial) ?_)
  refine s_assoc (ld_ztV 1920 3 (vws := vws) (vxs := vxs) (R' := 3) (n := 4) (DZ := 15) (DL := 15) ?_ ?_ ?_ ?_)
  · exact ⟨hv.wsb, hv.zt, hv.zo, hv.lse⟩
  · exact (by decide)
  · omega
  intro v817_r0 hv817_r0
  refine s_assoc (ld_et ?_)
  refine s_assoc (st_et ?_)
  refine s_pure ?_
  exact h _ _ _ _ _ ⟨hc.xa, hc.xb, hc.wa, hc.wb, hc.da, (rfl : _ = 15)⟩ ⟨hv.wsb, hv.zt, hv.zo, hv.lse⟩ ⟨_, hv817_r0, rfl, rfl⟩

set_option maxRecDepth 65536 in
set_option maxHeartbeats 4000000 in
theorem v84 {v816_r0 : BitVec 32} {v820_r0 : FVec Ideal S1x128 .f32} {v823_r0 : FVec Ideal S256x128 .f32} {v827_r0 : FVec Ideal S128 .f32} {k : (Σ' (_ : FVec Ideal S256x128 .f32), FVec Ideal S256x128 .f32) → Prog (TpuEff nD τ sig (Elt Ideal) Λ₀ .tc) β} (hc : Cnt s 48 48 12 12 0 15) (hv : SV vx vw vws vxs 3 4 15 15 s) (hF0 : ∃ x0, ZV vx vw vws vxs 1920 x0 ∧ v820_r0 = k0_pay357 (F := Ideal) x0 ∧ v827_r0 = k0_pay360 (F := Ideal) x0)
    (h : ∀ (r0 : FVec Ideal S256x128 .f32) (r1 : FVec Ideal S256x128 .f32) (s' : St Ideal) (_ : Cnt s' 48 48 12 12 0 15) (_ : SV vx vw vws vxs 3 4 16 16 s'), Res c vx vw PT s' iprop(SL c vid vws vxs ∗ R) ⊢ WP c (k ⟨r0, r1⟩) Q) :
    Res c vx vw PT s iprop(SL c vid vws vxs ∗ R) ⊢ WP c (app (k0_part84 (F := Ideal)) v816_r0 v820_r0 v823_r0 v827_r0 >>= k) Q := by
  obtain ⟨x0, f0, rfl, rfl⟩ := hF0
  rw [k0_part84_eq_skeleton]
  unfold app k0_part84_skel
  refine s_assoc (ld_cf ?_)
  refine s_assoc (ld_aux ?_)
  refine s_assoc (st_aux ?_)
  refine s_assoc (ld_zo ?_)
  refine s_assoc (st_zoV 1920 (vws := vws) (vxs := vxs) (R' := 3) (n := 4) (DZ := 15) (DL := 15) (xa := 48) (xb := 48) (wa := 12) (wb := 12) (da := 0) (db := 15) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := zo_pay f0; exact H)
  intro s' hv' hc'
  clear hc hv; have hc := hc'; have hv := hv'; clear hc' hv'
  refine s_assoc (ld_lse ?_)
  refine s_assoc (st_lseV 1920 (vws := vws) (vxs := vxs) (R' := 3) (n := 4) (DZ := 16) (DL := 15) (xa := 48) (xb := 48) (wa := 12) (wb := 12) (da := 0) (db := 15) ?_ ?_ ?_ ?_ ?_ ?_)
  · exact ⟨hv.wsb, hv.zt, hv.zo, hv.lse⟩
  · exact ⟨hc.xa, hc.xb, hc.wa, hc.wb, hc.da, hc.db⟩
  · exact (by decide)
  · rfl
  · exact (by have H := lse_pay f0; exact H)
  intro s' hv' hc'
  clear hc hv; have hc := hc'; have hv := hv'; clear hc' hv'
  refine s_assoc (ld_et ?_)
  refine s_assoc (ld_ps ?_)
  refine s_assoc (ld_ps ?_)
  refine s_assoc (st_ps ?_)
  refine s_assoc (ld_cf ?_)
  refine s_pure ?_
  exact h _ _ _ ⟨hc.xa, hc.xb, hc.wa, hc.wb, hc.da, hc.db⟩ ⟨hv.wsb, hv.zt, hv.zo, hv.lse⟩

set_option maxRecDepth 65536 in
set_option maxHeartbeats 4000000 in
theorem v85 {v855_r0 : FVec Ideal S256x128 .f32} {v866_r0 : FVec Ideal S256x128 .f32} {k : (FVec Ideal S1x128 .f32) → Prog (TpuEff nD τ sig (Elt Ideal) Λ₀ .tc) β} (hc : Cnt s 48 48 12 12 0 15) (hv : SV vx vw vws vxs 3 4 16 16 s)
    (h : ∀ (r0 : FVec Ideal S1x128 .f32) (s' : St Ideal) (_ : Cnt s' 48 48 12 12 0 16) (_ : SV vx vw vws vxs 3 4 16 16 s'), Res c vx vw PT s' iprop(SL c vid vws vxs ∗ R) ⊢ WP c (k r0) Q) :
    Res c vx vw PT s iprop(SL c vid vws vxs ∗ R) ⊢ WP c (app (k0_part85 (F := Ideal)) v855_r0 v866_r0 >>= k) Q := by
  rw [k0_part85_eq_skeleton]
  unfold app k0_part85_skel
  refine s_assoc (ld_dl (bd hc.db (by decide)) ?_)
  refine s_assoc (st_dl (bd hc.db (by decide)) ?_)
  refine s_assoc (ld_dl (bd hc.db (by decide)) ?_)
  refine s_assoc (st_dl (bd hc.db (by decide)) ?_)
  refine s_assoc (start_d 15 (bs hc.da hc.db (by decide)) (by decide) (by decide) (by decide) (by decide) (fun _ _ => trivial) ?_)
  refine s_assoc (ld_ps ?_)
  refine s_assoc (ld_po ?_)
  refine s_assoc (st_po ?_)
  refine s_assoc (ld_ps ?_)
  refine s_assoc (ld_po ?_)
  refine s_pure ?_
  exact h _ _ ⟨hc.xa, hc.xb, hc.wa, hc.wb, hc.da, (rfl : _ = 16)⟩ ⟨hv.wsb, hv.zt, hv.zo, hv.lse⟩

set_option maxRecDepth 65536 in
set_option maxHeartbeats 4000000 in
theorem v86 {v903_r0 : FVec Ideal S1x128 .f32} {k : (PUnit) → Prog (TpuEff nD τ sig (Elt Ideal) Λ₀ .tc) β} (hc : Cnt s 48 48 12 12 0 16) (hv : SV vx vw vws vxs 3 4 16 16 s)
    (h : ∀ (s' : St Ideal) (s1 : St Ideal) (_ : Cnt s' 48 48 12 12 2 16) (_ : SV vx vw vws vxs 3 4 16 16 s1), Res c vx vw PT s' iprop(SL c vid vws vxs ∗ (OR1 c s1 ∗ R)) ⊢ WP c (k ⟨⟩) Q) :
    Res c vx vw PT s iprop(SL c vid vws vxs ∗ (OR0 c ∗ R)) ⊢ WP c (app (k0_part86 (F := Ideal)) v903_r0 >>= k) Q := by
  rw [k0_part86_eq_skeleton]
  unfold app k0_part86_skel
  simp only [bind_assoc]
  refine st_po ?_
  refine res_swap ?_
  refine outs_small rfl rfl rfl rfl rfl rfl rfl rfl ?_
  refine res_swap ?_
  refine wait_d 0 (bw hc.da hc.db (by decide)) rfl (by decide) ?_
  refine wait_d 1 (bw (rfl : _ = 1) hc.db (by decide)) rfl (by decide) ?_
  refine s_pure ?_
  exact h _ _ ⟨hc.xa, hc.xb, hc.wa, hc.wb, (rfl : _ = 2), hc.db⟩ ⟨hv.wsb, hv.zt, hv.zo, hv.lse⟩

set_option maxRecDepth 65536 in
set_option maxHeartbeats 4000000 in
theorem v87 {k : (PUnit) → Prog (TpuEff nD τ sig (Elt Ideal) Λ₀ .tc) β} (hc : Cnt s 48 48 12 12 2 16)
    (h : ∀ (s' : St Ideal) (_ : Cnt s' 48 48 12 12 8 16), Res c vx vw PT s' iprop(SL c vid vws vxs ∗ R) ⊢ WP c (k ⟨⟩) Q) :
    Res c vx vw PT s iprop(SL c vid vws vxs ∗ R) ⊢ WP c (app (k0_part87 (F := Ideal))  >>= k) Q := by
  rw [k0_part87_eq_skeleton]
  unfold app k0_part87_skel
  refine s_assoc (wait_d 2 (bw hc.da hc.db (by decide)) rfl (by decide) ?_)
  refine s_assoc (wait_d 3 (bw (rfl : _ = 3) hc.db (by decide)) rfl (by decide) ?_)
  refine s_assoc (wait_d 4 (bw (rfl : _ = 4) hc.db (by decide)) rfl (by decide) ?_)
  refine s_assoc (wait_d 5 (bw (rfl : _ = 5) hc.db (by decide)) rfl (by decide) ?_)
  refine s_assoc (wait_d 6 (bw (rfl : _ = 6) hc.db (by decide)) rfl (by decide) ?_)
  refine s_assoc (wait_d 7 (bw (rfl : _ = 7) hc.db (by decide)) rfl (by decide) ?_)
  refine s_pure ?_
  exact h _ ⟨hc.xa, hc.xb, hc.wa, hc.wb, (rfl : _ = 8), hc.db⟩

set_option maxRecDepth 65536 in
set_option maxHeartbeats 4000000 in
theorem v88 {k : (PUnit) → Prog (TpuEff nD τ sig (Elt Ideal) Λ₀ .tc) β} (hc : Cnt s 48 48 12 12 8 16)
    (h : ∀ (s' : St Ideal) (_ : Cnt s' 48 48 12 12 14 16), Res c vx vw PT s' iprop(SL c vid vws vxs ∗ R) ⊢ WP c (k ⟨⟩) Q) :
    Res c vx vw PT s iprop(SL c vid vws vxs ∗ R) ⊢ WP c (app (k0_part88 (F := Ideal))  >>= k) Q := by
  rw [k0_part88_eq_skeleton]
  unfold app k0_part88_skel
  refine s_assoc (wait_d 8 (bw hc.da hc.db (by decide)) rfl (by decide) ?_)
  refine s_assoc (wait_d 9 (bw (rfl : _ = 9) hc.db (by decide)) rfl (by decide) ?_)
  refine s_assoc (wait_d 10 (bw (rfl : _ = 10) hc.db (by decide)) rfl (by decide) ?_)
  refine s_assoc (wait_d 11 (bw (rfl : _ = 11) hc.db (by decide)) rfl (by decide) ?_)
  refine s_assoc (wait_d 12 (bw (rfl : _ = 12) hc.db (by decide)) rfl (by decide) ?_)
  refine s_assoc (wait_d 13 (bw (rfl : _ = 13) hc.db (by decide)) rfl (by decide) ?_)
  refine s_pure ?_
  exact h _ ⟨hc.xa, hc.xb, hc.wa, hc.wb, (rfl : _ = 14), hc.db⟩

end Cert.KernelIdeal.Hand

end
-- ==== Proof.KV.Main.lean ====
/-
# The values: the body

Its parts one after the other.
-/
module

public import proofs.«01_k».proof.Proof.KV.P0
public import proofs.«01_k».proof.Proof.KV.P5
public import proofs.«01_k».proof.Proof.KV.P6
public import proofs.«01_k».proof.Proof.KV.P7

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {c : Dev nD} {α β γ : Type} {Q : β → sProp (MT nD τ sig Unit (Elt Ideal) ℕ (Pipeline.UD sig nD τ) ℕ)}
variable {vx : Con Ideal S2048x12288 .fp8e4m3} {vw : Con Ideal S256x12288 .i8} {P : S2048x256.Idx → Elt Ideal .f32 → Prop} {s : St Ideal} {R : sProp (MT nD τ sig Unit (Elt Ideal) ℕ (Pipeline.UD sig nD τ) ℕ)}

variable {vid : Con Ideal S2x8x1024 .i32} {vws : Con Ideal S1x256 .f32} {vxs : Con Ideal S2x1024 .f32}

theorem s_endV {s1 : St Ideal} (hc : Cnt s 48 48 12 12 16 16) (hv : SV vx vw vws vxs 3 4 16 16 s1) :
    Res c vx vw PT s iprop(SL c vid vws vxs ∗ (OR1 c s1 ∗ R))
      ⊢ iprop(∃ s' s1, ⌜Cnt s' 48 48 12 12 16 16 ∧ SV vx vw vws vxs 3 4 16 16 s1⌝ ∗ Res c vx vw PT s' iprop(SL c vid vws vxs ∗ (OR1 c s1 ∗ R))) := by
  iintro H
  iexists s
  iexists s1
  isplitr
  · ipureintro; exact ⟨hc, hv⟩
  iexact H

set_option maxRecDepth 65536 in
set_option maxHeartbeats 800000 in
/-- The body runs: it ends with all transfers made and waited for, and the results hold what the scratch held when they
    were sent. -/
theorem body_wpV (hc : Cnt s 0 0 0 0 0 0) :
    Res c vx vw PT s iprop(SI0 c vid vws vxs ∗ (OR0 c ∗ R)) ⊢ WP c (app (cc0_router_losses (F := Ideal)))
      (fun _ => iprop(∃ s' s1, ⌜Cnt s' 48 48 12 12 16 16 ∧ SV vx vw vws vxs 3 4 16 16 s1⌝ ∗ Res c vx vw PT s' iprop(SL c vid vws vxs ∗ (OR1 c s1 ∗ R)))) := by
  rw [cc0_router_losses_eq_skeleton]
  unfold app cc0_router_losses_skel
  refine v60 hc fun r0 s' hm hc' => ?_
  clear hc; have hc := hc'; clear hc'
  refine q61 hc fun s' hc' => ?_
  clear hc; have hc := hc'; clear hc'
  refine q62 hc fun s' hc' => ?_
  clear hc; have hc := hc'; clear hc'
  refine q63 hc fun s' hc' => ?_
  clear hc; have hc := hc'; clear hc'
  refine v64 hc fun r0 s' hc' hw' e64 => ?_
  clear hc; have hc := hc'; have hw := hw'; clear hc' hw'
  refine v65 hm hc hw e64 fun r0 r1 s' hm hc' hv' e65 => ?_
  clear hc hw; have hc := hc'; have hv := hv'; clear hc' hv'
  refine v66 hm hc hv e65 fun r0 r1 s' hm hc' hv' e66 => ?_
  clear hc hv; have hc := hc'; have hv := hv'; clear hc' hv'
  refine v67 hm hc hv e66 fun r0 r1 r2 r3 s' hm hc' hv' e67 => ?_
  clear hc hv; have hc := hc'; have hv := hv'; clear hc' hv'
  refine v68 hm hc hv e67 fun r0 r1 s' hm hc' hv' e68 => ?_
  clear hc hv; have hc := hc'; have hv := hv'; clear hc' hv'
  refine v69 hm hc hv e68 fun r0 r1 s' hm hc' hv' e69 => ?_
  clear hc hv; have hc := hc'; have hv := hv'; clear hc' hv'
  refine v70 hm hc hv e69 fun r0 r1 r2 r3 r4 s' hm hc' hv' e70 => ?_
  clear hc hv; have hc := hc'; have hv := hv'; clear hc' hv'
  refine v71 hc hv e70 fun r0 s' hc' hv' => ?_
  clear hc hv; have hc := hc'; have hv := hv'; clear hc' hv'
  refine v72 hm hc hv fun r0 s' hm hc' hv' => ?_
  clear hc hv; have hc := hc'; have hv := hv'; clear hc' hv'
  refine v73 hm hc hv fun r0 r1 s' hm hc' hv' e73 => ?_
  clear hc hv; have hc := hc'; have hv := hv'; clear hc' hv'
  refine v74 hm hc hv e73 fun r0 r1 s' hm hc' hv' => ?_
  clear hc hv; have hc := hc'; have hv := hv'; clear hc' hv'
  refine v75 hm hc hv fun r0 r1 r2 s' hm hc' hv' => ?_
  clear hc hv; have hc := hc'; have hv := hv'; clear hc' hv'
  refine v76 hm hc hv fun r0 r1 r2 s' hm hc' hv' e76 => ?_
  clear hc hv; have hc := hc'; have hv := hv'; clear hc' hv'
  refine v77 hm hc hv e76 fun r0 r1 s' hm hc' hv' e77 => ?_
  clear hc hv; have hc := hc'; have hv := hv'; clear hc' hv'
  refine v78 hc hv e77 fun r0 r1 r2 r3 s' hc' hv' e78 => ?_
  clear hc hv; have hc := hc'; have hv := hv'; clear hc' hv'
  refine v79 hc hv e78 fun r0 s' hc' hv' => ?_
  clear hc hv; have hc := hc'; have hv := hv'; clear hc' hv'
  refine v80 hc hv fun r0 r1 r2 r3 s' hc' hv' => ?_
  clear hc hv; have hc := hc'; have hv := hv'; clear hc' hv'
  refine v81 hc hv fun r0 r1 r2 r3 s' hc' hv' e81 => ?_
  clear hc hv; have hc := hc'; have hv := hv'; clear hc' hv'
  refine v82 hc hv e81 fun r0 r1 r2 r3 s' hc' hv' => ?_
  clear hc hv; have hc := hc'; have hv := hv'; clear hc' hv'
  refine v83 hc hv fun r0 r1 r2 r3 s' hc' hv' e83 => ?_
  clear hc hv; have hc := hc'; have hv := hv'; clear hc' hv'
  refine v84 hc hv e83 fun r0 r1 s' hc' hv' => ?_
  clear hc hv; have hc := hc'; have hv := hv'; clear hc' hv'
  refine v85 hc hv fun r0 s' hc' hv' => ?_
  clear hc hv; have hc := hc'; have hv := hv'; clear hc' hv'
  refine v86 hc hv fun s' s1 hc' hv' => ?_
  clear hc hv; have hc := hc'; have hz := hv'; clear hc' hv'
  refine v87 hc fun s' hc' => ?_
  clear hc; have hc := hc'; clear hc'
  refine v88 hc fun s' hc' => ?_
  clear hc; have hc := hc'; clear hc'
  refine wait_d 14 (bw hc.da hc.db (by decide)) rfl (by decide) ?_
  refine wait_d 15 (bw (rfl : _ = 15) hc.db (by decide)) rfl (by decide) ?_
  refine s_exit (MxOk.drained (hm).ok (by decide) (by decide)) ?_
  exact s_done (s_endV ⟨hc.xa, hc.xb, hc.wa, hc.wb, rfl, hc.db⟩ hz)

end Cert.KernelIdeal.Hand

end
-- ==== Proof.KV.Launch.lean ====
/-
# The launch, with values

The region around the body once more, its results named: every token's penalty and normaliser.
-/
module

public import proofs.«01_k».proof.Proof.KV.Main
public import proofs.«01_k».proof.Proof.KI.Region
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

open Idealize.ShloMosaic.Pipeline (Dat Cfg Window BodyObligation cellOf)

variable (m : (ℓ : Loc nD τ sig) → Buf (Elt Ideal) ℓ) (ρ : Dev nD → PrngReg)

/-- What the call returns at token `(a, b)` of the penalties: the penalty of row `1024 a + b`. -/
def zoV (c : Dev nD) : Con Ideal S2x1024 .f32 := fun i => zoN (V m c main_v0) (V m c main_arg2) (V m c main_v1) (V m c main_arg1) (1024 * (i 0).val + (i 1).val)
/-- What it returns of the normalisers. -/
def lseV (c : Dev nD) : Con Ideal S2x1024 .f32 := fun i => lseN (V m c main_v0) (V m c main_arg2) (V m c main_v1) (V m c main_arg1) (1024 * (i 0).val + (i 1).val)

theorem at_token {f : Con Ideal S2x1024 .f32} {g : ℕ → EReal} (h : ∀ i < 128 * 16, f (ix2 (Fin.ofNat 2 (i / 1024)) (Fin.ofNat 1024 (i % 1024))) = g i) :
    f = fun i => g (1024 * (i 0).val + (i 1).val) := by
  funext i
  have h0 : (i 0).val < 2 := (i 0).isLt
  have h1 : (i 1).val < 1024 := (i 1).isLt
  rw [← h _ (by omega)]
  congr 1
  funext a
  match a with
  | 0 => exact Fin.ext (by show (i 0).val = (1024 * (i 0).val + (i 1).val) / 1024 % 2; omega)
  | 1 => exact Fin.ext (by show (i 1).val = (1024 * (i 0).val + (i 1).val) % 1024 % 1024; omega)

/-- What is claimed of the buffers written. -/
def Said (c : Dev nD) (W : (b : Ref sig .tc) → Buf (Elt Ideal) ((c.tc : Thread nD τ).loc b)) : Prop :=
  (W main_v3_1 : Con Ideal S2x1024 .f32) = zoV m c ∧ (W main_v3_3 : Con Ideal S2x1024 .f32) = lseV m c

/-- The contents `V` with the five results put in. -/
def withFive {c : Dev nD} (V : (b : Ref sig .tc) → Buf (Elt Ideal) ((c.tc : Thread nD τ).loc b)) (f0 : Buf (Elt Ideal) ((c.tc : Thread nD τ).loc main_v3_0))
    (f1 : Buf (Elt Ideal) ((c.tc : Thread nD τ).loc main_v3_1)) (f2 : Buf (Elt Ideal) ((c.tc : Thread nD τ).loc main_v3_2))
    (f3 : Buf (Elt Ideal) ((c.tc : Thread nD τ).loc main_v3_3)) (f4 : Buf (Elt Ideal) ((c.tc : Thread nD τ).loc main_v3_4)) :
    (b : Ref sig .tc) → Buf (Elt Ideal) ((c.tc : Thread nD τ).loc b) :=
  Function.update (Function.update (Function.update (Function.update (Function.update V main_v3_0 f0) main_v3_1 f1) main_v3_2 f2) main_v3_3 f3) main_v3_4 f4

section
variable {c : Dev nD} {V : (b : Ref sig .tc) → Buf (Elt Ideal) ((c.tc : Thread nD τ).loc b)} {f0 : Buf (Elt Ideal) ((c.tc : Thread nD τ).loc main_v3_0)}
    {f1 : Buf (Elt Ideal) ((c.tc : Thread nD τ).loc main_v3_1)} {f2 : Buf (Elt Ideal) ((c.tc : Thread nD τ).loc main_v3_2)}
    {f3 : Buf (Elt Ideal) ((c.tc : Thread nD τ).loc main_v3_3)} {f4 : Buf (Elt Ideal) ((c.tc : Thread nD τ).loc main_v3_4)}
theorem five0 : withFive V f0 f1 f2 f3 f4 main_v3_0 = f0 := by
  unfold withFive
  rw [Function.update_of_ne (by decide), Function.update_of_ne (by decide), Function.update_of_ne (by decide), Function.update_of_ne (by decide), Function.update_self]
theorem five1 : withFive V f0 f1 f2 f3 f4 main_v3_1 = f1 := by
  unfold withFive
  rw [Function.update_of_ne (by decide), Function.update_of_ne (by decide), Function.update_of_ne (by decide), Function.update_self]
theorem five2 : withFive V f0 f1 f2 f3 f4 main_v3_2 = f2 := by
  unfold withFive
  rw [Function.update_of_ne (by decide), Function.update_of_ne (by decide), Function.update_self]
theorem five3 : withFive V f0 f1 f2 f3 f4 main_v3_3 = f3 := by
  unfold withFive
  rw [Function.update_of_ne (by decide), Function.update_self]
theorem five4 : withFive V f0 f1 f2 f3 f4 main_v3_4 = f4 := by
  unfold withFive
  rw [Function.update_self]
end

/-- The region's proof data: before the call the buffers as found, after it the results as said. -/
def datsV (_ : Fin 1) (c : Dev nD) : Dat τ (Elt Ideal) Unit ℕ (Pipeline.UD sig nD τ) ℕ cfg0 c where
  A w := w.elim0
  after w _ := w.elim0
  Φ t := if t.val = 0 then Pipeline.ΦDRG osem0 (cfg0.spec) H0 R0 (V m) (V m) c
    else iprop(Pipeline.ΦD osem0 (cfg0.spec) H0 (V m) c ∗ Pipeline.routedSat R0 c (Said m c))
  q _ := fullShare
  owed _ := 0

theorem phi_start (c : Dev nD) (t : Fin (cfg0.N + 1)) (h : t.val = 0) : (datsV m 0 c).Φ t = Pipeline.ΦDRG osem0 (cfg0.spec) H0 R0 (V m) (V m) c := if_pos h
theorem phi_end (c : Dev nD) (t : Fin (cfg0.N + 1)) (h : t.val ≠ 0) : (datsV m 0 c).Φ t
    = iprop(Pipeline.ΦD osem0 (cfg0.spec) H0 (V m) c ∗ Pipeline.routedSat R0 c (Said m c)) := if_neg h

theorem one_point (t : Fin cfg0.N) : t.val = 0 := by
  have h : cfg0.N = 1 := by decide
  have := t.isLt
  omega

theorem sound_bodyV (c : Dev nD) (t : Fin cfg0.N) :
    iprop((datsV m 0 c).Φ t.castSucc ∗ (datsV m 0 c).owesAt () t.castSucc)
      ⊢ wp Idealize.ShloMosaic.frame (wpE (defs₀ (F := Ideal)) Variants.none c none) Set.univ (bodyAt0 t) (fun _ => iprop((datsV m 0 c).Φ t.succ ∗ (datsV m 0 c).owesAt () t.succ)) := by
  rw [phi_start m c t.castSucc (one_point t), phi_end m c t.succ (Nat.succ_ne_zero _)]
  unfold Dat.owesAt Pipeline.owesWithin
  rw [show (datsV m 0 c).owed t.castSucc = 0 from rfl, show (datsV m 0 c).owed t.succ = 0 from rfl]
  refine BIBase.Entails.trans (Q := iprop(∃ s, ⌜Cnt s 0 0 0 0 0 0⌝ ∗ Res c (V m c main_v0) (V m c main_arg2) PT s
      iprop(SI0 c (V m c main_v2) (V m c main_v1) (V m c main_arg1) ∗ (OR0 c ∗ (∃ r, prngReg c r))))) ?_ ?_
  · refine BIBase.Entails.trans ?_ (enter c (V m c) PT iprop(∃ r, prngReg c r))
    unfold Given
    iintro ⟨HΦ, ⟨%W, -, HW⟩⟩
    ihave HΦ' := ((Pipeline.ΦDRG_ΦDR osem0 (cfg0.spec) H0 R0 (V m) (V m) c).trans (Entails.of_eq (Pipeline.ΦDR_eq osem0 (cfg0.spec) H0 R0 (V m) c))) $$ HΦ
    icases HΦ' with ⟨Hsc, Hg, Hos, HH, HR⟩
    isplitl [Hsc Hos HH HR]
    · isplitl [Hsc]; · iexact Hsc
      isplitl [Hos]; · iexact Hos
      isplitl [HH]; · iexact HH
      iexact HR
    isplitl [HW]; · iexists W; iexact HW
    iexact Hg
  · iintro ⟨%s, %hc, HRes⟩
    iapply ((body_wpV (vid := V m c main_v2) (vws := V m c main_v1) (vxs := V m c main_arg1) (R := iprop(∃ r, prngReg c r)) hc).trans (wp_mono _ _ _ fun x => ?_)) $$ HRes
    iintro ⟨%s', %s1, %hcv, HRes⟩
    obtain ⟨hc', hv⟩ := hcv
    ihave H := (show Res c (V m c main_v0) (V m c main_arg2) PT s' iprop(SL c (V m c main_v2) (V m c main_v1) (V m c main_arg1) ∗ (OR1 c s1 ∗ (∃ r, prngReg c r))) ⊢ _ from
      leave c (V m c) PT s' hc' iprop(pt c mHaux Finset.univ s1.aux) iprop(pt c mHzo Finset.univ s1.zo) iprop(pt c mHp Finset.univ s1.po)
        iprop(pt c mHlse Finset.univ s1.lse) iprop(∃ r, prngReg c r)) $$ HRes
    unfold Given
    icases H with ⟨⟨Hsc, Hos, HH, ⟨O0, O1, O2, O3, ⟨%f, -, O4⟩⟩⟩, ⟨%W, HW⟩, Hg⟩
    isplitr [HW]
    · isplitl [Hsc Hos HH Hg]
      · rw [Pipeline.ΦD_eq]
        isplitl [Hsc]; · iexact Hsc
        isplitl [Hg]; · iexact Hg
        isplitl [Hos]; · iexact Hos
        iexact HH
      unfold Pipeline.routedSat Pipeline.routed
      iexists (withFive (V m c) s1.aux s1.zo s1.po s1.lse f)
      isplitr
      · ipureintro
        unfold Said
        rw [five1, five3]
        exact ⟨at_token hv.zo, at_token hv.lse⟩
      rw [R0_eq, five0, five1, five2, five3, five4]
      isplitl [O0]; · iexact O0
      isplitl [O1]; · iexact O1
      isplitl [O2]; · iexact O2
      isplitl [O3]; · iexact O3
      iexact O4
    iexists W; isplitr
    · ipureintro; exact fun _ _ => Or.inl trivial
    iexact HW

theorem body_obligationV (c : Dev nD) : BodyObligation (datsV m 0 c) (defs₀ (F := Ideal)) Variants.none () Set.univ := fun t => by
  rw [show (Finset.univ : Finset (Fin cfg0.W)) = ∅ from rfl, bigSep_empty, bigSep_empty, defs₀_row]
  exact triple_restated (sound_bodyV m c t) rfl (by iintro ⟨Ha, Hb, -⟩; isplitl [Ha]; · iexact Ha
                                                    iexact Hb) fun _ => (by iintro ⟨Ha, Hb⟩; isplitl [Ha]; · iexact Ha
                                                                            isplitl [Hb]; · iexact Hb
                                                                            iempintro)

theorem rest_sub : Pipeline.restRefs sig (cfg0.spec) ⊆ Pipeline.restRefsP sig Pipeline.Prefetch.none (cfg0.spec) :=
  fun b hb => Finset.mem_sdiff.mpr ⟨hb, fun h => ((Finset.mem_image.mp h).elim fun k _ => k.elim0)⟩

set_option backward.isDefEq.respectTransparency.types false in
theorem run_mainV : θ_run defs (onTc (τ := τ) (main (F := Ideal))) (s₀ m ρ) (fun r =>
    Pipeline.RDat.FramePostR cfg0 (fun c => (datsV m 0 c).toR) R0 (V m) r
      ∧ ∀ c : Dev nD, ∃ W : (b : Ref sig .tc) → Buf (Elt Ideal) ((c.tc : Thread nD τ).loc b),
          Said m c W ∧ ∀ b ∈ R0, r.2.mem ((c.tc : Thread nD τ).loc b) = W b) :=
  Pipeline.RDat.θ_run_frameP_dmaRSat_shared (fun q => (cfgs q).toPCfg (Val := Elt Ideal)) (fun q => (cfgs q).toPCfg_adm) (0 : Fin 1) launch0.toP.to₀ osem0 defs₀ Variants.none
    (fun c => (datsV m 0 c).toR) ownSemFacts0 H0 R0 (H0_sub.trans rest_sub) (R0_sub.trans (Finset.sdiff_subset_sdiff rest_sub subset_rfl)) m ρ main
    (fun c => (body_obligationV m c).loose.toR) (fun c w => w.elim0) (fun _ _ => rfl) (V m) (hmainD m Variants.none) (fun c w => w.elim0) (fun _ k => k.elim0)
    (Said m)
    (fun c => (show _ ⊢ Pipeline.ΦDRG osem0 (cfg0.spec) H0 R0 (V m) (V m) c from by iintro ⟨H, -⟩; iexact H).trans (Entails.of_eq (phi_start m c 0 rfl).symm))
    (fun c => Entails.of_eq (phi_end m c (Fin.last _) (by decide)))

/-- The run ends with every token's penalty and normaliser in the second and the fourth result, its arguments unchanged. -/
theorem run_values : θ_run defs (onTc (τ := τ) (main (F := Ideal))) ⟨m, fun _ => 0, ρ⟩ (fun r => ∀ c : Dev nD,
      r.2.mem ((c.tc : Thread nD τ).loc main_v3_1) = zoV m c
      ∧ r.2.mem ((c.tc : Thread nD τ).loc main_v3_3) = lseV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨W, ⟨h1, h3⟩, hW⟩ := h.2 c
    have k := (Pipeline.RDat.FramePostR.toDat cfgs (datsV m) 0 R0 (V m) r h.1 c).2
    exact ⟨(hW main_v3_1 (by decide)).trans h1, (hW main_v3_3 (by decide)).trans h3,
      (k main_arg0 (Finset.mem_sdiff.mpr ⟨Pipeline.mem_restRefs_of main_arg0 (by decide) (by decide), by decide⟩)).trans (V_main_arg0 m c),
      (k main_arg1 (Finset.mem_sdiff.mpr ⟨Pipeline.mem_restRefs_of main_arg1 (by decide) (by decide), by decide⟩)).trans (V_main_arg1 m c),
      (k main_arg2 (Finset.mem_sdiff.mpr ⟨Pipeline.mem_restRefs_of main_arg2 (by decide) (by decide), by decide⟩)).trans (V_main_arg2 m c),
      (k main_arg3 (Finset.mem_sdiff.mpr ⟨Pipeline.mem_restRefs_of main_arg3 (by decide) (by decide), by decide⟩)).trans (V_main_arg3 m c),
      (k main_arg4 (Finset.mem_sdiff.mpr ⟨Pipeline.mem_restRefs_of main_arg4 (by decide) (by decide), by decide⟩)).trans (V_main_arg4 m c)⟩) (run_mainV m ρ)

end Cert.KernelIdeal.Hand

end
-- ==== Proof.KV.Ref.lean ====
/-
# What the reference computes

The reference's arrays read at a token: the logits' normaliser and its penalty.
-/
module

public import proofs.«01_k».proof.Proof.Gen.ReferenceIdeal.Value
public import Idealize.ShloMosaic.Lib.Pointwise
public import Idealize.ShloMosaic.Lib.MatmulPlain

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-! ## The body, in three steps -/

/-- The products of the tokens with the experts. -/
def prod (x : Vec Ideal S2048x12288 .fp8e4m3) (w : Vec Ideal S256x12288 .i8) : FVec Ideal S2048x256 .f32 :=
  matmul dot_S2048x12288_S256x12288_S2048x256_1_1_0_0_n_n none (extf .bf16 (shapeCast S2048x12288 x shapeCasts_S2048x12288_S2048x12288 : FVec Ideal S2048x12288 .fp8e4m3) bitsLt_fp8e4m3_bf16)
    (sitofp .bf16 w) (constant S2048x256 .f32 0x00000000#32)

/-- The logits. -/
def logits (d : FVec Ideal S2048x256 .f32) (xs : Vec Ideal S2x1024 .f32) (ws : Vec Ideal S256 .f32) : FVec Ideal S2x1024x256 .f32 :=
  mulf (mulf (shapeCast S2x1024x256 d shapeCasts_S2048x256_S2x1024x256) (broadcastTo S2x1024x256 (shapeCast S2x1024x1 xs shapeCasts_S2x1024_S2x1024x1 : FVec Ideal S2x1024x1 .f32) broadcasts_S2x1024x1_S2x1024x256))
    (broadcastTo S2x1024x256 (shapeCast S1x1x256 ws shapeCasts_S256_S1x1x256 : FVec Ideal S1x1x256 .f32) broadcasts_S1x1x256_S2x1024x256)

/-- Each token's greatest logit. -/
def top (z : FVec Ideal S2x1024x256 .f32) : FVec Ideal S2x1024 .f32 :=
  multiReduction .maximumf [2] S2x1024 z 0xFF800000#32 reduces_S2x1024x256_S2x1024 (.inl rfl) rfl

/-- Each token's normaliser. -/
def norm (z : FVec Ideal S2x1024x256 .f32) : FVec Ideal S2x1024 .f32 :=
  addf (log (multiReduction .add [2] S2x1024 (exp (subf z (broadcastTo S2x1024x256 (shapeCast S2x1024x1 (top z) shapeCasts_S2x1024_S2x1024x1 : FVec Ideal S2x1024x1 .f32) broadcasts_S2x1024x1_S2x1024x256)))
    0x00000000#32 reduces_S2x1024x256_S2x1024 (.inl rfl) rfl)) (top z)

theorem pay1_eq (x : Vec Ideal S2048x12288 .fp8e4m3) (w : Vec Ideal S256x12288 .i8) (xs : Vec Ideal S2x1024 .f32) (ws : Vec Ideal S256 .f32) :
    k0_pay1 x w xs ws = norm (logits (prod x w) xs ws) := rfl

/-! ## Each at an index -/

theorem prod_at (x : Vec Ideal S2048x12288 .fp8e4m3) (w : Vec Ideal S256x12288 .i8) (i : Fin 2048) (e : Fin 256) :
    (prod x w (ix2 i e) : EReal) = ∑ k : Fin 12288, (x (ix2 i k) : EReal) * (((w (ix2 e k) : BitVec 8).toInt : ℝ) : EReal) := by
  pointwise [prod]
  rfl

theorem logits_at (d : FVec Ideal S2048x256 .f32) (xs : Vec Ideal S2x1024 .f32) (ws : Vec Ideal S256 .f32) (a : Fin 2) (b : Fin 1024) (e : Fin 256) :
    (logits d xs ws (ix3 a b e) : EReal) = d (ix2 ⟨a.val * 1024 + b.val, by omega⟩ e) * xs (ix2 a b) * ws (ix1 e) := by
  pointwise [logits]

theorem top_at (z : FVec Ideal S2x1024x256 .f32) (a : Fin 2) (b : Fin 1024) :
    (top z (ix2 a b) : EReal) = (Finset.univ : Finset (Fin 256)).fold max (FloatOps.ofBits (F := Ideal) .f32 0xFF800000#32 : EReal) fun e => z (ix3 a b e) := by
  pointwise [top]

theorem norm_at (z : FVec Ideal S2x1024x256 .f32) (a : Fin 2) (b : Fin 1024) :
    (norm z (ix2 a b) : EReal) = Ideal.log (∑ e : Fin 256, Ideal.exp (z (ix3 a b e) - top z (ix2 a b))) + top z (ix2 a b) := by
  pointwise [norm]

theorem pay2_at (x : Vec Ideal S2048x12288 .fp8e4m3) (w : Vec Ideal S256x12288 .i8) (xs : Vec Ideal S2x1024 .f32) (ws : Vec Ideal S256 .f32) (a : Fin 2) (b : Fin 1024) :
    (k0_pay2 x w xs ws (ix2 a b) : EReal) = (FloatOps.ofBits (F := Ideal) .f32 0x3503126F#32 : EReal) * ((k0_pay1 x w xs ws (ix2 a b) : EReal) * k0_pay1 x w xs ws (ix2 a b)) := by
  unfold k0_pay2
  generalize k0_pay1 x w xs ws = y
  pointwise

/-! ## The arrays after the run -/

variable (m : (ℓ : Loc nD τ sig) → Buf (Elt Ideal) ℓ)

/-- The one grid point. -/
def t₀ : Fin cfg0.N := ⟨0, by decide⟩

theorem block0 (c : Dev nD) : iblk m c 0 t₀ = (V m c main_v0 : S2048x12288.Idx → EReal) := by
  have hz : (fun a => win0_0.index t₀ a * main_v0.ty.shape.size a) = fun _ => 0 := funext fun a => by fin_cases a <;> decide
  exact Memref.read_access_unit_zero (Elt Ideal) main_v0 hz _ _
theorem block1 (c : Dev nD) : iblk m c 1 t₀ = (V m c main_arg1 : S2x1024.Idx → EReal) := by
  have hz : (fun a => win0_1.index t₀ a * main_arg1.ty.shape.size a) = fun _ => 0 := funext fun a => by fin_cases a <;> decide
  exact Memref.read_access_unit_zero (Elt Ideal) main_arg1 hz _ _
theorem block2 (c : Dev nD) : iblk m c 2 t₀ = (V m c main_arg2 : S256x12288.Idx → BitVec 8) := by
  have hz : (fun a => win0_2.index t₀ a * main_arg2.ty.shape.size a) = fun _ => 0 := funext fun a => by fin_cases a <;> decide
  exact Memref.read_access_unit_zero (Elt Ideal) main_arg2 hz _ _
theorem block3 (c : Dev nD) : iblk m c 3 t₀ = (V m c main_arg3 : S256.Idx → EReal) := by
  have hz : (fun a => win0_3.index t₀ a * main_arg3.ty.shape.size a) = fun _ => 0 := funext fun a => by fin_cases a <;> decide
  exact Memref.read_access_unit_zero (Elt Ideal) main_arg3 hz _ _

theorem final4 (c : Dev nD) : (dats m 0 c).arrAt 4 cfg0.N = (k0_pay2 (V m c main_v0) (V m c main_arg2) (V m c main_arg1) (V m c main_arg3) : S2x1024.Idx → EReal) := by
  have hz : (fun a => win0_4.index t₀ a * main_v1_0.ty.shape.size a) = fun _ => 0 := funext fun a => by fin_cases a <;> decide
  have h := Value.blocks4 m c t₀ (by decide)
  rw [Value.flushed4, block0, block1, block2, block3] at h
  refine (Memref.read_access_unit_zero (Elt Ideal) main_v1_0 hz _ _).symm.trans (h.trans ?_)
  unfold out0_4
  rw [View.canon_unit_zero (by decide), View.ld_unit_zero (by decide), View.ld_unit_zero (by decide), View.ld_unit_zero (by decide), View.ld_unit_zero (by decide)]
  rfl

theorem final5 (c : Dev nD) : (dats m 0 c).arrAt 5 cfg0.N = (k0_pay1 (V m c main_v0) (V m c main_arg2) (V m c main_arg1) (V m c main_arg3) : S2x1024.Idx → EReal) := by
  have hz : (fun a => win0_5.index t₀ a * main_v1_1.ty.shape.size a) = fun _ => 0 := funext fun a => by fin_cases a <;> decide
  have h := Value.blocks5 m c t₀ (by decide)
  rw [Value.flushed5, block0, block1, block2, block3] at h
  refine (Memref.read_access_unit_zero (Elt Ideal) main_v1_1 hz _ _).symm.trans (h.trans ?_)
  unfold out0_5
  rw [View.canon_unit_zero (by decide), View.ld_unit_zero (by decide), View.ld_unit_zero (by decide), View.ld_unit_zero (by decide), View.ld_unit_zero (by decide)]
  rfl

end Cert.ReferenceIdeal.Hand

end
-- ==== Proof.KV.Eq.lean ====
/-
# The equation

The kernel's sums, cut in blocks of columns, are the reference's; so are its normalisers and its penalties.
-/
module

public import proofs.«01_k».proof.Proof.KV.Num
public import proofs.«01_k».proof.Proof.KV.Ref

@[expose] public section

noncomputable section

namespace Cert.Equation

open Idealize.ShloMosaic Idealize.ShloMosaic.TcCoe
open Cert.KernelIdeal.Hand (Con xN wN xsN wsN dotN zN topN lseN zoN)
open Cert.KernelIdeal (S2048x12288 S256x12288 S2x1024 S1x256)
open Cert.ReferenceIdeal.Hand (prod logits top norm)
open Cert.ReferenceIdeal (S256)

variable (x : Con Ideal S2048x12288 .fp8e4m3) (w : Con Ideal S256x12288 .i8) (xs : Con Ideal S2x1024 .f32) (ws : Con Ideal S1x256 .f32) (wr : Vec Ideal S256 .f32)

theorem dot_eq (i : Fin 2048) (e : Fin 256) : dotN x w i.val e.val 48 = (prod x w (ix2 i e) : EReal) := by
  rw [Cert.ReferenceIdeal.Hand.prod_at, Fin.sum_univ_tiles 48 256 (by decide)]
  unfold dotN
  rw [Finset.sum_range fun k => ∑ j : Fin 256, wN w e.val (256 * k + j.val) * xN x i.val (256 * k + j.val)]
  refine Finset.sum_congr rfl fun k _ => Finset.sum_congr rfl fun j _ => ?_
  have hk := k.isLt
  have hj := j.isLt
  rw [mul_comm]
  have e0 : Fin.ofNat 2048 i.val = i := Fin.ext (Nat.mod_eq_of_lt i.isLt)
  have e1 : Fin.ofNat 256 e.val = e := Fin.ext (Nat.mod_eq_of_lt e.isLt)
  have e2 : ∀ h, Fin.ofNat 12288 (256 * k.val + j.val) = ⟨k.val * 256 + j.val, h⟩ := fun h => Fin.ext (by show (256 * k.val + j.val) % 12288 = k.val * 256 + j.val; omega)
  unfold xN wN
  rw [e0, e1, e2 (by omega)]

variable (hw : ∀ e : Fin 256, (ws (ix2 0 e) : EReal) = wr (ix1 e))

include hw

theorem logit_eq (a : Fin 2) (b : Fin 1024) (e : Fin 256) :
    zN x w ws xs (1024 * a.val + b.val) e.val = (logits (prod x w) xs wr (ix3 a b e) : EReal) := by
  have ha := a.isLt
  have hb := b.isLt
  rw [Cert.ReferenceIdeal.Hand.logits_at, ← dot_eq, ← hw]
  unfold zN xsN wsN
  have e0 : Fin.ofNat 2 ((1024 * a.val + b.val) / 1024) = a := Fin.ext (by show (1024 * a.val + b.val) / 1024 % 2 = a.val; omega)
  have e1 : Fin.ofNat 1024 ((1024 * a.val + b.val) % 1024) = b := Fin.ext (by show (1024 * a.val + b.val) % 1024 % 1024 = b.val; omega)
  have e2 : Fin.ofNat 256 e.val = e := Fin.ext (Nat.mod_eq_of_lt e.isLt)
  rw [e0, e1, e2, Nat.mul_comm 1024 a.val]

theorem top_eq (a : Fin 2) (b : Fin 1024) : topN x w ws xs (1024 * a.val + b.val) = (top (logits (prod x w) xs wr) (ix2 a b) : EReal) := by
  rw [Cert.ReferenceIdeal.Hand.top_at]
  exact Finset.fold_congr fun e _ => logit_eq x w xs ws wr hw a b e

theorem lse_eq (a : Fin 2) (b : Fin 1024) : lseN x w ws xs (1024 * a.val + b.val) = (Cert.ReferenceIdeal.Gen.k0_pay1 x w xs wr (ix2 a b) : EReal) := by
  rw [Cert.ReferenceIdeal.Hand.pay1_eq, Cert.ReferenceIdeal.Hand.norm_at]
  refine Eq.trans ?_ (add_comm _ _)
  unfold lseN
  rw [top_eq x w xs ws wr hw]
  exact congrArg (fun u : EReal => top (logits (prod x w) xs wr) (ix2 a b) + Ideal.log u) (Finset.sum_congr rfl fun e _ => by rw [logit_eq x w xs ws wr hw])

theorem zo_eq (a : Fin 2) (b : Fin 1024) : zoN x w ws xs (1024 * a.val + b.val) = (Cert.ReferenceIdeal.Gen.k0_pay2 x w xs wr (ix2 a b) : EReal) := by
  rw [Cert.ReferenceIdeal.Hand.pay2_at]
  unfold zoN
  rw [lse_eq x w xs ws wr hw]

theorem lse_all : (fun i => lseN x w ws xs (1024 * (i 0).val + (i 1).val) : Con Ideal S2x1024 .f32) = Cert.ReferenceIdeal.Gen.k0_pay1 x w xs wr := by
  funext i
  rw [show i = ix2 (i 0) (i 1) from by funext a; match a with | 0 => rfl | 1 => rfl]
  exact lse_eq x w xs ws wr hw (i 0) (i 1)

theorem zo_all : (fun i => zoN x w ws xs (1024 * (i 0).val + (i 1).val) : Con Ideal S2x1024 .f32) = Cert.ReferenceIdeal.Gen.k0_pay2 x w xs wr := by
  funext i
  rw [show i = ix2 (i 0) (i 1) from by funext a; match a with | 0 => rfl | 1 => rfl]
  exact zo_eq x w xs ws wr hw (i 0) (i 1)

end Cert.Equation

end
-- ==== Proof.Algebraic.lean ====
/-
# The kernel's penalties and normalisers are the reference's

The two runs, their arguments alike, end in the same two arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KV.Launch
public import proofs.«01_k».proof.Proof.KV.Eq

@[expose] public section

noncomputable section

namespace Cert.Proof

open Idealize.ShloMosaic Idealize.ShloMosaic.TcCoe Idealize.SL.Sem

section Host
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The kernel's activations: the argument laid out as rows. -/
theorem kernel_rows (c : Dev Cert.KernelIdeal.nD) : Cert.KernelIdeal.Gen.V m c Cert.KernelIdeal.main_v0
    = (shapeCast Cert.KernelIdeal.S2048x12288 (m ((c.tc : Thread Cert.KernelIdeal.nD Cert.KernelIdeal.τ).loc Cert.KernelIdeal.main_arg0) : Cert.KernelIdeal.S2x1024x12288.Idx → EReal)
        Cert.KernelIdeal.Gen.shapeCasts_S2x1024x12288_S2048x12288 : Cert.KernelIdeal.S2048x12288.Idx → EReal) := by
  show StableHlo.after Cert.KernelIdeal.Gen.hostOps0 _ _ = _
  after_region_results
  rfl

/-- The kernel's weight scales: the argument as one row. -/
theorem kernel_scales (c : Dev Cert.KernelIdeal.nD) : Cert.KernelIdeal.Gen.V m c Cert.KernelIdeal.main_v1
    = (shapeCast Cert.KernelIdeal.S1x256 (m ((c.tc : Thread Cert.KernelIdeal.nD Cert.KernelIdeal.τ).loc Cert.KernelIdeal.main_arg3) : Cert.KernelIdeal.S256.Idx → EReal)
        Cert.KernelIdeal.Gen.shapeCasts_S256_S1x256 : Cert.KernelIdeal.S1x256.Idx → EReal) := by
  show StableHlo.after Cert.KernelIdeal.Gen.hostOps0 _ _ = _
  after_region_results
  rfl

/-- The reference's activations. -/
theorem reference_rows (c : Dev Cert.ReferenceIdeal.nD) : Cert.ReferenceIdeal.Gen.V m' c Cert.ReferenceIdeal.main_v0
    = (shapeCast Cert.ReferenceIdeal.S2048x12288 (m' ((c.tc : Thread Cert.ReferenceIdeal.nD Cert.ReferenceIdeal.τ).loc Cert.ReferenceIdeal.main_arg0) : Cert.ReferenceIdeal.S2x1024x12288.Idx → EReal)
        Cert.ReferenceIdeal.Gen.shapeCasts_S2x1024x12288_S2048x12288 : Cert.ReferenceIdeal.S2048x12288.Idx → EReal) := by
  show StableHlo.after Cert.ReferenceIdeal.Gen.hostOps0 _ _ = _
  after_region_results
  rfl
end Host

theorem scale_at (w : Cert.KernelIdeal.S256.Idx → EReal) (e : Fin 256) :
    (shapeCast Cert.KernelIdeal.S1x256 w Cert.KernelIdeal.Gen.shapeCasts_S256_S1x256 : Cert.KernelIdeal.S1x256.Idx → EReal) (ix2 0 e) = w (ix1 e) := by
  pointwise

theorem algebraic : Cert.algebraic_KernelIdeal_ReferenceIdeal (hKernelIdeal := Cert.KernelIdeal.Gen.facts) (hReferenceIdeal := Cert.ReferenceIdeal.Gen.facts) := by
  intro m g m' g' _ agree
  refine ⟨fun c => Cert.KernelIdeal.Hand.zoV m c, fun c => Cert.KernelIdeal.Hand.lseV m c, Cert.KernelIdeal.Hand.run_values m g, ?_⟩
  refine (θ_run Cert.ReferenceIdeal.defs _ _).mono (fun r h c => ?_) (Cert.ReferenceIdeal.Value.run_blocks m' g')
  obtain ⟨a0, a1, a2, a3, a4⟩ := agree c
  have x : Cert.ReferenceIdeal.Gen.V m' c Cert.ReferenceIdeal.main_v0 = Cert.KernelIdeal.Gen.V m c Cert.KernelIdeal.main_v0 := by
    rw [reference_rows, kernel_rows, a0]
  have xs : Cert.ReferenceIdeal.Gen.V m' c Cert.ReferenceIdeal.main_arg1 = Cert.KernelIdeal.Gen.V m c Cert.KernelIdeal.main_arg1 :=
    (Cert.ReferenceIdeal.Gen.V_main_arg1 m' c).trans (a1.trans (Cert.KernelIdeal.Gen.V_main_arg1 m c).symm)
  have w : Cert.ReferenceIdeal.Gen.V m' c Cert.ReferenceIdeal.main_arg2 = Cert.KernelIdeal.Gen.V m c Cert.KernelIdeal.main_arg2 :=
    (Cert.ReferenceIdeal.Gen.V_main_arg2 m' c).trans (a2.trans (Cert.KernelIdeal.Gen.V_main_arg2 m c).symm)
  have ws : ∀ e : Fin 256, (Cert.KernelIdeal.Gen.V m c Cert.KernelIdeal.main_v1 (ix2 0 e) : EReal) = Cert.ReferenceIdeal.Gen.V m' c Cert.ReferenceIdeal.main_arg3 (ix1 e) := fun e => by
    rw [kernel_scales, Cert.ReferenceIdeal.Gen.V_main_arg3, a3]
    exact scale_at _ e
  refine ⟨(h c).1.trans ?_, (h c).2.1.trans ?_, (h c).2.2⟩
  · rw [Cert.ReferenceIdeal.Hand.final4, x, xs, w]
    exact (Cert.Equation.zo_all _ _ _ _ _ ws).symm
  · rw [Cert.ReferenceIdeal.Hand.final5, x, xs, w]
    exact (Cert.Equation.lse_all _ _ _ _ _ ws).symm

end Cert.Proof

end
-- ==== Proof.lean ====
/-
  The certificate's claims: the frames of the three programs, that the idealized kernel is the printed one, and that it computes
  the reference's penalties and normalisers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Same
public import proofs.«01_k».proof.Proof.Algebraic

@[expose] public section

noncomputable section

namespace Cert.Proof

open Idealize.ShloMosaic

theorem claim : Cert.Claim := ⟨Cert.Kernel.Gen.facts, Cert.KernelIdeal.Gen.facts, Cert.ReferenceIdeal.Gen.facts,
  fun m g _ => frame_K Bits m g, fun m g _ => frame_I Ideal m g, fun m g _ => Cert.ReferenceIdeal.Gen.frame m g, trivial, algebraic⟩

end Cert.Proof

end
